-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_AInDx (m : (ℓ : Loc Cert.AInDx.nD Cert.AInDx.τ Cert.AInDx.sig) → Buf (Elt Bits) ℓ) : Prop :=
  True

def Pre_AInDxIdeal (m : (ℓ : Loc Cert.AInDxIdeal.nD Cert.AInDxIdeal.τ Cert.AInDxIdeal.sig) → Buf (Elt Ideal) ℓ) : Prop :=
  True

def Pre_AInDxRefIdeal (m : (ℓ : Loc Cert.AInDxRefIdeal.nD Cert.AInDxRefIdeal.τ Cert.AInDxRefIdeal.sig) → Buf (Elt Ideal) ℓ) : Prop :=
  True

def Pre_AInDw (m : (ℓ : Loc Cert.AInDw.nD Cert.AInDw.τ Cert.AInDw.sig) → Buf (Elt Bits) ℓ) : Prop :=
  True

def Pre_AInDwIdeal (m : (ℓ : Loc Cert.AInDwIdeal.nD Cert.AInDwIdeal.τ Cert.AInDwIdeal.sig) → Buf (Elt Ideal) ℓ) : Prop :=
  True

def Pre_AInDwRefIdeal (m : (ℓ : Loc Cert.AInDwRefIdeal.nD Cert.AInDwRefIdeal.τ Cert.AInDwRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_AOutDx (m : (ℓ : Loc Cert.AOutDx.nD Cert.AOutDx.τ Cert.AOutDx.sig) → Buf (Elt Bits) ℓ) : Prop :=
  True

def Pre_AOutDxIdeal (m : (ℓ : Loc Cert.AOutDxIdeal.nD Cert.AOutDxIdeal.τ Cert.AOutDxIdeal.sig) → Buf (Elt Ideal) ℓ) : Prop :=
  True

def Pre_AOutDxRefIdeal (m : (ℓ : Loc Cert.AOutDxRefIdeal.nD Cert.AOutDxRefIdeal.τ Cert.AOutDxRefIdeal.sig) → Buf (Elt Ideal) ℓ) : Prop :=
  True

def Pre_AOutDw (m : (ℓ : Loc Cert.AOutDw.nD Cert.AOutDw.τ Cert.AOutDw.sig) → Buf (Elt Bits) ℓ) : Prop :=
  True

def Pre_AOutDwIdeal (m : (ℓ : Loc Cert.AOutDwIdeal.nD Cert.AOutDwIdeal.τ Cert.AOutDwIdeal.sig) → Buf (Elt Ideal) ℓ) : Prop :=
  True

def Pre_AOutDwRefIdeal (m : (ℓ : Loc Cert.AOutDwRefIdeal.nD Cert.AOutDwRefIdeal.τ Cert.AOutDwRefIdeal.sig) → Buf (Elt Ideal) ℓ) : Prop :=
  True

def Pre_QgDw (m : (ℓ : Loc Cert.QgDw.nD Cert.QgDw.τ Cert.QgDw.sig) → Buf (Elt Bits) ℓ) : Prop :=
  True

def Pre_QgDwIdeal (m : (ℓ : Loc Cert.QgDwIdeal.nD Cert.QgDwIdeal.τ Cert.QgDwIdeal.sig) → Buf (Elt Ideal) ℓ) : Prop :=
  True

def Pre_QgDwRefIdeal (m : (ℓ : Loc Cert.QgDwRefIdeal.nD Cert.QgDwRefIdeal.τ Cert.QgDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_AdamRows0 (m : (ℓ : Loc Cert.AdamRows0.nD Cert.AdamRows0.τ Cert.AdamRows0.sig) → Buf (Elt Bits) ℓ) : Prop :=
  True

def Pre_AdamRows0Ideal (m : (ℓ : Loc Cert.AdamRows0Ideal.nD Cert.AdamRows0Ideal.τ Cert.AdamRows0Ideal.sig) → Buf (Elt Ideal) ℓ) : Prop :=
  True

def Pre_AdamRows0RefIdeal (m : (ℓ : Loc Cert.AdamRows0RefIdeal.nD Cert.AdamRows0RefIdeal.τ Cert.AdamRows0RefIdeal.sig) → Buf (Elt Ideal) ℓ) : Prop :=
  True

def Pre_AdamRows1 (m : (ℓ : Loc Cert.AdamRows1.nD Cert.AdamRows1.τ Cert.AdamRows1.sig) → Buf (Elt Bits) ℓ) : Prop :=
  True

def Pre_AdamRows1Ideal (m : (ℓ : Loc Cert.AdamRows1Ideal.nD Cert.AdamRows1Ideal.τ Cert.AdamRows1Ideal.sig) → Buf (Elt Ideal) ℓ) : Prop :=
  True

def Pre_AdamRows1RefIdeal (m : (ℓ : Loc Cert.AdamRows1RefIdeal.nD Cert.AdamRows1RefIdeal.τ Cert.AdamRows1RefIdeal.sig) → Buf (Elt Ideal) ℓ) : Prop :=
  True

def Pre_AdamCols0 (m : (ℓ : Loc Cert.AdamCols0.nD Cert.AdamCols0.τ Cert.AdamCols0.sig) → Buf (Elt Bits) ℓ) : Prop :=
  True

def Pre_AdamCols0Ideal (m : (ℓ : Loc Cert.AdamCols0Ideal.nD Cert.AdamCols0Ideal.τ Cert.AdamCols0Ideal.sig) → Buf (Elt Ideal) ℓ) : Prop :=
  True

def Pre_AdamCols0RefIdeal (m : (ℓ : Loc Cert.AdamCols0RefIdeal.nD Cert.AdamCols0RefIdeal.τ Cert.AdamCols0RefIdeal.sig) → Buf (Elt Ideal) ℓ) : Prop :=
  True

def Pre_AdamCols1 (m : (ℓ : Loc Cert.AdamCols1.nD Cert.AdamCols1.τ Cert.AdamCols1.sig) → Buf (Elt Bits) ℓ) : Prop :=
  True

def Pre_AdamCols1Ideal (m : (ℓ : Loc Cert.AdamCols1Ideal.nD Cert.AdamCols1Ideal.τ Cert.AdamCols1Ideal.sig) → Buf (Elt Ideal) ℓ) : Prop :=
  True

def Pre_AdamCols1RefIdeal (m : (ℓ : Loc Cert.AdamCols1RefIdeal.nD Cert.AdamCols1RefIdeal.τ Cert.AdamCols1RefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_AInDx [hAInDx : Cert.AInDx.Facts] : Prop :=
  ∀ (m : (ℓ : Loc Cert.AInDx.nD Cert.AInDx.τ Cert.AInDx.sig) → Buf (Elt Bits) ℓ) (g : Dev Cert.AInDx.nD → PrngReg), Pre_AInDx m →
    θ_run (Cert.AInDx.defs (F := Bits)) (onTc (τ := Cert.AInDx.τ) (Cert.AInDx.main (F := Bits))) ⟨m, fun _ => 0, g⟩ (fun r => (∀ c : Dev Cert.AInDx.nD,
      r.2.mem ((c.tc : Thread Cert.AInDx.nD Cert.AInDx.τ).loc Cert.AInDx.main_arg0) = m ((c.tc : Thread Cert.AInDx.nD Cert.AInDx.τ).loc Cert.AInDx.main_arg0)
      ∧ r.2.mem ((c.tc : Thread Cert.AInDx.nD Cert.AInDx.τ).loc Cert.AInDx.main_arg1) = m ((c.tc : Thread Cert.AInDx.nD Cert.AInDx.τ).loc Cert.AInDx.main_arg1))
      ∧ r.2.sem = fun _ => 0)

def quiescent_AInDxIdeal [hAInDxIdeal : Cert.AInDxIdeal.Facts] : Prop :=
  ∀ (m : (ℓ : Loc Cert.AInDxIdeal.nD Cert.AInDxIdeal.τ Cert.AInDxIdeal.sig) → Buf (Elt Ideal) ℓ) (g : Dev Cert.AInDxIdeal.nD → PrngReg), Pre_AInDxIdeal m →
    θ_run (Cert.AInDxIdeal.defs (F := Ideal)) (onTc (τ := Cert.AInDxIdeal.τ) (Cert.AInDxIdeal.main (F := Ideal))) ⟨m, fun _ => 0, g⟩ (fun r => (∀ c : Dev Cert.AInDxIdeal.nD,
      r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
      ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ r.2.sem = fun _ => 0)

def quiescent_AInDxRefIdeal [hAInDxRefIdeal : Cert.AInDxRefIdeal.Facts] : Prop :=
  ∀ (m : (ℓ : Loc Cert.AInDxRefIdeal.nD Cert.AInDxRefIdeal.τ Cert.AInDxRefIdeal.sig) → Buf (Elt Ideal) ℓ) (g : Dev Cert.AInDxRefIdeal.nD → PrngReg), Pre_AInDxRefIdeal m →
    θ_run (Cert.AInDxRefIdeal.defs (F := Ideal)) (onTc (τ := Cert.AInDxRefIdeal.τ) (Cert.AInDxRefIdeal.main (F := Ideal))) ⟨m, fun _ => 0, g⟩ (fun r => (∀ c : Dev Cert.AInDxRefIdeal.nD,
      r.2.mem ((c.tc : Thread Cert.AInDxRefIdeal.nD Cert.AInDxRefIdeal.τ).loc Cert.AInDxRefIdeal.main_arg0) = m ((c.tc : Thread Cert.AInDxRefIdeal.nD Cert.AInDxRefIdeal.τ).loc Cert.AInDxRefIdeal.main_arg0)
      ∧ r.2.mem ((c.tc : Thread Cert.AInDxRefIdeal.nD Cert.AInDxRefIdeal.τ).loc Cert.AInDxRefIdeal.main_arg1) = m ((c.tc : Thread Cert.AInDxRefIdeal.nD Cert.AInDxRefIdeal.τ).loc Cert.AInDxRefIdeal.main_arg1))
      ∧ r.2.sem = fun _ => 0)

def quiescent_AInDw [hAInDw : Cert.AInDw.Facts] : Prop :=
  ∀ (m : (ℓ : Loc Cert.AInDw.nD Cert.AInDw.τ Cert.AInDw.sig) → Buf (Elt Bits) ℓ) (g : Dev Cert.AInDw.nD → PrngReg), Pre_AInDw m →
    θ_run (Cert.AInDw.defs (F := Bits)) (onTc (τ := Cert.AInDw.τ) (Cert.AInDw.main (F := Bits))) ⟨m, fun _ => 0, g⟩ (fun r => (∀ c : Dev Cert.AInDw.nD,
      r.2.mem ((c.tc : Thread Cert.AInDw.nD Cert.AInDw.τ).loc Cert.AInDw.main_arg0) = m ((c.tc : Thread Cert.AInDw.nD Cert.AInDw.τ).loc Cert.AInDw.main_arg0)
      ∧ r.2.mem ((c.tc : Thread Cert.AInDw.nD Cert.AInDw.τ).loc Cert.AInDw.main_arg1) = m ((c.tc : Thread Cert.AInDw.nD Cert.AInDw.τ).loc Cert.AInDw.main_arg1))
      ∧ r.2.sem = fun _ => 0)

def quiescent_AInDwIdeal [hAInDwIdeal : Cert.AInDwIdeal.Facts] : Prop :=
  ∀ (m : (ℓ : Loc Cert.AInDwIdeal.nD Cert.AInDwIdeal.τ Cert.AInDwIdeal.sig) → Buf (Elt Ideal) ℓ) (g : Dev Cert.AInDwIdeal.nD → PrngReg), Pre_AInDwIdeal m →
    θ_run (Cert.AInDwIdeal.defs (F := Ideal)) (onTc (τ := Cert.AInDwIdeal.τ) (Cert.AInDwIdeal.main (F := Ideal))) ⟨m, fun _ => 0, g⟩ (fun r => (∀ c : Dev Cert.AInDwIdeal.nD,
      r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
      ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ r.2.sem = fun _ => 0)

def quiescent_AInDwRefIdeal [hAInDwRefIdeal : Cert.AInDwRefIdeal.Facts] : Prop :=
  ∀ (m : (ℓ : Loc Cert.AInDwRefIdeal.nD Cert.AInDwRefIdeal.τ Cert.AInDwRefIdeal.sig) → Buf (Elt Ideal) ℓ) (g : Dev Cert.AInDwRefIdeal.nD → PrngReg), Pre_AInDwRefIdeal m →
    θ_run (Cert.AInDwRefIdeal.defs (F := Ideal)) (onTc (τ := Cert.AInDwRefIdeal.τ) (Cert.AInDwRefIdeal.main (F := Ideal))) ⟨m, fun _ => 0, g⟩ (fun r => (∀ c : Dev Cert.AInDwRefIdeal.nD,
      r.2.mem ((c.tc : Thread Cert.AInDwRefIdeal.nD Cert.AInDwRefIdeal.τ).loc Cert.AInDwRefIdeal.main_arg0) = m ((c.tc : Thread Cert.AInDwRefIdeal.nD Cert.AInDwRefIdeal.τ).loc Cert.AInDwRefIdeal.main_arg0)
      ∧ r.2.mem ((c.tc : Thread Cert.AInDwRefIdeal.nD Cert.AInDwRefIdeal.τ).loc Cert.AInDwRefIdeal.main_arg1) = m ((c.tc : Thread Cert.AInDwRefIdeal.nD Cert.AInDwRefIdeal.τ).loc Cert.AInDwRefIdeal.main_arg1))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2))
      ∧ r.2.sem = fun _ => 0)

def quiescent_AOutDx [hAOutDx : Cert.AOutDx.Facts] : Prop :=
  ∀ (m : (ℓ : Loc Cert.AOutDx.nD Cert.AOutDx.τ Cert.AOutDx.sig) → Buf (Elt Bits) ℓ) (g : Dev Cert.AOutDx.nD → PrngReg), Pre_AOutDx m →
    θ_run (Cert.AOutDx.defs (F := Bits)) (onTc (τ := Cert.AOutDx.τ) (Cert.AOutDx.main (F := Bits))) ⟨m, fun _ => 0, g⟩ (fun r => (∀ c : Dev Cert.AOutDx.nD,
      r.2.mem ((c.tc : Thread Cert.AOutDx.nD Cert.AOutDx.τ).loc Cert.AOutDx.main_arg0) = m ((c.tc : Thread Cert.AOutDx.nD Cert.AOutDx.τ).loc Cert.AOutDx.main_arg0)
      ∧ r.2.mem ((c.tc : Thread Cert.AOutDx.nD Cert.AOutDx.τ).loc Cert.AOutDx.main_arg1) = m ((c.tc : Thread Cert.AOutDx.nD Cert.AOutDx.τ).loc Cert.AOutDx.main_arg1))
      ∧ r.2.sem = fun _ => 0)

def quiescent_AOutDxIdeal [hAOutDxIdeal : Cert.AOutDxIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg), Pre_AOutDxIdeal m →
    θ_run (Cert.AOutDxIdeal.defs (F := Ideal)) (onTc (τ := Cert.AOutDxIdeal.τ) (Cert.AOutDxIdeal.main (F := Ideal))) ⟨m, fun _ => 0, g⟩ (fun r => (∀ c : Dev Cert.AOutDxIdeal.nD,
      r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
      ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ r.2.sem = fun _ => 0)

def quiescent_AOutDxRefIdeal [hAOutDxRefIdeal : Cert.AOutDxRefIdeal.Facts] : Prop :=
  ∀ (m : (ℓ : Loc Cert.AOutDxRefIdeal.nD Cert.AOutDxRefIdeal.τ Cert.AOutDxRefIdeal.sig) → Buf (Elt Ideal) ℓ) (g : Dev Cert.AOutDxRefIdeal.nD → PrngReg), Pre_AOutDxRefIdeal m →
    θ_run (Cert.AOutDxRefIdeal.defs (F := Ideal)) (onTc (τ := Cert.AOutDxRefIdeal.τ) (Cert.AOutDxRefIdeal.main (F := Ideal))) ⟨m, fun _ => 0, g⟩ (fun r => (∀ c : Dev Cert.AOutDxRefIdeal.nD,
      r.2.mem ((c.tc : Thread Cert.AOutDxRefIdeal.nD Cert.AOutDxRefIdeal.τ).loc Cert.AOutDxRefIdeal.main_arg0) = m ((c.tc : Thread Cert.AOutDxRefIdeal.nD Cert.AOutDxRefIdeal.τ).loc Cert.AOutDxRefIdeal.main_arg0)
      ∧ r.2.mem ((c.tc : Thread Cert.AOutDxRefIdeal.nD Cert.AOutDxRefIdeal.τ).loc Cert.AOutDxRefIdeal.main_arg1) = m ((c.tc : Thread Cert.AOutDxRefIdeal.nD Cert.AOutDxRefIdeal.τ).loc Cert.AOutDxRefIdeal.main_arg1))
      ∧ r.2.sem = fun _ => 0)

def quiescent_AOutDw [hAOutDw : Cert.AOutDw.Facts] : Prop :=
  ∀ (m : (ℓ : Loc Cert.AOutDw.nD Cert.AOutDw.τ Cert.AOutDw.sig) → Buf (Elt Bits) ℓ) (g : Dev Cert.AOutDw.nD → PrngReg), Pre_AOutDw m →
    θ_run (Cert.AOutDw.defs (F := Bits)) (onTc (τ := Cert.AOutDw.τ) (Cert.AOutDw.main (F := Bits))) ⟨m, fun _ => 0, g⟩ (fun r => (∀ c : Dev Cert.AOutDw.nD,
      r.2.mem ((c.tc : Thread Cert.AOutDw.nD Cert.AOutDw.τ).loc Cert.AOutDw.main_arg0) = m ((c.tc : Thread Cert.AOutDw.nD Cert.AOutDw.τ).loc Cert.AOutDw.main_arg0)
      ∧ r.2.mem ((c.tc : Thread Cert.AOutDw.nD Cert.AOutDw.τ).loc Cert.AOutDw.main_arg1) = m ((c.tc : Thread Cert.AOutDw.nD Cert.AOutDw.τ).loc Cert.AOutDw.main_arg1))
      ∧ r.2.sem = fun _ => 0)

def quiescent_AOutDwIdeal [hAOutDwIdeal : Cert.AOutDwIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg), Pre_AOutDwIdeal m →
    θ_run (Cert.AOutDwIdeal.defs (F := Ideal)) (onTc (τ := Cert.AOutDwIdeal.τ) (Cert.AOutDwIdeal.main (F := Ideal))) ⟨m, fun _ => 0, g⟩ (fun r => (∀ c : Dev Cert.AOutDwIdeal.nD,
      r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
      ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1))
      ∧ r.2.sem = fun _ => 0)

def quiescent_AOutDwRefIdeal [hAOutDwRefIdeal : Cert.AOutDwRefIdeal.Facts] : Prop :=
  ∀ (m : (ℓ : Loc Cert.AOutDwRefIdeal.nD Cert.AOutDwRefIdeal.τ Cert.AOutDwRefIdeal.sig) → Buf (Elt Ideal) ℓ) (g : Dev Cert.AOutDwRefIdeal.nD → PrngReg), Pre_AOutDwRefIdeal m →
    θ_run (Cert.AOutDwRefIdeal.defs (F := Ideal)) (onTc (τ := Cert.AOutDwRefIdeal.τ) (Cert.AOutDwRefIdeal.main (F := Ideal))) ⟨m, fun _ => 0, g⟩ (fun r => (∀ c : Dev Cert.AOutDwRefIdeal.nD,
      r.2.mem ((c.tc : Thread Cert.AOutDwRefIdeal.nD Cert.AOutDwRefIdeal.τ).loc Cert.AOutDwRefIdeal.main_arg0) = m ((c.tc : Thread Cert.AOutDwRefIdeal.nD Cert.AOutDwRefIdeal.τ).loc Cert.AOutDwRefIdeal.main_arg0)
      ∧ r.2.mem ((c.tc : Thread Cert.AOutDwRefIdeal.nD Cert.AOutDwRefIdeal.τ).loc Cert.AOutDwRefIdeal.main_arg1) = m ((c.tc : Thread Cert.AOutDwRefIdeal.nD Cert.AOutDwRefIdeal.τ).loc Cert.AOutDwRefIdeal.main_arg1))
      ∧ r.2.sem = fun _ => 0)

def quiescent_QgDw [hQgDw : Cert.QgDw.Facts] : Prop :=
  ∀ (m : (ℓ : Loc Cert.QgDw.nD Cert.QgDw.τ Cert.QgDw.sig) → Buf (Elt Bits) ℓ) (g : Dev Cert.QgDw.nD → PrngReg), Pre_QgDw m →
    θ_run (Cert.QgDw.defs (F := Bits)) (onTc (τ := Cert.QgDw.τ) (Cert.QgDw.main (F := Bits))) ⟨m, fun _ => 0, g⟩ (fun r => (∀ c : Dev Cert.QgDw.nD,
      r.2.mem ((c.tc : Thread Cert.QgDw.nD Cert.QgDw.τ).loc Cert.QgDw.main_arg0) = m ((c.tc : Thread Cert.QgDw.nD Cert.QgDw.τ).loc Cert.QgDw.main_arg0)
      ∧ r.2.mem ((c.tc : Thread Cert.QgDw.nD Cert.QgDw.τ).loc Cert.QgDw.main_arg1) = m ((c.tc : Thread Cert.QgDw.nD Cert.QgDw.τ).loc Cert.QgDw.main_arg1))
      ∧ r.2.sem = fun _ => 0)

def quiescent_QgDwIdeal [hQgDwIdeal : Cert.QgDwIdeal.Facts] : Prop :=
  ∀ (m : (ℓ : Loc Cert.QgDwIdeal.nD Cert.QgDwIdeal.τ Cert.QgDwIdeal.sig) → Buf (Elt Ideal) ℓ) (g : Dev Cert.QgDwIdeal.nD → PrngReg), Pre_QgDwIdeal m →
    θ_run (Cert.QgDwIdeal.defs (F := Ideal)) (onTc (τ := Cert.QgDwIdeal.τ) (Cert.QgDwIdeal.main (F := Ideal))) ⟨m, fun _ => 0, g⟩ (fun r => (∀ c : Dev Cert.QgDwIdeal.nD,
      r.2.mem ((c.tc : Thread Cert.QgDwIdeal.nD Cert.QgDwIdeal.τ).loc Cert.QgDwIdeal.main_arg0) = m ((c.tc : Thread Cert.QgDwIdeal.nD Cert.QgDwIdeal.τ).loc Cert.QgDwIdeal.main_arg0)
      ∧ r.2.mem ((c.tc : Thread Cert.QgDwIdeal.nD Cert.QgDwIdeal.τ).loc Cert.QgDwIdeal.main_arg1) = m ((c.tc : Thread Cert.QgDwIdeal.nD Cert.QgDwIdeal.τ).loc Cert.QgDwIdeal.main_arg1))
      ∧ r.2.sem = fun _ => 0)

def quiescent_QgDwRefIdeal [hQgDwRefIdeal : Cert.QgDwRefIdeal.Facts] : Prop :=
  ∀ (m : (ℓ : Loc Cert.QgDwRefIdeal.nD Cert.QgDwRefIdeal.τ Cert.QgDwRefIdeal.sig) → Buf (Elt Ideal) ℓ) (g : Dev Cert.QgDwRefIdeal.nD → PrngReg), Pre_QgDwRefIdeal m →
    θ_run (Cert.QgDwRefIdeal.defs (F := Ideal)) (onTc (τ := Cert.QgDwRefIdeal.τ) (Cert.QgDwRefIdeal.main (F := Ideal))) ⟨m, fun _ => 0, g⟩ (fun r => (∀ c : Dev Cert.QgDwRefIdeal.nD,
      r.2.mem ((c.tc : Thread Cert.QgDwRefIdeal.nD Cert.QgDwRefIdeal.τ).loc Cert.QgDwRefIdeal.main_arg0) = m ((c.tc : Thread Cert.QgDwRefIdeal.nD Cert.QgDwRefIdeal.τ).loc Cert.QgDwRefIdeal.main_arg0)
      ∧ r.2.mem ((c.tc : Thread Cert.QgDwRefIdeal.nD Cert.QgDwRefIdeal.τ).loc Cert.QgDwRefIdeal.main_arg1) = m ((c.tc : Thread Cert.QgDwRefIdeal.nD Cert.QgDwRefIdeal.τ).loc Cert.QgDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_AdamRows0 [hAdamRows0 : Cert.AdamRows0.Facts] : Prop :=
  ∀ (m : (ℓ : Loc Cert.AdamRows0.nD Cert.AdamRows0.τ Cert.AdamRows0.sig) → Buf (Elt Bits) ℓ) (g : Dev Cert.AdamRows0.nD → PrngReg), Pre_AdamRows0 m →
    θ_run (Cert.AdamRows0.defs (F := Bits)) (onTc (τ := Cert.AdamRows0.τ) (Cert.AdamRows0.main (F := Bits))) ⟨m, fun _ => 0, g⟩ (fun r => (∀ c : Dev Cert.AdamRows0.nD,
      r.2.mem ((c.tc : Thread Cert.AdamRows0.nD Cert.AdamRows0.τ).loc Cert.AdamRows0.main_arg0) = m ((c.tc : Thread Cert.AdamRows0.nD Cert.AdamRows0.τ).loc Cert.AdamRows0.main_arg0)
      ∧ r.2.mem ((c.tc : Thread Cert.AdamRows0.nD Cert.AdamRows0.τ).loc Cert.AdamRows0.main_arg1) = m ((c.tc : Thread Cert.AdamRows0.nD Cert.AdamRows0.τ).loc Cert.AdamRows0.main_arg1)
      ∧ r.2.mem ((c.tc : Thread Cert.AdamRows0.nD Cert.AdamRows0.τ).loc Cert.AdamRows0.main_arg2) = m ((c.tc : Thread Cert.AdamRows0.nD Cert.AdamRows0.τ).loc Cert.AdamRows0.main_arg2)
      ∧ r.2.mem ((c.tc : Thread Cert.AdamRows0.nD Cert.AdamRows0.τ).loc Cert.AdamRows0.main_arg3) = m ((c.tc : Thread Cert.AdamRows0.nD Cert.AdamRows0.τ).loc Cert.AdamRows0.main_arg3)
      ∧ r.2.mem ((c.tc : Thread Cert.AdamRows0.nD Cert.AdamRows0.τ).loc Cert.AdamRows0.main_arg4) = m ((c.tc : Thread Cert.AdamRows0.nD Cert.AdamRows0.τ).loc Cert.AdamRows0.main_arg4)
      ∧ r.2.mem ((c.tc : Thread Cert.AdamRows0.nD Cert.AdamRows0.τ).loc Cert.AdamRows0.main_arg5) = m ((c.tc : Thread Cert.AdamRows0.nD Cert.AdamRows0.τ).loc Cert.AdamRows0.main_arg5)
      ∧ r.2.mem ((c.tc : Thread Cert.AdamRows0.nD Cert.AdamRows0.τ).loc Cert.AdamRows0.main_arg6) = m ((c.tc : Thread Cert.AdamRows0.nD Cert.AdamRows0.τ).loc Cert.AdamRows0.main_arg6)
      ∧ r.2.mem ((c.tc : Thread Cert.AdamRows0.nD Cert.AdamRows0.τ).loc Cert.AdamRows0.main_arg7) = m ((c.tc : Thread Cert.AdamRows0.nD Cert.AdamRows0.τ).loc Cert.AdamRows0.main_arg7))
      ∧ r.2.sem = fun _ => 0)

def quiescent_AdamRows0Ideal [hAdamRows0Ideal : Cert.AdamRows0Ideal.Facts] : Prop :=
  ∀ (m : (ℓ : Loc Cert.AdamRows0Ideal.nD Cert.AdamRows0Ideal.τ Cert.AdamRows0Ideal.sig) → Buf (Elt Ideal) ℓ) (g : Dev Cert.AdamRows0Ideal.nD → PrngReg), Pre_AdamRows0Ideal m →
    θ_run (Cert.AdamRows0Ideal.defs (F := Ideal)) (onTc (τ := Cert.AdamRows0Ideal.τ) (Cert.AdamRows0Ideal.main (F := Ideal))) ⟨m, fun _ => 0, g⟩ (fun r => (∀ c : Dev Cert.AdamRows0Ideal.nD,
      r.2.mem ((c.tc : Thread Cert.AdamRows0Ideal.nD Cert.AdamRows0Ideal.τ).loc Cert.AdamRows0Ideal.main_arg0) = m ((c.tc : Thread Cert.AdamRows0Ideal.nD Cert.AdamRows0Ideal.τ).loc Cert.AdamRows0Ideal.main_arg0)
      ∧ r.2.mem ((c.tc : Thread Cert.AdamRows0Ideal.nD Cert.AdamRows0Ideal.τ).loc Cert.AdamRows0Ideal.main_arg1) = m ((c.tc : Thread Cert.AdamRows0Ideal.nD Cert.AdamRows0Ideal.τ).loc Cert.AdamRows0Ideal.main_arg1)
      ∧ r.2.mem ((c.tc : Thread Cert.AdamRows0Ideal.nD Cert.AdamRows0Ideal.τ).loc Cert.AdamRows0Ideal.main_arg2) = m ((c.tc : Thread Cert.AdamRows0Ideal.nD Cert.AdamRows0Ideal.τ).loc Cert.AdamRows0Ideal.main_arg2)
      ∧ r.2.mem ((c.tc : Thread Cert.AdamRows0Ideal.nD Cert.AdamRows0Ideal.τ).loc Cert.AdamRows0Ideal.main_arg3) = m ((c.tc : Thread Cert.AdamRows0Ideal.nD Cert.AdamRows0Ideal.τ).loc Cert.AdamRows0Ideal.main_arg3)
      ∧ r.2.mem ((c.tc : Thread Cert.AdamRows0Ideal.nD Cert.AdamRows0Ideal.τ).loc Cert.AdamRows0Ideal.main_arg4) = m ((c.tc : Thread Cert.AdamRows0Ideal.nD Cert.AdamRows0Ideal.τ).loc Cert.AdamRows0Ideal.main_arg4)
      ∧ r.2.mem ((c.tc : Thread Cert.AdamRows0Ideal.nD Cert.AdamRows0Ideal.τ).loc Cert.AdamRows0Ideal.main_arg5) = m ((c.tc : Thread Cert.AdamRows0Ideal.nD Cert.AdamRows0Ideal.τ).loc Cert.AdamRows0Ideal.main_arg5)
      ∧ r.2.mem ((c.tc : Thread Cert.AdamRows0Ideal.nD Cert.AdamRows0Ideal.τ).loc Cert.AdamRows0Ideal.main_arg6) = m ((c.tc : Thread Cert.AdamRows0Ideal.nD Cert.AdamRows0Ideal.τ).loc Cert.AdamRows0Ideal.main_arg6)
      ∧ r.2.mem ((c.tc : Thread Cert.AdamRows0Ideal.nD Cert.AdamRows0Ideal.τ).loc Cert.AdamRows0Ideal.main_arg7) = m ((c.tc : Thread Cert.AdamRows0Ideal.nD Cert.AdamRows0Ideal.τ).loc Cert.AdamRows0Ideal.main_arg7))
      ∧ r.2.sem = fun _ => 0)

def quiescent_AdamRows0RefIdeal [hAdamRows0RefIdeal : Cert.AdamRows0RefIdeal.Facts] : Prop :=
  ∀ (m : (ℓ : Loc Cert.AdamRows0RefIdeal.nD Cert.AdamRows0RefIdeal.τ Cert.AdamRows0RefIdeal.sig) → Buf (Elt Ideal) ℓ) (g : Dev Cert.AdamRows0RefIdeal.nD → PrngReg), Pre_AdamRows0RefIdeal m →
    θ_run (Cert.AdamRows0RefIdeal.defs (F := Ideal)) (onTc (τ := Cert.AdamRows0RefIdeal.τ) (Cert.AdamRows0RefIdeal.main (F := Ideal))) ⟨m, fun _ => 0, g⟩ (fun r => (∀ c : Dev Cert.AdamRows0RefIdeal.nD,
      r.2.mem ((c.tc : Thread Cert.AdamRows0RefIdeal.nD Cert.AdamRows0RefIdeal.τ).loc Cert.AdamRows0RefIdeal.main_arg0) = m ((c.tc : Thread Cert.AdamRows0RefIdeal.nD Cert.AdamRows0RefIdeal.τ).loc Cert.AdamRows0RefIdeal.main_arg0)
      ∧ r.2.mem ((c.tc : Thread Cert.AdamRows0RefIdeal.nD Cert.AdamRows0RefIdeal.τ).loc Cert.AdamRows0RefIdeal.main_arg1) = m ((c.tc : Thread Cert.AdamRows0RefIdeal.nD Cert.AdamRows0RefIdeal.τ).loc Cert.AdamRows0RefIdeal.main_arg1)
      ∧ r.2.mem ((c.tc : Thread Cert.AdamRows0RefIdeal.nD Cert.AdamRows0RefIdeal.τ).loc Cert.AdamRows0RefIdeal.main_arg2) = m ((c.tc : Thread Cert.AdamRows0RefIdeal.nD Cert.AdamRows0RefIdeal.τ).loc Cert.AdamRows0RefIdeal.main_arg2)
      ∧ r.2.mem ((c.tc : Thread Cert.AdamRows0RefIdeal.nD Cert.AdamRows0RefIdeal.τ).loc Cert.AdamRows0RefIdeal.main_arg3) = m ((c.tc : Thread Cert.AdamRows0RefIdeal.nD Cert.AdamRows0RefIdeal.τ).loc Cert.AdamRows0RefIdeal.main_arg3)
      ∧ r.2.mem ((c.tc : Thread Cert.AdamRows0RefIdeal.nD Cert.AdamRows0RefIdeal.τ).loc Cert.AdamRows0RefIdeal.main_arg4) = m ((c.tc : Thread Cert.AdamRows0RefIdeal.nD Cert.AdamRows0RefIdeal.τ).loc Cert.AdamRows0RefIdeal.main_arg4)
      ∧ r.2.mem ((c.tc : Thread Cert.AdamRows0RefIdeal.nD Cert.AdamRows0RefIdeal.τ).loc Cert.AdamRows0RefIdeal.main_arg5) = m ((c.tc : Thread Cert.AdamRows0RefIdeal.nD Cert.AdamRows0RefIdeal.τ).loc Cert.AdamRows0RefIdeal.main_arg5)
      ∧ r.2.mem ((c.tc : Thread Cert.AdamRows0RefIdeal.nD Cert.AdamRows0RefIdeal.τ).loc Cert.AdamRows0RefIdeal.main_arg6) = m ((c.tc : Thread Cert.AdamRows0RefIdeal.nD Cert.AdamRows0RefIdeal.τ).loc Cert.AdamRows0RefIdeal.main_arg6)
      ∧ r.2.mem ((c.tc : Thread Cert.AdamRows0RefIdeal.nD Cert.AdamRows0RefIdeal.τ).loc Cert.AdamRows0RefIdeal.main_arg7) = m ((c.tc : Thread Cert.AdamRows0RefIdeal.nD Cert.AdamRows0RefIdeal.τ).loc Cert.AdamRows0RefIdeal.main_arg7))
      ∧ r.2.sem = fun _ => 0)

def quiescent_AdamRows1 [hAdamRows1 : Cert.AdamRows1.Facts] : Prop :=
  ∀ (m : (ℓ : Loc Cert.AdamRows1.nD Cert.AdamRows1.τ Cert.AdamRows1.sig) → Buf (Elt Bits) ℓ) (g : Dev Cert.AdamRows1.nD → PrngReg), Pre_AdamRows1 m →
    θ_run (Cert.AdamRows1.defs (F := Bits)) (onTc (τ := Cert.AdamRows1.τ) (Cert.AdamRows1.main (F := Bits))) ⟨m, fun _ => 0, g⟩ (fun r => (∀ c : Dev Cert.AdamRows1.nD,
      r.2.mem ((c.tc : Thread Cert.AdamRows1.nD Cert.AdamRows1.τ).loc Cert.AdamRows1.main_arg0) = m ((c.tc : Thread Cert.AdamRows1.nD Cert.AdamRows1.τ).loc Cert.AdamRows1.main_arg0)
      ∧ r.2.mem ((c.tc : Thread Cert.AdamRows1.nD Cert.AdamRows1.τ).loc Cert.AdamRows1.main_arg1) = m ((c.tc : Thread Cert.AdamRows1.nD Cert.AdamRows1.τ).loc Cert.AdamRows1.main_arg1)
      ∧ r.2.mem ((c.tc : Thread Cert.AdamRows1.nD Cert.AdamRows1.τ).loc Cert.AdamRows1.main_arg2) = m ((c.tc : Thread Cert.AdamRows1.nD Cert.AdamRows1.τ).loc Cert.AdamRows1.main_arg2)
      ∧ r.2.mem ((c.tc : Thread Cert.AdamRows1.nD Cert.AdamRows1.τ).loc Cert.AdamRows1.main_arg3) = m ((c.tc : Thread Cert.AdamRows1.nD Cert.AdamRows1.τ).loc Cert.AdamRows1.main_arg3)
      ∧ r.2.mem ((c.tc : Thread Cert.AdamRows1.nD Cert.AdamRows1.τ).loc Cert.AdamRows1.main_arg4) = m ((c.tc : Thread Cert.AdamRows1.nD Cert.AdamRows1.τ).loc Cert.AdamRows1.main_arg4)
      ∧ r.2.mem ((c.tc : Thread Cert.AdamRows1.nD Cert.AdamRows1.τ).loc Cert.AdamRows1.main_arg5) = m ((c.tc : Thread Cert.AdamRows1.nD Cert.AdamRows1.τ).loc Cert.AdamRows1.main_arg5)
      ∧ r.2.mem ((c.tc : Thread Cert.AdamRows1.nD Cert.AdamRows1.τ).loc Cert.AdamRows1.main_arg6) = m ((c.tc : Thread Cert.AdamRows1.nD Cert.AdamRows1.τ).loc Cert.AdamRows1.main_arg6)
      ∧ r.2.mem ((c.tc : Thread Cert.AdamRows1.nD Cert.AdamRows1.τ).loc Cert.AdamRows1.main_arg7) = m ((c.tc : Thread Cert.AdamRows1.nD Cert.AdamRows1.τ).loc Cert.AdamRows1.main_arg7))
      ∧ r.2.sem = fun _ => 0)

def quiescent_AdamRows1Ideal [hAdamRows1Ideal : Cert.AdamRows1Ideal.Facts] : Prop :=
  ∀ (m : (ℓ : Loc Cert.AdamRows1Ideal.nD Cert.AdamRows1Ideal.τ Cert.AdamRows1Ideal.sig) → Buf (Elt Ideal) ℓ) (g : Dev Cert.AdamRows1Ideal.nD → PrngReg), Pre_AdamRows1Ideal m →
    θ_run (Cert.AdamRows1Ideal.defs (F := Ideal)) (onTc (τ := Cert.AdamRows1Ideal.τ) (Cert.AdamRows1Ideal.main (F := Ideal))) ⟨m, fun _ => 0, g⟩ (fun r => (∀ c : Dev Cert.AdamRows1Ideal.nD,
      r.2.mem ((c.tc : Thread Cert.AdamRows1Ideal.nD Cert.AdamRows1Ideal.τ).loc Cert.AdamRows1Ideal.main_arg0) = m ((c.tc : Thread Cert.AdamRows1Ideal.nD Cert.AdamRows1Ideal.τ).loc Cert.AdamRows1Ideal.main_arg0)
      ∧ r.2.mem ((c.tc : Thread Cert.AdamRows1Ideal.nD Cert.AdamRows1Ideal.τ).loc Cert.AdamRows1Ideal.main_arg1) = m ((c.tc : Thread Cert.AdamRows1Ideal.nD Cert.AdamRows1Ideal.τ).loc Cert.AdamRows1Ideal.main_arg1)
      ∧ r.2.mem ((c.tc : Thread Cert.AdamRows1Ideal.nD Cert.AdamRows1Ideal.τ).loc Cert.AdamRows1Ideal.main_arg2) = m ((c.tc : Thread Cert.AdamRows1Ideal.nD Cert.AdamRows1Ideal.τ).loc Cert.AdamRows1Ideal.main_arg2)
      ∧ r.2.mem ((c.tc : Thread Cert.AdamRows1Ideal.nD Cert.AdamRows1Ideal.τ).loc Cert.AdamRows1Ideal.main_arg3) = m ((c.tc : Thread Cert.AdamRows1Ideal.nD Cert.AdamRows1Ideal.τ).loc Cert.AdamRows1Ideal.main_arg3)
      ∧ r.2.mem ((c.tc : Thread Cert.AdamRows1Ideal.nD Cert.AdamRows1Ideal.τ).loc Cert.AdamRows1Ideal.main_arg4) = m ((c.tc : Thread Cert.AdamRows1Ideal.nD Cert.AdamRows1Ideal.τ).loc Cert.AdamRows1Ideal.main_arg4)
      ∧ r.2.mem ((c.tc : Thread Cert.AdamRows1Ideal.nD Cert.AdamRows1Ideal.τ).loc Cert.AdamRows1Ideal.main_arg5) = m ((c.tc : Thread Cert.AdamRows1Ideal.nD Cert.AdamRows1Ideal.τ).loc Cert.AdamRows1Ideal.main_arg5)
      ∧ r.2.mem ((c.tc : Thread Cert.AdamRows1Ideal.nD Cert.AdamRows1Ideal.τ).loc Cert.AdamRows1Ideal.main_arg6) = m ((c.tc : Thread Cert.AdamRows1Ideal.nD Cert.AdamRows1Ideal.τ).loc Cert.AdamRows1Ideal.main_arg6)
      ∧ r.2.mem ((c.tc : Thread Cert.AdamRows1Ideal.nD Cert.AdamRows1Ideal.τ).loc Cert.AdamRows1Ideal.main_arg7) = m ((c.tc : Thread Cert.AdamRows1Ideal.nD Cert.AdamRows1Ideal.τ).loc Cert.AdamRows1Ideal.main_arg7))
      ∧ r.2.sem = fun _ => 0)

def quiescent_AdamRows1RefIdeal [hAdamRows1RefIdeal : Cert.AdamRows1RefIdeal.Facts] : Prop :=
  ∀ (m : (ℓ : Loc Cert.AdamRows1RefIdeal.nD Cert.AdamRows1RefIdeal.τ Cert.AdamRows1RefIdeal.sig) → Buf (Elt Ideal) ℓ) (g : Dev Cert.AdamRows1RefIdeal.nD → PrngReg), Pre_AdamRows1RefIdeal m →
    θ_run (Cert.AdamRows1RefIdeal.defs (F := Ideal)) (onTc (τ := Cert.AdamRows1RefIdeal.τ) (Cert.AdamRows1RefIdeal.main (F := Ideal))) ⟨m, fun _ => 0, g⟩ (fun r => (∀ c : Dev Cert.AdamRows1RefIdeal.nD,
      r.2.mem ((c.tc : Thread Cert.AdamRows1RefIdeal.nD Cert.AdamRows1RefIdeal.τ).loc Cert.AdamRows1RefIdeal.main_arg0) = m ((c.tc : Thread Cert.AdamRows1RefIdeal.nD Cert.AdamRows1RefIdeal.τ).loc Cert.AdamRows1RefIdeal.main_arg0)
      ∧ r.2.mem ((c.tc : Thread Cert.AdamRows1RefIdeal.nD Cert.AdamRows1RefIdeal.τ).loc Cert.AdamRows1RefIdeal.main_arg1) = m ((c.tc : Thread Cert.AdamRows1RefIdeal.nD Cert.AdamRows1RefIdeal.τ).loc Cert.AdamRows1RefIdeal.main_arg1)
      ∧ r.2.mem ((c.tc : Thread Cert.AdamRows1RefIdeal.nD Cert.AdamRows1RefIdeal.τ).loc Cert.AdamRows1RefIdeal.main_arg2) = m ((c.tc : Thread Cert.AdamRows1RefIdeal.nD Cert.AdamRows1RefIdeal.τ).loc Cert.AdamRows1RefIdeal.main_arg2)
      ∧ r.2.mem ((c.tc : Thread Cert.AdamRows1RefIdeal.nD Cert.AdamRows1RefIdeal.τ).loc Cert.AdamRows1RefIdeal.main_arg3) = m ((c.tc : Thread Cert.AdamRows1RefIdeal.nD Cert.AdamRows1RefIdeal.τ).loc Cert.AdamRows1RefIdeal.main_arg3)
      ∧ r.2.mem ((c.tc : Thread Cert.AdamRows1RefIdeal.nD Cert.AdamRows1RefIdeal.τ).loc Cert.AdamRows1RefIdeal.main_arg4) = m ((c.tc : Thread Cert.AdamRows1RefIdeal.nD Cert.AdamRows1RefIdeal.τ).loc Cert.AdamRows1RefIdeal.main_arg4)
      ∧ r.2.mem ((c.tc : Thread Cert.AdamRows1RefIdeal.nD Cert.AdamRows1RefIdeal.τ).loc Cert.AdamRows1RefIdeal.main_arg5) = m ((c.tc : Thread Cert.AdamRows1RefIdeal.nD Cert.AdamRows1RefIdeal.τ).loc Cert.AdamRows1RefIdeal.main_arg5)
      ∧ r.2.mem ((c.tc : Thread Cert.AdamRows1RefIdeal.nD Cert.AdamRows1RefIdeal.τ).loc Cert.AdamRows1RefIdeal.main_arg6) = m ((c.tc : Thread Cert.AdamRows1RefIdeal.nD Cert.AdamRows1RefIdeal.τ).loc Cert.AdamRows1RefIdeal.main_arg6)
      ∧ r.2.mem ((c.tc : Thread Cert.AdamRows1RefIdeal.nD Cert.AdamRows1RefIdeal.τ).loc Cert.AdamRows1RefIdeal.main_arg7) = m ((c.tc : Thread Cert.AdamRows1RefIdeal.nD Cert.AdamRows1RefIdeal.τ).loc Cert.AdamRows1RefIdeal.main_arg7))
      ∧ r.2.sem = fun _ => 0)

def quiescent_AdamCols0 [hAdamCols0 : Cert.AdamCols0.Facts] : Prop :=
  ∀ (m : (ℓ : Loc Cert.AdamCols0.nD Cert.AdamCols0.τ Cert.AdamCols0.sig) → Buf (Elt Bits) ℓ) (g : Dev Cert.AdamCols0.nD → PrngReg), Pre_AdamCols0 m →
    θ_run (Cert.AdamCols0.defs (F := Bits)) (onTc (τ := Cert.AdamCols0.τ) (Cert.AdamCols0.main (F := Bits))) ⟨m, fun _ => 0, g⟩ (fun r => (∀ c : Dev Cert.AdamCols0.nD,
      r.2.mem ((c.tc : Thread Cert.AdamCols0.nD Cert.AdamCols0.τ).loc Cert.AdamCols0.main_arg0) = m ((c.tc : Thread Cert.AdamCols0.nD Cert.AdamCols0.τ).loc Cert.AdamCols0.main_arg0)
      ∧ r.2.mem ((c.tc : Thread Cert.AdamCols0.nD Cert.AdamCols0.τ).loc Cert.AdamCols0.main_arg1) = m ((c.tc : Thread Cert.AdamCols0.nD Cert.AdamCols0.τ).loc Cert.AdamCols0.main_arg1)
      ∧ r.2.mem ((c.tc : Thread Cert.AdamCols0.nD Cert.AdamCols0.τ).loc Cert.AdamCols0.main_arg2) = m ((c.tc : Thread Cert.AdamCols0.nD Cert.AdamCols0.τ).loc Cert.AdamCols0.main_arg2)
      ∧ r.2.mem ((c.tc : Thread Cert.AdamCols0.nD Cert.AdamCols0.τ).loc Cert.AdamCols0.main_arg3) = m ((c.tc : Thread Cert.AdamCols0.nD Cert.AdamCols0.τ).loc Cert.AdamCols0.main_arg3)
      ∧ r.2.mem ((c.tc : Thread Cert.AdamCols0.nD Cert.AdamCols0.τ).loc Cert.AdamCols0.main_arg4) = m ((c.tc : Thread Cert.AdamCols0.nD Cert.AdamCols0.τ).loc Cert.AdamCols0.main_arg4)
      ∧ r.2.mem ((c.tc : Thread Cert.AdamCols0.nD Cert.AdamCols0.τ).loc Cert.AdamCols0.main_arg5) = m ((c.tc : Thread Cert.AdamCols0.nD Cert.AdamCols0.τ).loc Cert.AdamCols0.main_arg5)
      ∧ r.2.mem ((c.tc : Thread Cert.AdamCols0.nD Cert.AdamCols0.τ).loc Cert.AdamCols0.main_arg6) = m ((c.tc : Thread Cert.AdamCols0.nD Cert.AdamCols0.τ).loc Cert.AdamCols0.main_arg6)
      ∧ r.2.mem ((c.tc : Thread Cert.AdamCols0.nD Cert.AdamCols0.τ).loc Cert.AdamCols0.main_arg7) = m ((c.tc : Thread Cert.AdamCols0.nD Cert.AdamCols0.τ).loc Cert.AdamCols0.main_arg7))
      ∧ r.2.sem = fun _ => 0)

def quiescent_AdamCols0Ideal [hAdamCols0Ideal : Cert.AdamCols0Ideal.Facts] : Prop :=
  ∀ (m : (ℓ : Loc Cert.AdamCols0Ideal.nD Cert.AdamCols0Ideal.τ Cert.AdamCols0Ideal.sig) → Buf (Elt Ideal) ℓ) (g : Dev Cert.AdamCols0Ideal.nD → PrngReg), Pre_AdamCols0Ideal m →
    θ_run (Cert.AdamCols0Ideal.defs (F := Ideal)) (onTc (τ := Cert.AdamCols0Ideal.τ) (Cert.AdamCols0Ideal.main (F := Ideal))) ⟨m, fun _ => 0, g⟩ (fun r => (∀ c : Dev Cert.AdamCols0Ideal.nD,
      r.2.mem ((c.tc : Thread Cert.AdamCols0Ideal.nD Cert.AdamCols0Ideal.τ).loc Cert.AdamCols0Ideal.main_arg0) = m ((c.tc : Thread Cert.AdamCols0Ideal.nD Cert.AdamCols0Ideal.τ).loc Cert.AdamCols0Ideal.main_arg0)
      ∧ r.2.mem ((c.tc : Thread Cert.AdamCols0Ideal.nD Cert.AdamCols0Ideal.τ).loc Cert.AdamCols0Ideal.main_arg1) = m ((c.tc : Thread Cert.AdamCols0Ideal.nD Cert.AdamCols0Ideal.τ).loc Cert.AdamCols0Ideal.main_arg1)
      ∧ r.2.mem ((c.tc : Thread Cert.AdamCols0Ideal.nD Cert.AdamCols0Ideal.τ).loc Cert.AdamCols0Ideal.main_arg2) = m ((c.tc : Thread Cert.AdamCols0Ideal.nD Cert.AdamCols0Ideal.τ).loc Cert.AdamCols0Ideal.main_arg2)
      ∧ r.2.mem ((c.tc : Thread Cert.AdamCols0Ideal.nD Cert.AdamCols0Ideal.τ).loc Cert.AdamCols0Ideal.main_arg3) = m ((c.tc : Thread Cert.AdamCols0Ideal.nD Cert.AdamCols0Ideal.τ).loc Cert.AdamCols0Ideal.main_arg3)
      ∧ r.2.mem ((c.tc : Thread Cert.AdamCols0Ideal.nD Cert.AdamCols0Ideal.τ).loc Cert.AdamCols0Ideal.main_arg4) = m ((c.tc : Thread Cert.AdamCols0Ideal.nD Cert.AdamCols0Ideal.τ).loc Cert.AdamCols0Ideal.main_arg4)
      ∧ r.2.mem ((c.tc : Thread Cert.AdamCols0Ideal.nD Cert.AdamCols0Ideal.τ).loc Cert.AdamCols0Ideal.main_arg5) = m ((c.tc : Thread Cert.AdamCols0Ideal.nD Cert.AdamCols0Ideal.τ).loc Cert.AdamCols0Ideal.main_arg5)
      ∧ r.2.mem ((c.tc : Thread Cert.AdamCols0Ideal.nD Cert.AdamCols0Ideal.τ).loc Cert.AdamCols0Ideal.main_arg6) = m ((c.tc : Thread Cert.AdamCols0Ideal.nD Cert.AdamCols0Ideal.τ).loc Cert.AdamCols0Ideal.main_arg6)
      ∧ r.2.mem ((c.tc : Thread Cert.AdamCols0Ideal.nD Cert.AdamCols0Ideal.τ).loc Cert.AdamCols0Ideal.main_arg7) = m ((c.tc : Thread Cert.AdamCols0Ideal.nD Cert.AdamCols0Ideal.τ).loc Cert.AdamCols0Ideal.main_arg7))
      ∧ r.2.sem = fun _ => 0)

def quiescent_AdamCols0RefIdeal [hAdamCols0RefIdeal : Cert.AdamCols0RefIdeal.Facts] : Prop :=
  ∀ (m : (ℓ : Loc Cert.AdamCols0RefIdeal.nD Cert.AdamCols0RefIdeal.τ Cert.AdamCols0RefIdeal.sig) → Buf (Elt Ideal) ℓ) (g : Dev Cert.AdamCols0RefIdeal.nD → PrngReg), Pre_AdamCols0RefIdeal m →
    θ_run (Cert.AdamCols0RefIdeal.defs (F := Ideal)) (onTc (τ := Cert.AdamCols0RefIdeal.τ) (Cert.AdamCols0RefIdeal.main (F := Ideal))) ⟨m, fun _ => 0, g⟩ (fun r => (∀ c : Dev Cert.AdamCols0RefIdeal.nD,
      r.2.mem ((c.tc : Thread Cert.AdamCols0RefIdeal.nD Cert.AdamCols0RefIdeal.τ).loc Cert.AdamCols0RefIdeal.main_arg0) = m ((c.tc : Thread Cert.AdamCols0RefIdeal.nD Cert.AdamCols0RefIdeal.τ).loc Cert.AdamCols0RefIdeal.main_arg0)
      ∧ r.2.mem ((c.tc : Thread Cert.AdamCols0RefIdeal.nD Cert.AdamCols0RefIdeal.τ).loc Cert.AdamCols0RefIdeal.main_arg1) = m ((c.tc : Thread Cert.AdamCols0RefIdeal.nD Cert.AdamCols0RefIdeal.τ).loc Cert.AdamCols0RefIdeal.main_arg1)
      ∧ r.2.mem ((c.tc : Thread Cert.AdamCols0RefIdeal.nD Cert.AdamCols0RefIdeal.τ).loc Cert.AdamCols0RefIdeal.main_arg2) = m ((c.tc : Thread Cert.AdamCols0RefIdeal.nD Cert.AdamCols0RefIdeal.τ).loc Cert.AdamCols0RefIdeal.main_arg2)
      ∧ r.2.mem ((c.tc : Thread Cert.AdamCols0RefIdeal.nD Cert.AdamCols0RefIdeal.τ).loc Cert.AdamCols0RefIdeal.main_arg3) = m ((c.tc : Thread Cert.AdamCols0RefIdeal.nD Cert.AdamCols0RefIdeal.τ).loc Cert.AdamCols0RefIdeal.main_arg3)
      ∧ r.2.mem ((c.tc : Thread Cert.AdamCols0RefIdeal.nD Cert.AdamCols0RefIdeal.τ).loc Cert.AdamCols0RefIdeal.main_arg4) = m ((c.tc : Thread Cert.AdamCols0RefIdeal.nD Cert.AdamCols0RefIdeal.τ).loc Cert.AdamCols0RefIdeal.main_arg4)
      ∧ r.2.mem ((c.tc : Thread Cert.AdamCols0RefIdeal.nD Cert.AdamCols0RefIdeal.τ).loc Cert.AdamCols0RefIdeal.main_arg5) = m ((c.tc : Thread Cert.AdamCols0RefIdeal.nD Cert.AdamCols0RefIdeal.τ).loc Cert.AdamCols0RefIdeal.main_arg5)
      ∧ r.2.mem ((c.tc : Thread Cert.AdamCols0RefIdeal.nD Cert.AdamCols0RefIdeal.τ).loc Cert.AdamCols0RefIdeal.main_arg6) = m ((c.tc : Thread Cert.AdamCols0RefIdeal.nD Cert.AdamCols0RefIdeal.τ).loc Cert.AdamCols0RefIdeal.main_arg6)
      ∧ r.2.mem ((c.tc : Thread Cert.AdamCols0RefIdeal.nD Cert.AdamCols0RefIdeal.τ).loc Cert.AdamCols0RefIdeal.main_arg7) = m ((c.tc : Thread Cert.AdamCols0RefIdeal.nD Cert.AdamCols0RefIdeal.τ).loc Cert.AdamCols0RefIdeal.main_arg7))
      ∧ r.2.sem = fun _ => 0)

def quiescent_AdamCols1 [hAdamCols1 : Cert.AdamCols1.Facts] : Prop :=
  ∀ (m : (ℓ : Loc Cert.AdamCols1.nD Cert.AdamCols1.τ Cert.AdamCols1.sig) → Buf (Elt Bits) ℓ) (g : Dev Cert.AdamCols1.nD → PrngReg), Pre_AdamCols1 m →
    θ_run (Cert.AdamCols1.defs (F := Bits)) (onTc (τ := Cert.AdamCols1.τ) (Cert.AdamCols1.main (F := Bits))) ⟨m, fun _ => 0, g⟩ (fun r => (∀ c : Dev Cert.AdamCols1.nD,
      r.2.mem ((c.tc : Thread Cert.AdamCols1.nD Cert.AdamCols1.τ).loc Cert.AdamCols1.main_arg0) = m ((c.tc : Thread Cert.AdamCols1.nD Cert.AdamCols1.τ).loc Cert.AdamCols1.main_arg0)
      ∧ r.2.mem ((c.tc : Thread Cert.AdamCols1.nD Cert.AdamCols1.τ).loc Cert.AdamCols1.main_arg1) = m ((c.tc : Thread Cert.AdamCols1.nD Cert.AdamCols1.τ).loc Cert.AdamCols1.main_arg1)
      ∧ r.2.mem ((c.tc : Thread Cert.AdamCols1.nD Cert.AdamCols1.τ).loc Cert.AdamCols1.main_arg2) = m ((c.tc : Thread Cert.AdamCols1.nD Cert.AdamCols1.τ).loc Cert.AdamCols1.main_arg2)
      ∧ r.2.mem ((c.tc : Thread Cert.AdamCols1.nD Cert.AdamCols1.τ).loc Cert.AdamCols1.main_arg3) = m ((c.tc : Thread Cert.AdamCols1.nD Cert.AdamCols1.τ).loc Cert.AdamCols1.main_arg3)
      ∧ r.2.mem ((c.tc : Thread Cert.AdamCols1.nD Cert.AdamCols1.τ).loc Cert.AdamCols1.main_arg4) = m ((c.tc : Thread Cert.AdamCols1.nD Cert.AdamCols1.τ).loc Cert.AdamCols1.main_arg4)
      ∧ r.2.mem ((c.tc : Thread Cert.AdamCols1.nD Cert.AdamCols1.τ).loc Cert.AdamCols1.main_arg5) = m ((c.tc : Thread Cert.AdamCols1.nD Cert.AdamCols1.τ).loc Cert.AdamCols1.main_arg5)
      ∧ r.2.mem ((c.tc : Thread Cert.AdamCols1.nD Cert.AdamCols1.τ).loc Cert.AdamCols1.main_arg6) = m ((c.tc : Thread Cert.AdamCols1.nD Cert.AdamCols1.τ).loc Cert.AdamCols1.main_arg6)
      ∧ r.2.mem ((c.tc : Thread Cert.AdamCols1.nD Cert.AdamCols1.τ).loc Cert.AdamCols1.main_arg7) = m ((c.tc : Thread Cert.AdamCols1.nD Cert.AdamCols1.τ).loc Cert.AdamCols1.main_arg7))
      ∧ r.2.sem = fun _ => 0)

def quiescent_AdamCols1Ideal [hAdamCols1Ideal : Cert.AdamCols1Ideal.Facts] : Prop :=
  ∀ (m : (ℓ : Loc Cert.AdamCols1Ideal.nD Cert.AdamCols1Ideal.τ Cert.AdamCols1Ideal.sig) → Buf (Elt Ideal) ℓ) (g : Dev Cert.AdamCols1Ideal.nD → PrngReg), Pre_AdamCols1Ideal m →
    θ_run (Cert.AdamCols1Ideal.defs (F := Ideal)) (onTc (τ := Cert.AdamCols1Ideal.τ) (Cert.AdamCols1Ideal.main (F := Ideal))) ⟨m, fun _ => 0, g⟩ (fun r => (∀ c : Dev Cert.AdamCols1Ideal.nD,
      r.2.mem ((c.tc : Thread Cert.AdamCols1Ideal.nD Cert.AdamCols1Ideal.τ).loc Cert.AdamCols1Ideal.main_arg0) = m ((c.tc : Thread Cert.AdamCols1Ideal.nD Cert.AdamCols1Ideal.τ).loc Cert.AdamCols1Ideal.main_arg0)
      ∧ r.2.mem ((c.tc : Thread Cert.AdamCols1Ideal.nD Cert.AdamCols1Ideal.τ).loc Cert.AdamCols1Ideal.main_arg1) = m ((c.tc : Thread Cert.AdamCols1Ideal.nD Cert.AdamCols1Ideal.τ).loc Cert.AdamCols1Ideal.main_arg1)
      ∧ r.2.mem ((c.tc : Thread Cert.AdamCols1Ideal.nD Cert.AdamCols1Ideal.τ).loc Cert.AdamCols1Ideal.main_arg2) = m ((c.tc : Thread Cert.AdamCols1Ideal.nD Cert.AdamCols1Ideal.τ).loc Cert.AdamCols1Ideal.main_arg2)
      ∧ r.2.mem ((c.tc : Thread Cert.AdamCols1Ideal.nD Cert.AdamCols1Ideal.τ).loc Cert.AdamCols1Ideal.main_arg3) = m ((c.tc : Thread Cert.AdamCols1Ideal.nD Cert.AdamCols1Ideal.τ).loc Cert.AdamCols1Ideal.main_arg3)
      ∧ r.2.mem ((c.tc : Thread Cert.AdamCols1Ideal.nD Cert.AdamCols1Ideal.τ).loc Cert.AdamCols1Ideal.main_arg4) = m ((c.tc : Thread Cert.AdamCols1Ideal.nD Cert.AdamCols1Ideal.τ).loc Cert.AdamCols1Ideal.main_arg4)
      ∧ r.2.mem ((c.tc : Thread Cert.AdamCols1Ideal.nD Cert.AdamCols1Ideal.τ).loc Cert.AdamCols1Ideal.main_arg5) = m ((c.tc : Thread Cert.AdamCols1Ideal.nD Cert.AdamCols1Ideal.τ).loc Cert.AdamCols1Ideal.main_arg5)
      ∧ r.2.mem ((c.tc : Thread Cert.AdamCols1Ideal.nD Cert.AdamCols1Ideal.τ).loc Cert.AdamCols1Ideal.main_arg6) = m ((c.tc : Thread Cert.AdamCols1Ideal.nD Cert.AdamCols1Ideal.τ).loc Cert.AdamCols1Ideal.main_arg6)
      ∧ r.2.mem ((c.tc : Thread Cert.AdamCols1Ideal.nD Cert.AdamCols1Ideal.τ).loc Cert.AdamCols1Ideal.main_arg7) = m ((c.tc : Thread Cert.AdamCols1Ideal.nD Cert.AdamCols1Ideal.τ).loc Cert.AdamCols1Ideal.main_arg7))
      ∧ r.2.sem = fun _ => 0)

def quiescent_AdamCols1RefIdeal [hAdamCols1RefIdeal : Cert.AdamCols1RefIdeal.Facts] : Prop :=
  ∀ (m : (ℓ : Loc Cert.AdamCols1RefIdeal.nD Cert.AdamCols1RefIdeal.τ Cert.AdamCols1RefIdeal.sig) → Buf (Elt Ideal) ℓ) (g : Dev Cert.AdamCols1RefIdeal.nD → PrngReg), Pre_AdamCols1RefIdeal m →
    θ_run (Cert.AdamCols1RefIdeal.defs (F := Ideal)) (onTc (τ := Cert.AdamCols1RefIdeal.τ) (Cert.AdamCols1RefIdeal.main (F := Ideal))) ⟨m, fun _ => 0, g⟩ (fun r => (∀ c : Dev Cert.AdamCols1RefIdeal.nD,
      r.2.mem ((c.tc : Thread Cert.AdamCols1RefIdeal.nD Cert.AdamCols1RefIdeal.τ).loc Cert.AdamCols1RefIdeal.main_arg0) = m ((c.tc : Thread Cert.AdamCols1RefIdeal.nD Cert.AdamCols1RefIdeal.τ).loc Cert.AdamCols1RefIdeal.main_arg0)
      ∧ r.2.mem ((c.tc : Thread Cert.AdamCols1RefIdeal.nD Cert.AdamCols1RefIdeal.τ).loc Cert.AdamCols1RefIdeal.main_arg1) = m ((c.tc : Thread Cert.AdamCols1RefIdeal.nD Cert.AdamCols1RefIdeal.τ).loc Cert.AdamCols1RefIdeal.main_arg1)
      ∧ r.2.mem ((c.tc : Thread Cert.AdamCols1RefIdeal.nD Cert.AdamCols1RefIdeal.τ).loc Cert.AdamCols1RefIdeal.main_arg2) = m ((c.tc : Thread Cert.AdamCols1RefIdeal.nD Cert.AdamCols1RefIdeal.τ).loc Cert.AdamCols1RefIdeal.main_arg2)
      ∧ r.2.mem ((c.tc : Thread Cert.AdamCols1RefIdeal.nD Cert.AdamCols1RefIdeal.τ).loc Cert.AdamCols1RefIdeal.main_arg3) = m ((c.tc : Thread Cert.AdamCols1RefIdeal.nD Cert.AdamCols1RefIdeal.τ).loc Cert.AdamCols1RefIdeal.main_arg3)
      ∧ r.2.mem ((c.tc : Thread Cert.AdamCols1RefIdeal.nD Cert.AdamCols1RefIdeal.τ).loc Cert.AdamCols1RefIdeal.main_arg4) = m ((c.tc : Thread Cert.AdamCols1RefIdeal.nD Cert.AdamCols1RefIdeal.τ).loc Cert.AdamCols1RefIdeal.main_arg4)
      ∧ r.2.mem ((c.tc : Thread Cert.AdamCols1RefIdeal.nD Cert.AdamCols1RefIdeal.τ).loc Cert.AdamCols1RefIdeal.main_arg5) = m ((c.tc : Thread Cert.AdamCols1RefIdeal.nD Cert.AdamCols1RefIdeal.τ).loc Cert.AdamCols1RefIdeal.main_arg5)
      ∧ r.2.mem ((c.tc : Thread Cert.AdamCols1RefIdeal.nD Cert.AdamCols1RefIdeal.τ).loc Cert.AdamCols1RefIdeal.main_arg6) = m ((c.tc : Thread Cert.AdamCols1RefIdeal.nD Cert.AdamCols1RefIdeal.τ).loc Cert.AdamCols1RefIdeal.main_arg6)
      ∧ r.2.mem ((c.tc : Thread Cert.AdamCols1RefIdeal.nD Cert.AdamCols1RefIdeal.τ).loc Cert.AdamCols1RefIdeal.main_arg7) = m ((c.tc : Thread Cert.AdamCols1RefIdeal.nD Cert.AdamCols1RefIdeal.τ).loc Cert.AdamCols1RefIdeal.main_arg7))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31)
      ∧ r.2.mem ((c.tc : Thread Cert.Small.nD Cert.Small.τ).loc Cert.Small.main_arg32) = m ((c.tc : Thread Cert.Small.nD Cert.Small.τ).loc Cert.Small.main_arg32)
      ∧ r.2.mem ((c.tc : Thread Cert.Small.nD Cert.Small.τ).loc Cert.Small.main_arg33) = m ((c.tc : Thread Cert.Small.nD Cert.Small.τ).loc Cert.Small.main_arg33)
      ∧ r.2.mem ((c.tc : Thread Cert.Small.nD Cert.Small.τ).loc Cert.Small.main_arg34) = m ((c.tc : Thread Cert.Small.nD Cert.Small.τ).loc Cert.Small.main_arg34)
      ∧ r.2.mem ((c.tc : Thread Cert.Small.nD Cert.Small.τ).loc Cert.Small.main_arg35) = m ((c.tc : Thread Cert.Small.nD Cert.Small.τ).loc Cert.Small.main_arg35)
      ∧ r.2.mem ((c.tc : Thread Cert.Small.nD Cert.Small.τ).loc Cert.Small.main_arg36) = m ((c.tc : Thread Cert.Small.nD Cert.Small.τ).loc Cert.Small.main_arg36)
      ∧ r.2.mem ((c.tc : Thread Cert.Small.nD Cert.Small.τ).loc Cert.Small.main_arg37) = m ((c.tc : Thread Cert.Small.nD Cert.Small.τ).loc Cert.Small.main_arg37)
      ∧ r.2.mem ((c.tc : Thread Cert.Small.nD Cert.Small.τ).loc Cert.Small.main_arg38) = m ((c.tc : Thread Cert.Small.nD Cert.Small.τ).loc Cert.Small.main_arg38)
      ∧ r.2.mem ((c.tc : Thread Cert.Small.nD Cert.Small.τ).loc Cert.Small.main_arg39) = m ((c.tc : Thread Cert.Small.nD Cert.Small.τ).loc Cert.Small.main_arg39)
      ∧ r.2.mem ((c.tc : Thread Cert.Small.nD Cert.Small.τ).loc Cert.Small.main_arg40) = m ((c.tc : Thread Cert.Small.nD Cert.Small.τ).loc Cert.Small.main_arg40)
      ∧ r.2.mem ((c.tc : Thread Cert.Small.nD Cert.Small.τ).loc Cert.Small.main_arg41) = m ((c.tc : Thread Cert.Small.nD Cert.Small.τ).loc Cert.Small.main_arg41)
      ∧ r.2.mem ((c.tc : Thread Cert.Small.nD Cert.Small.τ).loc Cert.Small.main_arg42) = m ((c.tc : Thread Cert.Small.nD Cert.Small.τ).loc Cert.Small.main_arg42)
      ∧ r.2.mem ((c.tc : Thread Cert.Small.nD Cert.Small.τ).loc Cert.Small.main_arg43) = m ((c.tc : Thread Cert.Small.nD Cert.Small.τ).loc Cert.Small.main_arg43)
      ∧ r.2.mem ((c.tc : Thread Cert.Small.nD Cert.Small.τ).loc Cert.Small.main_arg44) = m ((c.tc : Thread Cert.Small.nD Cert.Small.τ).loc Cert.Small.main_arg44)
      ∧ r.2.mem ((c.tc : Thread Cert.Small.nD Cert.Small.τ).loc Cert.Small.main_arg45) = m ((c.tc : Thread Cert.Small.nD Cert.Small.τ).loc Cert.Small.main_arg45)
      ∧ r.2.mem ((c.tc : Thread Cert.Small.nD Cert.Small.τ).loc Cert.Small.main_arg46) = m ((c.tc : Thread Cert.Small.nD Cert.Small.τ).loc Cert.Small.main_arg46)
      ∧ r.2.mem ((c.tc : Thread Cert.Small.nD Cert.Small.τ).loc Cert.Small.main_arg47) = m ((c.tc : Thread Cert.Small.nD Cert.Small.τ).loc Cert.Small.main_arg47)
      ∧ r.2.mem ((c.tc : Thread Cert.Small.nD Cert.Small.τ).loc Cert.Small.main_arg48) = m ((c.tc : Thread Cert.Small.nD Cert.Small.τ).loc Cert.Small.main_arg48)
      ∧ r.2.mem ((c.tc : Thread Cert.Small.nD Cert.Small.τ).loc Cert.Small.main_arg49) = m ((c.tc : Thread Cert.Small.nD Cert.Small.τ).loc Cert.Small.main_arg49)
      ∧ r.2.mem ((c.tc : Thread Cert.Small.nD Cert.Small.τ).loc Cert.Small.main_arg50) = m ((c.tc : Thread Cert.Small.nD Cert.Small.τ).loc Cert.Small.main_arg50)
      ∧ r.2.mem ((c.tc : Thread Cert.Small.nD Cert.Small.τ).loc Cert.Small.main_arg51) = m ((c.tc : Thread Cert.Small.nD Cert.Small.τ).loc Cert.Small.main_arg51))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
      ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
      ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
      ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
      ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
      ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
      ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
      ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
      ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
      ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
      ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
      ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
      ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
      ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
      ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
      ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
      ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
      ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
      ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
      ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
      ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30)
      ∧ r.2.mem ((c.tc : Thread Cert.SmallRefIdeal.nD Cert.SmallRefIdeal.τ).loc Cert.SmallRefIdeal.main_arg31) = m ((c.tc : Thread Cert.SmallRefIdeal.nD Cert.SmallRefIdeal.τ).loc Cert.SmallRefIdeal.main_arg31)
      ∧ r.2.mem ((c.tc : Thread Cert.SmallRefIdeal.nD Cert.SmallRefIdeal.τ).loc Cert.SmallRefIdeal.main_arg32) = m ((c.tc : Thread Cert.SmallRefIdeal.nD Cert.SmallRefIdeal.τ).loc Cert.SmallRefIdeal.main_arg32)
      ∧ r.2.mem ((c.tc : Thread Cert.SmallRefIdeal.nD Cert.SmallRefIdeal.τ).loc Cert.SmallRefIdeal.main_arg33) = m ((c.tc : Thread Cert.SmallRefIdeal.nD Cert.SmallRefIdeal.τ).loc Cert.SmallRefIdeal.main_arg33)
      ∧ r.2.mem ((c.tc : Thread Cert.SmallRefIdeal.nD Cert.SmallRefIdeal.τ).loc Cert.SmallRefIdeal.main_arg34) = m ((c.tc : Thread Cert.SmallRefIdeal.nD Cert.SmallRefIdeal.τ).loc Cert.SmallRefIdeal.main_arg34)
      ∧ r.2.mem ((c.tc : Thread Cert.SmallRefIdeal.nD Cert.SmallRefIdeal.τ).loc Cert.SmallRefIdeal.main_arg35) = m ((c.tc : Thread Cert.SmallRefIdeal.nD Cert.SmallRefIdeal.τ).loc Cert.SmallRefIdeal.main_arg35)
      ∧ r.2.mem ((c.tc : Thread Cert.SmallRefIdeal.nD Cert.SmallRefIdeal.τ).loc Cert.SmallRefIdeal.main_arg36) = m ((c.tc : Thread Cert.SmallRefIdeal.nD Cert.SmallRefIdeal.τ).loc Cert.SmallRefIdeal.main_arg36)
      ∧ r.2.mem ((c.tc : Thread Cert.SmallRefIdeal.nD Cert.SmallRefIdeal.τ).loc Cert.SmallRefIdeal.main_arg37) = m ((c.tc : Thread Cert.SmallRefIdeal.nD Cert.SmallRefIdeal.τ).loc Cert.SmallRefIdeal.main_arg37)
      ∧ r.2.mem ((c.tc : Thread Cert.SmallRefIdeal.nD Cert.SmallRefIdeal.τ).loc Cert.SmallRefIdeal.main_arg38) = m ((c.tc : Thread Cert.SmallRefIdeal.nD Cert.SmallRefIdeal.τ).loc Cert.SmallRefIdeal.main_arg38)
      ∧ r.2.mem ((c.tc : Thread Cert.SmallRefIdeal.nD Cert.SmallRefIdeal.τ).loc Cert.SmallRefIdeal.main_arg39) = m ((c.tc : Thread Cert.SmallRefIdeal.nD Cert.SmallRefIdeal.τ).loc Cert.SmallRefIdeal.main_arg39)
      ∧ r.2.mem ((c.tc : Thread Cert.SmallRefIdeal.nD Cert.SmallRefIdeal.τ).loc Cert.SmallRefIdeal.main_arg40) = m ((c.tc : Thread Cert.SmallRefIdeal.nD Cert.SmallRefIdeal.τ).loc Cert.SmallRefIdeal.main_arg40)
      ∧ r.2.mem ((c.tc : Thread Cert.SmallRefIdeal.nD Cert.SmallRefIdeal.τ).loc Cert.SmallRefIdeal.main_arg41) = m ((c.tc : Thread Cert.SmallRefIdeal.nD Cert.SmallRefIdeal.τ).loc Cert.SmallRefIdeal.main_arg41)
      ∧ r.2.mem ((c.tc : Thread Cert.SmallRefIdeal.nD Cert.SmallRefIdeal.τ).loc Cert.SmallRefIdeal.main_arg42) = m ((c.tc : Thread Cert.SmallRefIdeal.nD Cert.SmallRefIdeal.τ).loc Cert.SmallRefIdeal.main_arg42)
      ∧ r.2.mem ((c.tc : Thread Cert.SmallRefIdeal.nD Cert.SmallRefIdeal.τ).loc Cert.SmallRefIdeal.main_arg43) = m ((c.tc : Thread Cert.SmallRefIdeal.nD Cert.SmallRefIdeal.τ).loc Cert.SmallRefIdeal.main_arg43)
      ∧ r.2.mem ((c.tc : Thread Cert.SmallRefIdeal.nD Cert.SmallRefIdeal.τ).loc Cert.SmallRefIdeal.main_arg44) = m ((c.tc : Thread Cert.SmallRefIdeal.nD Cert.SmallRefIdeal.τ).loc Cert.SmallRefIdeal.main_arg44)
      ∧ r.2.mem ((c.tc : Thread Cert.SmallRefIdeal.nD Cert.SmallRefIdeal.τ).loc Cert.SmallRefIdeal.main_arg45) = m ((c.tc : Thread Cert.SmallRefIdeal.nD Cert.SmallRefIdeal.τ).loc Cert.SmallRefIdeal.main_arg45)
      ∧ r.2.mem ((c.tc : Thread Cert.SmallRefIdeal.nD Cert.SmallRefIdeal.τ).loc Cert.SmallRefIdeal.main_arg46) = m ((c.tc : Thread Cert.SmallRefIdeal.nD Cert.SmallRefIdeal.τ).loc Cert.SmallRefIdeal.main_arg46)
      ∧ r.2.mem ((c.tc : Thread Cert.SmallRefIdeal.nD Cert.SmallRefIdeal.τ).loc Cert.SmallRefIdeal.main_arg47) = m ((c.tc : Thread Cert.SmallRefIdeal.nD Cert.SmallRefIdeal.τ).loc Cert.SmallRefIdeal.main_arg47)
      ∧ r.2.mem ((c.tc : Thread Cert.SmallRefIdeal.nD Cert.SmallRefIdeal.τ).loc Cert.SmallRefIdeal.main_arg48) = m ((c.tc : Thread Cert.SmallRefIdeal.nD Cert.SmallRefIdeal.τ).loc Cert.SmallRefIdeal.main_arg48)
      ∧ r.2.mem ((c.tc : Thread Cert.SmallRefIdeal.nD Cert.SmallRefIdeal.τ).loc Cert.SmallRefIdeal.main_arg49) = m ((c.tc : Thread Cert.SmallRefIdeal.nD Cert.SmallRefIdeal.τ).loc Cert.SmallRefIdeal.main_arg49)
      ∧ r.2.mem ((c.tc : Thread Cert.SmallRefIdeal.nD Cert.SmallRefIdeal.τ).loc Cert.SmallRefIdeal.main_arg50) = m ((c.tc : Thread Cert.SmallRefIdeal.nD Cert.SmallRefIdeal.τ).loc Cert.SmallRefIdeal.main_arg50)
      ∧ r.2.mem ((c.tc : Thread Cert.SmallRefIdeal.nD Cert.SmallRefIdeal.τ).loc Cert.SmallRefIdeal.main_arg51) = m ((c.tc : Thread Cert.SmallRefIdeal.nD Cert.SmallRefIdeal.τ).loc Cert.SmallRefIdeal.main_arg51))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)) (v4 : (c : Dev Cert.KernelIdeal.nD) → Buf (Elt Ideal) ((c.tc : Thread Cert.KernelIdeal.nD Cert.KernelIdeal.τ).loc Cert.KernelIdeal.main_v42_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_v42_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v89) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v4)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v4) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v8) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v12) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v4)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v4) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v2) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_AInDx_AInDxIdeal : Prop :=
  True

def algebraic_AInDxIdeal_AInDxRefIdeal [hAInDxIdeal : Cert.AInDxIdeal.Facts] [hAInDxRefIdeal : Cert.AInDxRefIdeal.Facts] : Prop :=
  ∀ (m : (ℓ : Loc Cert.AInDxIdeal.nD Cert.AInDxIdeal.τ Cert.AInDxIdeal.sig) → Buf (Elt Ideal) ℓ) (g : Dev Cert.AInDxIdeal.nD → PrngReg)
    (m' : (ℓ : Loc Cert.AInDxRefIdeal.nD Cert.AInDxRefIdeal.τ Cert.AInDxRefIdeal.sig) → Buf (Elt Ideal) ℓ) (g' : Dev Cert.AInDxRefIdeal.nD → PrngReg), Pre_AInDxIdeal m →
    (∀ c : Dev Cert.AInDxIdeal.nD,
      m' ((c.tc : Thread Cert.AInDxRefIdeal.nD Cert.AInDxRefIdeal.τ).loc Cert.AInDxRefIdeal.main_arg0) = m ((c.tc : Thread Cert.AInDxIdeal.nD Cert.AInDxIdeal.τ).loc Cert.AInDxIdeal.main_arg0)
      ∧ m' ((c.tc : Thread Cert.AInDxRefIdeal.nD Cert.AInDxRefIdeal.τ).loc Cert.AInDxRefIdeal.main_arg1) = m ((c.tc : Thread Cert.AInDxIdeal.nD Cert.AInDxIdeal.τ).loc Cert.AInDxIdeal.main_arg1)) →
    ∃ (v0 : (c : Dev Cert.AInDxIdeal.nD) → Buf (Elt Ideal) ((c.tc : Thread Cert.AInDxIdeal.nD Cert.AInDxIdeal.τ).loc Cert.AInDxIdeal.main_v4)),
      θ_run (Cert.AInDxIdeal.defs (F := Ideal)) (onTc (τ := Cert.AInDxIdeal.τ) (Cert.AInDxIdeal.main (F := Ideal))) ⟨m, fun _ => 0, g⟩ (fun r => ∀ c : Dev Cert.AInDxIdeal.nD,
          r.2.mem ((c.tc : Thread Cert.AInDxIdeal.nD Cert.AInDxIdeal.τ).loc Cert.AInDxIdeal.main_v4) = v0 c
          ∧ r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
          ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ θ_run (Cert.AInDxRefIdeal.defs (F := Ideal)) (onTc (τ := Cert.AInDxRefIdeal.τ) (Cert.AInDxRefIdeal.main (F := Ideal))) ⟨m', fun _ => 0, g'⟩ (fun r => ∀ c : Dev Cert.AInDxRefIdeal.nD,
          r.2.mem ((c.tc : Thread Cert.AInDxRefIdeal.nD Cert.AInDxRefIdeal.τ).loc Cert.AInDxRefIdeal.main_v4) = v0 c
          ∧ r.2.mem ((c.tc : Thread Cert.AInDxRefIdeal.nD Cert.AInDxRefIdeal.τ).loc Cert.AInDxRefIdeal.main_arg0) = m' ((c.tc : Thread Cert.AInDxRefIdeal.nD Cert.AInDxRefIdeal.τ).loc Cert.AInDxRefIdeal.main_arg0)
          ∧ r.2.mem ((c.tc : Thread Cert.AInDxRefIdeal.nD Cert.AInDxRefIdeal.τ).loc Cert.AInDxRefIdeal.main_arg1) = m' ((c.tc : Thread Cert.AInDxRefIdeal.nD Cert.AInDxRefIdeal.τ).loc Cert.AInDxRefIdeal.main_arg1))

def preserves_AInDw_AInDwIdeal : Prop :=
  True

def algebraic_AInDwIdeal_AInDwRefIdeal [hAInDwIdeal : Cert.AInDwIdeal.Facts] [hAInDwRefIdeal : Cert.AInDwRefIdeal.Facts] : Prop :=
  ∀ (m : (ℓ : Loc Cert.AInDwIdeal.nD Cert.AInDwIdeal.τ Cert.AInDwIdeal.sig) → Buf (Elt Ideal) ℓ) (g : Dev Cert.AInDwIdeal.nD → PrngReg)
    (m' : (ℓ : Loc Cert.AInDwRefIdeal.nD Cert.AInDwRefIdeal.τ Cert.AInDwRefIdeal.sig) → Buf (Elt Ideal) ℓ) (g' : Dev Cert.AInDwRefIdeal.nD → PrngReg), Pre_AInDwIdeal m →
    (∀ c : Dev Cert.AInDwIdeal.nD,
      m' ((c.tc : Thread Cert.AInDwRefIdeal.nD Cert.AInDwRefIdeal.τ).loc Cert.AInDwRefIdeal.main_arg0) = m ((c.tc : Thread Cert.AInDwIdeal.nD Cert.AInDwIdeal.τ).loc Cert.AInDwIdeal.main_arg0)
      ∧ m' ((c.tc : Thread Cert.AInDwRefIdeal.nD Cert.AInDwRefIdeal.τ).loc Cert.AInDwRefIdeal.main_arg1) = m ((c.tc : Thread Cert.AInDwIdeal.nD Cert.AInDwIdeal.τ).loc Cert.AInDwIdeal.main_arg1)) →
    ∃ (v0 : (c : Dev Cert.AInDwIdeal.nD) → Buf (Elt Ideal) ((c.tc : Thread Cert.AInDwIdeal.nD Cert.AInDwIdeal.τ).loc Cert.AInDwIdeal.main_v0)),
      θ_run (Cert.AInDwIdeal.defs (F := Ideal)) (onTc (τ := Cert.AInDwIdeal.τ) (Cert.AInDwIdeal.main (F := Ideal))) ⟨m, fun _ => 0, g⟩ (fun r => ∀ c : Dev Cert.AInDwIdeal.nD,
          r.2.mem ((c.tc : Thread Cert.AInDwIdeal.nD Cert.AInDwIdeal.τ).loc Cert.AInDwIdeal.main_v0) = v0 c
          ∧ r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
          ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ θ_run (Cert.AInDwRefIdeal.defs (F := Ideal)) (onTc (τ := Cert.AInDwRefIdeal.τ) (Cert.AInDwRefIdeal.main (F := Ideal))) ⟨m', fun _ => 0, g'⟩ (fun r => ∀ c : Dev Cert.AInDwRefIdeal.nD,
          r.2.mem ((c.tc : Thread Cert.AInDwRefIdeal.nD Cert.AInDwRefIdeal.τ).loc Cert.AInDwRefIdeal.main_v8) = v0 c
          ∧ r.2.mem ((c.tc : Thread Cert.AInDwRefIdeal.nD Cert.AInDwRefIdeal.τ).loc Cert.AInDwRefIdeal.main_arg0) = m' ((c.tc : Thread Cert.AInDwRefIdeal.nD Cert.AInDwRefIdeal.τ).loc Cert.AInDwRefIdeal.main_arg0)
          ∧ r.2.mem ((c.tc : Thread Cert.AInDwRefIdeal.nD Cert.AInDwRefIdeal.τ).loc Cert.AInDwRefIdeal.main_arg1) = m' ((c.tc : Thread Cert.AInDwRefIdeal.nD Cert.AInDwRefIdeal.τ).loc Cert.AInDwRefIdeal.main_arg1))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)) →
    ∃ (v0 : (c : Dev Cert.AOutIdeal.nD) → Buf (Elt Ideal) ((c.tc : Thread Cert.AOutIdeal.nD Cert.AOutIdeal.τ).loc Cert.AOutIdeal.main_v2)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v2) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v2) = v0 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2))

def preserves_AOutDx_AOutDxIdeal : Prop :=
  True

def algebraic_AOutDxIdeal_AOutDxRefIdeal [hAOutDxIdeal : Cert.AOutDxIdeal.Facts] [hAOutDxRefIdeal : Cert.AOutDxRefIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg)
    (m' : (ℓ : Loc Cert.AOutDxRefIdeal.nD Cert.AOutDxRefIdeal.τ Cert.AOutDxRefIdeal.sig) → Buf (Elt Ideal) ℓ) (g' : Dev Cert.AOutDxRefIdeal.nD → PrngReg), Pre_AOutDxIdeal m →
    (∀ c : Dev Cert.AOutDxIdeal.nD,
      m' ((c.tc : Thread Cert.AOutDxRefIdeal.nD Cert.AOutDxRefIdeal.τ).loc Cert.AOutDxRefIdeal.main_arg0) = m ((c.tc : Thread Cert.AOutDxIdeal.nD Cert.AOutDxIdeal.τ).loc Cert.AOutDxIdeal.main_arg0)
      ∧ m' ((c.tc : Thread Cert.AOutDxRefIdeal.nD Cert.AOutDxRefIdeal.τ).loc Cert.AOutDxRefIdeal.main_arg1) = m ((c.tc : Thread Cert.AOutDxIdeal.nD Cert.AOutDxIdeal.τ).loc Cert.AOutDxIdeal.main_arg1)) →
    ∃ (v0 : (c : Dev Cert.AOutDxIdeal.nD) → Buf (Elt Ideal) ((c.tc : Thread Cert.AOutDxIdeal.nD Cert.AOutDxIdeal.τ).loc Cert.AOutDxIdeal.main_v2)),
      θ_run (Cert.AOutDxIdeal.defs (F := Ideal)) (onTc (τ := Cert.AOutDxIdeal.τ) (Cert.AOutDxIdeal.main (F := Ideal))) ⟨m, fun _ => 0, g⟩ (fun r => ∀ c : Dev Cert.AOutDxIdeal.nD,
          r.2.mem ((c.tc : Thread Cert.AOutDxIdeal.nD Cert.AOutDxIdeal.τ).loc Cert.AOutDxIdeal.main_v2) = v0 c
          ∧ r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
          ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ θ_run (Cert.AOutDxRefIdeal.defs (F := Ideal)) (onTc (τ := Cert.AOutDxRefIdeal.τ) (Cert.AOutDxRefIdeal.main (F := Ideal))) ⟨m', fun _ => 0, g'⟩ (fun r => ∀ c : Dev Cert.AOutDxRefIdeal.nD,
          r.2.mem ((c.tc : Thread Cert.AOutDxRefIdeal.nD Cert.AOutDxRefIdeal.τ).loc Cert.AOutDxRefIdeal.main_v4) = v0 c
          ∧ r.2.mem ((c.tc : Thread Cert.AOutDxRefIdeal.nD Cert.AOutDxRefIdeal.τ).loc Cert.AOutDxRefIdeal.main_arg0) = m' ((c.tc : Thread Cert.AOutDxRefIdeal.nD Cert.AOutDxRefIdeal.τ).loc Cert.AOutDxRefIdeal.main_arg0)
          ∧ r.2.mem ((c.tc : Thread Cert.AOutDxRefIdeal.nD Cert.AOutDxRefIdeal.τ).loc Cert.AOutDxRefIdeal.main_arg1) = m' ((c.tc : Thread Cert.AOutDxRefIdeal.nD Cert.AOutDxRefIdeal.τ).loc Cert.AOutDxRefIdeal.main_arg1))

def preserves_AOutDw_AOutDwIdeal : Prop :=
  True

def algebraic_AOutDwIdeal_AOutDwRefIdeal [hAOutDwIdeal : Cert.AOutDwIdeal.Facts] [hAOutDwRefIdeal : Cert.AOutDwRefIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg)
    (m' : (ℓ : Loc Cert.AOutDwRefIdeal.nD Cert.AOutDwRefIdeal.τ Cert.AOutDwRefIdeal.sig) → Buf (Elt Ideal) ℓ) (g' : Dev Cert.AOutDwRefIdeal.nD → PrngReg), Pre_AOutDwIdeal m →
    (∀ c : Dev Cert.AOutDwIdeal.nD,
      m' ((c.tc : Thread Cert.AOutDwRefIdeal.nD Cert.AOutDwRefIdeal.τ).loc Cert.AOutDwRefIdeal.main_arg0) = m ((c.tc : Thread Cert.AOutDwIdeal.nD Cert.AOutDwIdeal.τ).loc Cert.AOutDwIdeal.main_arg0)
      ∧ m' ((c.tc : Thread Cert.AOutDwRefIdeal.nD Cert.AOutDwRefIdeal.τ).loc Cert.AOutDwRefIdeal.main_arg1) = m ((c.tc : Thread Cert.AOutDwIdeal.nD Cert.AOutDwIdeal.τ).loc Cert.AOutDwIdeal.main_arg1)) →
    ∃ (v0 : (c : Dev Cert.AOutDwIdeal.nD) → Buf (Elt Ideal) ((c.tc : Thread Cert.AOutDwIdeal.nD Cert.AOutDwIdeal.τ).loc Cert.AOutDwIdeal.main_v0)),
      θ_run (Cert.AOutDwIdeal.defs (F := Ideal)) (onTc (τ := Cert.AOutDwIdeal.τ) (Cert.AOutDwIdeal.main (F := Ideal))) ⟨m, fun _ => 0, g⟩ (fun r => ∀ c : Dev Cert.AOutDwIdeal.nD,
          r.2.mem ((c.tc : Thread Cert.AOutDwIdeal.nD Cert.AOutDwIdeal.τ).loc Cert.AOutDwIdeal.main_v0) = v0 c
          ∧ r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
          ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1))
      ∧ θ_run (Cert.AOutDwRefIdeal.defs (F := Ideal)) (onTc (τ := Cert.AOutDwRefIdeal.τ) (Cert.AOutDwRefIdeal.main (F := Ideal))) ⟨m', fun _ => 0, g'⟩ (fun r => ∀ c : Dev Cert.AOutDwRefIdeal.nD,
          r.2.mem ((c.tc : Thread Cert.AOutDwRefIdeal.nD Cert.AOutDwRefIdeal.τ).loc Cert.AOutDwRefIdeal.main_v7) = v0 c
          ∧ r.2.mem ((c.tc : Thread Cert.AOutDwRefIdeal.nD Cert.AOutDwRefIdeal.τ).loc Cert.AOutDwRefIdeal.main_arg0) = m' ((c.tc : Thread Cert.AOutDwRefIdeal.nD Cert.AOutDwRefIdeal.τ).loc Cert.AOutDwRefIdeal.main_arg0)
          ∧ r.2.mem ((c.tc : Thread Cert.AOutDwRefIdeal.nD Cert.AOutDwRefIdeal.τ).loc Cert.AOutDwRefIdeal.main_arg1) = m' ((c.tc : Thread Cert.AOutDwRefIdeal.nD Cert.AOutDwRefIdeal.τ).loc Cert.AOutDwRefIdeal.main_arg1))

def preserves_QgDw_QgDwIdeal : Prop :=
  True

def algebraic_QgDwIdeal_QgDwRefIdeal [hQgDwIdeal : Cert.QgDwIdeal.Facts] [hQgDwRefIdeal : Cert.QgDwRefIdeal.Facts] : Prop :=
  ∀ (m : (ℓ : Loc Cert.QgDwIdeal.nD Cert.QgDwIdeal.τ Cert.QgDwIdeal.sig) → Buf (Elt Ideal) ℓ) (g : Dev Cert.QgDwIdeal.nD → PrngReg)
    (m' : (ℓ : Loc Cert.QgDwRefIdeal.nD Cert.QgDwRefIdeal.τ Cert.QgDwRefIdeal.sig) → Buf (Elt Ideal) ℓ) (g' : Dev Cert.QgDwRefIdeal.nD → PrngReg), Pre_QgDwIdeal m →
    (∀ c : Dev Cert.QgDwIdeal.nD,
      m' ((c.tc : Thread Cert.QgDwRefIdeal.nD Cert.QgDwRefIdeal.τ).loc Cert.QgDwRefIdeal.main_arg0) = m ((c.tc : Thread Cert.QgDwIdeal.nD Cert.QgDwIdeal.τ).loc Cert.QgDwIdeal.main_arg0)
      ∧ m' ((c.tc : Thread Cert.QgDwRefIdeal.nD Cert.QgDwRefIdeal.τ).loc Cert.QgDwRefIdeal.main_arg1) = m ((c.tc : Thread Cert.QgDwIdeal.nD Cert.QgDwIdeal.τ).loc Cert.QgDwIdeal.main_arg1)) →
    ∃ (v0 : (c : Dev Cert.QgDwIdeal.nD) → Buf (Elt Ideal) ((c.tc : Thread Cert.QgDwIdeal.nD Cert.QgDwIdeal.τ).loc Cert.QgDwIdeal.main_v0)),
      θ_run (Cert.QgDwIdeal.defs (F := Ideal)) (onTc (τ := Cert.QgDwIdeal.τ) (Cert.QgDwIdeal.main (F := Ideal))) ⟨m, fun _ => 0, g⟩ (fun r => ∀ c : Dev Cert.QgDwIdeal.nD,
          r.2.mem ((c.tc : Thread Cert.QgDwIdeal.nD Cert.QgDwIdeal.τ).loc Cert.QgDwIdeal.main_v0) = v0 c
          ∧ r.2.mem ((c.tc : Thread Cert.QgDwIdeal.nD Cert.QgDwIdeal.τ).loc Cert.QgDwIdeal.main_arg0) = m ((c.tc : Thread Cert.QgDwIdeal.nD Cert.QgDwIdeal.τ).loc Cert.QgDwIdeal.main_arg0)
          ∧ r.2.mem ((c.tc : Thread Cert.QgDwIdeal.nD Cert.QgDwIdeal.τ).loc Cert.QgDwIdeal.main_arg1) = m ((c.tc : Thread Cert.QgDwIdeal.nD Cert.QgDwIdeal.τ).loc Cert.QgDwIdeal.main_arg1))
      ∧ θ_run (Cert.QgDwRefIdeal.defs (F := Ideal)) (onTc (τ := Cert.QgDwRefIdeal.τ) (Cert.QgDwRefIdeal.main (F := Ideal))) ⟨m', fun _ => 0, g'⟩ (fun r => ∀ c : Dev Cert.QgDwRefIdeal.nD,
          r.2.mem ((c.tc : Thread Cert.QgDwRefIdeal.nD Cert.QgDwRefIdeal.τ).loc Cert.QgDwRefIdeal.main_v12) = v0 c
          ∧ r.2.mem ((c.tc : Thread Cert.QgDwRefIdeal.nD Cert.QgDwRefIdeal.τ).loc Cert.QgDwRefIdeal.main_arg0) = m' ((c.tc : Thread Cert.QgDwRefIdeal.nD Cert.QgDwRefIdeal.τ).loc Cert.QgDwRefIdeal.main_arg0)
          ∧ r.2.mem ((c.tc : Thread Cert.QgDwRefIdeal.nD Cert.QgDwRefIdeal.τ).loc Cert.QgDwRefIdeal.main_arg1) = m' ((c.tc : Thread Cert.QgDwRefIdeal.nD Cert.QgDwRefIdeal.τ).loc Cert.QgDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v12) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_AdamRows0_AdamRows0Ideal : Prop :=
  True

def algebraic_AdamRows0Ideal_AdamRows0RefIdeal [hAdamRows0Ideal : Cert.AdamRows0Ideal.Facts] [hAdamRows0RefIdeal : Cert.AdamRows0RefIdeal.Facts] : Prop :=
  ∀ (m : (ℓ : Loc Cert.AdamRows0Ideal.nD Cert.AdamRows0Ideal.τ Cert.AdamRows0Ideal.sig) → Buf (Elt Ideal) ℓ) (g : Dev Cert.AdamRows0Ideal.nD → PrngReg)
    (m' : (ℓ : Loc Cert.AdamRows0RefIdeal.nD Cert.AdamRows0RefIdeal.τ Cert.AdamRows0RefIdeal.sig) → Buf (Elt Ideal) ℓ) (g' : Dev Cert.AdamRows0RefIdeal.nD → PrngReg), Pre_AdamRows0Ideal m →
    (∀ c : Dev Cert.AdamRows0Ideal.nD,
      m' ((c.tc : Thread Cert.AdamRows0RefIdeal.nD Cert.AdamRows0RefIdeal.τ).loc Cert.AdamRows0RefIdeal.main_arg0) = m ((c.tc : Thread Cert.AdamRows0Ideal.nD Cert.AdamRows0Ideal.τ).loc Cert.AdamRows0Ideal.main_arg0)
      ∧ m' ((c.tc : Thread Cert.AdamRows0RefIdeal.nD Cert.AdamRows0RefIdeal.τ).loc Cert.AdamRows0RefIdeal.main_arg1) = m ((c.tc : Thread Cert.AdamRows0Ideal.nD Cert.AdamRows0Ideal.τ).loc Cert.AdamRows0Ideal.main_arg1)
      ∧ m' ((c.tc : Thread Cert.AdamRows0RefIdeal.nD Cert.AdamRows0RefIdeal.τ).loc Cert.AdamRows0RefIdeal.main_arg2) = m ((c.tc : Thread Cert.AdamRows0Ideal.nD Cert.AdamRows0Ideal.τ).loc Cert.AdamRows0Ideal.main_arg2)
      ∧ m' ((c.tc : Thread Cert.AdamRows0RefIdeal.nD Cert.AdamRows0RefIdeal.τ).loc Cert.AdamRows0RefIdeal.main_arg3) = m ((c.tc : Thread Cert.AdamRows0Ideal.nD Cert.AdamRows0Ideal.τ).loc Cert.AdamRows0Ideal.main_arg3)
      ∧ m' ((c.tc : Thread Cert.AdamRows0RefIdeal.nD Cert.AdamRows0RefIdeal.τ).loc Cert.AdamRows0RefIdeal.main_arg4) = m ((c.tc : Thread Cert.AdamRows0Ideal.nD Cert.AdamRows0Ideal.τ).loc Cert.AdamRows0Ideal.main_arg4)
      ∧ m' ((c.tc : Thread Cert.AdamRows0RefIdeal.nD Cert.AdamRows0RefIdeal.τ).loc Cert.AdamRows0RefIdeal.main_arg5) = m ((c.tc : Thread Cert.AdamRows0Ideal.nD Cert.AdamRows0Ideal.τ).loc Cert.AdamRows0Ideal.main_arg5)
      ∧ m' ((c.tc : Thread Cert.AdamRows0RefIdeal.nD Cert.AdamRows0RefIdeal.τ).loc Cert.AdamRows0RefIdeal.main_arg6) = m ((c.tc : Thread Cert.AdamRows0Ideal.nD Cert.AdamRows0Ideal.τ).loc Cert.AdamRows0Ideal.main_arg6)
      ∧ m' ((c.tc : Thread Cert.AdamRows0RefIdeal.nD Cert.AdamRows0RefIdeal.τ).loc Cert.AdamRows0RefIdeal.main_arg7) = m ((c.tc : Thread Cert.AdamRows0Ideal.nD Cert.AdamRows0Ideal.τ).loc Cert.AdamRows0Ideal.main_arg7)) →
    ∃ (v0 : (c : Dev Cert.AdamRows0Ideal.nD) → Buf (Elt Ideal) ((c.tc : Thread Cert.AdamRows0Ideal.nD Cert.AdamRows0Ideal.τ).loc Cert.AdamRows0Ideal.main_v0_0)) (v1 : (c : Dev Cert.AdamRows0Ideal.nD) → Buf (Elt Ideal) ((c.tc : Thread Cert.AdamRows0Ideal.nD Cert.AdamRows0Ideal.τ).loc Cert.AdamRows0Ideal.main_v0_1)) (v2 : (c : Dev Cert.AdamRows0Ideal.nD) → Buf (Elt Ideal) ((c.tc : Thread Cert.AdamRows0Ideal.nD Cert.AdamRows0Ideal.τ).loc Cert.AdamRows0Ideal.main_v0_2)) (v3 : (c : Dev Cert.AdamRows0Ideal.nD) → Buf (Elt Ideal) ((c.tc : Thread Cert.AdamRows0Ideal.nD Cert.AdamRows0Ideal.τ).loc Cert.AdamRows0Ideal.main_v0_3)),
      θ_run (Cert.AdamRows0Ideal.defs (F := Ideal)) (onTc (τ := Cert.AdamRows0Ideal.τ) (Cert.AdamRows0Ideal.main (F := Ideal))) ⟨m, fun _ => 0, g⟩ (fun r => ∀ c : Dev Cert.AdamRows0Ideal.nD,
          r.2.mem ((c.tc : Thread Cert.AdamRows0Ideal.nD Cert.AdamRows0Ideal.τ).loc Cert.AdamRows0Ideal.main_v0_0) = v0 c
          ∧ r.2.mem ((c.tc : Thread Cert.AdamRows0Ideal.nD Cert.AdamRows0Ideal.τ).loc Cert.AdamRows0Ideal.main_v0_1) = v1 c
          ∧ r.2.mem ((c.tc : Thread Cert.AdamRows0Ideal.nD Cert.AdamRows0Ideal.τ).loc Cert.AdamRows0Ideal.main_v0_2) = v2 c
          ∧ r.2.mem ((c.tc : Thread Cert.AdamRows0Ideal.nD Cert.AdamRows0Ideal.τ).loc Cert.AdamRows0Ideal.main_v0_3) = v3 c
          ∧ r.2.mem ((c.tc : Thread Cert.AdamRows0Ideal.nD Cert.AdamRows0Ideal.τ).loc Cert.AdamRows0Ideal.main_arg0) = m ((c.tc : Thread Cert.AdamRows0Ideal.nD Cert.AdamRows0Ideal.τ).loc Cert.AdamRows0Ideal.main_arg0)
          ∧ r.2.mem ((c.tc : Thread Cert.AdamRows0Ideal.nD Cert.AdamRows0Ideal.τ).loc Cert.AdamRows0Ideal.main_arg1) = m ((c.tc : Thread Cert.AdamRows0Ideal.nD Cert.AdamRows0Ideal.τ).loc Cert.AdamRows0Ideal.main_arg1)
          ∧ r.2.mem ((c.tc : Thread Cert.AdamRows0Ideal.nD Cert.AdamRows0Ideal.τ).loc Cert.AdamRows0Ideal.main_arg2) = m ((c.tc : Thread Cert.AdamRows0Ideal.nD Cert.AdamRows0Ideal.τ).loc Cert.AdamRows0Ideal.main_arg2)
          ∧ r.2.mem ((c.tc : Thread Cert.AdamRows0Ideal.nD Cert.AdamRows0Ideal.τ).loc Cert.AdamRows0Ideal.main_arg3) = m ((c.tc : Thread Cert.AdamRows0Ideal.nD Cert.AdamRows0Ideal.τ).loc Cert.AdamRows0Ideal.main_arg3)
          ∧ r.2.mem ((c.tc : Thread Cert.AdamRows0Ideal.nD Cert.AdamRows0Ideal.τ).loc Cert.AdamRows0Ideal.main_arg4) = m ((c.tc : Thread Cert.AdamRows0Ideal.nD Cert.AdamRows0Ideal.τ).loc Cert.AdamRows0Ideal.main_arg4)
          ∧ r.2.mem ((c.tc : Thread Cert.AdamRows0Ideal.nD Cert.AdamRows0Ideal.τ).loc Cert.AdamRows0Ideal.main_arg5) = m ((c.tc : Thread Cert.AdamRows0Ideal.nD Cert.AdamRows0Ideal.τ).loc Cert.AdamRows0Ideal.main_arg5)
          ∧ r.2.mem ((c.tc : Thread Cert.AdamRows0Ideal.nD Cert.AdamRows0Ideal.τ).loc Cert.AdamRows0Ideal.main_arg6) = m ((c.tc : Thread Cert.AdamRows0Ideal.nD Cert.AdamRows0Ideal.τ).loc Cert.AdamRows0Ideal.main_arg6)
          ∧ r.2.mem ((c.tc : Thread Cert.AdamRows0Ideal.nD Cert.AdamRows0Ideal.τ).loc Cert.AdamRows0Ideal.main_arg7) = m ((c.tc : Thread Cert.AdamRows0Ideal.nD Cert.AdamRows0Ideal.τ).loc Cert.AdamRows0Ideal.main_arg7))
      ∧ θ_run (Cert.AdamRows0RefIdeal.defs (F := Ideal)) (onTc (τ := Cert.AdamRows0RefIdeal.τ) (Cert.AdamRows0RefIdeal.main (F := Ideal))) ⟨m', fun _ => 0, g'⟩ (fun r => ∀ c : Dev Cert.AdamRows0RefIdeal.nD,
          r.2.mem ((c.tc : Thread Cert.AdamRows0RefIdeal.nD Cert.AdamRows0RefIdeal.τ).loc Cert.AdamRows0RefIdeal.main_v29) = v0 c
          ∧ r.2.mem ((c.tc : Thread Cert.AdamRows0RefIdeal.nD Cert.AdamRows0RefIdeal.τ).loc Cert.AdamRows0RefIdeal.main_v30) = v1 c
          ∧ r.2.mem ((c.tc : Thread Cert.AdamRows0RefIdeal.nD Cert.AdamRows0RefIdeal.τ).loc Cert.AdamRows0RefIdeal.main_v31) = v2 c
          ∧ r.2.mem ((c.tc : Thread Cert.AdamRows0RefIdeal.nD Cert.AdamRows0RefIdeal.τ).loc Cert.AdamRows0RefIdeal.main_v32) = v3 c
          ∧ r.2.mem ((c.tc : Thread Cert.AdamRows0RefIdeal.nD Cert.AdamRows0RefIdeal.τ).loc Cert.AdamRows0RefIdeal.main_arg0) = m' ((c.tc : Thread Cert.AdamRows0RefIdeal.nD Cert.AdamRows0RefIdeal.τ).loc Cert.AdamRows0RefIdeal.main_arg0)
          ∧ r.2.mem ((c.tc : Thread Cert.AdamRows0RefIdeal.nD Cert.AdamRows0RefIdeal.τ).loc Cert.AdamRows0RefIdeal.main_arg1) = m' ((c.tc : Thread Cert.AdamRows0RefIdeal.nD Cert.AdamRows0RefIdeal.τ).loc Cert.AdamRows0RefIdeal.main_arg1)
          ∧ r.2.mem ((c.tc : Thread Cert.AdamRows0RefIdeal.nD Cert.AdamRows0RefIdeal.τ).loc Cert.AdamRows0RefIdeal.main_arg2) = m' ((c.tc : Thread Cert.AdamRows0RefIdeal.nD Cert.AdamRows0RefIdeal.τ).loc Cert.AdamRows0RefIdeal.main_arg2)
          ∧ r.2.mem ((c.tc : Thread Cert.AdamRows0RefIdeal.nD Cert.AdamRows0RefIdeal.τ).loc Cert.AdamRows0RefIdeal.main_arg3) = m' ((c.tc : Thread Cert.AdamRows0RefIdeal.nD Cert.AdamRows0RefIdeal.τ).loc Cert.AdamRows0RefIdeal.main_arg3)
          ∧ r.2.mem ((c.tc : Thread Cert.AdamRows0RefIdeal.nD Cert.AdamRows0RefIdeal.τ).loc Cert.AdamRows0RefIdeal.main_arg4) = m' ((c.tc : Thread Cert.AdamRows0RefIdeal.nD Cert.AdamRows0RefIdeal.τ).loc Cert.AdamRows0RefIdeal.main_arg4)
          ∧ r.2.mem ((c.tc : Thread Cert.AdamRows0RefIdeal.nD Cert.AdamRows0RefIdeal.τ).loc Cert.AdamRows0RefIdeal.main_arg5) = m' ((c.tc : Thread Cert.AdamRows0RefIdeal.nD Cert.AdamRows0RefIdeal.τ).loc Cert.AdamRows0RefIdeal.main_arg5)
          ∧ r.2.mem ((c.tc : Thread Cert.AdamRows0RefIdeal.nD Cert.AdamRows0RefIdeal.τ).loc Cert.AdamRows0RefIdeal.main_arg6) = m' ((c.tc : Thread Cert.AdamRows0RefIdeal.nD Cert.AdamRows0RefIdeal.τ).loc Cert.AdamRows0RefIdeal.main_arg6)
          ∧ r.2.mem ((c.tc : Thread Cert.AdamRows0RefIdeal.nD Cert.AdamRows0RefIdeal.τ).loc Cert.AdamRows0RefIdeal.main_arg7) = m' ((c.tc : Thread Cert.AdamRows0RefIdeal.nD Cert.AdamRows0RefIdeal.τ).loc Cert.AdamRows0RefIdeal.main_arg7))

def preserves_AdamRows1_AdamRows1Ideal : Prop :=
  True

def algebraic_AdamRows1Ideal_AdamRows1RefIdeal [hAdamRows1Ideal : Cert.AdamRows1Ideal.Facts] [hAdamRows1RefIdeal : Cert.AdamRows1RefIdeal.Facts] : Prop :=
  ∀ (m : (ℓ : Loc Cert.AdamRows1Ideal.nD Cert.AdamRows1Ideal.τ Cert.AdamRows1Ideal.sig) → Buf (Elt Ideal) ℓ) (g : Dev Cert.AdamRows1Ideal.nD → PrngReg)
    (m' : (ℓ : Loc Cert.AdamRows1RefIdeal.nD Cert.AdamRows1RefIdeal.τ Cert.AdamRows1RefIdeal.sig) → Buf (Elt Ideal) ℓ) (g' : Dev Cert.AdamRows1RefIdeal.nD → PrngReg), Pre_AdamRows1Ideal m →
    (∀ c : Dev Cert.AdamRows1Ideal.nD,
      m' ((c.tc : Thread Cert.AdamRows1RefIdeal.nD Cert.AdamRows1RefIdeal.τ).loc Cert.AdamRows1RefIdeal.main_arg0) = m ((c.tc : Thread Cert.AdamRows1Ideal.nD Cert.AdamRows1Ideal.τ).loc Cert.AdamRows1Ideal.main_arg0)
      ∧ m' ((c.tc : Thread Cert.AdamRows1RefIdeal.nD Cert.AdamRows1RefIdeal.τ).loc Cert.AdamRows1RefIdeal.main_arg1) = m ((c.tc : Thread Cert.AdamRows1Ideal.nD Cert.AdamRows1Ideal.τ).loc Cert.AdamRows1Ideal.main_arg1)
      ∧ m' ((c.tc : Thread Cert.AdamRows1RefIdeal.nD Cert.AdamRows1RefIdeal.τ).loc Cert.AdamRows1RefIdeal.main_arg2) = m ((c.tc : Thread Cert.AdamRows1Ideal.nD Cert.AdamRows1Ideal.τ).loc Cert.AdamRows1Ideal.main_arg2)
      ∧ m' ((c.tc : Thread Cert.AdamRows1RefIdeal.nD Cert.AdamRows1RefIdeal.τ).loc Cert.AdamRows1RefIdeal.main_arg3) = m ((c.tc : Thread Cert.AdamRows1Ideal.nD Cert.AdamRows1Ideal.τ).loc Cert.AdamRows1Ideal.main_arg3)
      ∧ m' ((c.tc : Thread Cert.AdamRows1RefIdeal.nD Cert.AdamRows1RefIdeal.τ).loc Cert.AdamRows1RefIdeal.main_arg4) = m ((c.tc : Thread Cert.AdamRows1Ideal.nD Cert.AdamRows1Ideal.τ).loc Cert.AdamRows1Ideal.main_arg4)
      ∧ m' ((c.tc : Thread Cert.AdamRows1RefIdeal.nD Cert.AdamRows1RefIdeal.τ).loc Cert.AdamRows1RefIdeal.main_arg5) = m ((c.tc : Thread Cert.AdamRows1Ideal.nD Cert.AdamRows1Ideal.τ).loc Cert.AdamRows1Ideal.main_arg5)
      ∧ m' ((c.tc : Thread Cert.AdamRows1RefIdeal.nD Cert.AdamRows1RefIdeal.τ).loc Cert.AdamRows1RefIdeal.main_arg6) = m ((c.tc : Thread Cert.AdamRows1Ideal.nD Cert.AdamRows1Ideal.τ).loc Cert.AdamRows1Ideal.main_arg6)
      ∧ m' ((c.tc : Thread Cert.AdamRows1RefIdeal.nD Cert.AdamRows1RefIdeal.τ).loc Cert.AdamRows1RefIdeal.main_arg7) = m ((c.tc : Thread Cert.AdamRows1Ideal.nD Cert.AdamRows1Ideal.τ).loc Cert.AdamRows1Ideal.main_arg7)) →
    ∃ (v0 : (c : Dev Cert.AdamRows1Ideal.nD) → Buf (Elt Ideal) ((c.tc : Thread Cert.AdamRows1Ideal.nD Cert.AdamRows1Ideal.τ).loc Cert.AdamRows1Ideal.main_v0_0)) (v1 : (c : Dev Cert.AdamRows1Ideal.nD) → Buf (Elt Ideal) ((c.tc : Thread Cert.AdamRows1Ideal.nD Cert.AdamRows1Ideal.τ).loc Cert.AdamRows1Ideal.main_v0_1)) (v2 : (c : Dev Cert.AdamRows1Ideal.nD) → Buf (Elt Ideal) ((c.tc : Thread Cert.AdamRows1Ideal.nD Cert.AdamRows1Ideal.τ).loc Cert.AdamRows1Ideal.main_v0_2)) (v3 : (c : Dev Cert.AdamRows1Ideal.nD) → Buf (Elt Ideal) ((c.tc : Thread Cert.AdamRows1Ideal.nD Cert.AdamRows1Ideal.τ).loc Cert.AdamRows1Ideal.main_v0_3)),
      θ_run (Cert.AdamRows1Ideal.defs (F := Ideal)) (onTc (τ := Cert.AdamRows1Ideal.τ) (Cert.AdamRows1Ideal.main (F := Ideal))) ⟨m, fun _ => 0, g⟩ (fun r => ∀ c : Dev Cert.AdamRows1Ideal.nD,
          r.2.mem ((c.tc : Thread Cert.AdamRows1Ideal.nD Cert.AdamRows1Ideal.τ).loc Cert.AdamRows1Ideal.main_v0_0) = v0 c
          ∧ r.2.mem ((c.tc : Thread Cert.AdamRows1Ideal.nD Cert.AdamRows1Ideal.τ).loc Cert.AdamRows1Ideal.main_v0_1) = v1 c
          ∧ r.2.mem ((c.tc : Thread Cert.AdamRows1Ideal.nD Cert.AdamRows1Ideal.τ).loc Cert.AdamRows1Ideal.main_v0_2) = v2 c
          ∧ r.2.mem ((c.tc : Thread Cert.AdamRows1Ideal.nD Cert.AdamRows1Ideal.τ).loc Cert.AdamRows1Ideal.main_v0_3) = v3 c
          ∧ r.2.mem ((c.tc : Thread Cert.AdamRows1Ideal.nD Cert.AdamRows1Ideal.τ).loc Cert.AdamRows1Ideal.main_arg0) = m ((c.tc : Thread Cert.AdamRows1Ideal.nD Cert.AdamRows1Ideal.τ).loc Cert.AdamRows1Ideal.main_arg0)
          ∧ r.2.mem ((c.tc : Thread Cert.AdamRows1Ideal.nD Cert.AdamRows1Ideal.τ).loc Cert.AdamRows1Ideal.main_arg1) = m ((c.tc : Thread Cert.AdamRows1Ideal.nD Cert.AdamRows1Ideal.τ).loc Cert.AdamRows1Ideal.main_arg1)
          ∧ r.2.mem ((c.tc : Thread Cert.AdamRows1Ideal.nD Cert.AdamRows1Ideal.τ).loc Cert.AdamRows1Ideal.main_arg2) = m ((c.tc : Thread Cert.AdamRows1Ideal.nD Cert.AdamRows1Ideal.τ).loc Cert.AdamRows1Ideal.main_arg2)
          ∧ r.2.mem ((c.tc : Thread Cert.AdamRows1Ideal.nD Cert.AdamRows1Ideal.τ).loc Cert.AdamRows1Ideal.main_arg3) = m ((c.tc : Thread Cert.AdamRows1Ideal.nD Cert.AdamRows1Ideal.τ).loc Cert.AdamRows1Ideal.main_arg3)
          ∧ r.2.mem ((c.tc : Thread Cert.AdamRows1Ideal.nD Cert.AdamRows1Ideal.τ).loc Cert.AdamRows1Ideal.main_arg4) = m ((c.tc : Thread Cert.AdamRows1Ideal.nD Cert.AdamRows1Ideal.τ).loc Cert.AdamRows1Ideal.main_arg4)
          ∧ r.2.mem ((c.tc : Thread Cert.AdamRows1Ideal.nD Cert.AdamRows1Ideal.τ).loc Cert.AdamRows1Ideal.main_arg5) = m ((c.tc : Thread Cert.AdamRows1Ideal.nD Cert.AdamRows1Ideal.τ).loc Cert.AdamRows1Ideal.main_arg5)
          ∧ r.2.mem ((c.tc : Thread Cert.AdamRows1Ideal.nD Cert.AdamRows1Ideal.τ).loc Cert.AdamRows1Ideal.main_arg6) = m ((c.tc : Thread Cert.AdamRows1Ideal.nD Cert.AdamRows1Ideal.τ).loc Cert.AdamRows1Ideal.main_arg6)
          ∧ r.2.mem ((c.tc : Thread Cert.AdamRows1Ideal.nD Cert.AdamRows1Ideal.τ).loc Cert.AdamRows1Ideal.main_arg7) = m ((c.tc : Thread Cert.AdamRows1Ideal.nD Cert.AdamRows1Ideal.τ).loc Cert.AdamRows1Ideal.main_arg7))
      ∧ θ_run (Cert.AdamRows1RefIdeal.defs (F := Ideal)) (onTc (τ := Cert.AdamRows1RefIdeal.τ) (Cert.AdamRows1RefIdeal.main (F := Ideal))) ⟨m', fun _ => 0, g'⟩ (fun r => ∀ c : Dev Cert.AdamRows1RefIdeal.nD,
          r.2.mem ((c.tc : Thread Cert.AdamRows1RefIdeal.nD Cert.AdamRows1RefIdeal.τ).loc Cert.AdamRows1RefIdeal.main_v29) = v0 c
          ∧ r.2.mem ((c.tc : Thread Cert.AdamRows1RefIdeal.nD Cert.AdamRows1RefIdeal.τ).loc Cert.AdamRows1RefIdeal.main_v30) = v1 c
          ∧ r.2.mem ((c.tc : Thread Cert.AdamRows1RefIdeal.nD Cert.AdamRows1RefIdeal.τ).loc Cert.AdamRows1RefIdeal.main_v31) = v2 c
          ∧ r.2.mem ((c.tc : Thread Cert.AdamRows1RefIdeal.nD Cert.AdamRows1RefIdeal.τ).loc Cert.AdamRows1RefIdeal.main_v32) = v3 c
          ∧ r.2.mem ((c.tc : Thread Cert.AdamRows1RefIdeal.nD Cert.AdamRows1RefIdeal.τ).loc Cert.AdamRows1RefIdeal.main_arg0) = m' ((c.tc : Thread Cert.AdamRows1RefIdeal.nD Cert.AdamRows1RefIdeal.τ).loc Cert.AdamRows1RefIdeal.main_arg0)
          ∧ r.2.mem ((c.tc : Thread Cert.AdamRows1RefIdeal.nD Cert.AdamRows1RefIdeal.τ).loc Cert.AdamRows1RefIdeal.main_arg1) = m' ((c.tc : Thread Cert.AdamRows1RefIdeal.nD Cert.AdamRows1RefIdeal.τ).loc Cert.AdamRows1RefIdeal.main_arg1)
          ∧ r.2.mem ((c.tc : Thread Cert.AdamRows1RefIdeal.nD Cert.AdamRows1RefIdeal.τ).loc Cert.AdamRows1RefIdeal.main_arg2) = m' ((c.tc : Thread Cert.AdamRows1RefIdeal.nD Cert.AdamRows1RefIdeal.τ).loc Cert.AdamRows1RefIdeal.main_arg2)
          ∧ r.2.mem ((c.tc : Thread Cert.AdamRows1RefIdeal.nD Cert.AdamRows1RefIdeal.τ).loc Cert.AdamRows1RefIdeal.main_arg3) = m' ((c.tc : Thread Cert.AdamRows1RefIdeal.nD Cert.AdamRows1RefIdeal.τ).loc Cert.AdamRows1RefIdeal.main_arg3)
          ∧ r.2.mem ((c.tc : Thread Cert.AdamRows1RefIdeal.nD Cert.AdamRows1RefIdeal.τ).loc Cert.AdamRows1RefIdeal.main_arg4) = m' ((c.tc : Thread Cert.AdamRows1RefIdeal.nD Cert.AdamRows1RefIdeal.τ).loc Cert.AdamRows1RefIdeal.main_arg4)
          ∧ r.2.mem ((c.tc : Thread Cert.AdamRows1RefIdeal.nD Cert.AdamRows1RefIdeal.τ).loc Cert.AdamRows1RefIdeal.main_arg5) = m' ((c.tc : Thread Cert.AdamRows1RefIdeal.nD Cert.AdamRows1RefIdeal.τ).loc Cert.AdamRows1RefIdeal.main_arg5)
          ∧ r.2.mem ((c.tc : Thread Cert.AdamRows1RefIdeal.nD Cert.AdamRows1RefIdeal.τ).loc Cert.AdamRows1RefIdeal.main_arg6) = m' ((c.tc : Thread Cert.AdamRows1RefIdeal.nD Cert.AdamRows1RefIdeal.τ).loc Cert.AdamRows1RefIdeal.main_arg6)
          ∧ r.2.mem ((c.tc : Thread Cert.AdamRows1RefIdeal.nD Cert.AdamRows1RefIdeal.τ).loc Cert.AdamRows1RefIdeal.main_arg7) = m' ((c.tc : Thread Cert.AdamRows1RefIdeal.nD Cert.AdamRows1RefIdeal.τ).loc Cert.AdamRows1RefIdeal.main_arg7))

def preserves_AdamCols0_AdamCols0Ideal : Prop :=
  True

def algebraic_AdamCols0Ideal_AdamCols0RefIdeal [hAdamCols0Ideal : Cert.AdamCols0Ideal.Facts] [hAdamCols0RefIdeal : Cert.AdamCols0RefIdeal.Facts] : Prop :=
  ∀ (m : (ℓ : Loc Cert.AdamCols0Ideal.nD Cert.AdamCols0Ideal.τ Cert.AdamCols0Ideal.sig) → Buf (Elt Ideal) ℓ) (g : Dev Cert.AdamCols0Ideal.nD → PrngReg)
    (m' : (ℓ : Loc Cert.AdamCols0RefIdeal.nD Cert.AdamCols0RefIdeal.τ Cert.AdamCols0RefIdeal.sig) → Buf (Elt Ideal) ℓ) (g' : Dev Cert.AdamCols0RefIdeal.nD → PrngReg), Pre_AdamCols0Ideal m →
    (∀ c : Dev Cert.AdamCols0Ideal.nD,
      m' ((c.tc : Thread Cert.AdamCols0RefIdeal.nD Cert.AdamCols0RefIdeal.τ).loc Cert.AdamCols0RefIdeal.main_arg0) = m ((c.tc : Thread Cert.AdamCols0Ideal.nD Cert.AdamCols0Ideal.τ).loc Cert.AdamCols0Ideal.main_arg0)
      ∧ m' ((c.tc : Thread Cert.AdamCols0RefIdeal.nD Cert.AdamCols0RefIdeal.τ).loc Cert.AdamCols0RefIdeal.main_arg1) = m ((c.tc : Thread Cert.AdamCols0Ideal.nD Cert.AdamCols0Ideal.τ).loc Cert.AdamCols0Ideal.main_arg1)
      ∧ m' ((c.tc : Thread Cert.AdamCols0RefIdeal.nD Cert.AdamCols0RefIdeal.τ).loc Cert.AdamCols0RefIdeal.main_arg2) = m ((c.tc : Thread Cert.AdamCols0Ideal.nD Cert.AdamCols0Ideal.τ).loc Cert.AdamCols0Ideal.main_arg2)
      ∧ m' ((c.tc : Thread Cert.AdamCols0RefIdeal.nD Cert.AdamCols0RefIdeal.τ).loc Cert.AdamCols0RefIdeal.main_arg3) = m ((c.tc : Thread Cert.AdamCols0Ideal.nD Cert.AdamCols0Ideal.τ).loc Cert.AdamCols0Ideal.main_arg3)
      ∧ m' ((c.tc : Thread Cert.AdamCols0RefIdeal.nD Cert.AdamCols0RefIdeal.τ).loc Cert.AdamCols0RefIdeal.main_arg4) = m ((c.tc : Thread Cert.AdamCols0Ideal.nD Cert.AdamCols0Ideal.τ).loc Cert.AdamCols0Ideal.main_arg4)
      ∧ m' ((c.tc : Thread Cert.AdamCols0RefIdeal.nD Cert.AdamCols0RefIdeal.τ).loc Cert.AdamCols0RefIdeal.main_arg5) = m ((c.tc : Thread Cert.AdamCols0Ideal.nD Cert.AdamCols0Ideal.τ).loc Cert.AdamCols0Ideal.main_arg5)
      ∧ m' ((c.tc : Thread Cert.AdamCols0RefIdeal.nD Cert.AdamCols0RefIdeal.τ).loc Cert.AdamCols0RefIdeal.main_arg6) = m ((c.tc : Thread Cert.AdamCols0Ideal.nD Cert.AdamCols0Ideal.τ).loc Cert.AdamCols0Ideal.main_arg6)
      ∧ m' ((c.tc : Thread Cert.AdamCols0RefIdeal.nD Cert.AdamCols0RefIdeal.τ).loc Cert.AdamCols0RefIdeal.main_arg7) = m ((c.tc : Thread Cert.AdamCols0Ideal.nD Cert.AdamCols0Ideal.τ).loc Cert.AdamCols0Ideal.main_arg7)) →
    ∃ (v0 : (c : Dev Cert.AdamCols0Ideal.nD) → Buf (Elt Ideal) ((c.tc : Thread Cert.AdamCols0Ideal.nD Cert.AdamCols0Ideal.τ).loc Cert.AdamCols0Ideal.main_v0_0)) (v1 : (c : Dev Cert.AdamCols0Ideal.nD) → Buf (Elt Ideal) ((c.tc : Thread Cert.AdamCols0Ideal.nD Cert.AdamCols0Ideal.τ).loc Cert.AdamCols0Ideal.main_v0_1)) (v2 : (c : Dev Cert.AdamCols0Ideal.nD) → Buf (Elt Ideal) ((c.tc : Thread Cert.AdamCols0Ideal.nD Cert.AdamCols0Ideal.τ).loc Cert.AdamCols0Ideal.main_v0_2)) (v3 : (c : Dev Cert.AdamCols0Ideal.nD) → Buf (Elt Ideal) ((c.tc : Thread Cert.AdamCols0Ideal.nD Cert.AdamCols0Ideal.τ).loc Cert.AdamCols0Ideal.main_v0_3)),
      θ_run (Cert.AdamCols0Ideal.defs (F := Ideal)) (onTc (τ := Cert.AdamCols0Ideal.τ) (Cert.AdamCols0Ideal.main (F := Ideal))) ⟨m, fun _ => 0, g⟩ (fun r => ∀ c : Dev Cert.AdamCols0Ideal.nD,
          r.2.mem ((c.tc : Thread Cert.AdamCols0Ideal.nD Cert.AdamCols0Ideal.τ).loc Cert.AdamCols0Ideal.main_v0_0) = v0 c
          ∧ r.2.mem ((c.tc : Thread Cert.AdamCols0Ideal.nD Cert.AdamCols0Ideal.τ).loc Cert.AdamCols0Ideal.main_v0_1) = v1 c
          ∧ r.2.mem ((c.tc : Thread Cert.AdamCols0Ideal.nD Cert.AdamCols0Ideal.τ).loc Cert.AdamCols0Ideal.main_v0_2) = v2 c
          ∧ r.2.mem ((c.tc : Thread Cert.AdamCols0Ideal.nD Cert.AdamCols0Ideal.τ).loc Cert.AdamCols0Ideal.main_v0_3) = v3 c
          ∧ r.2.mem ((c.tc : Thread Cert.AdamCols0Ideal.nD Cert.AdamCols0Ideal.τ).loc Cert.AdamCols0Ideal.main_arg0) = m ((c.tc : Thread Cert.AdamCols0Ideal.nD Cert.AdamCols0Ideal.τ).loc Cert.AdamCols0Ideal.main_arg0)
          ∧ r.2.mem ((c.tc : Thread Cert.AdamCols0Ideal.nD Cert.AdamCols0Ideal.τ).loc Cert.AdamCols0Ideal.main_arg1) = m ((c.tc : Thread Cert.AdamCols0Ideal.nD Cert.AdamCols0Ideal.τ).loc Cert.AdamCols0Ideal.main_arg1)
          ∧ r.2.mem ((c.tc : Thread Cert.AdamCols0Ideal.nD Cert.AdamCols0Ideal.τ).loc Cert.AdamCols0Ideal.main_arg2) = m ((c.tc : Thread Cert.AdamCols0Ideal.nD Cert.AdamCols0Ideal.τ).loc Cert.AdamCols0Ideal.main_arg2)
          ∧ r.2.mem ((c.tc : Thread Cert.AdamCols0Ideal.nD Cert.AdamCols0Ideal.τ).loc Cert.AdamCols0Ideal.main_arg3) = m ((c.tc : Thread Cert.AdamCols0Ideal.nD Cert.AdamCols0Ideal.τ).loc Cert.AdamCols0Ideal.main_arg3)
          ∧ r.2.mem ((c.tc : Thread Cert.AdamCols0Ideal.nD Cert.AdamCols0Ideal.τ).loc Cert.AdamCols0Ideal.main_arg4) = m ((c.tc : Thread Cert.AdamCols0Ideal.nD Cert.AdamCols0Ideal.τ).loc Cert.AdamCols0Ideal.main_arg4)
          ∧ r.2.mem ((c.tc : Thread Cert.AdamCols0Ideal.nD Cert.AdamCols0Ideal.τ).loc Cert.AdamCols0Ideal.main_arg5) = m ((c.tc : Thread Cert.AdamCols0Ideal.nD Cert.AdamCols0Ideal.τ).loc Cert.AdamCols0Ideal.main_arg5)
          ∧ r.2.mem ((c.tc : Thread Cert.AdamCols0Ideal.nD Cert.AdamCols0Ideal.τ).loc Cert.AdamCols0Ideal.main_arg6) = m ((c.tc : Thread Cert.AdamCols0Ideal.nD Cert.AdamCols0Ideal.τ).loc Cert.AdamCols0Ideal.main_arg6)
          ∧ r.2.mem ((c.tc : Thread Cert.AdamCols0Ideal.nD Cert.AdamCols0Ideal.τ).loc Cert.AdamCols0Ideal.main_arg7) = m ((c.tc : Thread Cert.AdamCols0Ideal.nD Cert.AdamCols0Ideal.τ).loc Cert.AdamCols0Ideal.main_arg7))
      ∧ θ_run (Cert.AdamCols0RefIdeal.defs (F := Ideal)) (onTc (τ := Cert.AdamCols0RefIdeal.τ) (Cert.AdamCols0RefIdeal.main (F := Ideal))) ⟨m', fun _ => 0, g'⟩ (fun r => ∀ c : Dev Cert.AdamCols0RefIdeal.nD,
          r.2.mem ((c.tc : Thread Cert.AdamCols0RefIdeal.nD Cert.AdamCols0RefIdeal.τ).loc Cert.AdamCols0RefIdeal.main_v29) = v0 c
          ∧ r.2.mem ((c.tc : Thread Cert.AdamCols0RefIdeal.nD Cert.AdamCols0RefIdeal.τ).loc Cert.AdamCols0RefIdeal.main_v30) = v1 c
          ∧ r.2.mem ((c.tc : Thread Cert.AdamCols0RefIdeal.nD Cert.AdamCols0RefIdeal.τ).loc Cert.AdamCols0RefIdeal.main_v31) = v2 c
          ∧ r.2.mem ((c.tc : Thread Cert.AdamCols0RefIdeal.nD Cert.AdamCols0RefIdeal.τ).loc Cert.AdamCols0RefIdeal.main_v32) = v3 c
          ∧ r.2.mem ((c.tc : Thread Cert.AdamCols0RefIdeal.nD Cert.AdamCols0RefIdeal.τ).loc Cert.AdamCols0RefIdeal.main_arg0) = m' ((c.tc : Thread Cert.AdamCols0RefIdeal.nD Cert.AdamCols0RefIdeal.τ).loc Cert.AdamCols0RefIdeal.main_arg0)
          ∧ r.2.mem ((c.tc : Thread Cert.AdamCols0RefIdeal.nD Cert.AdamCols0RefIdeal.τ).loc Cert.AdamCols0RefIdeal.main_arg1) = m' ((c.tc : Thread Cert.AdamCols0RefIdeal.nD Cert.AdamCols0RefIdeal.τ).loc Cert.AdamCols0RefIdeal.main_arg1)
          ∧ r.2.mem ((c.tc : Thread Cert.AdamCols0RefIdeal.nD Cert.AdamCols0RefIdeal.τ).loc Cert.AdamCols0RefIdeal.main_arg2) = m' ((c.tc : Thread Cert.AdamCols0RefIdeal.nD Cert.AdamCols0RefIdeal.τ).loc Cert.AdamCols0RefIdeal.main_arg2)
          ∧ r.2.mem ((c.tc : Thread Cert.AdamCols0RefIdeal.nD Cert.AdamCols0RefIdeal.τ).loc Cert.AdamCols0RefIdeal.main_arg3) = m' ((c.tc : Thread Cert.AdamCols0RefIdeal.nD Cert.AdamCols0RefIdeal.τ).loc Cert.AdamCols0RefIdeal.main_arg3)
          ∧ r.2.mem ((c.tc : Thread Cert.AdamCols0RefIdeal.nD Cert.AdamCols0RefIdeal.τ).loc Cert.AdamCols0RefIdeal.main_arg4) = m' ((c.tc : Thread Cert.AdamCols0RefIdeal.nD Cert.AdamCols0RefIdeal.τ).loc Cert.AdamCols0RefIdeal.main_arg4)
          ∧ r.2.mem ((c.tc : Thread Cert.AdamCols0RefIdeal.nD Cert.AdamCols0RefIdeal.τ).loc Cert.AdamCols0RefIdeal.main_arg5) = m' ((c.tc : Thread Cert.AdamCols0RefIdeal.nD Cert.AdamCols0RefIdeal.τ).loc Cert.AdamCols0RefIdeal.main_arg5)
          ∧ r.2.mem ((c.tc : Thread Cert.AdamCols0RefIdeal.nD Cert.AdamCols0RefIdeal.τ).loc Cert.AdamCols0RefIdeal.main_arg6) = m' ((c.tc : Thread Cert.AdamCols0RefIdeal.nD Cert.AdamCols0RefIdeal.τ).loc Cert.AdamCols0RefIdeal.main_arg6)
          ∧ r.2.mem ((c.tc : Thread Cert.AdamCols0RefIdeal.nD Cert.AdamCols0RefIdeal.τ).loc Cert.AdamCols0RefIdeal.main_arg7) = m' ((c.tc : Thread Cert.AdamCols0RefIdeal.nD Cert.AdamCols0RefIdeal.τ).loc Cert.AdamCols0RefIdeal.main_arg7))

def preserves_AdamCols1_AdamCols1Ideal : Prop :=
  True

def algebraic_AdamCols1Ideal_AdamCols1RefIdeal [hAdamCols1Ideal : Cert.AdamCols1Ideal.Facts] [hAdamCols1RefIdeal : Cert.AdamCols1RefIdeal.Facts] : Prop :=
  ∀ (m : (ℓ : Loc Cert.AdamCols1Ideal.nD Cert.AdamCols1Ideal.τ Cert.AdamCols1Ideal.sig) → Buf (Elt Ideal) ℓ) (g : Dev Cert.AdamCols1Ideal.nD → PrngReg)
    (m' : (ℓ : Loc Cert.AdamCols1RefIdeal.nD Cert.AdamCols1RefIdeal.τ Cert.AdamCols1RefIdeal.sig) → Buf (Elt Ideal) ℓ) (g' : Dev Cert.AdamCols1RefIdeal.nD → PrngReg), Pre_AdamCols1Ideal m →
    (∀ c : Dev Cert.AdamCols1Ideal.nD,
      m' ((c.tc : Thread Cert.AdamCols1RefIdeal.nD Cert.AdamCols1RefIdeal.τ).loc Cert.AdamCols1RefIdeal.main_arg0) = m ((c.tc : Thread Cert.AdamCols1Ideal.nD Cert.AdamCols1Ideal.τ).loc Cert.AdamCols1Ideal.main_arg0)
      ∧ m' ((c.tc : Thread Cert.AdamCols1RefIdeal.nD Cert.AdamCols1RefIdeal.τ).loc Cert.AdamCols1RefIdeal.main_arg1) = m ((c.tc : Thread Cert.AdamCols1Ideal.nD Cert.AdamCols1Ideal.τ).loc Cert.AdamCols1Ideal.main_arg1)
      ∧ m' ((c.tc : Thread Cert.AdamCols1RefIdeal.nD Cert.AdamCols1RefIdeal.τ).loc Cert.AdamCols1RefIdeal.main_arg2) = m ((c.tc : Thread Cert.AdamCols1Ideal.nD Cert.AdamCols1Ideal.τ).loc Cert.AdamCols1Ideal.main_arg2)
      ∧ m' ((c.tc : Thread Cert.AdamCols1RefIdeal.nD Cert.AdamCols1RefIdeal.τ).loc Cert.AdamCols1RefIdeal.main_arg3) = m ((c.tc : Thread Cert.AdamCols1Ideal.nD Cert.AdamCols1Ideal.τ).loc Cert.AdamCols1Ideal.main_arg3)
      ∧ m' ((c.tc : Thread Cert.AdamCols1RefIdeal.nD Cert.AdamCols1RefIdeal.τ).loc Cert.AdamCols1RefIdeal.main_arg4) = m ((c.tc : Thread Cert.AdamCols1Ideal.nD Cert.AdamCols1Ideal.τ).loc Cert.AdamCols1Ideal.main_arg4)
      ∧ m' ((c.tc : Thread Cert.AdamCols1RefIdeal.nD Cert.AdamCols1RefIdeal.τ).loc Cert.AdamCols1RefIdeal.main_arg5) = m ((c.tc : Thread Cert.AdamCols1Ideal.nD Cert.AdamCols1Ideal.τ).loc Cert.AdamCols1Ideal.main_arg5)
      ∧ m' ((c.tc : Thread Cert.AdamCols1RefIdeal.nD Cert.AdamCols1RefIdeal.τ).loc Cert.AdamCols1RefIdeal.main_arg6) = m ((c.tc : Thread Cert.AdamCols1Ideal.nD Cert.AdamCols1Ideal.τ).loc Cert.AdamCols1Ideal.main_arg6)
      ∧ m' ((c.tc : Thread Cert.AdamCols1RefIdeal.nD Cert.AdamCols1RefIdeal.τ).loc Cert.AdamCols1RefIdeal.main_arg7) = m ((c.tc : Thread Cert.AdamCols1Ideal.nD Cert.AdamCols1Ideal.τ).loc Cert.AdamCols1Ideal.main_arg7)) →
    ∃ (v0 : (c : Dev Cert.AdamCols1Ideal.nD) → Buf (Elt Ideal) ((c.tc : Thread Cert.AdamCols1Ideal.nD Cert.AdamCols1Ideal.τ).loc Cert.AdamCols1Ideal.main_v0_0)) (v1 : (c : Dev Cert.AdamCols1Ideal.nD) → Buf (Elt Ideal) ((c.tc : Thread Cert.AdamCols1Ideal.nD Cert.AdamCols1Ideal.τ).loc Cert.AdamCols1Ideal.main_v0_1)) (v2 : (c : Dev Cert.AdamCols1Ideal.nD) → Buf (Elt Ideal) ((c.tc : Thread Cert.AdamCols1Ideal.nD Cert.AdamCols1Ideal.τ).loc Cert.AdamCols1Ideal.main_v0_2)) (v3 : (c : Dev Cert.AdamCols1Ideal.nD) → Buf (Elt Ideal) ((c.tc : Thread Cert.AdamCols1Ideal.nD Cert.AdamCols1Ideal.τ).loc Cert.AdamCols1Ideal.main_v0_3)),
      θ_run (Cert.AdamCols1Ideal.defs (F := Ideal)) (onTc (τ := Cert.AdamCols1Ideal.τ) (Cert.AdamCols1Ideal.main (F := Ideal))) ⟨m, fun _ => 0, g⟩ (fun r => ∀ c : Dev Cert.AdamCols1Ideal.nD,
          r.2.mem ((c.tc : Thread Cert.AdamCols1Ideal.nD Cert.AdamCols1Ideal.τ).loc Cert.AdamCols1Ideal.main_v0_0) = v0 c
          ∧ r.2.mem ((c.tc : Thread Cert.AdamCols1Ideal.nD Cert.AdamCols1Ideal.τ).loc Cert.AdamCols1Ideal.main_v0_1) = v1 c
          ∧ r.2.mem ((c.tc : Thread Cert.AdamCols1Ideal.nD Cert.AdamCols1Ideal.τ).loc Cert.AdamCols1Ideal.main_v0_2) = v2 c
          ∧ r.2.mem ((c.tc : Thread Cert.AdamCols1Ideal.nD Cert.AdamCols1Ideal.τ).loc Cert.AdamCols1Ideal.main_v0_3) = v3 c
          ∧ r.2.mem ((c.tc : Thread Cert.AdamCols1Ideal.nD Cert.AdamCols1Ideal.τ).loc Cert.AdamCols1Ideal.main_arg0) = m ((c.tc : Thread Cert.AdamCols1Ideal.nD Cert.AdamCols1Ideal.τ).loc Cert.AdamCols1Ideal.main_arg0)
          ∧ r.2.mem ((c.tc : Thread Cert.AdamCols1Ideal.nD Cert.AdamCols1Ideal.τ).loc Cert.AdamCols1Ideal.main_arg1) = m ((c.tc : Thread Cert.AdamCols1Ideal.nD Cert.AdamCols1Ideal.τ).loc Cert.AdamCols1Ideal.main_arg1)
          ∧ r.2.mem ((c.tc : Thread Cert.AdamCols1Ideal.nD Cert.AdamCols1Ideal.τ).loc Cert.AdamCols1Ideal.main_arg2) = m ((c.tc : Thread Cert.AdamCols1Ideal.nD Cert.AdamCols1Ideal.τ).loc Cert.AdamCols1Ideal.main_arg2)
          ∧ r.2.mem ((c.tc : Thread Cert.AdamCols1Ideal.nD Cert.AdamCols1Ideal.τ).loc Cert.AdamCols1Ideal.main_arg3) = m ((c.tc : Thread Cert.AdamCols1Ideal.nD Cert.AdamCols1Ideal.τ).loc Cert.AdamCols1Ideal.main_arg3)
          ∧ r.2.mem ((c.tc : Thread Cert.AdamCols1Ideal.nD Cert.AdamCols1Ideal.τ).loc Cert.AdamCols1Ideal.main_arg4) = m ((c.tc : Thread Cert.AdamCols1Ideal.nD Cert.AdamCols1Ideal.τ).loc Cert.AdamCols1Ideal.main_arg4)
          ∧ r.2.mem ((c.tc : Thread Cert.AdamCols1Ideal.nD Cert.AdamCols1Ideal.τ).loc Cert.AdamCols1Ideal.main_arg5) = m ((c.tc : Thread Cert.AdamCols1Ideal.nD Cert.AdamCols1Ideal.τ).loc Cert.AdamCols1Ideal.main_arg5)
          ∧ r.2.mem ((c.tc : Thread Cert.AdamCols1Ideal.nD Cert.AdamCols1Ideal.τ).loc Cert.AdamCols1Ideal.main_arg6) = m ((c.tc : Thread Cert.AdamCols1Ideal.nD Cert.AdamCols1Ideal.τ).loc Cert.AdamCols1Ideal.main_arg6)
          ∧ r.2.mem ((c.tc : Thread Cert.AdamCols1Ideal.nD Cert.AdamCols1Ideal.τ).loc Cert.AdamCols1Ideal.main_arg7) = m ((c.tc : Thread Cert.AdamCols1Ideal.nD Cert.AdamCols1Ideal.τ).loc Cert.AdamCols1Ideal.main_arg7))
      ∧ θ_run (Cert.AdamCols1RefIdeal.defs (F := Ideal)) (onTc (τ := Cert.AdamCols1RefIdeal.τ) (Cert.AdamCols1RefIdeal.main (F := Ideal))) ⟨m', fun _ => 0, g'⟩ (fun r => ∀ c : Dev Cert.AdamCols1RefIdeal.nD,
          r.2.mem ((c.tc : Thread Cert.AdamCols1RefIdeal.nD Cert.AdamCols1RefIdeal.τ).loc Cert.AdamCols1RefIdeal.main_v29) = v0 c
          ∧ r.2.mem ((c.tc : Thread Cert.AdamCols1RefIdeal.nD Cert.AdamCols1RefIdeal.τ).loc Cert.AdamCols1RefIdeal.main_v30) = v1 c
          ∧ r.2.mem ((c.tc : Thread Cert.AdamCols1RefIdeal.nD Cert.AdamCols1RefIdeal.τ).loc Cert.AdamCols1RefIdeal.main_v31) = v2 c
          ∧ r.2.mem ((c.tc : Thread Cert.AdamCols1RefIdeal.nD Cert.AdamCols1RefIdeal.τ).loc Cert.AdamCols1RefIdeal.main_v32) = v3 c
          ∧ r.2.mem ((c.tc : Thread Cert.AdamCols1RefIdeal.nD Cert.AdamCols1RefIdeal.τ).loc Cert.AdamCols1RefIdeal.main_arg0) = m' ((c.tc : Thread Cert.AdamCols1RefIdeal.nD Cert.AdamCols1RefIdeal.τ).loc Cert.AdamCols1RefIdeal.main_arg0)
          ∧ r.2.mem ((c.tc : Thread Cert.AdamCols1RefIdeal.nD Cert.AdamCols1RefIdeal.τ).loc Cert.AdamCols1RefIdeal.main_arg1) = m' ((c.tc : Thread Cert.AdamCols1RefIdeal.nD Cert.AdamCols1RefIdeal.τ).loc Cert.AdamCols1RefIdeal.main_arg1)
          ∧ r.2.mem ((c.tc : Thread Cert.AdamCols1RefIdeal.nD Cert.AdamCols1RefIdeal.τ).loc Cert.AdamCols1RefIdeal.main_arg2) = m' ((c.tc : Thread Cert.AdamCols1RefIdeal.nD Cert.AdamCols1RefIdeal.τ).loc Cert.AdamCols1RefIdeal.main_arg2)
          ∧ r.2.mem ((c.tc : Thread Cert.AdamCols1RefIdeal.nD Cert.AdamCols1RefIdeal.τ).loc Cert.AdamCols1RefIdeal.main_arg3) = m' ((c.tc : Thread Cert.AdamCols1RefIdeal.nD Cert.AdamCols1RefIdeal.τ).loc Cert.AdamCols1RefIdeal.main_arg3)
          ∧ r.2.mem ((c.tc : Thread Cert.AdamCols1RefIdeal.nD Cert.AdamCols1RefIdeal.τ).loc Cert.AdamCols1RefIdeal.main_arg4) = m' ((c.tc : Thread Cert.AdamCols1RefIdeal.nD Cert.AdamCols1RefIdeal.τ).loc Cert.AdamCols1RefIdeal.main_arg4)
          ∧ r.2.mem ((c.tc : Thread Cert.AdamCols1RefIdeal.nD Cert.AdamCols1RefIdeal.τ).loc Cert.AdamCols1RefIdeal.main_arg5) = m' ((c.tc : Thread Cert.AdamCols1RefIdeal.nD Cert.AdamCols1RefIdeal.τ).loc Cert.AdamCols1RefIdeal.main_arg5)
          ∧ r.2.mem ((c.tc : Thread Cert.AdamCols1RefIdeal.nD Cert.AdamCols1RefIdeal.τ).loc Cert.AdamCols1RefIdeal.main_arg6) = m' ((c.tc : Thread Cert.AdamCols1RefIdeal.nD Cert.AdamCols1RefIdeal.τ).loc Cert.AdamCols1RefIdeal.main_arg6)
          ∧ r.2.mem ((c.tc : Thread Cert.AdamCols1RefIdeal.nD Cert.AdamCols1RefIdeal.τ).loc Cert.AdamCols1RefIdeal.main_arg7) = m' ((c.tc : Thread Cert.AdamCols1RefIdeal.nD Cert.AdamCols1RefIdeal.τ).loc Cert.AdamCols1RefIdeal.main_arg7))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)
      ∧ m' ((c.tc : Thread Cert.SmallRefIdeal.nD Cert.SmallRefIdeal.τ).loc Cert.SmallRefIdeal.main_arg25) = m ((c.tc : Thread Cert.SmallIdeal.nD Cert.SmallIdeal.τ).loc Cert.SmallIdeal.main_arg25)
      ∧ m' ((c.tc : Thread Cert.SmallRefIdeal.nD Cert.SmallRefIdeal.τ).loc Cert.SmallRefIdeal.main_arg26) = m ((c.tc : Thread Cert.SmallIdeal.nD Cert.SmallIdeal.τ).loc Cert.SmallIdeal.main_arg26)
      ∧ m' ((c.tc : Thread Cert.SmallRefIdeal.nD Cert.SmallRefIdeal.τ).loc Cert.SmallRefIdeal.main_arg27) = m ((c.tc : Thread Cert.SmallIdeal.nD Cert.SmallIdeal.τ).loc Cert.SmallIdeal.main_arg27)
      ∧ m' ((c.tc : Thread Cert.SmallRefIdeal.nD Cert.SmallRefIdeal.τ).loc Cert.SmallRefIdeal.main_arg28) = m ((c.tc : Thread Cert.SmallIdeal.nD Cert.SmallIdeal.τ).loc Cert.SmallIdeal.main_arg28)
      ∧ m' ((c.tc : Thread Cert.SmallRefIdeal.nD Cert.SmallRefIdeal.τ).loc Cert.SmallRefIdeal.main_arg29) = m ((c.tc : Thread Cert.SmallIdeal.nD Cert.SmallIdeal.τ).loc Cert.SmallIdeal.main_arg29)
      ∧ m' ((c.tc : Thread Cert.SmallRefIdeal.nD Cert.SmallRefIdeal.τ).loc Cert.SmallRefIdeal.main_arg30) = m ((c.tc : Thread Cert.SmallIdeal.nD Cert.SmallIdeal.τ).loc Cert.SmallIdeal.main_arg30)
      ∧ m' ((c.tc : Thread Cert.SmallRefIdeal.nD Cert.SmallRefIdeal.τ).loc Cert.SmallRefIdeal.main_arg31) = m ((c.tc : Thread Cert.SmallIdeal.nD Cert.SmallIdeal.τ).loc Cert.SmallIdeal.main_arg31)
      ∧ m' ((c.tc : Thread Cert.SmallRefIdeal.nD Cert.SmallRefIdeal.τ).loc Cert.SmallRefIdeal.main_arg32) = m ((c.tc : Thread Cert.SmallIdeal.nD Cert.SmallIdeal.τ).loc Cert.SmallIdeal.main_arg32)
      ∧ m' ((c.tc : Thread Cert.SmallRefIdeal.nD Cert.SmallRefIdeal.τ).loc Cert.SmallRefIdeal.main_arg33) = m ((c.tc : Thread Cert.SmallIdeal.nD Cert.SmallIdeal.τ).loc Cert.SmallIdeal.main_arg33)
      ∧ m' ((c.tc : Thread Cert.SmallRefIdeal.nD Cert.SmallRefIdeal.τ).loc Cert.SmallRefIdeal.main_arg34) = m ((c.tc : Thread Cert.SmallIdeal.nD Cert.SmallIdeal.τ).loc Cert.SmallIdeal.main_arg34)
      ∧ m' ((c.tc : Thread Cert.SmallRefIdeal.nD Cert.SmallRefIdeal.τ).loc Cert.SmallRefIdeal.main_arg35) = m ((c.tc : Thread Cert.SmallIdeal.nD Cert.SmallIdeal.τ).loc Cert.SmallIdeal.main_arg35)
      ∧ m' ((c.tc : Thread Cert.SmallRefIdeal.nD Cert.SmallRefIdeal.τ).loc Cert.SmallRefIdeal.main_arg36) = m ((c.tc : Thread Cert.SmallIdeal.nD Cert.SmallIdeal.τ).loc Cert.SmallIdeal.main_arg36)
      ∧ m' ((c.tc : Thread Cert.SmallRefIdeal.nD Cert.SmallRefIdeal.τ).loc Cert.SmallRefIdeal.main_arg37) = m ((c.tc : Thread Cert.SmallIdeal.nD Cert.SmallIdeal.τ).loc Cert.SmallIdeal.main_arg37)
      ∧ m' ((c.tc : Thread Cert.SmallRefIdeal.nD Cert.SmallRefIdeal.τ).loc Cert.SmallRefIdeal.main_arg38) = m ((c.tc : Thread Cert.SmallIdeal.nD Cert.SmallIdeal.τ).loc Cert.SmallIdeal.main_arg38)
      ∧ m' ((c.tc : Thread Cert.SmallRefIdeal.nD Cert.SmallRefIdeal.τ).loc Cert.SmallRefIdeal.main_arg39) = m ((c.tc : Thread Cert.SmallIdeal.nD Cert.SmallIdeal.τ).loc Cert.SmallIdeal.main_arg39)
      ∧ m' ((c.tc : Thread Cert.SmallRefIdeal.nD Cert.SmallRefIdeal.τ).loc Cert.SmallRefIdeal.main_arg40) = m ((c.tc : Thread Cert.SmallIdeal.nD Cert.SmallIdeal.τ).loc Cert.SmallIdeal.main_arg40)
      ∧ m' ((c.tc : Thread Cert.SmallRefIdeal.nD Cert.SmallRefIdeal.τ).loc Cert.SmallRefIdeal.main_arg41) = m ((c.tc : Thread Cert.SmallIdeal.nD Cert.SmallIdeal.τ).loc Cert.SmallIdeal.main_arg41)
      ∧ m' ((c.tc : Thread Cert.SmallRefIdeal.nD Cert.SmallRefIdeal.τ).loc Cert.SmallRefIdeal.main_arg42) = m ((c.tc : Thread Cert.SmallIdeal.nD Cert.SmallIdeal.τ).loc Cert.SmallIdeal.main_arg42)
      ∧ m' ((c.tc : Thread Cert.SmallRefIdeal.nD Cert.SmallRefIdeal.τ).loc Cert.SmallRefIdeal.main_arg43) = m ((c.tc : Thread Cert.SmallIdeal.nD Cert.SmallIdeal.τ).loc Cert.SmallIdeal.main_arg43)
      ∧ m' ((c.tc : Thread Cert.SmallRefIdeal.nD Cert.SmallRefIdeal.τ).loc Cert.SmallRefIdeal.main_arg44) = m ((c.tc : Thread Cert.SmallIdeal.nD Cert.SmallIdeal.τ).loc Cert.SmallIdeal.main_arg44)
      ∧ m' ((c.tc : Thread Cert.SmallRefIdeal.nD Cert.SmallRefIdeal.τ).loc Cert.SmallRefIdeal.main_arg45) = m ((c.tc : Thread Cert.SmallIdeal.nD Cert.SmallIdeal.τ).loc Cert.SmallIdeal.main_arg45)
      ∧ m' ((c.tc : Thread Cert.SmallRefIdeal.nD Cert.SmallRefIdeal.τ).loc Cert.SmallRefIdeal.main_arg46) = m ((c.tc : Thread Cert.SmallIdeal.nD Cert.SmallIdeal.τ).loc Cert.SmallIdeal.main_arg46)
      ∧ m' ((c.tc : Thread Cert.SmallRefIdeal.nD Cert.SmallRefIdeal.τ).loc Cert.SmallRefIdeal.main_arg47) = m ((c.tc : Thread Cert.SmallIdeal.nD Cert.SmallIdeal.τ).loc Cert.SmallIdeal.main_arg47)
      ∧ m' ((c.tc : Thread Cert.SmallRefIdeal.nD Cert.SmallRefIdeal.τ).loc Cert.SmallRefIdeal.main_arg48) = m ((c.tc : Thread Cert.SmallIdeal.nD Cert.SmallIdeal.τ).loc Cert.SmallIdeal.main_arg48)
      ∧ m' ((c.tc : Thread Cert.SmallRefIdeal.nD Cert.SmallRefIdeal.τ).loc Cert.SmallRefIdeal.main_arg49) = m ((c.tc : Thread Cert.SmallIdeal.nD Cert.SmallIdeal.τ).loc Cert.SmallIdeal.main_arg49)
      ∧ m' ((c.tc : Thread Cert.SmallRefIdeal.nD Cert.SmallRefIdeal.τ).loc Cert.SmallRefIdeal.main_arg50) = m ((c.tc : Thread Cert.SmallIdeal.nD Cert.SmallIdeal.τ).loc Cert.SmallIdeal.main_arg50)
      ∧ m' ((c.tc : Thread Cert.SmallRefIdeal.nD Cert.SmallRefIdeal.τ).loc Cert.SmallRefIdeal.main_arg51) = m ((c.tc : Thread Cert.SmallIdeal.nD Cert.SmallIdeal.τ).loc Cert.SmallIdeal.main_arg51)) →
    ∃ (v0 : (c : Dev Cert.SmallIdeal.nD) → Buf (Elt Ideal) ((c.tc : Thread Cert.SmallIdeal.nD Cert.SmallIdeal.τ).loc Cert.SmallIdeal.main_v51)) (v1 : (c : Dev Cert.SmallIdeal.nD) → Buf (Elt Ideal) ((c.tc : Thread Cert.SmallIdeal.nD Cert.SmallIdeal.τ).loc Cert.SmallIdeal.main_v53)) (v2 : (c : Dev Cert.SmallIdeal.nD) → Buf (Elt Ideal) ((c.tc : Thread Cert.SmallIdeal.nD Cert.SmallIdeal.τ).loc Cert.SmallIdeal.main_v55)) (v3 : (c : Dev Cert.SmallIdeal.nD) → Buf (Elt Ideal) ((c.tc : Thread Cert.SmallIdeal.nD Cert.SmallIdeal.τ).loc Cert.SmallIdeal.main_v57)) (v4 : (c : Dev Cert.SmallIdeal.nD) → Buf (Elt Ideal) ((c.tc : Thread Cert.SmallIdeal.nD Cert.SmallIdeal.τ).loc Cert.SmallIdeal.main_v59)) (v5 : (c : Dev Cert.SmallIdeal.nD) → Buf (Elt Ideal) ((c.tc : Thread Cert.SmallIdeal.nD Cert.SmallIdeal.τ).loc Cert.SmallIdeal.main_v60)) (v6 : (c : Dev Cert.SmallIdeal.nD) → Buf (Elt Ideal) ((c.tc : Thread Cert.SmallIdeal.nD Cert.SmallIdeal.τ).loc Cert.SmallIdeal.main_v61)) (v7 : (c : Dev Cert.SmallIdeal.nD) → Buf (Elt Ideal) ((c.tc : Thread Cert.SmallIdeal.nD Cert.SmallIdeal.τ).loc Cert.SmallIdeal.main_v62)) (v8 : (c : Dev Cert.SmallIdeal.nD) → Buf (Elt Ideal) ((c.tc : Thread Cert.SmallIdeal.nD Cert.SmallIdeal.τ).loc Cert.SmallIdeal.main_v64)) (v9 : (c : Dev Cert.SmallIdeal.nD) → Buf (Elt Ideal) ((c.tc : Thread Cert.SmallIdeal.nD Cert.SmallIdeal.τ).loc Cert.SmallIdeal.main_v66)) (v10 : (c : Dev Cert.SmallIdeal.nD) → Buf (Elt Ideal) ((c.tc : Thread Cert.SmallIdeal.nD Cert.SmallIdeal.τ).loc Cert.SmallIdeal.main_v68)) (v11 : (c : Dev Cert.SmallIdeal.nD) → Buf (Elt Ideal) ((c.tc : Thread Cert.SmallIdeal.nD Cert.SmallIdeal.τ).loc Cert.SmallIdeal.main_v70)) (v12 : (c : Dev Cert.SmallIdeal.nD) → Buf (Elt Ideal) ((c.tc : Thread Cert.SmallIdeal.nD Cert.SmallIdeal.τ).loc Cert.SmallIdeal.main_v71)) (v13 : (c : Dev Cert.SmallIdeal.nD) → Buf (Elt Ideal) ((c.tc : Thread Cert.SmallIdeal.nD Cert.SmallIdeal.τ).loc Cert.SmallIdeal.main_v74)) (v14 : (c : Dev Cert.SmallIdeal.nD) → Buf (Elt Ideal) ((c.tc : Thread Cert.SmallIdeal.nD Cert.SmallIdeal.τ).loc Cert.SmallIdeal.main_v76)) (v15 : (c : Dev Cert.SmallIdeal.nD) → Buf (Elt Ideal) ((c.tc : Thread Cert.SmallIdeal.nD Cert.SmallIdeal.τ).loc Cert.SmallIdeal.main_v78)) (v16 : (c : Dev Cert.SmallIdeal.nD) → Buf (Elt Ideal) ((c.tc : Thread Cert.SmallIdeal.nD Cert.SmallIdeal.τ).loc Cert.SmallIdeal.main_v80)) (v17 : (c : Dev Cert.SmallIdeal.nD) → Buf (Elt Ideal) ((c.tc : Thread Cert.SmallIdeal.nD Cert.SmallIdeal.τ).loc Cert.SmallIdeal.main_v82)) (v18 : (c : Dev Cert.SmallIdeal.nD) → Buf (Elt Ideal) ((c.tc : Thread Cert.SmallIdeal.nD Cert.SmallIdeal.τ).loc Cert.SmallIdeal.main_v83)) (v19 : (c : Dev Cert.SmallIdeal.nD) → Buf (Elt Ideal) ((c.tc : Thread Cert.SmallIdeal.nD Cert.SmallIdeal.τ).loc Cert.SmallIdeal.main_v84)) (v20 : (c : Dev Cert.SmallIdeal.nD) → Buf (Elt Ideal) ((c.tc : Thread Cert.SmallIdeal.nD Cert.SmallIdeal.τ).loc Cert.SmallIdeal.main_v85)) (v21 : (c : Dev Cert.SmallIdeal.nD) → Buf (Elt Ideal) ((c.tc : Thread Cert.SmallIdeal.nD Cert.SmallIdeal.τ).loc Cert.SmallIdeal.main_v87)) (v22 : (c : Dev Cert.SmallIdeal.nD) → Buf (Elt Ideal) ((c.tc : Thread Cert.SmallIdeal.nD Cert.SmallIdeal.τ).loc Cert.SmallIdeal.main_v89)) (v23 : (c : Dev Cert.SmallIdeal.nD) → Buf (Elt Ideal) ((c.tc : Thread Cert.SmallIdeal.nD Cert.SmallIdeal.τ).loc Cert.SmallIdeal.main_v91)) (v24 : (c : Dev Cert.SmallIdeal.nD) → Buf (Elt Ideal) ((c.tc : Thread Cert.SmallIdeal.nD Cert.SmallIdeal.τ).loc Cert.SmallIdeal.main_v93)) (v25 : (c : Dev Cert.SmallIdeal.nD) → Buf (Elt Ideal) ((c.tc : Thread Cert.SmallIdeal.nD Cert.SmallIdeal.τ).loc Cert.SmallIdeal.main_v94)) (v26 : (c : Dev Cert.SmallIdeal.nD) → Buf (Elt Ideal) ((c.tc : Thread Cert.SmallIdeal.nD Cert.SmallIdeal.τ).loc Cert.SmallIdeal.main_v97)) (v27 : (c : Dev Cert.SmallIdeal.nD) → Buf (Elt Ideal) ((c.tc : Thread Cert.SmallIdeal.nD Cert.SmallIdeal.τ).loc Cert.SmallIdeal.main_v99)) (v28 : (c : Dev Cert.SmallIdeal.nD) → Buf (Elt Ideal) ((c.tc : Thread Cert.SmallIdeal.nD Cert.SmallIdeal.τ).loc Cert.SmallIdeal.main_v101)) (v29 : (c : Dev Cert.SmallIdeal.nD) → Buf (Elt Ideal) ((c.tc : Thread Cert.SmallIdeal.nD Cert.SmallIdeal.τ).loc Cert.SmallIdeal.main_v103)) (v30 : (c : Dev Cert.SmallIdeal.nD) → Buf (Elt Ideal) ((c.tc : Thread Cert.SmallIdeal.nD Cert.SmallIdeal.τ).loc Cert.SmallIdeal.main_v105)) (v31 : (c : Dev Cert.SmallIdeal.nD) → Buf (Elt Ideal) ((c.tc : Thread Cert.SmallIdeal.nD Cert.SmallIdeal.τ).loc Cert.SmallIdeal.main_v106)) (v32 : (c : Dev Cert.SmallIdeal.nD) → Buf (Elt Ideal) ((c.tc : Thread Cert.SmallIdeal.nD Cert.SmallIdeal.τ).loc Cert.SmallIdeal.main_v107)) (v33 : (c : Dev Cert.SmallIdeal.nD) → Buf (Elt Ideal) ((c.tc : Thread Cert.SmallIdeal.nD Cert.SmallIdeal.τ).loc Cert.SmallIdeal.main_v108)) (v34 : (c : Dev Cert.SmallIdeal.nD) → Buf (Elt Ideal) ((c.tc : Thread Cert.SmallIdeal.nD Cert.SmallIdeal.τ).loc Cert.SmallIdeal.main_v110)) (v35 : (c : Dev Cert.SmallIdeal.nD) → Buf (Elt Ideal) ((c.tc : Thread Cert.SmallIdeal.nD Cert.SmallIdeal.τ).loc Cert.SmallIdeal.main_v112)) (v36 : (c : Dev Cert.SmallIdeal.nD) → Buf (Elt Ideal) ((c.tc : Thread Cert.SmallIdeal.nD Cert.SmallIdeal.τ).loc Cert.SmallIdeal.main_v114)) (v37 : (c : Dev Cert.SmallIdeal.nD) → Buf (Elt Ideal) ((c.tc : Thread Cert.SmallIdeal.nD Cert.SmallIdeal.τ).loc Cert.SmallIdeal.main_v116)) (v38 : (c : Dev Cert.SmallIdeal.nD) → Buf (Elt Ideal) ((c.tc : Thread Cert.SmallIdeal.nD Cert.SmallIdeal.τ).loc Cert.SmallIdeal.main_v117)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v51) = v0 c
          ∧ r.2.mem ((c.tc : Thread Cert.SmallIdeal.nD Cert.SmallIdeal.τ).loc Cert.SmallIdeal.main_v53) = v1 c
          ∧ r.2.mem ((c.tc : Thread Cert.SmallIdeal.nD Cert.SmallIdeal.τ).loc Cert.SmallIdeal.main_v55) = v2 c
          ∧ r.2.mem ((c.tc : Thread Cert.SmallIdeal.nD Cert.SmallIdeal.τ).loc Cert.SmallIdeal.main_v57) = v3 c
          ∧ r.2.mem ((c.tc : Thread Cert.SmallIdeal.nD Cert.SmallIdeal.τ).loc Cert.SmallIdeal.main_v59) = v4 c
          ∧ r.2.mem ((c.tc : Thread Cert.SmallIdeal.nD Cert.SmallIdeal.τ).loc Cert.SmallIdeal.main_v60) = v5 c
          ∧ r.2.mem ((c.tc : Thread Cert.SmallIdeal.nD Cert.SmallIdeal.τ).loc Cert.SmallIdeal.main_v61) = v6 c
          ∧ r.2.mem ((c.tc : Thread Cert.SmallIdeal.nD Cert.SmallIdeal.τ).loc Cert.SmallIdeal.main_v62) = v7 c
          ∧ r.2.mem ((c.tc : Thread Cert.SmallIdeal.nD Cert.SmallIdeal.τ).loc Cert.SmallIdeal.main_v64) = v8 c
          ∧ r.2.mem ((c.tc : Thread Cert.SmallIdeal.nD Cert.SmallIdeal.τ).loc Cert.SmallIdeal.main_v66) = v9 c
          ∧ r.2.mem ((c.tc : Thread Cert.SmallIdeal.nD Cert.SmallIdeal.τ).loc Cert.SmallIdeal.main_v68) = v10 c
          ∧ r.2.mem ((c.tc : Thread Cert.SmallIdeal.nD Cert.SmallIdeal.τ).loc Cert.SmallIdeal.main_v70) = v11 c
          ∧ r.2.mem ((c.tc : Thread Cert.SmallIdeal.nD Cert.SmallIdeal.τ).loc Cert.SmallIdeal.main_v71) = v12 c
          ∧ r.2.mem ((c.tc : Thread Cert.SmallIdeal.nD Cert.SmallIdeal.τ).loc Cert.SmallIdeal.main_v74) = v13 c
          ∧ r.2.mem ((c.tc : Thread Cert.SmallIdeal.nD Cert.SmallIdeal.τ).loc Cert.SmallIdeal.main_v76) = v14 c
          ∧ r.2.mem ((c.tc : Thread Cert.SmallIdeal.nD Cert.SmallIdeal.τ).loc Cert.SmallIdeal.main_v78) = v15 c
          ∧ r.2.mem ((c.tc : Thread Cert.SmallIdeal.nD Cert.SmallIdeal.τ).loc Cert.SmallIdeal.main_v80) = v16 c
          ∧ r.2.mem ((c.tc : Thread Cert.SmallIdeal.nD Cert.SmallIdeal.τ).loc Cert.SmallIdeal.main_v82) = v17 c
          ∧ r.2.mem ((c.tc : Thread Cert.SmallIdeal.nD Cert.SmallIdeal.τ).loc Cert.SmallIdeal.main_v83) = v18 c
          ∧ r.2.mem ((c.tc : Thread Cert.SmallIdeal.nD Cert.SmallIdeal.τ).loc Cert.SmallIdeal.main_v84) = v19 c
          ∧ r.2.mem ((c.tc : Thread Cert.SmallIdeal.nD Cert.SmallIdeal.τ).loc Cert.SmallIdeal.main_v85) = v20 c
          ∧ r.2.mem ((c.tc : Thread Cert.SmallIdeal.nD Cert.SmallIdeal.τ).loc Cert.SmallIdeal.main_v87) = v21 c
          ∧ r.2.mem ((c.tc : Thread Cert.SmallIdeal.nD Cert.SmallIdeal.τ).loc Cert.SmallIdeal.main_v89) = v22 c
          ∧ r.2.mem ((c.tc : Thread Cert.SmallIdeal.nD Cert.SmallIdeal.τ).loc Cert.SmallIdeal.main_v91) = v23 c
          ∧ r.2.mem ((c.tc : Thread Cert.SmallIdeal.nD Cert.SmallIdeal.τ).loc Cert.SmallIdeal.main_v93) = v24 c
          ∧ r.2.mem ((c.tc : Thread Cert.SmallIdeal.nD Cert.SmallIdeal.τ).loc Cert.SmallIdeal.main_v94) = v25 c
          ∧ r.2.mem ((c.tc : Thread Cert.SmallIdeal.nD Cert.SmallIdeal.τ).loc Cert.SmallIdeal.main_v97) = v26 c
          ∧ r.2.mem ((c.tc : Thread Cert.SmallIdeal.nD Cert.SmallIdeal.τ).loc Cert.SmallIdeal.main_v99) = v27 c
          ∧ r.2.mem ((c.tc : Thread Cert.SmallIdeal.nD Cert.SmallIdeal.τ).loc Cert.SmallIdeal.main_v101) = v28 c
          ∧ r.2.mem ((c.tc : Thread Cert.SmallIdeal.nD Cert.SmallIdeal.τ).loc Cert.SmallIdeal.main_v103) = v29 c
          ∧ r.2.mem ((c.tc : Thread Cert.SmallIdeal.nD Cert.SmallIdeal.τ).loc Cert.SmallIdeal.main_v105) = v30 c
          ∧ r.2.mem ((c.tc : Thread Cert.SmallIdeal.nD Cert.SmallIdeal.τ).loc Cert.SmallIdeal.main_v106) = v31 c
          ∧ r.2.mem ((c.tc : Thread Cert.SmallIdeal.nD Cert.SmallIdeal.τ).loc Cert.SmallIdeal.main_v107) = v32 c
          ∧ r.2.mem ((c.tc : Thread Cert.SmallIdeal.nD Cert.SmallIdeal.τ).loc Cert.SmallIdeal.main_v108) = v33 c
          ∧ r.2.mem ((c.tc : Thread Cert.SmallIdeal.nD Cert.SmallIdeal.τ).loc Cert.SmallIdeal.main_v110) = v34 c
          ∧ r.2.mem ((c.tc : Thread Cert.SmallIdeal.nD Cert.SmallIdeal.τ).loc Cert.SmallIdeal.main_v112) = v35 c
          ∧ r.2.mem ((c.tc : Thread Cert.SmallIdeal.nD Cert.SmallIdeal.τ).loc Cert.SmallIdeal.main_v114) = v36 c
          ∧ r.2.mem ((c.tc : Thread Cert.SmallIdeal.nD Cert.SmallIdeal.τ).loc Cert.SmallIdeal.main_v116) = v37 c
          ∧ r.2.mem ((c.tc : Thread Cert.SmallIdeal.nD Cert.SmallIdeal.τ).loc Cert.SmallIdeal.main_v117) = v38 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
          ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
          ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
          ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
          ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
          ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
          ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
          ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
          ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
          ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
          ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
          ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
          ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
          ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
          ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
          ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
          ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
          ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
          ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
          ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
          ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v23) = v0 c
          ∧ r.2.mem ((c.tc : Thread Cert.SmallRefIdeal.nD Cert.SmallRefIdeal.τ).loc Cert.SmallRefIdeal.main_v47) = v1 c
          ∧ r.2.mem ((c.tc : Thread Cert.SmallRefIdeal.nD Cert.SmallRefIdeal.τ).loc Cert.SmallRefIdeal.main_v71) = v2 c
          ∧ r.2.mem ((c.tc : Thread Cert.SmallRefIdeal.nD Cert.SmallRefIdeal.τ).loc Cert.SmallRefIdeal.main_v95) = v3 c
          ∧ r.2.mem ((c.tc : Thread Cert.SmallRefIdeal.nD Cert.SmallRefIdeal.τ).loc Cert.SmallRefIdeal.main_v119) = v4 c
          ∧ r.2.mem ((c.tc : Thread Cert.SmallRefIdeal.nD Cert.SmallRefIdeal.τ).loc Cert.SmallRefIdeal.main_v143) = v5 c
          ∧ r.2.mem ((c.tc : Thread Cert.SmallRefIdeal.nD Cert.SmallRefIdeal.τ).loc Cert.SmallRefIdeal.main_v167) = v6 c
          ∧ r.2.mem ((c.tc : Thread Cert.SmallRefIdeal.nD Cert.SmallRefIdeal.τ).loc Cert.SmallRefIdeal.main_v191) = v7 c
          ∧ r.2.mem ((c.tc : Thread Cert.SmallRefIdeal.nD Cert.SmallRefIdeal.τ).loc Cert.SmallRefIdeal.main_v215) = v8 c
          ∧ r.2.mem ((c.tc : Thread Cert.SmallRefIdeal.nD Cert.SmallRefIdeal.τ).loc Cert.SmallRefIdeal.main_v239) = v9 c
          ∧ r.2.mem ((c.tc : Thread Cert.SmallRefIdeal.nD Cert.SmallRefIdeal.τ).loc Cert.SmallRefIdeal.main_v263) = v10 c
          ∧ r.2.mem ((c.tc : Thread Cert.SmallRefIdeal.nD Cert.SmallRefIdeal.τ).loc Cert.SmallRefIdeal.main_v287) = v11 c
          ∧ r.2.mem ((c.tc : Thread Cert.SmallRefIdeal.nD Cert.SmallRefIdeal.τ).loc Cert.SmallRefIdeal.main_v311) = v12 c
          ∧ r.2.mem ((c.tc : Thread Cert.SmallRefIdeal.nD Cert.SmallRefIdeal.τ).loc Cert.SmallRefIdeal.main_v4) = v13 c
          ∧ r.2.mem ((c.tc : Thread Cert.SmallRefIdeal.nD Cert.SmallRefIdeal.τ).loc Cert.SmallRefIdeal.main_v28) = v14 c
          ∧ r.2.mem ((c.tc : Thread Cert.SmallRefIdeal.nD Cert.SmallRefIdeal.τ).loc Cert.SmallRefIdeal.main_v52) = v15 c
          ∧ r.2.mem ((c.tc : Thread Cert.SmallRefIdeal.nD Cert.SmallRefIdeal.τ).loc Cert.SmallRefIdeal.main_v76) = v16 c
          ∧ r.2.mem ((c.tc : Thread Cert.SmallRefIdeal.nD Cert.SmallRefIdeal.τ).loc Cert.SmallRefIdeal.main_v100) = v17 c
          ∧ r.2.mem ((c.tc : Thread Cert.SmallRefIdeal.nD Cert.SmallRefIdeal.τ).loc Cert.SmallRefIdeal.main_v124) = v18 c
          ∧ r.2.mem ((c.tc : Thread Cert.SmallRefIdeal.nD Cert.SmallRefIdeal.τ).loc Cert.SmallRefIdeal.main_v148) = v19 c
          ∧ r.2.mem ((c.tc : Thread Cert.SmallRefIdeal.nD Cert.SmallRefIdeal.τ).loc Cert.SmallRefIdeal.main_v172) = v20 c
          ∧ r.2.mem ((c.tc : Thread Cert.SmallRefIdeal.nD Cert.SmallRefIdeal.τ).loc Cert.SmallRefIdeal.main_v196) = v21 c
          ∧ r.2.mem ((c.tc : Thread Cert.SmallRefIdeal.nD Cert.SmallRefIdeal.τ).loc Cert.SmallRefIdeal.main_v220) = v22 c
          ∧ r.2.mem ((c.tc : Thread Cert.SmallRefIdeal.nD Cert.SmallRefIdeal.τ).loc Cert.SmallRefIdeal.main_v244) = v23 c
          ∧ r.2.mem ((c.tc : Thread Cert.SmallRefIdeal.nD Cert.SmallRefIdeal.τ).loc Cert.SmallRefIdeal.main_v268) = v24 c
          ∧ r.2.mem ((c.tc : Thread Cert.SmallRefIdeal.nD Cert.SmallRefIdeal.τ).loc Cert.SmallRefIdeal.main_v292) = v25 c
          ∧ r.2.mem ((c.tc : Thread Cert.SmallRefIdeal.nD Cert.SmallRefIdeal.τ).loc Cert.SmallRefIdeal.main_v10) = v26 c
          ∧ r.2.mem ((c.tc : Thread Cert.SmallRefIdeal.nD Cert.SmallRefIdeal.τ).loc Cert.SmallRefIdeal.main_v34) = v27 c
          ∧ r.2.mem ((c.tc : Thread Cert.SmallRefIdeal.nD Cert.SmallRefIdeal.τ).loc Cert.SmallRefIdeal.main_v58) = v28 c
          ∧ r.2.mem ((c.tc : Thread Cert.SmallRefIdeal.nD Cert.SmallRefIdeal.τ).loc Cert.SmallRefIdeal.main_v82) = v29 c
          ∧ r.2.mem ((c.tc : Thread Cert.SmallRefIdeal.nD Cert.SmallRefIdeal.τ).loc Cert.SmallRefIdeal.main_v106) = v30 c
          ∧ r.2.mem ((c.tc : Thread Cert.SmallRefIdeal.nD Cert.SmallRefIdeal.τ).loc Cert.SmallRefIdeal.main_v130) = v31 c
          ∧ r.2.mem ((c.tc : Thread Cert.SmallRefIdeal.nD Cert.SmallRefIdeal.τ).loc Cert.SmallRefIdeal.main_v154) = v32 c
          ∧ r.2.mem ((c.tc : Thread Cert.SmallRefIdeal.nD Cert.SmallRefIdeal.τ).loc Cert.SmallRefIdeal.main_v178) = v33 c
          ∧ r.2.mem ((c.tc : Thread Cert.SmallRefIdeal.nD Cert.SmallRefIdeal.τ).loc Cert.SmallRefIdeal.main_v202) = v34 c
          ∧ r.2.mem ((c.tc : Thread Cert.SmallRefIdeal.nD Cert.SmallRefIdeal.τ).loc Cert.SmallRefIdeal.main_v226) = v35 c
          ∧ r.2.mem ((c.tc : Thread Cert.SmallRefIdeal.nD Cert.SmallRefIdeal.τ).loc Cert.SmallRefIdeal.main_v250) = v36 c
          ∧ r.2.mem ((c.tc : Thread Cert.SmallRefIdeal.nD Cert.SmallRefIdeal.τ).loc Cert.SmallRefIdeal.main_v274) = v37 c
          ∧ r.2.mem ((c.tc : Thread Cert.SmallRefIdeal.nD Cert.SmallRefIdeal.τ).loc Cert.SmallRefIdeal.main_v298) = v38 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24)
          ∧ r.2.mem ((c.tc : Thread Cert.SmallRefIdeal.nD Cert.SmallRefIdeal.τ).loc Cert.SmallRefIdeal.main_arg25) = m' ((c.tc : Thread Cert.SmallRefIdeal.nD Cert.SmallRefIdeal.τ).loc Cert.SmallRefIdeal.main_arg25)
          ∧ r.2.mem ((c.tc : Thread Cert.SmallRefIdeal.nD Cert.SmallRefIdeal.τ).loc Cert.SmallRefIdeal.main_arg26) = m' ((c.tc : Thread Cert.SmallRefIdeal.nD Cert.SmallRefIdeal.τ).loc Cert.SmallRefIdeal.main_arg26)
          ∧ r.2.mem ((c.tc : Thread Cert.SmallRefIdeal.nD Cert.SmallRefIdeal.τ).loc Cert.SmallRefIdeal.main_arg27) = m' ((c.tc : Thread Cert.SmallRefIdeal.nD Cert.SmallRefIdeal.τ).loc Cert.SmallRefIdeal.main_arg27)
          ∧ r.2.mem ((c.tc : Thread Cert.SmallRefIdeal.nD Cert.SmallRefIdeal.τ).loc Cert.SmallRefIdeal.main_arg28) = m' ((c.tc : Thread Cert.SmallRefIdeal.nD Cert.SmallRefIdeal.τ).loc Cert.SmallRefIdeal.main_arg28)
          ∧ r.2.mem ((c.tc : Thread Cert.SmallRefIdeal.nD Cert.SmallRefIdeal.τ).loc Cert.SmallRefIdeal.main_arg29) = m' ((c.tc : Thread Cert.SmallRefIdeal.nD Cert.SmallRefIdeal.τ).loc Cert.SmallRefIdeal.main_arg29)
          ∧ r.2.mem ((c.tc : Thread Cert.SmallRefIdeal.nD Cert.SmallRefIdeal.τ).loc Cert.SmallRefIdeal.main_arg30) = m' ((c.tc : Thread Cert.SmallRefIdeal.nD Cert.SmallRefIdeal.τ).loc Cert.SmallRefIdeal.main_arg30)
          ∧ r.2.mem ((c.tc : Thread Cert.SmallRefIdeal.nD Cert.SmallRefIdeal.τ).loc Cert.SmallRefIdeal.main_arg31) = m' ((c.tc : Thread Cert.SmallRefIdeal.nD Cert.SmallRefIdeal.τ).loc Cert.SmallRefIdeal.main_arg31)
          ∧ r.2.mem ((c.tc : Thread Cert.SmallRefIdeal.nD Cert.SmallRefIdeal.τ).loc Cert.SmallRefIdeal.main_arg32) = m' ((c.tc : Thread Cert.SmallRefIdeal.nD Cert.SmallRefIdeal.τ).loc Cert.SmallRefIdeal.main_arg32)
          ∧ r.2.mem ((c.tc : Thread Cert.SmallRefIdeal.nD Cert.SmallRefIdeal.τ).loc Cert.SmallRefIdeal.main_arg33) = m' ((c.tc : Thread Cert.SmallRefIdeal.nD Cert.SmallRefIdeal.τ).loc Cert.SmallRefIdeal.main_arg33)
          ∧ r.2.mem ((c.tc : Thread Cert.SmallRefIdeal.nD Cert.SmallRefIdeal.τ).loc Cert.SmallRefIdeal.main_arg34) = m' ((c.tc : Thread Cert.SmallRefIdeal.nD Cert.SmallRefIdeal.τ).loc Cert.SmallRefIdeal.main_arg34)
          ∧ r.2.mem ((c.tc : Thread Cert.SmallRefIdeal.nD Cert.SmallRefIdeal.τ).loc Cert.SmallRefIdeal.main_arg35) = m' ((c.tc : Thread Cert.SmallRefIdeal.nD Cert.SmallRefIdeal.τ).loc Cert.SmallRefIdeal.main_arg35)
          ∧ r.2.mem ((c.tc : Thread Cert.SmallRefIdeal.nD Cert.SmallRefIdeal.τ).loc Cert.SmallRefIdeal.main_arg36) = m' ((c.tc : Thread Cert.SmallRefIdeal.nD Cert.SmallRefIdeal.τ).loc Cert.SmallRefIdeal.main_arg36)
          ∧ r.2.mem ((c.tc : Thread Cert.SmallRefIdeal.nD Cert.SmallRefIdeal.τ).loc Cert.SmallRefIdeal.main_arg37) = m' ((c.tc : Thread Cert.SmallRefIdeal.nD Cert.SmallRefIdeal.τ).loc Cert.SmallRefIdeal.main_arg37)
          ∧ r.2.mem ((c.tc : Thread Cert.SmallRefIdeal.nD Cert.SmallRefIdeal.τ).loc Cert.SmallRefIdeal.main_arg38) = m' ((c.tc : Thread Cert.SmallRefIdeal.nD Cert.SmallRefIdeal.τ).loc Cert.SmallRefIdeal.main_arg38)
          ∧ r.2.mem ((c.tc : Thread Cert.SmallRefIdeal.nD Cert.SmallRefIdeal.τ).loc Cert.SmallRefIdeal.main_arg39) = m' ((c.tc : Thread Cert.SmallRefIdeal.nD Cert.SmallRefIdeal.τ).loc Cert.SmallRefIdeal.main_arg39)
          ∧ r.2.mem ((c.tc : Thread Cert.SmallRefIdeal.nD Cert.SmallRefIdeal.τ).loc Cert.SmallRefIdeal.main_arg40) = m' ((c.tc : Thread Cert.SmallRefIdeal.nD Cert.SmallRefIdeal.τ).loc Cert.SmallRefIdeal.main_arg40)
          ∧ r.2.mem ((c.tc : Thread Cert.SmallRefIdeal.nD Cert.SmallRefIdeal.τ).loc Cert.SmallRefIdeal.main_arg41) = m' ((c.tc : Thread Cert.SmallRefIdeal.nD Cert.SmallRefIdeal.τ).loc Cert.SmallRefIdeal.main_arg41)
          ∧ r.2.mem ((c.tc : Thread Cert.SmallRefIdeal.nD Cert.SmallRefIdeal.τ).loc Cert.SmallRefIdeal.main_arg42) = m' ((c.tc : Thread Cert.SmallRefIdeal.nD Cert.SmallRefIdeal.τ).loc Cert.SmallRefIdeal.main_arg42)
          ∧ r.2.mem ((c.tc : Thread Cert.SmallRefIdeal.nD Cert.SmallRefIdeal.τ).loc Cert.SmallRefIdeal.main_arg43) = m' ((c.tc : Thread Cert.SmallRefIdeal.nD Cert.SmallRefIdeal.τ).loc Cert.SmallRefIdeal.main_arg43)
          ∧ r.2.mem ((c.tc : Thread Cert.SmallRefIdeal.nD Cert.SmallRefIdeal.τ).loc Cert.SmallRefIdeal.main_arg44) = m' ((c.tc : Thread Cert.SmallRefIdeal.nD Cert.SmallRefIdeal.τ).loc Cert.SmallRefIdeal.main_arg44)
          ∧ r.2.mem ((c.tc : Thread Cert.SmallRefIdeal.nD Cert.SmallRefIdeal.τ).loc Cert.SmallRefIdeal.main_arg45) = m' ((c.tc : Thread Cert.SmallRefIdeal.nD Cert.SmallRefIdeal.τ).loc Cert.SmallRefIdeal.main_arg45)
          ∧ r.2.mem ((c.tc : Thread Cert.SmallRefIdeal.nD Cert.SmallRefIdeal.τ).loc Cert.SmallRefIdeal.main_arg46) = m' ((c.tc : Thread Cert.SmallRefIdeal.nD Cert.SmallRefIdeal.τ).loc Cert.SmallRefIdeal.main_arg46)
          ∧ r.2.mem ((c.tc : Thread Cert.SmallRefIdeal.nD Cert.SmallRefIdeal.τ).loc Cert.SmallRefIdeal.main_arg47) = m' ((c.tc : Thread Cert.SmallRefIdeal.nD Cert.SmallRefIdeal.τ).loc Cert.SmallRefIdeal.main_arg47)
          ∧ r.2.mem ((c.tc : Thread Cert.SmallRefIdeal.nD Cert.SmallRefIdeal.τ).loc Cert.SmallRefIdeal.main_arg48) = m' ((c.tc : Thread Cert.SmallRefIdeal.nD Cert.SmallRefIdeal.τ).loc Cert.SmallRefIdeal.main_arg48)
          ∧ r.2.mem ((c.tc : Thread Cert.SmallRefIdeal.nD Cert.SmallRefIdeal.τ).loc Cert.SmallRefIdeal.main_arg49) = m' ((c.tc : Thread Cert.SmallRefIdeal.nD Cert.SmallRefIdeal.τ).loc Cert.SmallRefIdeal.main_arg49)
          ∧ r.2.mem ((c.tc : Thread Cert.SmallRefIdeal.nD Cert.SmallRefIdeal.τ).loc Cert.SmallRefIdeal.main_arg50) = m' ((c.tc : Thread Cert.SmallRefIdeal.nD Cert.SmallRefIdeal.τ).loc Cert.SmallRefIdeal.main_arg50)
          ∧ r.2.mem ((c.tc : Thread Cert.SmallRefIdeal.nD Cert.SmallRefIdeal.τ).loc Cert.SmallRefIdeal.main_arg51) = m' ((c.tc : Thread Cert.SmallRefIdeal.nD Cert.SmallRefIdeal.τ).loc Cert.SmallRefIdeal.main_arg51))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAIn : Cert.AIn.Facts) (hAInIdeal : Cert.AInIdeal.Facts) (hAInRefIdeal : Cert.AInRefIdeal.Facts) (hAInDx : Cert.AInDx.Facts) (hAInDxIdeal : Cert.AInDxIdeal.Facts) (hAInDxRefIdeal : Cert.AInDxRefIdeal.Facts) (hAInDw : Cert.AInDw.Facts) (hAInDwIdeal : Cert.AInDwIdeal.Facts) (hAInDwRefIdeal : Cert.AInDwRefIdeal.Facts) (hAOut : Cert.AOut.Facts) (hAOutIdeal : Cert.AOutIdeal.Facts) (hAOutRefIdeal : Cert.AOutRefIdeal.Facts) (hAOutDx : Cert.AOutDx.Facts) (hAOutDxIdeal : Cert.AOutDxIdeal.Facts) (hAOutDxRefIdeal : Cert.AOutDxRefIdeal.Facts) (hAOutDw : Cert.AOutDw.Facts) (hAOutDwIdeal : Cert.AOutDwIdeal.Facts) (hAOutDwRefIdeal : Cert.AOutDwRefIdeal.Facts) (hQgDw : Cert.QgDw.Facts) (hQgDwIdeal : Cert.QgDwIdeal.Facts) (hQgDwRefIdeal : Cert.QgDwRefIdeal.Facts) (hKvDw : Cert.KvDw.Facts) (hKvDwIdeal : Cert.KvDwIdeal.Facts) (hKvDwRefIdeal : Cert.KvDwRefIdeal.Facts) (hAdam : Cert.Adam.Facts) (hAdamIdeal : Cert.AdamIdeal.Facts) (hAdamRefIdeal : Cert.AdamRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts) (hAdamRows0 : Cert.AdamRows0.Facts) (hAdamRows0Ideal : Cert.AdamRows0Ideal.Facts) (hAdamRows0RefIdeal : Cert.AdamRows0RefIdeal.Facts) (hAdamRows1 : Cert.AdamRows1.Facts) (hAdamRows1Ideal : Cert.AdamRows1Ideal.Facts) (hAdamRows1RefIdeal : Cert.AdamRows1RefIdeal.Facts) (hAdamCols0 : Cert.AdamCols0.Facts) (hAdamCols0Ideal : Cert.AdamCols0Ideal.Facts) (hAdamCols0RefIdeal : Cert.AdamCols0RefIdeal.Facts) (hAdamCols1 : Cert.AdamCols1.Facts) (hAdamCols1Ideal : Cert.AdamCols1Ideal.Facts) (hAdamCols1RefIdeal : Cert.AdamCols1RefIdeal.Facts) (hSmall : Cert.Small.Facts) (hSmallIdeal : Cert.SmallIdeal.Facts) (hSmallRefIdeal : Cert.SmallRefIdeal.Facts) (hLoss : Cert.Loss.Facts) (hLossIdeal : Cert.LossIdeal.Facts) (hLossRefIdeal : Cert.LossRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_AIn (hAIn := hAIn)
    ∧ quiescent_AInIdeal (hAInIdeal := hAInIdeal)
    ∧ quiescent_AInRefIdeal (hAInRefIdeal := hAInRefIdeal)
    ∧ quiescent_AInDx (hAInDx := hAInDx)
    ∧ quiescent_AInDxIdeal (hAInDxIdeal := hAInDxIdeal)
    ∧ quiescent_AInDxRefIdeal (hAInDxRefIdeal := hAInDxRefIdeal)
    ∧ quiescent_AInDw (hAInDw := hAInDw)
    ∧ quiescent_AInDwIdeal (hAInDwIdeal := hAInDwIdeal)
    ∧ quiescent_AInDwRefIdeal (hAInDwRefIdeal := hAInDwRefIdeal)
    ∧ quiescent_AOut (hAOut := hAOut)
    ∧ quiescent_AOutIdeal (hAOutIdeal := hAOutIdeal)
    ∧ quiescent_AOutRefIdeal (hAOutRefIdeal := hAOutRefIdeal)
    ∧ quiescent_AOutDx (hAOutDx := hAOutDx)
    ∧ quiescent_AOutDxIdeal (hAOutDxIdeal := hAOutDxIdeal)
    ∧ quiescent_AOutDxRefIdeal (hAOutDxRefIdeal := hAOutDxRefIdeal)
    ∧ quiescent_AOutDw (hAOutDw := hAOutDw)
    ∧ quiescent_AOutDwIdeal (hAOutDwIdeal := hAOutDwIdeal)
    ∧ quiescent_AOutDwRefIdeal (hAOutDwRefIdeal := hAOutDwRefIdeal)
    ∧ quiescent_QgDw (hQgDw := hQgDw)
    ∧ quiescent_QgDwIdeal (hQgDwIdeal := hQgDwIdeal)
    ∧ quiescent_QgDwRefIdeal (hQgDwRefIdeal := hQgDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_AdamRows0 (hAdamRows0 := hAdamRows0)
    ∧ quiescent_AdamRows0Ideal (hAdamRows0Ideal := hAdamRows0Ideal)
    ∧ quiescent_AdamRows0RefIdeal (hAdamRows0RefIdeal := hAdamRows0RefIdeal)
    ∧ quiescent_AdamRows1 (hAdamRows1 := hAdamRows1)
    ∧ quiescent_AdamRows1Ideal (hAdamRows1Ideal := hAdamRows1Ideal)
    ∧ quiescent_AdamRows1RefIdeal (hAdamRows1RefIdeal := hAdamRows1RefIdeal)
    ∧ quiescent_AdamCols0 (hAdamCols0 := hAdamCols0)
    ∧ quiescent_AdamCols0Ideal (hAdamCols0Ideal := hAdamCols0Ideal)
    ∧ quiescent_AdamCols0RefIdeal (hAdamCols0RefIdeal := hAdamCols0RefIdeal)
    ∧ quiescent_AdamCols1 (hAdamCols1 := hAdamCols1)
    ∧ quiescent_AdamCols1Ideal (hAdamCols1Ideal := hAdamCols1Ideal)
    ∧ quiescent_AdamCols1RefIdeal (hAdamCols1RefIdeal := hAdamCols1RefIdeal)
    ∧ quiescent_Small (hSmall := hSmall)
    ∧ quiescent_SmallIdeal (hSmallIdeal := hSmallIdeal)
    ∧ quiescent_SmallRefIdeal (hSmallRefIdeal := hSmallRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_AIn_AInIdeal
    ∧ algebraic_AInIdeal_AInRefIdeal (hAInIdeal := hAInIdeal) (hAInRefIdeal := hAInRefIdeal)
    ∧ preserves_AInDx_AInDxIdeal
    ∧ algebraic_AInDxIdeal_AInDxRefIdeal (hAInDxIdeal := hAInDxIdeal) (hAInDxRefIdeal := hAInDxRefIdeal)
    ∧ preserves_AInDw_AInDwIdeal
    ∧ algebraic_AInDwIdeal_AInDwRefIdeal (hAInDwIdeal := hAInDwIdeal) (hAInDwRefIdeal := hAInDwRefIdeal)
    ∧ preserves_AOut_AOutIdeal
    ∧ algebraic_AOutIdeal_AOutRefIdeal (hAOutIdeal := hAOutIdeal) (hAOutRefIdeal := hAOutRefIdeal)
    ∧ preserves_AOutDx_AOutDxIdeal
    ∧ algebraic_AOutDxIdeal_AOutDxRefIdeal (hAOutDxIdeal := hAOutDxIdeal) (hAOutDxRefIdeal := hAOutDxRefIdeal)
    ∧ preserves_AOutDw_AOutDwIdeal
    ∧ algebraic_AOutDwIdeal_AOutDwRefIdeal (hAOutDwIdeal := hAOutDwIdeal) (hAOutDwRefIdeal := hAOutDwRefIdeal)
    ∧ preserves_QgDw_QgDwIdeal
    ∧ algebraic_QgDwIdeal_QgDwRefIdeal (hQgDwIdeal := hQgDwIdeal) (hQgDwRefIdeal := hQgDwRefIdeal)
    ∧ preserves_KvDw_KvDwIdeal
    ∧ algebraic_KvDwIdeal_KvDwRefIdeal (hKvDwIdeal := hKvDwIdeal) (hKvDwRefIdeal := hKvDwRefIdeal)
    ∧ preserves_Adam_AdamIdeal
    ∧ algebraic_AdamIdeal_AdamRefIdeal (hAdamIdeal := hAdamIdeal) (hAdamRefIdeal := hAdamRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
    ∧ preserves_AdamRows0_AdamRows0Ideal
    ∧ algebraic_AdamRows0Ideal_AdamRows0RefIdeal (hAdamRows0Ideal := hAdamRows0Ideal) (hAdamRows0RefIdeal := hAdamRows0RefIdeal)
    ∧ preserves_AdamRows1_AdamRows1Ideal
    ∧ algebraic_AdamRows1Ideal_AdamRows1RefIdeal (hAdamRows1Ideal := hAdamRows1Ideal) (hAdamRows1RefIdeal := hAdamRows1RefIdeal)
    ∧ preserves_AdamCols0_AdamCols0Ideal
    ∧ algebraic_AdamCols0Ideal_AdamCols0RefIdeal (hAdamCols0Ideal := hAdamCols0Ideal) (hAdamCols0RefIdeal := hAdamCols0RefIdeal)
    ∧ preserves_AdamCols1_AdamCols1Ideal
    ∧ algebraic_AdamCols1Ideal_AdamCols1RefIdeal (hAdamCols1Ideal := hAdamCols1Ideal) (hAdamCols1RefIdeal := hAdamCols1RefIdeal)
    ∧ preserves_Small_SmallIdeal
    ∧ algebraic_SmallIdeal_SmallRefIdeal (hSmallIdeal := hSmallIdeal) (hSmallRefIdeal := hSmallRefIdeal)
    ∧ preserves_Loss_LossIdeal
    ∧ algebraic_LossIdeal_LossRefIdeal (hLossIdeal := hLossIdeal) (hLossRefIdeal := hLossRefIdeal)
-- ==== Pre_finite.lean ====
abbrev S4096x2048 : Shape := ⟨2, ![4096, 2048]⟩
abbrev S2x4096x2048 : Shape := ⟨3, ![2, 4096, 2048]⟩
abbrev S4096x16 : Shape := ⟨2, ![4096, 16]⟩
abbrev S_ : Shape := ⟨0, ![]⟩
abbrev S1x4096x2048 : Shape := ⟨3, ![1, 4096, 2048]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  slices_S2x4096x2048_S1x4096x2048_1_0_0 : S2x4096x2048.Slices ![1, 0, 0] S1x4096x2048
  shapeCasts_S1x4096x2048_S4096x2048 : S1x4096x2048.ShapeCasts S4096x2048
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg3 : FVec F S4096x16 .f32) (main_arg4 : FVec F S4096x2048 .bf16) (main_v10 : IVec S_ 1) (main_v17 : IVec S_ 1) : IVec S_ 1 :=
  let main_v18 : IVec S_ 1 := andi main_v10 main_v17
  let main_v19 : FVec F S4096x16 .f32 := Host.absf main_arg3
  let main_cst_4 : FVec F S_ .f32 := constant S_ .f32 0x7F800000#32
  let main_v20 : FVec F S4096x16 .f32 := broadcastInDim S4096x16 ![] bcast_S_S4096x16 main_cst_4
  let main_v21 : IVec S4096x16 1 := cmpf .olt main_v19 main_v20
  let main_c_5 : IVec S_ 1 := constantI S_ 1 1#1
  let main_v22 : IVec S_ 1 := (fun x v => Host.reduce IntOp.andi x v reducesTo_S4096x16_S_d0_1 h_S_) main_v21 main_c_5
  let main_v23 : IVec S_ 1 := andi main_v18 main_v22
  let main_v24 : FVec F S4096x2048 .f32 := (extf .f32 · bitsLt_bf16_f32) main_arg4
  let main_v25 : FVec F S4096x2048 .f32 := Host.absf main_v24
  let main_cst_6 : FVec F S_ .f32 := constant S_ .f32 0x7F800000#32
  let main_v26 : FVec F S4096x2048 .f32 := broadcastInDim S4096x2048 ![] bcast_S_S4096x2048 main_cst_6
  let main_v27 : IVec S4096x2048 1 := cmpf .olt main_v25 main_v26
  let main_c_7 : IVec S_ 1 := constantI S_ 1 1#1
  let main_v28 : IVec S_ 1 := (fun x v => Host.reduce IntOp.andi x v reducesTo_S4096x2048_S_d0_1 h_S_) main_v27 main_c_7
  let main_v29 : IVec S_ 1 := andi main_v23 main_v28
  main_v29

def fn {F : FTy → Type} [FloatOps F] (main_arg0 : FVec F S4096x2048 .bf16) (main_arg1 : FVec F S4096x2048 .bf16) (main_arg2 : FVec F S2x4096x2048 .bf16) (main_arg3 : FVec F S4096x16 .f32) (main_arg4 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S1x4096x2048 .bf16 := (extractStridedSlice S1x4096x2048 ![1, 0, 0] · slices_S2x4096x2048_S1x4096x2048_1_0_0) main_arg2
  let main_v12 : FVec F S4096x2048 .bf16 := shapeCast S4096x2048 main_v11 shapeCasts_S1x4096x2048_S4096x2048
  let main_v13 : FVec F S4096x2048 .f32 := (extf .f32 · bitsLt_bf16_f32) main_v12
  let main_v14 : FVec F S4096x2048 .f32 := Host.absf main_v13
  let main_cst_2 : FVec F S_ .f32 := constant S_ .f32 0x7F800000#32
  let main_v15 : FVec F S4096x2048 .f32 := broadcastInDim S4096x2048 ![] bcast_S_S4096x2048 main_cst_2
  let main_v16 : IVec S4096x2048 1 := cmpf .olt main_v14 main_v15
  let main_c_3 : IVec S_ 1 := constantI S_ 1 1#1
  let main_v17 : IVec S_ 1 := (fun x v => Host.reduce IntOp.andi x v reducesTo_S4096x2048_S_d0_1 h_S_) main_v16 main_c_3
  fn_part1 (F := F) main_arg3 main_arg4 main_v10 main_v17
-- ==== Kernel.lean ====
abbrev S4096x2048 : Shape := ⟨2, ![4096, 2048]⟩
abbrev S2x4096x2048 : Shape := ⟨3, ![2, 4096, 2048]⟩
abbrev S4096x16 : Shape := ⟨2, ![4096, 16]⟩
abbrev S16x4096 : Shape := ⟨2, ![16, 4096]⟩
abbrev S16x1x4096 : Shape := ⟨3, ![16, 1, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x4096x1 : Shape := ⟨3, ![16, 4096, 1]⟩
abbrev S1x4096x2048 : Shape := ⟨3, ![1, 4096, 2048]⟩
abbrev S1024x128 : Shape := ⟨2, ![1024, 128]⟩
abbrev S512x128 : Shape := ⟨2, ![512, 128]⟩
abbrev S1x512x128 : Shape := ⟨3, ![1, 512, 128]⟩
abbrev S1x1x512 : Shape := ⟨3, ![1, 1, 512]⟩
abbrev S1x1024x1 : Shape := ⟨3, ![1, 1024, 1]⟩
abbrev S4096x128 : Shape := ⟨2, ![4096, 128]⟩
abbrev S1x4096x1 : Shape := ⟨3, ![1, 4096, 1]⟩
abbrev S1x512 : Shape := ⟨2, ![1, 512]⟩
abbrev S1024x512 : Shape := ⟨2, ![1024, 512]⟩
abbrev S1024x1 : Shape := ⟨2, ![1024, 1]⟩
abbrev S512 : Shape := ⟨1, ![512]⟩
abbrev S1024 : Shape := ⟨1, ![1024]⟩

abbrev nBuf : Space → Nat
  | .hbm => 59
  | .vmem => 27
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2x4096x2048, .bf16⟩
  | .hbm, ⟨3, _⟩ => ⟨S4096x16, .f32⟩
  | .hbm, ⟨4, _⟩ => ⟨S4096x2048, .bf16⟩
  | .hbm, ⟨5, _⟩ => ⟨S16x4096, .f32⟩
  | .hbm, ⟨6, _⟩ => ⟨S16x1x4096, .f32⟩
  | .hbm, ⟨7, _⟩ => ⟨S4096x2048, .f32⟩
  | .hbm, ⟨8, _⟩ => ⟨S4096x16x128, .f32⟩
  | .hbm, ⟨9, _⟩ => ⟨S16x4096x128, .f32⟩
  | .hbm, ⟨10, _⟩ => ⟨S4096x2048, .f32⟩
  | .hbm, ⟨11, _⟩ => ⟨S4096x16x128, .f32⟩
  | .hbm, ⟨12, _⟩ => ⟨S16x4096x128, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S16x4096x4096, .i1⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x1, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S1x4096x2048, .bf16⟩
  | .hbm, ⟨42, _⟩ => ⟨S4096x2048, .bf16⟩
  | .hbm, ⟨43, _⟩ => ⟨S4096x2048, .f32⟩
  | .hbm, ⟨44, _⟩ => ⟨S4096x16x128, .f32⟩
  | .hbm, ⟨45, _⟩ => ⟨S16x4096x128, .f32⟩
  | .hbm, ⟨46, _⟩ => ⟨S16x4096x128, .f32⟩
  | .hbm, ⟨47, _⟩ => ⟨S4096x2048, .f32⟩
  | .hbm, ⟨48, _⟩ => ⟨S4096x16x128, .f32⟩
  | .hbm, ⟨49, _⟩ => ⟨S16x4096x128, .f32⟩
  | .hbm, ⟨50, _⟩ => ⟨S16x4096x128, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S4096x2048, .f32⟩
  | .hbm, ⟨55, _⟩ => ⟨S16x4096x1, .f32⟩
  | .hbm, ⟨56, _⟩ => ⟨S4096x2048, .f32⟩
  | .hbm, ⟨57, _⟩ => ⟨S4096x2048, .f32⟩
  | .hbm, ⟨58, _⟩ => ⟨S16x1x4096, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x1x512, .f32⟩
  | .local _ .vmem, ⟨7, _⟩ => ⟨S1x1x512, .f32⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1x1024x1, .f32⟩
  | .local _ .vmem, ⟨13, _⟩ => ⟨S1x1024x1, .f32⟩
  | .local _ .vmem, ⟨14, _⟩ => ⟨S4096x128, .f32⟩
  | .local _ .vmem, ⟨15, _⟩ => ⟨S4096x128, .f32⟩
  | .local _ .vmem, ⟨16, _⟩ => ⟨S1x4096x1, .f32⟩
  | .local _ .vmem, ⟨17, _⟩ => ⟨S1x4096x1, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x1x512, .f32⟩
  | .local _ .vmem, ⟨23, _⟩ => ⟨S1x1x512, .f32⟩
  | .local _ .vmem, ⟨24, _⟩ => ⟨S512x128, .f32⟩
  | .local _ .vmem, ⟨25, _⟩ => ⟨S512x128, .f32⟩
  | .local _ .vmem, ⟨26, _⟩ => ⟨S1x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![16, 8, 4], ![false, false, false]⟩

def k0_cond3 (i : grid0.Coords) : BitVec 1 :=
  let arg1 : BitVec 32 := BitVec.ofNat 32 (i 1).val
  let c1_i32 : BitVec 32 := 1#32
  let v8 : BitVec 32 := Scalar.addi arg1 c1_i32
  let c512_i32 : BitVec 32 := 512#32
  let v9 : BitVec 32 := Scalar.muli v8 c512_i32
  let c1_i32_4 : BitVec 32 := 1#32
  let v10 : BitVec 32 := Scalar.subi v9 c1_i32_4
  let arg2 : BitVec 32 := BitVec.ofNat 32 (i 2).val
  let c1024_i32 : BitVec 32 := 1024#32
  let v11 : BitVec 32 := Scalar.muli arg2 c1024_i32
  let v12 : BitVec 1 := Scalar.cmpi .sle v10 v11
  let v13 : BitVec 32 := Scalar.extui v12
  let c0_i32_5 : BitVec 32 := 0#32
  let v14 : BitVec 1 := Scalar.cmpi .ne v13 c0_i32_5
  v14

def k0_mult1 (i : grid0.Coords) : BitVec 32 :=
  let arg2 : BitVec 32 := BitVec.ofNat 32 (i 2).val
  let c1024_i32_49 : BitVec 32 := 1024#32
  let v83 : BitVec 32 := Scalar.muli arg2 c1024_i32_49
  v83
def k0_off1 (i : grid0.Coords) : Fin 2 → Nat :=
  let arg2 : BitVec 32 := BitVec.ofNat 32 (i 2).val
  let c1024_i32_49 : BitVec 32 := 1024#32
  let v83 : BitVec 32 := Scalar.muli arg2 c1024_i32_49
  let v84 : BitVec 32 := v83
  let v85 : Index := Scalar.indexCast v84
  let c0_50 : Index := 0#32
  ![v85.toNat, 0]
def k0_off2 (i : grid0.Coords) : Fin 3 → Nat :=
  let c0_53 : Index := 0#32
  let arg2 : BitVec 32 := BitVec.ofNat 32 (i 2).val
  let c1024_i32_49 : BitVec 32 := 1024#32
  let v83 : BitVec 32 := Scalar.muli arg2 c1024_i32_49
  let v84 : BitVec 32 := v83
  let v92 : Index := Scalar.indexCast v84
  let c0_54 : Index := 0#32
  ![0, v92.toNat, 0]
def k0_cond4 (i : grid0.Coords) : BitVec 1 :=
  let arg2 : BitVec 32 := BitVec.ofNat 32 (i 2).val
  let arg1 : BitVec 32 := BitVec.ofNat 32 (i 1).val
  let c512_i32_6 : BitVec 32 := 512#32
  let v15 : BitVec 32 := Scalar.muli arg1 c512_i32_6
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c1024_i32_7 : BitVec 32 := 1024#32
  let c0_i32_10 : BitVec 32 := 0#32
  let v22 : BitVec 1 := Scalar.cmpi .sgt c1024_i32_7 c0_i32_10
  let v23 : BitVec 32 := Scalar.extui v22
  let c0_i32_11 : BitVec 32 := 0#32
  let v24 : BitVec 1 := Scalar.cmpi .slt c1024_i32_7 c0_i32_11
  let v25 : BitVec 32 := Scalar.extui v24
  let v26 : BitVec 32 := Scalar.subi v23 v25
  let v27 : BitVec 1 := Scalar.cmpi .ne v21 v26
  let v28 : BitVec 32 := Scalar.remsi v15 c1024_i32_7
  let c0_i32_12 : BitVec 32 := 0#32
  let v29 : BitVec 1 := Scalar.cmpi .ne v28 c0_i32_12
  let v30 : BitVec 1 := Scalar.andi v27 v29
  let v16 : BitVec 32 := Scalar.divsi v15 c1024_i32_7
  let c1_i32_13 : BitVec 32 := 1#32
  let v31 : BitVec 32 := Scalar.subi v16 c1_i32_13
  let v32 : BitVec 32 := Scalar.select v30 v31 v16
  let v33 : BitVec 1 := Scalar.cmpi .sge arg2 v32
  let c1_i32 : BitVec 32 := 1#32
  let v8 : BitVec 32 := Scalar.addi arg1 c1_i32
  let c512_i32 : BitVec 32 := 512#32
  let v9 : BitVec 32 := Scalar.muli v8 c512_i32
  let c1_i32_4 : BitVec 32 := 1#32
  let v10 : BitVec 32 := Scalar.subi v9 c1_i32_4
  let c1024_i32 : BitVec 32 := 1024#32
  let v11 : BitVec 32 := Scalar.muli arg2 c1024_i32
  let v12 : BitVec 1 := Scalar.cmpi .sle v10 v11
  let v_true : BitVec 1 := 1#1
  let v34 : BitVec 1 := Scalar.xori v12 v_true
  let v35 : BitVec 1 := Scalar.andi v33 v34
  let v36 : BitVec 32 := Scalar.extui v35
  let c0_i32_14 : BitVec 32 := 0#32
  let v37 : BitVec 1 := Scalar.cmpi .ne v36 c0_i32_14
  v37

def k0_mult2 (i : grid0.Coords) : BitVec 32 :=
  let arg2 : BitVec 32 := BitVec.ofNat 32 (i 2).val
  let c1024_i32_52 : BitVec 32 := 1024#32
  let v93 : BitVec 32 := Scalar.muli arg2 c1024_i32_52
  v93
def k0_off3 (i : grid0.Coords) : Fin 2 → Nat :=
  let arg2 : BitVec 32 := BitVec.ofNat 32 (i 2).val
  let c1024_i32_52 : BitVec 32 := 1024#32
  let v93 : BitVec 32 := Scalar.muli arg2 c1024_i32_52
  let v94 : BitVec 32 := v93
  let v95 : Index := Scalar.indexCast v94
  let c0_53 : Index := 0#32
  ![v95.toNat, 0]
def k0_off4 (i : grid0.Coords) : Fin 3 → Nat :=
  let c0_56 : Index := 0#32
  let arg2 : BitVec 32 := BitVec.ofNat 32 (i 2).val
  let c1024_i32_52 : BitVec 32 := 1024#32
  let v93 : BitVec 32 := Scalar.muli arg2 c1024_i32_52
  let v94 : BitVec 32 := v93
  let v102 : Index := Scalar.indexCast v94
  let c0_57 : Index := 0#32
  ![0, v102.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c3_i32 : BitVec 32 := 3#32
  let v38 : BitVec 1 := Scalar.cmpi .eq arg2 c3_i32
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  ![v18.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  ![v18.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  let c0_i32_5 : BitVec 32 := 0#32
  ![arg0.toNat, v18.toNat, c0_i32_4.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  let c0_i32_5 : BitVec 32 := 0#32
  ![arg0.toNat, v18.toNat, c0_i32_4.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S2x4096x2048 : Shape := ⟨3, ![2, 4096, 2048]⟩
abbrev S4096x16 : Shape := ⟨2, ![4096, 16]⟩
abbrev S16x4096 : Shape := ⟨2, ![16, 4096]⟩
abbrev S16x4096x1 : Shape := ⟨3, ![16, 4096, 1]⟩
abbrev S16x1x4096 : Shape := ⟨3, ![16, 1, 4096]⟩
abbrev S4096x16x128 : Shape := ⟨3, ![4096, 16, 128]⟩
abbrev S16x4096x128 : Shape := ⟨3, ![16, 4096, 128]⟩
abbrev S1x4096x2048 : Shape := ⟨3, ![1, 4096, 2048]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x128x4096 : Shape := ⟨3, ![16, 128, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2x4096x2048, .bf16⟩
  | .hbm, ⟨3, _⟩ => ⟨S4096x16, .f32⟩
  | .hbm, ⟨4, _⟩ => ⟨S4096x2048, .bf16⟩
  | .hbm, ⟨5, _⟩ => ⟨S16x4096, .f32⟩
  | .hbm, ⟨6, _⟩ => ⟨S16x4096x1, .f32⟩
  | .hbm, ⟨7, _⟩ => ⟨S16x4096, .f32⟩
  | .hbm, ⟨8, _⟩ => ⟨S16x1x4096, .f32⟩
  | .hbm, ⟨9, _⟩ => ⟨S4096x2048, .f32⟩
  | .hbm, ⟨10, _⟩ => ⟨S4096x16x128, .f32⟩
  | .hbm, ⟨11, _⟩ => ⟨S16x4096x128, .f32⟩
  | .hbm, ⟨12, _⟩ => ⟨S4096x2048, .f32⟩
  | .hbm, ⟨13, _⟩ => ⟨S4096x16x128, .f32⟩
  | .hbm, ⟨14, _⟩ => ⟨S16x4096x128, .f32⟩
  | .hbm, ⟨15, _⟩ => ⟨S1x4096x2048, .bf16⟩
  | .hbm, ⟨16, _⟩ => ⟨S4096x2048, .bf16⟩
  | .hbm, ⟨17, _⟩ => ⟨S4096x2048, .f32⟩
  | .hbm, ⟨18, _⟩ => ⟨S4096x16x128, .f32⟩
  | .hbm, ⟨19, _⟩ => ⟨S16x4096x128, .f32⟩
  | .hbm, ⟨20, _⟩ => ⟨S16x4096x4096, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .i1⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S16x4096, .f32⟩
  | .hbm, ⟨50, _⟩ => ⟨S_, .f32⟩
  | .hbm, ⟨51, _⟩ => ⟨S16x4096, .f32⟩
  | .hbm, ⟨52, _⟩ => ⟨S16x4096, .i1⟩
  | .hbm, ⟨53, _⟩ => ⟨S_, .f32⟩
  | .hbm, ⟨54, _⟩ => ⟨S16x4096, .f32⟩
  | .hbm, ⟨55, _⟩ => ⟨S16x4096, .i1⟩
  | .hbm, ⟨56, _⟩ => ⟨S_, .f32⟩
  | .hbm, ⟨57, _⟩ => ⟨S16x4096, .f32⟩
  | .hbm, ⟨58, _⟩ => ⟨S_, .f32⟩
  | .hbm, ⟨59, _⟩ => ⟨S16x4096, .f32⟩
  | .hbm, ⟨60, _⟩ => ⟨S_, .f32⟩
  | .hbm, ⟨61, _⟩ => ⟨S16x4096, .f32⟩
  | .hbm, ⟨62, _⟩ => ⟨S16x4096, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S16x4096x4096, .f32⟩
  | .hbm, ⟨72, _⟩ => ⟨S16x4096x4096, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x4096x128, .f32⟩
  | .hbm, ⟨78, _⟩ => ⟨S4096x2048, .f32⟩
  | .hbm, ⟨79, _⟩ => ⟨S4096x16x128, .f32⟩
  | .hbm, ⟨80, _⟩ => ⟨S16x4096x128, .f32⟩
  | .hbm, ⟨81, _⟩ => ⟨S16x128x4096, .f32⟩
  | .hbm, ⟨82, _⟩ => ⟨S16x4096x128, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x1, .f32⟩
  | .hbm, ⟨90, _⟩ => ⟨S16x4096x1, .f32⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096, .f32⟩
  | .hbm, ⟨95, _⟩ => ⟨S16x4096x4096, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096x4096, .f32⟩
  | .hbm, ⟨100, _⟩ => ⟨S16x4096x4096, .f32⟩
  | .hbm, ⟨101, _⟩ => ⟨S16x4096x4096, .f32⟩
  | .hbm, ⟨102, _⟩ => ⟨S_, .f32⟩
  | .hbm, ⟨103, _⟩ => ⟨S16x4096, .f32⟩
  | .hbm, ⟨104, _⟩ => ⟨S16x1x4096, .f32⟩
  | .hbm, ⟨105, _⟩ => ⟨S_, .f32⟩
  | .hbm, ⟨106, _⟩ => ⟨S16x4096, .f32⟩
  | .hbm, ⟨107, _⟩ => ⟨S16x4096x1, .f32⟩
  | .hbm, ⟨108, _⟩ => ⟨S16x4096x128, .f32⟩
  | .hbm, ⟨109, _⟩ => ⟨S16x4096x128, .f32⟩
  | .hbm, ⟨110, _⟩ => ⟨S4096x16x128, .f32⟩
  | .hbm, ⟨111, _⟩ => ⟨S4096x2048, .f32⟩
  | .hbm, ⟨112, _⟩ => ⟨S4096x16x128, .f32⟩
  | .hbm, ⟨113, _⟩ => ⟨S4096x2048, .f32⟩
  | .hbm, ⟨114, _⟩ => ⟨S4096x16x128, .f32⟩
  | .hbm, ⟨115, _⟩ => ⟨S4096x2048, .f32⟩
  | .hbm, ⟨116, _⟩ => ⟨S16x1x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_call0_v0 : Ref sig .tc := ⟨.hbm, 33, rfl⟩
abbrev main_v27_1 : Ref sig .tc := ⟨.hbm, 34, rfl⟩
abbrev main_call0_v2 : Ref sig .tc := ⟨.hbm, 35, rfl⟩
abbrev main_v27_0 : Ref sig .tc := ⟨.hbm, 36, rfl⟩
abbrev main_call0_cst : Ref sig .tc := ⟨.hbm, 37, rfl⟩
abbrev main_v27_2 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== UpDx.lean ====
abbrev S2x4096x5632 : Shape := ⟨3, ![2, 4096, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S4096x2048 : Shape := ⟨2, ![4096, 2048]⟩
abbrev S1x1024x1408 : Shape := ⟨3, ![1, 1024, 1408]⟩
abbrev S1x1x2048x1408 : Shape := ⟨4, ![1, 1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S4x1x2048x2816, .bf16⟩
  | .hbm, ⟨6, _⟩ => ⟨S4096x2048, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2x4096x5632 : Shape := ⟨3, ![2, 4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩
abbrev S4096x2x5632 : Shape := ⟨3, ![4096, 2, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2x5632, .f32⟩
  | .hbm, ⟨6, _⟩ => ⟨S2x4096x5632, .f32⟩
  | .hbm, ⟨7, _⟩ => ⟨S2x4096x5632, .f32⟩
  | .hbm, ⟨8, _⟩ => ⟨S4096x2x5632, .f32⟩
  | .hbm, ⟨9, _⟩ => ⟨S4096x11264, .f32⟩
  | .hbm, ⟨10, _⟩ => ⟨S4096x2048, .f32⟩
  | .hbm, ⟨11, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDw.lean ====
abbrev S4096x2048 : Shape := ⟨2, ![4096, 2048]⟩
abbrev S2x4096x5632 : Shape := ⟨3, ![2, 4096, 5632]⟩
abbrev S4x1x2048x2816 : Shape := ⟨4, ![4, 1, 2048, 2816]⟩
abbrev S2048x1024 : Shape := ⟨2, ![2048, 1024]⟩
abbrev S1x2048x1408 : Shape := ⟨3, ![1, 2048, 1408]⟩
abbrev S1x1x1024x1408 : Shape := ⟨4, ![1, 1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x1x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x2x5632 : Shape := ⟨3, ![4096, 2, 5632]⟩
abbrev S11264x2048 : Shape := ⟨2, ![11264, 2048]⟩
abbrev S2048x4x1x2816 : Shape := ⟨4, ![2048, 4, 1, 2816]⟩
abbrev S4x1x2048x2816 : Shape := ⟨4, ![4, 1, 2048, 2816]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x2x5632, .f32⟩
  | .hbm, ⟨7, _⟩ => ⟨S2x4096x5632, .f32⟩
  | .hbm, ⟨8, _⟩ => ⟨S2x4096x5632, .f32⟩
  | .hbm, ⟨9, _⟩ => ⟨S4096x2x5632, .f32⟩
  | .hbm, ⟨10, _⟩ => ⟨S4096x11264, .f32⟩
  | .hbm, ⟨11, _⟩ => ⟨S11264x2048, .f32⟩
  | .hbm, ⟨12, _⟩ => ⟨S2048x11264, .f32⟩
  | .hbm, ⟨13, _⟩ => ⟨S2048x4x1x2816, .f32⟩
  | .hbm, ⟨14, _⟩ => ⟨S4x1x2048x2816, .f32⟩
  | .hbm, ⟨15, _⟩ => ⟨S4x1x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4x1x1408x2048 : Shape := ⟨4, ![4, 1, 1408, 2048]⟩
abbrev S4096x5632 : Shape := ⟨2, ![4096, 5632]⟩
abbrev S1024x2048 : Shape := ⟨2, ![1024, 2048]⟩
abbrev S1x1x1408x2048 : Shape := ⟨4, ![1, 1, 1408, 2048]⟩
abbrev S1024x1408 : Shape := ⟨2, ![1024, 1408]⟩
abbrev S1408x2048 : Shape := ⟨2, ![1408, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S5632x2048, .bf16⟩
  | .hbm, ⟨3, _⟩ => ⟨S4x1x1408x2048, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x2048, .f32⟩
  | .hbm, ⟨6, _⟩ => ⟨S4096x5632, .f32⟩
  | .hbm, ⟨7, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S4x1x1408x2048 : Shape := ⟨4, ![4, 1, 1408, 2048]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x1x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S4x1x1408x2048 : Shape := ⟨4, ![4, 1, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4x1x1408x2048, .f32⟩
  | .hbm, ⟨10, _⟩ => ⟨S4x1x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S2x4096x5632 : Shape := ⟨3, ![2, 4096, 5632]⟩
abbrev S1024x2048 : Shape := ⟨2, ![1024, 2048]⟩
abbrev S1x1x2048x1408 : Shape := ⟨4, ![1, 1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S4x1x2048x2816, .bf16⟩
  | .hbm, ⟨6, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S4096x2048, .f32⟩
  | .hbm, ⟨3, _⟩ => ⟨S4096x11264, .f32⟩
  | .hbm, ⟨4, _⟩ => ⟨S4096x2x5632, .f32⟩
  | .hbm, ⟨5, _⟩ => ⟨S2x4096x5632, .f32⟩
  | .hbm, ⟨6, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S4x1x1408x2048 : Shape := ⟨4, ![4, 1, 1408, 2048]⟩
abbrev S1024x1408 : Shape := ⟨2, ![1024, 1408]⟩
abbrev S1x1x1408x1024 : Shape := ⟨4, ![1, 1, 1408, 1024]⟩
abbrev S1024x1024 : Shape := ⟨2, ![1024, 1024]⟩
abbrev S1408x1024 : Shape := ⟨2, ![1408, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S5632x2048, .bf16⟩
  | .hbm, ⟨4, _⟩ => ⟨S4x1x1408x2048, .bf16⟩
  | .hbm, ⟨5, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x5632, .f32⟩
  | .hbm, ⟨4, _⟩ => ⟨S4096x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AIn.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S4096x4096 : Shape := ⟨2, ![4096, 4096]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S4x1x2048x1024, .bf16⟩
  | .hbm, ⟨6, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S4096x2048, .f32⟩
  | .hbm, ⟨3, _⟩ => ⟨S4096x4096, .f32⟩
  | .hbm, ⟨4, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AInDx.lean ====
abbrev S4096x4096 : Shape := ⟨2, ![4096, 4096]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S4096x2048 : Shape := ⟨2, ![4096, 2048]⟩
abbrev S1024x1024 : Shape := ⟨2, ![1024, 1024]⟩
abbrev S1x1x2048x1024 : Shape := ⟨4, ![1, 1, 2048, 1024]⟩
abbrev S1024x2048 : Shape := ⟨2, ![1024, 2048]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S4x1x2048x1024, .bf16⟩
  | .hbm, ⟨6, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDxRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S4096x2048, .f32⟩
  | .hbm, ⟨7, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AInDw.lean ====
abbrev S4096x2048 : Shape := ⟨2, ![4096, 2048]⟩
abbrev S4096x4096 : Shape := ⟨2, ![4096, 4096]⟩
abbrev S4x1x2048x1024 : Shape := ⟨4, ![4, 1, 2048, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x1x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1x1024 : Shape := ⟨4, ![2048, 4, 1, 1024]⟩
abbrev S4x1x2048x1024 : Shape := ⟨4, ![4, 1, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4x1x1024, .f32⟩
  | .hbm, ⟨10, _⟩ => ⟨S4x1x2048x1024, .f32⟩
  | .hbm, ⟨11, _⟩ => ⟨S4x1x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AOut.lean ====
abbrev S4096x2048 : Shape := ⟨2, ![4096, 2048]⟩
abbrev S2048x2048 : Shape := ⟨2, ![2048, 2048]⟩
abbrev S4x1x512x2048 : Shape := ⟨4, ![4, 1, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4x1x512x2048, .bf16⟩
  | .hbm, ⟨5, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AOutRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AOutDx.lean ====
abbrev S4096x2048 : Shape := ⟨2, ![4096, 2048]⟩
abbrev S2048x2048 : Shape := ⟨2, ![2048, 2048]⟩
abbrev S4x1x512x2048 : Shape := ⟨4, ![4, 1, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4x1x512x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AOutDw.lean ====
abbrev S4096x2048 : Shape := ⟨2, ![4096, 2048]⟩
abbrev S4x1x512x2048 : Shape := ⟨4, ![4, 1, 512, 2048]⟩
abbrev S4096x512 : Shape := ⟨2, ![4096, 512]⟩
abbrev S4096x1024 : Shape := ⟨2, ![4096, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x1x512x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .bf16⟩
  | .local _ .vmem, ⟨5, _⟩ => ⟨S1x1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDwRefIdeal.lean ====
abbrev S4096x2048 : Shape := ⟨2, ![4096, 2048]⟩
abbrev S_ : Shape := ⟨0, ![]⟩
abbrev S2048x2048 : Shape := ⟨2, ![2048, 2048]⟩
abbrev S4x1x512x2048 : Shape := ⟨4, ![4, 1, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4x1x512x2048, .f32⟩
  | .hbm, ⟨10, _⟩ => ⟨S4x1x512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QgDw.lean ====
abbrev S4096x2048 : Shape := ⟨2, ![4096, 2048]⟩
abbrev S2x4096x2048 : Shape := ⟨3, ![2, 4096, 2048]⟩
abbrev S4x1x2048x1024 : Shape := ⟨4, ![4, 1, 2048, 1024]⟩
abbrev S2048x1024 : Shape := ⟨2, ![2048, 1024]⟩
abbrev S1x2048x1024 : Shape := ⟨3, ![1, 2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S4x1x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QgDwRefIdeal.lean ====
abbrev S4096x2048 : Shape := ⟨2, ![4096, 2048]⟩
abbrev S2x4096x2048 : Shape := ⟨3, ![2, 4096, 2048]⟩
abbrev S_ : Shape := ⟨0, ![]⟩
abbrev S2048x4096 : Shape := ⟨2, ![2048, 4096]⟩
abbrev S4096x4096 : Shape := ⟨2, ![4096, 4096]⟩
abbrev S4096x2x2048 : Shape := ⟨3, ![4096, 2, 2048]⟩
abbrev S2048x4x1x1024 : Shape := ⟨4, ![2048, 4, 1, 1024]⟩
abbrev S4x1x2048x1024 : Shape := ⟨4, ![4, 1, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x2x2048, .f32⟩
  | .hbm, ⟨7, _⟩ => ⟨S2x4096x2048, .f32⟩
  | .hbm, ⟨8, _⟩ => ⟨S2x4096x2048, .f32⟩
  | .hbm, ⟨9, _⟩ => ⟨S4096x2x2048, .f32⟩
  | .hbm, ⟨10, _⟩ => ⟨S4096x4096, .f32⟩
  | .hbm, ⟨11, _⟩ => ⟨S4096x2048, .f32⟩
  | .hbm, ⟨12, _⟩ => ⟨S2048x4096, .f32⟩
  | .hbm, ⟨13, _⟩ => ⟨S2048x4x1x1024, .f32⟩
  | .hbm, ⟨14, _⟩ => ⟨S4x1x2048x1024, .f32⟩
  | .hbm, ⟨15, _⟩ => ⟨S4x1x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KvDw.lean ====
abbrev S4096x2048 : Shape := ⟨2, ![4096, 2048]⟩
abbrev S2x4096x2048 : Shape := ⟨3, ![2, 4096, 2048]⟩
abbrev S2x2048x2048 : Shape := ⟨3, ![2, 2048, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S2x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S4096x2048 : Shape := ⟨2, ![4096, 2048]⟩
abbrev S2x4096x2048 : Shape := ⟨3, ![2, 4096, 2048]⟩
abbrev S_ : Shape := ⟨0, ![]⟩
abbrev S2048x4096 : Shape := ⟨2, ![2048, 4096]⟩
abbrev S4096x4096 : Shape := ⟨2, ![4096, 4096]⟩
abbrev S4096x2x2048 : Shape := ⟨3, ![4096, 2, 2048]⟩
abbrev S2048x2x2048 : Shape := ⟨3, ![2048, 2, 2048]⟩
abbrev S2x2048x2048 : Shape := ⟨3, ![2, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x2x2048, .f32⟩
  | .hbm, ⟨7, _⟩ => ⟨S2x4096x2048, .f32⟩
  | .hbm, ⟨8, _⟩ => ⟨S2x4096x2048, .f32⟩
  | .hbm, ⟨9, _⟩ => ⟨S4096x2x2048, .f32⟩
  | .hbm, ⟨10, _⟩ => ⟨S4096x4096, .f32⟩
  | .hbm, ⟨11, _⟩ => ⟨S4096x2048, .f32⟩
  | .hbm, ⟨12, _⟩ => ⟨S2048x4096, .f32⟩
  | .hbm, ⟨13, _⟩ => ⟨S2048x2x2048, .f32⟩
  | .hbm, ⟨14, _⟩ => ⟨S2x2048x2048, .f32⟩
  | .hbm, ⟨15, _⟩ => ⟨S2x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Adam.lean ====
abbrev S2048x1028 : Shape := ⟨2, ![2048, 1028]⟩
abbrev S256x1028 : Shape := ⟨2, ![256, 1028]⟩

abbrev nBuf : Space → Nat
  | .hbm => 7
  | .vmem => 14
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S2048x1028 : Shape := ⟨2, ![2048, 1028]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S_, .f32⟩
  | .hbm, ⟨5, _⟩ => ⟨S2048x1028, .f32⟩
  | .hbm, ⟨6, _⟩ => ⟨S2048x1028, .f32⟩
  | .hbm, ⟨7, _⟩ => ⟨S_, .f32⟩
  | .hbm, ⟨8, _⟩ => ⟨S2048x1028, .f32⟩
  | .hbm, ⟨9, _⟩ => ⟨S2048x1028, .f32⟩
  | .hbm, ⟨10, _⟩ => ⟨S2048x1028, .f32⟩
  | .hbm, ⟨11, _⟩ => ⟨S_, .f32⟩
  | .hbm, ⟨12, _⟩ => ⟨S2048x1028, .f32⟩
  | .hbm, ⟨13, _⟩ => ⟨S2048x1028, .f32⟩
  | .hbm, ⟨14, _⟩ => ⟨S2048x1028, .f32⟩
  | .hbm, ⟨15, _⟩ => ⟨S_, .f32⟩
  | .hbm, ⟨16, _⟩ => ⟨S2048x1028, .f32⟩
  | .hbm, ⟨17, _⟩ => ⟨S2048x1028, .f32⟩
  | .hbm, ⟨18, _⟩ => ⟨S2048x1028, .f32⟩
  | .hbm, ⟨19, _⟩ => ⟨S_, .f32⟩
  | .hbm, ⟨20, _⟩ => ⟨S2048x1028, .f32⟩
  | .hbm, ⟨21, _⟩ => ⟨S2048x1028, .f32⟩
  | .hbm, ⟨22, _⟩ => ⟨S_, .f32⟩
  | .hbm, ⟨23, _⟩ => ⟨S2048x1028, .f32⟩
  | .hbm, ⟨24, _⟩ => ⟨S2048x1028, .f32⟩
  | .hbm, ⟨25, _⟩ => ⟨S2048x1028, .f32⟩
  | .hbm, ⟨26, _⟩ => ⟨S_, .f32⟩
  | .hbm, ⟨27, _⟩ => ⟨S2048x1028, .f32⟩
  | .hbm, ⟨28, _⟩ => ⟨S2048x1028, .f32⟩
  | .hbm, ⟨29, _⟩ => ⟨S2048x1028, .f32⟩
  | .hbm, ⟨30, _⟩ => ⟨S_, .f32⟩
  | .hbm, ⟨31, _⟩ => ⟨S2048x1028, .f32⟩
  | .hbm, ⟨32, _⟩ => ⟨S2048x1028, .f32⟩
  | .hbm, ⟨33, _⟩ => ⟨S2048x1028, .f32⟩
  | .hbm, ⟨34, _⟩ => ⟨S_, .f32⟩
  | .hbm, ⟨35, _⟩ => ⟨S2048x1028, .f32⟩
  | .hbm, ⟨36, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== AdamRows0.lean ====
abbrev S2x512x2048 : Shape := ⟨3, ![2, 512, 2048]⟩
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S1x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRows0Ideal.lean ====
abbrev S2x512x2048 : Shape := ⟨3, ![2, 512, 2048]⟩
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S1x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRows0RefIdeal.lean ====
abbrev S2x512x2048 : Shape := ⟨3, ![2, 512, 2048]⟩
abbrev S1x512x2048 : Shape := ⟨3, ![1, 512, 2048]⟩
abbrev S2 : Shape := ⟨1, ![2]⟩
abbrev S2x1x1 : Shape := ⟨3, ![2, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S1x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2, .i32⟩
  | .hbm, ⟨10, _⟩ => ⟨S2x1x1, .i32⟩
  | .hbm, ⟨11, _⟩ => ⟨S_, .i32⟩
  | .hbm, ⟨12, _⟩ => ⟨S2x1x1, .i32⟩
  | .hbm, ⟨13, _⟩ => ⟨S2x1x1, .i1⟩
  | .hbm, ⟨14, _⟩ => ⟨S_, .f32⟩
  | .hbm, ⟨15, _⟩ => ⟨S2x512x2048, .f32⟩
  | .hbm, ⟨16, _⟩ => ⟨S2x512x2048, .f32⟩
  | .hbm, ⟨17, _⟩ => ⟨S_, .f32⟩
  | .hbm, ⟨18, _⟩ => ⟨S2x512x2048, .f32⟩
  | .hbm, ⟨19, _⟩ => ⟨S2x512x2048, .f32⟩
  | .hbm, ⟨20, _⟩ => ⟨S2x512x2048, .f32⟩
  | .hbm, ⟨21, _⟩ => ⟨S_, .f32⟩
  | .hbm, ⟨22, _⟩ => ⟨S2x512x2048, .f32⟩
  | .hbm, ⟨23, _⟩ => ⟨S2x512x2048, .f32⟩
  | .hbm, ⟨24, _⟩ => ⟨S2x512x2048, .f32⟩
  | .hbm, ⟨25, _⟩ => ⟨S_, .f32⟩
  | .hbm, ⟨26, _⟩ => ⟨S2x512x2048, .f32⟩
  | .hbm, ⟨27, _⟩ => ⟨S2x512x2048, .f32⟩
  | .hbm, ⟨28, _⟩ => ⟨S2x512x2048, .f32⟩
  | .hbm, ⟨29, _⟩ => ⟨S_, .f32⟩
  | .hbm, ⟨30, _⟩ => ⟨S2x512x2048, .f32⟩
  | .hbm, ⟨31, _⟩ => ⟨S2x512x2048, .f32⟩
  | .hbm, ⟨32, _⟩ => ⟨S_, .f32⟩
  | .hbm, ⟨33, _⟩ => ⟨S2x512x2048, .f32⟩
  | .hbm, ⟨34, _⟩ => ⟨S2x512x2048, .f32⟩
  | .hbm, ⟨35, _⟩ => ⟨S2x512x2048, .f32⟩
  | .hbm, ⟨36, _⟩ => ⟨S_, .f32⟩
  | .hbm, ⟨37, _⟩ => ⟨S2x512x2048, .f32⟩
  | .hbm, ⟨38, _⟩ => ⟨S2x512x2048, .f32⟩
  | .hbm, ⟨39, _⟩ => ⟨S2x512x2048, .f32⟩
  | .hbm, ⟨40, _⟩ => ⟨S_, .f32⟩
  | .hbm, ⟨41, _⟩ => ⟨S2x512x2048, .f32⟩
  | .hbm, ⟨42, _⟩ => ⟨S2x512x2048, .f32⟩
  | .hbm, ⟨43, _⟩ => ⟨S2x512x2048, .f32⟩
  | .hbm, ⟨44, _⟩ => ⟨S_, .f32⟩
  | .hbm, ⟨45, _⟩ => ⟨S2x512x2048, .f32⟩
  | .hbm, ⟨46, _⟩ => ⟨S2x512x2048, .f32⟩
  | .hbm, ⟨47, _⟩ => ⟨S2x512x2048, .i1⟩
  | .hbm, ⟨48, _⟩ => ⟨S2x512x2048, .f32⟩
  | .hbm, ⟨49, _⟩ => ⟨S2x512x2048, .i1⟩
  | .hbm, ⟨50, _⟩ => ⟨S2x512x2048, .f32⟩
  | .hbm, ⟨51, _⟩ => ⟨S2x512x2048, .i1⟩
  | .hbm, ⟨52, _⟩ => ⟨S2x512x2048, .f32⟩
  | .hbm, ⟨53, _⟩ => ⟨S2x512x2048, .i1⟩
  | .hbm, ⟨54, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_call0_v0 : Ref sig .tc := ⟨.hbm, 47, rfl⟩
abbrev main_v29 : Ref sig .tc := ⟨.hbm, 48, rfl⟩
abbrev main_call1_v0 : Ref sig .tc := ⟨.hbm, 49, rfl⟩
abbrev main_v30 : Ref sig .tc := ⟨.hbm, 50, rfl⟩
abbrev main_call2_v0 : Ref sig .tc := ⟨.hbm, 51, rfl⟩
abbrev main_v31 : Ref sig .tc := ⟨.hbm, 52, rfl⟩
abbrev main_call3_v0 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== AdamRows1.lean ====
abbrev S2x512x2048 : Shape := ⟨3, ![2, 512, 2048]⟩
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S1x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRows1Ideal.lean ====
abbrev S2x512x2048 : Shape := ⟨3, ![2, 512, 2048]⟩
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S1x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRows1RefIdeal.lean ====
abbrev S2x512x2048 : Shape := ⟨3, ![2, 512, 2048]⟩
abbrev S1x512x2048 : Shape := ⟨3, ![1, 512, 2048]⟩
abbrev S2 : Shape := ⟨1, ![2]⟩
abbrev S2x1x1 : Shape := ⟨3, ![2, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S1x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2, .i32⟩
  | .hbm, ⟨10, _⟩ => ⟨S2x1x1, .i32⟩
  | .hbm, ⟨11, _⟩ => ⟨S_, .i32⟩
  | .hbm, ⟨12, _⟩ => ⟨S2x1x1, .i32⟩
  | .hbm, ⟨13, _⟩ => ⟨S2x1x1, .i1⟩
  | .hbm, ⟨14, _⟩ => ⟨S_, .f32⟩
  | .hbm, ⟨15, _⟩ => ⟨S2x512x2048, .f32⟩
  | .hbm, ⟨16, _⟩ => ⟨S2x512x2048, .f32⟩
  | .hbm, ⟨17, _⟩ => ⟨S_, .f32⟩
  | .hbm, ⟨18, _⟩ => ⟨S2x512x2048, .f32⟩
  | .hbm, ⟨19, _⟩ => ⟨S2x512x2048, .f32⟩
  | .hbm, ⟨20, _⟩ => ⟨S2x512x2048, .f32⟩
  | .hbm, ⟨21, _⟩ => ⟨S_, .f32⟩
  | .hbm, ⟨22, _⟩ => ⟨S2x512x2048, .f32⟩
  | .hbm, ⟨23, _⟩ => ⟨S2x512x2048, .f32⟩
  | .hbm, ⟨24, _⟩ => ⟨S2x512x2048, .f32⟩
  | .hbm, ⟨25, _⟩ => ⟨S_, .f32⟩
  | .hbm, ⟨26, _⟩ => ⟨S2x512x2048, .f32⟩
  | .hbm, ⟨27, _⟩ => ⟨S2x512x2048, .f32⟩
  | .hbm, ⟨28, _⟩ => ⟨S2x512x2048, .f32⟩
  | .hbm, ⟨29, _⟩ => ⟨S_, .f32⟩
  | .hbm, ⟨30, _⟩ => ⟨S2x512x2048, .f32⟩
  | .hbm, ⟨31, _⟩ => ⟨S2x512x2048, .f32⟩
  | .hbm, ⟨32, _⟩ => ⟨S_, .f32⟩
  | .hbm, ⟨33, _⟩ => ⟨S2x512x2048, .f32⟩
  | .hbm, ⟨34, _⟩ => ⟨S2x512x2048, .f32⟩
  | .hbm, ⟨35, _⟩ => ⟨S2x512x2048, .f32⟩
  | .hbm, ⟨36, _⟩ => ⟨S_, .f32⟩
  | .hbm, ⟨37, _⟩ => ⟨S2x512x2048, .f32⟩
  | .hbm, ⟨38, _⟩ => ⟨S2x512x2048, .f32⟩
  | .hbm, ⟨39, _⟩ => ⟨S2x512x2048, .f32⟩
  | .hbm, ⟨40, _⟩ => ⟨S_, .f32⟩
  | .hbm, ⟨41, _⟩ => ⟨S2x512x2048, .f32⟩
  | .hbm, ⟨42, _⟩ => ⟨S2x512x2048, .f32⟩
  | .hbm, ⟨43, _⟩ => ⟨S2x512x2048, .f32⟩
  | .hbm, ⟨44, _⟩ => ⟨S_, .f32⟩
  | .hbm, ⟨45, _⟩ => ⟨S2x512x2048, .f32⟩
  | .hbm, ⟨46, _⟩ => ⟨S2x512x2048, .f32⟩
  | .hbm, ⟨47, _⟩ => ⟨S2x512x2048, .i1⟩
  | .hbm, ⟨48, _⟩ => ⟨S2x512x2048, .f32⟩
  | .hbm, ⟨49, _⟩ => ⟨S2x512x2048, .i1⟩
  | .hbm, ⟨50, _⟩ => ⟨S2x512x2048, .f32⟩
  | .hbm, ⟨51, _⟩ => ⟨S2x512x2048, .i1⟩
  | .hbm, ⟨52, _⟩ => ⟨S2x512x2048, .f32⟩
  | .hbm, ⟨53, _⟩ => ⟨S2x512x2048, .i1⟩
  | .hbm, ⟨54, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_call0_v0 : Ref sig .tc := ⟨.hbm, 47, rfl⟩
abbrev main_v29 : Ref sig .tc := ⟨.hbm, 48, rfl⟩
abbrev main_call1_v0 : Ref sig .tc := ⟨.hbm, 49, rfl⟩
abbrev main_v30 : Ref sig .tc := ⟨.hbm, 50, rfl⟩
abbrev main_call2_v0 : Ref sig .tc := ⟨.hbm, 51, rfl⟩
abbrev main_v31 : Ref sig .tc := ⟨.hbm, 52, rfl⟩
abbrev main_call3_v0 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== AdamCols0.lean ====
abbrev S2x2048x1024 : Shape := ⟨3, ![2, 2048, 1024]⟩
abbrev S1x2048x1024 : Shape := ⟨3, ![1, 2048, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamCols0Ideal.lean ====
abbrev S2x2048x1024 : Shape := ⟨3, ![2, 2048, 1024]⟩
abbrev S1x2048x1024 : Shape := ⟨3, ![1, 2048, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamCols0RefIdeal.lean ====
abbrev S2x2048x1024 : Shape := ⟨3, ![2, 2048, 1024]⟩
abbrev S1x2048x1024 : Shape := ⟨3, ![1, 2048, 1024]⟩
abbrev S2 : Shape := ⟨1, ![2]⟩
abbrev S2x1x1 : Shape := ⟨3, ![2, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2, .i32⟩
  | .hbm, ⟨10, _⟩ => ⟨S2x1x1, .i32⟩
  | .hbm, ⟨11, _⟩ => ⟨S_, .i32⟩
  | .hbm, ⟨12, _⟩ => ⟨S2x1x1, .i32⟩
  | .hbm, ⟨13, _⟩ => ⟨S2x1x1, .i1⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | .hbm, ⟨47, _⟩ => ⟨S2x2048x1024, .i1⟩
  | .hbm, ⟨48, _⟩ => ⟨S2x2048x1024, .f32⟩
  | .hbm, ⟨49, _⟩ => ⟨S2x2048x1024, .i1⟩
  | .hbm, ⟨50, _⟩ => ⟨S2x2048x1024, .f32⟩
  | .hbm, ⟨51, _⟩ => ⟨S2x2048x1024, .i1⟩
  | .hbm, ⟨52, _⟩ => ⟨S2x2048x1024, .f32⟩
  | .hbm, ⟨53, _⟩ => ⟨S2x2048x1024, .i1⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_call0_v0 : Ref sig .tc := ⟨.hbm, 47, rfl⟩
abbrev main_v29 : Ref sig .tc := ⟨.hbm, 48, rfl⟩
abbrev main_call1_v0 : Ref sig .tc := ⟨.hbm, 49, rfl⟩
abbrev main_v30 : Ref sig .tc := ⟨.hbm, 50, rfl⟩
abbrev main_call2_v0 : Ref sig .tc := ⟨.hbm, 51, rfl⟩
abbrev main_v31 : Ref sig .tc := ⟨.hbm, 52, rfl⟩
abbrev main_call3_v0 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== AdamCols1.lean ====
abbrev S2x2048x1024 : Shape := ⟨3, ![2, 2048, 1024]⟩
abbrev S1x2048x1024 : Shape := ⟨3, ![1, 2048, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamCols1RefIdeal.lean ====
abbrev S2x2048x1024 : Shape := ⟨3, ![2, 2048, 1024]⟩
abbrev S1x2048x1024 : Shape := ⟨3, ![1, 2048, 1024]⟩
abbrev S2 : Shape := ⟨1, ![2]⟩
abbrev S2x1x1 : Shape := ⟨3, ![2, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2, .i32⟩
  | .hbm, ⟨10, _⟩ => ⟨S2x1x1, .i32⟩
  | .hbm, ⟨11, _⟩ => ⟨S_, .i32⟩
  | .hbm, ⟨12, _⟩ => ⟨S2x1x1, .i32⟩
  | .hbm, ⟨13, _⟩ => ⟨S2x1x1, .i1⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | .hbm, ⟨47, _⟩ => ⟨S2x2048x1024, .i1⟩
  | .hbm, ⟨48, _⟩ => ⟨S2x2048x1024, .f32⟩
  | .hbm, ⟨49, _⟩ => ⟨S2x2048x1024, .i1⟩
  | .hbm, ⟨50, _⟩ => ⟨S2x2048x1024, .f32⟩
  | .hbm, ⟨51, _⟩ => ⟨S2x2048x1024, .i1⟩
  | .hbm, ⟨52, _⟩ => ⟨S2x2048x1024, .f32⟩
  | .hbm, ⟨53, _⟩ => ⟨S2x2048x1024, .i1⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_call0_v0 : Ref sig .tc := ⟨.hbm, 47, rfl⟩
abbrev main_v29 : Ref sig .tc := ⟨.hbm, 48, rfl⟩
abbrev main_call1_v0 : Ref sig .tc := ⟨.hbm, 49, rfl⟩
abbrev main_v30 : Ref sig .tc := ⟨.hbm, 50, rfl⟩
abbrev main_call2_v0 : Ref sig .tc := ⟨.hbm, 51, rfl⟩
abbrev main_v31 : Ref sig .tc := ⟨.hbm, 52, rfl⟩
abbrev main_call3_v0 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== Small.lean ====
abbrev S2x512 : Shape := ⟨2, ![2, 512]⟩
abbrev S4x3x2816 : Shape := ⟨3, ![4, 3, 2816]⟩
abbrev S2x16x128x128 : Shape := ⟨4, ![2, 16, 128, 128]⟩
abbrev S2x16x128 : Shape := ⟨3, ![2, 16, 128]⟩
abbrev S2048 : Shape := ⟨1, ![2048]⟩
abbrev S16 : Shape := ⟨1, ![16]⟩
abbrev S128 : Shape := ⟨1, ![128]⟩
abbrev S2x2048 : Shape := ⟨2, ![2, 2048]⟩
abbrev S2x128 : Shape := ⟨2, ![2, 128]⟩
abbrev S4x2048 : Shape := ⟨2, ![4, 2048]⟩
abbrev S4x11264 : Shape := ⟨2, ![4, 11264]⟩
abbrev S1024 : Shape := ⟨1, ![1024]⟩
abbrev S33792 : Shape := ⟨1, ![33792]⟩
abbrev S524288 : Shape := ⟨1, ![524288]⟩
abbrev S4096 : Shape := ⟨1, ![4096]⟩
abbrev S256 : Shape := ⟨1, ![256]⟩
abbrev S8192 : Shape := ⟨1, ![8192]⟩
abbrev S45056 : Shape := ⟨1, ![45056]⟩
abbrev S626064 : Shape := ⟨1, ![626064]⟩
abbrev S_ : Shape := ⟨0, ![]⟩
abbrev S626688 : Shape := ⟨1, ![626688]⟩
abbrev S4896x128 : Shape := ⟨2, ![4896, 128]⟩
abbrev S2448x128 : Shape := ⟨2, ![2448, 128]⟩

abbrev nBuf : Space → Nat
  | .hbm => 180
  | .vmem => 14
  | .smem => 0
  | _ => 0

abbrev hbmTy0_0 (i : Nat) : BufTy := match i % 128 with
  | 0 => ⟨S2x512, .f32⟩
  | 1 => ⟨S2x512, .f32⟩
  | 2 => ⟨S4x3x2816, .f32⟩
  | 3 => ⟨S2x16x128x128, .f32⟩
  | 4 => ⟨S2x16x128, .f32⟩
  | 5 => ⟨S2048, .f32⟩
  | 6 => ⟨S16, .f32⟩
  | 7 => ⟨S128, .f32⟩
  | 8 => ⟨S2x2048, .f32⟩
  | 9 => ⟨S2x128, .f32⟩
  | 10 => ⟨S4x2048, .f32⟩
  | 11 => ⟨S4x11264, .f32⟩
  | 12 => ⟨S2048, .f32⟩
  | 13 => ⟨S2x512, .f32⟩
  | 14 => ⟨S2x512, .f32⟩
  | 15 => ⟨S4x3x2816, .f32⟩
  | 16 => ⟨S2x16x128x128, .f32⟩
  | 17 => ⟨S2x16x128, .f32⟩
  | 18 => ⟨S2048, .f32⟩
  | 19 => ⟨S16, .f32⟩
  | 20 => ⟨S128, .f32⟩
  | 21 => ⟨S2x2048, .f32⟩
  | 22 => ⟨S2x128, .f32⟩
  | 23 => ⟨S4x2048, .f32⟩
  | 24 => ⟨S4x11264, .f32⟩
  | 25 => ⟨S2048, .f32⟩
  | 26 => ⟨S2x512, .f32⟩
  | 27 => ⟨S2x512, .f32⟩
  | 28 => ⟨S4x3x2816, .f32⟩
  | 29 => ⟨S2x16x128x128, .f32⟩
  | 30 => ⟨S2x16x128, .f32⟩
  | 31 => ⟨S2048, .f32⟩
  | 32 => ⟨S16, .f32⟩
  | 33 => ⟨S128, .f32⟩
  | 34 => ⟨S2x2048, .f32⟩
  | 35 => ⟨S2x128, .f32⟩
  | 36 => ⟨S4x2048, .f32⟩
  | 37 => ⟨S4x11264, .f32⟩
  | 38 => ⟨S2048, .f32⟩
  | 39 => ⟨S2x512, .f32⟩
  | 40 => ⟨S2x512, .f32⟩
  | 41 => ⟨S4x3x2816, .f32⟩
  | 42 => ⟨S2x16x128x128, .f32⟩
  | 43 => ⟨S2x16x128, .f32⟩
  | 44 => ⟨S2048, .f32⟩
  | 45 => ⟨S16, .f32⟩
  | 46 => ⟨S128, .f32⟩
  | 47 => ⟨S2x2048, .f32⟩
  | 48 => ⟨S2x128, .f32⟩
  | 49 => ⟨S4x2048, .f32⟩
  | 50 => ⟨S4x11264, .f32⟩
  | 51 => ⟨S2048, .f32⟩
  | 52 => ⟨S1024, .f32⟩
  | 53 => ⟨S1024, .f32⟩
  | 54 => ⟨S33792, .f32⟩
  | 55 => ⟨S524288, .f32⟩
  | 56 => ⟨S4096, .f32⟩
  | 57 => ⟨S4096, .f32⟩
  | 58 => ⟨S256, .f32⟩
  | 59 => ⟨S8192, .f32⟩
  | 60 => ⟨S45056, .f32⟩
  | 61 => ⟨S626064, .f32⟩
  | 62 => ⟨S_, .i32⟩
  | 63 => ⟨S_, .f32⟩
  | 64 => ⟨S626688, .f32⟩
  | 65 => ⟨S4896x128, .f32⟩
  | 66 => ⟨S1024, .f32⟩
  | 67 => ⟨S1024, .f32⟩
  | 68 => ⟨S33792, .f32⟩
  | 69 => ⟨S524288, .f32⟩
  | 70 => ⟨S4096, .f32⟩
  | 71 => ⟨S4096, .f32⟩
  | 72 => ⟨S256, .f32⟩
  | 73 => ⟨S8192, .f32⟩
  | 74 => ⟨S45056, .f32⟩
  | 75 => ⟨S626064, .f32⟩
  | 76 => ⟨S_, .i32⟩
  | 77 => ⟨S_, .f32⟩
  | 78 => ⟨S626688, .f32⟩
  | 79 => ⟨S4896x128, .f32⟩
  | 80 => ⟨S1024, .f32⟩
  | 81 => ⟨S1024, .f32⟩
  | 82 => ⟨S33792, .f32⟩
  | 83 => ⟨S524288, .f32⟩
  | 84 => ⟨S4096, .f32⟩
  | 85 => ⟨S4096, .f32⟩
  | 86 => ⟨S256, .f32⟩
  | 87 => ⟨S8192, .f32⟩
  | 88 => ⟨S45056, .f32⟩
  | 89 => ⟨S626064, .f32⟩
  | 90 => ⟨S_, .i32⟩
  | 91 => ⟨S_, .f32⟩
  | 92 => ⟨S626688, .f32⟩
  | 93 => ⟨S4896x128, .f32⟩
  | 94 => ⟨S1024, .f32⟩
  | 95 => ⟨S1024, .f32⟩
  | 96 => ⟨S33792, .f32⟩
  | 97 => ⟨S524288, .f32⟩
  | 98 => ⟨S4096, .f32⟩
  | 99 => ⟨S4096, .f32⟩
  | 100 => ⟨S256, .f32⟩
  | 101 => ⟨S8192, .f32⟩
  | 102 => ⟨S45056, .f32⟩
  | 103 => ⟨S626064, .f32⟩
  | 104 => ⟨S_, .i32⟩
  | 105 => ⟨S_, .f32⟩
  | 106 => ⟨S626688, .f32⟩
  | 107 => ⟨S4896x128, .f32⟩
  | 108 => ⟨S4896x128, .f32⟩
  | 109 => ⟨S4896x128, .f32⟩
  | 110 => ⟨S4896x128, .f32⟩
  | 111 => ⟨S626688, .f32⟩
  | 112 => ⟨S1024, .f32⟩
  | 113 => ⟨S2x512, .f32⟩
  | 114 => ⟨S1024, .f32⟩
  | 115 => ⟨S2x512, .f32⟩
  | 116 => ⟨S33792, .f32⟩
  | 117 => ⟨S4x3x2816, .f32⟩
  | 118 => ⟨S524288, .f32⟩
  | 119 => ⟨S2x16x128x128, .f32⟩
  | 120 => ⟨S4096, .f32⟩
  | 121 => ⟨S2x16x128, .f32⟩
  | 122 => ⟨S2048, .f32⟩
  | 123 => ⟨S16, .f32⟩
  | 124 => ⟨S128, .f32⟩
  | 125 => ⟨S4096, .f32⟩
  | 126 => ⟨S2x2048, .f32⟩
  | 127 => ⟨S256, .f32⟩
  | _ => ⟨S2x512, .f32⟩

abbrev hbmTy0_1 (i : Nat) : BufTy := match i % 128 with
  | 0 => ⟨S2x128, .f32⟩
  | 1 => ⟨S8192, .f32⟩
  | 2 => ⟨S4x2048, .f32⟩
  | 3 => ⟨S45056, .f32⟩
  | 4 => ⟨S4x11264, .f32⟩
  | 5 => ⟨S2048, .f32⟩
  | 6 => ⟨S626688, .f32⟩
  | 7 => ⟨S1024, .f32⟩
  | 8 => ⟨S2x512, .f32⟩
  | 9 => ⟨S1024, .f32⟩
  | 10 => ⟨S2x512, .f32⟩
  | 11 => ⟨S33792, .f32⟩
  | 12 => ⟨S4x3x2816, .f32⟩
  | 13 => ⟨S524288, .f32⟩
  | 14 => ⟨S2x16x128x128, .f32⟩
  | 15 => ⟨S4096, .f32⟩
  | 16 => ⟨S2x16x128, .f32⟩
  | 17 => ⟨S2048, .f32⟩
  | 18 => ⟨S16, .f32⟩
  | 19 => ⟨S128, .f32⟩
  | 20 => ⟨S4096, .f32⟩
  | 21 => ⟨S2x2048, .f32⟩
  | 22 => ⟨S256, .f32⟩
  | 23 => ⟨S2x128, .f32⟩
  | 24 => ⟨S8192, .f32⟩
  | 25 => ⟨S4x2048, .f32⟩
  | 26 => ⟨S45056, .f32⟩
  | 27 => ⟨S4x11264, .f32⟩
  | 28 => ⟨S2048, .f32⟩
  | 29 => ⟨S626688, .f32⟩
  | 30 => ⟨S1024, .f32⟩
  | 31 => ⟨S2x512, .f32⟩
  | 32 => ⟨S1024, .f32⟩
  | 33 => ⟨S2x512, .f32⟩
  | 34 => ⟨S33792, .f32⟩
  | 35 => ⟨S4x3x2816, .f32⟩
  | 36 => ⟨S524288, .f32⟩
  | 37 => ⟨S2x16x128x128, .f32⟩
  | 38 => ⟨S4096, .f32⟩
  | 39 => ⟨S2x16x128, .f32⟩
  | 40 => ⟨S2048, .f32⟩
  | 41 => ⟨S16, .f32⟩
  | 42 => ⟨S128, .f32⟩
  | 43 => ⟨S4096, .f32⟩
  | 44 => ⟨S2x2048, .f32⟩
  | 45 => ⟨S256, .f32⟩
  | 46 => ⟨S2x128, .f32⟩
  | 47 => ⟨S8192, .f32⟩
  | 48 => ⟨S4x2048, .f32⟩
  | 49 => ⟨S45056, .f32⟩
  | 50 => ⟨S4x11264, .f32⟩
  | 51 => ⟨S2048, .f32⟩
  | _ => ⟨S2x512, .f32⟩

abbrev hbmTy (i : Nat) : BufTy := match i / 128 with
  | 0 => hbmTy0_0 i
  | 1 => hbmTy0_1 i
  | _ => ⟨S2x512, .f32⟩

abbrev bufTy : (tb : Table) → Fin (tcTables nBuf tb) → BufTy
  | .hbm, ⟨i, _⟩ => hbmTy i
  | .local _ .vmem, ⟨0, _⟩ => ⟨S2448x128, .f32⟩
  | .local _ .vmem, ⟨1, _⟩ => ⟨S2448x128, .f32⟩
  | .local _ .vmem, ⟨2, _⟩ => ⟨S2448x128, .f32⟩
  | .local _ .vmem, ⟨3, _⟩ => ⟨S2448x128, .f32⟩
  | .local _ .vmem, ⟨4, _⟩ => ⟨S2448x128, .f32⟩
  | .local _ .vmem, ⟨5, _⟩ => ⟨S2448x128, .f32⟩
  | .local _ .vmem, ⟨6, _⟩ => ⟨S2448x128, .f32⟩
  | .local _ .vmem, ⟨7, _⟩ => ⟨S2448x128, .f32⟩
  | .local _ .vmem, ⟨8, _⟩ => ⟨S2448x128, .f32⟩
  | .local _ .vmem, ⟨9, _⟩ => ⟨S2448x128, .f32⟩
  | .local _ .vmem, ⟨10, _⟩ => ⟨S2448x128, .f32⟩
  | .local _ .vmem, ⟨11, _⟩ => ⟨S2448x128, .f32⟩
  | .local _ .vmem, ⟨12, _⟩ => ⟨S2448x128, .f32⟩
  | .local _ .vmem, ⟨13, _⟩ => ⟨S2448x128, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_c : Ref sig .tc := ⟨.hbm, 62, rfl⟩
abbrev main_call0_v0 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_c_0 : Ref sig .tc := ⟨.hbm, 76, rfl⟩
abbrev main_call1_v0 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_c_1 : Ref sig .tc := ⟨.hbm, 90, rfl⟩
abbrev main_call2_v0 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_c_2 : Ref sig .tc := ⟨.hbm, 104, rfl⟩
abbrev main_call3_v0 : Ref sig .tc := ⟨.hbm, 105, rfl⟩
abbrev main_v46 : Ref sig .tc := ⟨.hbm, 106, rfl⟩
abbrev main_v47 : Ref sig .tc := ⟨.hbm, 107, rfl⟩
abbrev main_v48_0 : Ref sig .tc := ⟨.hbm, 108, rfl⟩
abbrev main_v48_1 : Ref sig .tc := ⟨.hbm, 109, rfl⟩
abbrev main_v48_2 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2448x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2448x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2448x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2448x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2448x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SmallRefIdeal.lean ====
abbrev S2x512 : Shape := ⟨2, ![2, 512]⟩
abbrev S4x3x2816 : Shape := ⟨3, ![4, 3, 2816]⟩
abbrev S2x16x128x128 : Shape := ⟨4, ![2, 16, 128, 128]⟩
abbrev S2x16x128 : Shape := ⟨3, ![2, 16, 128]⟩
abbrev S2048 : Shape := ⟨1, ![2048]⟩
abbrev S16 : Shape := ⟨1, ![16]⟩
abbrev S128 : Shape := ⟨1, ![128]⟩
abbrev S2x2048 : Shape := ⟨2, ![2, 2048]⟩
abbrev S2x128 : Shape := ⟨2, ![2, 128]⟩
abbrev S4x2048 : Shape := ⟨2, ![4, 2048]⟩
abbrev S4x11264 : Shape := ⟨2, ![4, 11264]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S2x512, .f32⟩
  | 1 => ⟨S2x512, .f32⟩
  | 2 => ⟨S4x3x2816, .f32⟩
  | 3 => ⟨S2x16x128x128, .f32⟩
  | 4 => ⟨S2x16x128, .f32⟩
  | 5 => ⟨S2048, .f32⟩
  | 6 => ⟨S16, .f32⟩
  | 7 => ⟨S128, .f32⟩
  | 8 => ⟨S2x2048, .f32⟩
  | 9 => ⟨S2x128, .f32⟩
  | 10 => ⟨S4x2048, .f32⟩
  | 11 => ⟨S4x11264, .f32⟩
  | 12 => ⟨S2048, .f32⟩
  | 13 => ⟨S2x512, .f32⟩
  | 14 => ⟨S2x512, .f32⟩
  | 15 => ⟨S4x3x2816, .f32⟩
  | 16 => ⟨S2x16x128x128, .f32⟩
  | 17 => ⟨S2x16x128, .f32⟩
  | 18 => ⟨S2048, .f32⟩
  | 19 => ⟨S16, .f32⟩
  | 20 => ⟨S128, .f32⟩
  | 21 => ⟨S2x2048, .f32⟩
  | 22 => ⟨S2x128, .f32⟩
  | 23 => ⟨S4x2048, .f32⟩
  | 24 => ⟨S4x11264, .f32⟩
  | 25 => ⟨S2048, .f32⟩
  | 26 => ⟨S2x512, .f32⟩
  | 27 => ⟨S2x512, .f32⟩
  | 28 => ⟨S4x3x2816, .f32⟩
  | 29 => ⟨S2x16x128x128, .f32⟩
  | 30 => ⟨S2x16x128, .f32⟩
  | 31 => ⟨S2048, .f32⟩
  | 32 => ⟨S16, .f32⟩
  | 33 => ⟨S128, .f32⟩
  | 34 => ⟨S2x2048, .f32⟩
  | 35 => ⟨S2x128, .f32⟩
  | 36 => ⟨S4x2048, .f32⟩
  | 37 => ⟨S4x11264, .f32⟩
  | 38 => ⟨S2048, .f32⟩
  | 39 => ⟨S2x512, .f32⟩
  | 40 => ⟨S2x512, .f32⟩
  | 41 => ⟨S4x3x2816, .f32⟩
  | 42 => ⟨S2x16x128x128, .f32⟩
  | 43 => ⟨S2x16x128, .f32⟩
  | 44 => ⟨S2048, .f32⟩
  | 45 => ⟨S16, .f32⟩
  | 46 => ⟨S128, .f32⟩
  | 47 => ⟨S2x2048, .f32⟩
  | 48 => ⟨S2x128, .f32⟩
  | 49 => ⟨S4x2048, .f32⟩
  | 50 => ⟨S4x11264, .f32⟩
  | 51 => ⟨S2048, .f32⟩
  | 52 => ⟨S_, .f32⟩
  | 53 => ⟨S2x512, .f32⟩
  | 54 => ⟨S2x512, .f32⟩
  | 55 => ⟨S_, .f32⟩
  | 56 => ⟨S2x512, .f32⟩
  | 57 => ⟨S2x512, .f32⟩
  | 58 => ⟨S2x512, .f32⟩
  | 59 => ⟨S_, .f32⟩
  | 60 => ⟨S2x512, .f32⟩
  | 61 => ⟨S2x512, .f32⟩
  | 62 => ⟨S2x512, .f32⟩
  | 63 => ⟨S_, .f32⟩
  | 64 => ⟨S2x512, .f32⟩
  | 65 => ⟨S2x512, .f32⟩
  | 66 => ⟨S2x512, .f32⟩
  | 67 => ⟨S_, .f32⟩
  | 68 => ⟨S2x512, .f32⟩
  | 69 => ⟨S2x512, .f32⟩
  | 70 => ⟨S_, .f32⟩
  | 71 => ⟨S2x512, .f32⟩
  | 72 => ⟨S2x512, .f32⟩
  | 73 => ⟨S2x512, .f32⟩
  | 74 => ⟨S_, .f32⟩
  | 75 => ⟨S2x512, .f32⟩
  | 76 => ⟨S2x512, .f32⟩
  | 77 => ⟨S2x512, .f32⟩
  | 78 => ⟨S_, .f32⟩
  | 79 => ⟨S2x512, .f32⟩
  | 80 => ⟨S2x512, .f32⟩
  | 81 => ⟨S2x512, .f32⟩
  | 82 => ⟨S_, .f32⟩
  | 83 => ⟨S2x512, .f32⟩
  | 84 => ⟨S2x512, .f32⟩
  | 85 => ⟨S_, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S2x512, .f32⟩
  | 100 => ⟨S_, .f32⟩
  | 101 => ⟨S2x512, .f32⟩
  | 102 => ⟨S2x512, .f32⟩
  | 103 => ⟨S_, .f32⟩
  | 104 => ⟨S2x512, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S2x512, .f32⟩
  | 115 => ⟨S_, .f32⟩
  | 116 => ⟨S2x512, .f32⟩
  | 117 => ⟨S2x512, .f32⟩
  | 118 => ⟨S_, .f32⟩
  | 119 => ⟨S4x3x2816, .f32⟩
  | 120 => ⟨S4x3x2816, .f32⟩
  | 121 => ⟨S_, .f32⟩
  | 122 => ⟨S4x3x2816, .f32⟩
  | 123 => ⟨S4x3x2816, .f32⟩
  | 124 => ⟨S4x3x2816, .f32⟩
  | 125 => ⟨S_, .f32⟩
  | 126 => ⟨S4x3x2816, .f32⟩
  | 127 => ⟨S4x3x2816, .f32⟩
  | _ => ⟨S2x512, .f32⟩

abbrev hbmTy0_1 (i : Nat) : BufTy := match i % 128 with
  | 0 => ⟨S4x3x2816, .f32⟩
  | 1 => ⟨S_, .f32⟩
  | 2 => ⟨S4x3x2816, .f32⟩
  | 3 => ⟨S4x3x2816, .f32⟩
  | 4 => ⟨S4x3x2816, .f32⟩
  | 5 => ⟨S_, .f32⟩
  | 6 => ⟨S4x3x2816, .f32⟩
  | 7 => ⟨S4x3x2816, .f32⟩
  | 8 => ⟨S_, .f32⟩
  | 9 => ⟨S4x3x2816, .f32⟩
  | 10 => ⟨S4x3x2816, .f32⟩
  | 11 => ⟨S4x3x2816, .f32⟩
  | 12 => ⟨S_, .f32⟩
  | 13 => ⟨S4x3x2816, .f32⟩
  | 14 => ⟨S4x3x2816, .f32⟩
  | 15 => ⟨S4x3x2816, .f32⟩
  | 16 => ⟨S_, .f32⟩
  | 17 => ⟨S4x3x2816, .f32⟩
  | 18 => ⟨S4x3x2816, .f32⟩
  | 19 => ⟨S4x3x2816, .f32⟩
  | 20 => ⟨S_, .f32⟩
  | 21 => ⟨S4x3x2816, .f32⟩
  | 22 => ⟨S4x3x2816, .f32⟩
  | 23 => ⟨S_, .f32⟩
  | 24 => ⟨S2x16x128x128, .f32⟩
  | 25 => ⟨S2x16x128x128, .f32⟩
  | 26 => ⟨S_, .f32⟩
  | 27 => ⟨S2x16x128x128, .f32⟩
  | 28 => ⟨S2x16x128x128, .f32⟩
  | 29 => ⟨S2x16x128x128, .f32⟩
  | 30 => ⟨S_, .f32⟩
  | 31 => ⟨S2x16x128x128, .f32⟩
  | 32 => ⟨S2x16x128x128, .f32⟩
  | 33 => ⟨S2x16x128x128, .f32⟩
  | 34 => ⟨S_, .f32⟩
  | 35 => ⟨S2x16x128x128, .f32⟩
  | 36 => ⟨S2x16x128x128, .f32⟩
  | 37 => ⟨S2x16x128x128, .f32⟩
  | 38 => ⟨S_, .f32⟩
  | 39 => ⟨S2x16x128x128, .f32⟩
  | 40 => ⟨S2x16x128x128, .f32⟩
  | 41 => ⟨S_, .f32⟩
  | 42 => ⟨S2x16x128x128, .f32⟩
  | 43 => ⟨S2x16x128x128, .f32⟩
  | 44 => ⟨S2x16x128x128, .f32⟩
  | 45 => ⟨S_, .f32⟩
  | 46 => ⟨S2x16x128x128, .f32⟩
  | 47 => ⟨S2x16x128x128, .f32⟩
  | 48 => ⟨S2x16x128x128, .f32⟩
  | 49 => ⟨S_, .f32⟩
  | 50 => ⟨S2x16x128x128, .f32⟩
  | 51 => ⟨S2x16x128x128, .f32⟩
  | 52 => ⟨S2x16x128x128, .f32⟩
  | 53 => ⟨S_, .f32⟩
  | 54 => ⟨S2x16x128x128, .f32⟩
  | 55 => ⟨S2x16x128x128, .f32⟩
  | 56 => ⟨S_, .f32⟩
  | 57 => ⟨S2x16x128, .f32⟩
  | 58 => ⟨S2x16x128, .f32⟩
  | 59 => ⟨S_, .f32⟩
  | 60 => ⟨S2x16x128, .f32⟩
  | 61 => ⟨S2x16x128, .f32⟩
  | 62 => ⟨S2x16x128, .f32⟩
  | 63 => ⟨S_, .f32⟩
  | 64 => ⟨S2x16x128, .f32⟩
  | 65 => ⟨S2x16x128, .f32⟩
  | 66 => ⟨S2x16x128, .f32⟩
  | 67 => ⟨S_, .f32⟩
  | 68 => ⟨S2x16x128, .f32⟩
  | 69 => ⟨S2x16x128, .f32⟩
  | 70 => ⟨S2x16x128, .f32⟩
  | 71 => ⟨S_, .f32⟩
  | 72 => ⟨S2x16x128, .f32⟩
  | 73 => ⟨S2x16x128, .f32⟩
  | 74 => ⟨S_, .f32⟩
  | 75 => ⟨S2x16x128, .f32⟩
  | 76 => ⟨S2x16x128, .f32⟩
  | 77 => ⟨S2x16x128, .f32⟩
  | 78 => ⟨S_, .f32⟩
  | 79 => ⟨S2x16x128, .f32⟩
  | 80 => ⟨S2x16x128, .f32⟩
  | 81 => ⟨S2x16x128, .f32⟩
  | 82 => ⟨S_, .f32⟩
  | 83 => ⟨S2x16x128, .f32⟩
  | 84 => ⟨S2x16x128, .f32⟩
  | 85 => ⟨S2x16x128, .f32⟩
  | 86 => ⟨S_, .f32⟩
  | 87 => ⟨S2x16x128, .f32⟩
  | 88 => ⟨S2x16x128, .f32⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S2048, .f32⟩
  | 96 => ⟨S_, .f32⟩
  | 97 => ⟨S2048, .f32⟩
  | 98 => ⟨S2048, .f32⟩
  | 99 => ⟨S2048, .f32⟩
  | 100 => ⟨S_, .f32⟩
  | 101 => ⟨S2048, .f32⟩
  | 102 => ⟨S2048, .f32⟩
  | 103 => ⟨S2048, .f32⟩
  | 104 => ⟨S_, .f32⟩
  | 105 => ⟨S2048, .f32⟩
  | 106 => ⟨S2048, .f32⟩
  | 107 => ⟨S_, .f32⟩
  | 108 => ⟨S2048, .f32⟩
  | 109 => ⟨S2048, .f32⟩
  | 110 => ⟨S2048, .f32⟩
  | 111 => ⟨S_, .f32⟩
  | 112 => ⟨S2048, .f32⟩
  | 113 => ⟨S2048, .f32⟩
  | 114 => ⟨S2048, .f32⟩
  | 115 => ⟨S_, .f32⟩
  | 116 => ⟨S2048, .f32⟩
  | 117 => ⟨S2048, .f32⟩
  | 118 => ⟨S2048, .f32⟩
  | 119 => ⟨S_, .f32⟩
  | 120 => ⟨S2048, .f32⟩
  | 121 => ⟨S2048, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S2x512, .f32⟩

abbrev hbmTy0_2 (i : Nat) : BufTy := match i % 128 with
  | 0 => ⟨S16, .f32⟩
  | 1 => ⟨S_, .f32⟩
  | 2 => ⟨S16, .f32⟩
  | 3 => ⟨S16, .f32⟩
  | 4 => ⟨S16, .f32⟩
  | 5 => ⟨S_, .f32⟩
  | 6 => ⟨S16, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S_, .f32⟩
  | 35 => ⟨S128, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S_, .f32⟩
  | 43 => ⟨S128, .f32⟩
  | 44 => ⟨S128, .f32⟩
  | 45 => ⟨S_, .f32⟩
  | 46 => ⟨S128, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S2x2048, .f32⟩
  | 82 => ⟨S_, .f32⟩
  | 83 => ⟨S2x2048, .f32⟩
  | 84 => ⟨S2x2048, .f32⟩
  | 85 => ⟨S2x2048, .f32⟩
  | 86 => ⟨S_, .f32⟩
  | 87 => ⟨S2x2048, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S_, .f32⟩
  | 94 => ⟨S2x128, .f32⟩
  | 95 => ⟨S2x128, .f32⟩
  | 96 => ⟨S_, .f32⟩
  | 97 => ⟨S2x128, .f32⟩
  | 98 => ⟨S2x128, .f32⟩
  | 99 => ⟨S2x128, .f32⟩
  | 100 => ⟨S_, .f32⟩
  | 101 => ⟨S2x128, .f32⟩
  | 102 => ⟨S2x128, .f32⟩
  | 103 => ⟨S2x128, .f32⟩
  | 104 => ⟨S_, .f32⟩
  | 105 => ⟨S2x128, .f32⟩
  | 106 => ⟨S2x128, .f32⟩
  | 107 => ⟨S2x128, .f32⟩
  | 108 => ⟨S_, .f32⟩
  | 109 => ⟨S2x128, .f32⟩
  | 110 => ⟨S2x128, .f32⟩
  | 111 => ⟨S_, .f32⟩
  | 112 => ⟨S2x128, .f32⟩
  | 113 => ⟨S2x128, .f32⟩
  | 114 => ⟨S2x128, .f32⟩
  | 115 => ⟨S_, .f32⟩
  | 116 => ⟨S2x128, .f32⟩
  | 117 => ⟨S2x128, .f32⟩
  | 118 => ⟨S2x128, .f32⟩
  | 119 => ⟨S_, .f32⟩
  | 120 => ⟨S2x128, .f32⟩
  | 121 => ⟨S2x128, .f32⟩
  | 122 => ⟨S2x128, .f32⟩
  | 123 => ⟨S_, .f32⟩
  | 124 => ⟨S2x128, .f32⟩
  | 125 => ⟨S2x128, .f32⟩
  | 126 => ⟨S_, .f32⟩
  | 127 => ⟨S4x2048, .f32⟩
  | _ => ⟨S2x512, .f32⟩

abbrev hbmTy0_3 (i : Nat) : BufTy := match i % 128 with
  | 0 => ⟨S4x2048, .f32⟩
  | 1 => ⟨S_, .f32⟩
  | 2 => ⟨S4x2048, .f32⟩
  | 3 => ⟨S4x2048, .f32⟩
  | 4 => ⟨S4x2048, .f32⟩
  | 5 => ⟨S_, .f32⟩
  | 6 => ⟨S4x2048, .f32⟩
  | 7 => ⟨S4x2048, .f32⟩
  | 8 => ⟨S4x2048, .f32⟩
  | 9 => ⟨S_, .f32⟩
  | 10 => ⟨S4x2048, .f32⟩
  | 11 => ⟨S4x2048, .f32⟩
  | 12 => ⟨S4x2048, .f32⟩
  | 13 => ⟨S_, .f32⟩
  | 14 => ⟨S4x2048, .f32⟩
  | 15 => ⟨S4x2048, .f32⟩
  | 16 => ⟨S_, .f32⟩
  | 17 => ⟨S4x2048, .f32⟩
  | 18 => ⟨S4x2048, .f32⟩
  | 19 => ⟨S4x2048, .f32⟩
  | 20 => ⟨S_, .f32⟩
  | 21 => ⟨S4x2048, .f32⟩
  | 22 => ⟨S4x2048, .f32⟩
  | 23 => ⟨S4x2048, .f32⟩
  | 24 => ⟨S_, .f32⟩
  | 25 => ⟨S4x2048, .f32⟩
  | 26 => ⟨S4x2048, .f32⟩
  | 27 => ⟨S4x2048, .f32⟩
  | 28 => ⟨S_, .f32⟩
  | 29 => ⟨S4x2048, .f32⟩
  | 30 => ⟨S4x2048, .f32⟩
  | 31 => ⟨S_, .f32⟩
  | 32 => ⟨S4x11264, .f32⟩
  | 33 => ⟨S4x11264, .f32⟩
  | 34 => ⟨S_, .f32⟩
  | 35 => ⟨S4x11264, .f32⟩
  | 36 => ⟨S4x11264, .f32⟩
  | 37 => ⟨S4x11264, .f32⟩
  | 38 => ⟨S_, .f32⟩
  | 39 => ⟨S4x11264, .f32⟩
  | 40 => ⟨S4x11264, .f32⟩
  | 41 => ⟨S4x11264, .f32⟩
  | 42 => ⟨S_, .f32⟩
  | 43 => ⟨S4x11264, .f32⟩
  | 44 => ⟨S4x11264, .f32⟩
  | 45 => ⟨S4x11264, .f32⟩
  | 46 => ⟨S_, .f32⟩
  | 47 => ⟨S4x11264, .f32⟩
  | 48 => ⟨S4x11264, .f32⟩
  | 49 => ⟨S_, .f32⟩
  | 50 => ⟨S4x11264, .f32⟩
  | 51 => ⟨S4x11264, .f32⟩
  | 52 => ⟨S4x11264, .f32⟩
  | 53 => ⟨S_, .f32⟩
  | 54 => ⟨S4x11264, .f32⟩
  | 55 => ⟨S4x11264, .f32⟩
  | 56 => ⟨S4x11264, .f32⟩
  | 57 => ⟨S_, .f32⟩
  | 58 => ⟨S4x11264, .f32⟩
  | 59 => ⟨S4x11264, .f32⟩
  | 60 => ⟨S4x11264, .f32⟩
  | 61 => ⟨S_, .f32⟩
  | 62 => ⟨S4x11264, .f32⟩
  | 63 => ⟨S4x11264, .f32⟩
  | 64 => ⟨S_, .f32⟩
  | 65 => ⟨S2048, .f32⟩
  | 66 => ⟨S2048, .f32⟩
  | 67 => ⟨S_, .f32⟩
  | 68 => ⟨S2048, .f32⟩
  | 69 => ⟨S2048, .f32⟩
  | 70 => ⟨S2048, .f32⟩
  | 71 => ⟨S_, .f32⟩
  | 72 => ⟨S2048, .f32⟩
  | 73 => ⟨S2048, .f32⟩
  | 74 => ⟨S2048, .f32⟩
  | 75 => ⟨S_, .f32⟩
  | 76 => ⟨S2048, .f32⟩
  | 77 => ⟨S2048, .f32⟩
  | 78 => ⟨S2048, .f32⟩
  | 79 => ⟨S_, .f32⟩
  | 80 => ⟨S2048, .f32⟩
  | 81 => ⟨S2048, .f32⟩
  | 82 => ⟨S_, .f32⟩
  | 83 => ⟨S2048, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048, .f32⟩
  | 90 => ⟨S_, .f32⟩
  | 91 => ⟨S2048, .f32⟩
  | 92 => ⟨S2048, .f32⟩
  | 93 => ⟨S2048, .f32⟩
  | 94 => ⟨S_, .f32⟩
  | 95 => ⟨S2048, .f32⟩
  | 96 => ⟨S2048, .f32⟩
  | _ => ⟨S2x512, .f32⟩

abbrev hbmTy (i : Nat) : BufTy := match i / 128 with
  | 0 => hbmTy0_0 i
  | 1 => hbmTy0_1 i
  | 2 => hbmTy0_2 i
  | 3 => hbmTy0_3 i
  | _ => ⟨S2x512, .f32⟩

abbrev bufTy : (tb : Table) → Fin (tcTables nBuf tb) → BufTy
  | .hbm, ⟨i, _⟩ => hbmTy i
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Math.lean ====
/-
  The forgetting attention's gradient over the real numbers, one head and one row at a time: scores, softmax weights and
  the score gradient as real functions of arrays indexed by natural numbers, and the facts by which the extended-real
  expressions of the two programs (a masked maximum, exponentials, a logarithm, quotients) are those real functions.
-/
module

public import Idealize.ShloMosaic.PureOps.Ideal.Laws
public import Idealize.ShloMosaic.Lib.IdealHost

@[expose] public section

noncomputable section

open Idealize.ShloMosaic
open scoped BigOperators

namespace Cert.Fox

/-- A finite sum of reals, seen in the extended reals, is the extended-real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of real products, seen in the extended reals. -/
theorem coe_sum_mul {n : ℕ} (f g : Fin n → ℝ) :
    ∑ i, ((f i : ℝ) : EReal) * ((g i : ℝ) : EReal) = ((∑ i, f i * g i : ℝ) : EReal) := by
  rw [← coe_sum]; exact Finset.sum_congr rfl fun i _ => (EReal.coe_mul _ _).symm

/-- The arrays of the attention as real functions of two naturals: queries, keys, values and the cotangent at
    (row, column), the gate's running sum at (row, head). -/
structure Args where
  q : ℕ → ℕ → ℝ
  k : ℕ → ℕ → ℝ
  v : ℕ → ℕ → ℝ
  c : ℕ → ℕ → ℝ
  g : ℕ → ℕ → ℝ

namespace Args

variable (A : Args)

/-- The score of query row `i` and key row `j` in head `h`, without the row's own gate term. -/
def x (h i j : ℕ) : ℝ := (∑ d : Fin 128, A.q i (128 * h + d) * A.k j (128 * h + d)) - A.c j h

/-- The softmax denominator of row `i`: the sum over the keys that are not later than the row. -/
def Z (h i : ℕ) : ℝ := ∑ j : Fin 4096, if j.val ≤ i then Real.exp (A.x h i j) else 0

/-- The causal softmax weight. -/
def P (h i j : ℕ) : ℝ := if j ≤ i then Real.exp (A.x h i j) / A.Z h i else 0

/-- The weight's cotangent: the output cotangent against the values. -/
def D (h i j : ℕ) : ℝ := ∑ d : Fin 128, A.g i (128 * h + d) * A.v j (128 * h + d)

/-- The row's mean of the weight's cotangent under the weights. -/
def dl (h i : ℕ) : ℝ := ∑ j : Fin 4096, A.P h i j * A.D h i j

/-- The gradient of the score. -/
def ds (h i j : ℕ) : ℝ := A.P h i j * (A.D h i j - A.dl h i)

theorem Z_pos (h i : ℕ) (hi : i < 4096) : 0 < A.Z h i := by
  unfold Z
  refine lt_of_lt_of_le (Real.exp_pos (A.x h i i)) ?_
  have := Finset.single_le_sum (f := fun j : Fin 4096 => if j.val ≤ i then Real.exp (A.x h i j) else 0)
    (fun j _ => by split_ifs <;> first | exact (Real.exp_pos _).le | exact le_refl _) (Finset.mem_univ (⟨i, hi⟩ : Fin 4096))
  simpa using this

theorem P_above (h i j : ℕ) (hij : i < j) : A.P h i j = 0 := by
  unfold P; rw [if_neg (by omega)]

theorem ds_above (h i j : ℕ) (hij : i < j) : A.ds h i j = 0 := by
  unfold ds; rw [A.P_above h i j hij, zero_mul]

/-- A weight is the exponential of the score less the logarithm of the denominator. -/
theorem P_exp (h i j : ℕ) (hi : i < 4096) (hij : j ≤ i) : A.P h i j = Real.exp (A.x h i j - Real.log (A.Z h i)) := by
  unfold P; rw [if_pos hij, Real.exp_sub, Real.exp_log (A.Z_pos h i hi)]

end Args

/-- The f32 pattern of minus infinity. -/
theorem negInf_bits : Ideal.ofBits .f32 0xFF800000#32 = (⊥ : EReal) := by simp [Ideal.ofBits, Ideal.ieee]

/-- A select on a decided proposition. -/
theorem select_ofBool {α : Type} (b : Prop) [Decidable b] (x y : α) :
    Scalar.select (BitVec.ofBool (decide b)) x y = if b then x else y := by
  by_cases h : b <;> simp [Scalar.select, h]

/-! ## A masked row of the extended reals -/

/-- A row of scores with the keys after `i` at minus infinity. -/
def smask {n : ℕ} (i : ℕ) (x : Fin n → ℝ) (j : Fin n) : EReal := if j.val ≤ i then ((x j : ℝ) : EReal) else ⊥

/-- A fold of the maximum over extended reals none of which is plus infinity is not plus infinity. -/
theorem fold_max_ne_top {ι : Type} (s : Finset ι) (f : ι → EReal) (hf : ∀ i ∈ s, f i ≠ ⊤) : s.fold max ⊥ f ≠ ⊤ := by
  classical
  induction s using Finset.induction_on with
  | empty => simp
  | insert a s ha ih =>
    rw [Finset.fold_insert ha]
    rcases max_choice (f a) (s.fold max ⊥ f) with h | h <;> rw [h]
    · exact hf a (Finset.mem_insert_self a s)
    · exact ih fun i hi => hf i (Finset.mem_insert_of_mem hi)

/-- A fold of the maximum is at least each member. -/
theorem le_fold_max {ι : Type} (s : Finset ι) (f : ι → EReal) (i : ι) (hi : i ∈ s) : f i ≤ s.fold max ⊥ f :=
  (Finset.le_fold_max (f i)).mpr (Or.inr ⟨i, hi, le_refl _⟩)

/-- The maximum of a masked row that has a key left is a real number. -/
theorem smask_max {n : ℕ} (i : ℕ) (hi : i < n) (x : Fin n → ℝ) :
    ∃ μ : ℝ, (Finset.univ.fold max (⊥ : EReal) fun j => smask i x j) = (μ : EReal) := by
  have h1 : (Finset.univ.fold max (⊥ : EReal) fun j => smask i x j) ≠ ⊤ :=
    fold_max_ne_top _ _ fun j _ => by unfold smask; split_ifs <;> simp
  have h2 : (Finset.univ.fold max (⊥ : EReal) fun j => smask i x j) ≠ ⊥ := by
    intro hb
    have := le_fold_max Finset.univ (fun j => smask i x j) (⟨i, hi⟩ : Fin n) (Finset.mem_univ _)
    rw [hb] at this
    simp [smask] at this
  exact ⟨_, (EReal.coe_toReal h1 h2).symm⟩

/-- The exponential of a masked score less a real. -/
theorem exp_smask_sub {n : ℕ} (i : ℕ) (x : Fin n → ℝ) (μ : ℝ) (j : Fin n) :
    Ideal.exp (smask i x j - (μ : EReal)) = ((if j.val ≤ i then Real.exp (x j - μ) else 0 : ℝ) : EReal) := by
  unfold smask; split_ifs with h
  · rw [← EReal.coe_sub, Ideal.exp_coe]
  · rw [EReal.bot_sub, Ideal.exp_bot, EReal.coe_zero]

/-- The sum of the exponentials of a masked row less a real. -/
theorem sum_exp_smask {n : ℕ} (i : ℕ) (x : Fin n → ℝ) (μ : ℝ) :
    ∑ j, Ideal.exp (smask i x j - (μ : EReal))
      = (((∑ j : Fin n, if j.val ≤ i then Real.exp (x j) else 0) * Real.exp (-μ) : ℝ) : EReal) := by
  rw [Finset.sum_congr rfl fun j _ => exp_smask_sub i x μ j, coe_sum, Finset.sum_mul]
  refine congrArg _ (Finset.sum_congr rfl fun j _ => ?_)
  split_ifs
  · rw [sub_eq_add_neg, Real.exp_add]
  · rw [zero_mul]

/-- The row's maximum plus the logarithm of the shifted sum is the logarithm of the sum. -/
theorem lse_eq (μ Z : ℝ) (hZ : 0 < Z) :
    (μ : EReal) + Ideal.log ((Z * Real.exp (-μ) : ℝ) : EReal) = ((Real.log Z : ℝ) : EReal) := by
  have h : 0 < Z * Real.exp (-μ) := mul_pos hZ (Real.exp_pos _)
  rw [Ideal.log_coe, if_neg (not_le.mpr h), Real.log_mul hZ.ne' (Real.exp_pos _).ne', Real.log_exp, ← EReal.coe_add]
  congr 1; ring

/-- The quotient of a shifted exponential by the shifted sum is the softmax weight. -/
theorem div_shift (a : ℝ) (b : Prop) [Decidable b] (μ Z : ℝ) (hZ : 0 < Z) :
    Ideal.div ((if b then Real.exp (a - μ) else 0 : ℝ) : EReal) ((Z * Real.exp (-μ) : ℝ) : EReal)
      = ((if b then Real.exp a / Z else 0 : ℝ) : EReal) := by
  have h : Z * Real.exp (-μ) ≠ 0 := (mul_pos hZ (Real.exp_pos _)).ne'
  rw [Ideal.div_coe h, ← EReal.coe_mul]
  refine congrArg _ ?_
  split_ifs
  · rw [sub_eq_add_neg, Real.exp_add]
    have h2 := (Real.exp_pos (-μ)).ne'
    field_simp
  · rw [zero_mul]

/-- The derivative of the normalised exponential as jax writes it — the quotient's two terms, shifted by the row's
    maximum — is the weight times the cotangent less its mean. -/
theorem grad_shift {n : ℕ} (i : ℕ) (x d : Fin n → ℝ) (μ Z : ℝ) (hZ : 0 < Z) (j : Fin n) :
    (d j / (Z * Real.exp (-μ)) + -(∑ j' : Fin n, d j' * (1 / ((Z * Real.exp (-μ)) * (Z * Real.exp (-μ))))
        * (if j'.val ≤ i then Real.exp (x j' - μ) else 0))) * (if j.val ≤ i then Real.exp (x j - μ) else 0)
      = (if j.val ≤ i then Real.exp (x j) / Z else 0)
          * (d j - ∑ j' : Fin n, (if j'.val ≤ i then Real.exp (x j') / Z else 0) * d j') := by
  have h2 := (Real.exp_pos (-μ)).ne'
  have hZ' := hZ.ne'
  have hs : (∑ j' : Fin n, d j' * (1 / ((Z * Real.exp (-μ)) * (Z * Real.exp (-μ))))
        * (if j'.val ≤ i then Real.exp (x j' - μ) else 0))
      = (∑ j' : Fin n, (if j'.val ≤ i then Real.exp (x j') / Z else 0) * d j') / (Z * Real.exp (-μ)) := by
    rw [Finset.sum_div]
    refine Finset.sum_congr rfl fun j' _ => ?_
    split_ifs
    · rw [sub_eq_add_neg, Real.exp_add]; field_simp
    · simp
  rw [hs]
  split_ifs
  · rw [sub_eq_add_neg (x j), Real.exp_add]; field_simp; ring
  · simp

/-- Adding one real to every score of a row leaves the weights as they are. -/
theorem weight_add {n : ℕ} (i : ℕ) (x : Fin n → ℝ) (a : ℝ) (j : Fin n) :
    (if j.val ≤ i then Real.exp (x j + a) / (∑ j' : Fin n, if j'.val ≤ i then Real.exp (x j' + a) else 0) else 0)
      = if j.val ≤ i then Real.exp (x j) / (∑ j' : Fin n, if j'.val ≤ i then Real.exp (x j') else 0) else 0 := by
  have hs : (∑ j' : Fin n, if j'.val ≤ i then Real.exp (x j' + a) else 0)
      = (∑ j' : Fin n, if j'.val ≤ i then Real.exp (x j') else 0) * Real.exp a := by
    rw [Finset.sum_mul]
    refine Finset.sum_congr rfl fun j' _ => ?_
    split_ifs
    · rw [Real.exp_add]
    · rw [zero_mul]
  rw [hs]
  split_ifs
  · rw [Real.exp_add, mul_div_mul_right _ _ (Real.exp_pos a).ne']
  · rfl

end Cert.Fox

end
-- ==== Proof.Ref.lean ====
/-
  The reference's arrays, one host operation or a few at a time, read at an index.
-/
module

public import proofs.«01_k».proof.Proof.Gen.ReferenceIdeal
public import proofs.«01_k».proof.Proof.Math
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.ReferenceIdeal Cert.ReferenceIdeal.Gen
open scoped BigOperators

namespace Cert.Fox.Ref

/-- An array of rows split into heads. -/
def hd (a : FVec Ideal S4096x2048 .bf16) : FVec Ideal S16x4096x128 .f32 :=
  transpose S16x4096x128 [1, 0, 2] (shapeCast S4096x16x128 (extf .f32 a bitsLt_bf16_f32) shapeCasts_S4096x2048_S4096x16x128)
    transposes_S4096x16x128_S16x4096x128_1_0_2

theorem hd_ix (a : FVec Ideal S4096x2048 .bf16) (h : Fin 16) (i : Fin 4096) (d : Fin 128) :
    hd a (ix3 h i d) = a (ix2 i ⟨128 * h.val + d.val, by omega⟩) := by
  pointwise [hd]
  refine congrArg a (congrArg (ix2 i) (Fin.ext ?_))
  show h.val * 128 + d.val = 128 * h.val + d.val
  omega

/-- Heads put back into rows. -/
def flat (a : FVec Ideal S16x4096x128 .f32) : FVec Ideal S4096x2048 .f32 :=
  shapeCast S4096x2048 (transpose S4096x16x128 [1, 0, 2] a transposes_S16x4096x128_S4096x16x128_1_0_2) shapeCasts_S4096x16x128_S4096x2048

theorem flat_ix (a : FVec Ideal S16x4096x128 .f32) (i : Fin 4096) (d : Fin 2048) :
    flat a (ix2 i d) = a (ix3 ⟨d.val / 128, by omega⟩ i ⟨d.val % 128, by omega⟩) := by
  pointwise [flat]

/-- The values' half of the key-value pair. -/
def vals (a : FVec Ideal S2x4096x2048 .bf16) : FVec Ideal S4096x2048 .bf16 :=
  shapeCast S4096x2048 (extractStridedSlice S1x4096x2048 ![1, 0, 0] a slices_S2x4096x2048_S1x4096x2048_1_0_0)
    shapeCasts_S1x4096x2048_S4096x2048

theorem vals_ix (a : FVec Ideal S2x4096x2048 .bf16) (i : Fin 4096) (d : Fin 2048) :
    vals a (ix2 i d) = a (ix3 1 i d) := by
  pointwise [vals]

/-- The causal mask. -/
def mask : IVec S4096x4096 1 :=
  cmpi .sge (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

theorem mask_ix (i j : Fin 4096) : mask (ix2 i j) = BitVec.ofBool (decide (j.val ≤ i.val)) := by
  have hi := i.isLt
  have hj := j.isLt
  pointwise [mask]
  exact WordCmp.cmpi_sge_ofNat (by omega) (by omega)

/-- The mask on every head. -/
def maskH : IVec S16x4096x4096 1 := broadcastInDim S16x4096x4096 ![1, 2] bcast_S4096x4096_S16x4096x4096_1_2 mask

theorem maskH_ix (h : Fin 16) (i j : Fin 4096) : maskH (ix3 h i j) = BitVec.ofBool (decide (j.val ≤ i.val)) := by
  have e := mask_ix i j
  pointwise [maskH]
  exact e

/-- The scores with the gates' sums. -/
def scores (q k : FVec Ideal S16x4096x128 .f32) (c : FVec Ideal S4096x16 .f32) : FVec Ideal S16x4096x4096 .f32 :=
  subf (addf (Host.dotGeneral dot_S16x4096x128_S16x4096x128_S16x4096x4096_2_2_1_1_0_0 none q k)
      (broadcastInDim S16x4096x4096 ![0, 1, 2] bcast_S16x4096x1_S16x4096x4096_0_1_2 (broadcastInDim S16x4096x1 ![0, 1] bcast_S16x4096_S16x4096x1_0_1 (transpose S16x4096 [1, 0] c transposes_S4096x16_S16x4096_1_0))))
    (broadcastInDim S16x4096x4096 ![0, 1, 2] bcast_S16x1x4096_S16x4096x4096_0_1_2
      (broadcastInDim S16x1x4096 ![0, 2] bcast_S16x4096_S16x1x4096_0_2 (transpose S16x4096 [1, 0] c transposes_S4096x16_S16x4096_1_0)))

theorem scores_ix (q k : FVec Ideal S16x4096x128 .f32) (c : FVec Ideal S4096x16 .f32) (h : Fin 16) (i j : Fin 4096) :
    scores q k c (ix3 h i j) = (∑ d : Fin 128, q (ix3 h i d) * k (ix3 h j d)) + c (ix2 i h) - c (ix2 j h) := by
  pointwise [scores]

/-- The masked scores. -/
def sm (x : FVec Ideal S16x4096x4096 .f32) : FVec Ideal S16x4096x4096 .f32 :=
  select maskH x (broadcastInDim S16x4096x4096 ![] bcast_S_S16x4096x4096 (id (constant S_ .f32 0xFF800000#32)))

theorem sm_ix (x : FVec Ideal S16x4096x4096 .f32) (h : Fin 16) (i j : Fin 4096) :
    sm x (ix3 h i j) = if j.val ≤ i.val then x (ix3 h i j) else ⊥ := by
  have e := maskH_ix h i j
  pointwise [sm]
  rw [e, select_ofBool]
  split_ifs
  · rfl
  · exact negInf_bits

/-- The rows' maxima. -/
def mx0 (s : FVec Ideal S16x4096x4096 .f32) : FVec Ideal S16x4096 .f32 :=
  Host.reduce FloatOps.maximumf s (constant S_ .f32 0xFF800000#32) reducesTo_S16x4096x4096_S16x4096_d2 h_S_

theorem mx0_ix (s : FVec Ideal S16x4096x4096 .f32) (h : Fin 16) (i : Fin 4096) :
    mx0 s (ix2 h i) = Finset.univ.fold max (Ideal.ofBits .f32 0xFF800000#32) fun j : Fin 4096 => s (ix3 h i j) := by
  unfold mx0
  simp only [pointwise]

/-- The larger of minus infinity and a row vector. -/
def cap (z : FVec Ideal S16x4096 .f32) : FVec Ideal S16x4096 .f32 := maximumf (broadcastInDim S16x4096 ![] bcast_S_S16x4096 (constant S_ .f32 0xFF800000#32)) z

theorem cap_ix (z : FVec Ideal S16x4096 .f32) (h : Fin 16) (i : Fin 4096) : cap z (ix2 h i) = z (ix2 h i) := by
  have e : cap z (ix2 h i) = max (Ideal.ofBits .f32 0xFF800000#32) (z (ix2 h i)) := by
    pointwise [cap]
  rw [e, negInf_bits]
  exact max_eq_right bot_le

/-- The rows' maxima as the softmax takes them. -/
def mx (s : FVec Ideal S16x4096x4096 .f32) : FVec Ideal S16x4096 .f32 := cap (mx0 s)

theorem mx_ix (s : FVec Ideal S16x4096x4096 .f32) (h : Fin 16) (i : Fin 4096) :
    mx s (ix2 h i) = Finset.univ.fold max (⊥ : EReal) fun j : Fin 4096 => s (ix3 h i j) := by
  have e := mx0_ix s h i
  rw [negInf_bits] at e
  exact (cap_ix (mx0 s) h i).trans e

/-- A row vector as a column. -/
def col (a : FVec Ideal S16x4096 .f32) : FVec Ideal S16x4096x1 .f32 := broadcastInDim S16x4096x1 ![0, 1] bcast_S16x4096_S16x4096x1_0_1 a

theorem col_ix (a : FVec Ideal S16x4096 .f32) (h : Fin 16) (i : Fin 4096) : col a (ix3 h i 0) = a (ix2 h i) := by
  pointwise [col]

/-- The shifted exponentials. -/
def ex (s : FVec Ideal S16x4096x4096 .f32) : FVec Ideal S16x4096x4096 .f32 := Host.exp (subf s (broadcastInDim S16x4096x4096 ![0, 1, 2] bcast_S16x4096x1_S16x4096x4096_0_1_2 (col (mx s))))

theorem ex_ix (s : FVec Ideal S16x4096x4096 .f32) (h : Fin 16) (i j : Fin 4096) :
    ex s (ix3 h i j) = Ideal.exp (s (ix3 h i j) - mx s (ix2 h i)) := by
  have e := col_ix (mx s) h i
  pointwise [ex]
  rw [e]

/-- Sums over the keys. -/
def rsum (e : FVec Ideal S16x4096x4096 .f32) : FVec Ideal S16x4096 .f32 := Host.reduceAdd e (constant S_ .f32 0x00000000#32) reducesTo_S16x4096x4096_S16x4096_d2 h_S_

theorem rsum_ix (e : FVec Ideal S16x4096x4096 .f32) (h : Fin 16) (i : Fin 4096) : rsum e (ix2 h i) = ∑ j : Fin 4096, e (ix3 h i j) := by
  pointwise [rsum]

/-- Sums over the queries. -/
def csum (e : FVec Ideal S16x4096x4096 .f32) : FVec Ideal S16x4096 .f32 := Host.reduceAdd e (constant S_ .f32 0x00000000#32) reducesTo_S16x4096x4096_S16x4096_d1 h_S_

theorem csum_ix (e : FVec Ideal S16x4096x4096 .f32) (h : Fin 16) (j : Fin 4096) : csum e (ix2 h j) = ∑ i : Fin 4096, e (ix3 h i j) := by
  pointwise [csum]

/-- An array over a column, elementwise. -/
def over (e : FVec Ideal S16x4096x4096 .f32) (l : FVec Ideal S16x4096x1 .f32) : FVec Ideal S16x4096x4096 .f32 := Host.divf e (broadcastInDim S16x4096x4096 ![0, 1, 2] bcast_S16x4096x1_S16x4096x4096_0_1_2 l)

theorem over_ix (e : FVec Ideal S16x4096x4096 .f32) (l : FVec Ideal S16x4096x1 .f32) (h : Fin 16) (i j : Fin 4096) : over e l (ix3 h i j) = Ideal.div (e (ix3 h i j)) (l (ix3 h i 0)) := by
  pointwise [over]

/-- The inverse square of a column. -/
def inv2 (l : FVec Ideal S16x4096x1 .f32) : FVec Ideal S16x4096x1 .f32 :=
  Host.divf (broadcastInDim S16x4096x1 ![] bcast_S_S16x4096x1 (constant S_ .f32 0x3F800000#32)) (mulf l l)

theorem inv2_ix (l : FVec Ideal S16x4096x1 .f32) (h : Fin 16) (i : Fin 4096) : inv2 l (ix3 h i 0) = Ideal.div 1 (l (ix3 h i 0) * l (ix3 h i 0)) := by
  pointwise [inv2]

/-- The weight's cotangent. -/
def dotT (g v : FVec Ideal S16x4096x128 .f32) : FVec Ideal S16x4096x4096 .f32 := Host.dotGeneral dot_S16x4096x128_S16x4096x128_S16x4096x4096_2_2_1_1_0_0 none g v

theorem dotT_ix (g v : FVec Ideal S16x4096x128 .f32) (h : Fin 16) (i j : Fin 4096) : dotT g v (ix3 h i j) = ∑ d : Fin 128, g (ix3 h i d) * v (ix3 h j d) := by
  pointwise [dotT]

/-- The softmax's cross term, one number per row. -/
def cross (w : FVec Ideal S16x4096x4096 .f32) (l : FVec Ideal S16x4096x1 .f32) (e : FVec Ideal S16x4096x4096 .f32) : FVec Ideal S16x4096 .f32 :=
  Host.reduceAdd (Host.negf (shapeCast S16x4096x1 (rsum (mulf (mulf w (broadcastInDim S16x4096x4096 ![0, 1, 2] bcast_S16x4096x1_S16x4096x4096_0_1_2 (inv2 l))) e)) shapeCasts_S16x4096_S16x4096x1))
    (constant S_ .f32 0x00000000#32) reducesTo_S16x4096x1_S16x4096_d2 h_S_

theorem cross_ix (w : FVec Ideal S16x4096x4096 .f32) (l : FVec Ideal S16x4096x1 .f32) (e : FVec Ideal S16x4096x4096 .f32) (h : Fin 16) (i : Fin 4096) :
    cross w l e (ix2 h i) = -(∑ j : Fin 4096, w (ix3 h i j) * Ideal.div 1 (l (ix3 h i 0) * l (ix3 h i 0)) * e (ix3 h i j)) := by
  have e1 := rsum_ix (mulf (mulf w (broadcastInDim S16x4096x4096 ![0, 1, 2] bcast_S16x4096x1_S16x4096x4096_0_1_2 (inv2 l))) e) h i
  have e2 := inv2_ix l h i
  pointwise at e1
  pointwise [cross]
  rw [e1, e2, Fin.sum_univ_one]

/-- The gradient of the masked scores. -/
def ds0 (w : FVec Ideal S16x4096x4096 .f32) (l : FVec Ideal S16x4096x1 .f32) (e : FVec Ideal S16x4096x4096 .f32) : FVec Ideal S16x4096x4096 .f32 :=
  mulf (addf (over w l) (broadcastInDim S16x4096x4096 ![0, 1] bcast_S16x4096_S16x4096x4096_0_1 (cross w l e))) e

theorem ds0_ix (w : FVec Ideal S16x4096x4096 .f32) (l : FVec Ideal S16x4096x1 .f32) (e : FVec Ideal S16x4096x4096 .f32) (h : Fin 16) (i j : Fin 4096) :
    ds0 w l e (ix3 h i j) = (Ideal.div (w (ix3 h i j)) (l (ix3 h i 0)) + cross w l e (ix2 h i)) * e (ix3 h i j) := by
  have e1 := over_ix w l h i j
  pointwise [ds0]
  rw [e1]

/-- The gradient of the scores. -/
def ds (x : FVec Ideal S16x4096x4096 .f32) : FVec Ideal S16x4096x4096 .f32 :=
  select maskH x (broadcastInDim S16x4096x4096 ![] bcast_S_S16x4096x4096 (constant S_ .f32 0x00000000#32))

theorem ds_ix (x : FVec Ideal S16x4096x4096 .f32) (h : Fin 16) (i j : Fin 4096) : ds x (ix3 h i j) = if j.val ≤ i.val then x (ix3 h i j) else 0 := by
  have e := maskH_ix h i j
  pointwise [ds]
  rw [e, select_ofBool]

/-- A sum over the keys against rows. -/
def overKeys (x : FVec Ideal S16x4096x4096 .f32) (k : FVec Ideal S16x4096x128 .f32) : FVec Ideal S16x4096x128 .f32 := Host.dotGeneral dot_S16x4096x4096_S16x4096x128_S16x4096x128_2_1_1_2_0_0 none x k

theorem overKeys_ix (x : FVec Ideal S16x4096x4096 .f32) (k : FVec Ideal S16x4096x128 .f32) (h : Fin 16) (i : Fin 4096) (d : Fin 128) :
    overKeys x k (ix3 h i d) = ∑ j : Fin 4096, x (ix3 h i j) * k (ix3 h j d) := by
  pointwise [overKeys]

/-- A sum over the queries against rows. -/
def overQueries (x : FVec Ideal S16x4096x4096 .f32) (q : FVec Ideal S16x4096x128 .f32) : FVec Ideal S16x4096x128 .f32 := Host.dotGeneral dot_S16x4096x4096_S16x4096x128_S16x4096x128_1_1_2_2_0_0 none x q

theorem overQueries_ix (x : FVec Ideal S16x4096x4096 .f32) (q : FVec Ideal S16x4096x128 .f32) (h : Fin 16) (j : Fin 4096) (d : Fin 128) :
    overQueries x q (ix3 h j d) = ∑ i : Fin 4096, x (ix3 h i j) * q (ix3 h i d) := by
  pointwise [overQueries]

/-- The values' gradient. -/
def dval (g : FVec Ideal S16x4096x128 .f32) (p : FVec Ideal S16x4096x4096 .f32) : FVec Ideal S16x4096x128 .f32 :=
  transpose S16x4096x128 [0, 2, 1] (Host.dotGeneral dot_S16x4096x128_S16x4096x4096_S16x128x4096_1_1_2_2_0_0 none g p)
    transposes_S16x128x4096_S16x4096x128_0_2_1

theorem dval_ix (g : FVec Ideal S16x4096x128 .f32) (p : FVec Ideal S16x4096x4096 .f32) (h : Fin 16) (j : Fin 4096) (d : Fin 128) :
    dval g p (ix3 h j d) = ∑ i : Fin 4096, g (ix3 h i d) * p (ix3 h i j) := by
  pointwise [dval]

/-- The row sums' result. -/
def rowOut (x : FVec Ideal S16x4096x4096 .f32) : FVec Ideal S16x4096x1 .f32 := shapeCast S16x4096x1 (rsum x) shapeCasts_S16x4096_S16x4096x1

theorem rowOut_ix (x : FVec Ideal S16x4096x4096 .f32) (h : Fin 16) (i : Fin 4096) : rowOut x (ix3 h i 0) = ∑ j : Fin 4096, x (ix3 h i j) := by
  have e := rsum_ix x h i
  pointwise [rowOut]
  exact e

/-- The column sums' result. -/
def colOut (x : FVec Ideal S16x4096x4096 .f32) : FVec Ideal S16x1x4096 .f32 :=
  Host.negf (shapeCast S16x1x4096 (csum (Host.negf x)) shapeCasts_S16x4096_S16x1x4096)

theorem colOut_ix (x : FVec Ideal S16x4096x4096 .f32) (h : Fin 16) (j : Fin 4096) : colOut x (ix3 h 0 j) = -(∑ i : Fin 4096, -(x (ix3 h i j))) := by
  have e := csum_ix (Host.negf x) h j
  pointwise at e
  pointwise [colOut]
  rw [e]

end Cert.Fox.Ref

end
-- ==== Proof.RefValue.lean ====
/-
  The reference's results over the real numbers: each result array of jax's derivative is the real gradient of
  `Math.lean`, where the arguments are real.
-/
module

public import proofs.«01_k».proof.Proof.Ref

@[expose] public section

set_option maxRecDepth 16384

noncomputable section

open Idealize.ShloMosaic Idealize.ShloMosaic.TcCoe Idealize.SL.Sem
open scoped BigOperators

namespace Cert.Fox

/-- The five argument arrays hold the reals of `A`. -/
structure ArgsAre (A : Args) (q k : FVec Ideal ⟨2, ![4096, 2048]⟩ .bf16) (kv : FVec Ideal ⟨3, ![2, 4096, 2048]⟩ .bf16)
    (c : FVec Ideal ⟨2, ![4096, 16]⟩ .f32) (g : FVec Ideal ⟨2, ![4096, 2048]⟩ .bf16) : Prop where
  q : ∀ (i : Fin 4096) (d : Fin 2048), q (ix2 i d) = ((A.q i.val d.val : ℝ) : EReal)
  k : ∀ (i : Fin 4096) (d : Fin 2048), k (ix2 i d) = ((A.k i.val d.val : ℝ) : EReal)
  v : ∀ (i : Fin 4096) (d : Fin 2048), kv (ix3 1 i d) = ((A.v i.val d.val : ℝ) : EReal)
  c : ∀ (i : Fin 4096) (h : Fin 16), c (ix2 i h) = ((A.c i.val h.val : ℝ) : EReal)
  g : ∀ (i : Fin 4096) (d : Fin 2048), g (ix2 i d) = ((A.g i.val d.val : ℝ) : EReal)

/-- The denominator of the row's softmax with the row's own gate term in the scores. -/
def Args.Z' (A : Args) (h i : ℕ) : ℝ := ∑ j : Fin 4096, if j.val ≤ i then Real.exp (A.x h i j.val + A.c i h) else 0

theorem Args.Z'_pos (A : Args) (h i : ℕ) (hi : i < 4096) : 0 < A.Z' h i := by
  have e : A.Z' h i = A.Z h i * Real.exp (A.c i h) := by
    unfold Args.Z' Args.Z
    rw [Finset.sum_mul]
    refine Finset.sum_congr rfl fun j _ => ?_
    split_ifs
    · rw [Real.exp_add]
    · rw [zero_mul]
  rw [e]
  exact mul_pos (A.Z_pos h i hi) (Real.exp_pos _)

/-- The softmax weight does not see the row's own gate term. -/
theorem Args.P_eq' (A : Args) (h i j : ℕ) (hj : j < 4096) :
    (if j ≤ i then Real.exp (A.x h i j + A.c i h) / A.Z' h i else 0) = A.P h i j :=
  weight_add (n := 4096) i (fun j => A.x h i j.val) (A.c i h) ⟨j, hj⟩

namespace Ref

variable {A : Args} {q k g : FVec Ideal ⟨2, ![4096, 2048]⟩ .bf16} {kv : FVec Ideal ⟨3, ![2, 4096, 2048]⟩ .bf16}
  {c : FVec Ideal ⟨2, ![4096, 16]⟩ .f32}

theorem hd_real (a : FVec Ideal ⟨2, ![4096, 2048]⟩ .bf16) (f : ℕ → ℕ → ℝ)
    (ha : ∀ (i : Fin 4096) (d : Fin 2048), a (ix2 i d) = ((f i.val d.val : ℝ) : EReal)) (h : Fin 16) (i : Fin 4096) (d : Fin 128) :
    hd a (ix3 h i d) = ((f i.val (128 * h.val + d.val) : ℝ) : EReal) :=
  (hd_ix a h i d).trans (ha _ _)

theorem vals_real (H : ArgsAre A q k kv c g) (h : Fin 16) (i : Fin 4096) (d : Fin 128) :
    hd (vals kv) (ix3 h i d) = ((A.v i.val (128 * h.val + d.val) : ℝ) : EReal) :=
  hd_real _ A.v (fun i d => (vals_ix kv i d).trans (H.v i d)) h i d

/-- The masked scores of the reference. -/
def S (q k : FVec Ideal ⟨2, ![4096, 2048]⟩ .bf16) (c : FVec Ideal ⟨2, ![4096, 16]⟩ .f32) :
    FVec Ideal ⟨3, ![16, 4096, 4096]⟩ .f32 := sm (scores (hd q) (hd k) c)

theorem S_real (H : ArgsAre A q k kv c g) (h : Fin 16) (i j : Fin 4096) :
    S q k c (ix3 h i j) = smask i.val (fun j : Fin 4096 => A.x h.val i.val j.val + A.c i.val h.val) j := by
  have e := (sm_ix (scores (hd q) (hd k) c) h i j)
  rw [scores_ix] at e
  simp only [hd_real q A.q H.q, hd_real k A.k H.k, H.c] at e
  rw [coe_sum_mul, ← EReal.coe_add, ← EReal.coe_sub] at e
  refine e.trans ?_
  unfold smask Args.x
  split_ifs
  · congr 1; ring
  · rfl

/-- The rows' shifts: for each row a real the scores are shifted by. -/
theorem shift (H : ArgsAre A q k kv c g) (h : Fin 16) (i : Fin 4096) :
    ∃ μ : ℝ, mx (S q k c) (ix2 h i) = (μ : EReal) := by
  obtain ⟨μ, hμ⟩ := smask_max i.val i.isLt (fun j : Fin 4096 => A.x h.val i.val j.val + A.c i.val h.val)
  refine ⟨μ, ?_⟩
  rw [mx_ix, ← hμ]
  exact congrArg (fun f => Finset.fold max (⊥ : EReal) f Finset.univ) (funext fun j => S_real H h i j)

theorem ex_real (H : ArgsAre A q k kv c g) (h : Fin 16) (i : Fin 4096) (μ : ℝ) (hμ : mx (S q k c) (ix2 h i) = (μ : EReal))
    (j : Fin 4096) : ex (S q k c) (ix3 h i j)
      = ((if j.val ≤ i.val then Real.exp (A.x h.val i.val j.val + A.c i.val h.val - μ) else 0 : ℝ) : EReal) := by
  rw [ex_ix, hμ, S_real H]
  exact exp_smask_sub i.val _ μ j

/-- The softmax's denominators as a column. -/
def den (s : FVec Ideal ⟨3, ![16, 4096, 4096]⟩ .f32) : FVec Ideal ⟨3, ![16, 4096, 1]⟩ .f32 := col (rsum (ex s))

theorem den_real (H : ArgsAre A q k kv c g) (h : Fin 16) (i : Fin 4096) (μ : ℝ) (hμ : mx (S q k c) (ix2 h i) = (μ : EReal)) :
    den (S q k c) (ix3 h i 0) = ((A.Z' h.val i.val * Real.exp (-μ) : ℝ) : EReal) := by
  refine ((col_ix _ h i).trans (rsum_ix _ h i)).trans ?_
  simp only [ex_ix, hμ, S_real H]
  exact sum_exp_smask i.val (fun j : Fin 4096 => A.x h.val i.val j.val + A.c i.val h.val) μ

/-- The reference's softmax weights are the real ones. -/
theorem weight_real (H : ArgsAre A q k kv c g) (h : Fin 16) (i j : Fin 4096) :
    over (ex (S q k c)) (den (S q k c)) (ix3 h i j) = ((A.P h.val i.val j.val : ℝ) : EReal) := by
  obtain ⟨μ, hμ⟩ := shift H h i
  rw [over_ix, ex_real H h i μ hμ, den_real H h i μ hμ, div_shift _ _ _ _ (A.Z'_pos h.val i.val i.isLt)]
  rw [A.P_eq' _ _ _ j.isLt]

/-- The weight's cotangent. -/
def W (g : FVec Ideal ⟨2, ![4096, 2048]⟩ .bf16) (kv : FVec Ideal ⟨3, ![2, 4096, 2048]⟩ .bf16) :
    FVec Ideal ⟨3, ![16, 4096, 4096]⟩ .f32 := dotT (hd g) (hd (vals kv))

theorem W_real (H : ArgsAre A q k kv c g) (h : Fin 16) (i j : Fin 4096) :
    W g kv (ix3 h i j) = ((A.D h.val i.val j.val : ℝ) : EReal) := by
  refine (dotT_ix _ _ h i j).trans ?_
  simp only [hd_real g A.g H.g, vals_real H]
  exact coe_sum_mul _ _

/-- The scores' gradient. -/
def G (q k : FVec Ideal ⟨2, ![4096, 2048]⟩ .bf16) (kv : FVec Ideal ⟨3, ![2, 4096, 2048]⟩ .bf16)
    (c : FVec Ideal ⟨2, ![4096, 16]⟩ .f32) (g : FVec Ideal ⟨2, ![4096, 2048]⟩ .bf16) : FVec Ideal ⟨3, ![16, 4096, 4096]⟩ .f32 :=
  ds (ds0 (W g kv) (den (S q k c)) (ex (S q k c)))

theorem G_real (H : ArgsAre A q k kv c g) (h : Fin 16) (i j : Fin 4096) :
    G q k kv c g (ix3 h i j) = ((A.ds h.val i.val j.val : ℝ) : EReal) := by
  obtain ⟨μ, hμ⟩ := shift H h i
  have hZ := A.Z'_pos h.val i.val i.isLt
  have hL : A.Z' h.val i.val * Real.exp (-μ) ≠ 0 := (mul_pos hZ (Real.exp_pos _)).ne'
  have hLL : A.Z' h.val i.val * Real.exp (-μ) * (A.Z' h.val i.val * Real.exp (-μ)) ≠ 0 := mul_ne_zero hL hL
  refine (ds_ix _ h i j).trans ?_
  by_cases hij : j.val ≤ i.val
  · rw [if_pos hij, ds0_ix, cross_ix]
    simp only [W_real H, ex_real H h i μ hμ, den_real H h i μ hμ]
    rw [← EReal.coe_mul, show (1 : EReal) = ((1 : ℝ) : EReal) from rfl, Ideal.div_coe hLL, Ideal.div_coe hL]
    simp only [← EReal.coe_mul]
    rw [coe_sum, ← EReal.coe_neg, ← EReal.coe_add, ← EReal.coe_mul]
    refine congrArg _ ?_
    have e := grad_shift (n := 4096) i.val (fun j => A.x h.val i.val j.val + A.c i.val h.val) (fun j => A.D h.val i.val j.val) μ
      (A.Z' h.val i.val) hZ j
    simp only [A.P_eq' _ _ _ (Fin.isLt _)] at e
    simp only [one_mul]
    rw [div_eq_mul_one_div] at e
    exact e
  · rw [if_neg hij, A.ds_above _ _ _ (by omega), EReal.coe_zero]

/-! ## The five results -/

theorem dq_real (H : ArgsAre A q k kv c g) (i : Fin 4096) (d : Fin 2048) :
    flat (overKeys (G q k kv c g) (hd k)) (ix2 i d)
      = ((∑ j : Fin 4096, A.ds (d.val / 128) i.val j.val * A.k j.val d.val : ℝ) : EReal) := by
  refine ((flat_ix _ i d).trans (overKeys_ix _ _ _ _ _)).trans ?_
  simp only [G_real H, hd_real k A.k H.k]
  rw [coe_sum_mul]
  refine congrArg _ (Finset.sum_congr rfl fun j _ => ?_)
  rw [Nat.div_add_mod]

theorem dk_real (H : ArgsAre A q k kv c g) (j : Fin 4096) (d : Fin 2048) :
    flat (overQueries (G q k kv c g) (hd q)) (ix2 j d)
      = ((∑ i : Fin 4096, A.ds (d.val / 128) i.val j.val * A.q i.val d.val : ℝ) : EReal) := by
  refine ((flat_ix _ j d).trans (overQueries_ix _ _ _ _ _)).trans ?_
  simp only [G_real H, hd_real q A.q H.q]
  rw [coe_sum_mul]
  refine congrArg _ (Finset.sum_congr rfl fun j _ => ?_)
  rw [Nat.div_add_mod]

theorem dv_real (H : ArgsAre A q k kv c g) (j : Fin 4096) (d : Fin 2048) :
    flat (dval (hd g) (over (ex (S q k c)) (den (S q k c)))) (ix2 j d)
      = ((∑ i : Fin 4096, A.P (d.val / 128) i.val j.val * A.g i.val d.val : ℝ) : EReal) := by
  refine ((flat_ix _ j d).trans (dval_ix _ _ _ _ _)).trans ?_
  simp only [weight_real H, hd_real g A.g H.g]
  rw [coe_sum_mul]
  refine congrArg _ (Finset.sum_congr rfl fun j _ => ?_)
  rw [Nat.div_add_mod, mul_comm]

theorem dr_real (H : ArgsAre A q k kv c g) (h : Fin 16) (i : Fin 4096) :
    rowOut (G q k kv c g) (ix3 h i 0) = ((∑ j : Fin 4096, A.ds h.val i.val j.val : ℝ) : EReal) := by
  refine (rowOut_ix _ h i).trans ?_
  simp only [G_real H]
  exact coe_sum _ _

theorem dc_real (H : ArgsAre A q k kv c g) (h : Fin 16) (j : Fin 4096) :
    colOut (G q k kv c g) (ix3 h 0 j) = ((∑ i : Fin 4096, A.ds h.val i.val j.val : ℝ) : EReal) := by
  refine (colOut_ix _ h j).trans ?_
  simp only [G_real H, ← EReal.coe_neg]
  rw [coe_sum, ← EReal.coe_neg, Finset.sum_neg_distrib, neg_neg]

end Ref

end Cert.Fox

end
-- ==== Proof.Host.lean ====
/-
  The kernel's host stages: the gates' row, each row's log-sum and each row's mean of the weight's cotangent, over
  the real numbers.
-/
module

public import proofs.«01_k».proof.Proof.RefValue

@[expose] public section

set_option maxRecDepth 16384

noncomputable section

open Idealize.ShloMosaic Idealize.ShloMosaic.TcCoe Idealize.SL.Sem
open Cert.ReferenceIdeal Cert.ReferenceIdeal.Gen
open scoped BigOperators

namespace Cert.Fox.Saved

open Cert.Fox.Ref

variable {A : Args} {q k g : FVec Ideal ⟨2, ![4096, 2048]⟩ .bf16} {kv : FVec Ideal ⟨3, ![2, 4096, 2048]⟩ .bf16}
  {c : FVec Ideal ⟨2, ![4096, 16]⟩ .f32}

/-- The gates' sums as one row per head. -/
def crow (c : FVec Ideal S4096x16 .f32) : FVec Ideal S16x1x4096 .f32 :=
  broadcastInDim S16x1x4096 ![0, 2] bcast_S16x4096_S16x1x4096_0_2 (transpose S16x4096 [1, 0] c transposes_S4096x16_S16x4096_1_0)

theorem crow_ix (c : FVec Ideal S4096x16 .f32) (h : Fin 16) (j : Fin 4096) : crow c (ix3 h 0 j) = c (ix2 j h) := by
  pointwise [crow]

/-- The scores against the gates' row. -/
def scores (q k : FVec Ideal S16x4096x128 .f32) (r : FVec Ideal S16x1x4096 .f32) : FVec Ideal S16x4096x4096 .f32 :=
  subf (dotT q k) (broadcastInDim S16x4096x4096 ![0, 1, 2] bcast_S16x1x4096_S16x4096x4096_0_1_2 r)

theorem scores_ix (q k : FVec Ideal S16x4096x128 .f32) (r : FVec Ideal S16x1x4096 .f32) (h : Fin 16) (i j : Fin 4096) :
    scores q k r (ix3 h i j) = (∑ d : Fin 128, q (ix3 h i d) * k (ix3 h j d)) - r (ix3 h 0 j) := by
  pointwise [scores, dotT]

/-- The exponentials shifted by a row vector. -/
def kex (s : FVec Ideal S16x4096x4096 .f32) (z : FVec Ideal S16x4096 .f32) : FVec Ideal S16x4096x4096 .f32 :=
  Host.exp (subf s (broadcastInDim S16x4096x4096 ![0, 1, 2] bcast_S16x4096x1_S16x4096x4096_0_1_2 (col z)))

theorem kex_ix (s : FVec Ideal S16x4096x4096 .f32) (z : FVec Ideal S16x4096 .f32) (h : Fin 16) (i j : Fin 4096) :
    kex s z (ix3 h i j) = Ideal.exp (s (ix3 h i j) - z (ix2 h i)) := by
  have e := col_ix z h i
  pointwise [kex]
  rw [e]

/-- The shift and the logarithm of the sum. -/
def lse (z w : FVec Ideal S16x4096 .f32) : FVec Ideal S16x4096x1 .f32 := addf (col z) (Host.log (col w))

theorem lse_ix (z w : FVec Ideal S16x4096 .f32) (h : Fin 16) (i : Fin 4096) :
    lse z w (ix3 h i 0) = z (ix2 h i) + Ideal.log (w (ix2 h i)) := by
  have e := col_ix z h i
  have e' := col_ix w h i
  pointwise [lse]
  rw [e, e']

/-- The row sums of a product of two arrays of rows. -/
def rdot (g o : FVec Ideal S16x4096x128 .f32) : FVec Ideal S16x4096x1 .f32 :=
  col (Host.reduceAdd (mulf g o) (constant S_ .f32 0x00000000#32) (by decide : S16x4096x128.ReducesTo [2] S16x4096) h_S_)

theorem rdot_ix (g o : FVec Ideal S16x4096x128 .f32) (h : Fin 16) (i : Fin 4096) :
    rdot g o (ix3 h i 0) = ∑ d : Fin 128, g (ix3 h i d) * o (ix3 h i d) := by
  pointwise [rdot, col]

/-! ## Over the real numbers -/

/-- The kernel's masked scores. -/
def S (q k : FVec Ideal S4096x2048 .bf16) (c : FVec Ideal S4096x16 .f32) : FVec Ideal S16x4096x4096 .f32 :=
  sm (scores (hd q) (hd k) (crow c))

theorem S_real (H : ArgsAre A q k kv c g) (h : Fin 16) (i j : Fin 4096) :
    S q k c (ix3 h i j) = smask i.val (fun j : Fin 4096 => A.x h.val i.val j.val) j := by
  have e := sm_ix (scores (hd q) (hd k) (crow c)) h i j
  rw [scores_ix, crow_ix] at e
  simp only [hd_real q A.q H.q, hd_real k A.k H.k, H.c] at e
  rw [coe_sum_mul, ← EReal.coe_sub] at e
  exact e

theorem shift (H : ArgsAre A q k kv c g) (h : Fin 16) (i : Fin 4096) :
    ∃ μ : ℝ, mx0 (S q k c) (ix2 h i) = (μ : EReal) := by
  obtain ⟨μ, hμ⟩ := smask_max i.val i.isLt (fun j : Fin 4096 => A.x h.val i.val j.val)
  refine ⟨μ, ?_⟩
  rw [mx0_ix, negInf_bits, ← hμ]
  exact congrArg (fun f => Finset.fold max (⊥ : EReal) f Finset.univ) (funext fun j => S_real H h i j)

/-- The exponentials the kernel's row sums are taken of. -/
def E (q k : FVec Ideal S4096x2048 .bf16) (c : FVec Ideal S4096x16 .f32) : FVec Ideal S16x4096x4096 .f32 :=
  kex (S q k c) (mx0 (S q k c))

theorem E_real (H : ArgsAre A q k kv c g) (h : Fin 16) (i : Fin 4096) (μ : ℝ) (hμ : mx0 (S q k c) (ix2 h i) = (μ : EReal))
    (j : Fin 4096) : E q k c (ix3 h i j) = ((if j.val ≤ i.val then Real.exp (A.x h.val i.val j.val - μ) else 0 : ℝ) : EReal) := by
  refine (kex_ix _ _ h i j).trans ?_
  rw [hμ, S_real H]
  exact exp_smask_sub i.val _ μ j

theorem sum_real (H : ArgsAre A q k kv c g) (h : Fin 16) (i : Fin 4096) (μ : ℝ) (hμ : mx0 (S q k c) (ix2 h i) = (μ : EReal)) :
    rsum (E q k c) (ix2 h i) = ((A.Z h.val i.val * Real.exp (-μ) : ℝ) : EReal) := by
  refine (rsum_ix _ h i).trans ?_
  have e : ∀ j : Fin 4096, E q k c (ix3 h i j) = Ideal.exp (smask i.val (fun j : Fin 4096 => A.x h.val i.val j.val) j - (μ : EReal)) :=
    fun j => by rw [E_real H h i μ hμ, exp_smask_sub]
  simp only [e]
  exact sum_exp_smask i.val (fun j : Fin 4096 => A.x h.val i.val j.val) μ

/-- The row's log-sum is the logarithm of the softmax's denominator, whatever the shift. -/
theorem lse_real (H : ArgsAre A q k kv c g) (h : Fin 16) (i : Fin 4096) :
    lse (mx0 (S q k c)) (rsum (E q k c)) (ix3 h i 0) = ((Real.log (A.Z h.val i.val) : ℝ) : EReal) := by
  obtain ⟨μ, hμ⟩ := shift H h i
  rw [lse_ix, sum_real H h i μ hμ, hμ]
  exact lse_eq _ _ (A.Z_pos h.val i.val i.isLt)

theorem weight_real (H : ArgsAre A q k kv c g) (h : Fin 16) (i j : Fin 4096) :
    over (E q k c) (col (rsum (E q k c))) (ix3 h i j) = ((A.P h.val i.val j.val : ℝ) : EReal) := by
  obtain ⟨μ, hμ⟩ := shift H h i
  rw [over_ix, col_ix, sum_real H h i μ hμ, E_real H h i μ hμ, div_shift _ _ _ _ (A.Z_pos h.val i.val i.isLt)]
  rfl

/-- The cotangent against the attention's output, row by row. -/
def delta (q k : FVec Ideal S4096x2048 .bf16) (kv : FVec Ideal S2x4096x2048 .bf16) (c : FVec Ideal S4096x16 .f32)
    (g : FVec Ideal S4096x2048 .bf16) : FVec Ideal S16x4096x1 .f32 :=
  rdot (hd g) (overKeys (over (E q k c) (col (rsum (E q k c)))) (hd (vals kv)))

/-- It is the mean of the weight's cotangent under the weights. -/
theorem delta_real (H : ArgsAre A q k kv c g) (h : Fin 16) (i : Fin 4096) :
    delta q k kv c g (ix3 h i 0) = ((A.dl h.val i.val : ℝ) : EReal) := by
  refine (rdot_ix _ _ h i).trans ?_
  have e : ∀ d : Fin 128, overKeys (over (E q k c) (col (rsum (E q k c)))) (hd (vals kv)) (ix3 h i d)
      = ((∑ j : Fin 4096, A.P h.val i.val j.val * A.v j.val (128 * h.val + d.val) : ℝ) : EReal) := fun d => by
    refine (overKeys_ix _ _ h i d).trans ?_
    simp only [weight_real H, vals_real H]
    exact coe_sum_mul _ _
  simp only [e, hd_real g A.g H.g]
  rw [coe_sum_mul]
  refine congrArg _ ?_
  unfold Args.dl Args.D
  simp only [Finset.mul_sum]
  rw [Finset.sum_comm]
  refine Finset.sum_congr rfl fun j _ => Finset.sum_congr rfl fun d _ => ?_
  ring

end Cert.Fox.Saved

end
-- ==== Proof.Tile.lean ====
/-
  One tile of the gradient: the values the body computes from blocks of queries, keys, values, cotangent, gate, log-sum and
  row mean, read at an index, where those blocks hold real numbers.
-/
module

public import proofs.«01_k».proof.Proof.Gen.KernelIdeal.Skeleton
public import proofs.«01_k».proof.Proof.Math
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.KernelIdeal Cert.KernelIdeal.Gen
open scoped BigOperators

namespace Cert.Fox

/-! ## The mask's words -/

/-- The difference of two small index words, read with its sign. -/
theorem toInt_sub_ofNat (a b : ℕ) (ha : a < 2 ^ 30) (hb : b < 2 ^ 30) :
    (BitVec.ofNat 32 a - BitVec.ofNat 32 b).toInt = (a : ℤ) - (b : ℤ) := by
  rw [BitVec.toInt_sub, WordCmp.toInt_ofNat_of_lt (by omega), WordCmp.toInt_ofNat_of_lt (by omega)]
  rw [Int.bmod_def]
  split_ifs <;> omega

/-- The causal test of a tile: column less row against the tile's offset is "the key is not later than the query". -/
theorem mask_word (kj qi r j : ℕ) (hk : kj < 8) (hq : qi < 4) (hr : r < 1024) (hj : j < 512) :
    IntOp.cmpi CmpIPredicate.sle (IntOp.subi (BitVec.ofNat 32 j) (BitVec.ofNat 32 r))
        (Scalar.subi (Scalar.muli (BitVec.ofNat 32 qi) 1024#32) (Scalar.muli (BitVec.ofNat 32 kj) 512#32))
      = BitVec.ofBool (decide (512 * kj + j ≤ 1024 * qi + r)) := by
  rw [WordCmp.cmpi_sle_eq]
  have e1 : (IntOp.subi (BitVec.ofNat 32 j) (BitVec.ofNat 32 r)).toInt = (j : ℤ) - (r : ℤ) :=
    toInt_sub_ofNat j r (by omega) (by omega)
  have e2 : (Scalar.subi (Scalar.muli (BitVec.ofNat 32 qi) 1024#32) (Scalar.muli (BitVec.ofNat 32 kj) 512#32)).toInt
      = ((qi * 1024 : ℕ) : ℤ) - ((kj * 512 : ℕ) : ℤ) := by
    have := toInt_sub_ofNat (qi * 1024) (kj * 512) (by omega) (by omega)
    rw [BitVec.ofNat_mul, BitVec.ofNat_mul] at this
    exact this
  rw [e1, e2]
  congr 1
  rw [decide_eq_decide]
  omega

/-- The mask constant is minus infinity. -/
theorem mask_const : Named.named (F := Ideal) κ "mask" (φ := .f32) 0xF149F2CA#32 = (⊥ : EReal) :=
  IdealRules.named_const.ideal_named_scalar _ _ _ _ rfl

/-! ## The blocks of a tile -/

/-- The blocks of the tile of head `h`, key tile `kj` and query tile `qi` hold the arrays' reals. -/
structure TileIs (A : Args) (h kj qi : ℕ) (q : Vec Ideal S1024x128 .bf16) (k : Vec Ideal S512x128 .bf16)
    (v : Vec Ideal S1x512x128 .bf16) (c : Vec Ideal S1x1x512 .f32) (g : Vec Ideal S1024x128 .bf16)
    (l : Vec Ideal S1x1024x1 .f32) (dl : Vec Ideal S1x1024x1 .f32) : Prop where
  q : ∀ (r : Fin 1024) (d : Fin 128), q (ix2 r d) = ((A.q (1024 * qi + r.val) (128 * h + d.val) : ℝ) : EReal)
  k : ∀ (j : Fin 512) (d : Fin 128), k (ix2 j d) = ((A.k (512 * kj + j.val) (128 * h + d.val) : ℝ) : EReal)
  v : ∀ (j : Fin 512) (d : Fin 128), v (ix3 0 j d) = ((A.v (512 * kj + j.val) (128 * h + d.val) : ℝ) : EReal)
  c : ∀ (j : Fin 512), c (ix3 0 0 j) = ((A.c (512 * kj + j.val) h : ℝ) : EReal)
  g : ∀ (r : Fin 1024) (d : Fin 128), g (ix2 r d) = ((A.g (1024 * qi + r.val) (128 * h + d.val) : ℝ) : EReal)
  l : ∀ (r : Fin 1024), l (ix3 0 r 0) = ((Real.log (A.Z h (1024 * qi + r.val)) : ℝ) : EReal)
  dl : ∀ (r : Fin 1024), dl (ix3 0 r 0) = ((A.dl h (1024 * qi + r.val) : ℝ) : EReal)

variable {A : Args} {h kj qi : ℕ} {q : Vec Ideal S1024x128 .bf16} {k : Vec Ideal S512x128 .bf16}
    {v : Vec Ideal S1x512x128 .bf16} {c : Vec Ideal S1x1x512 .f32} {g : Vec Ideal S1024x128 .bf16}
    {l : Vec Ideal S1x1024x1 .f32} {dl : Vec Ideal S1x1024x1 .f32}

/-- Without a mask, where every key of the tile is not later than every query: the softmax weight. -/
theorem weight_plain (T : TileIs A h kj qi q k v c g l dl) (hq : qi < 4) (hb : kj + 1 ≤ 2 * qi) (r : Fin 1024) (j : Fin 512) :
    k0_pay3 (F := Ideal) q k c l (ix2 r j) = ((A.P h (1024 * qi + r.val) (512 * kj + j.val) : ℝ) : EReal) := by
  have hr := r.isLt
  have hj := j.isLt
  pointwise [k0_pay3]
  simp only [T.q, T.k, T.c, T.l]
  rw [coe_sum_mul, ← EReal.coe_sub, ← EReal.coe_sub, Ideal.exp_coe, A.P_exp h _ _ (by omega) (by omega)]
  rfl

/-- With the mask: the softmax weight, zero where the key is later than the query. -/
theorem weight_masked (T : TileIs A h kj qi q k v c g l dl) (hk : kj < 8) (hq : qi < 4) (r : Fin 1024) (j : Fin 512) :
    k0_pay8 (F := Ideal) (BitVec.ofNat 32 kj) (BitVec.ofNat 32 qi) q k c l (ix2 r j)
      = ((A.P h (1024 * qi + r.val) (512 * kj + j.val) : ℝ) : EReal) := by
  have hr := r.isLt
  have hj := j.isLt
  pointwise [k0_pay8]
  rw [mask_word kj qi r.val j.val hk hq hr hj]
  simp only [T.q, T.k, T.c, T.l, mask_const]
  rw [coe_sum_mul, ← EReal.coe_sub]
  by_cases hle : 512 * kj + j.val ≤ 1024 * qi + r.val
  · simp only [hle, decide_true, BitVec.ofBool_true, Scalar.select]
    rw [A.P_exp h _ _ (by omega) hle]
    rw [if_pos (by decide), ← EReal.coe_sub, Ideal.exp_coe]
    rfl
  · simp only [hle, decide_false, BitVec.ofBool_false, Scalar.select]
    rw [A.P_above h _ _ (by omega)]
    rw [if_neg (by decide), EReal.bot_sub, Ideal.exp_bot, EReal.coe_zero]

/-- The score's gradient in a tile without a mask. -/
theorem grad_plain (T : TileIs A h kj qi q k v c g l dl) (hq : qi < 4) (hb : kj + 1 ≤ 2 * qi) (r : Fin 1024) (j : Fin 512) :
    k0_pay4 (F := Ideal) q k g c l v dl (ix2 r j) = ((A.ds h (1024 * qi + r.val) (512 * kj + j.val) : ℝ) : EReal) := by
  have e := weight_plain T hq hb r j
  pointwise [k0_pay4]
  rw [e]
  simp only [T.g, T.v, T.dl]
  rw [coe_sum_mul, ← EReal.coe_sub, ← EReal.coe_mul]
  rfl

/-- The score's gradient in a masked tile. -/
theorem grad_masked (T : TileIs A h kj qi q k v c g l dl) (hk : kj < 8) (hq : qi < 4) (r : Fin 1024) (j : Fin 512) :
    k0_pay9 (F := Ideal) (BitVec.ofNat 32 kj) (BitVec.ofNat 32 qi) q k g c l v dl (ix2 r j)
      = ((A.ds h (1024 * qi + r.val) (512 * kj + j.val) : ℝ) : EReal) := by
  have e := weight_masked T hk hq r j
  pointwise [k0_pay9]
  rw [e]
  simp only [T.g, T.v, T.dl]
  rw [coe_sum_mul, ← EReal.coe_sub, ← EReal.coe_mul]
  rfl

/-! ## What the body adds to its sums -/

/-- The tile's part of the keys' gradient. -/
def tDk (A : Args) (h kj qi j d : ℕ) : ℝ :=
  ∑ r : Fin 1024, A.ds h (1024 * qi + r.val) (512 * kj + j) * A.q (1024 * qi + r.val) (128 * h + d)
/-- The tile's part of the values' gradient. -/
def tDv (A : Args) (h kj qi j d : ℕ) : ℝ :=
  ∑ r : Fin 1024, A.P h (1024 * qi + r.val) (512 * kj + j) * A.g (1024 * qi + r.val) (128 * h + d)
/-- The tile's part of the column sums of the score's gradient. -/
def tDc (A : Args) (h kj qi j : ℕ) : ℝ := ∑ r : Fin 1024, A.ds h (1024 * qi + r.val) (512 * kj + j)
/-- The tile's part of the queries' gradient. -/
def tDq (A : Args) (h kj qi r d : ℕ) : ℝ :=
  ∑ j : Fin 512, A.ds h (1024 * qi + r) (512 * kj + j.val) * A.k (512 * kj + j.val) (128 * h + d)
/-- The tile's part of the row sums of the score's gradient. -/
def tDr (A : Args) (h kj qi r : ℕ) : ℝ := ∑ j : Fin 512, A.ds h (1024 * qi + r) (512 * kj + j.val)

/-- The column sums after the tile. -/
theorem dc_plain (T : TileIs A h kj qi q k v c g l dl) (hq : qi < 4) (hb : kj + 1 ≤ 2 * qi) (s : Vec Ideal S1x512 .f32) (j : Fin 512) :
    k0_pay6 (F := Ideal) q k g c l v dl s (ix2 0 j) = s (ix2 0 j) + ((tDc A h kj qi j.val : ℝ) : EReal) := by
  have e := grad_plain T hq hb
  pointwise [k0_pay6]
  simp only [e]
  rw [coe_sum]; rfl

/-- The values' gradient after the tile. -/
theorem dv_plain (T : TileIs A h kj qi q k v c g l dl) (hq : qi < 4) (hb : kj + 1 ≤ 2 * qi) (s : Vec Ideal S512x128 .f32) (j : Fin 512) (d : Fin 128) :
    k0_pay22 (F := Ideal) g s (k0_pay7 (F := Ideal) q k c l) (constant S512x128 .f32 0x00000000#32) (ix2 j d) = s (ix2 j d) + ((tDv A h kj qi j.val d.val : ℝ) : EReal) := by
  have e := weight_plain T hq hb
  pointwise [k0_pay22, k0_pay7]
  simp only [e, T.g]
  rw [coe_sum_mul]; rfl

/-- The keys' gradient after the tile. -/
theorem dk_plain (T : TileIs A h kj qi q k v c g l dl) (hq : qi < 4) (hb : kj + 1 ≤ 2 * qi) (s : Vec Ideal S512x128 .f32) (j : Fin 512) (d : Fin 128) :
    k0_pay23 (F := Ideal) q (k0_pay5 (F := Ideal) q k g c l v dl) s (ix2 j d) = s (ix2 j d) + ((tDk A h kj qi j.val d.val : ℝ) : EReal) := by
  have e := grad_plain T hq hb
  pointwise [k0_pay23, k0_pay5]
  simp only [e, T.q]
  rw [coe_sum_mul]; rfl

/-- The queries' gradient's rows after the tile. -/
theorem dq_plain (T : TileIs A h kj qi q k v c g l dl) (hq : qi < 4) (hb : kj + 1 ≤ 2 * qi) (s : Vec Ideal S1024x128 .f32) (r : Fin 1024) (d : Fin 128) :
    k0_pay24 (F := Ideal) k (k0_pay5 (F := Ideal) q k g c l v dl) s (ix2 r d) = s (ix2 r d) + ((tDq A h kj qi r.val d.val : ℝ) : EReal) := by
  have e := grad_plain T hq hb
  pointwise [k0_pay24, k0_pay5]
  simp only [e, T.k]
  rw [coe_sum_mul]; rfl

/-- The row sums' rows after the tile. -/
theorem dr_plain (T : TileIs A h kj qi q k v c g l dl) (hq : qi < 4) (hb : kj + 1 ≤ 2 * qi) (s : Vec Ideal S1x1024x1 .f32) (r : Fin 1024) :
    k0_pay25 (F := Ideal) (k0_pay4 (F := Ideal) q k g c l v dl) s (ix3 0 r 0) = s (ix3 0 r 0) + ((tDr A h kj qi r.val : ℝ) : EReal) := by
  have e := grad_plain T hq hb
  pointwise [k0_pay25]
  simp only [e]
  rw [coe_sum]; rfl

/-- The column sums after the tile. -/
theorem dc_masked (T : TileIs A h kj qi q k v c g l dl) (hk : kj < 8) (hq : qi < 4) (s : Vec Ideal S1x512 .f32) (j : Fin 512) :
    k0_pay12 (F := Ideal) s (k0_pay11 (F := Ideal) (BitVec.ofNat 32 kj) (BitVec.ofNat 32 qi) q k g c l v dl) (ix2 0 j) = s (ix2 0 j) + ((tDc A h kj qi j.val : ℝ) : EReal) := by
  have e := grad_masked T hk hq
  pointwise [k0_pay12, k0_pay11]
  simp only [e]
  rw [coe_sum]; rfl

/-- The values' gradient after the tile. -/
theorem dv_masked (T : TileIs A h kj qi q k v c g l dl) (hk : kj < 8) (hq : qi < 4) (s : Vec Ideal S512x128 .f32) (j : Fin 512) (d : Fin 128) :
    k0_pay13 (F := Ideal) g (k0_pay8 (F := Ideal) (BitVec.ofNat 32 kj) (BitVec.ofNat 32 qi) q k c l) s (ix2 j d) = s (ix2 j d) + ((tDv A h kj qi j.val d.val : ℝ) : EReal) := by
  have e := weight_masked T hk hq
  pointwise [k0_pay13]
  simp only [e, T.g]
  rw [coe_sum_mul]; rfl

/-- The keys' gradient after the tile. -/
theorem dk_masked (T : TileIs A h kj qi q k v c g l dl) (hk : kj < 8) (hq : qi < 4) (s : Vec Ideal S512x128 .f32) (j : Fin 512) (d : Fin 128) :
    k0_pay14 (F := Ideal) q (k0_pay10 (F := Ideal) (BitVec.ofNat 32 kj) (BitVec.ofNat 32 qi) q k g c l v dl) s (ix2 j d) = s (ix2 j d) + ((tDk A h kj qi j.val d.val : ℝ) : EReal) := by
  have e := grad_masked T hk hq
  pointwise [k0_pay14, k0_pay10]
  simp only [e, T.q]
  rw [coe_sum_mul]; rfl

/-- The queries' gradient's rows after the tile. -/
theorem dq_masked (T : TileIs A h kj qi q k v c g l dl) (hk : kj < 8) (hq : qi < 4) (s : Vec Ideal S1024x128 .f32) (r : Fin 1024) (d : Fin 128) :
    k0_pay15 (F := Ideal) k (k0_pay10 (F := Ideal) (BitVec.ofNat 32 kj) (BitVec.ofNat 32 qi) q k g c l v dl) s (ix2 r d) = s (ix2 r d) + ((tDq A h kj qi r.val d.val : ℝ) : EReal) := by
  have e := grad_masked T hk hq
  pointwise [k0_pay15, k0_pay10]
  simp only [e, T.k]
  rw [coe_sum_mul]; rfl

/-- The row sums' rows after the tile. -/
theorem dr_masked (T : TileIs A h kj qi q k v c g l dl) (hk : kj < 8) (hq : qi < 4) (s : Vec Ideal S1x1024x1 .f32) (r : Fin 1024) :
    k0_pay1 (F := Ideal) (k0_pay16 (F := Ideal) (k0_pay9 (F := Ideal) (BitVec.ofNat 32 kj) (BitVec.ofNat 32 qi) q k g c l v dl) s) (ix3 0 r 0) = s (ix3 0 r 0) + ((tDr A h kj qi r.val : ℝ) : EReal) := by
  have e := grad_masked T hk hq
  pointwise [k0_pay1, k0_pay16]
  simp only [e]
  rw [coe_sum]; rfl

end Cert.Fox

end
-- ==== Proof.Blocks.lean ====
/-
  The blocks the kernel reads at a grid point, over the real numbers.
-/
module

public import proofs.«01_k».proof.Proof.Host
public import proofs.«01_k».proof.Proof.Tile
public import proofs.«01_k».proof.Proof.Gen.KernelIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.KernelIdeal Cert.KernelIdeal.Gen
open scoped BigOperators

namespace Cert.Fox

/-- The arguments on a device. -/
abbrev aq (m : (ℓ : Loc nD τ sig) → Buf (Elt Ideal) ℓ) (c : Dev nD) : FVec Ideal ⟨2, ![4096, 2048]⟩ .bf16 := m ((c : Thread nD τ).loc main_arg0)
abbrev ak (m : (ℓ : Loc nD τ sig) → Buf (Elt Ideal) ℓ) (c : Dev nD) : FVec Ideal ⟨2, ![4096, 2048]⟩ .bf16 := m ((c : Thread nD τ).loc main_arg1)
abbrev akv (m : (ℓ : Loc nD τ sig) → Buf (Elt Ideal) ℓ) (c : Dev nD) : FVec Ideal ⟨3, ![2, 4096, 2048]⟩ .bf16 := m ((c : Thread nD τ).loc main_arg2)
abbrev ac (m : (ℓ : Loc nD τ sig) → Buf (Elt Ideal) ℓ) (c : Dev nD) : FVec Ideal ⟨2, ![4096, 16]⟩ .f32 := m ((c : Thread nD τ).loc main_arg3)
abbrev ag (m : (ℓ : Loc nD τ sig) → Buf (Elt Ideal) ℓ) (c : Dev nD) : FVec Ideal ⟨2, ![4096, 2048]⟩ .bf16 := m ((c : Thread nD τ).loc main_arg4)

variable (m : (ℓ : Loc nD τ sig) → Buf (Elt Ideal) ℓ) (c : Dev nD)

/-- Operations after operations. -/
theorem after_app' (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => exact ih _

/-- Contents of the buffers of a device. -/
abbrev KVal := Valuation τ sig (Elt Ideal)

theorem V_eq (b : Ref sig .tc) : V m c b
    = StableHlo.after hostOps0_2 (StableHlo.after hostOps0_1 (StableHlo.after hostOps0 (fun b => m (c, b)))) (Proc.devRef .tc b) := by
  show StableHlo.after (List.flatten [hostOps0, hostOps0_1, hostOps0_2]) (fun b => m (c, b)) (Proc.devRef .tc b) = _
  have e : (List.flatten [hostOps0, hostOps0_1, hostOps0_2] : List (HloOp τ sig (Elt Ideal))) = hostOps0 ++ (hostOps0_1 ++ hostOps0_2) := by
    simp only [List.flatten_cons, List.flatten_nil, List.append_nil]
  rw [e, after_app', after_app']

/-- A buffer's contents at its type. -/
abbrev k_arg0 (W : KVal) : FVec Ideal S4096x2048 .bf16 := W (Proc.devRef .tc main_arg0)
/-- A buffer's contents at its type. -/
abbrev k_arg1 (W : KVal) : FVec Ideal S4096x2048 .bf16 := W (Proc.devRef .tc main_arg1)
/-- A buffer's contents at its type. -/
abbrev k_arg4 (W : KVal) : FVec Ideal S4096x2048 .bf16 := W (Proc.devRef .tc main_arg4)
/-- A buffer's contents at its type. -/
abbrev k_arg2 (W : KVal) : FVec Ideal S2x4096x2048 .bf16 := W (Proc.devRef .tc main_arg2)
/-- A buffer's contents at its type. -/
abbrev k_arg3 (W : KVal) : FVec Ideal S4096x16 .f32 := W (Proc.devRef .tc main_arg3)
/-- A buffer's contents at its type. -/
abbrev k_v1 (W : KVal) : FVec Ideal S16x1x4096 .f32 := W (Proc.devRef .tc main_v1)
/-- A buffer's contents at its type. -/
abbrev k_v10 (W : KVal) : FVec Ideal S16x4096x4096 .f32 := W (Proc.devRef .tc main_v10)
/-- A buffer's contents at its type. -/
abbrev k_v18 (W : KVal) : FVec Ideal S16x4096x4096 .f32 := W (Proc.devRef .tc main_v18)
/-- A buffer's contents at its type. -/
abbrev k_v27 (W : KVal) : FVec Ideal S16x4096x1 .f32 := W (Proc.devRef .tc main_v27)
/-- A buffer's contents at its type. -/
abbrev k_v41 (W : KVal) : FVec Ideal S16x4096x1 .f32 := W (Proc.devRef .tc main_v41)
/-- A buffer's contents at its type. -/
abbrev k_v17 (W : KVal) : IVec S4096x4096 1 := W (Proc.devRef .tc main_v17)
/-- A buffer's contents at its type. -/
abbrev k_cst (W : KVal) : FVec Ideal S_ .f32 := W (Proc.devRef .tc main_cst)

theorem hostOps0_v1 (W : KVal) : k_v1 (StableHlo.after hostOps0 W) = Saved.crow (k_arg3 W) := by
  simp only [hostOps0, StableHlo.TRef.nullary, StableHlo.TRef.ternary, StableHlo.TRef.unary, StableHlo.TRef.toBuf, StableHlo.TRef.ofBuf, cast_eq]
  after_results_simp <;> rfl

theorem hostOps0_v10 (W : KVal) : k_v10 (StableHlo.after hostOps0 W) = Saved.scores (Ref.hd (k_arg0 W)) (Ref.hd (k_arg1 W)) (Saved.crow (k_arg3 W)) := by
  simp only [hostOps0, StableHlo.TRef.nullary, StableHlo.TRef.ternary, StableHlo.TRef.unary, StableHlo.TRef.toBuf, StableHlo.TRef.ofBuf, cast_eq]
  after_results_simp <;> rfl

theorem hostOps0_v17 (W : KVal) : k_v17 (StableHlo.after hostOps0 W) = Ref.mask := by
  simp only [hostOps0, StableHlo.TRef.nullary, StableHlo.TRef.ternary, StableHlo.TRef.unary, StableHlo.TRef.toBuf, StableHlo.TRef.ofBuf, cast_eq]
  after_results_simp <;> rfl

theorem hostOps0_cst (W : KVal) : k_cst (StableHlo.after hostOps0 W) = constant S_ .f32 0xFF800000#32 := by
  simp only [hostOps0, StableHlo.TRef.nullary, StableHlo.TRef.ternary, StableHlo.TRef.unary, StableHlo.TRef.toBuf, StableHlo.TRef.ofBuf, cast_eq]
  after_results_simp <;> rfl

theorem hostOps0_arg2 (W : KVal) : k_arg2 (StableHlo.after hostOps0 W) = k_arg2 W := by
  simp only [hostOps0, StableHlo.TRef.nullary, StableHlo.TRef.ternary, StableHlo.TRef.unary, StableHlo.TRef.toBuf, StableHlo.TRef.ofBuf, cast_eq]
  after_results_simp <;> rfl

theorem hostOps0_arg4 (W : KVal) : k_arg4 (StableHlo.after hostOps0 W) = k_arg4 W := by
  simp only [hostOps0, StableHlo.TRef.nullary, StableHlo.TRef.ternary, StableHlo.TRef.unary, StableHlo.TRef.toBuf, StableHlo.TRef.ofBuf, cast_eq]
  after_results_simp <;> rfl

theorem hostOps0_1_v1 (W : KVal) : k_v1 (StableHlo.after hostOps0_1 W) = k_v1 W := by
  simp only [hostOps0_1, StableHlo.TRef.nullary, StableHlo.TRef.ternary, StableHlo.TRef.unary, StableHlo.TRef.toBuf, StableHlo.TRef.ofBuf, cast_eq]
  after_results_simp <;> rfl

theorem hostOps0_1_arg2 (W : KVal) : k_arg2 (StableHlo.after hostOps0_1 W) = k_arg2 W := by
  simp only [hostOps0_1, StableHlo.TRef.nullary, StableHlo.TRef.ternary, StableHlo.TRef.unary, StableHlo.TRef.toBuf, StableHlo.TRef.ofBuf, cast_eq]
  after_results_simp <;> rfl

theorem hostOps0_1_arg4 (W : KVal) : k_arg4 (StableHlo.after hostOps0_1 W) = k_arg4 W := by
  simp only [hostOps0_1, StableHlo.TRef.nullary, StableHlo.TRef.ternary, StableHlo.TRef.unary, StableHlo.TRef.toBuf, StableHlo.TRef.ofBuf, cast_eq]
  after_results_simp <;> rfl

theorem hostOps0_1_v18 (W : KVal) (h : k_v17 W = Ref.mask) (h' : k_cst W = constant S_ .f32 0xFF800000#32) : k_v18 (StableHlo.after hostOps0_1 W) = Ref.sm (k_v10 W) := by
  have e : k_v18 (StableHlo.after hostOps0_1 W) = select (broadcastInDim S16x4096x4096 ![1, 2] bcast_S4096x4096_S16x4096x4096_1_2 (k_v17 W)) (k_v10 W)
      (broadcastInDim S16x4096x4096 ![] bcast_S_S16x4096x4096 (k_cst W)) := by
    simp only [hostOps0_1, StableHlo.TRef.nullary, StableHlo.TRef.ternary, StableHlo.TRef.unary, StableHlo.TRef.toBuf, StableHlo.TRef.ofBuf, cast_eq]
    after_results_simp <;> rfl
  rw [e, h, h']
  rfl

theorem hostOps0_2_v27 (W : KVal) : k_v27 (StableHlo.after hostOps0_2 W) = Saved.lse (Ref.mx0 (k_v18 W)) (Ref.rsum (Saved.kex (k_v18 W) (Ref.mx0 (k_v18 W)))) := by
  simp only [hostOps0_2, StableHlo.TRef.nullary, StableHlo.TRef.ternary, StableHlo.TRef.unary, StableHlo.TRef.toBuf, StableHlo.TRef.ofBuf, cast_eq]
  after_results_simp <;> rfl

theorem hostOps0_2_v41 (W : KVal) : k_v41 (StableHlo.after hostOps0_2 W) = Saved.rdot (Ref.hd (k_arg4 W)) (Ref.overKeys (Ref.over (Saved.kex (k_v18 W) (Ref.mx0 (k_v18 W))) (Ref.col (Ref.rsum (Saved.kex (k_v18 W) (Ref.mx0 (k_v18 W)))))) (Ref.hd (Ref.vals (k_arg2 W)))) := by
  simp only [hostOps0_2, StableHlo.TRef.nullary, StableHlo.TRef.ternary, StableHlo.TRef.unary, StableHlo.TRef.toBuf, StableHlo.TRef.ofBuf, cast_eq]
  after_results_simp <;> rfl

theorem hostOps0_2_v1 (W : KVal) : k_v1 (StableHlo.after hostOps0_2 W) = k_v1 W := by
  simp only [hostOps0_2, StableHlo.TRef.nullary, StableHlo.TRef.ternary, StableHlo.TRef.unary, StableHlo.TRef.toBuf, StableHlo.TRef.ofBuf, cast_eq]
  after_results_simp <;> rfl

theorem V_crow : (V m c main_v1 : FVec Ideal S16x1x4096 .f32) = Saved.crow (ac m c) := by
  rw [V_eq]
  exact (hostOps0_2_v1 _).trans ((hostOps0_1_v1 _).trans (hostOps0_v1 _))

theorem V_scores : k_v18 (StableHlo.after hostOps0_1 (StableHlo.after hostOps0 (fun b => m (c, b)))) = Saved.S (aq m c) (ak m c) (ac m c) := by
  rw [hostOps0_1_v18 _ (hostOps0_v17 _) (hostOps0_cst _), hostOps0_v10]
  rfl

theorem V_lse : (V m c main_v27 : FVec Ideal S16x4096x1 .f32)
    = Saved.lse (Ref.mx0 (Saved.S (aq m c) (ak m c) (ac m c))) (Ref.rsum (Saved.E (aq m c) (ak m c) (ac m c))) := by
  rw [V_eq]
  refine (hostOps0_2_v27 _).trans ?_
  rw [V_scores]
  rfl

theorem V_delta : (V m c main_v41 : FVec Ideal S16x4096x1 .f32)
    = Saved.delta (aq m c) (ak m c) (akv m c) (ac m c) (ag m c) := by
  rw [V_eq]
  refine (hostOps0_2_v41 _).trans ?_
  rw [V_scores, hostOps0_1_arg4, hostOps0_1_arg2, hostOps0_arg4, hostOps0_arg2]
  rfl

end Cert.Fox

end
-- ==== Proof.TileAt.lean ====
/-
  The blocks the kernel reads at a grid point, element by element, over the real numbers.
-/
module

public import proofs.«01_k».proof.Proof.Blocks

@[expose] public section

set_option maxRecDepth 16384

noncomputable section

open Idealize.ShloMosaic Idealize.ShloMosaic.TcCoe Idealize.SL.Sem Idealize.ShloMosaic.StableHlo
open Cert.KernelIdeal Cert.KernelIdeal.Gen
open scoped BigOperators

namespace Cert.Fox

variable (m : (ℓ : Loc nD τ sig) → Buf (Elt Ideal) ℓ) (c : Dev nD)

theorem idx0 : ∀ t : Fin cfg0.N, win0_0.index t = ![max (t.val % 4) (t.val / 4 % 8 / 2), t.val / 32] := (by decide +kernel : ∀ t : Fin grid0.N, _)
theorem idx1 : ∀ t : Fin cfg0.N, win0_1.index t = ![t.val / 4 % 8, t.val / 32] := (by decide +kernel : ∀ t : Fin grid0.N, _)
theorem idx2 : ∀ t : Fin cfg0.N, win0_2.index t = ![1, t.val / 4 % 8, t.val / 32] := (by decide +kernel : ∀ t : Fin grid0.N, _)
theorem idx3 : ∀ t : Fin cfg0.N, win0_3.index t = ![t.val / 32, 0, t.val / 4 % 8] := (by decide +kernel : ∀ t : Fin grid0.N, _)
theorem idx4 : ∀ t : Fin cfg0.N, win0_4.index t = ![max (t.val % 4) (t.val / 4 % 8 / 2), t.val / 32] := (by decide +kernel : ∀ t : Fin grid0.N, _)
theorem idx5 : ∀ t : Fin cfg0.N, win0_5.index t = ![t.val / 32, max (t.val % 4) (t.val / 4 % 8 / 2), 0] := (by decide +kernel : ∀ t : Fin grid0.N, _)
theorem idx6 : ∀ t : Fin cfg0.N, win0_6.index t = ![t.val / 32, max (t.val % 4) (t.val / 4 % 8 / 2), 0] := (by decide +kernel : ∀ t : Fin grid0.N, _)

theorem N_512 (t : Fin cfg0.N) : t.val < 512 := t.isLt

/-- The query rows of a point's blocks. -/
abbrev qrow (t : Fin cfg0.N) (r : Fin 1024) : Fin 4096 :=
  ⟨1024 * max (t.val % 4) (t.val / 4 % 8 / 2) + r.val, by have := N_512 t; omega⟩
/-- The key rows of a point's blocks. -/
abbrev krow (t : Fin cfg0.N) (j : Fin 512) : Fin 4096 := ⟨512 * (t.val / 4 % 8) + j.val, by have := N_512 t; omega⟩
/-- The columns of a point's head. -/
abbrev hcol (t : Fin cfg0.N) (d : Fin 128) : Fin 2048 := ⟨128 * (t.val / 32) + d.val, by have := N_512 t; omega⟩
/-- A point's head. -/
abbrev hof (t : Fin cfg0.N) : Fin 16 := ⟨t.val / 32, by have := N_512 t; omega⟩

theorem blk0 (t : Fin cfg0.N) (r : Fin 1024) (d : Fin 128) : (iblk m c 0 t : FVec Ideal S1024x128 .bf16) (ix2 r d) = aq m c (ix2 (qrow t r) (hcol t d)) := by
  blk_ext [iblk, V, idx0 t]
theorem blk1 (t : Fin cfg0.N) (j : Fin 512) (d : Fin 128) : (iblk m c 1 t : FVec Ideal S512x128 .bf16) (ix2 j d) = ak m c (ix2 (krow t j) (hcol t d)) := by
  blk_ext [iblk, V, idx1 t]
theorem blk2 (t : Fin cfg0.N) (j : Fin 512) (d : Fin 128) : (iblk m c 2 t : FVec Ideal S1x512x128 .bf16) (ix3 0 j d) = akv m c (ix3 1 (krow t j) (hcol t d)) := by
  blk_ext [iblk, V, idx2 t]
theorem blk4 (t : Fin cfg0.N) (r : Fin 1024) (d : Fin 128) : (iblk m c 4 t : FVec Ideal S1024x128 .bf16) (ix2 r d) = ag m c (ix2 (qrow t r) (hcol t d)) := by
  blk_ext [iblk, V, idx4 t]
theorem rd3 (t : Fin cfg0.N) (X : FVec Ideal S16x1x4096 .f32) (j : Fin 512) :
    (((cfg0.win 3).blk t).view.read (Elt Ideal) X : FVec Ideal S1x1x512 .f32) (ix3 0 0 j) = X (ix3 (hof t) 0 (krow t j)) := by
  blk_ext [idx3 t]
theorem rd5 (t : Fin cfg0.N) (X : FVec Ideal S16x4096x1 .f32) (r : Fin 1024) :
    (((cfg0.win 5).blk t).view.read (Elt Ideal) X : FVec Ideal S1x1024x1 .f32) (ix3 0 r 0) = X (ix3 (hof t) (qrow t r) 0) := by
  blk_ext [idx5 t]
theorem rd6 (t : Fin cfg0.N) (X : FVec Ideal S16x4096x1 .f32) (r : Fin 1024) :
    (((cfg0.win 6).blk t).view.read (Elt Ideal) X : FVec Ideal S1x1024x1 .f32) (ix3 0 r 0) = X (ix3 (hof t) (qrow t r) 0) := by
  blk_ext [idx6 t]

/-- The blocks of a window, off its array as the region finds it. -/
theorem iblk_of (w : Fin cfg0.W) (t : Fin cfg0.N) (X : Buf (Elt Ideal) ((c : Thread nD τ).loc (Pipeline.arrRef spec0 w)))
    (h : V m c (Pipeline.arrRef spec0 w) = X) : iblk m c w t = ((cfg0.win w).blk t).view.read (Elt Ideal) X := by
  subst h
  rfl

theorem blk3 (t : Fin cfg0.N) (j : Fin 512) : (iblk m c 3 t : FVec Ideal S1x1x512 .f32) (ix3 0 0 j) = Saved.crow (ac m c) (ix3 (hof t) 0 (krow t j)) :=
  (congrFun (iblk_of m c 3 t _ (V_crow m c)) _).trans (rd3 t _ j)
theorem blk5 (t : Fin cfg0.N) (r : Fin 1024) : (iblk m c 5 t : FVec Ideal S1x1024x1 .f32) (ix3 0 r 0)
    = Saved.lse (Ref.mx0 (Saved.S (aq m c) (ak m c) (ac m c))) (Ref.rsum (Saved.E (aq m c) (ak m c) (ac m c))) (ix3 (hof t) (qrow t r) 0) :=
  (congrFun (iblk_of m c 5 t _ (V_lse m c)) _).trans (rd5 t _ r)
theorem blk6 (t : Fin cfg0.N) (r : Fin 1024) : (iblk m c 6 t : FVec Ideal S1x1024x1 .f32) (ix3 0 r 0)
    = Saved.delta (aq m c) (ak m c) (akv m c) (ac m c) (ag m c) (ix3 (hof t) (qrow t r) 0) :=
  (congrFun (iblk_of m c 6 t _ (V_delta m c)) _).trans (rd6 t _ r)

/-- The arguments on a device are the real arrays `A`. -/
abbrev Holds (A : Args) : Prop := ArgsAre A (aq m c) (ak m c) (akv m c) (ac m c) (ag m c)

/-- At a point whose query tile is not above its key tile, the blocks are the tiles of the real arrays. -/
theorem tile_is {A : Args} (H : Holds m c A) (t : Fin cfg0.N) (ha : t.val / 4 % 8 / 2 ≤ t.val % 4) :
    TileIs A (t.val / 32) (t.val / 4 % 8) (t.val % 4) (iblk m c 0 t) (iblk m c 1 t) (iblk m c 2 t) (iblk m c 3 t) (iblk m c 4 t) (iblk m c 5 t) (iblk m c 6 t) := by
  have hm : max (t.val % 4) (t.val / 4 % 8 / 2) = t.val % 4 := max_eq_left ha
  refine ⟨fun r d => ?_, fun j d => ?_, fun j d => ?_, fun j => ?_, fun r d => ?_, fun r => ?_, fun r => ?_⟩
  · rw [blk0, H.q]
    simp only [hm]
  · rw [blk1, H.k]
  · rw [blk2, H.v]
  · rw [blk3, Saved.crow_ix, H.c]
  · rw [blk4, H.g]
    simp only [hm]
  · rw [blk5, Saved.lse_real H]
    simp only [hm]
  · rw [blk6, Saved.delta_real H]
    simp only [hm]

end Cert.Fox

end
-- ==== Proof.Rows.lean ====
/-
  A store into some of the rows of a buffer of real numbers.
-/
module

public import proofs.«01_k».proof.Proof.TileAt
public import Idealize.ShloMosaic.Lib.WritesUnit

@[expose] public section

set_option maxRecDepth 16384

noncomputable section

open Idealize.ShloMosaic Idealize.ShloMosaic.TcCoe Idealize.SL.Sem Idealize.ShloMosaic.StableHlo
open Cert.KernelIdeal Cert.KernelIdeal.Gen
open scoped BigOperators

namespace Cert.Fox

section Canon

variable {Val : EltTy → Type} [∀ e, Nonempty (Val e)] {s : Shape} {e : EltTy}

/-- Inside the last store's rectangle. -/
theorem canon_unit_in {off off' size : Fin s.rank → ℕ} (inb : ∀ a, off a + size a ≤ s.size a)
    (w : (Rect.unit off size inb).shape.Idx → Val e) (L : List (View.Piece Val s e)) (y : s.Idx)
    (x : (Rect.unit off size inb).shape.Idx) (h : off = off') (hx : ∀ a, (y a).val = off' a + (x a).val) :
    View.canon ((⟨Rect.unit off size inb, w⟩ : View.Piece Val s e) :: L) y = w x := by
  subst h
  have hy : (Rect.unit off size inb).emb x = y := funext fun a => Fin.ext (by
    have := hx a
    show off a + 1 * (x a).val = (y a).val
    omega)
  rw [← hy]
  exact View.canon_cons_emb _ w L x

/-- Outside it. -/
theorem canon_unit_out {off off' size : Fin s.rank → ℕ} (inb : ∀ a, off a + size a ≤ s.size a)
    (w : (Rect.unit off size inb).shape.Idx → Val e) (L : List (View.Piece Val s e)) (y : s.Idx) (h : off = off')
    (a : Fin s.rank) (ha : (y a).val < off' a ∨ off' a + size a ≤ (y a).val) :
    View.canon ((⟨Rect.unit off size inb, w⟩ : View.Piece Val s e) :: L) y = View.canon L y := by
  subst h
  refine View.canon_cons_of_not_mem _ L fun hy => ?_
  have h' : y ∈ (Rect.unit off size inb).set := hy
  rw [Rect.mem_set_unit] at h'
  have := h' a
  omega

end Canon

/-- The query tile's new rows: the tile's part joins the rows of query tile `b`. -/
def addq (b : ℕ) (f : ℕ → ℕ → ℝ) (Q : ℕ → ℕ → ℝ) (i d : ℕ) : ℝ := Q i d + if i / 1024 = b then f (i % 1024) d else 0
/-- The same for the row sums. -/
def addr (b : ℕ) (f : ℕ → ℝ) (R : ℕ → ℝ) (i : ℕ) : ℝ := R i + if i / 1024 = b then f (i % 1024) else 0

section Rows

variable {κ : Kind} {sp : Space} (b : ℕ) (hb : b < 4)

/-- Rows of a rank-two buffer: the store adds `f` to the rows of tile `b`. -/
theorem rows2 (V : View sig κ sp S4096x128 .f32) (f0 : V.ty.Contents (Elt Ideal)) (X : Vec Ideal S4096x128 .f32) (off : Fin 2 → ℕ)
    (inb : ∀ a, off a + S1024x128.size a ≤ S4096x128.size a) (pay : Vec Ideal S1024x128 .f32 → Vec Ideal S1024x128 .f32)
    (f : ℕ → ℕ → ℝ) (Q : ℕ → ℕ → ℝ) (hoff : off = ![1024 * b, 0]) (hf : V.read (Elt Ideal) f0 = X)
    (hX : ∀ (i : Fin 4096) (d : Fin 128), X (ix2 i d) = ((Q i.val d.val : ℝ) : EReal))
    (hp : ∀ (s : Vec Ideal S1024x128 .f32) (r : Fin 1024) (d : Fin 128), pay s (ix2 r d) = s (ix2 r d) + ((f r.val d.val : ℝ) : EReal))
    (i : Fin 4096) (d : Fin 128) :
    V.read (Elt Ideal) (V.writes (Elt Ideal) f0 [(⟨Rect.unit (s := S4096x128) off S1024x128.size inb,
        pay (View.ld X (Rect.unit (s := S4096x128) off S1024x128.size inb))⟩ : View.Piece (Elt Ideal) S4096x128 .f32)]) (ix2 i d)
      = ((addq b f Q i.val d.val : ℝ) : EReal) := by
  have hi := i.isLt
  unfold addq
  by_cases h : i.val / 1024 = b
  · rw [if_pos h]
    have hr : i.val % 1024 < 1024 := Nat.mod_lt _ (by norm_num)
    refine (View.read_writes_cons_rows_of_mem V f0 (o := 1024 * b) inb _ [] (ix2 i d) (ix2 (⟨i.val % 1024, hr⟩ : Fin 1024) d) hoff ?_ rfl).trans ?_
    · show i.val = 1024 * b + i.val % 1024
      omega
    · refine (hp _ ⟨i.val % 1024, hr⟩ d).trans ?_
      rw [EReal.coe_add]
      refine congrArg (· + _) (Eq.trans ?_ (hX i d))
      refine View.ld_unit_apply_of X off S1024x128.size inb _ (ix2 i d) ?_
      subst hoff
      refine Fin.forall_fin_two.mpr ⟨?_, ?_⟩
      · show i.val = 1024 * b + i.val % 1024
        omega
      · show d.val = 0 + d.val
        omega
  · rw [if_neg h, add_zero]
    refine (View.read_writes_cons_rows_of_not_mem V f0 (o := 1024 * b) (W := 1024) inb _ [] (ix2 i d) hoff rfl ?_).trans ?_
    · show i.val < 1024 * b ∨ 1024 * b + 1024 ≤ i.val
      omega
    · rw [View.writes_nil, hf]
      exact hX i d

/-- The same, the buffer cleared first. -/
theorem rows2z (Z : Vec Ideal S4096x128 .f32) (off off0 : Fin 2 → ℕ)
    (inb : ∀ a, off a + S1024x128.size a ≤ S4096x128.size a) (inb0 : ∀ a, off0 a + S4096x128.size a ≤ S4096x128.size a)
    (pay : Vec Ideal S1024x128 .f32 → Vec Ideal S1024x128 .f32)
    (f : ℕ → ℕ → ℝ) (hoff : off = ![1024 * b, 0]) (hoff0 : off0 = fun _ => 0)
    (hZ : ∀ (i : Fin 4096) (d : Fin 128), Z (ix2 i d) = ((0 : ℝ) : EReal))
    (hp : ∀ (s : Vec Ideal S1024x128 .f32) (r : Fin 1024) (d : Fin 128), pay s (ix2 r d) = s (ix2 r d) + ((f r.val d.val : ℝ) : EReal))
    (i : Fin 4096) (d : Fin 128) :
    View.canon [(⟨Rect.unit (s := S4096x128) off S1024x128.size inb,
        pay (View.ld Z (Rect.unit (s := S4096x128) off S1024x128.size inb))⟩ : View.Piece (Elt Ideal) S4096x128 .f32),
        (⟨Rect.unit (s := S4096x128) off0 S4096x128.size inb0, Z⟩ : View.Piece (Elt Ideal) S4096x128 .f32)] (ix2 i d)
      = ((addq b f (fun _ _ => 0) i.val d.val : ℝ) : EReal) := by
  have hi := i.isLt
  unfold addq
  by_cases h : i.val / 1024 = b
  · rw [if_pos h]
    have hr : i.val % 1024 < 1024 := Nat.mod_lt _ (by norm_num)
    refine (canon_unit_in inb _ _ (ix2 i d) (ix2 (⟨i.val % 1024, hr⟩ : Fin 1024) d) hoff ?_).trans ?_
    · refine Fin.forall_fin_two.mpr ⟨?_, ?_⟩
      · show i.val = 1024 * b + i.val % 1024
        omega
      · show d.val = 0 + d.val
        omega
    · refine (hp _ ⟨i.val % 1024, hr⟩ d).trans ?_
      rw [EReal.coe_add]
      refine congrArg (· + _) (Eq.trans ?_ (hZ i d))
      refine View.ld_unit_apply_of Z off S1024x128.size inb _ (ix2 i d) ?_
      subst hoff
      refine Fin.forall_fin_two.mpr ⟨?_, ?_⟩
      · show i.val = 1024 * b + i.val % 1024
        omega
      · show d.val = 0 + d.val
        omega
  · rw [if_neg h, add_zero]
    refine (canon_unit_out inb _ _ (ix2 i d) hoff (0 : Fin 2) ?_).trans ?_
    · show i.val < 1024 * b ∨ 1024 * b + 1024 ≤ i.val
      omega
    · exact (congrFun (View.canon_cons_unit_zero hoff0 inb0 Z []) (ix2 i d)).trans (hZ i d)

/-- Rows of a rank-three buffer: the store adds `f` to the rows of tile `b`. -/
theorem rows3 (V : View sig κ sp S1x4096x1 .f32) (f0 : V.ty.Contents (Elt Ideal)) (X : Vec Ideal S1x4096x1 .f32) (off : Fin 3 → ℕ)
    (inb : ∀ a, off a + S1x1024x1.size a ≤ S1x4096x1.size a) (pay : Vec Ideal S1x1024x1 .f32 → Vec Ideal S1x1024x1 .f32)
    (f : ℕ → ℝ) (Q : ℕ → ℝ) (hoff : off = ![0, 1024 * b, 0]) (hf : V.read (Elt Ideal) f0 = X)
    (hX : ∀ (i : Fin 4096), X (ix3 0 i 0) = ((Q i.val : ℝ) : EReal))
    (hp : ∀ (s : Vec Ideal S1x1024x1 .f32) (r : Fin 1024), pay s (ix3 0 r 0) = s (ix3 0 r 0) + ((f r.val : ℝ) : EReal))
    (i : Fin 4096) :
    V.read (Elt Ideal) (V.writes (Elt Ideal) f0 [(⟨Rect.unit (s := S1x4096x1) off S1x1024x1.size inb,
        pay (View.ld X (Rect.unit (s := S1x4096x1) off S1x1024x1.size inb))⟩ : View.Piece (Elt Ideal) S1x4096x1 .f32)]) (ix3 0 i 0)
      = ((addr b f Q i.val : ℝ) : EReal) := by
  have hi := i.isLt
  unfold addr
  by_cases h : i.val / 1024 = b
  · rw [if_pos h]
    have hr : i.val % 1024 < 1024 := Nat.mod_lt _ (by norm_num)
    refine (View.read_writes_cons_unit_of_mem V f0 inb _ [] (ix3 0 i 0) (ix3 0 (⟨i.val % 1024, hr⟩ : Fin 1024) 0) hoff ?_).trans ?_
    · intro a
      fin_cases a
      · show (0 : ℕ) = 0 + 0
        rfl
      · show i.val = 1024 * b + i.val % 1024
        omega
      · show (0 : ℕ) = 0 + 0
        rfl
    · refine (hp _ ⟨i.val % 1024, hr⟩).trans ?_
      rw [EReal.coe_add]
      refine congrArg (· + _) (Eq.trans ?_ (hX i))
      refine View.ld_unit_apply_of X off S1x1024x1.size inb _ (ix3 0 i 0) ?_
      subst hoff
      intro a
      fin_cases a
      · show (0 : ℕ) = 0 + 0
        rfl
      · show i.val = 1024 * b + i.val % 1024
        omega
      · show (0 : ℕ) = 0 + 0
        rfl
  · rw [if_neg h, add_zero]
    refine (View.read_writes_cons_unit_of_not_mem V f0 inb _ [] (ix3 0 i 0) hoff (1 : Fin 3) ?_).trans ?_
    · show i.val < 1024 * b ∨ 1024 * b + 1024 ≤ i.val
      omega
    · rw [View.writes_nil, hf]
      exact hX i

/-- The same, the buffer cleared first. -/
theorem rows3z (Z : Vec Ideal S1x4096x1 .f32) (off off0 : Fin 3 → ℕ)
    (inb : ∀ a, off a + S1x1024x1.size a ≤ S1x4096x1.size a) (inb0 : ∀ a, off0 a + S1x4096x1.size a ≤ S1x4096x1.size a)
    (pay : Vec Ideal S1x1024x1 .f32 → Vec Ideal S1x1024x1 .f32)
    (f : ℕ → ℝ) (hoff : off = ![0, 1024 * b, 0]) (hoff0 : off0 = fun _ => 0)
    (hZ : ∀ (i : Fin 4096), Z (ix3 0 i 0) = ((0 : ℝ) : EReal))
    (hp : ∀ (s : Vec Ideal S1x1024x1 .f32) (r : Fin 1024), pay s (ix3 0 r 0) = s (ix3 0 r 0) + ((f r.val : ℝ) : EReal))
    (i : Fin 4096) :
    View.canon [(⟨Rect.unit (s := S1x4096x1) off S1x1024x1.size inb,
        pay (View.ld Z (Rect.unit (s := S1x4096x1) off S1x1024x1.size inb))⟩ : View.Piece (Elt Ideal) S1x4096x1 .f32),
        (⟨Rect.unit (s := S1x4096x1) off0 S1x4096x1.size inb0, Z⟩ : View.Piece (Elt Ideal) S1x4096x1 .f32)] (ix3 0 i 0)
      = ((addr b f (fun _ => 0) i.val : ℝ) : EReal) := by
  have hi := i.isLt
  unfold addr
  by_cases h : i.val / 1024 = b
  · rw [if_pos h]
    have hr : i.val % 1024 < 1024 := Nat.mod_lt _ (by norm_num)
    refine (canon_unit_in inb _ _ (ix3 0 i 0) (ix3 0 (⟨i.val % 1024, hr⟩ : Fin 1024) 0) hoff ?_).trans ?_
    · intro a
      fin_cases a
      · show (0 : ℕ) = 0 + 0
        rfl
      · show i.val = 1024 * b + i.val % 1024
        omega
      · show (0 : ℕ) = 0 + 0
        rfl
    · refine (hp _ ⟨i.val % 1024, hr⟩).trans ?_
      rw [EReal.coe_add]
      refine congrArg (· + _) (Eq.trans ?_ (hZ i))
      refine View.ld_unit_apply_of Z off S1x1024x1.size inb _ (ix3 0 i 0) ?_
      subst hoff
      intro a
      fin_cases a
      · show (0 : ℕ) = 0 + 0
        rfl
      · show i.val = 1024 * b + i.val % 1024
        omega
      · show (0 : ℕ) = 0 + 0
        rfl
  · rw [if_neg h, add_zero]
    refine (canon_unit_out inb _ _ (ix3 0 i 0) hoff (1 : Fin 3) ?_).trans ?_
    · show i.val < 1024 * b ∨ 1024 * b + 1024 ≤ i.val
      omega
    · exact (congrFun (View.canon_cons_unit_zero hoff0 inb0 Z []) (ix3 0 i 0)).trans (hZ i)

end Rows

end Cert.Fox

end
-- ==== Proof.Step.lean ====
/-
  What one grid point does to the buffers, over the real numbers.
-/
module

public import proofs.«01_k».proof.Proof.Rows

@[expose] public section

set_option maxRecDepth 16384

noncomputable section

open Idealize.ShloMosaic Idealize.ShloMosaic.TcCoe Idealize.SL.Sem Idealize.ShloMosaic.StableHlo
open Cert.KernelIdeal Cert.KernelIdeal.Gen
open scoped BigOperators

namespace Cert.Fox

theorem coords1 : ∀ t : Fin cfg0.N, (grid0.coords t 1).val = t.val / 4 % 8 := (by decide +kernel : ∀ t : Fin grid0.N, _)
theorem coords2 : ∀ t : Fin cfg0.N, (grid0.coords t 2).val = t.val % 4 := (by decide +kernel : ∀ t : Fin grid0.N, _)
theorem off1_eq : ∀ t : Fin cfg0.N, k0_off1 (grid0.coords t) = ![1024 * (t.val % 4), 0] := (by decide +kernel : ∀ t : Fin grid0.N, _)
theorem off2_eq : ∀ t : Fin cfg0.N, k0_off2 (grid0.coords t) = ![0, 1024 * (t.val % 4), 0] := (by decide +kernel : ∀ t : Fin grid0.N, _)
theorem off3_eq : ∀ t : Fin cfg0.N, k0_off3 (grid0.coords t) = ![1024 * (t.val % 4), 0] := (by decide +kernel : ∀ t : Fin grid0.N, _)
theorem off4_eq : ∀ t : Fin cfg0.N, k0_off4 (grid0.coords t) = ![0, 1024 * (t.val % 4), 0] := (by decide +kernel : ∀ t : Fin grid0.N, _)

theorem zero17 (i : Fin 4096) (d : Fin 128) : k0_pay17 (F := Ideal) (ix2 i d) = ((0 : ℝ) : EReal) := by
  pointwise [k0_pay17]
  exact EReal.coe_zero.symm
theorem zero18 (i : Fin 4096) : k0_pay18 (F := Ideal) (ix3 0 i 0) = ((0 : ℝ) : EReal) := by
  pointwise [k0_pay18]
  exact EReal.coe_zero.symm
theorem zero19 (j : Fin 512) (d : Fin 128) : k0_pay19 (F := Ideal) (ix2 j d) = ((0 : ℝ) : EReal) := by
  pointwise [k0_pay19]
  exact EReal.coe_zero.symm
theorem zero20 (j : Fin 512) (d : Fin 128) : k0_pay20 (F := Ideal) (ix2 j d) = ((0 : ℝ) : EReal) := by
  pointwise [k0_pay20]
  exact EReal.coe_zero.symm
theorem zero21 (j : Fin 512) : k0_pay21 (F := Ideal) (ix2 0 j) = ((0 : ℝ) : EReal) := by
  pointwise [k0_pay21]
  exact EReal.coe_zero.symm
theorem row2 (s : Vec Ideal S1x512 .f32) (j : Fin 512) : k0_pay2 (F := Ideal) s (ix3 0 0 j) = s (ix2 0 j) := by
  pointwise [k0_pay2]

variable (m : (ℓ : Loc nD τ sig) → Buf (Elt Ideal) ℓ) (c : Dev nD) {A : Args}

/-- What the buffers that carry over hold: the two sums over the keys, and the key tile's three sums over the queries. -/
structure Real (σ : Vec Ideal S4096x128 .f32 × Vec Ideal S1x4096x1 .f32 × Vec Ideal S512x128 .f32 × Vec Ideal S512x128 .f32 × Vec Ideal S1x1x512 .f32 × Vec Ideal S512x128 .f32 × Vec Ideal S512x128 .f32 × Vec Ideal S1x512 .f32)
    (Q : ℕ → ℕ → ℝ) (R : ℕ → ℝ) (K V : ℕ → ℕ → ℝ) (C : ℕ → ℝ) : Prop where
  q : ∀ (i : Fin 4096) (d : Fin 128), σ.1 (ix2 i d) = ((Q i.val d.val : ℝ) : EReal)
  r : ∀ (i : Fin 4096), σ.2.1 (ix3 0 i 0) = ((R i.val : ℝ) : EReal)
  k : ∀ (j : Fin 512) (d : Fin 128), σ.2.2.2.2.2.1 (ix2 j d) = ((K j.val d.val : ℝ) : EReal)
  v : ∀ (j : Fin 512) (d : Fin 128), σ.2.2.2.2.2.2.1 (ix2 j d) = ((V j.val d.val : ℝ) : EReal)
  c : ∀ (j : Fin 512), σ.2.2.2.2.2.2.2 (ix2 0 j) = ((C j.val : ℝ) : EReal)

variable {Q : ℕ → ℕ → ℝ} {R : ℕ → ℝ} {K V : ℕ → ℕ → ℝ} {C : ℕ → ℝ}

/-- The contents a point finds: what the point before it left. -/
abbrev Before (t : Fin cfg0.N) (Q : ℕ → ℕ → ℝ) (R : ℕ → ℝ) (K V : ℕ → ℕ → ℝ) (C : ℕ → ℝ) : Prop :=
  Real (outsAt0 m c (t.val - 1) (Nat.lt_of_le_of_lt (Nat.sub_le _ _) t.isLt)) Q R K V C

/-- The tile's blocks. -/
abbrev TileAt (A : Args) (t : Fin cfg0.N) : Prop :=
  TileIs A (t.val / 32) (t.val / 4 % 8) (t.val % 4) (iblk m c 0 t) (iblk m c 1 t) (iblk m c 2 t) (iblk m c 3 t) (iblk m c 4 t) (iblk m c 5 t) (iblk m c 6 t)

theorem A_dk (t : Fin cfg0.N) (h0 : t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (j : Fin 512) (d : Fin 128) :
    (outsAt0 m c t.val t.isLt).2.2.2.2.2.1 (ix2 j d) = ((0 + tDk A (t.val / 32) (t.val / 4 % 8) (t.val % 4) j.val d.val : ℝ) : EReal) := by
  rw [outsAt0_A m c t h0 h1 h2 h3 h4]
  frame_out
  rw [coords1 t, coords2 t]
  refine (dk_masked T (by omega) (by omega) _ j d).trans ?_
  rw [EReal.coe_add]
  exact congrArg (· + _) (zero19 j d)

theorem A_dv (t : Fin cfg0.N) (h0 : t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (j : Fin 512) (d : Fin 128) :
    (outsAt0 m c t.val t.isLt).2.2.2.2.2.2.1 (ix2 j d) = ((0 + tDv A (t.val / 32) (t.val / 4 % 8) (t.val % 4) j.val d.val : ℝ) : EReal) := by
  rw [outsAt0_A m c t h0 h1 h2 h3 h4]
  frame_out
  rw [coords1 t, coords2 t]
  refine (dv_masked T (by omega) (by omega) _ j d).trans ?_
  rw [EReal.coe_add]
  exact congrArg (· + _) (zero20 j d)

theorem A_dc (t : Fin cfg0.N) (h0 : t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (j : Fin 512) :
    (outsAt0 m c t.val t.isLt).2.2.2.2.2.2.2 (ix2 0 j) = ((0 + tDc A (t.val / 32) (t.val / 4 % 8) (t.val % 4) j.val : ℝ) : EReal) := by
  rw [outsAt0_A m c t h0 h1 h2 h3 h4]
  frame_out
  rw [coords1 t, coords2 t]
  refine (dc_masked T (by omega) (by omega) _ j).trans ?_
  rw [EReal.coe_add]
  exact congrArg (· + _) (zero21 j)

theorem A_dq (t : Fin cfg0.N) (h0 : t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (i : Fin 4096) (d : Fin 128) :
    (outsAt0 m c t.val t.isLt).1 (ix2 i d) = ((addq (t.val % 4) (tDq A (t.val / 32) (t.val / 4 % 8) (t.val % 4)) (fun _ _ => 0) i.val d.val : ℝ) : EReal) := by
  rw [outsAt0_A m c t h0 h1 h2 h3 h4]
  frame_out
  rw [coords1 t, coords2 t]
  exact rows2z (t.val % 4) _ _ _ _ _ (fun s => k0_pay15 (F := Ideal) (iblk m c 1 t) (k0_pay10 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s) _ (off3_eq t) (by funext a; fin_cases a <;> rfl) zero17 (fun s r d => dq_masked T (by omega) (by omega) s r d) i d

theorem A_dr (t : Fin cfg0.N) (h0 : t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (i : Fin 4096) :
    (outsAt0 m c t.val t.isLt).2.1 (ix3 0 i 0) = ((addr (t.val % 4) (tDr A (t.val / 32) (t.val / 4 % 8) (t.val % 4)) (fun _ => 0) i.val : ℝ) : EReal) := by
  rw [outsAt0_A m c t h0 h1 h2 h3 h4]
  frame_out
  rw [coords1 t, coords2 t]
  exact rows3z (t.val % 4) _ _ _ _ _ (fun s => k0_pay1 (F := Ideal) (k0_pay16 (F := Ideal) (k0_pay9 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s)) _ (off4_eq t) (by funext a; fin_cases a <;> rfl) zero18 (fun s r => dr_masked T (by omega) (by omega) s r) i

theorem B_dk (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : ¬t.val % 4 = 3) (T : TileAt m c A t) (Hb : Before m c t Q R K V C) (j : Fin 512) (d : Fin 128) :
    (outsAt0 m c t.val t.isLt).2.2.2.2.2.1 (ix2 j d) = ((K j.val d.val + tDk A (t.val / 32) (t.val / 4 % 8) (t.val % 4) j.val d.val : ℝ) : EReal) := by
  rw [outsAt0_B m c t h0 h1 h2 h3 h4]
  frame_out
  refine (dk_plain T (by omega) (by omega) _ j d).trans ?_
  rw [EReal.coe_add]
  exact congrArg (· + _) ((congrFun (Memref.IsWhole.read_unread _ _) _).trans (Hb.k j d))

theorem B_dv (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : ¬t.val % 4 = 3) (T : TileAt m c A t) (Hb : Before m c t Q R K V C) (j : Fin 512) (d : Fin 128) :
    (outsAt0 m c t.val t.isLt).2.2.2.2.2.2.1 (ix2 j d) = ((V j.val d.val + tDv A (t.val / 32) (t.val / 4 % 8) (t.val % 4) j.val d.val : ℝ) : EReal) := by
  rw [outsAt0_B m c t h0 h1 h2 h3 h4]
  frame_out
  refine (dv_plain T (by omega) (by omega) _ j d).trans ?_
  rw [EReal.coe_add]
  exact congrArg (· + _) ((congrFun (Memref.IsWhole.read_unread _ _) _).trans (Hb.v j d))

theorem B_dc (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : ¬t.val % 4 = 3) (T : TileAt m c A t) (Hb : Before m c t Q R K V C) (j : Fin 512) :
    (outsAt0 m c t.val t.isLt).2.2.2.2.2.2.2 (ix2 0 j) = ((C j.val + tDc A (t.val / 32) (t.val / 4 % 8) (t.val % 4) j.val : ℝ) : EReal) := by
  rw [outsAt0_B m c t h0 h1 h2 h3 h4]
  frame_out
  refine (dc_plain T (by omega) (by omega) _ j).trans ?_
  rw [EReal.coe_add]
  exact congrArg (· + _) ((congrFun (Memref.IsWhole.read_unread _ _) _).trans (Hb.c j))

theorem B_dq (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : ¬t.val % 4 = 3) (T : TileAt m c A t) (Hb : Before m c t Q R K V C) (i : Fin 4096) (d : Fin 128) :
    (outsAt0 m c t.val t.isLt).1 (ix2 i d) = ((addq (t.val % 4) (tDq A (t.val / 32) (t.val / 4 % 8) (t.val % 4)) Q i.val d.val : ℝ) : EReal) := by
  rw [outsAt0_B m c t h0 h1 h2 h3 h4]
  frame_out
  exact rows2 (t.val % 4) _ _ _ _ _ (fun s => k0_pay24 (F := Ideal) (iblk m c 1 t) (k0_pay5 (F := Ideal) (iblk m c 0 t) (iblk m c 1 t) (iblk m c 4 t) (iblk m c 3 t) (iblk m c 5 t) (iblk m c 2 t) (iblk m c 6 t)) s) _ _ (off1_eq t) (Memref.IsWhole.read_unread _ _) Hb.q (fun s r d => dq_plain T (by omega) (by omega) s r d) i d

theorem B_dr (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : ¬t.val % 4 = 3) (T : TileAt m c A t) (Hb : Before m c t Q R K V C) (i : Fin 4096) :
    (outsAt0 m c t.val t.isLt).2.1 (ix3 0 i 0) = ((addr (t.val % 4) (tDr A (t.val / 32) (t.val / 4 % 8) (t.val % 4)) R i.val : ℝ) : EReal) := by
  rw [outsAt0_B m c t h0 h1 h2 h3 h4]
  frame_out
  exact rows3 (t.val % 4) _ _ _ _ _ (fun s => k0_pay25 (F := Ideal) (k0_pay4 (F := Ideal) (iblk m c 0 t) (iblk m c 1 t) (iblk m c 4 t) (iblk m c 3 t) (iblk m c 5 t) (iblk m c 2 t) (iblk m c 6 t)) s) _ _ (off2_eq t) (Memref.IsWhole.read_unread _ _) Hb.r (fun s r => dr_plain T (by omega) (by omega) s r) i

theorem C_dk (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) (T : TileAt m c A t) (Hb : Before m c t Q R K V C) (j : Fin 512) (d : Fin 128) :
    (outsAt0 m c t.val t.isLt).2.2.2.2.2.1 (ix2 j d) = ((K j.val d.val + tDk A (t.val / 32) (t.val / 4 % 8) (t.val % 4) j.val d.val : ℝ) : EReal) := by
  rw [outsAt0_C m c t h0 h1 h2 h3 h4]
  frame_out
  refine (dk_plain T (by omega) (by omega) _ j d).trans ?_
  rw [EReal.coe_add]
  exact congrArg (· + _) ((congrFun (Memref.IsWhole.read_unread _ _) _).trans (Hb.k j d))

theorem C_dv (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) (T : TileAt m c A t) (Hb : Before m c t Q R K V C) (j : Fin 512) (d : Fin 128) :
    (outsAt0 m c t.val t.isLt).2.2.2.2.2.2.1 (ix2 j d) = ((V j.val d.val + tDv A (t.val / 32) (t.val / 4 % 8) (t.val % 4) j.val d.val : ℝ) : EReal) := by
  rw [outsAt0_C m c t h0 h1 h2 h3 h4]
  frame_out
  refine (dv_plain T (by omega) (by omega) _ j d).trans ?_
  rw [EReal.coe_add]
  exact congrArg (· + _) ((congrFun (Memref.IsWhole.read_unread _ _) _).trans (Hb.v j d))

theorem C_dc (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) (T : TileAt m c A t) (Hb : Before m c t Q R K V C) (j : Fin 512) :
    (outsAt0 m c t.val t.isLt).2.2.2.2.2.2.2 (ix2 0 j) = ((C j.val + tDc A (t.val / 32) (t.val / 4 % 8) (t.val % 4) j.val : ℝ) : EReal) := by
  rw [outsAt0_C m c t h0 h1 h2 h3 h4]
  frame_out
  refine (dc_plain T (by omega) (by omega) _ j).trans ?_
  rw [EReal.coe_add]
  exact congrArg (· + _) ((congrFun (Memref.IsWhole.read_unread _ _) _).trans (Hb.c j))

theorem C_dq (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) (T : TileAt m c A t) (Hb : Before m c t Q R K V C) (i : Fin 4096) (d : Fin 128) :
    (outsAt0 m c t.val t.isLt).1 (ix2 i d) = ((addq (t.val % 4) (tDq A (t.val / 32) (t.val / 4 % 8) (t.val % 4)) Q i.val d.val : ℝ) : EReal) := by
  rw [outsAt0_C m c t h0 h1 h2 h3 h4]
  frame_out
  exact rows2 (t.val % 4) _ _ _ _ _ (fun s => k0_pay24 (F := Ideal) (iblk m c 1 t) (k0_pay5 (F := Ideal) (iblk m c 0 t) (iblk m c 1 t) (iblk m c 4 t) (iblk m c 3 t) (iblk m c 5 t) (iblk m c 2 t) (iblk m c 6 t)) s) _ _ (off1_eq t) (Memref.IsWhole.read_unread _ _) Hb.q (fun s r d => dq_plain T (by omega) (by omega) s r d) i d

theorem C_dr (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) (T : TileAt m c A t) (Hb : Before m c t Q R K V C) (i : Fin 4096) :
    (outsAt0 m c t.val t.isLt).2.1 (ix3 0 i 0) = ((addr (t.val % 4) (tDr A (t.val / 32) (t.val / 4 % 8) (t.val % 4)) R i.val : ℝ) : EReal) := by
  rw [outsAt0_C m c t h0 h1 h2 h3 h4]
  frame_out
  exact rows3 (t.val % 4) _ _ _ _ _ (fun s => k0_pay25 (F := Ideal) (k0_pay4 (F := Ideal) (iblk m c 0 t) (iblk m c 1 t) (iblk m c 4 t) (iblk m c 3 t) (iblk m c 5 t) (iblk m c 2 t) (iblk m c 6 t)) s) _ _ (off2_eq t) (Memref.IsWhole.read_unread _ _) Hb.r (fun s r => dr_plain T (by omega) (by omega) s r) i

theorem C_odk (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) : (outsAt0 m c t.val t.isLt).2.2.1 = (outsAt0 m c t.val t.isLt).2.2.2.2.2.1 := by
  rw [outsAt0_C m c t h0 h1 h2 h3 h4]
  frame_out

theorem C_odv (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) : (outsAt0 m c t.val t.isLt).2.2.2.1 = (outsAt0 m c t.val t.isLt).2.2.2.2.2.2.1 := by
  rw [outsAt0_C m c t h0 h1 h2 h3 h4]
  frame_out

theorem C_odc (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) (j : Fin 512) : (outsAt0 m c t.val t.isLt).2.2.2.2.1 (ix3 0 0 j) = (outsAt0 m c t.val t.isLt).2.2.2.2.2.2.2 (ix2 0 j) := by
  rw [outsAt0_C m c t h0 h1 h2 h3 h4]
  frame_out
  exact row2 _ j

theorem D_dk (t : Fin cfg0.N) (h0 : ¬t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (j : Fin 512) (d : Fin 128) :
    (outsAt0 m c t.val t.isLt).2.2.2.2.2.1 (ix2 j d) = ((0 + tDk A (t.val / 32) (t.val / 4 % 8) (t.val % 4) j.val d.val : ℝ) : EReal) := by
  rw [outsAt0_D m c t h0 h1 h2 h3 h4]
  frame_out
  rw [coords1 t, coords2 t]
  refine (dk_masked T (by omega) (by omega) _ j d).trans ?_
  rw [EReal.coe_add]
  exact congrArg (· + _) (zero19 j d)

theorem D_dv (t : Fin cfg0.N) (h0 : ¬t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (j : Fin 512) (d : Fin 128) :
    (outsAt0 m c t.val t.isLt).2.2.2.2.2.2.1 (ix2 j d) = ((0 + tDv A (t.val / 32) (t.val / 4 % 8) (t.val % 4) j.val d.val : ℝ) : EReal) := by
  rw [outsAt0_D m c t h0 h1 h2 h3 h4]
  frame_out
  rw [coords1 t, coords2 t]
  refine (dv_masked T (by omega) (by omega) _ j d).trans ?_
  rw [EReal.coe_add]
  exact congrArg (· + _) (zero20 j d)

theorem D_dc (t : Fin cfg0.N) (h0 : ¬t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (j : Fin 512) :
    (outsAt0 m c t.val t.isLt).2.2.2.2.2.2.2 (ix2 0 j) = ((0 + tDc A (t.val / 32) (t.val / 4 % 8) (t.val % 4) j.val : ℝ) : EReal) := by
  rw [outsAt0_D m c t h0 h1 h2 h3 h4]
  frame_out
  rw [coords1 t, coords2 t]
  refine (dc_masked T (by omega) (by omega) _ j).trans ?_
  rw [EReal.coe_add]
  exact congrArg (· + _) (zero21 j)

theorem D_dq (t : Fin cfg0.N) (h0 : ¬t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (i : Fin 4096) (d : Fin 128) :
    (outsAt0 m c t.val t.isLt).1 (ix2 i d) = ((addq (t.val % 4) (tDq A (t.val / 32) (t.val / 4 % 8) (t.val % 4)) Q i.val d.val : ℝ) : EReal) := by
  rw [outsAt0_D m c t h0 h1 h2 h3 h4]
  frame_out
  rw [coords1 t, coords2 t]
  exact rows2 (t.val % 4) _ _ _ _ _ (fun s => k0_pay15 (F := Ideal) (iblk m c 1 t) (k0_pay10 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s) _ _ (off3_eq t) (Memref.IsWhole.read_unread _ _) Hb.q (fun s r d => dq_masked T (by omega) (by omega) s r d) i d

theorem D_dr (t : Fin cfg0.N) (h0 : ¬t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (i : Fin 4096) :
    (outsAt0 m c t.val t.isLt).2.1 (ix3 0 i 0) = ((addr (t.val % 4) (tDr A (t.val / 32) (t.val / 4 % 8) (t.val % 4)) R i.val : ℝ) : EReal) := by
  rw [outsAt0_D m c t h0 h1 h2 h3 h4]
  frame_out
  rw [coords1 t, coords2 t]
  exact rows3 (t.val % 4) _ _ _ _ _ (fun s => k0_pay1 (F := Ideal) (k0_pay16 (F := Ideal) (k0_pay9 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s)) _ _ (off4_eq t) (Memref.IsWhole.read_unread _ _) Hb.r (fun s r => dr_masked T (by omega) (by omega) s r) i

theorem E_dk (t : Fin cfg0.N) (h0 : ¬t.val % 32 = 0) (h1 : t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (j : Fin 512) (d : Fin 128) :
    (outsAt0 m c t.val t.isLt).2.2.2.2.2.1 (ix2 j d) = ((0 : ℝ) : EReal) := by
  rw [outsAt0_E m c t h0 h1 h2 h3 h4]
  frame_out
  exact zero19 j d

theorem E_dv (t : Fin cfg0.N) (h0 : ¬t.val % 32 = 0) (h1 : t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (j : Fin 512) (d : Fin 128) :
    (outsAt0 m c t.val t.isLt).2.2.2.2.2.2.1 (ix2 j d) = ((0 : ℝ) : EReal) := by
  rw [outsAt0_E m c t h0 h1 h2 h3 h4]
  frame_out
  exact zero20 j d

theorem E_dc (t : Fin cfg0.N) (h0 : ¬t.val % 32 = 0) (h1 : t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (j : Fin 512) :
    (outsAt0 m c t.val t.isLt).2.2.2.2.2.2.2 (ix2 0 j) = ((0 : ℝ) : EReal) := by
  rw [outsAt0_E m c t h0 h1 h2 h3 h4]
  frame_out
  exact zero21 j

theorem E_dq (t : Fin cfg0.N) (h0 : ¬t.val % 32 = 0) (h1 : t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (i : Fin 4096) (d : Fin 128) :
    (outsAt0 m c t.val t.isLt).1 (ix2 i d) = ((Q i.val d.val : ℝ) : EReal) := by
  rw [outsAt0_E m c t h0 h1 h2 h3 h4]
  exact Hb.q i d

theorem E_dr (t : Fin cfg0.N) (h0 : ¬t.val % 32 = 0) (h1 : t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (i : Fin 4096) :
    (outsAt0 m c t.val t.isLt).2.1 (ix3 0 i 0) = ((R i.val : ℝ) : EReal) := by
  rw [outsAt0_E m c t h0 h1 h2 h3 h4]
  exact Hb.r i

theorem F_dk (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (j : Fin 512) (d : Fin 128) :
    (outsAt0 m c t.val t.isLt).2.2.2.2.2.1 (ix2 j d) = ((K j.val d.val + tDk A (t.val / 32) (t.val / 4 % 8) (t.val % 4) j.val d.val : ℝ) : EReal) := by
  rw [outsAt0_F m c t h0 h1 h2 h3 h4]
  frame_out
  rw [coords1 t, coords2 t]
  refine (dk_masked T (by omega) (by omega) _ j d).trans ?_
  rw [EReal.coe_add]
  exact congrArg (· + _) ((congrFun (Memref.IsWhole.read_unread _ _) _).trans (Hb.k j d))

theorem F_dv (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (j : Fin 512) (d : Fin 128) :
    (outsAt0 m c t.val t.isLt).2.2.2.2.2.2.1 (ix2 j d) = ((V j.val d.val + tDv A (t.val / 32) (t.val / 4 % 8) (t.val % 4) j.val d.val : ℝ) : EReal) := by
  rw [outsAt0_F m c t h0 h1 h2 h3 h4]
  frame_out
  rw [coords1 t, coords2 t]
  refine (dv_masked T (by omega) (by omega) _ j d).trans ?_
  rw [EReal.coe_add]
  exact congrArg (· + _) ((congrFun (Memref.IsWhole.read_unread _ _) _).trans (Hb.v j d))

theorem F_dc (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (j : Fin 512) :
    (outsAt0 m c t.val t.isLt).2.2.2.2.2.2.2 (ix2 0 j) = ((C j.val + tDc A (t.val / 32) (t.val / 4 % 8) (t.val % 4) j.val : ℝ) : EReal) := by
  rw [outsAt0_F m c t h0 h1 h2 h3 h4]
  frame_out
  rw [coords1 t, coords2 t]
  refine (dc_masked T (by omega) (by omega) _ j).trans ?_
  rw [EReal.coe_add]
  exact congrArg (· + _) ((congrFun (Memref.IsWhole.read_unread _ _) _).trans (Hb.c j))

theorem F_dq (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (i : Fin 4096) (d : Fin 128) :
    (outsAt0 m c t.val t.isLt).1 (ix2 i d) = ((addq (t.val % 4) (tDq A (t.val / 32) (t.val / 4 % 8) (t.val % 4)) Q i.val d.val : ℝ) : EReal) := by
  rw [outsAt0_F m c t h0 h1 h2 h3 h4]
  frame_out
  rw [coords1 t, coords2 t]
  exact rows2 (t.val % 4) _ _ _ _ _ (fun s => k0_pay15 (F := Ideal) (iblk m c 1 t) (k0_pay10 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s) _ _ (off3_eq t) (Memref.IsWhole.read_unread _ _) Hb.q (fun s r d => dq_masked T (by omega) (by omega) s r d) i d

theorem F_dr (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (T : TileAt m c A t) (Hb : Before m c t Q R K V C) (i : Fin 4096) :
    (outsAt0 m c t.val t.isLt).2.1 (ix3 0 i 0) = ((addr (t.val % 4) (tDr A (t.val / 32) (t.val / 4 % 8) (t.val % 4)) R i.val : ℝ) : EReal) := by
  rw [outsAt0_F m c t h0 h1 h2 h3 h4]
  frame_out
  rw [coords1 t, coords2 t]
  exact rows3 (t.val % 4) _ _ _ _ _ (fun s => k0_pay1 (F := Ideal) (k0_pay16 (F := Ideal) (k0_pay9 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s)) _ _ (off4_eq t) (Memref.IsWhole.read_unread _ _) Hb.r (fun s r => dr_masked T (by omega) (by omega) s r) i

theorem G_dk (t : Fin cfg0.N) (h0 : ¬t.val % 32 = 0) (h1 : ¬t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (j : Fin 512) (d : Fin 128) :
    (outsAt0 m c t.val t.isLt).2.2.2.2.2.1 (ix2 j d) = ((K j.val d.val : ℝ) : EReal) := by
  rw [outsAt0_G m c t h0 h1 h2 h3 h4]
  exact Hb.k j d

theorem G_dv (t : Fin cfg0.N) (h0 : ¬t.val % 32 = 0) (h1 : ¬t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (j : Fin 512) (d : Fin 128) :
    (outsAt0 m c t.val t.isLt).2.2.2.2.2.2.1 (ix2 j d) = ((V j.val d.val : ℝ) : EReal) := by
  rw [outsAt0_G m c t h0 h1 h2 h3 h4]
  exact Hb.v j d

theorem G_dc (t : Fin cfg0.N) (h0 : ¬t.val % 32 = 0) (h1 : ¬t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (j : Fin 512) :
    (outsAt0 m c t.val t.isLt).2.2.2.2.2.2.2 (ix2 0 j) = ((C j.val : ℝ) : EReal) := by
  rw [outsAt0_G m c t h0 h1 h2 h3 h4]
  exact Hb.c j

theorem G_dq (t : Fin cfg0.N) (h0 : ¬t.val % 32 = 0) (h1 : ¬t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (i : Fin 4096) (d : Fin 128) :
    (outsAt0 m c t.val t.isLt).1 (ix2 i d) = ((Q i.val d.val : ℝ) : EReal) := by
  rw [outsAt0_G m c t h0 h1 h2 h3 h4]
  exact Hb.q i d

theorem G_dr (t : Fin cfg0.N) (h0 : ¬t.val % 32 = 0) (h1 : ¬t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t Q R K V C) (i : Fin 4096) :
    (outsAt0 m c t.val t.isLt).2.1 (ix3 0 i 0) = ((R i.val : ℝ) : EReal) := by
  rw [outsAt0_G m c t h0 h1 h2 h3 h4]
  exact Hb.r i

theorem H_dk (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) (T : TileAt m c A t) (Hb : Before m c t Q R K V C) (j : Fin 512) (d : Fin 128) :
    (outsAt0 m c t.val t.isLt).2.2.2.2.2.1 (ix2 j d) = ((K j.val d.val + tDk A (t.val / 32) (t.val / 4 % 8) (t.val % 4) j.val d.val : ℝ) : EReal) := by
  rw [outsAt0_H m c t h0 h1 h2 h3 h4]
  frame_out
  rw [coords1 t, coords2 t]
  refine (dk_masked T (by omega) (by omega) _ j d).trans ?_
  rw [EReal.coe_add]
  exact congrArg (· + _) ((congrFun (Memref.IsWhole.read_unread _ _) _).trans (Hb.k j d))

theorem H_dv (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) (T : TileAt m c A t) (Hb : Before m c t Q R K V C) (j : Fin 512) (d : Fin 128) :
    (outsAt0 m c t.val t.isLt).2.2.2.2.2.2.1 (ix2 j d) = ((V j.val d.val + tDv A (t.val / 32) (t.val / 4 % 8) (t.val % 4) j.val d.val : ℝ) : EReal) := by
  rw [outsAt0_H m c t h0 h1 h2 h3 h4]
  frame_out
  rw [coords1 t, coords2 t]
  refine (dv_masked T (by omega) (by omega) _ j d).trans ?_
  rw [EReal.coe_add]
  exact congrArg (· + _) ((congrFun (Memref.IsWhole.read_unread _ _) _).trans (Hb.v j d))

theorem H_dc (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) (T : TileAt m c A t) (Hb : Before m c t Q R K V C) (j : Fin 512) :
    (outsAt0 m c t.val t.isLt).2.2.2.2.2.2.2 (ix2 0 j) = ((C j.val + tDc A (t.val / 32) (t.val / 4 % 8) (t.val % 4) j.val : ℝ) : EReal) := by
  rw [outsAt0_H m c t h0 h1 h2 h3 h4]
  frame_out
  rw [coords1 t, coords2 t]
  refine (dc_masked T (by omega) (by omega) _ j).trans ?_
  rw [EReal.coe_add]
  exact congrArg (· + _) ((congrFun (Memref.IsWhole.read_unread _ _) _).trans (Hb.c j))

theorem H_dq (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) (T : TileAt m c A t) (Hb : Before m c t Q R K V C) (i : Fin 4096) (d : Fin 128) :
    (outsAt0 m c t.val t.isLt).1 (ix2 i d) = ((addq (t.val % 4) (tDq A (t.val / 32) (t.val / 4 % 8) (t.val % 4)) Q i.val d.val : ℝ) : EReal) := by
  rw [outsAt0_H m c t h0 h1 h2 h3 h4]
  frame_out
  rw [coords1 t, coords2 t]
  exact rows2 (t.val % 4) _ _ _ _ _ (fun s => k0_pay15 (F := Ideal) (iblk m c 1 t) (k0_pay10 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s) _ _ (off3_eq t) (Memref.IsWhole.read_unread _ _) Hb.q (fun s r d => dq_masked T (by omega) (by omega) s r d) i d

theorem H_dr (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) (T : TileAt m c A t) (Hb : Before m c t Q R K V C) (i : Fin 4096) :
    (outsAt0 m c t.val t.isLt).2.1 (ix3 0 i 0) = ((addr (t.val % 4) (tDr A (t.val / 32) (t.val / 4 % 8) (t.val % 4)) R i.val : ℝ) : EReal) := by
  rw [outsAt0_H m c t h0 h1 h2 h3 h4]
  frame_out
  rw [coords1 t, coords2 t]
  exact rows3 (t.val % 4) _ _ _ _ _ (fun s => k0_pay1 (F := Ideal) (k0_pay16 (F := Ideal) (k0_pay9 (F := Ideal) (BitVec.ofNat 32 (t.val / 4 % 8)) (BitVec.ofNat 32 (t.val % 4)) (iblk m c 0 t) (iblk m c 1 t) (iblk m c 4 t) (iblk m c 3 t) (iblk m c 5 t) (iblk m c 2 t) (iblk m c 6 t)) s)) _ _ (off4_eq t) (Memref.IsWhole.read_unread _ _) Hb.r (fun s r => dr_masked T (by omega) (by omega) s r) i

theorem H_odk (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) : (outsAt0 m c t.val t.isLt).2.2.1 = (outsAt0 m c t.val t.isLt).2.2.2.2.2.1 := by
  rw [outsAt0_H m c t h0 h1 h2 h3 h4]
  frame_out

theorem H_odv (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) : (outsAt0 m c t.val t.isLt).2.2.2.1 = (outsAt0 m c t.val t.isLt).2.2.2.2.2.2.1 := by
  rw [outsAt0_H m c t h0 h1 h2 h3 h4]
  frame_out

theorem H_odc (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) (j : Fin 512) : (outsAt0 m c t.val t.isLt).2.2.2.2.1 (ix3 0 0 j) = (outsAt0 m c t.val t.isLt).2.2.2.2.2.2.2 (ix2 0 j) := by
  rw [outsAt0_H m c t h0 h1 h2 h3 h4]
  frame_out
  exact row2 _ j

end Cert.Fox

end
-- ==== Proof.Fold.lean ====
/-
  What the buffers hold after each grid point, and at the points that write a block back.
-/
module

public import proofs.«01_k».proof.Proof.Step

@[expose] public section

set_option maxRecDepth 16384

noncomputable section

open Idealize.ShloMosaic Idealize.ShloMosaic.TcCoe Idealize.SL.Sem Idealize.ShloMosaic.StableHlo
open Cert.KernelIdeal Cert.KernelIdeal.Gen
open scoped BigOperators

namespace Cert.Fox

theorem sum_rows (f : ℕ → ℝ) : ∑ b ∈ Finset.range 4, ∑ r : Fin 1024, f (1024 * b + r.val) = ∑ i : Fin 4096, f i.val := by
  rw [Finset.sum_range (fun b => ∑ r : Fin 1024, f (1024 * b + r.val)), ← Fintype.sum_prod_type' (f := fun (b : Fin 4) (r : Fin 1024) => f (1024 * b.val + r.val))]
  refine Fintype.sum_equiv (finProdFinEquiv (m := 4) (n := 1024)) _ (fun i : Fin 4096 => f i.val) fun x => ?_
  show f _ = f _
  congr 1
  show 1024 * x.1.val + x.2.val = x.2.val + 1024 * x.1.val
  omega

theorem sum_cols (f : ℕ → ℝ) : ∑ b ∈ Finset.range 8, ∑ r : Fin 512, f (512 * b + r.val) = ∑ i : Fin 4096, f i.val := by
  rw [Finset.sum_range (fun b => ∑ r : Fin 512, f (512 * b + r.val)), ← Fintype.sum_prod_type' (f := fun (b : Fin 8) (r : Fin 512) => f (512 * b.val + r.val))]
  refine Fintype.sum_equiv (finProdFinEquiv (m := 8) (n := 512)) _ (fun i : Fin 4096 => f i.val) fun x => ?_
  show f _ = f _
  congr 1
  show 512 * x.1.val + x.2.val = x.2.val + 512 * x.1.val
  omega

section
variable (A : Args)

/-- The key tile's gradient after the point `n`: the query tiles seen so far. -/
def Kn (n j d : ℕ) : ℝ := ∑ b ∈ Finset.range (n % 4 + 1), tDk A (n / 32) (n / 4 % 8) b j d
/-- The value tile's gradient after the point `n`. -/
def Vn (n j d : ℕ) : ℝ := ∑ b ∈ Finset.range (n % 4 + 1), tDv A (n / 32) (n / 4 % 8) b j d
/-- The column sums after the point `n`. -/
def Cn (n j : ℕ) : ℝ := ∑ b ∈ Finset.range (n % 4 + 1), tDc A (n / 32) (n / 4 % 8) b j
/-- The queries' gradient after the point `n`: the tiles of the head seen so far. -/
def Qn (n i d : ℕ) : ℝ := ∑ a ∈ Finset.range 8, if 4 * a + i / 1024 ≤ n % 32 then tDq A (n / 32) a (i / 1024) (i % 1024) d else 0
/-- The row sums after the point `n`. -/
def Rn (n i : ℕ) : ℝ := ∑ a ∈ Finset.range 8, if 4 * a + i / 1024 ≤ n % 32 then tDr A (n / 32) a (i / 1024) (i % 1024) else 0

/-- A sum over the tiles seen so far, one point further. -/
theorem seen_next (F : ℕ → ℝ) (n i : ℕ) (hi : i < 4096) (hn : n % 32 ≠ 0) :
    (∑ a ∈ Finset.range 8, if 4 * a + i / 1024 ≤ n % 32 then F a else 0)
      = (∑ a ∈ Finset.range 8, if 4 * a + i / 1024 ≤ (n - 1) % 32 then F a else 0) + if i / 1024 = n % 4 then F (n / 4 % 8) else 0 := by
  have key : ∀ a ∈ Finset.range 8, (if 4 * a + i / 1024 ≤ n % 32 then F a else 0)
      = (if 4 * a + i / 1024 ≤ (n - 1) % 32 then F a else 0) + (if a = n / 4 % 8 then (if i / 1024 = n % 4 then F (n / 4 % 8) else 0) else 0) := by
    intro a ha
    have ha' := Finset.mem_range.mp ha
    by_cases h1 : 4 * a + i / 1024 ≤ (n - 1) % 32
    · rw [if_pos (by omega), if_pos h1]
      by_cases h2 : a = n / 4 % 8
      · rw [if_pos h2, if_neg (by omega), add_zero]
      · rw [if_neg h2, add_zero]
    · rw [if_neg h1, zero_add]
      by_cases h2 : a = n / 4 % 8
      · rw [if_pos h2]
        by_cases h3 : i / 1024 = n % 4
        · rw [if_pos h3, if_pos (by omega), h2]
        · rw [if_neg h3, if_neg (by omega)]
      · rw [if_neg h2, if_neg (by omega)]
  rw [Finset.sum_congr rfl key, Finset.sum_add_distrib, Finset.sum_ite_eq' (Finset.range 8) (n / 4 % 8) (fun _ => if i / 1024 = n % 4 then F (n / 4 % 8) else 0),
    if_pos (Finset.mem_range.mpr (by omega))]

theorem seen_start (F : ℕ → ℝ) (n i : ℕ) (hi : i < 4096) (hn : n % 32 = 0) :
    (∑ a ∈ Finset.range 8, if 4 * a + i / 1024 ≤ n % 32 then F a else 0) = 0 + if i / 1024 = n % 4 then F (n / 4 % 8) else 0 := by
  have key : ∀ a ∈ Finset.range 8, (if 4 * a + i / 1024 ≤ n % 32 then F a else 0)
      = (if a = n / 4 % 8 then (if i / 1024 = n % 4 then F (n / 4 % 8) else 0) else 0) := by
    intro a ha
    have ha' := Finset.mem_range.mp ha
    by_cases h2 : a = n / 4 % 8
    · rw [if_pos h2]
      by_cases h3 : i / 1024 = n % 4
      · rw [if_pos h3, if_pos (by omega), h2]
      · rw [if_neg h3, if_neg (by omega)]
    · rw [if_neg h2, if_neg (by omega)]
  rw [Finset.sum_congr rfl key, Finset.sum_ite_eq' (Finset.range 8) (n / 4 % 8) (fun _ => if i / 1024 = n % 4 then F (n / 4 % 8) else 0),
    if_pos (Finset.mem_range.mpr (by omega)), zero_add]

theorem tile_start (F : ℕ → ℕ → ℕ → ℝ) (n : ℕ) (hn : n % 4 = 0) :
    (∑ b ∈ Finset.range (n % 4 + 1), F (n / 32) (n / 4 % 8) b) = 0 + F (n / 32) (n / 4 % 8) (n % 4) := by
  rw [hn, Finset.sum_range_one, zero_add]

theorem tile_next (F : ℕ → ℕ → ℕ → ℝ) (n : ℕ) (hn : n % 4 ≠ 0) :
    (∑ b ∈ Finset.range (n % 4 + 1), F (n / 32) (n / 4 % 8) b)
      = (∑ b ∈ Finset.range ((n - 1) % 4 + 1), F ((n - 1) / 32) ((n - 1) / 4 % 8) b) + F (n / 32) (n / 4 % 8) (n % 4) := by
  rw [Finset.sum_range_succ, show (n - 1) % 4 + 1 = n % 4 by omega, show (n - 1) / 32 = n / 32 by omega, show (n - 1) / 4 % 8 = n / 4 % 8 by omega]

theorem Qn_start (n i d : ℕ) (hi : i < 4096) (hn : n % 32 = 0) :
    Qn A n i d = addq (n % 4) (tDq A (n / 32) (n / 4 % 8) (n % 4)) (fun _ _ => 0) i d := by
  unfold Qn addq
  rw [seen_start (fun a => tDq A (n / 32) a (i / 1024) (i % 1024) d) n i hi hn]
  by_cases h : i / 1024 = n % 4
  · rw [if_pos h, if_pos h, h]
  · rw [if_neg h, if_neg h]
theorem Qn_next (n i d : ℕ) (hi : i < 4096) (hn : n % 32 ≠ 0) :
    Qn A n i d = addq (n % 4) (tDq A (n / 32) (n / 4 % 8) (n % 4)) (Qn A (n - 1)) i d := by
  unfold Qn addq
  rw [seen_next (fun a => tDq A (n / 32) a (i / 1024) (i % 1024) d) n i hi hn, show (n - 1) / 32 = n / 32 by omega]
  by_cases h : i / 1024 = n % 4
  · rw [if_pos h, if_pos h]; beta_reduce; rw [h]
  · rw [if_neg h, if_neg h]
theorem Rn_start (n i : ℕ) (hi : i < 4096) (hn : n % 32 = 0) :
    Rn A n i = addr (n % 4) (tDr A (n / 32) (n / 4 % 8) (n % 4)) (fun _ => 0) i := by
  unfold Rn addr
  rw [seen_start (fun a => tDr A (n / 32) a (i / 1024) (i % 1024)) n i hi hn]
  by_cases h : i / 1024 = n % 4
  · rw [if_pos h, if_pos h, h]
  · rw [if_neg h, if_neg h]
theorem Rn_next (n i : ℕ) (hi : i < 4096) (hn : n % 32 ≠ 0) :
    Rn A n i = addr (n % 4) (tDr A (n / 32) (n / 4 % 8) (n % 4)) (Rn A (n - 1)) i := by
  unfold Rn addr
  rw [seen_next (fun a => tDr A (n / 32) a (i / 1024) (i % 1024)) n i hi hn, show (n - 1) / 32 = n / 32 by omega]
  by_cases h : i / 1024 = n % 4
  · rw [if_pos h, if_pos h]; beta_reduce; rw [h]
  · rw [if_neg h, if_neg h]

/-! A tile wholly above the diagonal adds nothing. -/
theorem tDk_off (h kj qi j d : ℕ) (hk : 2 * qi + 2 ≤ kj) : tDk A h kj qi j d = 0 :=
  Finset.sum_eq_zero fun r _ => by rw [A.ds_above h _ _ (by have := r.isLt; omega), zero_mul]
theorem tDv_off (h kj qi j d : ℕ) (hk : 2 * qi + 2 ≤ kj) : tDv A h kj qi j d = 0 :=
  Finset.sum_eq_zero fun r _ => by rw [A.P_above h _ _ (by have := r.isLt; omega), zero_mul]
theorem tDc_off (h kj qi j : ℕ) (hk : 2 * qi + 2 ≤ kj) : tDc A h kj qi j = 0 :=
  Finset.sum_eq_zero fun r _ => A.ds_above h _ _ (by have := r.isLt; omega)
theorem tDq_off (h kj qi r d : ℕ) (hr : r < 1024) (hk : 2 * qi + 2 ≤ kj) : tDq A h kj qi r d = 0 :=
  Finset.sum_eq_zero fun j _ => by rw [A.ds_above h _ _ (by have := j.isLt; omega), zero_mul]
theorem tDr_off (h kj qi r : ℕ) (hr : r < 1024) (hk : 2 * qi + 2 ≤ kj) : tDr A h kj qi r = 0 :=
  Finset.sum_eq_zero fun j _ => A.ds_above h _ _ (by have := j.isLt; omega)

theorem Qn_off (n i d : ℕ) (hi : i < 4096) (hn : n % 32 ≠ 0) (hk : 2 * (n % 4) + 2 ≤ n / 4 % 8) : Qn A n i d = Qn A (n - 1) i d := by
  rw [Qn_next A n i d hi hn, addq, tDq_off A _ _ _ _ _ (by omega) hk, ite_self, add_zero]
theorem Rn_off (n i : ℕ) (hi : i < 4096) (hn : n % 32 ≠ 0) (hk : 2 * (n % 4) + 2 ≤ n / 4 % 8) : Rn A n i = Rn A (n - 1) i := by
  rw [Rn_next A n i hi hn, addr, tDr_off A _ _ _ _ (by omega) hk, ite_self, add_zero]
end

variable (m : (ℓ : Loc nD τ sig) → Buf (Elt Ideal) ℓ) (c : Dev nD) {A : Args}

/-- What the buffers hold after the point `n`. -/
abbrev After (A : Args) (n : ℕ) (hn : n < cfg0.N) : Prop :=
  Real (outsAt0 m c n hn) (Qn A n) (Rn A n) (Kn A n) (Vn A n) (Cn A n)

theorem after_A (H : Holds m c A) (t : Fin cfg0.N) (h0 : t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) : After m c A t.val t.isLt := by
  have T := tile_is m c H t (by omega)
  exact {
    q := fun i d => (A_dq m c t h0 h1 h2 h3 h4 T i d).trans (congrArg _ (Qn_start A t.val i.val d.val i.isLt h0).symm)
    r := fun i => (A_dr m c t h0 h1 h2 h3 h4 T i).trans (congrArg _ (Rn_start A t.val i.val i.isLt h0).symm)
    k := fun j d => (A_dk m c t h0 h1 h2 h3 h4 T j d).trans (congrArg _ (tile_start (fun h a b => tDk A h a b j.val d.val) t.val h1).symm)
    v := fun j d => (A_dv m c t h0 h1 h2 h3 h4 T j d).trans (congrArg _ (tile_start (fun h a b => tDv A h a b j.val d.val) t.val h1).symm)
    c := fun j => (A_dc m c t h0 h1 h2 h3 h4 T j).trans (congrArg _ (tile_start (fun h a b => tDc A h a b j.val) t.val h1).symm)
  }

theorem after_B (H : Holds m c A) (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t (Qn A (t.val - 1)) (Rn A (t.val - 1)) (Kn A (t.val - 1)) (Vn A (t.val - 1)) (Cn A (t.val - 1))) : After m c A t.val t.isLt := by
  have T := tile_is m c H t (by omega)
  exact {
    q := fun i d => (B_dq m c t h0 h1 h2 h3 h4 T Hb i d).trans (congrArg _ (Qn_next A t.val i.val d.val i.isLt h0).symm)
    r := fun i => (B_dr m c t h0 h1 h2 h3 h4 T Hb i).trans (congrArg _ (Rn_next A t.val i.val i.isLt h0).symm)
    k := fun j d => (B_dk m c t h0 h1 h2 h3 h4 T Hb j d).trans (congrArg _ (tile_next (fun h a b => tDk A h a b j.val d.val) t.val h1).symm)
    v := fun j d => (B_dv m c t h0 h1 h2 h3 h4 T Hb j d).trans (congrArg _ (tile_next (fun h a b => tDv A h a b j.val d.val) t.val h1).symm)
    c := fun j => (B_dc m c t h0 h1 h2 h3 h4 T Hb j).trans (congrArg _ (tile_next (fun h a b => tDc A h a b j.val) t.val h1).symm)
  }

theorem after_C (H : Holds m c A) (t : Fin cfg0.N) (h0 : ¬t.val % 32 = 0) (h1 : ¬t.val % 4 = 0) (h2 : t.val / 4 % 8 + 1 ≤ 2 * (t.val % 4)) (h3 : ¬(2 * (t.val % 4) ≤ t.val / 4 % 8 ∧ t.val / 4 % 8 ≤ 2 * (t.val % 4) + 1)) (h4 : t.val % 4 = 3) (Hb : Before m c t (Qn A (t.val - 1)) (Rn A (t.val - 1)) (Kn A (t.val - 1)) (Vn A (t.val - 1)) (Cn A (t.val - 1))) : After m c A t.val t.isLt := by
  have T := tile_is m c H t (by omega)
  exact {
    q := fun i d => (C_dq m c t h0 h1 h2 h3 h4 T Hb i d).trans (congrArg _ (Qn_next A t.val i.val d.val i.isLt h0).symm)
    r := fun i => (C_dr m c t h0 h1 h2 h3 h4 T Hb i).trans (congrArg _ (Rn_next A t.val i.val i.isLt h0).symm)
    k := fun j d => (C_dk m c t h0 h1 h2 h3 h4 T Hb j d).trans (congrArg _ (tile_next (fun h a b => tDk A h a b j.val d.val) t.val h1).symm)
    v := fun j d => (C_dv m c t h0 h1 h2 h3 h4 T Hb j d).trans (congrArg _ (tile_next (fun h a b => tDv A h a b j.val d.val) t.val h1).symm)
    c := fun j => (C_dc m c t h0 h1 h2 h3 h4 T Hb j).trans (congrArg _ (tile_next (fun h a b => tDc A h a b j.val) t.val h1).symm)
  }

theorem after_D (H : Holds m c A) (t : Fin cfg0.N) (h0 : ¬t.val % 32 = 0) (h1 : t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (Hb : Before m c t (Qn A (t.val - 1)) (Rn A (t.val - 1)) (Kn A (t.val - 1)) (Vn A (t.val - 1)) (Cn A (t.val - 1))) : After m c A t.val t.isLt := by
  have T := tile_is m c H t (by omega)
  exact {
    q := fun i d => (D_dq m c t h0 h1 h2 h3 h4 T Hb i d).trans (congrArg _ (Qn_next A t.val i.val d.val i.isLt h0).symm)
    r := fun i => (D_dr m c t h0 h1 h2 h3 h4 T Hb i).trans (congrArg _ (Rn_next A t.val i.val i.isLt h0).symm)
    k := fun j d => (D_dk m c t h0 h1 h2 h3 h4 T Hb j d).trans (congrArg _ (tile_start (fun h a b => tDk A h a b j.val d.val) t.val h1).symm)
    v := fun j d => (D_dv m c t h0 h1 h2 h3 h4 T Hb j d).trans (congrArg _ (tile_start (fun h a b => tDv A h a b j.val d.val) t.val h1).symm)
    c := fun j => (D_dc m c t h0 h1 h2 h3 h4 T Hb j).trans (congrArg _ (tile_start (fun h a b => tDc A h a b j.val) t.val h1).symm)
  }

theorem after_E (H : Holds m c A) (t : Fin cfg0.N) (h0 : ¬t.val % 32 = 0) (h1 : t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t (Qn A (t.val - 1)) (Rn A (t.val - 1)) (Kn A (t.val - 1)) (Vn A (t.val - 1)) (Cn A (t.val - 1))) : After m c A t.val t.isLt := by
  exact {
    q := fun i d => (E_dq m c t h0 h1 h2 h3 h4 Hb i d).trans (congrArg _ (Qn_off A t.val i.val d.val i.isLt h0 (by omega)).symm)
    r := fun i => (E_dr m c t h0 h1 h2 h3 h4 Hb i).trans (congrArg _ (Rn_off A t.val i.val i.isLt h0 (by omega)).symm)
    k := fun j d => (E_dk m c t h0 h1 h2 h3 h4 Hb j d).trans (congrArg _ ((tile_start (fun h a b => tDk A h a b j.val d.val) t.val h1).trans (by beta_reduce; rw [tDk_off A _ _ _ _ _ (by omega), add_zero])).symm)
    v := fun j d => (E_dv m c t h0 h1 h2 h3 h4 Hb j d).trans (congrArg _ ((tile_start (fun h a b => tDv A h a b j.val d.val) t.val h1).trans (by beta_reduce; rw [tDv_off A _ _ _ _ _ (by omega), add_zero])).symm)
    c := fun j => (E_dc m c t h0 h1 h2 h3 h4 Hb j).trans (congrArg _ ((tile_start (fun h a b => tDc A h a b j.val) t.val h1).trans (by beta_reduce; rw [tDc_off A _ _ _ _ (by omega), add_zero])).symm)
  }

theorem after_F (H : Holds m c A) (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : ¬t.val % 4 = 3) (Hb : Before m c t (Qn A (t.val - 1)) (Rn A (t.val - 1)) (Kn A (t.val - 1)) (Vn A (t.val - 1)) (Cn A (t.val - 1))) : After m c A t.val t.isLt := by
  have T := tile_is m c H t (by omega)
  exact {
    q := fun i d => (F_dq m c t h0 h1 h2 h3 h4 T Hb i d).trans (congrArg _ (Qn_next A t.val i.val d.val i.isLt h0).symm)
    r := fun i => (F_dr m c t h0 h1 h2 h3 h4 T Hb i).trans (congrArg _ (Rn_next A t.val i.val i.isLt h0).symm)
    k := fun j d => (F_dk m c t h0 h1 h2 h3 h4 T Hb j d).trans (congrArg _ (tile_next (fun h a b => tDk A h a b j.val d.val) t.val h1).symm)
    v := fun j d => (F_dv m c t h0 h1 h2 h3 h4 T Hb j d).trans (congrArg _ (tile_next (fun h a b => tDv A h a b j.val d.val) t.val h1).symm)
    c := fun j => (F_dc m c t h0 h1 h2 h3 h4 T Hb j).trans (congrArg _ (tile_next (fun h a b => tDc A h a b j.val) t.val h1).symm)
  }

theorem after_G (H : Holds m c A) (t : Fin cfg0.N) (h0 : ¬t.val % 32 = 0) (h1 : ¬t.val % 4 = 0) (h2 : ¬t.val / 4 % 8 + 1 ≤ 2 * (t.val % 4)) (h3 : ¬(2 * (t.val % 4) ≤ t.val / 4 % 8 ∧ t.val / 4 % 8 ≤ 2 * (t.val % 4) + 1)) (h4 : ¬t.val % 4 = 3) (Hb : Before m c t (Qn A (t.val - 1)) (Rn A (t.val - 1)) (Kn A (t.val - 1)) (Vn A (t.val - 1)) (Cn A (t.val - 1))) : After m c A t.val t.isLt := by
  exact {
    q := fun i d => (G_dq m c t h0 h1 h2 h3 h4 Hb i d).trans (congrArg _ (Qn_off A t.val i.val d.val i.isLt h0 (by omega)).symm)
    r := fun i => (G_dr m c t h0 h1 h2 h3 h4 Hb i).trans (congrArg _ (Rn_off A t.val i.val i.isLt h0 (by omega)).symm)
    k := fun j d => (G_dk m c t h0 h1 h2 h3 h4 Hb j d).trans (congrArg _ ((tile_next (fun h a b => tDk A h a b j.val d.val) t.val h1).trans (by beta_reduce; rw [tDk_off A _ _ _ _ _ (by omega), add_zero]; rfl)).symm)
    v := fun j d => (G_dv m c t h0 h1 h2 h3 h4 Hb j d).trans (congrArg _ ((tile_next (fun h a b => tDv A h a b j.val d.val) t.val h1).trans (by beta_reduce; rw [tDv_off A _ _ _ _ _ (by omega), add_zero]; rfl)).symm)
    c := fun j => (G_dc m c t h0 h1 h2 h3 h4 Hb j).trans (congrArg _ ((tile_next (fun h a b => tDc A h a b j.val) t.val h1).trans (by beta_reduce; rw [tDc_off A _ _ _ _ (by omega), add_zero]; rfl)).symm)
  }

theorem after_H (H : Holds m c A) (t : Fin cfg0.N) (h0 : ¬t.val % 32 = 0) (h1 : ¬t.val % 4 = 0) (h2 : ¬t.val / 4 % 8 + 1 ≤ 2 * (t.val % 4)) (h3 : (2 * (t.val % 4) ≤ t.val / 4 % 8 ∧ t.val / 4 % 8 ≤ 2 * (t.val % 4) + 1)) (h4 : t.val % 4 = 3) (Hb : Before m c t (Qn A (t.val - 1)) (Rn A (t.val - 1)) (Kn A (t.val - 1)) (Vn A (t.val - 1)) (Cn A (t.val - 1))) : After m c A t.val t.isLt := by
  have T := tile_is m c H t (by omega)
  exact {
    q := fun i d => (H_dq m c t h0 h1 h2 h3 h4 T Hb i d).trans (congrArg _ (Qn_next A t.val i.val d.val i.isLt h0).symm)
    r := fun i => (H_dr m c t h0 h1 h2 h3 h4 T Hb i).trans (congrArg _ (Rn_next A t.val i.val i.isLt h0).symm)
    k := fun j d => (H_dk m c t h0 h1 h2 h3 h4 T Hb j d).trans (congrArg _ (tile_next (fun h a b => tDk A h a b j.val d.val) t.val h1).symm)
    v := fun j d => (H_dv m c t h0 h1 h2 h3 h4 T Hb j d).trans (congrArg _ (tile_next (fun h a b => tDv A h a b j.val d.val) t.val h1).symm)
    c := fun j => (H_dc m c t h0 h1 h2 h3 h4 T Hb j).trans (congrArg _ (tile_next (fun h a b => tDc A h a b j.val) t.val h1).symm)
  }

/-- After every point the buffers hold the sums over the tiles seen so far. -/
theorem after_all (H : Holds m c A) : ∀ (n : ℕ) (hn : n < cfg0.N), After m c A n hn := by
  intro n
  induction n with
  | zero =>
    intro hn
    exact after_A m c H ⟨0, hn⟩ (by show 0 % 32 = 0; decide) (by show 0 % 4 = 0; decide) (by show ¬ (0 / 4 % 8 + 1 ≤ 2 * (0 % 4)); decide)
      (by show 2 * (0 % 4) ≤ 0 / 4 % 8 ∧ 0 / 4 % 8 ≤ 2 * (0 % 4) + 1; decide) (by show ¬ 0 % 4 = 3; decide)
  | succ n ih =>
    intro hn
    have Hb := ih (Nat.lt_of_succ_lt hn)
    generalize ht : (⟨n + 1, hn⟩ : Fin cfg0.N) = t
    have hv : t.val = n + 1 := by rw [← ht]
    have Hb' : Before m c t (Qn A (t.val - 1)) (Rn A (t.val - 1)) (Kn A (t.val - 1)) (Vn A (t.val - 1)) (Cn A (t.val - 1)) := by
      subst ht; exact Hb
    have key : After m c A t.val t.isLt := by
      by_cases h0 : t.val % 32 = 0
      · exact after_A m c H t h0 (by omega) (by omega) (by omega) (by omega)
      · by_cases h1 : t.val % 4 = 0
        · by_cases h3 : (2 * (t.val % 4) ≤ t.val / 4 % 8 ∧ t.val / 4 % 8 ≤ 2 * (t.val % 4) + 1)
          · exact after_D m c H t h0 h1 (by omega) h3 (by omega) Hb'
          · exact after_E m c H t h0 h1 (by omega) h3 (by omega) Hb'
        · by_cases h2 : t.val / 4 % 8 + 1 ≤ 2 * (t.val % 4)
          · by_cases h4 : t.val % 4 = 3
            · exact after_C m c H t h0 h1 h2 (by omega) h4 Hb'
            · exact after_B m c H t h0 h1 h2 (by omega) h4 Hb'
          · by_cases h3 : (2 * (t.val % 4) ≤ t.val / 4 % 8 ∧ t.val / 4 % 8 ≤ 2 * (t.val % 4) + 1)
            · by_cases h4 : t.val % 4 = 3
              · exact after_H m c H t h0 h1 h2 h3 h4 Hb'
              · exact after_F m c H t h0 h1 h2 h3 h4 Hb'
            · exact after_G m c H t h0 h1 h2 h3 (by omega) Hb'
    subst ht; exact key

/-! At the points that write a block back. -/

theorem full_k (n j d : ℕ) (hn : n % 4 = 3) : Kn A n j d = ∑ i : Fin 4096, A.ds (n / 32) i.val (512 * (n / 4 % 8) + j) * A.q i.val (128 * (n / 32) + d) := by
  unfold Kn tDk; rw [hn]
  exact sum_rows fun i => A.ds (n / 32) i (512 * (n / 4 % 8) + j) * A.q i (128 * (n / 32) + d)
theorem full_v (n j d : ℕ) (hn : n % 4 = 3) : Vn A n j d = ∑ i : Fin 4096, A.P (n / 32) i.val (512 * (n / 4 % 8) + j) * A.g i.val (128 * (n / 32) + d) := by
  unfold Vn tDv; rw [hn]
  exact sum_rows fun i => A.P (n / 32) i (512 * (n / 4 % 8) + j) * A.g i (128 * (n / 32) + d)
theorem full_c (n j : ℕ) (hn : n % 4 = 3) : Cn A n j = ∑ i : Fin 4096, A.ds (n / 32) i.val (512 * (n / 4 % 8) + j) := by
  unfold Cn tDc; rw [hn]
  exact sum_rows fun i => A.ds (n / 32) i (512 * (n / 4 % 8) + j)
theorem full_q (n i d : ℕ) (hi : i < 4096) (hn : n % 32 = 31) : Qn A n i d = ∑ j : Fin 4096, A.ds (n / 32) i j.val * A.k j.val (128 * (n / 32) + d) := by
  unfold Qn tDq
  rw [← sum_cols fun j => A.ds (n / 32) i j * A.k j (128 * (n / 32) + d)]
  refine Finset.sum_congr rfl fun a ha => ?_
  have ha' := Finset.mem_range.mp ha
  rw [if_pos (by omega), show 1024 * (i / 1024) + i % 1024 = i by omega]
theorem full_r (n i : ℕ) (hi : i < 4096) (hn : n % 32 = 31) : Rn A n i = ∑ j : Fin 4096, A.ds (n / 32) i j.val := by
  unfold Rn tDr
  rw [← sum_cols fun j => A.ds (n / 32) i j]
  refine Finset.sum_congr rfl fun a ha => ?_
  have ha' := Finset.mem_range.mp ha
  rw [if_pos (by omega), show 1024 * (i / 1024) + i % 1024 = i by omega]

/-- At a key tile's last point the carried sums are the written blocks. -/
theorem copied (t : Fin cfg0.N) (h4 : t.val % 4 = 3) :
    (outsAt0 m c t.val t.isLt).2.2.1 = (outsAt0 m c t.val t.isLt).2.2.2.2.2.1
      ∧ (outsAt0 m c t.val t.isLt).2.2.2.1 = (outsAt0 m c t.val t.isLt).2.2.2.2.2.2.1
      ∧ ∀ j : Fin 512, (outsAt0 m c t.val t.isLt).2.2.2.2.1 (ix3 0 0 j) = (outsAt0 m c t.val t.isLt).2.2.2.2.2.2.2 (ix2 0 j) := by
  by_cases h2 : t.val / 4 % 8 + 1 ≤ 2 * (t.val % 4)
  · exact ⟨C_odk m c t (by omega) (by omega) h2 (by omega) h4, C_odv m c t (by omega) (by omega) h2 (by omega) h4, fun j => C_odc m c t (by omega) (by omega) h2 (by omega) h4 j⟩
  · exact ⟨H_odk m c t (by omega) (by omega) h2 (by omega) h4, H_odv m c t (by omega) (by omega) h2 (by omega) h4, fun j => H_odc m c t (by omega) (by omega) h2 (by omega) h4 j⟩

theorem idx7 : ∀ t : Fin cfg0.N, win0_7.index t = ![0, t.val / 32] := (by decide +kernel : ∀ t : Fin grid0.N, _)
theorem idx8 : ∀ t : Fin cfg0.N, win0_8.index t = ![t.val / 32, 0, 0] := (by decide +kernel : ∀ t : Fin grid0.N, _)
theorem idx9 : ∀ t : Fin cfg0.N, win0_9.index t = ![t.val / 4 % 8, t.val / 32] := (by decide +kernel : ∀ t : Fin grid0.N, _)
theorem idx10 : ∀ t : Fin cfg0.N, win0_10.index t = ![t.val / 4 % 8, t.val / 32] := (by decide +kernel : ∀ t : Fin grid0.N, _)
theorem idx11 : ∀ t : Fin cfg0.N, win0_11.index t = ![t.val / 32, 0, t.val / 4 % 8] := (by decide +kernel : ∀ t : Fin grid0.N, _)
end Cert.Fox

end
-- ==== Proof.Final.lean ====
/-
  The arrays the kernel leaves are the reference's.
-/
module

public import proofs.«01_k».proof.Proof.Fold

@[expose] public section

set_option maxRecDepth 16384

noncomputable section

open Idealize.ShloMosaic Idealize.ShloMosaic.TcCoe Idealize.SL.Sem Idealize.ShloMosaic.StableHlo
open Cert.KernelIdeal Cert.KernelIdeal.Gen
open scoped BigOperators

namespace Cert.Fox

variable (m : (ℓ : Loc nD τ sig) → Buf (Elt Ideal) ℓ) (c : Dev nD) {A : Args}

theorem div128 (h d : ℕ) (hd : d < 128) : (128 * h + d) / 128 = h := by omega

/-- The queries' gradient. -/
theorem final7 (H : Holds m c A) : (dats m 0 c).arrAt 7 cfg0.N
    = Ref.flat (Ref.overKeys (Ref.G (aq m c) (ak m c) (akv m c) (ac m c) (ag m c)) (Ref.hd (ak m c))) := by
  refine (dats m 0 c).arrAt_eq_of_covers 7 _ (by decide +kernel) fun t hf y => ?_
  have hm : t.val % 32 = 31 := (flush0_7 t).mp hf
  blk_simp
  rw [after0_7]
  have h0 : (y 0).val < 4096 := (y 0).isLt
  have h1 : (y 1).val < 128 := (y 1).isLt
  have ht := N_512 t
  have hy : y = ix2 (⟨(y 0).val, h0⟩ : Fin 4096) (⟨(y 1).val, h1⟩ : Fin 128) := by
    funext a; fin_cases a <;> rfl
  have he : (win0_7.blk t).view.emb y = ix2 (⟨(y 0).val, by omega⟩ : Fin 4096) (⟨128 * (t.val / 32) + (y 1).val, by omega⟩ : Fin 2048) := by
    funext a; apply Fin.ext
    fin_cases a <;> blk_simp [idx7 t] <;> simp [ix2] <;> omega
  rw [he, Ref.dq_real H]
  refine (congrArg (outsAt0 m c t.val t.isLt).1 hy).trans (((after_all m c H t.val t.isLt).q _ _).trans ?_)
  rw [full_q (A := A) t.val _ _ h0 hm]
  simp only [div128 _ _ h1]

/-- The keys' gradient. -/
theorem final9 (H : Holds m c A) : (dats m 0 c).arrAt 9 cfg0.N
    = Ref.flat (Ref.overQueries (Ref.G (aq m c) (ak m c) (akv m c) (ac m c) (ag m c)) (Ref.hd (aq m c))) := by
  refine (dats m 0 c).arrAt_eq_of_covers 9 _ (by decide +kernel) fun t hf y => ?_
  have hm : t.val % 4 = 3 := (flush0_9 t).mp hf
  blk_simp
  rw [after0_9]
  have h0 : (y 0).val < 512 := (y 0).isLt
  have h1 : (y 1).val < 128 := (y 1).isLt
  have ht := N_512 t
  have hy : y = ix2 (⟨(y 0).val, h0⟩ : Fin 512) (⟨(y 1).val, h1⟩ : Fin 128) := by
    funext a; fin_cases a <;> rfl
  have he : (win0_9.blk t).view.emb y = ix2 (⟨512 * (t.val / 4 % 8) + (y 0).val, by omega⟩ : Fin 4096) (⟨128 * (t.val / 32) + (y 1).val, by omega⟩ : Fin 2048) := by
    funext a; apply Fin.ext
    fin_cases a <;> blk_simp [idx9 t] <;> simp [ix2] <;> omega
  rw [he, Ref.dk_real H]
  rw [(copied m c t hm).1]
  refine (congrArg (outsAt0 m c t.val t.isLt).2.2.2.2.2.1 hy).trans (((after_all m c H t.val t.isLt).k _ _).trans ?_)
  rw [full_k (A := A) t.val _ _ hm]
  simp only [div128 _ _ h1]

/-- The values' gradient. -/
theorem final10 (H : Holds m c A) : (dats m 0 c).arrAt 10 cfg0.N
    = Ref.flat (Ref.dval (Ref.hd (ag m c)) (Ref.over (Ref.ex (Ref.S (aq m c) (ak m c) (ac m c))) (Ref.den (Ref.S (aq m c) (ak m c) (ac m c))))) := by
  refine (dats m 0 c).arrAt_eq_of_covers 10 _ (by decide +kernel) fun t hf y => ?_
  have hm : t.val % 4 = 3 := (flush0_10 t).mp hf
  blk_simp
  rw [after0_10]
  have h0 : (y 0).val < 512 := (y 0).isLt
  have h1 : (y 1).val < 128 := (y 1).isLt
  have ht := N_512 t
  have hy : y = ix2 (⟨(y 0).val, h0⟩ : Fin 512) (⟨(y 1).val, h1⟩ : Fin 128) := by
    funext a; fin_cases a <;> rfl
  have he : (win0_10.blk t).view.emb y = ix2 (⟨512 * (t.val / 4 % 8) + (y 0).val, by omega⟩ : Fin 4096) (⟨128 * (t.val / 32) + (y 1).val, by omega⟩ : Fin 2048) := by
    funext a; apply Fin.ext
    fin_cases a <;> blk_simp [idx10 t] <;> simp [ix2] <;> omega
  rw [he, Ref.dv_real H]
  rw [(copied m c t hm).2.1]
  refine (congrArg (outsAt0 m c t.val t.isLt).2.2.2.2.2.2.1 hy).trans (((after_all m c H t.val t.isLt).v _ _).trans ?_)
  rw [full_v (A := A) t.val _ _ hm]
  simp only [div128 _ _ h1]

/-- The row sums. -/
theorem final8 (H : Holds m c A) : (dats m 0 c).arrAt 8 cfg0.N = Ref.rowOut (Ref.G (aq m c) (ak m c) (akv m c) (ac m c) (ag m c)) := by
  refine (dats m 0 c).arrAt_eq_of_covers 8 _ (by decide +kernel) fun t hf y => ?_
  have hm : t.val % 32 = 31 := (flush0_8 t).mp hf
  blk_simp
  rw [after0_8]
  have h0 : (y 0).val < 1 := (y 0).isLt
  have h1 : (y 1).val < 4096 := (y 1).isLt
  have h2 : (y 2).val < 1 := (y 2).isLt
  have ht := N_512 t
  have hy : y = ix3 (0 : Fin 1) (⟨(y 1).val, h1⟩ : Fin 4096) (0 : Fin 1) := by
    funext a; apply Fin.ext
    fin_cases a
    · show (y 0).val = 0; omega
    · rfl
    · show (y 2).val = 0; omega
  have he : (win0_8.blk t).view.emb y = ix3 (⟨t.val / 32, by omega⟩ : Fin 16) (⟨(y 1).val, h1⟩ : Fin 4096) (0 : Fin 1) := by
    funext a; apply Fin.ext
    fin_cases a <;> blk_simp [idx8 t] <;> simp [ix3] <;> omega
  rw [he, Ref.dr_real H]
  refine (congrArg (outsAt0 m c t.val t.isLt).2.1 hy).trans (((after_all m c H t.val t.isLt).r _).trans ?_)
  rw [full_r (A := A) t.val _ h1 hm]

/-- The column sums. -/
theorem final11 (H : Holds m c A) : (dats m 0 c).arrAt 11 cfg0.N = Ref.colOut (Ref.G (aq m c) (ak m c) (akv m c) (ac m c) (ag m c)) := by
  refine (dats m 0 c).arrAt_eq_of_covers 11 _ (by decide +kernel) fun t hf y => ?_
  have hm : t.val % 4 = 3 := (flush0_11 t).mp hf
  blk_simp
  rw [after0_11]
  have h0 : (y 0).val < 1 := (y 0).isLt
  have h1 : (y 1).val < 1 := (y 1).isLt
  have h2 : (y 2).val < 512 := (y 2).isLt
  have ht := N_512 t
  have hy : y = ix3 (0 : Fin 1) (0 : Fin 1) (⟨(y 2).val, h2⟩ : Fin 512) := by
    funext a; apply Fin.ext
    fin_cases a
    · show (y 0).val = 0; omega
    · show (y 1).val = 0; omega
    · rfl
  have he : (win0_11.blk t).view.emb y = ix3 (⟨t.val / 32, by omega⟩ : Fin 16) (0 : Fin 1) (⟨512 * (t.val / 4 % 8) + (y 2).val, by omega⟩ : Fin 4096) := by
    funext a; apply Fin.ext
    fin_cases a <;> blk_simp [idx11 t] <;> simp [ix3] <;> omega
  rw [he, Ref.dc_real H]
  refine (congrArg (outsAt0 m c t.val t.isLt).2.2.2.2.1 hy).trans (((copied m c t hm).2.2 _).trans (((after_all m c H t.val t.isLt).c _).trans ?_))
  rw [full_c (A := A) t.val _ hm]

end Cert.Fox

end
-- ==== Proof.Lift.lean ====
/-
  Finite arguments are real arrays.
-/
module

public import proofs.«01_k».proof.Proof.RefValue
public import proofs.«01_k».proof.Proof.Gen.Pre_finite
public import Idealize.ShloMosaic.Lib.ReduceAll
public import Idealize.ShloMosaic.Lib.Affine

@[expose] public section

set_option maxRecDepth 16384

noncomputable section

open Idealize.ShloMosaic Idealize.ShloMosaic.StableHlo
open scoped BigOperators

namespace Cert.Fox.Lift

abbrev S_ : Shape := ⟨0, ![]⟩

theorem inf_bits : Ideal.ofBits .f32 0x7F800000#32 = (⊤ : EReal) := by simp [Ideal.ofBits, Ideal.ieee]

/-- An extended real whose magnitude is below infinity is a real number. -/
theorem real_of_abs (a : EReal) (h : Ideal.cmp .olt (max a (-a)) ⊤ = 1#1) : a = ((a.toReal : ℝ) : EReal) := by
  have h' : max a (-a) < ⊤ := by
    by_contra hn
    simp [Ideal.cmp, hn] at h
  refine (EReal.coe_toReal ?_ ?_).symm
  · rintro rfl; simp at h'
  · rintro rfl; simp at h'

/-- An array whose finiteness test is one at an index is a real number there. -/
theorem real_at {s : Shape} (x : FVec Ideal s .f32) (hb : S_.BroadcastsInDim s ![]) (i : s.Idx)
    (h : cmpf .olt (Host.absf x) (broadcastInDim s ![] hb (constant (F := Ideal) S_ .f32 0x7F800000#32)) i = 1#1) :
    x i = (((x i : EReal).toReal : ℝ) : EReal) := by
  apply real_of_abs
  rw [← inf_bits]
  exact h

/-- An array whose test over all its entries is one is real everywhere. -/
theorem real_all {s : Shape} {axes : List (Fin s.rank)} (x : FVec Ideal s .f32) (hb : S_.BroadcastsInDim s ![]) (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : x i = (((x i : EReal).toReal : ℝ) : EReal) :=
  haveI : Subsingleton S_.Idx := ⟨fun a b => funext fun k => k.elim0⟩
  real_at x hb i (Host.reduce_andi_all _ _ _ _ j h i)

/-- The real array of a matrix, nought out of its range. -/
def arr {n k : ℕ} {φ : FTy} (x : FVec Ideal ⟨2, ![n, k]⟩ φ) (i j : ℕ) : ℝ :=
  if h : i < n ∧ j < k then EReal.toReal (x (ix2 (⟨i, h.1⟩ : Fin n) (⟨j, h.2⟩ : Fin k)) : EReal) else 0
/-- The real array of the second half of a pair of matrices. -/
def arr1 {n k : ℕ} {φ : FTy} (x : FVec Ideal ⟨3, ![2, n, k]⟩ φ) (i j : ℕ) : ℝ :=
  if h : i < n ∧ j < k then EReal.toReal (x (ix3 (1 : Fin 2) (⟨i, h.1⟩ : Fin n) (⟨j, h.2⟩ : Fin k)) : EReal) else 0

theorem arr_val {n k : ℕ} {φ : FTy} (x : FVec Ideal ⟨2, ![n, k]⟩ φ) (i : Fin n) (j : Fin k) : arr x i.val j.val = EReal.toReal (x (ix2 i j) : EReal) :=
  dif_pos ⟨i.isLt, j.isLt⟩
theorem arr1_val {n k : ℕ} {φ : FTy} (x : FVec Ideal ⟨3, ![2, n, k]⟩ φ) (i : Fin n) (j : Fin k) : arr1 x i.val j.val = EReal.toReal (x (ix3 1 i j) : EReal) :=
  dif_pos ⟨i.isLt, j.isLt⟩

/-- Finite arguments are some real arrays. -/
theorem args_of_finite (q k : FVec Ideal ⟨2, ![4096, 2048]⟩ .bf16) (kv : FVec Ideal ⟨3, ![2, 4096, 2048]⟩ .bf16)
    (c : FVec Ideal ⟨2, ![4096, 16]⟩ .f32) (g : FVec Ideal ⟨2, ![4096, 2048]⟩ .bf16)
    (h : Cert.Pre_finite.fn (F := Ideal) q k kv c g = fun _ => 1#1) : ∃ A : Args, ArgsAre A q k kv c g := by
  have j : S_.Idx := fun a => a.elim0
  have h' := congrFun h j
  unfold Cert.Pre_finite.fn Cert.Pre_finite.fn_part1 at h'
  dsimp only at h'
  obtain ⟨h1, hg⟩ := IntOp.andi_eq_one.mp h'
  obtain ⟨h2, hc⟩ := IntOp.andi_eq_one.mp h1
  obtain ⟨h3, hv⟩ := IntOp.andi_eq_one.mp h2
  obtain ⟨hq, hk⟩ := IntOp.andi_eq_one.mp h3
  have rq := real_all _ _ _ _ j hq
  have rk := real_all _ _ _ _ j hk
  have rv := real_all _ _ _ _ j hv
  have rc := real_all _ _ _ _ j hc
  have rg := real_all _ _ _ _ j hg
  refine ⟨⟨arr q, arr k, arr1 kv, arr c, arr g⟩, ?_, ?_, ?_, ?_, ?_⟩
  · intro i d
    refine Eq.trans ?_ (congrArg _ (arr_val q i d).symm)
    exact rq (ix2 i d)
  · intro i d
    refine Eq.trans ?_ (congrArg _ (arr_val k i d).symm)
    exact rk (ix2 i d)
  · intro i d
    refine Eq.trans ?_ (congrArg _ (arr1_val kv i d).symm)
    have e : ∀ (hs) (hc), shapeCast Cert.Pre_finite.S4096x2048 (extractStridedSlice Cert.Pre_finite.S1x4096x2048 ![1, 0, 0] kv hs) hc (ix2 i d) = kv (ix3 1 i d) := by
      intro hs hc
      pointwise
    have r := rv (ix2 i d)
    rw [extf_apply, e] at r
    exact r
  · intro i d
    refine Eq.trans ?_ (congrArg _ (arr_val c i d).symm)
    exact rc (ix2 i d)
  · intro i d
    refine Eq.trans ?_ (congrArg _ (arr_val g i d).symm)
    exact rg (ix2 i d)

end Cert.Fox.Lift

end
-- ==== Proof.RefSeq.lean ====
/-
  The reference program as a straight line of host operations in seven stretches, and what its results hold.
-/
module

public import proofs.«01_k».proof.Proof.RefValue
public import Idealize.ShloMosaic.Lib.StableHlo.RunHlo

@[expose] public section

set_option maxRecDepth 16384

noncomputable section

open Idealize.ShloMosaic Idealize.ShloMosaic.TcCoe Idealize.SL.Sem Idealize.ShloMosaic.StableHlo
open Cert.ReferenceIdeal Cert.ReferenceIdeal.Gen
open scoped BigOperators

namespace Cert.Fox.Ref

variable {F : FTy → Type} [FloatOps F]

/-- A single operation is its own line. -/
theorem isSeq_last (op : HloOp τ sig (Elt F)) :
    IsSeq ((hlo rfl op fun _ => .ret (⟨⟩ : PUnit)) : Prog (TpuEff nD τ sig (Elt F) (Pipeline.Sig Λ₀ (Fin 0) fun p => (pcfgs (F := F) p).Adm) .tc) PUnit) [op] := rfl

/-- Two lines one after the other. -/
theorem isSeq_app {p q : Prog (TpuEff nD τ sig (Elt F) (Pipeline.Sig Λ₀ (Fin 0) fun p => (pcfgs (F := F) p).Adm) .tc) PUnit}
    {l₁ l₂ : List (HloOp τ sig (Elt F))} (hp : IsSeq p l₁) (hq : IsSeq q l₂) : IsSeq (p >>= fun _ => q) (l₁ ++ l₂) := by
  unfold IsSeq at hp hq ⊢
  rw [hp, hq, seq_append]

/-- What a line leaves, in two parts. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- Stretch 1 of the operations. -/
abbrev L1 : List (HloOp τ sig (Elt F)) :=
  [ unary main_arg3 main_v0 ((transpose S16x4096 [1, 0] · transposes_S4096x16_S16x4096_1_0) : (⟨S4096x16, .f32⟩ : BufTy).Contents (Elt F) → (⟨S16x4096, .f32⟩ : BufTy).Contents (Elt F)),
    unary main_v0 main_v1 (broadcastInDim S16x4096x1 ![0, 1] bcast_S16x4096_S16x4096x1_0_1 : (⟨S16x4096, .f32⟩ : BufTy).Contents (Elt F) → (⟨S16x4096x1, .f32⟩ : BufTy).Contents (Elt F)),
    unary main_arg3 main_v2 ((transpose S16x4096 [1, 0] · transposes_S4096x16_S16x4096_1_0) : (⟨S4096x16, .f32⟩ : BufTy).Contents (Elt F) → (⟨S16x4096, .f32⟩ : BufTy).Contents (Elt F)),
    unary main_v2 main_v3 (broadcastInDim S16x1x4096 ![0, 2] bcast_S16x4096_S16x1x4096_0_2 : (⟨S16x4096, .f32⟩ : BufTy).Contents (Elt F) → (⟨S16x1x4096, .f32⟩ : BufTy).Contents (Elt F)),
    unary main_arg0 main_v4 ((extf .f32 · bitsLt_bf16_f32) : (⟨S4096x2048, .bf16⟩ : BufTy).Contents (Elt F) → (⟨S4096x2048, .f32⟩ : BufTy).Contents (Elt F)),
    reshape main_v4 main_v5 (rfl : (.f32 : EltTy) = .f32) shapeCasts_S4096x2048_S4096x16x128,
    unary main_v5 main_v6 ((transpose S16x4096x128 [1, 0, 2] · transposes_S4096x16x128_S16x4096x128_1_0_2) : (⟨S4096x16x128, .f32⟩ : BufTy).Contents (Elt F) → (⟨S16x4096x128, .f32⟩ : BufTy).Contents (Elt F)),
    unary main_arg1 main_v7 ((extf .f32 · bitsLt_bf16_f32) : (⟨S4096x2048, .bf16⟩ : BufTy).Contents (Elt F) → (⟨S4096x2048, .f32⟩ : BufTy).Contents (Elt F)),
    reshape main_v7 main_v8 (rfl : (.f32 : EltTy) = .f32) shapeCasts_S4096x2048_S4096x16x128,
    unary main_v8 main_v9 ((transpose S16x4096x128 [1, 0, 2] · transposes_S4096x16x128_S16x4096x128_1_0_2) : (⟨S4096x16x128, .f32⟩ : BufTy).Contents (Elt F) → (⟨S16x4096x128, .f32⟩ : BufTy).Contents (Elt F)),
    unary main_arg2 main_v10 ((extractStridedSlice S1x4096x2048 ![1, 0, 0] · slices_S2x4096x2048_S1x4096x2048_1_0_0) : (⟨S2x4096x2048, .bf16⟩ : BufTy).Contents (Elt F) → (⟨S1x4096x2048, .bf16⟩ : BufTy).Contents (Elt F)),
    reshape main_v10 main_v11 (rfl : (.bf16 : EltTy) = .bf16) shapeCasts_S1x4096x2048_S4096x2048,
    unary main_v11 main_v12 ((extf .f32 · bitsLt_bf16_f32) : (⟨S4096x2048, .bf16⟩ : BufTy).Contents (Elt F) → (⟨S4096x2048, .f32⟩ : BufTy).Contents (Elt F)),
    reshape main_v12 main_v13 (rfl : (.f32 : EltTy) = .f32) shapeCasts_S4096x2048_S4096x16x128,
    unary main_v13 main_v14 ((transpose S16x4096x128 [1, 0, 2] · transposes_S4096x16x128_S16x4096x128_1_0_2) : (⟨S4096x16x128, .f32⟩ : BufTy).Contents (Elt F) → (⟨S16x4096x128, .f32⟩ : BufTy).Contents (Elt F)),
    binary main_v6 main_v9 main_v15 ((fun l r => Host.dotGeneral dot_S16x4096x128_S16x4096x128_S16x4096x4096_2_2_1_1_0_0 none l r) : (⟨S16x4096x128, .f32⟩ : BufTy).Contents (Elt F) → (⟨S16x4096x128, .f32⟩ : BufTy).Contents (Elt F) → (⟨S16x4096x4096, .f32⟩ : BufTy).Contents (Elt F)),
    unary main_v1 main_v16 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v15 main_v16 main_v17 (addf : (⟨S16x4096x4096, .f32⟩ : BufTy).Contents (Elt F) → (⟨S16x4096x4096, .f32⟩ : BufTy).Contents (Elt F) → (⟨S16x4096x4096, .f32⟩ : BufTy).Contents (Elt F)),
    unary main_v3 main_v18 (broadcastInDim S16x4096x4096 ![0, 1, 2] bcast_S16x1x4096_S16x4096x4096_0_1_2 : (⟨S16x1x4096, .f32⟩ : BufTy).Contents (Elt F) → (⟨S16x4096x4096, .f32⟩ : BufTy).Contents (Elt F)),
    binary main_v17 main_v18 main_v19 (subf : (⟨S16x4096x4096, .f32⟩ : BufTy).Contents (Elt F) → (⟨S16x4096x4096, .f32⟩ : BufTy).Contents (Elt F) → (⟨S16x4096x4096, .f32⟩ : BufTy).Contents (Elt F)) ]

/-- Stretch 2 of the operations. -/
abbrev L2 : List (HloOp τ sig (Elt F)) :=
  [ nullary main_v20 (iotaInDim S4096 32 0),
    unary main_v20 main_v21 (broadcastInDim S4096x1 ![0] bcast_S4096_S4096x1_0 : (⟨S4096, .i32⟩ : BufTy).Contents (Elt F) → (⟨S4096x1, .i32⟩ : BufTy).Contents (Elt F)),
    nullary main_v22 (iotaInDim S4096 32 0),
    unary main_v22 main_v23 (broadcastInDim S1x4096 ![1] bcast_S4096_S1x4096_1 : (⟨S4096, .i32⟩ : BufTy).Contents (Elt F) → (⟨S1x4096, .i32⟩ : BufTy).Contents (Elt F)),
    unary main_v21 main_v24 (broadcastInDim S4096x4096 ![0, 1] bcast_S4096x1_S4096x4096_0_1 : (⟨S4096x1, .i32⟩ : BufTy).Contents (Elt F) → (⟨S4096x4096, .i32⟩ : BufTy).Contents (Elt F)),
    unary main_v23 main_v25 (broadcastInDim S4096x4096 ![0, 1] bcast_S1x4096_S4096x4096_0_1 : (⟨S1x4096, .i32⟩ : BufTy).Contents (Elt F) → (⟨S4096x4096, .i32⟩ : BufTy).Contents (Elt F)),
    binary main_v24 main_v25 main_v26 (cmpi .sge : (⟨S4096x4096, .i32⟩ : BufTy).Contents (Elt F) → (⟨S4096x4096, .i32⟩ : BufTy).Contents (Elt F) → (⟨S4096x4096, .i1⟩ : BufTy).Contents (Elt F)),
    nullary main_cst (constant S_ .f32 0xFF800000#32),
    TRef.unary (TRef.of (T := ⟨S_, .f32⟩) main_cst) (TRef.of (T := ⟨S_, .f32⟩) main_call0_v0) id,
    TRef.unary (TRef.of (T := ⟨S4096x4096, .i1⟩) main_v26) (TRef.of (T := ⟨S16x4096x4096, .i1⟩) main_v27_1) (broadcastInDim S16x4096x4096 ![1, 2] bcast_S4096x4096_S16x4096x4096_1_2),
    TRef.unary (TRef.of (T := ⟨S_, .f32⟩) main_call0_v0) (TRef.of (T := ⟨S16x4096x4096, .f32⟩) main_call0_v2) (broadcastInDim S16x4096x4096 ![] bcast_S_S16x4096x4096),
    TRef.ternary (TRef.of (T := ⟨S16x4096x4096, .i1⟩) main_v27_1) (TRef.of (T := ⟨S16x4096x4096, .f32⟩) main_v19) (TRef.of (T := ⟨S16x4096x4096, .f32⟩) main_call0_v2) (TRef.of (T := ⟨S16x4096x4096, .f32⟩) main_v27_0) select,
    TRef.nullary (TRef.of (T := ⟨S_, .f32⟩) main_call0_cst) (constant S_ .f32 0x00000000#32),
    TRef.unary (TRef.of (T := ⟨S_, .f32⟩) main_call0_cst) (TRef.of (T := ⟨S16x4096x4096, .f32⟩) main_v27_2) (broadcastInDim S16x4096x4096 ![] bcast_S_S16x4096x4096) ]

/-- Stretch 3 of the operations. -/
abbrev L3 : List (HloOp τ sig (Elt F)) :=
  [ nullary main_cst_0 (constant S_ .f32 0xFF800000#32),
    binary main_v27_0 main_cst_0 main_v28 ((fun x v => Host.reduce FloatOps.maximumf x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)),
    reshape main_v28 main_v29 (rfl : (.f32 : EltTy) = .f32) shapeCasts_S16x4096_S16x4096x1,
    unary main_v29 main_v30 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v27_0 main_v30 main_v31 (cmpf .oeq : (⟨S16x4096x4096, .f32⟩ : BufTy).Contents (Elt F) → (⟨S16x4096x4096, .f32⟩ : BufTy).Contents (Elt F) → (⟨S16x4096x4096, .i1⟩ : BufTy).Contents (Elt F)),
    unary main_v31 main_v32 (uitofp .f32 : (⟨S16x4096x4096, .i1⟩ : BufTy).Contents (Elt F) → (⟨S16x4096x4096, .f32⟩ : BufTy).Contents (Elt F)),
    nullary main_cst_1 (constant S_ .f32 0x00000000#32),
    binary main_v32 main_cst_1 main_v33 ((fun x v => Host.reduceAdd x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)),
    nullary main_cst_2 (constant S_ .f32 0xFF800000#32),
    unary main_cst_2 main_v34 (broadcastInDim S16x4096 ![] bcast_S_S16x4096 : (⟨S_, .f32⟩ : BufTy).Contents (Elt F) → (⟨S16x4096, .f32⟩ : BufTy).Contents (Elt F)),
    binary main_v34 main_v28 main_v35 (maximumf : (⟨S16x4096, .f32⟩ : BufTy).Contents (Elt F) → (⟨S16x4096, .f32⟩ : BufTy).Contents (Elt F) → (⟨S16x4096, .f32⟩ : BufTy).Contents (Elt F)),
    nullary main_cst_3 (constant S_ .f32 0xFF800000#32),
    unary main_cst_3 main_v36 (broadcastInDim S16x4096 ![] bcast_S_S16x4096 : (⟨S_, .f32⟩ : BufTy).Contents (Elt F) → (⟨S16x4096, .f32⟩ : BufTy).Contents (Elt F)),
    binary main_v28 main_v36 main_v37 (cmpf .ogt : (⟨S16x4096, .f32⟩ : BufTy).Contents (Elt F) → (⟨S16x4096, .f32⟩ : BufTy).Contents (Elt F) → (⟨S16x4096, .i1⟩ : BufTy).Contents (Elt F)),
    nullary main_cst_4 (constant S_ .f32 0xFF800000#32),
    unary main_cst_4 main_v38 (broadcastInDim S16x4096 ![] bcast_S_S16x4096 : (⟨S_, .f32⟩ : BufTy).Contents (Elt F) → (⟨S16x4096, .f32⟩ : BufTy).Contents (Elt F)),
    binary main_v28 main_v38 main_v39 (cmpf .oeq : (⟨S16x4096, .f32⟩ : BufTy).Contents (Elt F) → (⟨S16x4096, .f32⟩ : BufTy).Contents (Elt F) → (⟨S16x4096, .i1⟩ : BufTy).Contents (Elt F)),
    nullary main_cst_5 (constant S_ .f32 0x3F800000#32),
    unary main_cst_5 main_v40 (broadcastInDim S16x4096 ![] bcast_S_S16x4096 : (⟨S_, .f32⟩ : BufTy).Contents (Elt F) → (⟨S16x4096, .f32⟩ : BufTy).Contents (Elt F)),
    nullary main_cst_6 (constant S_ .f32 0x00000000#32),
    unary main_cst_6 main_v41 (broadcastInDim S16x4096 ![] bcast_S_S16x4096 : (⟨S_, .f32⟩ : BufTy).Contents (Elt F) → (⟨S16x4096, .f32⟩ : BufTy).Contents (Elt F)),
    nullary main_cst_7 (constant S_ .f32 0x3F000000#32),
    unary main_cst_7 main_v42 (broadcastInDim S16x4096 ![] bcast_S_S16x4096 : (⟨S_, .f32⟩ : BufTy).Contents (Elt F) → (⟨S16x4096, .f32⟩ : BufTy).Contents (Elt F)),
    ternary main_v39 main_v42 main_v41 main_v43 (select : (⟨S16x4096, .i1⟩ : BufTy).Contents (Elt F) → (⟨S16x4096, .f32⟩ : BufTy).Contents (Elt F) → (⟨S16x4096, .f32⟩ : BufTy).Contents (Elt F) → (⟨S16x4096, .f32⟩ : BufTy).Contents (Elt F)),
    ternary main_v37 main_v40 main_v43 main_v44 (select : (⟨S16x4096, .i1⟩ : BufTy).Contents (Elt F) → (⟨S16x4096, .f32⟩ : BufTy).Contents (Elt F) → (⟨S16x4096, .f32⟩ : BufTy).Contents (Elt F) → (⟨S16x4096, .f32⟩ : BufTy).Contents (Elt F)),
    unary main_v35 main_v45 (broadcastInDim S16x4096x1 ![0, 1] bcast_S16x4096_S16x4096x1_0_1 : (⟨S16x4096, .f32⟩ : BufTy).Contents (Elt F) → (⟨S16x4096x1, .f32⟩ : BufTy).Contents (Elt F)),
    unary main_v45 main_v46 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v27_0 main_v46 main_v47 (subf : (⟨S16x4096x4096, .f32⟩ : BufTy).Contents (Elt F) → (⟨S16x4096x4096, .f32⟩ : BufTy).Contents (Elt F) → (⟨S16x4096x4096, .f32⟩ : BufTy).Contents (Elt F)),
    unary main_v47 main_v48 (Host.exp : (⟨S16x4096x4096, .f32⟩ : BufTy).Contents (Elt F) → (⟨S16x4096x4096, .f32⟩ : BufTy).Contents (Elt F)),
    nullary main_cst_8 (constant S_ .f32 0x00000000#32),
    binary main_v48 main_cst_8 main_v49 ((fun x v => Host.reduceAdd x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)) ]

/-- Stretch 4 of the operations. -/
abbrev L4 : List (HloOp τ sig (Elt F)) :=
  [ unary main_v49 main_v50 (broadcastInDim S16x4096x1 ![0, 1] bcast_S16x4096_S16x4096x1_0_1 : (⟨S16x4096, .f32⟩ : BufTy).Contents (Elt F) → (⟨S16x4096x1, .f32⟩ : BufTy).Contents (Elt F)),
    unary main_v50 main_v51 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v48 main_v51 main_v52 (Host.divf : (⟨S16x4096x4096, .f32⟩ : BufTy).Contents (Elt F) → (⟨S16x4096x4096, .f32⟩ : BufTy).Contents (Elt F) → (⟨S16x4096x4096, .f32⟩ : BufTy).Contents (Elt F)),
    binary main_v50 main_v50 main_v53 (mulf : (⟨S16x4096x1, .f32⟩ : BufTy).Contents (Elt F) → (⟨S16x4096x1, .f32⟩ : BufTy).Contents (Elt F) → (⟨S16x4096x1, .f32⟩ : BufTy).Contents (Elt F)),
    nullary main_cst_9 (constant S_ .f32 0x3F800000#32),
    unary main_cst_9 main_v54 (broadcastInDim S16x4096x1 ![] bcast_S_S16x4096x1 : (⟨S_, .f32⟩ : BufTy).Contents (Elt F) → (⟨S16x4096x1, .f32⟩ : BufTy).Contents (Elt F)),
    binary main_v54 main_v53 main_v55 (Host.divf : (⟨S16x4096x1, .f32⟩ : BufTy).Contents (Elt F) → (⟨S16x4096x1, .f32⟩ : BufTy).Contents (Elt F) → (⟨S16x4096x1, .f32⟩ : BufTy).Contents (Elt F)),
    binary main_v52 main_v14 main_v56 ((fun l r => Host.dotGeneral dot_S16x4096x4096_S16x4096x128_S16x4096x128_2_1_1_2_0_0 none l r) : (⟨S16x4096x4096, .f32⟩ : BufTy).Contents (Elt F) → (⟨S16x4096x128, .f32⟩ : BufTy).Contents (Elt F) → (⟨S16x4096x128, .f32⟩ : BufTy).Contents (Elt F)),
    unary main_arg4 main_v57 ((extf .f32 · bitsLt_bf16_f32) : (⟨S4096x2048, .bf16⟩ : BufTy).Contents (Elt F) → (⟨S4096x2048, .f32⟩ : BufTy).Contents (Elt F)),
    reshape main_v57 main_v58 (rfl : (.f32 : EltTy) = .f32) shapeCasts_S4096x2048_S4096x16x128,
    unary main_v58 main_v59 ((transpose S16x4096x128 [1, 0, 2] · transposes_S4096x16x128_S16x4096x128_1_0_2) : (⟨S4096x16x128, .f32⟩ : BufTy).Contents (Elt F) → (⟨S16x4096x128, .f32⟩ : BufTy).Contents (Elt F)),
    binary main_v59 main_v52 main_v60 ((fun l r => Host.dotGeneral dot_S16x4096x128_S16x4096x4096_S16x128x4096_1_1_2_2_0_0 none l r) : (⟨S16x4096x128, .f32⟩ : BufTy).Contents (Elt F) → (⟨S16x4096x4096, .f32⟩ : BufTy).Contents (Elt F) → (⟨S16x128x4096, .f32⟩ : BufTy).Contents (Elt F)),
    unary main_v60 main_v61 ((transpose S16x4096x128 [0, 2, 1] · transposes_S16x128x4096_S16x4096x128_0_2_1) : (⟨S16x128x4096, .f32⟩ : BufTy).Contents (Elt F) → (⟨S16x4096x128, .f32⟩ : BufTy).Contents (Elt F)),
    binary main_v59 main_v14 main_v62 ((fun l r => Host.dotGeneral dot_S16x4096x128_S16x4096x128_S16x4096x4096_2_2_1_1_0_0 none l r) : (⟨S16x4096x128, .f32⟩ : BufTy).Contents (Elt F) → (⟨S16x4096x128, .f32⟩ : BufTy).Contents (Elt F) → (⟨S16x4096x4096, .f32⟩ : BufTy).Contents (Elt F)) ]

/-- Stretch 5 of the operations. -/
abbrev L5 : List (HloOp τ sig (Elt F)) :=
  [ unary main_v55 main_v63 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v62 main_v63 main_v64 (mulf : (⟨S16x4096x4096, .f32⟩ : BufTy).Contents (Elt F) → (⟨S16x4096x4096, .f32⟩ : BufTy).Contents (Elt F) → (⟨S16x4096x4096, .f32⟩ : BufTy).Contents (Elt F)),
    binary main_v64 main_v48 main_v65 (mulf : (⟨S16x4096x4096, .f32⟩ : BufTy).Contents (Elt F) → (⟨S16x4096x4096, .f32⟩ : BufTy).Contents (Elt F) → (⟨S16x4096x4096, .f32⟩ : BufTy).Contents (Elt F)),
    nullary main_cst_10 (constant S_ .f32 0x00000000#32),
    binary main_v65 main_cst_10 main_v66 ((fun x v => Host.reduceAdd x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)),
    reshape main_v66 main_v67 (rfl : (.f32 : EltTy) = .f32) shapeCasts_S16x4096_S16x4096x1,
    unary main_v67 main_v68 (Host.negf : (⟨S16x4096x1, .f32⟩ : BufTy).Contents (Elt F) → (⟨S16x4096x1, .f32⟩ : BufTy).Contents (Elt F)),
    unary main_v50 main_v69 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v62 main_v69 main_v70 (Host.divf : (⟨S16x4096x4096, .f32⟩ : BufTy).Contents (Elt F) → (⟨S16x4096x4096, .f32⟩ : BufTy).Contents (Elt F) → (⟨S16x4096x4096, .f32⟩ : BufTy).Contents (Elt F)),
    nullary main_cst_11 (constant S_ .f32 0x00000000#32),
    binary main_v68 main_cst_11 main_v71 ((fun x v => Host.reduceAdd x v reducesTo_S16x4096x1_S16x4096_d2 h_S_) : (⟨S16x4096x1, .f32⟩ : BufTy).Contents (Elt F) → (⟨S_, .f32⟩ : BufTy).Contents (Elt F) → (⟨S16x4096, .f32⟩ : BufTy).Contents (Elt F)),
    unary main_v71 main_v72 (broadcastInDim S16x4096x4096 ![0, 1] bcast_S16x4096_S16x4096x4096_0_1 : (⟨S16x4096, .f32⟩ : BufTy).Contents (Elt F) → (⟨S16x4096x4096, .f32⟩ : BufTy).Contents (Elt F)),
    binary main_v70 main_v72 main_v73 (addf : (⟨S16x4096x4096, .f32⟩ : BufTy).Contents (Elt F) → (⟨S16x4096x4096, .f32⟩ : BufTy).Contents (Elt F) → (⟨S16x4096x4096, .f32⟩ : BufTy).Contents (Elt F)),
    binary main_v73 main_v48 main_v74 (mulf : (⟨S16x4096x4096, .f32⟩ : BufTy).Contents (Elt F) → (⟨S16x4096x4096, .f32⟩ : BufTy).Contents (Elt F) → (⟨S16x4096x4096, .f32⟩ : BufTy).Contents (Elt F)) ]

/-- Stretch 6 of the operations. -/
abbrev L6 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S16x4096x4096, .f32⟩) main_call1_v0) (broadcastInDim S16x4096x4096 ![] bcast_S_S16x4096x4096),
    TRef.ternary (TRef.of (T := ⟨S16x4096x4096, .i1⟩) main_v27_1) (TRef.of (T := ⟨S16x4096x4096, .f32⟩) main_v74) (TRef.of (T := ⟨S16x4096x4096, .f32⟩) main_call1_v0) (TRef.of (T := ⟨S16x4096x4096, .f32⟩) main_v75) select ]

/-- Stretch 7 of the operations. -/
abbrev L7 : List (HloOp τ sig (Elt F)) :=
  [ unary main_v75 main_v76 (Host.negf : (⟨S16x4096x4096, .f32⟩ : BufTy).Contents (Elt F) → (⟨S16x4096x4096, .f32⟩ : BufTy).Contents (Elt F)),
    nullary main_cst_12 (constant S_ .f32 0x00000000#32),
    binary main_v76 main_cst_12 main_v77 ((fun x v => Host.reduceAdd x v reducesTo_S16x4096x4096_S16x4096_d1 h_S_) : (⟨S16x4096x4096, .f32⟩ : BufTy).Contents (Elt F) → (⟨S_, .f32⟩ : BufTy).Contents (Elt F) → (⟨S16x4096, .f32⟩ : BufTy).Contents (Elt F)),
    reshape main_v77 main_v78 (rfl : (.f32 : EltTy) = .f32) shapeCasts_S16x4096_S16x1x4096,
    nullary main_cst_13 (constant S_ .f32 0x00000000#32),
    binary main_v75 main_cst_13 main_v79 ((fun x v => Host.reduceAdd x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)),
    reshape main_v79 main_v80 (rfl : (.f32 : EltTy) = .f32) shapeCasts_S16x4096_S16x4096x1,
    binary main_v75 main_v6 main_v81 ((fun l r => Host.dotGeneral dot_S16x4096x4096_S16x4096x128_S16x4096x128_1_1_2_2_0_0 none l r) : (⟨S16x4096x4096, .f32⟩ : BufTy).Contents (Elt F) → (⟨S16x4096x128, .f32⟩ : BufTy).Contents (Elt F) → (⟨S16x4096x128, .f32⟩ : BufTy).Contents (Elt F)),
    binary main_v75 main_v9 main_v82 ((fun l r => Host.dotGeneral dot_S16x4096x4096_S16x4096x128_S16x4096x128_2_1_1_2_0_0 none l r) : (⟨S16x4096x4096, .f32⟩ : BufTy).Contents (Elt F) → (⟨S16x4096x128, .f32⟩ : BufTy).Contents (Elt F) → (⟨S16x4096x128, .f32⟩ : BufTy).Contents (Elt F)),
    unary main_v82 main_v83 ((transpose S4096x16x128 [1, 0, 2] · transposes_S16x4096x128_S4096x16x128_1_0_2) : (⟨S16x4096x128, .f32⟩ : BufTy).Contents (Elt F) → (⟨S4096x16x128, .f32⟩ : BufTy).Contents (Elt F)),
    reshape main_v83 main_v84 (rfl : (.f32 : EltTy) = .f32) shapeCasts_S4096x16x128_S4096x2048,
    unary main_v81 main_v85 ((transpose S4096x16x128 [1, 0, 2] · transposes_S16x4096x128_S4096x16x128_1_0_2) : (⟨S16x4096x128, .f32⟩ : BufTy).Contents (Elt F) → (⟨S4096x16x128, .f32⟩ : BufTy).Contents (Elt F)),
    reshape main_v85 main_v86 (rfl : (.f32 : EltTy) = .f32) shapeCasts_S4096x16x128_S4096x2048,
    unary main_v61 main_v87 ((transpose S4096x16x128 [1, 0, 2] · transposes_S16x4096x128_S4096x16x128_1_0_2) : (⟨S16x4096x128, .f32⟩ : BufTy).Contents (Elt F) → (⟨S4096x16x128, .f32⟩ : BufTy).Contents (Elt F)),
    reshape main_v87 main_v88 (rfl : (.f32 : EltTy) = .f32) shapeCasts_S4096x16x128_S4096x2048,
    unary main_v78 main_v89 (Host.negf : (⟨S16x1x4096, .f32⟩ : BufTy).Contents (Elt F) → (⟨S16x1x4096, .f32⟩ : BufTy).Contents (Elt F)) ]

variable {k : Prog (TpuEff nD τ sig (Elt F) (Pipeline.Sig Λ₀ (Fin 0) fun p => (pcfgs (F := F) p).Adm) .tc) PUnit} {l : List (HloOp τ sig (Elt F))}

/-- The first masked select, then a line. -/
theorem where_cons (h : IsSeq k l) : IsSeq (fn_where.body (F := F) (.of main_v26) (.of main_v19) (.of main_cst) main_call0 >>= fun _ => k)
    (TRef.unary (TRef.of (T := ⟨S_, .f32⟩) main_cst) (TRef.of (T := ⟨S_, .f32⟩) main_call0_v0) id ::
      TRef.unary (TRef.of (T := ⟨S4096x4096, .i1⟩) main_v26) (TRef.of (T := ⟨S16x4096x4096, .i1⟩) main_v27_1) (broadcastInDim S16x4096x4096 ![1, 2] bcast_S4096x4096_S16x4096x4096_1_2) ::
      TRef.unary (TRef.of (T := ⟨S_, .f32⟩) main_call0_v0) (TRef.of (T := ⟨S16x4096x4096, .f32⟩) main_call0_v2) (broadcastInDim S16x4096x4096 ![] bcast_S_S16x4096x4096) ::
      TRef.ternary (TRef.of (T := ⟨S16x4096x4096, .i1⟩) main_v27_1) (TRef.of (T := ⟨S16x4096x4096, .f32⟩) main_v19) (TRef.of (T := ⟨S16x4096x4096, .f32⟩) main_call0_v2) (TRef.of (T := ⟨S16x4096x4096, .f32⟩) main_v27_0) select ::
      TRef.nullary (TRef.of (T := ⟨S_, .f32⟩) main_call0_cst) (constant S_ .f32 0x00000000#32) ::
      TRef.unary (TRef.of (T := ⟨S_, .f32⟩) main_call0_cst) (TRef.of (T := ⟨S16x4096x4096, .f32⟩) main_v27_2) (broadcastInDim S16x4096x4096 ![] bcast_S_S16x4096x4096) :: l) := by
  have e : IsSeq (fn_where.body (F := F) (.of main_v26) (.of main_v19) (.of main_cst) main_call0) [TRef.unary (TRef.of (T := ⟨S_, .f32⟩) main_cst) (TRef.of (T := ⟨S_, .f32⟩) main_call0_v0) id,
      TRef.unary (TRef.of (T := ⟨S4096x4096, .i1⟩) main_v26) (TRef.of (T := ⟨S16x4096x4096, .i1⟩) main_v27_1) (broadcastInDim S16x4096x4096 ![1, 2] bcast_S4096x4096_S16x4096x4096_1_2),
      TRef.unary (TRef.of (T := ⟨S_, .f32⟩) main_call0_v0) (TRef.of (T := ⟨S16x4096x4096, .f32⟩) main_call0_v2) (broadcastInDim S16x4096x4096 ![] bcast_S_S16x4096x4096),
      TRef.ternary (TRef.of (T := ⟨S16x4096x4096, .i1⟩) main_v27_1) (TRef.of (T := ⟨S16x4096x4096, .f32⟩) main_v19) (TRef.of (T := ⟨S16x4096x4096, .f32⟩) main_call0_v2) (TRef.of (T := ⟨S16x4096x4096, .f32⟩) main_v27_0) select,
      TRef.nullary (TRef.of (T := ⟨S_, .f32⟩) main_call0_cst) (constant S_ .f32 0x00000000#32),
      TRef.unary (TRef.of (T := ⟨S_, .f32⟩) main_call0_cst) (TRef.of (T := ⟨S16x4096x4096, .f32⟩) main_v27_2) (broadcastInDim S16x4096x4096 ![] bcast_S_S16x4096x4096)] := by
    unfold fn_where.body
    iterate 6 refine IsSeq.cons ?_
    exact IsSeq.nil
  exact isSeq_app e h

/-- The second masked select, then a line. -/
theorem where_0_cons (h : IsSeq k l) : IsSeq (fn_where_0.body (F := F) (.of main_v27_1) (.of main_v27_2) (.of main_v74) main_call1 >>= fun _ => k)
    (TRef.nullary (TRef.of (T := ⟨S_, .f32⟩) main_call1_cst) (constant S_ .f32 0x00000000#32) ::
      TRef.unary (TRef.of (T := ⟨S_, .f32⟩) main_call1_cst) (TRef.of (T := ⟨S16x4096x4096, .f32⟩) main_call1_v0) (broadcastInDim S16x4096x4096 ![] bcast_S_S16x4096x4096) ::
      TRef.ternary (TRef.of (T := ⟨S16x4096x4096, .i1⟩) main_v27_1) (TRef.of (T := ⟨S16x4096x4096, .f32⟩) main_v74) (TRef.of (T := ⟨S16x4096x4096, .f32⟩) main_call1_v0) (TRef.of (T := ⟨S16x4096x4096, .f32⟩) main_v75) select :: l) := by
  have e : IsSeq (fn_where_0.body (F := F) (.of main_v27_1) (.of main_v27_2) (.of main_v74) main_call1) [TRef.nullary (TRef.of (T := ⟨S_, .f32⟩) main_call1_cst) (constant S_ .f32 0x00000000#32),
      TRef.unary (TRef.of (T := ⟨S_, .f32⟩) main_call1_cst) (TRef.of (T := ⟨S16x4096x4096, .f32⟩) main_call1_v0) (broadcastInDim S16x4096x4096 ![] bcast_S_S16x4096x4096),
      TRef.ternary (TRef.of (T := ⟨S16x4096x4096, .i1⟩) main_v27_1) (TRef.of (T := ⟨S16x4096x4096, .f32⟩) main_v74) (TRef.of (T := ⟨S16x4096x4096, .f32⟩) main_call1_v0) (TRef.of (T := ⟨S16x4096x4096, .f32⟩) main_v75) select] := by
    unfold fn_where_0.body
    iterate 3 refine IsSeq.cons ?_
    exact IsSeq.nil
  exact isSeq_app e h

theorem part0_seq (d : Dev nD) : IsSeq (main_part0 (F := F) d) (L1 ++ (L2 ++ L3)) := by
  unfold main_part0
  iterate 28 refine IsSeq.cons ?_
  refine where_cons ?_
  iterate 30 refine IsSeq.cons ?_
  exact isSeq_last _

theorem part1_seq (d : Dev nD) : IsSeq (main_part1 (F := F) d) (L4 ++ (L5 ++ (L6 ++ L7))) := by
  unfold main_part1
  iterate 28 refine IsSeq.cons ?_
  refine where_0_cons ?_
  iterate 16 refine IsSeq.cons ?_
  exact IsSeq.nil

/-- The program is the seven stretches in order. -/
theorem main_seq (d : Dev nD) : IsSeq (main (F := F) d) ((L1 ++ (L2 ++ L3)) ++ (L4 ++ (L5 ++ (L6 ++ L7)))) := by
  unfold main
  exact isSeq_app (part0_seq d) (part1_seq d)

end Cert.Fox.Ref

end
-- ==== Proof.RefRun.lean ====
/-
  What the reference's run leaves in its results and its arguments, stretch by stretch.
-/
module

public import proofs.«01_k».proof.Proof.RefSeq
public import Idealize.ShloMosaic.Lib.Quiescent

@[expose] public section

set_option maxRecDepth 16384

noncomputable section

open Idealize.ShloMosaic Idealize.ShloMosaic.TcCoe Idealize.SL.Sem Idealize.ShloMosaic.StableHlo
open Cert.ReferenceIdeal Cert.ReferenceIdeal.Gen
open scoped BigOperators

namespace Cert.Fox.Ref

/-- The scores' cotangent before the mask, with the reciprocal square of the sums as an array of its own. -/
def ds1 (w : FVec Ideal S16x4096x4096 .f32) (l r : FVec Ideal S16x4096x1 .f32) (e : FVec Ideal S16x4096x4096 .f32) : FVec Ideal S16x4096x4096 .f32 :=
  mulf (addf (over w l) (broadcastInDim S16x4096x4096 ![0, 1] bcast_S16x4096_S16x4096x4096_0_1
    (Host.reduceAdd (Host.negf (shapeCast S16x4096x1 (rsum (mulf (mulf w (broadcastInDim S16x4096x4096 ![0, 1, 2] bcast_S16x4096x1_S16x4096x4096_0_1_2 r)) e)) shapeCasts_S16x4096_S16x4096x1))
      (constant S_ .f32 0x00000000#32) reducesTo_S16x4096x1_S16x4096_d2 h_S_))) e

/-- Contents of the buffers of the device. -/
abbrev Val := Valuation τ sig (Elt Ideal)

/-- A buffer's contents at its type. -/
abbrev r_v6 (V : Val) : FVec Ideal S16x4096x128 .f32 := V (Proc.devRef .tc main_v6)
/-- A buffer's contents at its type. -/
abbrev r_v9 (V : Val) : FVec Ideal S16x4096x128 .f32 := V (Proc.devRef .tc main_v9)
/-- A buffer's contents at its type. -/
abbrev r_v14 (V : Val) : FVec Ideal S16x4096x128 .f32 := V (Proc.devRef .tc main_v14)
/-- A buffer's contents at its type. -/
abbrev r_v59 (V : Val) : FVec Ideal S16x4096x128 .f32 := V (Proc.devRef .tc main_v59)
/-- A buffer's contents at its type. -/
abbrev r_v61 (V : Val) : FVec Ideal S16x4096x128 .f32 := V (Proc.devRef .tc main_v61)
/-- A buffer's contents at its type. -/
abbrev r_v19 (V : Val) : FVec Ideal S16x4096x4096 .f32 := V (Proc.devRef .tc main_v19)
/-- A buffer's contents at its type. -/
abbrev r_v27_0 (V : Val) : FVec Ideal S16x4096x4096 .f32 := V (Proc.devRef .tc main_v27_0)
/-- A buffer's contents at its type. -/
abbrev r_v27_2 (V : Val) : FVec Ideal S16x4096x4096 .f32 := V (Proc.devRef .tc main_v27_2)
/-- A buffer's contents at its type. -/
abbrev r_v48 (V : Val) : FVec Ideal S16x4096x4096 .f32 := V (Proc.devRef .tc main_v48)
/-- A buffer's contents at its type. -/
abbrev r_v62 (V : Val) : FVec Ideal S16x4096x4096 .f32 := V (Proc.devRef .tc main_v62)
/-- A buffer's contents at its type. -/
abbrev r_v74 (V : Val) : FVec Ideal S16x4096x4096 .f32 := V (Proc.devRef .tc main_v74)
/-- A buffer's contents at its type. -/
abbrev r_v75 (V : Val) : FVec Ideal S16x4096x4096 .f32 := V (Proc.devRef .tc main_v75)
/-- A buffer's contents at its type. -/
abbrev r_v52 (V : Val) : FVec Ideal S16x4096x4096 .f32 := V (Proc.devRef .tc main_v52)
/-- A buffer's contents at its type. -/
abbrev r_v27_1 (V : Val) : IVec S16x4096x4096 1 := V (Proc.devRef .tc main_v27_1)
/-- A buffer's contents at its type. -/
abbrev r_v50 (V : Val) : FVec Ideal S16x4096x1 .f32 := V (Proc.devRef .tc main_v50)
/-- A buffer's contents at its type. -/
abbrev r_v55 (V : Val) : FVec Ideal S16x4096x1 .f32 := V (Proc.devRef .tc main_v55)
/-- A buffer's contents at its type. -/
abbrev r_v80 (V : Val) : FVec Ideal S16x4096x1 .f32 := V (Proc.devRef .tc main_v80)
/-- A buffer's contents at its type. -/
abbrev r_v89 (V : Val) : FVec Ideal S16x1x4096 .f32 := V (Proc.devRef .tc main_v89)
/-- A buffer's contents at its type. -/
abbrev r_v49 (V : Val) : FVec Ideal S16x4096 .f32 := V (Proc.devRef .tc main_v49)
/-- A buffer's contents at its type. -/
abbrev r_v84 (V : Val) : FVec Ideal S4096x2048 .f32 := V (Proc.devRef .tc main_v84)
/-- A buffer's contents at its type. -/
abbrev r_v86 (V : Val) : FVec Ideal S4096x2048 .f32 := V (Proc.devRef .tc main_v86)
/-- A buffer's contents at its type. -/
abbrev r_v88 (V : Val) : FVec Ideal S4096x2048 .f32 := V (Proc.devRef .tc main_v88)
/-- A buffer's contents at its type. -/
abbrev r_arg0 (V : Val) : FVec Ideal S4096x2048 .bf16 := V (Proc.devRef .tc main_arg0)
/-- A buffer's contents at its type. -/
abbrev r_arg1 (V : Val) : FVec Ideal S4096x2048 .bf16 := V (Proc.devRef .tc main_arg1)
/-- A buffer's contents at its type. -/
abbrev r_arg4 (V : Val) : FVec Ideal S4096x2048 .bf16 := V (Proc.devRef .tc main_arg4)
/-- A buffer's contents at its type. -/
abbrev r_arg2 (V : Val) : FVec Ideal S2x4096x2048 .bf16 := V (Proc.devRef .tc main_arg2)
/-- A buffer's contents at its type. -/
abbrev r_arg3 (V : Val) : FVec Ideal S4096x16 .f32 := V (Proc.devRef .tc main_arg3)

theorem L1_v6 (V : Val) : r_v6 (after L1 V) = hd (r_arg0 V) := by
  simp only [L1, TRef.nullary, TRef.ternary, TRef.unary, TRef.toBuf, TRef.ofBuf, cast_eq]
  after_results_simp <;> rfl

theorem L1_v9 (V : Val) : r_v9 (after L1 V) = hd (r_arg1 V) := by
  simp only [L1, TRef.nullary, TRef.ternary, TRef.unary, TRef.toBuf, TRef.ofBuf, cast_eq]
  after_results_simp <;> rfl

theorem L1_v14 (V : Val) : r_v14 (after L1 V) = hd (vals (r_arg2 V)) := by
  simp only [L1, TRef.nullary, TRef.ternary, TRef.unary, TRef.toBuf, TRef.ofBuf, cast_eq]
  after_results_simp <;> rfl

theorem L1_v19 (V : Val) : r_v19 (after L1 V) = scores (hd (r_arg0 V)) (hd (r_arg1 V)) (r_arg3 V) := by
  simp only [L1, TRef.nullary, TRef.ternary, TRef.unary, TRef.toBuf, TRef.ofBuf, cast_eq]
  after_results_simp <;> rfl

theorem L1_arg0 (V : Val) : r_arg0 (after L1 V) = r_arg0 V := by
  simp only [L1, TRef.nullary, TRef.ternary, TRef.unary, TRef.toBuf, TRef.ofBuf, cast_eq]
  after_results_simp <;> rfl

theorem L1_arg1 (V : Val) : r_arg1 (after L1 V) = r_arg1 V := by
  simp only [L1, TRef.nullary, TRef.ternary, TRef.unary, TRef.toBuf, TRef.ofBuf, cast_eq]
  after_results_simp <;> rfl

theorem L1_arg2 (V : Val) : r_arg2 (after L1 V) = r_arg2 V := by
  simp only [L1, TRef.nullary, TRef.ternary, TRef.unary, TRef.toBuf, TRef.ofBuf, cast_eq]
  after_results_simp <;> rfl

theorem L1_arg3 (V : Val) : r_arg3 (after L1 V) = r_arg3 V := by
  simp only [L1, TRef.nullary, TRef.ternary, TRef.unary, TRef.toBuf, TRef.ofBuf, cast_eq]
  after_results_simp <;> rfl

theorem L1_arg4 (V : Val) : r_arg4 (after L1 V) = r_arg4 V := by
  simp only [L1, TRef.nullary, TRef.ternary, TRef.unary, TRef.toBuf, TRef.ofBuf, cast_eq]
  after_results_simp <;> rfl

theorem L2_v27_0 (V : Val) : r_v27_0 (after L2 V) = sm (r_v19 V) := by
  simp only [L2, TRef.nullary, TRef.ternary, TRef.unary, TRef.toBuf, TRef.ofBuf, cast_eq]
  after_results_simp <;> rfl

theorem L2_v27_1 (V : Val) : r_v27_1 (after L2 V) = maskH := by
  simp only [L2, TRef.nullary, TRef.ternary, TRef.unary, TRef.toBuf, TRef.ofBuf, cast_eq]
  after_results_simp <;> rfl

theorem L2_v27_2 (V : Val) : r_v27_2 (after L2 V) = broadcastInDim S16x4096x4096 ![] bcast_S_S16x4096x4096 (constant S_ .f32 0x00000000#32) := by
  simp only [L2, TRef.nullary, TRef.ternary, TRef.unary, TRef.toBuf, TRef.ofBuf, cast_eq]
  after_results_simp <;> rfl

theorem L2_v6 (V : Val) : r_v6 (after L2 V) = r_v6 V := by
  simp only [L2, TRef.nullary, TRef.ternary, TRef.unary, TRef.toBuf, TRef.ofBuf, cast_eq]
  after_results_simp <;> rfl

theorem L2_v9 (V : Val) : r_v9 (after L2 V) = r_v9 V := by
  simp only [L2, TRef.nullary, TRef.ternary, TRef.unary, TRef.toBuf, TRef.ofBuf, cast_eq]
  after_results_simp <;> rfl

theorem L2_v14 (V : Val) : r_v14 (after L2 V) = r_v14 V := by
  simp only [L2, TRef.nullary, TRef.ternary, TRef.unary, TRef.toBuf, TRef.ofBuf, cast_eq]
  after_results_simp <;> rfl

theorem L2_arg0 (V : Val) : r_arg0 (after L2 V) = r_arg0 V := by
  simp only [L2, TRef.nullary, TRef.ternary, TRef.unary, TRef.toBuf, TRef.ofBuf, cast_eq]
  after_results_simp <;> rfl

theorem L2_arg1 (V : Val) : r_arg1 (after L2 V) = r_arg1 V := by
  simp only [L2, TRef.nullary, TRef.ternary, TRef.unary, TRef.toBuf, TRef.ofBuf, cast_eq]
  after_results_simp <;> rfl

theorem L2_arg2 (V : Val) : r_arg2 (after L2 V) = r_arg2 V := by
  simp only [L2, TRef.nullary, TRef.ternary, TRef.unary, TRef.toBuf, TRef.ofBuf, cast_eq]
  after_results_simp <;> rfl

theorem L2_arg3 (V : Val) : r_arg3 (after L2 V) = r_arg3 V := by
  simp only [L2, TRef.nullary, TRef.ternary, TRef.unary, TRef.toBuf, TRef.ofBuf, cast_eq]
  after_results_simp <;> rfl

theorem L2_arg4 (V : Val) : r_arg4 (after L2 V) = r_arg4 V := by
  simp only [L2, TRef.nullary, TRef.ternary, TRef.unary, TRef.toBuf, TRef.ofBuf, cast_eq]
  after_results_simp <;> rfl

theorem L3_v48 (V : Val) : r_v48 (after L3 V) = ex (r_v27_0 V) := by
  simp only [L3, TRef.nullary, TRef.ternary, TRef.unary, TRef.toBuf, TRef.ofBuf, cast_eq]
  after_results_simp <;> rfl

theorem L3_v49 (V : Val) : r_v49 (after L3 V) = rsum (ex (r_v27_0 V)) := by
  simp only [L3, TRef.nullary, TRef.ternary, TRef.unary, TRef.toBuf, TRef.ofBuf, cast_eq]
  after_results_simp <;> rfl

theorem L3_v6 (V : Val) : r_v6 (after L3 V) = r_v6 V := by
  simp only [L3, TRef.nullary, TRef.ternary, TRef.unary, TRef.toBuf, TRef.ofBuf, cast_eq]
  after_results_simp <;> rfl

theorem L3_v9 (V : Val) : r_v9 (after L3 V) = r_v9 V := by
  simp only [L3, TRef.nullary, TRef.ternary, TRef.unary, TRef.toBuf, TRef.ofBuf, cast_eq]
  after_results_simp <;> rfl

theorem L3_v14 (V : Val) : r_v14 (after L3 V) = r_v14 V := by
  simp only [L3, TRef.nullary, TRef.ternary, TRef.unary, TRef.toBuf, TRef.ofBuf, cast_eq]
  after_results_simp <;> rfl

theorem L3_v27_1 (V : Val) : r_v27_1 (after L3 V) = r_v27_1 V := by
  simp only [L3, TRef.nullary, TRef.ternary, TRef.unary, TRef.toBuf, TRef.ofBuf, cast_eq]
  after_results_simp <;> rfl

theorem L3_v27_2 (V : Val) : r_v27_2 (after L3 V) = r_v27_2 V := by
  simp only [L3, TRef.nullary, TRef.ternary, TRef.unary, TRef.toBuf, TRef.ofBuf, cast_eq]
  after_results_simp <;> rfl

theorem L3_arg0 (V : Val) : r_arg0 (after L3 V) = r_arg0 V := by
  simp only [L3, TRef.nullary, TRef.ternary, TRef.unary, TRef.toBuf, TRef.ofBuf, cast_eq]
  after_results_simp <;> rfl

theorem L3_arg1 (V : Val) : r_arg1 (after L3 V) = r_arg1 V := by
  simp only [L3, TRef.nullary, TRef.ternary, TRef.unary, TRef.toBuf, TRef.ofBuf, cast_eq]
  after_results_simp <;> rfl

theorem L3_arg2 (V : Val) : r_arg2 (after L3 V) = r_arg2 V := by
  simp only [L3, TRef.nullary, TRef.ternary, TRef.unary, TRef.toBuf, TRef.ofBuf, cast_eq]
  after_results_simp <;> rfl

theorem L3_arg3 (V : Val) : r_arg3 (after L3 V) = r_arg3 V := by
  simp only [L3, TRef.nullary, TRef.ternary, TRef.unary, TRef.toBuf, TRef.ofBuf, cast_eq]
  after_results_simp <;> rfl

theorem L3_arg4 (V : Val) : r_arg4 (after L3 V) = r_arg4 V := by
  simp only [L3, TRef.nullary, TRef.ternary, TRef.unary, TRef.toBuf, TRef.ofBuf, cast_eq]
  after_results_simp <;> rfl

theorem L4_v50 (V : Val) : r_v50 (after L4 V) = col (r_v49 V) := by
  simp only [L4, TRef.nullary, TRef.ternary, TRef.unary, TRef.toBuf, TRef.ofBuf, cast_eq]
  after_results_simp <;> rfl

theorem L4_v55 (V : Val) : r_v55 (after L4 V) = inv2 (col (r_v49 V)) := by
  simp only [L4, TRef.nullary, TRef.ternary, TRef.unary, TRef.toBuf, TRef.ofBuf, cast_eq]
  after_results_simp <;> rfl

theorem L4_v61 (V : Val) : r_v61 (after L4 V) = dval (hd (r_arg4 V)) (over (r_v48 V) (col (r_v49 V))) := by
  simp only [L4, TRef.nullary, TRef.ternary, TRef.unary, TRef.toBuf, TRef.ofBuf, cast_eq]
  after_results_simp <;> rfl

theorem L4_v62 (V : Val) : r_v62 (after L4 V) = dotT (hd (r_arg4 V)) (r_v14 V) := by
  simp only [L4, TRef.nullary, TRef.ternary, TRef.unary, TRef.toBuf, TRef.ofBuf, cast_eq]
  after_results_simp <;> rfl

theorem L4_v6 (V : Val) : r_v6 (after L4 V) = r_v6 V := by
  simp only [L4, TRef.nullary, TRef.ternary, TRef.unary, TRef.toBuf, TRef.ofBuf, cast_eq]
  after_results_simp <;> rfl

theorem L4_v9 (V : Val) : r_v9 (after L4 V) = r_v9 V := by
  simp only [L4, TRef.nullary, TRef.ternary, TRef.unary, TRef.toBuf, TRef.ofBuf, cast_eq]
  after_results_simp <;> rfl

theorem L4_v27_1 (V : Val) : r_v27_1 (after L4 V) = r_v27_1 V := by
  simp only [L4, TRef.nullary, TRef.ternary, TRef.unary, TRef.toBuf, TRef.ofBuf, cast_eq]
  after_results_simp <;> rfl

theorem L4_v27_2 (V : Val) : r_v27_2 (after L4 V) = r_v27_2 V := by
  simp only [L4, TRef.nullary, TRef.ternary, TRef.unary, TRef.toBuf, TRef.ofBuf, cast_eq]
  after_results_simp <;> rfl

theorem L4_v48 (V : Val) : r_v48 (after L4 V) = r_v48 V := by
  simp only [L4, TRef.nullary, TRef.ternary, TRef.unary, TRef.toBuf, TRef.ofBuf, cast_eq]
  after_results_simp <;> rfl

theorem L4_arg0 (V : Val) : r_arg0 (after L4 V) = r_arg0 V := by
  simp only [L4, TRef.nullary, TRef.ternary, TRef.unary, TRef.toBuf, TRef.ofBuf, cast_eq]
  after_results_simp <;> rfl

theorem L4_arg1 (V : Val) : r_arg1 (after L4 V) = r_arg1 V := by
  simp only [L4, TRef.nullary, TRef.ternary, TRef.unary, TRef.toBuf, TRef.ofBuf, cast_eq]
  after_results_simp <;> rfl

theorem L4_arg2 (V : Val) : r_arg2 (after L4 V) = r_arg2 V := by
  simp only [L4, TRef.nullary, TRef.ternary, TRef.unary, TRef.toBuf, TRef.ofBuf, cast_eq]
  after_results_simp <;> rfl

theorem L4_arg3 (V : Val) : r_arg3 (after L4 V) = r_arg3 V := by
  simp only [L4, TRef.nullary, TRef.ternary, TRef.unary, TRef.toBuf, TRef.ofBuf, cast_eq]
  after_results_simp <;> rfl

theorem L4_arg4 (V : Val) : r_arg4 (after L4 V) = r_arg4 V := by
  simp only [L4, TRef.nullary, TRef.ternary, TRef.unary, TRef.toBuf, TRef.ofBuf, cast_eq]
  after_results_simp <;> rfl

theorem L5_v74 (V : Val) : r_v74 (after L5 V) = ds1 (r_v62 V) (r_v50 V) (r_v55 V) (r_v48 V) := by
  simp only [L5, TRef.nullary, TRef.ternary, TRef.unary, TRef.toBuf, TRef.ofBuf, cast_eq]
  after_results_simp <;> rfl

theorem L5_v6 (V : Val) : r_v6 (after L5 V) = r_v6 V := by
  simp only [L5, TRef.nullary, TRef.ternary, TRef.unary, TRef.toBuf, TRef.ofBuf, cast_eq]
  after_results_simp <;> rfl

theorem L5_v9 (V : Val) : r_v9 (after L5 V) = r_v9 V := by
  simp only [L5, TRef.nullary, TRef.ternary, TRef.unary, TRef.toBuf, TRef.ofBuf, cast_eq]
  after_results_simp <;> rfl

theorem L5_v27_1 (V : Val) : r_v27_1 (after L5 V) = r_v27_1 V := by
  simp only [L5, TRef.nullary, TRef.ternary, TRef.unary, TRef.toBuf, TRef.ofBuf, cast_eq]
  after_results_simp <;> rfl

theorem L5_v27_2 (V : Val) : r_v27_2 (after L5 V) = r_v27_2 V := by
  simp only [L5, TRef.nullary, TRef.ternary, TRef.unary, TRef.toBuf, TRef.ofBuf, cast_eq]
  after_results_simp <;> rfl

theorem L5_v61 (V : Val) : r_v61 (after L5 V) = r_v61 V := by
  simp only [L5, TRef.nullary, TRef.ternary, TRef.unary, TRef.toBuf, TRef.ofBuf, cast_eq]
  after_results_simp <;> rfl

theorem L5_arg0 (V : Val) : r_arg0 (after L5 V) = r_arg0 V := by
  simp only [L5, TRef.nullary, TRef.ternary, TRef.unary, TRef.toBuf, TRef.ofBuf, cast_eq]
  after_results_simp <;> rfl

theorem L5_arg1 (V : Val) : r_arg1 (after L5 V) = r_arg1 V := by
  simp only [L5, TRef.nullary, TRef.ternary, TRef.unary, TRef.toBuf, TRef.ofBuf, cast_eq]
  after_results_simp <;> rfl

theorem L5_arg2 (V : Val) : r_arg2 (after L5 V) = r_arg2 V := by
  simp only [L5, TRef.nullary, TRef.ternary, TRef.unary, TRef.toBuf, TRef.ofBuf, cast_eq]
  after_results_simp <;> rfl

theorem L5_arg3 (V : Val) : r_arg3 (after L5 V) = r_arg3 V := by
  simp only [L5, TRef.nullary, TRef.ternary, TRef.unary, TRef.toBuf, TRef.ofBuf, cast_eq]
  after_results_simp <;> rfl

theorem L5_arg4 (V : Val) : r_arg4 (after L5 V) = r_arg4 V := by
  simp only [L5, TRef.nullary, TRef.ternary, TRef.unary, TRef.toBuf, TRef.ofBuf, cast_eq]
  after_results_simp <;> rfl

theorem L6_v75 (V : Val) : r_v75 (after L6 V) = select (r_v27_1 V) (r_v74 V) (broadcastInDim S16x4096x4096 ![] bcast_S_S16x4096x4096 (constant S_ .f32 0x00000000#32)) := by
  simp only [L6, TRef.nullary, TRef.ternary, TRef.unary, TRef.toBuf, TRef.ofBuf, cast_eq]
  after_results_simp <;> rfl

theorem L6_v6 (V : Val) : r_v6 (after L6 V) = r_v6 V := by
  simp only [L6, TRef.nullary, TRef.ternary, TRef.unary, TRef.toBuf, TRef.ofBuf, cast_eq]
  after_results_simp <;> rfl

theorem L6_v9 (V : Val) : r_v9 (after L6 V) = r_v9 V := by
  simp only [L6, TRef.nullary, TRef.ternary, TRef.unary, TRef.toBuf, TRef.ofBuf, cast_eq]
  after_results_simp <;> rfl

theorem L6_v61 (V : Val) : r_v61 (after L6 V) = r_v61 V := by
  simp only [L6, TRef.nullary, TRef.ternary, TRef.unary, TRef.toBuf, TRef.ofBuf, cast_eq]
  after_results_simp <;> rfl

theorem L6_arg0 (V : Val) : r_arg0 (after L6 V) = r_arg0 V := by
  simp only [L6, TRef.nullary, TRef.ternary, TRef.unary, TRef.toBuf, TRef.ofBuf, cast_eq]
  after_results_simp <;> rfl

theorem L6_arg1 (V : Val) : r_arg1 (after L6 V) = r_arg1 V := by
  simp only [L6, TRef.nullary, TRef.ternary, TRef.unary, TRef.toBuf, TRef.ofBuf, cast_eq]
  after_results_simp <;> rfl

theorem L6_arg2 (V : Val) : r_arg2 (after L6 V) = r_arg2 V := by
  simp only [L6, TRef.nullary, TRef.ternary, TRef.unary, TRef.toBuf, TRef.ofBuf, cast_eq]
  after_results_simp <;> rfl

theorem L6_arg3 (V : Val) : r_arg3 (after L6 V) = r_arg3 V := by
  simp only [L6, TRef.nullary, TRef.ternary, TRef.unary, TRef.toBuf, TRef.ofBuf, cast_eq]
  after_results_simp <;> rfl

theorem L6_arg4 (V : Val) : r_arg4 (after L6 V) = r_arg4 V := by
  simp only [L6, TRef.nullary, TRef.ternary, TRef.unary, TRef.toBuf, TRef.ofBuf, cast_eq]
  after_results_simp <;> rfl

theorem L7_v84 (V : Val) : r_v84 (after L7 V) = flat (overKeys (r_v75 V) (r_v9 V)) := by
  simp only [L7, TRef.nullary, TRef.ternary, TRef.unary, TRef.toBuf, TRef.ofBuf, cast_eq]
  after_results_simp <;> rfl

theorem L7_v80 (V : Val) : r_v80 (after L7 V) = rowOut (r_v75 V) := by
  simp only [L7, TRef.nullary, TRef.ternary, TRef.unary, TRef.toBuf, TRef.ofBuf, cast_eq]
  after_results_simp <;> rfl

theorem L7_v86 (V : Val) : r_v86 (after L7 V) = flat (overQueries (r_v75 V) (r_v6 V)) := by
  simp only [L7, TRef.nullary, TRef.ternary, TRef.unary, TRef.toBuf, TRef.ofBuf, cast_eq]
  after_results_simp <;> rfl

theorem L7_v88 (V : Val) : r_v88 (after L7 V) = flat (r_v61 V) := by
  simp only [L7, TRef.nullary, TRef.ternary, TRef.unary, TRef.toBuf, TRef.ofBuf, cast_eq]
  after_results_simp <;> rfl

theorem L7_v89 (V : Val) : r_v89 (after L7 V) = colOut (r_v75 V) := by
  simp only [L7, TRef.nullary, TRef.ternary, TRef.unary, TRef.toBuf, TRef.ofBuf, cast_eq]
  after_results_simp <;> rfl

theorem L7_arg0 (V : Val) : r_arg0 (after L7 V) = r_arg0 V := by
  simp only [L7, TRef.nullary, TRef.ternary, TRef.unary, TRef.toBuf, TRef.ofBuf, cast_eq]
  after_results_simp <;> rfl

theorem L7_arg1 (V : Val) : r_arg1 (after L7 V) = r_arg1 V := by
  simp only [L7, TRef.nullary, TRef.ternary, TRef.unary, TRef.toBuf, TRef.ofBuf, cast_eq]
  after_results_simp <;> rfl

theorem L7_arg2 (V : Val) : r_arg2 (after L7 V) = r_arg2 V := by
  simp only [L7, TRef.nullary, TRef.ternary, TRef.unary, TRef.toBuf, TRef.ofBuf, cast_eq]
  after_results_simp <;> rfl

theorem L7_arg3 (V : Val) : r_arg3 (after L7 V) = r_arg3 V := by
  simp only [L7, TRef.nullary, TRef.ternary, TRef.unary, TRef.toBuf, TRef.ofBuf, cast_eq]
  after_results_simp <;> rfl

theorem L7_arg4 (V : Val) : r_arg4 (after L7 V) = r_arg4 V := by
  simp only [L7, TRef.nullary, TRef.ternary, TRef.unary, TRef.toBuf, TRef.ofBuf, cast_eq]
  after_results_simp <;> rfl

/-- What the whole line leaves. -/
abbrev fin (V : Val) : Val := after ((L1 ++ (L2 ++ L3)) ++ (L4 ++ (L5 ++ (L6 ++ L7)))) V

theorem fin_eq (V : Val) : fin V = after L7 (after L6 (after L5 (after L4 (after L3 (after L2 (after L1 V)))))) := by
  unfold fin
  simp only [after_app]

theorem fin_arg0 (V : Val) : r_arg0 (fin V) = r_arg0 V := by
  rw [fin_eq, L7_arg0, L6_arg0, L5_arg0, L4_arg0, L3_arg0, L2_arg0, L1_arg0]

theorem fin_arg1 (V : Val) : r_arg1 (fin V) = r_arg1 V := by
  rw [fin_eq, L7_arg1, L6_arg1, L5_arg1, L4_arg1, L3_arg1, L2_arg1, L1_arg1]

theorem fin_arg2 (V : Val) : r_arg2 (fin V) = r_arg2 V := by
  rw [fin_eq, L7_arg2, L6_arg2, L5_arg2, L4_arg2, L3_arg2, L2_arg2, L1_arg2]

theorem fin_arg3 (V : Val) : r_arg3 (fin V) = r_arg3 V := by
  rw [fin_eq, L7_arg3, L6_arg3, L5_arg3, L4_arg3, L3_arg3, L2_arg3, L1_arg3]

theorem fin_arg4 (V : Val) : r_arg4 (fin V) = r_arg4 V := by
  rw [fin_eq, L7_arg4, L6_arg4, L5_arg4, L4_arg4, L3_arg4, L2_arg4, L1_arg4]

theorem fin_G (V : Val) :
    r_v75 (after L6 (after L5 (after L4 (after L3 (after L2 (after L1 V)))))) = G (r_arg0 V) (r_arg1 V) (r_arg2 V) (r_arg3 V) (r_arg4 V) := by
  rw [L6_v75, L5_v27_1, L4_v27_1, L3_v27_1, L2_v27_1, L5_v74, L4_v62, L4_v50, L4_v55, L4_v48, L3_v49, L3_v48, L3_arg4, L3_v14, L2_v27_0, L2_arg4, L2_v14,
    L1_v19, L1_arg4, L1_v14]
  rfl

theorem fin_v84 (V : Val) : r_v84 (fin V) = flat (overKeys (G (r_arg0 V) (r_arg1 V) (r_arg2 V) (r_arg3 V) (r_arg4 V)) (hd (r_arg1 V))) := by
  rw [fin_eq, L7_v84, fin_G, L6_v9, L5_v9, L4_v9, L3_v9, L2_v9, L1_v9]

theorem fin_v80 (V : Val) : r_v80 (fin V) = rowOut (G (r_arg0 V) (r_arg1 V) (r_arg2 V) (r_arg3 V) (r_arg4 V)) := by
  rw [fin_eq, L7_v80, fin_G]

theorem fin_v86 (V : Val) : r_v86 (fin V) = flat (overQueries (G (r_arg0 V) (r_arg1 V) (r_arg2 V) (r_arg3 V) (r_arg4 V)) (hd (r_arg0 V))) := by
  rw [fin_eq, L7_v86, fin_G, L6_v6, L5_v6, L4_v6, L3_v6, L2_v6, L1_v6]

theorem fin_v88 (V : Val) : r_v88 (fin V) = flat (dval (hd (r_arg4 V)) (over (ex (S (r_arg0 V) (r_arg1 V) (r_arg3 V))) (den (S (r_arg0 V) (r_arg1 V) (r_arg3 V))))) := by
  rw [fin_eq, L7_v88, L6_v61, L5_v61, L4_v61, L3_v49, L3_v48, L3_arg4, L2_v27_0, L2_arg4, L1_v19, L1_arg4]
  rfl

theorem fin_v89 (V : Val) : r_v89 (fin V) = colOut (G (r_arg0 V) (r_arg1 V) (r_arg2 V) (r_arg3 V) (r_arg4 V)) := by
  rw [fin_eq, L7_v89, fin_G]

theorem L1_sub : (L1 : List (HloOp τ sig (Elt Ideal))).Forall fun op => op.bufs ⊆ tcRefs τ sig := by simp
theorem L2_sub : (L2 : List (HloOp τ sig (Elt Ideal))).Forall fun op => op.bufs ⊆ tcRefs τ sig := by simp
theorem L3_sub : (L3 : List (HloOp τ sig (Elt Ideal))).Forall fun op => op.bufs ⊆ tcRefs τ sig := by simp
theorem L4_sub : (L4 : List (HloOp τ sig (Elt Ideal))).Forall fun op => op.bufs ⊆ tcRefs τ sig := by simp
theorem L5_sub : (L5 : List (HloOp τ sig (Elt Ideal))).Forall fun op => op.bufs ⊆ tcRefs τ sig := by simp
theorem L6_sub : (L6 : List (HloOp τ sig (Elt Ideal))).Forall fun op => op.bufs ⊆ tcRefs τ sig := by simp
theorem L7_sub : (L7 : List (HloOp τ sig (Elt Ideal))).Forall fun op => op.bufs ⊆ tcRefs τ sig := by simp

theorem L1_fresh : ∀ op ∈ (L1 : List (HloOp τ sig (Elt Ideal))), op.fresh = ∅ := by
  intro _ h
  (repeat (cases h with | head => rfl | tail _ h => ?_))
  exact nomatch h

theorem L2_fresh : ∀ op ∈ (L2 : List (HloOp τ sig (Elt Ideal))), op.fresh = ∅ := by
  intro _ h
  (repeat (cases h with | head => rfl | tail _ h => ?_))
  exact nomatch h

theorem L3_fresh : ∀ op ∈ (L3 : List (HloOp τ sig (Elt Ideal))), op.fresh = ∅ := by
  intro _ h
  (repeat (cases h with | head => rfl | tail _ h => ?_))
  exact nomatch h

theorem L4_fresh : ∀ op ∈ (L4 : List (HloOp τ sig (Elt Ideal))), op.fresh = ∅ := by
  intro _ h
  (repeat (cases h with | head => rfl | tail _ h => ?_))
  exact nomatch h

theorem L5_fresh : ∀ op ∈ (L5 : List (HloOp τ sig (Elt Ideal))), op.fresh = ∅ := by
  intro _ h
  (repeat (cases h with | head => rfl | tail _ h => ?_))
  exact nomatch h

theorem L6_fresh : ∀ op ∈ (L6 : List (HloOp τ sig (Elt Ideal))), op.fresh = ∅ := by
  intro _ h
  (repeat (cases h with | head => rfl | tail _ h => ?_))
  exact nomatch h

theorem L7_fresh : ∀ op ∈ (L7 : List (HloOp τ sig (Elt Ideal))), op.fresh = ∅ := by
  intro _ h
  (repeat (cases h with | head => rfl | tail _ h => ?_))
  exact nomatch h

theorem all_sub : ((L1 ++ (L2 ++ L3)) ++ (L4 ++ (L5 ++ (L6 ++ L7))) : List (HloOp τ sig (Elt Ideal))).Forall fun op => op.bufs ⊆ tcRefs τ sig := by
  rw [List.forall_append, List.forall_append, List.forall_append, List.forall_append, List.forall_append, List.forall_append]
  exact ⟨⟨L1_sub, L2_sub, L3_sub⟩, L4_sub, L5_sub, L6_sub, L7_sub⟩

theorem all_fresh : ∀ op ∈ ((L1 ++ (L2 ++ L3)) ++ (L4 ++ (L5 ++ (L6 ++ L7))) : List (HloOp τ sig (Elt Ideal))), op.fresh = ∅ := by
  intro op h
  rcases List.mem_append.mp h with h | h
  · rcases List.mem_append.mp h with h | h
    · exact L1_fresh op h
    · rcases List.mem_append.mp h with h | h
      · exact L2_fresh op h
      · exact L3_fresh op h
  · rcases List.mem_append.mp h with h | h
    · exact L4_fresh op h
    · rcases List.mem_append.mp h with h | h
      · exact L5_fresh op h
      · rcases List.mem_append.mp h with h | h
        · exact L6_fresh op h
        · exact L7_fresh op h

/-- Every weakly fair run of the reference ends with the line's contents in every buffer. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = fin (launchContents m d) (Proc.devRef .tc b) :=
  run_hlo defs main (fun d => main_seq d) (by decide) (by decide) all_sub all_fresh m ρ

end Cert.Fox.Ref

end
-- ==== Proof.Algebra.lean ====
/-
  The kernel and the reference end with the same arrays.
-/
module

public import proofs.«01_k».proof.Defs
public import proofs.«01_k».proof.Proof.Final
public import proofs.«01_k».proof.Proof.Lift
public import proofs.«01_k».proof.Proof.RefRun
public import Idealize.ShloMosaic.Lib.Claim

@[expose] public section

set_option maxRecDepth 16384

noncomputable section

open Idealize.ShloMosaic Idealize.ShloMosaic.TcCoe Idealize.SL.Sem Idealize.ShloMosaic.StableHlo
open scoped BigOperators

namespace Cert.Fox.Algebra

theorem frame_ref (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => (∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))
      ∧ r.2.sem = fun _ => 0) :=
  (θ_run Cert.ReferenceIdeal.defs _ _).mono (fun r h =>
    ⟨fun c => ⟨(h c Cert.ReferenceIdeal.main_arg0).trans (Cert.Fox.Ref.fin_arg0 _), (h c Cert.ReferenceIdeal.main_arg1).trans (Cert.Fox.Ref.fin_arg1 _),
      (h c Cert.ReferenceIdeal.main_arg2).trans (Cert.Fox.Ref.fin_arg2 _), (h c Cert.ReferenceIdeal.main_arg3).trans (Cert.Fox.Ref.fin_arg3 _),
      (h c Cert.ReferenceIdeal.main_arg4).trans (Cert.Fox.Ref.fin_arg4 _)⟩, Idealize.ShloMosaic.sem_eq_zero_of_no_sems (by decide) r.2⟩) (Cert.Fox.Ref.run m' g')

open Cert.KernelIdeal Cert.KernelIdeal.Gen in
/-- What the kernel leaves, array by array. -/
theorem run_kernel (m : (ℓ : Loc nD τ sig) → Buf (Elt Ideal) ℓ) (ρ : Dev nD → PrngReg) (hpre : ∀ c : Dev nD, ∃ A : Args, Holds m c A) :
    θ_run (defs (F := Ideal)) (onTc (τ := τ) (main (F := Ideal))) ⟨m, fun _ => 0, ρ⟩ (fun r => ∀ c : Dev nD,
      r.2.mem ((c.tc : Thread nD τ).loc main_v42_0) = Ref.flat (Ref.overKeys (Ref.G (aq m c) (ak m c) (akv m c) (ac m c) (ag m c)) (Ref.hd (ak m c)))
      ∧ r.2.mem ((c.tc : Thread nD τ).loc main_v42_1) = Ref.rowOut (Ref.G (aq m c) (ak m c) (akv m c) (ac m c) (ag m c))
      ∧ r.2.mem ((c.tc : Thread nD τ).loc main_v42_2) = Ref.flat (Ref.overQueries (Ref.G (aq m c) (ak m c) (akv m c) (ac m c) (ag m c)) (Ref.hd (aq m c)))
      ∧ r.2.mem ((c.tc : Thread nD τ).loc main_v42_3) = Ref.flat (Ref.dval (Ref.hd (ag m c)) (Ref.over (Ref.ex (Ref.S (aq m c) (ak m c) (ac m c))) (Ref.den (Ref.S (aq m c) (ak m c) (ac m c)))))
      ∧ r.2.mem ((c.tc : Thread nD τ).loc main_v42_4) = Ref.colOut (Ref.G (aq m c) (ak m c) (akv m c) (ac m c) (ag m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.KernelIdeal.Gen.run_main m ρ)
  obtain ⟨A, H⟩ := hpre c
  have inp : ∀ w : Fin cfg0.W, (hw : (cfg0.win w).isOut = false) → r.2.mem ((c : Thread nD τ).loc (Pipeline.arrRef spec0 w)) = V m c (Pipeline.arrRef spec0 w) :=
    fun w hw => ((h c).1 w).trans (((dats m 0 c).arrAt_in w hw _).trans (A_eq m c w))
  exact ⟨((h c).1 7).trans (final7 m c H), ((h c).1 8).trans (final8 m c H), ((h c).1 9).trans (final9 m c H),
    ((h c).1 10).trans (final10 m c H), ((h c).1 11).trans (final11 m c H),
    (inp 0 rfl).trans (V_main_arg0 m c), (inp 1 rfl).trans (V_main_arg1 m c), (inp 2 rfl).trans (V_main_arg2 m c),
    ((h c).2 main_arg3 (Pipeline.mem_restRefs_of main_arg3 (by decide) (by decide))).trans (V_main_arg3 m c), (inp 4 rfl).trans (V_main_arg4 m c)⟩

/-- Both programs end with the same arrays, on finite arguments. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m ρ m' ρ' hpre hagree
  refine ⟨_, _, _, _, _, run_kernel m ρ (fun c => Lift.args_of_finite _ _ _ _ _ (hpre c)), ?_⟩
  refine (θ_run Cert.ReferenceIdeal.defs _ _).mono (fun r h c => ?_) (Cert.Fox.Ref.run m' ρ')
  obtain ⟨e0, e1, e2, e3, e4⟩ := hagree c
  have a0 : Ref.r_arg0 (launchContents m' c) = aq m c := e0
  have a1 : Ref.r_arg1 (launchContents m' c) = ak m c := e1
  have a2 : Ref.r_arg2 (launchContents m' c) = akv m c := e2
  have a3 : Ref.r_arg3 (launchContents m' c) = ac m c := e3
  have a4 : Ref.r_arg4 (launchContents m' c) = ag m c := e4
  refine ⟨(h c Cert.ReferenceIdeal.main_v84).trans ((Ref.fin_v84 _).trans ?_), (h c Cert.ReferenceIdeal.main_v80).trans ((Ref.fin_v80 _).trans ?_),
    (h c Cert.ReferenceIdeal.main_v86).trans ((Ref.fin_v86 _).trans ?_), (h c Cert.ReferenceIdeal.main_v88).trans ((Ref.fin_v88 _).trans ?_),
    (h c Cert.ReferenceIdeal.main_v89).trans ((Ref.fin_v89 _).trans ?_),
    (h c Cert.ReferenceIdeal.main_arg0).trans (Ref.fin_arg0 _), (h c Cert.ReferenceIdeal.main_arg1).trans (Ref.fin_arg1 _),
    (h c Cert.ReferenceIdeal.main_arg2).trans (Ref.fin_arg2 _), (h c Cert.ReferenceIdeal.main_arg3).trans (Ref.fin_arg3 _),
    (h c Cert.ReferenceIdeal.main_arg4).trans (Ref.fin_arg4 _)⟩
  · rw [a0, a1, a2, a3, a4]
  · rw [a0, a1, a2, a3, a4]
  · rw [a0, a1, a2, a3, a4]
  · rw [a0, a1, a3, a4]
  · rw [a0, a1, a2, a3, a4]

end Cert.Fox.Algebra

end
-- ==== Proof.Blocked.lean ====
/-
  The products of the ConvFFN entry by entry, and a long sum added tile by tile.
-/
module

public import Idealize.ShloMosaic.Lib.Claim
public import Idealize.ShloMosaic.Lib.Pointwise

@[expose] public section

noncomputable section

open Idealize.ShloMosaic
open scoped BigOperators

namespace Cert.Mm

/-- The first `n` terms of `g`, added. -/
def upTo {K : ℕ} (g : Fin K → EReal) (n : ℕ) : EReal := ∑ x ∈ Finset.range n, if h : x < K then g ⟨x, h⟩ else 0

/-- All terms. -/
theorem upTo_all {K : ℕ} (g : Fin K → EReal) : upTo g K = ∑ x : Fin K, g x := by
  unfold upTo
  rw [Finset.sum_range]
  exact Finset.sum_congr rfl fun x _ => dif_pos x.isLt

/-- The terms so far and one more tile of them. -/
theorem upTo_tile {K : ℕ} (g : Fin K → EReal) (n T : ℕ) (h : n + T ≤ K) (f : Fin T → EReal)
    (hf : ∀ y : Fin T, f y = g ⟨n + y.val, by omega⟩) : upTo g n + ∑ y : Fin T, f y = upTo g (n + T) := by
  unfold upTo
  rw [Finset.sum_range_add, Finset.sum_range (n := T)]
  refine congrArg _ (Finset.sum_congr rfl fun y _ => ?_)
  rw [hf y, dif_pos]

/-- The first tile. -/
theorem upTo_first {K : ℕ} (g : Fin K → EReal) (T : ℕ) (h : T ≤ K) (f : Fin T → EReal)
    (hf : ∀ y : Fin T, f y = g ⟨y.val, by omega⟩) : ∑ y : Fin T, f y = upTo g T := by
  unfold upTo
  rw [Finset.sum_range]
  refine Finset.sum_congr rfl fun y _ => ?_
  rw [hf y, dif_pos]

/-! ## The six products -/

/-- Rows of the model's width, and of the FFN's. -/
abbrev Rows := FVec Ideal ⟨2, ![4096, 2048]⟩ .bf16
abbrev Acts := FVec Ideal ⟨2, ![4096, 5632]⟩ .bf16
/-- The gate's half and the value's. -/
abbrev Halves := FVec Ideal ⟨3, ![2, 4096, 5632]⟩ .bf16
/-- The up-projection and the down-projection. -/
abbrev WUp := FVec Ideal ⟨2, ![2048, 11264]⟩ .f32
abbrev WDown := FVec Ideal ⟨2, ![5632, 2048]⟩ .f32

/-- The cotangent's entry in column `x` of both halves, times the weight of that column. -/
def upDxTerm (a : Halves) (w : WUp) (r : Fin 4096) (d : Fin 2048) (x : Fin 11264) : EReal :=
  a (ix3 (⟨x.val / 5632, by omega⟩ : Fin 2) r (⟨x.val % 5632, by omega⟩ : Fin 5632)) * w (ix2 d x)
/-- The up-projection's gradient in its input. -/
def upDx (a : Halves) (w : WUp) : Rows := fun i => ∑ x : Fin 11264, upDxTerm a w (i 0) (i 1) x

/-- A row's input times the cotangent's entry in column `x` of that row. -/
def upDwTerm (b : Rows) (a : Halves) (d : Fin 2048) (x : Fin 11264) (s : Fin 4096) : EReal :=
  b (ix2 s d) * a (ix3 (⟨x.val / 5632, by omega⟩ : Fin 2) s (⟨x.val % 5632, by omega⟩ : Fin 5632))
/-- The up-projection's gradient in its weights, by chip. -/
def upDw (b : Rows) (a : Halves) : FVec Ideal ⟨4, ![4, 1, 2048, 2816]⟩ .bf16 := fun i =>
  ∑ s : Fin 4096, upDwTerm b a (i 2) ⟨2816 * (i 0).val + (i 3).val, by
    have h0 : (i 0).val < 4 := (i 0).isLt
    have h3 : (i 3).val < 2816 := (i 3).isLt
    omega⟩ s

/-- The down-projection's gradient in its input. -/
def downDx (y : Rows) (w : WDown) : Acts := fun i => ∑ d : Fin 2048, y (ix2 (i 0) d) * w (ix2 (i 1) d)

/-- A row's activation times the cotangent's entry of that row. -/
def downDwTerm (a : Acts) (y : Rows) (f : Fin 5632) (d : Fin 2048) (s : Fin 4096) : EReal := a (ix2 s f) * y (ix2 s d)
/-- The down-projection's gradient in its weights, by chip. -/
def downDw (a : Acts) (y : Rows) : FVec Ideal ⟨4, ![4, 1, 1408, 2048]⟩ .bf16 := fun i =>
  ∑ s : Fin 4096, downDwTerm a y ⟨1408 * (i 0).val + (i 2).val, by
    have h0 : (i 0).val < 4 := (i 0).isLt
    have h2 : (i 2).val < 1408 := (i 2).isLt
    omega⟩ (i 3) s

/-- The up-projection, its columns split into halves. -/
def up (b : Rows) (w : WUp) : Halves := fun i =>
  ∑ d : Fin 2048, b (ix2 (i 1) d) * w (ix2 d ⟨5632 * (i 0).val + (i 2).val, by
    have h0 : (i 0).val < 2 := (i 0).isLt
    have h2 : (i 2).val < 5632 := (i 2).isLt
    omega⟩)

/-- An activation times its weight. -/
def downTerm (a : Acts) (w : WDown) (s : Fin 4096) (d : Fin 2048) (f : Fin 5632) : EReal := a (ix2 s f) * w (ix2 f d)
/-- The down-projection added to the stream. -/
def down (a : Acts) (w : WDown) (h : FVec Ideal ⟨2, ![4096, 2048]⟩ .f32) : FVec Ideal ⟨2, ![4096, 2048]⟩ .f32 := fun i =>
  h i + ∑ f : Fin 5632, downTerm a w (i 0) (i 1) f

end Cert.Mm

end
-- ==== Proof.UpDx.lean ====
/-
  The gradient of the FFN's up-projection in its input: the tiled product is the whole product.
-/
module

public import proofs.«01_k».proof.Proof.Blocked
public import proofs.«01_k».proof.Proof.Gen.UpDxIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.UpDxIdeal Cert.UpDxIdeal.Gen
open scoped BigOperators

namespace Cert.Mm.UpDx

open Cert.Mm

variable (m : (ℓ : Loc nD τ sig) → Buf (Elt Ideal) ℓ) (c : Dev nD)

abbrev a0 : Halves := m ((c : Thread nD τ).loc main_arg0)
abbrev a1 : WUp := m ((c : Thread nD τ).loc main_arg1)

/-- The weights by chip, as the kernel's call takes them. -/
def chips (w : WUp) : FVec Ideal S4x1x2048x2816 .bf16 :=
  broadcastInDim S4x1x2048x2816 ![0, 2, 3] bcast_S4x2048x2816_S4x1x2048x2816_0_2_3
    (transpose S4x2048x2816 [1, 0, 2] (shapeCast S2048x4x2816 (truncf .bf16 w bitsLt_bf16_f32) shapeCasts_S2048x11264_S2048x4x2816) transposes_S2048x4x2816_S4x2048x2816_1_0_2)

theorem chips_ix (w : WUp) (p : Fin 4) (d : Fin 2048) (y : Fin 2816) :
    chips w (ix4 p 0 d y) = w (ix2 d ⟨2816 * p.val + y.val, by omega⟩) := by
  pointwise [chips]
  refine congrArg w (congrArg (ix2 d) (Fin.ext ?_))
  show p.val * 2816 + y.val = 2816 * p.val + y.val
  omega

theorem V_chips : (V m c main_v3 : FVec Ideal S4x1x2048x2816 .bf16) = chips (a1 m c) := by
  show StableHlo.after (List.flatten [hostOps0]) (fun b => m (c, b)) (Proc.devRef .tc main_v3) = _
  simp only [List.flatten_cons, List.flatten_nil, List.append_nil, hostOps0]
  after_results <;> rfl

theorem idx0 : ∀ t : Fin cfg0.N, win0_0.index t = ![t.val % 8 / 4, t.val / 8, t.val % 8 % 4] := (by decide +kernel : ∀ t : Fin grid0.N, _)
theorem idx1 : ∀ t : Fin cfg0.N, win0_1.index t = ![t.val % 8 / 2, 0, 0, t.val % 8 % 2] := (by decide +kernel : ∀ t : Fin grid0.N, _)
theorem idx2 : ∀ t : Fin cfg0.N, win0_2.index t = ![t.val / 8, 0] := (by decide +kernel : ∀ t : Fin grid0.N, _)
theorem N_32 (t : Fin cfg0.N) : t.val < 32 := t.isLt

/-- The row of the whole array that row `r` of a point's block is. -/
abbrev row (n : ℕ) (hn : n < 32) (r : Fin 1024) : Fin 4096 := ⟨1024 * (n / 8) + r.val, by omega⟩
/-- The column of the whole array that column `y` of a point's block is. -/
abbrev col (n : ℕ) (y : Fin 1408) : Fin 11264 := ⟨1408 * (n % 8) + y.val, by omega⟩

theorem blk0 (t : Fin cfg0.N) (r : Fin 1024) (y : Fin 1408) : (iblk m c 0 t : FVec Ideal S1x1024x1408 .bf16) (ix3 0 r y)
    = a0 m c (ix3 (⟨(col t.val y).val / 5632, by omega⟩ : Fin 2) (row t.val (N_32 t) r) (⟨(col t.val y).val % 5632, by omega⟩ : Fin 5632)) := by
  blk_ext [iblk, V, idx0 t]
theorem blk1 (t : Fin cfg0.N) (d : Fin 2048) (y : Fin 1408) : (iblk m c 1 t : FVec Ideal S1x1x2048x1408 .bf16) (ix4 0 0 d y)
    = a1 m c (ix2 d (col t.val y)) := by
  have e : (iblk m c 1 t : FVec Ideal S1x1x2048x1408 .bf16) (ix4 0 0 d y)
      = (V m c main_v3 : FVec Ideal S4x1x2048x2816 .bf16) (ix4 (⟨(col t.val y).val / 2816, by omega⟩ : Fin 4) 0 d (⟨(col t.val y).val % 2816, by omega⟩ : Fin 2816)) := by
    blk_ext [iblk, idx1 t]
  rw [e, V_chips, chips_ix]
  refine congrArg (a1 m c) (congrArg (ix2 d) (Fin.ext ?_))
  show 2816 * ((1408 * (t.val % 8) + y.val) / 2816) + (1408 * (t.val % 8) + y.val) % 2816 = 1408 * (t.val % 8) + y.val
  omega

/-- The product of a point's two blocks, term by term. -/
theorem pay1 (t : Fin cfg0.N) (r : Fin 1024) (d : Fin 2048) :
    k0_pay1 (F := Ideal) (iblk m c 0 t) (iblk m c 1 t) (ix2 r d)
      = ∑ y : Fin 1408, upDxTerm (a0 m c) (a1 m c) (row t.val (N_32 t) r) d (col t.val y) := by
  pointwise [k0_pay1]
  refine Finset.sum_congr rfl fun y _ => ?_
  rw [blk0, blk1]
  rfl

/-- The accumulator holds the terms up to a point's tile. -/
abbrev Upto (n : ℕ) (hn : n < cfg0.N) : Prop := ∀ (r : Fin 1024) (d : Fin 2048),
    (outsAt0 m c n hn).2 (ix2 r d) = upTo (upDxTerm (a0 m c) (a1 m c) (row n hn r) d) (1408 * (n % 8 + 1))

theorem acc_first (t : Fin cfg0.N) (h0 : t.val % 8 = 0) : Upto m c t.val t.isLt := by
  intro r d
  rw [outsAt0_A m c t h0 (by omega) (by omega)]
  frame_out
  pointwise [k0_pay2]
  rw [pay1]
  refine (upTo_first (upDxTerm (a0 m c) (a1 m c) (row t.val (N_32 t) r) d) 1408 (by omega) _ fun y => ?_).trans ?_
  · exact congrArg _ (Fin.ext (by show 1408 * (t.val % 8) + y.val = y.val; omega))
  · rw [h0]

/-- What the accumulator held before, and a point's tile. -/
theorem acc_more (t : Fin cfg0.N) (h0 : ¬t.val % 8 = 0) (old : Vec Ideal S1024x2048 .f32) (r : Fin 1024) (d : Fin 2048)
    (ho : old (ix2 r d) = upTo (upDxTerm (a0 m c) (a1 m c) (row t.val (N_32 t) r) d) (1408 * (t.val % 8))) :
    k0_pay3 (F := Ideal) (iblk m c 0 t) (iblk m c 1 t) old (ix2 r d)
      = upTo (upDxTerm (a0 m c) (a1 m c) (row t.val (N_32 t) r) d) (1408 * (t.val % 8 + 1)) := by
  pointwise [k0_pay3]
  rw [pay1, ho]
  exact upTo_tile _ _ 1408 (by omega) _ fun y => rfl

theorem acc_next (t : Fin cfg0.N) (h0 : ¬t.val % 8 = 0)
    (ih : Upto m c (t.val - 1) (Nat.lt_of_le_of_lt (Nat.sub_le _ _) t.isLt)) : Upto m c t.val t.isLt := by
  intro r d
  have ho := ih r d
  have er : row (t.val - 1) (Nat.lt_of_le_of_lt (Nat.sub_le _ _) t.isLt) r = row t.val t.isLt r :=
    Fin.ext (by show 1024 * ((t.val - 1) / 8) + r.val = 1024 * (t.val / 8) + r.val; omega)
  rw [er, show (t.val - 1) % 8 + 1 = t.val % 8 by omega] at ho
  by_cases h7 : t.val % 8 = 7
  · rw [outsAt0_C m c t h0 (by omega) h7]
    frame_out
    exact acc_more m c t h0 _ r d ((congrFun (Memref.IsWhole.read_unread _ _) _).trans ho)
  · rw [outsAt0_B m c t h0 (by omega) h7]
    frame_out
    exact acc_more m c t h0 _ r d ((congrFun (Memref.IsWhole.read_unread _ _) _).trans ho)

theorem acc : ∀ (n : ℕ) (hn : n < cfg0.N), Upto m c n hn := by
  intro n
  induction n with
  | zero => intro hn; exact acc_first m c ⟨0, hn⟩ rfl
  | succ n ih =>
    intro hn
    by_cases h : (n + 1) % 8 = 0
    · exact acc_first m c ⟨n + 1, hn⟩ h
    · exact acc_next m c ⟨n + 1, hn⟩ h (ih _)

/-- At a row's last point the block written back is the accumulator. -/
theorem copied (t : Fin cfg0.N) (h7 : t.val % 8 = 7) (r : Fin 1024) (d : Fin 2048) :
    (outsAt0 m c t.val t.isLt).1 (ix2 r d) = (outsAt0 m c t.val t.isLt).2 (ix2 r d) := by
  rw [outsAt0_C m c t (by omega) (by omega) h7]
  frame_out
  pointwise [k0_pay4]

/-- The array the kernel leaves. -/
theorem final : (dats m 0 c).arrAt 2 cfg0.N = upDx (a0 m c) (a1 m c) := by
  refine (dats m 0 c).arrAt_eq_of_covers 2 _ (by decide +kernel) fun t hf y => ?_
  have hm : t.val % 8 = 7 := (flush0_2 t).mp hf
  blk_simp
  rw [after0_2]
  have h0 : (y 0).val < 1024 := (y 0).isLt
  have h1 : (y 1).val < 2048 := (y 1).isLt
  have ht := N_32 t
  have hy : y = ix2 (⟨(y 0).val, h0⟩ : Fin 1024) (⟨(y 1).val, h1⟩ : Fin 2048) := by
    funext a; fin_cases a <;> rfl
  have he : (win0_2.blk t).view.emb y = ix2 (row t.val ht ⟨(y 0).val, h0⟩) (⟨(y 1).val, h1⟩ : Fin 2048) := by
    funext a; apply Fin.ext
    fin_cases a <;> blk_simp [idx2 t] <;> simp [ix2] <;> omega
  rw [he]
  refine (congrArg (outsAt0 m c t.val t.isLt).1 hy).trans ((copied m c t hm _ _).trans ((acc m c t.val t.isLt _ _).trans ?_))
  rw [hm]
  exact upTo_all _

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v4) = upDx (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.UpDxIdeal.Value.run_blocks m ρ)

end Cert.Mm.UpDx

end
-- ==== Proof.UpDxRef.lean ====
/-
  The reference of the up-projection's gradient in its input.
-/
module

public import proofs.«01_k».proof.Proof.Blocked
public import proofs.«01_k».proof.Proof.Gen.UpDxRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.UpDxRefIdeal Cert.UpDxRefIdeal.Gen
open scoped BigOperators

namespace Cert.Mm.UpDxRef

/-- The two halves side by side. -/
def wide (a : Halves) : FVec Ideal S4096x11264 .f32 :=
  shapeCast S4096x11264 (transpose S4096x2x5632 [1, 0, 2] (extf .f32 a bitsLt_bf16_f32) transposes_S2x4096x5632_S4096x2x5632_1_0_2) shapeCasts_S4096x2x5632_S4096x11264

theorem wide_ix (a : Halves) (r : Fin 4096) (x : Fin 11264) :
    wide a (ix2 r x) = a (ix3 (⟨x.val / 5632, by omega⟩ : Fin 2) r (⟨x.val % 5632, by omega⟩ : Fin 5632)) := by
  pointwise [wide]

/-- The product over the columns. -/
def over (a : FVec Ideal S4096x11264 .f32) (w : WUp) : Rows :=
  truncf .bf16 (Host.dotGeneral dot_S4096x11264_S2048x11264_S4096x2048_1_1_0_0_n_n none a w) bitsLt_bf16_f32

theorem over_ix (a : FVec Ideal S4096x11264 .f32) (w : WUp) (r : Fin 4096) (d : Fin 2048) :
    over a w (ix2 r d) = ∑ x : Fin 11264, a (ix2 r x) * w (ix2 d x) := by
  pointwise [over]

theorem over_wide (a : Halves) (w : WUp) : over (wide a) w = upDx a w := by
  funext i
  rw [eq_ix2 (n0 := 4096) (n1 := 2048) i]
  refine (over_ix _ _ _ _).trans (Finset.sum_congr rfl fun x _ => ?_)
  exact congrArg (· * _) (wide_ix a _ x)

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v8) = upDx (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.UpDxRefIdeal.Value.run m ρ)
  exact over_wide _ _

end Cert.Mm.UpDxRef

end
-- ==== Proof.UpDw.lean ====
/-
  The kernel of the up-projection's gradient in its weights: the tiled product is the whole product.
-/
module

public import proofs.«01_k».proof.Proof.Blocked
public import proofs.«01_k».proof.Proof.Gen.UpDwIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.UpDwIdeal Cert.UpDwIdeal.Gen
open scoped BigOperators

namespace Cert.Mm.UpDw

variable (m : (ℓ : Loc nD τ sig) → Buf (Elt Ideal) ℓ) (c : Dev nD)

abbrev a0 : Rows := m ((c : Thread nD τ).loc main_arg0)
abbrev a1 : Halves := m ((c : Thread nD τ).loc main_arg1)

theorem idx0 : ∀ t : Fin cfg0.N, win0_0.index t = ![t.val % 2, t.val / 16] := (by decide +kernel : ∀ t : Fin grid0.N, _)
theorem idx1 : ∀ t : Fin cfg0.N, win0_1.index t = ![t.val % 16 / 2 / 4, t.val % 2, t.val % 16 / 2 % 4] := (by decide +kernel : ∀ t : Fin grid0.N, _)
theorem idx2 : ∀ t : Fin cfg0.N, win0_2.index t = ![t.val % 16 / 2 / 2, 0, t.val / 16, t.val % 16 / 2 % 2] := (by decide +kernel : ∀ t : Fin grid0.N, _)
theorem N_32 (t : Fin cfg0.N) : t.val < 32 := t.isLt

/-- The row of the whole arrays that row `s` of a point's blocks is. -/
abbrev row (n : ℕ) (s : Fin 2048) : Fin 4096 := ⟨2048 * (n % 2) + s.val, by omega⟩
/-- The entry of the model's width that entry `r` of a point's block is. -/
abbrev wid (n : ℕ) (hn : n < 32) (r : Fin 1024) : Fin 2048 := ⟨1024 * (n / 16) + r.val, by omega⟩
/-- The column of the whole array that column `y` of a point's block is. -/
abbrev col (n : ℕ) (y : Fin 1408) : Fin 11264 := ⟨1408 * (n % 16 / 2) + y.val, by omega⟩

theorem blk0 (t : Fin cfg0.N) (s : Fin 2048) (r : Fin 1024) : (iblk m c 0 t : FVec Ideal S2048x1024 .bf16) (ix2 s r)
    = a0 m c (ix2 (row t.val s) (wid t.val (N_32 t) r)) := by
  blk_ext [iblk, V, idx0 t]
theorem blk1 (t : Fin cfg0.N) (s : Fin 2048) (y : Fin 1408) : (iblk m c 1 t : FVec Ideal S1x2048x1408 .bf16) (ix3 0 s y)
    = a1 m c (ix3 (⟨(col t.val y).val / 5632, by omega⟩ : Fin 2) (row t.val s) (⟨(col t.val y).val % 5632, by omega⟩ : Fin 5632)) := by
  blk_ext [iblk, V, idx1 t]

/-- The product of a point's two blocks, term by term. -/
theorem pay1 (t : Fin cfg0.N) (r : Fin 1024) (y : Fin 1408) :
    k0_pay1 (F := Ideal) (iblk m c 0 t) (iblk m c 1 t) (ix2 r y)
      = ∑ s : Fin 2048, upDwTerm (a0 m c) (a1 m c) (wid t.val (N_32 t) r) (col t.val y) (row t.val s) := by
  pointwise [k0_pay1]
  refine Finset.sum_congr rfl fun s _ => ?_
  rw [blk0, blk1]
  rfl

/-- At a block's first point the accumulator holds the first half of the rows. -/
theorem acc_first (t : Fin cfg0.N) (h0 : t.val % 2 = 0) (r : Fin 1024) (y : Fin 1408) :
    (outsAt0 m c t.val t.isLt).2 (ix2 r y) = upTo (upDwTerm (a0 m c) (a1 m c) (wid t.val (N_32 t) r) (col t.val y)) 2048 := by
  rw [outsAt0_A m c t h0 (by omega) (by omega)]
  frame_out
  pointwise [k0_pay2]
  rw [pay1]
  refine upTo_first (upDwTerm (a0 m c) (a1 m c) (wid t.val (N_32 t) r) (col t.val y)) 2048 (by omega) _ fun s => ?_
  exact congrArg _ (Fin.ext (by show 2048 * (t.val % 2) + s.val = s.val; omega))

/-- What the accumulator held before, and a block's second point. -/
theorem acc_more (t : Fin cfg0.N) (h1 : t.val % 2 = 1) (old : Vec Ideal S1024x1408 .f32) (r : Fin 1024) (y : Fin 1408)
    (ho : old (ix2 r y) = upTo (upDwTerm (a0 m c) (a1 m c) (wid t.val (N_32 t) r) (col t.val y)) 2048) :
    k0_pay3 (F := Ideal) (iblk m c 0 t) (iblk m c 1 t) old (ix2 r y)
      = ∑ s : Fin 4096, upDwTerm (a0 m c) (a1 m c) (wid t.val (N_32 t) r) (col t.val y) s := by
  pointwise [k0_pay3]
  rw [pay1, ho]
  refine (upTo_tile _ 2048 2048 (by omega) _ fun s => ?_).trans (upTo_all _)
  exact congrArg _ (Fin.ext (by show 2048 * (t.val % 2) + s.val = 2048 + s.val; omega))

/-- The block written back at a block's second point. -/
theorem out_last (t : Fin cfg0.N) (h1 : t.val % 2 = 1) (r : Fin 1024) (y : Fin 1408) :
    (outsAt0 m c t.val t.isLt).1 (ix4 0 0 r y)
      = ∑ s : Fin 4096, upDwTerm (a0 m c) (a1 m c) (wid t.val (N_32 t) r) (col t.val y) s := by
  have ho := acc_first m c ⟨t.val - 1, Nat.lt_of_le_of_lt (Nat.sub_le _ _) t.isLt⟩ (by show (t.val - 1) % 2 = 0; omega) r y
  have ew : wid (t.val - 1) (Nat.lt_of_le_of_lt (Nat.sub_le _ _) (N_32 t)) r = wid t.val (N_32 t) r :=
    Fin.ext (by show 1024 * ((t.val - 1) / 16) + r.val = 1024 * (t.val / 16) + r.val; omega)
  have ec : col (t.val - 1) y = col t.val y :=
    Fin.ext (by show 1408 * ((t.val - 1) % 16 / 2) + y.val = 1408 * (t.val % 16 / 2) + y.val; omega)
  rw [ew, ec] at ho
  rw [outsAt0_B m c t (by omega) h1 h1]
  frame_out
  pointwise [k0_pay4]
  exact acc_more m c t h1 _ r y ((congrFun (Memref.IsWhole.read_unread _ _) _).trans ho)

/-- The gradient at a column of one chip's block. -/
theorem upDw_at (b : Rows) (a : Halves) (d : Fin 2048) (x : Fin 11264) :
    upDw b a (ix4 (⟨x.val / 2816, by omega⟩ : Fin 4) (0 : Fin 1) d (⟨x.val % 2816, by omega⟩ : Fin 2816)) = ∑ s : Fin 4096, upDwTerm b a d x s :=
  Finset.sum_congr rfl fun s _ => congrArg (fun z => upDwTerm b a d z s) (Fin.ext (by show 2816 * (x.val / 2816) + x.val % 2816 = x.val; omega))

/-- The array the kernel leaves. -/
theorem final : (dats m 0 c).arrAt 2 cfg0.N = upDw (a0 m c) (a1 m c) := by
  refine (dats m 0 c).arrAt_eq_of_covers 2 _ (by decide +kernel) fun t hf y => ?_
  have hm : t.val % 2 = 1 := (flush0_2 t).mp hf
  blk_simp
  rw [after0_2]
  have h0 : (y 0).val < 1 := (y 0).isLt
  have h1 : (y 1).val < 1 := (y 1).isLt
  have h2 : (y 2).val < 1024 := (y 2).isLt
  have h3 : (y 3).val < 1408 := (y 3).isLt
  have ht := N_32 t
  have hy : y = ix4 (0 : Fin 1) (0 : Fin 1) (⟨(y 2).val, h2⟩ : Fin 1024) (⟨(y 3).val, h3⟩ : Fin 1408) := by
    funext a; apply Fin.ext
    fin_cases a <;> simp [ix4] <;> omega
  have he : (win0_2.blk t).view.emb y = ix4 (⟨(col t.val ⟨(y 3).val, h3⟩).val / 2816, by omega⟩ : Fin 4) (0 : Fin 1) (wid t.val ht ⟨(y 2).val, h2⟩)
      (⟨(col t.val ⟨(y 3).val, h3⟩).val % 2816, by omega⟩ : Fin 2816) := by
    funext a; apply Fin.ext
    fin_cases a <;> blk_simp [idx2 t] <;> simp [ix4] <;> omega
  rw [he]
  exact (congrArg (outsAt0 m c t.val t.isLt).1 hy).trans ((out_last m c t hm _ _).trans (upDw_at _ _ _ _).symm)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = upDw (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.UpDwIdeal.Value.run_blocks m ρ)

end Cert.Mm.UpDw

end
-- ==== Proof.UpDwRef.lean ====
/-
  The reference of the up-projection's gradient in its weights.
-/
module

public import proofs.«01_k».proof.Proof.Blocked
public import proofs.«01_k».proof.Proof.Gen.UpDwRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.UpDwRefIdeal Cert.UpDwRefIdeal.Gen
open scoped BigOperators

namespace Cert.Mm.UpDwRef

/-- The two halves side by side. -/
def wide (a : Halves) : FVec Ideal S4096x11264 .f32 :=
  shapeCast S4096x11264 (transpose S4096x2x5632 [1, 0, 2] (extf .f32 a bitsLt_bf16_f32) transposes_S2x4096x5632_S4096x2x5632_1_0_2) shapeCasts_S4096x2x5632_S4096x11264

theorem wide_ix (a : Halves) (r : Fin 4096) (x : Fin 11264) :
    wide a (ix2 r x) = a (ix3 (⟨x.val / 5632, by omega⟩ : Fin 2) r (⟨x.val % 5632, by omega⟩ : Fin 5632)) := by
  pointwise [wide]

/-- The product over the rows, columns first. -/
def over (a : FVec Ideal S4096x11264 .f32) (b : Rows) : FVec Ideal S11264x2048 .f32 :=
  Host.dotGeneral dot_S4096x11264_S4096x2048_S11264x2048_0_0_1_1_n_n none a (extf .f32 b bitsLt_bf16_f32)

theorem over_ix (a : FVec Ideal S4096x11264 .f32) (b : Rows) (x : Fin 11264) (d : Fin 2048) :
    over a b (ix2 x d) = ∑ s : Fin 4096, a (ix2 s x) * b (ix2 s d) := by
  pointwise [over]

/-- The chips' columns, one chip after another. -/
def chips (g : FVec Ideal S11264x2048 .f32) : FVec Ideal S4x1x2048x2816 .bf16 :=
  truncf .bf16 (transpose S4x1x2048x2816 [1, 2, 0, 3] (shapeCast S2048x4x1x2816 (transpose S2048x11264 [1, 0] g transposes_S11264x2048_S2048x11264_1_0) shapeCasts_S2048x11264_S2048x4x1x2816) transposes_S2048x4x1x2816_S4x1x2048x2816_1_2_0_3) bitsLt_bf16_f32

theorem chips_ix (g : FVec Ideal S11264x2048 .f32) (p : Fin 4) (z : Fin 1) (d : Fin 2048) (y : Fin 2816) :
    chips g (ix4 p z d y) = g (ix2 ⟨2816 * p.val + y.val, by omega⟩ d) := by
  have hz : z = 0 := Subsingleton.elim _ _
  subst hz
  pointwise [chips]
  refine congrArg g (congrArg (fun x => ix2 x d) (Fin.ext ?_))
  show p.val * 2816 + y.val = 2816 * p.val + y.val
  omega

theorem chips_over (b : Rows) (a : Halves) : chips (over (wide a) b) = upDw b a := by
  funext i
  rw [eq_ix4 (n0 := 4) (n1 := 1) (n2 := 2048) (n3 := 2816) i]
  refine (chips_ix _ _ _ _ _).trans ((over_ix _ _ _ _).trans (Finset.sum_congr rfl fun s _ => ?_))
  rw [wide_ix, mul_comm]
  rfl

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v12) = upDw (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.UpDwRefIdeal.Value.run m ρ)
  exact chips_over _ _

end Cert.Mm.UpDwRef

end
-- ==== Proof.DownDx.lean ====
/-
  The kernel of the down-projection's gradient in its input: the tiled product is the whole product.
-/
module

public import proofs.«01_k».proof.Proof.Blocked
public import proofs.«01_k».proof.Proof.Gen.DownDxIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.DownDxIdeal Cert.DownDxIdeal.Gen
open scoped BigOperators

namespace Cert.Mm.DownDx

variable (m : (ℓ : Loc nD τ sig) → Buf (Elt Ideal) ℓ) (c : Dev nD)

abbrev a0 : Rows := m ((c : Thread nD τ).loc main_arg0)
abbrev a1 : WDown := m ((c : Thread nD τ).loc main_arg1)

/-- The weights by chip, as the kernel's call takes them. -/
def chips (w : WDown) : FVec Ideal S4x1x1408x2048 .bf16 :=
  shapeCast S4x1x1408x2048 (truncf .bf16 w bitsLt_bf16_f32) shapeCasts_S5632x2048_S4x1x1408x2048

theorem chips_ix (w : WDown) (p : Fin 4) (r : Fin 1408) (d : Fin 2048) :
    chips w (ix4 p 0 r d) = w (ix2 ⟨1408 * p.val + r.val, by omega⟩ d) := by
  pointwise [chips]
  refine congrArg w (congrArg (fun x => ix2 x d) (Fin.ext ?_))
  show p.val * 1408 + r.val = 1408 * p.val + r.val
  omega

theorem V_chips : (V m c main_v1 : FVec Ideal S4x1x1408x2048 .bf16) = chips (a1 m c) := by
  show StableHlo.after (List.flatten [hostOps0]) (fun b => m (c, b)) (Proc.devRef .tc main_v1) = _
  simp only [List.flatten_cons, List.flatten_nil, List.append_nil, hostOps0]
  after_results <;> rfl

theorem idx0 : ∀ t : Fin cfg0.N, win0_0.index t = ![t.val / 4, 0] := (by decide +kernel : ∀ t : Fin grid0.N, _)
theorem idx1 : ∀ t : Fin cfg0.N, win0_1.index t = ![t.val % 4, 0, 0, 0] := (by decide +kernel : ∀ t : Fin grid0.N, _)
theorem idx2 : ∀ t : Fin cfg0.N, win0_2.index t = ![t.val / 4, t.val % 4] := (by decide +kernel : ∀ t : Fin grid0.N, _)
theorem N_16 (t : Fin cfg0.N) : t.val < 16 := t.isLt

/-- The row of the whole array that row `r` of a point's block is. -/
abbrev row (n : ℕ) (hn : n < 16) (r : Fin 1024) : Fin 4096 := ⟨1024 * (n / 4) + r.val, by omega⟩
/-- The column of the whole array that column `y` of a point's block is. -/
abbrev col (n : ℕ) (y : Fin 1408) : Fin 5632 := ⟨1408 * (n % 4) + y.val, by omega⟩

theorem blk0 (t : Fin cfg0.N) (r : Fin 1024) (d : Fin 2048) : (iblk m c 0 t : FVec Ideal S1024x2048 .bf16) (ix2 r d)
    = a0 m c (ix2 (row t.val (N_16 t) r) d) := by
  blk_ext [iblk, V, idx0 t]
theorem blk1 (t : Fin cfg0.N) (y : Fin 1408) (d : Fin 2048) : (iblk m c 1 t : FVec Ideal S1x1x1408x2048 .bf16) (ix4 0 0 y d)
    = a1 m c (ix2 (col t.val y) d) := by
  have e : (iblk m c 1 t : FVec Ideal S1x1x1408x2048 .bf16) (ix4 0 0 y d)
      = (V m c main_v1 : FVec Ideal S4x1x1408x2048 .bf16) (ix4 (⟨t.val % 4, by omega⟩ : Fin 4) 0 y d) := by
    blk_ext [iblk, idx1 t]
  rw [e, V_chips, chips_ix]

/-- The product of a point's two blocks. -/
theorem pay1 (t : Fin cfg0.N) (r : Fin 1024) (y : Fin 1408) :
    k0_pay1 (F := Ideal) (iblk m c 0 t) (iblk m c 1 t) (ix2 r y)
      = ∑ d : Fin 2048, a0 m c (ix2 (row t.val (N_16 t) r) d) * a1 m c (ix2 (col t.val y) d) := by
  pointwise [k0_pay1]
  refine Finset.sum_congr rfl fun d _ => ?_
  rw [blk0, blk1]

/-- The array the kernel leaves. -/
theorem final : (dats m 0 c).arrAt 2 cfg0.N = downDx (a0 m c) (a1 m c) := by
  refine (dats m 0 c).arrAt_eq_of_covers 2 _ (by decide +kernel) fun t hf y => ?_
  blk_simp
  rw [after0_2]
  frame_out
  have h0 : (y 0).val < 1024 := (y 0).isLt
  have h1 : (y 1).val < 1408 := (y 1).isLt
  have ht := N_16 t
  have hy : y = ix2 (⟨(y 0).val, h0⟩ : Fin 1024) (⟨(y 1).val, h1⟩ : Fin 1408) := by
    funext a; fin_cases a <;> rfl
  have he : (win0_2.blk t).view.emb y = ix2 (row t.val ht ⟨(y 0).val, h0⟩) (col t.val ⟨(y 1).val, h1⟩) := by
    funext a; apply Fin.ext
    fin_cases a <;> blk_simp [idx2 t] <;> simp [ix2] <;> omega
  rw [he]
  exact (congrArg (k0_pay1 (F := Ideal) (iblk m c 0 t) (iblk m c 1 t)) hy).trans (pay1 m c t _ _)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v2) = downDx (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.DownDxIdeal.Value.run_blocks m ρ)

end Cert.Mm.DownDx

end
-- ==== Proof.DownDxRef.lean ====
/-
  The reference of the down-projection's gradient in its input.
-/
module

public import proofs.«01_k».proof.Proof.Blocked
public import proofs.«01_k».proof.Proof.Gen.DownDxRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.DownDxRefIdeal Cert.DownDxRefIdeal.Gen
open scoped BigOperators

namespace Cert.Mm.DownDxRef

/-- The product over the model's width. -/
def over (y : Rows) (w : WDown) : Acts :=
  truncf .bf16 (Host.dotGeneral dot_S4096x2048_S5632x2048_S4096x5632_1_1_0_0_n_n none (extf .f32 y bitsLt_bf16_f32) w) bitsLt_bf16_f32

theorem over_ix (y : Rows) (w : WDown) (s : Fin 4096) (f : Fin 5632) :
    over y w (ix2 s f) = ∑ d : Fin 2048, y (ix2 s d) * w (ix2 f d) := by
  pointwise [over]

theorem over_eq (y : Rows) (w : WDown) : over y w = downDx y w := by
  funext i
  rw [eq_ix2 (n0 := 4096) (n1 := 5632) i]
  exact over_ix _ _ _ _

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v4) = downDx (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.DownDxRefIdeal.Value.run m ρ)
  exact over_eq _ _

end Cert.Mm.DownDxRef

end
-- ==== Proof.DownDw.lean ====
/-
  The kernel of the down-projection's gradient in its weights: the tiled product is the whole product.
-/
module

public import proofs.«01_k».proof.Proof.Blocked
public import proofs.«01_k».proof.Proof.Gen.DownDwIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.DownDwIdeal Cert.DownDwIdeal.Gen
open scoped BigOperators

namespace Cert.Mm.DownDw

variable (m : (ℓ : Loc nD τ sig) → Buf (Elt Ideal) ℓ) (c : Dev nD)

abbrev a0 : Acts := m ((c : Thread nD τ).loc main_arg0)
abbrev a1 : Rows := m ((c : Thread nD τ).loc main_arg1)

theorem idx0 : ∀ t : Fin cfg0.N, win0_0.index t = ![t.val % 2, t.val / 4] := (by decide +kernel : ∀ t : Fin grid0.N, _)
theorem idx1 : ∀ t : Fin cfg0.N, win0_1.index t = ![t.val % 2, t.val % 4 / 2] := (by decide +kernel : ∀ t : Fin grid0.N, _)
theorem idx2 : ∀ t : Fin cfg0.N, win0_2.index t = ![t.val / 4, 0, 0, t.val % 4 / 2] := (by decide +kernel : ∀ t : Fin grid0.N, _)
theorem N_16 (t : Fin cfg0.N) : t.val < 16 := t.isLt

/-- The row of the whole arrays that row `s` of a point's blocks is. -/
abbrev row (n : ℕ) (s : Fin 2048) : Fin 4096 := ⟨2048 * (n % 2) + s.val, by omega⟩
/-- The entry of the FFN's width that entry `r` of a point's block is. -/
abbrev wid (n : ℕ) (hn : n < 16) (r : Fin 1408) : Fin 5632 := ⟨1408 * (n / 4) + r.val, by omega⟩
/-- The column of the whole array that column `y` of a point's block is. -/
abbrev col (n : ℕ) (y : Fin 1024) : Fin 2048 := ⟨1024 * (n % 4 / 2) + y.val, by omega⟩

theorem blk0 (t : Fin cfg0.N) (s : Fin 2048) (r : Fin 1408) : (iblk m c 0 t : FVec Ideal S2048x1408 .bf16) (ix2 s r)
    = a0 m c (ix2 (row t.val s) (wid t.val (N_16 t) r)) := by
  blk_ext [iblk, V, idx0 t]
theorem blk1 (t : Fin cfg0.N) (s : Fin 2048) (y : Fin 1024) : (iblk m c 1 t : FVec Ideal S2048x1024 .bf16) (ix2 s y)
    = a1 m c (ix2 (row t.val s) (col t.val y)) := by
  blk_ext [iblk, V, idx1 t]

/-- The product of a point's two blocks, term by term. -/
theorem pay1 (t : Fin cfg0.N) (r : Fin 1408) (y : Fin 1024) :
    k0_pay1 (F := Ideal) (iblk m c 0 t) (iblk m c 1 t) (ix2 r y)
      = ∑ s : Fin 2048, downDwTerm (a0 m c) (a1 m c) (wid t.val (N_16 t) r) (col t.val y) (row t.val s) := by
  pointwise [k0_pay1]
  refine Finset.sum_congr rfl fun s _ => ?_
  rw [blk0, blk1]
  rfl

/-- At a block's first point the accumulator holds the first half of the rows. -/
theorem acc_first (t : Fin cfg0.N) (h0 : t.val % 2 = 0) (r : Fin 1408) (y : Fin 1024) :
    (outsAt0 m c t.val t.isLt).2 (ix2 r y) = upTo (downDwTerm (a0 m c) (a1 m c) (wid t.val (N_16 t) r) (col t.val y)) 2048 := by
  rw [outsAt0_A m c t h0 (by omega) (by omega)]
  frame_out
  pointwise [k0_pay2]
  rw [pay1]
  refine upTo_first (downDwTerm (a0 m c) (a1 m c) (wid t.val (N_16 t) r) (col t.val y)) 2048 (by omega) _ fun s => ?_
  exact congrArg _ (Fin.ext (by show 2048 * (t.val % 2) + s.val = s.val; omega))

/-- What the accumulator held before, and a block's second point. -/
theorem acc_more (t : Fin cfg0.N) (h1 : t.val % 2 = 1) (old : Vec Ideal S1408x1024 .f32) (r : Fin 1408) (y : Fin 1024)
    (ho : old (ix2 r y) = upTo (downDwTerm (a0 m c) (a1 m c) (wid t.val (N_16 t) r) (col t.val y)) 2048) :
    k0_pay3 (F := Ideal) (iblk m c 0 t) (iblk m c 1 t) old (ix2 r y)
      = ∑ s : Fin 4096, downDwTerm (a0 m c) (a1 m c) (wid t.val (N_16 t) r) (col t.val y) s := by
  pointwise [k0_pay3]
  rw [pay1, ho]
  refine (upTo_tile _ 2048 2048 (by omega) _ fun s => ?_).trans (upTo_all _)
  exact congrArg _ (Fin.ext (by show 2048 * (t.val % 2) + s.val = 2048 + s.val; omega))

/-- The block written back at a block's second point. -/
theorem out_last (t : Fin cfg0.N) (h1 : t.val % 2 = 1) (r : Fin 1408) (y : Fin 1024) :
    (outsAt0 m c t.val t.isLt).1 (ix4 0 0 r y)
      = ∑ s : Fin 4096, downDwTerm (a0 m c) (a1 m c) (wid t.val (N_16 t) r) (col t.val y) s := by
  have ho := acc_first m c ⟨t.val - 1, Nat.lt_of_le_of_lt (Nat.sub_le _ _) t.isLt⟩ (by show (t.val - 1) % 2 = 0; omega) r y
  have ew : wid (t.val - 1) (Nat.lt_of_le_of_lt (Nat.sub_le _ _) (N_16 t)) r = wid t.val (N_16 t) r :=
    Fin.ext (by show 1408 * ((t.val - 1) / 4) + r.val = 1408 * (t.val / 4) + r.val; omega)
  have ec : col (t.val - 1) y = col t.val y :=
    Fin.ext (by show 1024 * ((t.val - 1) % 4 / 2) + y.val = 1024 * (t.val % 4 / 2) + y.val; omega)
  rw [ew, ec] at ho
  rw [outsAt0_B m c t (by omega) h1 h1]
  frame_out
  pointwise [k0_pay4]
  exact acc_more m c t h1 _ r y ((congrFun (Memref.IsWhole.read_unread _ _) _).trans ho)

/-- The gradient at a row of one chip's block. -/
theorem downDw_at (a : Acts) (b : Rows) (f : Fin 5632) (d : Fin 2048) :
    downDw a b (ix4 (⟨f.val / 1408, by omega⟩ : Fin 4) (0 : Fin 1) (⟨f.val % 1408, by omega⟩ : Fin 1408) d) = ∑ s : Fin 4096, downDwTerm a b f d s :=
  Finset.sum_congr rfl fun s _ => congrArg (fun z => downDwTerm a b z d s) (Fin.ext (by show 1408 * (f.val / 1408) + f.val % 1408 = f.val; omega))

/-- The array the kernel leaves. -/
theorem final : (dats m 0 c).arrAt 2 cfg0.N = downDw (a0 m c) (a1 m c) := by
  refine (dats m 0 c).arrAt_eq_of_covers 2 _ (by decide +kernel) fun t hf y => ?_
  have hm : t.val % 2 = 1 := (flush0_2 t).mp hf
  blk_simp
  rw [after0_2]
  have h0 : (y 0).val < 1 := (y 0).isLt
  have h1 : (y 1).val < 1 := (y 1).isLt
  have h2 : (y 2).val < 1408 := (y 2).isLt
  have h3 : (y 3).val < 1024 := (y 3).isLt
  have ht := N_16 t
  have hy : y = ix4 (0 : Fin 1) (0 : Fin 1) (⟨(y 2).val, h2⟩ : Fin 1408) (⟨(y 3).val, h3⟩ : Fin 1024) := by
    funext a; apply Fin.ext
    fin_cases a <;> simp [ix4] <;> omega
  have he : (win0_2.blk t).view.emb y = ix4 (⟨(wid t.val ht ⟨(y 2).val, h2⟩).val / 1408, by omega⟩ : Fin 4) (0 : Fin 1)
      (⟨(wid t.val ht ⟨(y 2).val, h2⟩).val % 1408, by omega⟩ : Fin 1408) (col t.val ⟨(y 3).val, h3⟩) := by
    funext a; apply Fin.ext
    fin_cases a <;> blk_simp [idx2 t] <;> simp [ix4] <;> omega
  rw [he]
  exact (congrArg (outsAt0 m c t.val t.isLt).1 hy).trans ((out_last m c t hm _ _).trans (downDw_at _ _ _ _).symm)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = downDw (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.DownDwIdeal.Value.run_blocks m ρ)

end Cert.Mm.DownDw

end
-- ==== Proof.DownDwRef.lean ====
/-
  The reference of the down-projection's gradient in its weights.
-/
module

public import proofs.«01_k».proof.Proof.Blocked
public import proofs.«01_k».proof.Proof.Gen.DownDwRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.DownDwRefIdeal Cert.DownDwRefIdeal.Gen
open scoped BigOperators

namespace Cert.Mm.DownDwRef

/-- The product over the rows, the model's width first. -/
def over (y : Rows) (a : Acts) : FVec Ideal S2048x5632 .f32 :=
  Host.dotGeneral dot_S4096x2048_S4096x5632_S2048x5632_0_0_1_1_n_n none (extf .f32 y bitsLt_bf16_f32) (extf .f32 a bitsLt_bf16_f32)

theorem over_ix (y : Rows) (a : Acts) (d : Fin 2048) (f : Fin 5632) :
    over y a (ix2 d f) = ∑ s : Fin 4096, y (ix2 s d) * a (ix2 s f) := by
  pointwise [over]

/-- The chips' rows, one chip after another. -/
def chips (g : FVec Ideal S2048x5632 .f32) : FVec Ideal S4x1x1408x2048 .bf16 :=
  truncf .bf16 (shapeCast S4x1x1408x2048 (transpose S5632x2048 [1, 0] g transposes_S2048x5632_S5632x2048_1_0) shapeCasts_S5632x2048_S4x1x1408x2048) bitsLt_bf16_f32

theorem chips_ix (g : FVec Ideal S2048x5632 .f32) (p : Fin 4) (z : Fin 1) (r : Fin 1408) (d : Fin 2048) :
    chips g (ix4 p z r d) = g (ix2 d ⟨1408 * p.val + r.val, by omega⟩) := by
  have hz : z = 0 := Subsingleton.elim _ _
  subst hz
  pointwise [chips]
  refine congrArg g (congrArg (ix2 d) (Fin.ext ?_))
  show p.val * 1408 + r.val = 1408 * p.val + r.val
  omega

theorem chips_over (a : Acts) (y : Rows) : chips (over y a) = downDw a y := by
  funext i
  rw [eq_ix4 (n0 := 4) (n1 := 1) (n2 := 1408) (n3 := 2048) i]
  refine (chips_ix _ _ _ _ _).trans ((over_ix _ _ _ _).trans (Finset.sum_congr rfl fun s _ => ?_))
  rw [mul_comm]
  rfl

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v7) = downDw (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.DownDwRefIdeal.Value.run m ρ)
  exact chips_over _ _

end Cert.Mm.DownDwRef

end
-- ==== Proof.Up.lean ====
/-
  The kernel of the up-projection: the tiled product is the whole product.
-/
module

public import proofs.«01_k».proof.Proof.Blocked
public import proofs.«01_k».proof.Proof.Gen.UpIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.UpIdeal Cert.UpIdeal.Gen
open scoped BigOperators

namespace Cert.Mm.Up

variable (m : (ℓ : Loc nD τ sig) → Buf (Elt Ideal) ℓ) (c : Dev nD)

abbrev a0 : Rows := m ((c : Thread nD τ).loc main_arg0)
abbrev a1 : WUp := m ((c : Thread nD τ).loc main_arg1)

/-- The weights by chip, as the kernel's call takes them. -/
def chips (w : WUp) : FVec Ideal S4x1x2048x2816 .bf16 :=
  broadcastInDim S4x1x2048x2816 ![0, 2, 3] bcast_S4x2048x2816_S4x1x2048x2816_0_2_3
    (transpose S4x2048x2816 [1, 0, 2] (shapeCast S2048x4x2816 (truncf .bf16 w bitsLt_bf16_f32) shapeCasts_S2048x11264_S2048x4x2816) transposes_S2048x4x2816_S4x2048x2816_1_0_2)

theorem chips_ix (w : WUp) (p : Fin 4) (d : Fin 2048) (y : Fin 2816) :
    chips w (ix4 p 0 d y) = w (ix2 d ⟨2816 * p.val + y.val, by omega⟩) := by
  pointwise [chips]
  refine congrArg w (congrArg (ix2 d) (Fin.ext ?_))
  show p.val * 2816 + y.val = 2816 * p.val + y.val
  omega

theorem V_chips : (V m c main_v3 : FVec Ideal S4x1x2048x2816 .bf16) = chips (a1 m c) := by
  show StableHlo.after (List.flatten [hostOps0]) (fun b => m (c, b)) (Proc.devRef .tc main_v3) = _
  simp only [List.flatten_cons, List.flatten_nil, List.append_nil, hostOps0]
  after_results <;> rfl

theorem idx0 : ∀ t : Fin cfg0.N, win0_0.index t = ![t.val / 8, 0] := (by decide +kernel : ∀ t : Fin grid0.N, _)
theorem idx1 : ∀ t : Fin cfg0.N, win0_1.index t = ![t.val % 8 / 2, 0, 0, t.val % 8 % 2] := (by decide +kernel : ∀ t : Fin grid0.N, _)
theorem idx2 : ∀ t : Fin cfg0.N, win0_2.index t = ![t.val % 8 / 4, t.val / 8, t.val % 8 % 4] := (by decide +kernel : ∀ t : Fin grid0.N, _)
theorem N_32 (t : Fin cfg0.N) : t.val < 32 := t.isLt

/-- The row of the whole array that row `r` of a point's block is. -/
abbrev row (n : ℕ) (hn : n < 32) (r : Fin 1024) : Fin 4096 := ⟨1024 * (n / 8) + r.val, by omega⟩
/-- The column of the whole array that column `y` of a point's block is. -/
abbrev col (n : ℕ) (y : Fin 1408) : Fin 11264 := ⟨1408 * (n % 8) + y.val, by omega⟩

theorem blk0 (t : Fin cfg0.N) (r : Fin 1024) (d : Fin 2048) : (iblk m c 0 t : FVec Ideal S1024x2048 .bf16) (ix2 r d)
    = a0 m c (ix2 (row t.val (N_32 t) r) d) := by
  blk_ext [iblk, V, idx0 t]
theorem blk1 (t : Fin cfg0.N) (d : Fin 2048) (y : Fin 1408) : (iblk m c 1 t : FVec Ideal S1x1x2048x1408 .bf16) (ix4 0 0 d y)
    = a1 m c (ix2 d (col t.val y)) := by
  have e : (iblk m c 1 t : FVec Ideal S1x1x2048x1408 .bf16) (ix4 0 0 d y)
      = (V m c main_v3 : FVec Ideal S4x1x2048x2816 .bf16) (ix4 (⟨(col t.val y).val / 2816, by omega⟩ : Fin 4) 0 d (⟨(col t.val y).val % 2816, by omega⟩ : Fin 2816)) := by
    blk_ext [iblk, idx1 t]
  rw [e, V_chips, chips_ix]
  refine congrArg (a1 m c) (congrArg (ix2 d) (Fin.ext ?_))
  show 2816 * ((1408 * (t.val % 8) + y.val) / 2816) + (1408 * (t.val % 8) + y.val) % 2816 = 1408 * (t.val % 8) + y.val
  omega

/-- The product of a point's two blocks. -/
theorem pay1 (t : Fin cfg0.N) (r : Fin 1024) (y : Fin 1408) :
    k0_pay1 (F := Ideal) (iblk m c 0 t) (iblk m c 1 t) (ix3 0 r y)
      = ∑ d : Fin 2048, a0 m c (ix2 (row t.val (N_32 t) r) d) * a1 m c (ix2 d (col t.val y)) := by
  pointwise [k0_pay1]
  refine Finset.sum_congr rfl fun d _ => ?_
  rw [blk0, blk1]

/-- The up-projection at a column of the two halves. -/
theorem up_at (b : Rows) (w : WUp) (s : Fin 4096) (x : Fin 11264) :
    up b w (ix3 (⟨x.val / 5632, by omega⟩ : Fin 2) s (⟨x.val % 5632, by omega⟩ : Fin 5632)) = ∑ d : Fin 2048, b (ix2 s d) * w (ix2 d x) :=
  Finset.sum_congr rfl fun d _ => congrArg (fun z => b (ix2 s d) * w (ix2 d z)) (Fin.ext (by show 5632 * (x.val / 5632) + x.val % 5632 = x.val; omega))

/-- The array the kernel leaves. -/
theorem final : (dats m 0 c).arrAt 2 cfg0.N = up (a0 m c) (a1 m c) := by
  refine (dats m 0 c).arrAt_eq_of_covers 2 _ (by decide +kernel) fun t hf y => ?_
  blk_simp
  rw [after0_2]
  frame_out
  have h0 : (y 0).val < 1 := (y 0).isLt
  have h1 : (y 1).val < 1024 := (y 1).isLt
  have h2 : (y 2).val < 1408 := (y 2).isLt
  have ht := N_32 t
  have hy : y = ix3 (0 : Fin 1) (⟨(y 1).val, h1⟩ : Fin 1024) (⟨(y 2).val, h2⟩ : Fin 1408) := by
    funext a; apply Fin.ext
    fin_cases a <;> simp [ix3] <;> omega
  have he : (win0_2.blk t).view.emb y = ix3 (⟨(col t.val ⟨(y 2).val, h2⟩).val / 5632, by omega⟩ : Fin 2) (row t.val ht ⟨(y 1).val, h1⟩)
      (⟨(col t.val ⟨(y 2).val, h2⟩).val % 5632, by omega⟩ : Fin 5632) := by
    funext a; apply Fin.ext
    fin_cases a <;> blk_simp [idx2 t] <;> simp [ix3] <;> omega
  rw [he]
  exact (congrArg (k0_pay1 (F := Ideal) (iblk m c 0 t) (iblk m c 1 t)) hy).trans ((pay1 m c t _ _).trans (up_at _ _ _ _).symm)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v4) = up (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.UpIdeal.Value.run_blocks m ρ)

end Cert.Mm.Up

end
-- ==== Proof.UpRef.lean ====
/-
  The reference of the up-projection.
-/
module

public import proofs.«01_k».proof.Proof.Blocked
public import proofs.«01_k».proof.Proof.Gen.UpRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.UpRefIdeal Cert.UpRefIdeal.Gen
open scoped BigOperators

namespace Cert.Mm.UpRef

/-- The product over the model's width. -/
def over (b : Rows) (w : WUp) : FVec Ideal S4096x11264 .f32 :=
  Host.dotGeneral dot_S4096x2048_S2048x11264_S4096x11264_1_0_0_1_n_n none (extf .f32 b bitsLt_bf16_f32) w

theorem over_ix (b : Rows) (w : WUp) (s : Fin 4096) (x : Fin 11264) :
    over b w (ix2 s x) = ∑ d : Fin 2048, b (ix2 s d) * w (ix2 d x) := by
  pointwise [over]

/-- The columns split into halves. -/
def halves (g : FVec Ideal S4096x11264 .f32) : Halves :=
  truncf .bf16 (transpose S2x4096x5632 [1, 0, 2] (shapeCast S4096x2x5632 g shapeCasts_S4096x11264_S4096x2x5632) transposes_S4096x2x5632_S2x4096x5632_1_0_2) bitsLt_bf16_f32

theorem halves_ix (g : FVec Ideal S4096x11264 .f32) (h : Fin 2) (s : Fin 4096) (f : Fin 5632) :
    halves g (ix3 h s f) = g (ix2 s ⟨5632 * h.val + f.val, by omega⟩) := by
  pointwise [halves]
  refine congrArg g (congrArg (ix2 s) (Fin.ext ?_))
  show h.val * 5632 + f.val = 5632 * h.val + f.val
  omega

theorem halves_over (b : Rows) (w : WUp) : halves (over b w) = up b w := by
  funext i
  rw [eq_ix3 (n0 := 2) (n1 := 4096) (n2 := 5632) i]
  exact (halves_ix _ _ _ _).trans (over_ix _ _ _ _)

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v4) = up (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.UpRefIdeal.Value.run m ρ)
  exact halves_over _ _

end Cert.Mm.UpRef

end
-- ==== Proof.Down.lean ====
/-
  The kernel of the down-projection: the tiled product is the whole product.
-/
module

public import proofs.«01_k».proof.Proof.Blocked
public import proofs.«01_k».proof.Proof.Gen.DownIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.DownIdeal Cert.DownIdeal.Gen
open scoped BigOperators

namespace Cert.Mm.Down

variable (m : (ℓ : Loc nD τ sig) → Buf (Elt Ideal) ℓ) (c : Dev nD)

abbrev a0 : Acts := m ((c : Thread nD τ).loc main_arg0)
abbrev a1 : WDown := m ((c : Thread nD τ).loc main_arg1)
abbrev a2 : FVec Ideal ⟨2, ![4096, 2048]⟩ .f32 := m ((c : Thread nD τ).loc main_arg2)

/-- The weights by chip, as the kernel's call takes them. -/
def chips (w : WDown) : FVec Ideal S4x1x1408x2048 .bf16 :=
  shapeCast S4x1x1408x2048 (truncf .bf16 w bitsLt_bf16_f32) shapeCasts_S5632x2048_S4x1x1408x2048

theorem chips_ix (w : WDown) (p : Fin 4) (r : Fin 1408) (d : Fin 2048) :
    chips w (ix4 p 0 r d) = w (ix2 ⟨1408 * p.val + r.val, by omega⟩ d) := by
  pointwise [chips]
  refine congrArg w (congrArg (fun x => ix2 x d) (Fin.ext ?_))
  show p.val * 1408 + r.val = 1408 * p.val + r.val
  omega

theorem V_chips : (V m c main_v1 : FVec Ideal S4x1x1408x2048 .bf16) = chips (a1 m c) := by
  show StableHlo.after (List.flatten [hostOps0]) (fun b => m (c, b)) (Proc.devRef .tc main_v1) = _
  simp only [List.flatten_cons, List.flatten_nil, List.append_nil, hostOps0]
  after_results <;> rfl

theorem idx0 : ∀ t : Fin cfg0.N, win0_0.index t = ![t.val / 8, t.val % 4] := (by decide +kernel : ∀ t : Fin grid0.N, _)
theorem idx1 : ∀ t : Fin cfg0.N, win0_1.index t = ![t.val % 4, 0, 0, t.val % 8 / 4] := (by decide +kernel : ∀ t : Fin grid0.N, _)
theorem idx2 : ∀ t : Fin cfg0.N, win0_2.index t = ![t.val / 8, t.val % 8 / 4] := (by decide +kernel : ∀ t : Fin grid0.N, _)
theorem idx3 : ∀ t : Fin cfg0.N, win0_3.index t = ![t.val / 8, t.val % 8 / 4] := (by decide +kernel : ∀ t : Fin grid0.N, _)
theorem N_32 (t : Fin cfg0.N) : t.val < 32 := t.isLt

/-- The row of the whole array that row `r` of a point's block is. -/
abbrev row (n : ℕ) (hn : n < 32) (r : Fin 1024) : Fin 4096 := ⟨1024 * (n / 8) + r.val, by omega⟩
/-- The column of the whole array that column `d` of a point's block is. -/
abbrev col (n : ℕ) (d : Fin 1024) : Fin 2048 := ⟨1024 * (n % 8 / 4) + d.val, by omega⟩
/-- The entry of the FFN's width that entry `y` of a point's block is. -/
abbrev wid (n : ℕ) (y : Fin 1408) : Fin 5632 := ⟨1408 * (n % 4) + y.val, by omega⟩

theorem blk0 (t : Fin cfg0.N) (r : Fin 1024) (y : Fin 1408) : (iblk m c 0 t : FVec Ideal S1024x1408 .bf16) (ix2 r y)
    = a0 m c (ix2 (row t.val (N_32 t) r) (wid t.val y)) := by
  blk_ext [iblk, V, idx0 t]
theorem blk1 (t : Fin cfg0.N) (y : Fin 1408) (d : Fin 1024) : (iblk m c 1 t : FVec Ideal S1x1x1408x1024 .bf16) (ix4 0 0 y d)
    = a1 m c (ix2 (wid t.val y) (col t.val d)) := by
  have e : (iblk m c 1 t : FVec Ideal S1x1x1408x1024 .bf16) (ix4 0 0 y d)
      = (V m c main_v1 : FVec Ideal S4x1x1408x2048 .bf16) (ix4 (⟨t.val % 4, by omega⟩ : Fin 4) 0 y (col t.val d)) := by
    blk_ext [iblk, idx1 t]
  rw [e, V_chips, chips_ix]
theorem blk2 (t : Fin cfg0.N) (r : Fin 1024) (d : Fin 1024) : (iblk m c 2 t : FVec Ideal S1024x1024 .f32) (ix2 r d)
    = a2 m c (ix2 (row t.val (N_32 t) r) (col t.val d)) := by
  blk_ext [iblk, V, idx2 t]

/-- The product of a point's two blocks, term by term. -/
theorem pay1 (t : Fin cfg0.N) (r : Fin 1024) (d : Fin 1024) :
    k0_pay1 (F := Ideal) (iblk m c 0 t) (iblk m c 1 t) (ix2 r d)
      = ∑ y : Fin 1408, downTerm (a0 m c) (a1 m c) (row t.val (N_32 t) r) (col t.val d) (wid t.val y) := by
  pointwise [k0_pay1]
  refine Finset.sum_congr rfl fun y _ => ?_
  rw [blk0, blk1]
  rfl

/-- The accumulator holds the terms up to a point's tile. -/
abbrev Upto (n : ℕ) (hn : n < cfg0.N) : Prop := ∀ (r : Fin 1024) (d : Fin 1024),
    (outsAt0 m c n hn).2 (ix2 r d) = upTo (downTerm (a0 m c) (a1 m c) (row n hn r) (col n d)) (1408 * (n % 4 + 1))

theorem acc_first (t : Fin cfg0.N) (h0 : t.val % 4 = 0) : Upto m c t.val t.isLt := by
  intro r d
  rw [outsAt0_A m c t h0 (by omega) (by omega)]
  frame_out
  pointwise [k0_pay2]
  rw [pay1]
  refine (upTo_first (downTerm (a0 m c) (a1 m c) (row t.val (N_32 t) r) (col t.val d)) 1408 (by omega) _ fun y => ?_).trans ?_
  · exact congrArg _ (Fin.ext (by show 1408 * (t.val % 4) + y.val = y.val; omega))
  · rw [h0]

/-- What the accumulator held before, and a point's tile. -/
theorem acc_more (t : Fin cfg0.N) (h0 : ¬t.val % 4 = 0) (old : Vec Ideal S1024x1024 .f32) (r : Fin 1024) (d : Fin 1024)
    (ho : old (ix2 r d) = upTo (downTerm (a0 m c) (a1 m c) (row t.val (N_32 t) r) (col t.val d)) (1408 * (t.val % 4))) :
    k0_pay3 (F := Ideal) (iblk m c 0 t) (iblk m c 1 t) old (ix2 r d)
      = upTo (downTerm (a0 m c) (a1 m c) (row t.val (N_32 t) r) (col t.val d)) (1408 * (t.val % 4 + 1)) := by
  pointwise [k0_pay3]
  rw [pay1, ho]
  exact upTo_tile _ _ 1408 (by omega) _ fun y => rfl

theorem acc_next (t : Fin cfg0.N) (h0 : ¬t.val % 4 = 0)
    (ih : Upto m c (t.val - 1) (Nat.lt_of_le_of_lt (Nat.sub_le _ _) t.isLt)) : Upto m c t.val t.isLt := by
  intro r d
  have ho := ih r d
  have er : row (t.val - 1) (Nat.lt_of_le_of_lt (Nat.sub_le _ _) t.isLt) r = row t.val t.isLt r :=
    Fin.ext (by show 1024 * ((t.val - 1) / 8) + r.val = 1024 * (t.val / 8) + r.val; omega)
  have ec : col (t.val - 1) d = col t.val d :=
    Fin.ext (by show 1024 * ((t.val - 1) % 8 / 4) + d.val = 1024 * (t.val % 8 / 4) + d.val; omega)
  rw [er, ec, show (t.val - 1) % 4 + 1 = t.val % 4 by omega] at ho
  by_cases h3 : t.val % 4 = 3
  · rw [outsAt0_C m c t h0 (by omega) h3]
    frame_out
    exact acc_more m c t h0 _ r d ((congrFun (Memref.IsWhole.read_unread _ _) _).trans ho)
  · rw [outsAt0_B m c t h0 (by omega) h3]
    frame_out
    exact acc_more m c t h0 _ r d ((congrFun (Memref.IsWhole.read_unread _ _) _).trans ho)

theorem acc : ∀ (n : ℕ) (hn : n < cfg0.N), Upto m c n hn := by
  intro n
  induction n with
  | zero => intro hn; exact acc_first m c ⟨0, hn⟩ rfl
  | succ n ih =>
    intro hn
    by_cases h : (n + 1) % 4 = 0
    · exact acc_first m c ⟨n + 1, hn⟩ h
    · exact acc_next m c ⟨n + 1, hn⟩ h (ih _)

/-- At a block's last point the block written back is the accumulator and the stream's block. -/
theorem copied (t : Fin cfg0.N) (h3 : t.val % 4 = 3) (r : Fin 1024) (d : Fin 1024) :
    (outsAt0 m c t.val t.isLt).1 (ix2 r d) = (outsAt0 m c t.val t.isLt).2 (ix2 r d) + a2 m c (ix2 (row t.val (N_32 t) r) (col t.val d)) := by
  rw [outsAt0_C m c t (by omega) (by omega) h3]
  frame_out
  pointwise [k0_pay4]
  rw [blk2]

/-- The array the kernel leaves. -/
theorem final : (dats m 0 c).arrAt 3 cfg0.N = down (a0 m c) (a1 m c) (a2 m c) := by
  refine (dats m 0 c).arrAt_eq_of_covers 3 _ (by decide +kernel) fun t hf y => ?_
  have hm : t.val % 4 = 3 := (flush0_3 t).mp hf
  blk_simp
  rw [after0_3]
  have h0 : (y 0).val < 1024 := (y 0).isLt
  have h1 : (y 1).val < 1024 := (y 1).isLt
  have ht := N_32 t
  have hy : y = ix2 (⟨(y 0).val, h0⟩ : Fin 1024) (⟨(y 1).val, h1⟩ : Fin 1024) := by
    funext a; fin_cases a <;> rfl
  have he : (win0_3.blk t).view.emb y = ix2 (row t.val ht ⟨(y 0).val, h0⟩) (col t.val ⟨(y 1).val, h1⟩) := by
    funext a; apply Fin.ext
    fin_cases a <;> blk_simp [idx3 t] <;> simp [ix2] <;> omega
  rw [he]
  refine (congrArg (outsAt0 m c t.val t.isLt).1 hy).trans ((copied m c t hm _ _).trans ((add_comm _ _).trans (congrArg (_ + ·) ((acc m c t.val t.isLt _ _).trans ?_))))
  rw [hm]
  exact upTo_all _

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v2) = down (a0 m c) (a1 m c) (a2 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (final m c), (h c).2⟩) (Cert.DownIdeal.Value.run_blocks m ρ)

end Cert.Mm.Down

end
-- ==== Proof.DownRef.lean ====
/-
  The reference of the down-projection.
-/
module

public import proofs.«01_k».proof.Proof.Blocked
public import proofs.«01_k».proof.Proof.Gen.DownRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.DownRefIdeal Cert.DownRefIdeal.Gen
open scoped BigOperators

namespace Cert.Mm.DownRef

/-- The product over the FFN's width, added to the stream. -/
def over (a : Acts) (w : WDown) (h : FVec Ideal S4096x2048 .f32) : FVec Ideal S4096x2048 .f32 :=
  addf h (Host.dotGeneral dot_S4096x5632_S5632x2048_S4096x2048_1_0_0_1_n_n none (extf .f32 a bitsLt_bf16_f32) w)

theorem over_ix (a : Acts) (w : WDown) (h : FVec Ideal S4096x2048 .f32) (s : Fin 4096) (d : Fin 2048) :
    over a w h (ix2 s d) = h (ix2 s d) + ∑ f : Fin 5632, a (ix2 s f) * w (ix2 f d) := by
  pointwise [over]

theorem over_eq (a : Acts) (w : WDown) (h : FVec Ideal S4096x2048 .f32) : over a w h = down a w h := by
  funext i
  rw [eq_ix2 (n0 := 4096) (n1 := 2048) i]
  exact over_ix _ _ _ _ _

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v2) = down (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ⟨(h c).1.trans ?_, (h c).2⟩) (Cert.DownRefIdeal.Value.run m ρ)
  exact over_eq _ _ _

end Cert.Mm.DownRef

end
-- ==== Proof.Products.lean ====
/-
  The frames of the products' references, and each product's kernel against its reference.
-/
module

public import proofs.«01_k».proof.Defs
public import proofs.«01_k».proof.Proof.UpDx
public import proofs.«01_k».proof.Proof.UpDxRef
public import proofs.«01_k».proof.Proof.UpDw
public import proofs.«01_k».proof.Proof.UpDwRef
public import proofs.«01_k».proof.Proof.DownDx
public import proofs.«01_k».proof.Proof.DownDxRef
public import proofs.«01_k».proof.Proof.DownDw
public import proofs.«01_k».proof.Proof.DownDwRef
public import proofs.«01_k».proof.Proof.Up
public import proofs.«01_k».proof.Proof.UpRef
public import proofs.«01_k».proof.Proof.Down
public import proofs.«01_k».proof.Proof.DownRef

@[expose] public section

set_option maxRecDepth 16384

noncomputable section

open Idealize.ShloMosaic Idealize.ShloMosaic.TcCoe Idealize.SL.Sem Idealize.ShloMosaic.StableHlo
open scoped BigOperators

namespace Cert.Mm.Products

/-- The reference UpDxRef leaves its arguments and its counters alone. -/
theorem frame_UpDx (m : (ℓ : Loc Cert.UpDxRefIdeal.nD Cert.UpDxRefIdeal.τ Cert.UpDxRefIdeal.sig) → Buf (Elt Ideal) ℓ) (g : Dev Cert.UpDxRefIdeal.nD → PrngReg) :
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0) :=
  (θ_run Cert.UpDxRefIdeal.defs _ _).mono (fun r h => ⟨fun c => (h c).2, Idealize.ShloMosaic.sem_eq_zero_of_no_sems (by decide) r.2⟩) (UpDxRef.run m g)

/-- The kernel UpDx and its reference end with the same array. -/
theorem algebraic_UpDx : Cert.algebraic_UpDxIdeal_UpDxRefIdeal (hUpDxIdeal := Cert.UpDxIdeal.Gen.facts) (hUpDxRefIdeal := Cert.UpDxRefIdeal.Gen.facts) := by
  intro m g m' g' hpre hagree
  refine ⟨_, UpDx.run_kernel m g, (θ_run Cert.UpDxRefIdeal.defs _ _).mono (fun r h c => ⟨(h c).1.trans ?_, (h c).2⟩) (UpDxRef.run m' g')⟩
  obtain ⟨e0, e1⟩ := hagree c
  exact congrArg₂ upDx e0 e1

/-- The reference UpDwRef leaves its arguments and its counters alone. -/
theorem frame_UpDw (m : (ℓ : Loc Cert.UpDwRefIdeal.nD Cert.UpDwRefIdeal.τ Cert.UpDwRefIdeal.sig) → Buf (Elt Ideal) ℓ) (g : Dev Cert.UpDwRefIdeal.nD → PrngReg) :
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0) :=
  (θ_run Cert.UpDwRefIdeal.defs _ _).mono (fun r h => ⟨fun c => (h c).2, Idealize.ShloMosaic.sem_eq_zero_of_no_sems (by decide) r.2⟩) (UpDwRef.run m g)

/-- The kernel UpDw and its reference end with the same array. -/
theorem algebraic_UpDw : Cert.algebraic_UpDwIdeal_UpDwRefIdeal (hUpDwIdeal := Cert.UpDwIdeal.Gen.facts) (hUpDwRefIdeal := Cert.UpDwRefIdeal.Gen.facts) := by
  intro m g m' g' hpre hagree
  refine ⟨_, UpDw.run_kernel m g, (θ_run Cert.UpDwRefIdeal.defs _ _).mono (fun r h c => ⟨(h c).1.trans ?_, (h c).2⟩) (UpDwRef.run m' g')⟩
  obtain ⟨e0, e1⟩ := hagree c
  exact congrArg₂ upDw e0 e1

/-- The reference DownDxRef leaves its arguments and its counters alone. -/
theorem frame_DownDx (m : (ℓ : Loc Cert.DownDxRefIdeal.nD Cert.DownDxRefIdeal.τ Cert.DownDxRefIdeal.sig) → Buf (Elt Ideal) ℓ) (g : Dev Cert.DownDxRefIdeal.nD → PrngReg) :
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0) :=
  (θ_run Cert.DownDxRefIdeal.defs _ _).mono (fun r h => ⟨fun c => (h c).2, Idealize.ShloMosaic.sem_eq_zero_of_no_sems (by decide) r.2⟩) (DownDxRef.run m g)

/-- The kernel DownDx and its reference end with the same array. -/
theorem algebraic_DownDx : Cert.algebraic_DownDxIdeal_DownDxRefIdeal (hDownDxIdeal := Cert.DownDxIdeal.Gen.facts) (hDownDxRefIdeal := Cert.DownDxRefIdeal.Gen.facts) := by
  intro m g m' g' hpre hagree
  refine ⟨_, DownDx.run_kernel m g, (θ_run Cert.DownDxRefIdeal.defs _ _).mono (fun r h c => ⟨(h c).1.trans ?_, (h c).2⟩) (DownDxRef.run m' g')⟩
  obtain ⟨e0, e1⟩ := hagree c
  exact congrArg₂ downDx e0 e1

/-- The reference DownDwRef leaves its arguments and its counters alone. -/
theorem frame_DownDw (m : (ℓ : Loc Cert.DownDwRefIdeal.nD Cert.DownDwRefIdeal.τ Cert.DownDwRefIdeal.sig) → Buf (Elt Ideal) ℓ) (g : Dev Cert.DownDwRefIdeal.nD → PrngReg) :
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0) :=
  (θ_run Cert.DownDwRefIdeal.defs _ _).mono (fun r h => ⟨fun c => (h c).2, Idealize.ShloMosaic.sem_eq_zero_of_no_sems (by decide) r.2⟩) (DownDwRef.run m g)

/-- The kernel DownDw and its reference end with the same array. -/
theorem algebraic_DownDw : Cert.algebraic_DownDwIdeal_DownDwRefIdeal (hDownDwIdeal := Cert.DownDwIdeal.Gen.facts) (hDownDwRefIdeal := Cert.DownDwRefIdeal.Gen.facts) := by
  intro m g m' g' hpre hagree
  refine ⟨_, DownDw.run_kernel m g, (θ_run Cert.DownDwRefIdeal.defs _ _).mono (fun r h c => ⟨(h c).1.trans ?_, (h c).2⟩) (DownDwRef.run m' g')⟩
  obtain ⟨e0, e1⟩ := hagree c
  exact congrArg₂ downDw e0 e1

/-- The reference UpRef leaves its arguments and its counters alone. -/
theorem frame_Up (m : (ℓ : Loc Cert.UpRefIdeal.nD Cert.UpRefIdeal.τ Cert.UpRefIdeal.sig) → Buf (Elt Ideal) ℓ) (g : Dev Cert.UpRefIdeal.nD → PrngReg) :
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0) :=
  (θ_run Cert.UpRefIdeal.defs _ _).mono (fun r h => ⟨fun c => (h c).2, Idealize.ShloMosaic.sem_eq_zero_of_no_sems (by decide) r.2⟩) (UpRef.run m g)

/-- The kernel Up and its reference end with the same array. -/
theorem algebraic_Up : Cert.algebraic_UpIdeal_UpRefIdeal (hUpIdeal := Cert.UpIdeal.Gen.facts) (hUpRefIdeal := Cert.UpRefIdeal.Gen.facts) := by
  intro m g m' g' hpre hagree
  refine ⟨_, Up.run_kernel m g, (θ_run Cert.UpRefIdeal.defs _ _).mono (fun r h c => ⟨(h c).1.trans ?_, (h c).2⟩) (UpRef.run m' g')⟩
  obtain ⟨e0, e1⟩ := hagree c
  exact congrArg₂ up e0 e1

/-- The reference DownRef leaves its arguments and its counters alone. -/
theorem frame_Down (m : (ℓ : Loc Cert.DownRefIdeal.nD Cert.DownRefIdeal.τ Cert.DownRefIdeal.sig) → Buf (Elt Ideal) ℓ) (g : Dev Cert.DownRefIdeal.nD → PrngReg) :
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0) :=
  (θ_run Cert.DownRefIdeal.defs _ _).mono (fun r h => ⟨fun c => (h c).2, Idealize.ShloMosaic.sem_eq_zero_of_no_sems (by decide) r.2⟩) (DownRef.run m g)

/-- The kernel Down and its reference end with the same array. -/
theorem algebraic_Down : Cert.algebraic_DownIdeal_DownRefIdeal (hDownIdeal := Cert.DownIdeal.Gen.facts) (hDownRefIdeal := Cert.DownRefIdeal.Gen.facts) := by
  intro m g m' g' hpre hagree
  refine ⟨_, Down.run_kernel m g, (θ_run Cert.DownRefIdeal.defs _ _).mono (fun r h c => ⟨(h c).1.trans ?_, (h c).2⟩) (DownRef.run m' g')⟩
  obtain ⟨e0, e1, e2⟩ := hagree c
  exact (congrArg₂ (fun a w => down a w _) e0 e1).trans (congrArg (down _ _) e2)

end Cert.Mm.Products

end
-- ==== Proof.Mixing.lean ====
/-
  The products of the gMLP entry by entry, the chips' layout of a weight, and a statement carried from point to point.
-/
module

public import Idealize.ShloMosaic.Lib.Claim
public import Idealize.ShloMosaic.Lib.Pointwise
public import proofs.«01_k».proof.Proof.Blocked

@[expose] public section

set_option maxRecDepth 16384

noncomputable section

open Idealize.ShloMosaic
open scoped BigOperators

namespace Cert.Mm

/-- What holds at each block's first point, and carries to the next point within a block, holds everywhere. -/
theorem by_tiles {N : ℕ} (J : ℕ) (P : (n : ℕ) → n < N → Prop) (first : ∀ t : Fin N, t.val % J = 0 → P t.val t.isLt)
    (next : ∀ t : Fin N, ¬t.val % J = 0 → P (t.val - 1) (Nat.lt_of_le_of_lt (Nat.sub_le _ _) t.isLt) → P t.val t.isLt) :
    ∀ (n : ℕ) (hn : n < N), P n hn := by
  intro n
  induction n with
  | zero => intro hn; exact first ⟨0, hn⟩ (Nat.zero_mod J)
  | succ n ih =>
    intro hn
    by_cases h : (n + 1) % J = 0
    · exact first ⟨n + 1, hn⟩ h
    · exact next ⟨n + 1, hn⟩ h (ih _)

/-! ## The six products -/

/-- The gMLP's two halves side by side. -/
abbrev Wide := FVec Ideal ⟨2, ![4096, 4096]⟩ .bf16
/-- The projection in and the projection out. -/
abbrev WIn := FVec Ideal ⟨2, ![2048, 4096]⟩ .f32
abbrev WOut := FVec Ideal ⟨2, ![2048, 2048]⟩ .f32

/-- The projection in. -/
def pin (b : Rows) (w : WIn) : Wide := fun i => ∑ d : Fin 2048, b (ix2 (i 0) d) * w (ix2 d (i 1))

/-- A cotangent times the weight of its column. -/
def pinDxTerm (z : Wide) (w : WIn) (r : Fin 4096) (d : Fin 2048) (x : Fin 4096) : EReal := z (ix2 r x) * w (ix2 d x)
/-- The projection in: its gradient in its input. -/
def pinDx (z : Wide) (w : WIn) : Rows := fun i => ∑ x : Fin 4096, pinDxTerm z w (i 0) (i 1) x

/-- A row's input times the cotangent's entry in column `x` of that row. -/
def pinDwTerm (b : Rows) (z : Wide) (d : Fin 2048) (x : Fin 4096) (s : Fin 4096) : EReal := b (ix2 s d) * z (ix2 s x)
/-- The projection in: its gradient in its weights, by chip. -/
def pinDw (b : Rows) (z : Wide) : FVec Ideal ⟨4, ![4, 1, 2048, 1024]⟩ .bf16 := fun i =>
  ∑ s : Fin 4096, pinDwTerm b z (i 2) ⟨1024 * (i 0).val + (i 3).val, by
    have h0 : (i 0).val < 4 := (i 0).isLt
    have h3 : (i 3).val < 1024 := (i 3).isLt
    omega⟩ s

/-- An entry of the gated width times its weight. -/
def poutTerm (a : Rows) (w : WOut) (s : Fin 4096) (d : Fin 2048) (f : Fin 2048) : EReal := a (ix2 s f) * w (ix2 f d)
/-- The projection out, added to the stream. -/
def pout (a : Rows) (w : WOut) (h : FVec Ideal ⟨2, ![4096, 2048]⟩ .f32) : FVec Ideal ⟨2, ![4096, 2048]⟩ .f32 := fun i =>
  h i + ∑ f : Fin 2048, poutTerm a w (i 0) (i 1) f

/-- The projection out: its gradient in its input. -/
def poutDx (y : Rows) (w : WOut) : Rows := fun i => ∑ d : Fin 2048, y (ix2 (i 0) d) * w (ix2 (i 1) d)

/-- The projection out: its gradient in its weights, by chip. -/
def poutDw (a : Rows) (y : Rows) : FVec Ideal ⟨4, ![4, 1, 512, 2048]⟩ .bf16 := fun i =>
  ∑ s : Fin 4096, a (ix2 s ⟨512 * (i 0).val + (i 2).val, by
    have h0 : (i 0).val < 4 := (i 0).isLt
    have h2 : (i 2).val < 512 := (i 2).isLt
    omega⟩) * y (ix2 s (i 3))

/-! ## Weights by chip -/

/-- The chips' columns, as the calls take them. -/
def pinChips (w : WIn) (hb : FTy.bits .bf16 < FTy.bits .f32) (hs : Shape.ShapeCasts ⟨2, ![2048, 4096]⟩ ⟨3, ![2048, 4, 1024]⟩)
    (ht : Shape.Transposes ⟨3, ![2048, 4, 1024]⟩ [1, 0, 2] ⟨3, ![4, 2048, 1024]⟩)
    (hd : Shape.BroadcastsInDim ⟨3, ![4, 2048, 1024]⟩ ⟨4, ![4, 1, 2048, 1024]⟩ (![0, 2, 3] : Fin 3 → Fin 4)) : FVec Ideal ⟨4, ![4, 1, 2048, 1024]⟩ .bf16 :=
  broadcastInDim ⟨4, ![4, 1, 2048, 1024]⟩ ![0, 2, 3] hd (transpose ⟨3, ![4, 2048, 1024]⟩ [1, 0, 2] (shapeCast ⟨3, ![2048, 4, 1024]⟩ (truncf .bf16 w hb) hs) ht)

theorem pinChips_ix (w : WIn) (hb) (hs) (ht) (hd) (p : Fin 4) (d : Fin 2048) (y : Fin 1024) :
    pinChips w hb hs ht hd (ix4 p 0 d y) = w (ix2 d ⟨1024 * p.val + y.val, by omega⟩) := by
  pointwise [pinChips]
  refine congrArg w (congrArg (ix2 d) (Fin.ext ?_))
  show p.val * 1024 + y.val = 1024 * p.val + y.val
  omega

/-- The chips' rows, as the calls take them. -/
def poutChips (w : WOut) (hb : FTy.bits .bf16 < FTy.bits .f32) (hs : Shape.ShapeCasts ⟨2, ![2048, 2048]⟩ ⟨4, ![4, 1, 512, 2048]⟩) : FVec Ideal ⟨4, ![4, 1, 512, 2048]⟩ .bf16 :=
  shapeCast ⟨4, ![4, 1, 512, 2048]⟩ (truncf .bf16 w hb) hs

theorem poutChips_ix (w : WOut) (hb) (hs) (p : Fin 4) (r : Fin 512) (d : Fin 2048) :
    poutChips w hb hs (ix4 p 0 r d) = w (ix2 ⟨512 * p.val + r.val, by omega⟩ d) := by
  pointwise [poutChips]
  refine congrArg w (congrArg (fun x => ix2 x d) (Fin.ext ?_))
  show p.val * 512 + r.val = 512 * p.val + r.val
  omega

end Cert.Mm

end
-- ==== Proof.AIn.lean ====
/-
  The kernel of the gMLP's projection in: the tiled product is the whole product.
-/
module

public import proofs.«01_k».proof.Proof.Mixing
public import proofs.«01_k».proof.Proof.Gen.AInIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AInIdeal Cert.AInIdeal.Gen
open scoped BigOperators

namespace Cert.Mm.AIn

variable (m : (ℓ : Loc nD τ sig) → Buf (Elt Ideal) ℓ) (c : Dev nD)

abbrev a0 : Rows := m ((c : Thread nD τ).loc main_arg0)
abbrev a1 : WIn := m ((c : Thread nD τ).loc main_arg1)

theorem V_chips : (V m c main_v3 : FVec Ideal S4x1x2048x1024 .bf16) = pinChips (a1 m c) bitsLt_bf16_f32 shapeCasts_S2048x4096_S2048x4x1024
    transposes_S2048x4x1024_S4x2048x1024_1_0_2 bcast_S4x2048x1024_S4x1x2048x1024_0_2_3 := by
  show StableHlo.after (List.flatten [hostOps0]) (fun b => m (c, b)) (Proc.devRef .tc main_v3) = _
  simp only [List.flatten_cons, List.flatten_nil, List.append_nil, hostOps0]
  after_results <;> rfl

theorem idx0 : ∀ t : Fin cfg0.N, win0_0.index t = ![t.val / 8, 0] := (by decide +kernel : ∀ t : Fin grid0.N, _)
theorem idx1 : ∀ t : Fin cfg0.N, win0_1.index t = ![t.val % 8 / 2, 0, 0, t.val % 8 % 2] := (by decide +kernel : ∀ t : Fin grid0.N, _)
theorem idx2 : ∀ t : Fin cfg0.N, win0_2.index t = ![t.val / 8, t.val % 8] := (by decide +kernel : ∀ t : Fin grid0.N, _)
theorem N_32 (t : Fin cfg0.N) : t.val < 32 := t.isLt

/-- The row of the whole array that row `r` of a point's block is. -/
abbrev row (n : ℕ) (hn : n < 32) (r : Fin 1024) : Fin 4096 := ⟨1024 * (n / 8) + r.val, by omega⟩
/-- The column of the whole array that column `y` of a point's block is. -/
abbrev col (n : ℕ) (y : Fin 512) : Fin 4096 := ⟨512 * (n % 8) + y.val, by omega⟩

theorem blk0 (t : Fin cfg0.N) (r : Fin 1024) (d : Fin 2048) : (iblk m c 0 t : FVec Ideal S1024x2048 .bf16) (ix2 r d)
    = a0 m c (ix2 (row t.val (N_32 t) r) d) := by
  blk_ext [iblk, V, idx0 t]
theorem blk1 (t : Fin cfg0.N) (d : Fin 2048) (y : Fin 512) : (iblk m c 1 t : FVec Ideal S1x1x2048x512 .bf16) (ix4 0 0 d y)
    = a1 m c (ix2 d (col t.val y)) := by
  have e : (iblk m c 1 t : FVec Ideal S1x1x2048x512 .bf16) (ix4 0 0 d y)
      = (V m c main_v3 : FVec Ideal S4x1x2048x1024 .bf16) (ix4 (⟨(col t.val y).val / 1024, by omega⟩ : Fin 4) 0 d (⟨(col t.val y).val % 1024, by omega⟩ : Fin 1024)) := by
    blk_ext [iblk, idx1 t]
  rw [e, V_chips, pinChips_ix]
  refine congrArg (a1 m c) (congrArg (ix2 d) (Fin.ext ?_))
  show 1024 * ((512 * (t.val % 8) + y.val) / 1024) + (512 * (t.val % 8) + y.val) % 1024 = 512 * (t.val % 8) + y.val
  omega

/-- The product of a point's two blocks. -/
theorem pay1 (t : Fin cfg0.N) (r : Fin 1024) (y : Fin 512) :
    k0_pay1 (F := Ideal) (iblk m c 0 t) (iblk m c 1 t) (ix2 r y)
      = ∑ d : Fin 2048, a0 m c (ix2 (row t.val (N_32 t) r) d) * a1 m c (ix2 d (col t.val y)) := by
  pointwise [k0_pay1]
  refine Finset.sum_congr rfl fun d _ => ?_
  rw [blk0, blk1]

/-- The array the kernel leaves. -/
theorem final : (dats m 0 c).arrAt 2 cfg0.N = pin (a0 m c) (a1 m c) := by
  refine (dats m 0 c).arrAt_eq_of_covers 2 _ (by decide +kernel) fun t hf y => ?_
  blk_simp
  rw [after0_2]
  frame_out
  have h0 : (y 0).val < 1024 := (y 0).isLt
  have h1 : (y 1).val < 512 := (y 1).isLt
  have ht := N_32 t
  have hy : y = ix2 (⟨(y 0).val, h0⟩ : Fin 1024) (⟨(y 1).val, h1⟩ : Fin 512) := by
    funext a; fin_cases a <;> rfl
  have he : (win0_2.blk t).view.emb y = ix2 (row t.val ht ⟨(y 0).val, h0⟩) (col t.val ⟨(y 1).val, h1⟩) := by
    funext a; apply Fin.ext
    fin_cases a <;> blk_simp [idx2 t] <;> simp [ix2] <;> omega
  rw [he]
  exact (congrArg (k0_pay1 (F := Ideal) (iblk m c 0 t) (iblk m c 1 t)) hy).trans (pay1 m c t _ _)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v4) = pin (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.AInIdeal.Value.run_blocks m ρ)

end Cert.Mm.AIn

end
-- ==== Proof.AInRef.lean ====
/-
  The reference of the gMLP's projection in.
-/
module

public import proofs.«01_k».proof.Proof.Mixing
public import proofs.«01_k».proof.Proof.Gen.AInRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AInRefIdeal Cert.AInRefIdeal.Gen
open scoped BigOperators

namespace Cert.Mm.AInRef

/-- The product over the model's width. -/
def over (b : Rows) (w : WIn) : Wide :=
  truncf .bf16 (Host.dotGeneral dot_S4096x2048_S2048x4096_S4096x4096_1_0_0_1_n_n none (extf .f32 b bitsLt_bf16_f32) w) bitsLt_bf16_f32

theorem over_ix (b : Rows) (w : WIn) (s : Fin 4096) (x : Fin 4096) :
    over b w (ix2 s x) = ∑ d : Fin 2048, b (ix2 s d) * w (ix2 d x) := by
  pointwise [over]

theorem over_eq (b : Rows) (w : WIn) : over b w = pin b w := by
  funext i
  rw [eq_ix2 (n0 := 4096) (n1 := 4096) i]
  exact over_ix _ _ _ _

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v2) = pin (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.AInRefIdeal.Value.run m ρ)
  exact over_eq _ _

end Cert.Mm.AInRef

end
-- ==== Proof.AInDx.lean ====
/-
  The gradient of the gMLP's projection in in its input: the tiled product is the whole product.
-/
module

public import proofs.«01_k».proof.Proof.Mixing
public import proofs.«01_k».proof.Proof.Gen.AInDxIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AInDxIdeal Cert.AInDxIdeal.Gen
open scoped BigOperators

namespace Cert.Mm.AInDx

variable (m : (ℓ : Loc nD τ sig) → Buf (Elt Ideal) ℓ) (c : Dev nD)

abbrev a0 : Wide := m ((c : Thread nD τ).loc main_arg0)
abbrev a1 : WIn := m ((c : Thread nD τ).loc main_arg1)

theorem V_chips : (V m c main_v3 : FVec Ideal S4x1x2048x1024 .bf16) = pinChips (a1 m c) bitsLt_bf16_f32 shapeCasts_S2048x4096_S2048x4x1024
    transposes_S2048x4x1024_S4x2048x1024_1_0_2 bcast_S4x2048x1024_S4x1x2048x1024_0_2_3 := by
  show StableHlo.after (List.flatten [hostOps0]) (fun b => m (c, b)) (Proc.devRef .tc main_v3) = _
  simp only [List.flatten_cons, List.flatten_nil, List.append_nil, hostOps0]
  after_results <;> rfl

theorem idx0 : ∀ t : Fin cfg0.N, win0_0.index t = ![t.val / 4, t.val % 4] := (by decide +kernel : ∀ t : Fin grid0.N, _)
theorem idx1 : ∀ t : Fin cfg0.N, win0_1.index t = ![t.val % 4, 0, 0, 0] := (by decide +kernel : ∀ t : Fin grid0.N, _)
theorem idx2 : ∀ t : Fin cfg0.N, win0_2.index t = ![t.val / 4, 0] := (by decide +kernel : ∀ t : Fin grid0.N, _)
theorem N_16 (t : Fin cfg0.N) : t.val < 16 := t.isLt

/-- The row of the whole array that row `r` of a point's block is. -/
abbrev row (n : ℕ) (hn : n < 16) (r : Fin 1024) : Fin 4096 := ⟨1024 * (n / 4) + r.val, by omega⟩
/-- The column of the whole array that column `y` of a point's block is. -/
abbrev col (n : ℕ) (y : Fin 1024) : Fin 4096 := ⟨1024 * (n % 4) + y.val, by omega⟩

theorem blk0 (t : Fin cfg0.N) (r : Fin 1024) (y : Fin 1024) : (iblk m c 0 t : FVec Ideal S1024x1024 .bf16) (ix2 r y)
    = a0 m c (ix2 (row t.val (N_16 t) r) (col t.val y)) := by
  blk_ext [iblk, V, idx0 t]
theorem blk1 (t : Fin cfg0.N) (d : Fin 2048) (y : Fin 1024) : (iblk m c 1 t : FVec Ideal S1x1x2048x1024 .bf16) (ix4 0 0 d y)
    = a1 m c (ix2 d (col t.val y)) := by
  have e : (iblk m c 1 t : FVec Ideal S1x1x2048x1024 .bf16) (ix4 0 0 d y)
      = (V m c main_v3 : FVec Ideal S4x1x2048x1024 .bf16) (ix4 (⟨t.val % 4, by omega⟩ : Fin 4) 0 d y) := by
    blk_ext [iblk, idx1 t]
  rw [e, V_chips, pinChips_ix]

/-- The product of a point's two blocks, term by term. -/
theorem pay1 (t : Fin cfg0.N) (r : Fin 1024) (d : Fin 2048) :
    k0_pay1 (F := Ideal) (iblk m c 0 t) (iblk m c 1 t) (ix2 r d)
      = ∑ y : Fin 1024, pinDxTerm (a0 m c) (a1 m c) (row t.val (N_16 t) r) d (col t.val y) := by
  pointwise [k0_pay1]
  refine Finset.sum_congr rfl fun y _ => ?_
  rw [blk0, blk1]
  rfl

/-- The accumulator holds the terms up to a point's tile. -/
abbrev Upto (n : ℕ) (hn : n < cfg0.N) : Prop := ∀ (r : Fin 1024) (d : Fin 2048),
    (outsAt0 m c n hn).2 (ix2 r d) = upTo (pinDxTerm (a0 m c) (a1 m c) (row n hn r) d) (1024 * (n % 4 + 1))

theorem acc_first (t : Fin cfg0.N) (h0 : t.val % 4 = 0) : Upto m c t.val t.isLt := by
  intro r d
  rw [outsAt0_A m c t h0 (by omega) (by omega)]
  frame_out
  pointwise [k0_pay2]
  rw [pay1]
  refine (upTo_first (pinDxTerm (a0 m c) (a1 m c) (row t.val (N_16 t) r) d) 1024 (by omega) _ fun y => ?_).trans ?_
  · exact congrArg _ (Fin.ext (by show 1024 * (t.val % 4) + y.val = y.val; omega))
  · rw [h0]

/-- What the accumulator held before, and a point's tile. -/
theorem acc_more (t : Fin cfg0.N) (h0 : ¬t.val % 4 = 0) (old : Vec Ideal S1024x2048 .f32) (r : Fin 1024) (d : Fin 2048)
    (ho : old (ix2 r d) = upTo (pinDxTerm (a0 m c) (a1 m c) (row t.val (N_16 t) r) d) (1024 * (t.val % 4))) :
    k0_pay3 (F := Ideal) (iblk m c 0 t) (iblk m c 1 t) old (ix2 r d)
      = upTo (pinDxTerm (a0 m c) (a1 m c) (row t.val (N_16 t) r) d) (1024 * (t.val % 4 + 1)) := by
  pointwise [k0_pay3]
  rw [pay1, ho]
  exact upTo_tile _ _ 1024 (by omega) _ fun y => rfl

theorem acc_next (t : Fin cfg0.N) (h0 : ¬t.val % 4 = 0)
    (ih : Upto m c (t.val - 1) (Nat.lt_of_le_of_lt (Nat.sub_le _ _) t.isLt)) : Upto m c t.val t.isLt := by
  intro r d
  have ho := ih r d
  have er : row (t.val - 1) (Nat.lt_of_le_of_lt (Nat.sub_le _ _) t.isLt) r = row t.val t.isLt r :=
    Fin.ext (by show 1024 * ((t.val - 1) / 4) + r.val = 1024 * (t.val / 4) + r.val; omega)
  rw [er, show (t.val - 1) % 4 + 1 = t.val % 4 by omega] at ho
  by_cases h3 : t.val % 4 = 3
  · rw [outsAt0_C m c t h0 (by omega) h3]
    frame_out
    exact acc_more m c t h0 _ r d ((congrFun (Memref.IsWhole.read_unread _ _) _).trans ho)
  · rw [outsAt0_B m c t h0 (by omega) h3]
    frame_out
    exact acc_more m c t h0 _ r d ((congrFun (Memref.IsWhole.read_unread _ _) _).trans ho)

theorem acc : ∀ (n : ℕ) (hn : n < cfg0.N), Upto m c n hn := by_tiles 4 (Upto m c) (acc_first m c) (acc_next m c)

/-- At a row's last point the block written back is the accumulator. -/
theorem copied (t : Fin cfg0.N) (h3 : t.val % 4 = 3) (r : Fin 1024) (d : Fin 2048) :
    (outsAt0 m c t.val t.isLt).1 (ix2 r d) = (outsAt0 m c t.val t.isLt).2 (ix2 r d) := by
  rw [outsAt0_C m c t (by omega) (by omega) h3]
  frame_out
  pointwise [k0_pay4]

/-- The array the kernel leaves. -/
theorem final : (dats m 0 c).arrAt 2 cfg0.N = pinDx (a0 m c) (a1 m c) := by
  refine (dats m 0 c).arrAt_eq_of_covers 2 _ (by decide +kernel) fun t hf y => ?_
  have hm : t.val % 4 = 3 := (flush0_2 t).mp hf
  blk_simp
  rw [after0_2]
  have h0 : (y 0).val < 1024 := (y 0).isLt
  have h1 : (y 1).val < 2048 := (y 1).isLt
  have ht := N_16 t
  have hy : y = ix2 (⟨(y 0).val, h0⟩ : Fin 1024) (⟨(y 1).val, h1⟩ : Fin 2048) := by
    funext a; fin_cases a <;> rfl
  have he : (win0_2.blk t).view.emb y = ix2 (row t.val ht ⟨(y 0).val, h0⟩) (⟨(y 1).val, h1⟩ : Fin 2048) := by
    funext a; apply Fin.ext
    fin_cases a <;> blk_simp [idx2 t] <;> simp [ix2] <;> omega
  rw [he]
  refine (congrArg (outsAt0 m c t.val t.isLt).1 hy).trans ((copied m c t hm _ _).trans ((acc m c t.val t.isLt _ _).trans ?_))
  rw [hm]
  exact upTo_all _

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v4) = pinDx (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.AInDxIdeal.Value.run_blocks m ρ)

end Cert.Mm.AInDx

end
-- ==== Proof.AInDxRef.lean ====
/-
  The reference of the gradient of the gMLP's projection in in its input.
-/
module

public import proofs.«01_k».proof.Proof.Mixing
public import proofs.«01_k».proof.Proof.Gen.AInDxRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AInDxRefIdeal Cert.AInDxRefIdeal.Gen
open scoped BigOperators

namespace Cert.Mm.AInDxRef

/-- The product over the columns. -/
def over (z : Wide) (w : WIn) : Rows :=
  truncf .bf16 (Host.dotGeneral dot_S4096x4096_S2048x4096_S4096x2048_1_1_0_0_n_n none (extf .f32 z bitsLt_bf16_f32) w) bitsLt_bf16_f32

theorem over_ix (z : Wide) (w : WIn) (r : Fin 4096) (d : Fin 2048) :
    over z w (ix2 r d) = ∑ x : Fin 4096, z (ix2 r x) * w (ix2 d x) := by
  pointwise [over]

theorem over_eq (z : Wide) (w : WIn) : over z w = pinDx z w := by
  funext i
  rw [eq_ix2 (n0 := 4096) (n1 := 2048) i]
  exact over_ix _ _ _ _

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v4) = pinDx (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.AInDxRefIdeal.Value.run m ρ)
  exact over_eq _ _

end Cert.Mm.AInDxRef

end
-- ==== Proof.AInDw.lean ====
/-
  The gradient of the gMLP's projection in in its weights: the tiled product is the whole product.
-/
module

public import proofs.«01_k».proof.Proof.Mixing
public import proofs.«01_k».proof.Proof.Gen.AInDwIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AInDwIdeal Cert.AInDwIdeal.Gen
open scoped BigOperators

namespace Cert.Mm.AInDw

variable (m : (ℓ : Loc nD τ sig) → Buf (Elt Ideal) ℓ) (c : Dev nD)

abbrev a0 : Rows := m ((c : Thread nD τ).loc main_arg0)
abbrev a1 : Wide := m ((c : Thread nD τ).loc main_arg1)

theorem idx0 : ∀ t : Fin cfg0.N, win0_0.index t = ![t.val % 2, t.val / 8] := (by decide +kernel : ∀ t : Fin grid0.N, _)
theorem idx1 : ∀ t : Fin cfg0.N, win0_1.index t = ![t.val % 2, t.val % 8 / 2] := (by decide +kernel : ∀ t : Fin grid0.N, _)
theorem idx2 : ∀ t : Fin cfg0.N, win0_2.index t = ![t.val % 8 / 2, 0, t.val / 8, 0] := (by decide +kernel : ∀ t : Fin grid0.N, _)
theorem N_16 (t : Fin cfg0.N) : t.val < 16 := t.isLt

/-- The row of the whole arrays that row `s` of a point's blocks is. -/
abbrev row (n : ℕ) (s : Fin 2048) : Fin 4096 := ⟨2048 * (n % 2) + s.val, by omega⟩
/-- The entry of the model's width that entry `r` of a point's block is. -/
abbrev wid (n : ℕ) (hn : n < 16) (r : Fin 1024) : Fin 2048 := ⟨1024 * (n / 8) + r.val, by omega⟩
/-- The column of the whole array that column `y` of a point's block is. -/
abbrev col (n : ℕ) (y : Fin 1024) : Fin 4096 := ⟨1024 * (n % 8 / 2) + y.val, by omega⟩

theorem blk0 (t : Fin cfg0.N) (s : Fin 2048) (r : Fin 1024) : (iblk m c 0 t : FVec Ideal S2048x1024 .bf16) (ix2 s r)
    = a0 m c (ix2 (row t.val s) (wid t.val (N_16 t) r)) := by
  blk_ext [iblk, V, idx0 t]
theorem blk1 (t : Fin cfg0.N) (s : Fin 2048) (y : Fin 1024) : (iblk m c 1 t : FVec Ideal S2048x1024 .bf16) (ix2 s y)
    = a1 m c (ix2 (row t.val s) (col t.val y)) := by
  blk_ext [iblk, V, idx1 t]

/-- The product of a point's two blocks, term by term. -/
theorem pay1 (t : Fin cfg0.N) (r : Fin 1024) (y : Fin 1024) :
    k0_pay1 (F := Ideal) (iblk m c 0 t) (iblk m c 1 t) (ix2 r y)
      = ∑ s : Fin 2048, pinDwTerm (a0 m c) (a1 m c) (wid t.val (N_16 t) r) (col t.val y) (row t.val s) := by
  pointwise [k0_pay1]
  refine Finset.sum_congr rfl fun s _ => ?_
  rw [blk0, blk1]
  rfl

/-- At a block's first point the accumulator holds the first half of the rows. -/
theorem acc_first (t : Fin cfg0.N) (h0 : t.val % 2 = 0) (r : Fin 1024) (y : Fin 1024) :
    (outsAt0 m c t.val t.isLt).2 (ix2 r y) = upTo (pinDwTerm (a0 m c) (a1 m c) (wid t.val (N_16 t) r) (col t.val y)) 2048 := by
  rw [outsAt0_A m c t h0 (by omega) (by omega)]
  frame_out
  pointwise [k0_pay2]
  rw [pay1]
  refine upTo_first (pinDwTerm (a0 m c) (a1 m c) (wid t.val (N_16 t) r) (col t.val y)) 2048 (by omega) _ fun s => ?_
  exact congrArg _ (Fin.ext (by show 2048 * (t.val % 2) + s.val = s.val; omega))

/-- What the accumulator held before, and a block's second point. -/
theorem acc_more (t : Fin cfg0.N) (h1 : t.val % 2 = 1) (old : Vec Ideal S1024x1024 .f32) (r : Fin 1024) (y : Fin 1024)
    (ho : old (ix2 r y) = upTo (pinDwTerm (a0 m c) (a1 m c) (wid t.val (N_16 t) r) (col t.val y)) 2048) :
    k0_pay3 (F := Ideal) (iblk m c 0 t) (iblk m c 1 t) old (ix2 r y)
      = ∑ s : Fin 4096, pinDwTerm (a0 m c) (a1 m c) (wid t.val (N_16 t) r) (col t.val y) s := by
  pointwise [k0_pay3]
  rw [pay1, ho]
  refine (upTo_tile _ 2048 2048 (by omega) _ fun s => ?_).trans (upTo_all _)
  exact congrArg _ (Fin.ext (by show 2048 * (t.val % 2) + s.val = 2048 + s.val; omega))

/-- The block written back at a block's second point. -/
theorem out_last (t : Fin cfg0.N) (h1 : t.val % 2 = 1) (r : Fin 1024) (y : Fin 1024) :
    (outsAt0 m c t.val t.isLt).1 (ix4 0 0 r y)
      = ∑ s : Fin 4096, pinDwTerm (a0 m c) (a1 m c) (wid t.val (N_16 t) r) (col t.val y) s := by
  have ho := acc_first m c ⟨t.val - 1, Nat.lt_of_le_of_lt (Nat.sub_le _ _) t.isLt⟩ (by show (t.val - 1) % 2 = 0; omega) r y
  have ew : wid (t.val - 1) (Nat.lt_of_le_of_lt (Nat.sub_le _ _) (N_16 t)) r = wid t.val (N_16 t) r :=
    Fin.ext (by show 1024 * ((t.val - 1) / 8) + r.val = 1024 * (t.val / 8) + r.val; omega)
  have ec : col (t.val - 1) y = col t.val y :=
    Fin.ext (by show 1024 * ((t.val - 1) % 8 / 2) + y.val = 1024 * (t.val % 8 / 2) + y.val; omega)
  rw [ew, ec] at ho
  rw [outsAt0_B m c t (by omega) h1 h1]
  frame_out
  pointwise [k0_pay4]
  exact acc_more m c t h1 _ r y ((congrFun (Memref.IsWhole.read_unread _ _) _).trans ho)

/-- The array the kernel leaves. -/
theorem final : (dats m 0 c).arrAt 2 cfg0.N = pinDw (a0 m c) (a1 m c) := by
  refine (dats m 0 c).arrAt_eq_of_covers 2 _ (by decide +kernel) fun t hf y => ?_
  have hm : t.val % 2 = 1 := (flush0_2 t).mp hf
  blk_simp
  rw [after0_2]
  have h0 : (y 0).val < 1 := (y 0).isLt
  have h1 : (y 1).val < 1 := (y 1).isLt
  have h2 : (y 2).val < 1024 := (y 2).isLt
  have h3 : (y 3).val < 1024 := (y 3).isLt
  have ht := N_16 t
  have hy : y = ix4 (0 : Fin 1) (0 : Fin 1) (⟨(y 2).val, h2⟩ : Fin 1024) (⟨(y 3).val, h3⟩ : Fin 1024) := by
    funext a; apply Fin.ext
    fin_cases a <;> simp [ix4] <;> omega
  have he : (win0_2.blk t).view.emb y = ix4 (⟨t.val % 8 / 2, by omega⟩ : Fin 4) (0 : Fin 1) (wid t.val ht ⟨(y 2).val, h2⟩) (⟨(y 3).val, h3⟩ : Fin 1024) := by
    funext a; apply Fin.ext
    fin_cases a <;> blk_simp [idx2 t] <;> simp [ix4] <;> omega
  rw [he]
  exact (congrArg (outsAt0 m c t.val t.isLt).1 hy).trans (out_last m c t hm _ _)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = pinDw (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.AInDwIdeal.Value.run_blocks m ρ)

end Cert.Mm.AInDw

end
-- ==== Proof.AInDwRef.lean ====
/-
  The reference of the gradient of the gMLP's projection in in its weights.
-/
module

public import proofs.«01_k».proof.Proof.Mixing
public import proofs.«01_k».proof.Proof.Gen.AInDwRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AInDwRefIdeal Cert.AInDwRefIdeal.Gen
open scoped BigOperators

namespace Cert.Mm.AInDwRef

/-- The product over the rows, columns first. -/
def over (z : Wide) (b : Rows) : FVec Ideal S4096x2048 .f32 :=
  Host.dotGeneral dot_S4096x4096_S4096x2048_S4096x2048_0_0_1_1_n_n none (extf .f32 z bitsLt_bf16_f32) (extf .f32 b bitsLt_bf16_f32)

theorem over_ix (z : Wide) (b : Rows) (x : Fin 4096) (d : Fin 2048) :
    over z b (ix2 x d) = ∑ s : Fin 4096, z (ix2 s x) * b (ix2 s d) := by
  pointwise [over]

/-- The chips' columns, one chip after another. -/
def chips (g : FVec Ideal S4096x2048 .f32) : FVec Ideal S4x1x2048x1024 .bf16 :=
  truncf .bf16 (transpose S4x1x2048x1024 [1, 2, 0, 3] (shapeCast S2048x4x1x1024 (transpose S2048x4096 [1, 0] g transposes_S4096x2048_S2048x4096_1_0) shapeCasts_S2048x4096_S2048x4x1x1024) transposes_S2048x4x1x1024_S4x1x2048x1024_1_2_0_3) bitsLt_bf16_f32

theorem chips_ix (g : FVec Ideal S4096x2048 .f32) (p : Fin 4) (z : Fin 1) (d : Fin 2048) (y : Fin 1024) :
    chips g (ix4 p z d y) = g (ix2 ⟨1024 * p.val + y.val, by omega⟩ d) := by
  have hz : z = 0 := Subsingleton.elim _ _
  subst hz
  pointwise [chips]
  refine congrArg g (congrArg (fun x => ix2 x d) (Fin.ext ?_))
  show p.val * 1024 + y.val = 1024 * p.val + y.val
  omega

theorem chips_over (b : Rows) (z : Wide) : chips (over z b) = pinDw b z := by
  funext i
  rw [eq_ix4 (n0 := 4) (n1 := 1) (n2 := 2048) (n3 := 1024) i]
  refine (chips_ix _ _ _ _ _).trans ((over_ix _ _ _ _).trans (Finset.sum_congr rfl fun s _ => ?_))
  rw [mul_comm]
  rfl

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v8) = pinDw (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.AInDwRefIdeal.Value.run m ρ)
  exact chips_over _ _

end Cert.Mm.AInDwRef

end
-- ==== Proof.AOut.lean ====
/-
  The kernel of the gMLP's projection out: the tiled product added to the stream is the whole one.
-/
module

public import proofs.«01_k».proof.Proof.Mixing
public import proofs.«01_k».proof.Proof.Gen.AOutIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AOutIdeal Cert.AOutIdeal.Gen
open scoped BigOperators

namespace Cert.Mm.AOut

variable (m : (ℓ : Loc nD τ sig) → Buf (Elt Ideal) ℓ) (c : Dev nD)

abbrev a0 : Rows := m ((c : Thread nD τ).loc main_arg0)
abbrev a1 : WOut := m ((c : Thread nD τ).loc main_arg1)
abbrev a2 : FVec Ideal ⟨2, ![4096, 2048]⟩ .f32 := m ((c : Thread nD τ).loc main_arg2)

theorem V_chips : (V m c main_v1 : FVec Ideal S4x1x512x2048 .bf16) = poutChips (a1 m c) bitsLt_bf16_f32 shapeCasts_S2048x2048_S4x1x512x2048 := by
  show StableHlo.after (List.flatten [hostOps0]) (fun b => m (c, b)) (Proc.devRef .tc main_v1) = _
  simp only [List.flatten_cons, List.flatten_nil, List.append_nil, hostOps0]
  after_results <;> rfl

theorem idx0 : ∀ t : Fin cfg0.N, win0_0.index t = ![t.val / 8, t.val % 4] := (by decide +kernel : ∀ t : Fin grid0.N, _)
theorem idx1 : ∀ t : Fin cfg0.N, win0_1.index t = ![t.val % 4, 0, 0, t.val % 8 / 4] := (by decide +kernel : ∀ t : Fin grid0.N, _)
theorem idx2 : ∀ t : Fin cfg0.N, win0_2.index t = ![t.val / 8, t.val % 8 / 4] := (by decide +kernel : ∀ t : Fin grid0.N, _)
theorem idx3 : ∀ t : Fin cfg0.N, win0_3.index t = ![t.val / 8, t.val % 8 / 4] := (by decide +kernel : ∀ t : Fin grid0.N, _)
theorem N_32 (t : Fin cfg0.N) : t.val < 32 := t.isLt

/-- The row of the whole array that row `r` of a point's block is. -/
abbrev row (n : ℕ) (hn : n < 32) (r : Fin 1024) : Fin 4096 := ⟨1024 * (n / 8) + r.val, by omega⟩
/-- The column of the whole array that column `d` of a point's block is. -/
abbrev col (n : ℕ) (d : Fin 1024) : Fin 2048 := ⟨1024 * (n % 8 / 4) + d.val, by omega⟩
/-- The entry of the gated width that entry `y` of a point's block is. -/
abbrev wid (n : ℕ) (y : Fin 512) : Fin 2048 := ⟨512 * (n % 4) + y.val, by omega⟩

theorem blk0 (t : Fin cfg0.N) (r : Fin 1024) (y : Fin 512) : (iblk m c 0 t : FVec Ideal S1024x512 .bf16) (ix2 r y)
    = a0 m c (ix2 (row t.val (N_32 t) r) (wid t.val y)) := by
  blk_ext [iblk, V, idx0 t]
theorem blk1 (t : Fin cfg0.N) (y : Fin 512) (d : Fin 1024) : (iblk m c 1 t : FVec Ideal S1x1x512x1024 .bf16) (ix4 0 0 y d)
    = a1 m c (ix2 (wid t.val y) (col t.val d)) := by
  have e : (iblk m c 1 t : FVec Ideal S1x1x512x1024 .bf16) (ix4 0 0 y d)
      = (V m c main_v1 : FVec Ideal S4x1x512x2048 .bf16) (ix4 (⟨t.val % 4, by omega⟩ : Fin 4) 0 y (col t.val d)) := by
    blk_ext [iblk, idx1 t]
  rw [e, V_chips, poutChips_ix]
theorem blk2 (t : Fin cfg0.N) (r : Fin 1024) (d : Fin 1024) : (iblk m c 2 t : FVec Ideal S1024x1024 .f32) (ix2 r d)
    = a2 m c (ix2 (row t.val (N_32 t) r) (col t.val d)) := by
  blk_ext [iblk, V, idx2 t]

/-- The product of a point's two blocks, term by term. -/
theorem pay1 (t : Fin cfg0.N) (r : Fin 1024) (d : Fin 1024) :
    k0_pay1 (F := Ideal) (iblk m c 0 t) (iblk m c 1 t) (ix2 r d)
      = ∑ y : Fin 512, poutTerm (a0 m c) (a1 m c) (row t.val (N_32 t) r) (col t.val d) (wid t.val y) := by
  pointwise [k0_pay1]
  refine Finset.sum_congr rfl fun y _ => ?_
  rw [blk0, blk1]
  rfl

/-- The accumulator holds the terms up to a point's tile. -/
abbrev Upto (n : ℕ) (hn : n < cfg0.N) : Prop := ∀ (r : Fin 1024) (d : Fin 1024),
    (outsAt0 m c n hn).2 (ix2 r d) = upTo (poutTerm (a0 m c) (a1 m c) (row n hn r) (col n d)) (512 * (n % 4 + 1))

theorem acc_first (t : Fin cfg0.N) (h0 : t.val % 4 = 0) : Upto m c t.val t.isLt := by
  intro r d
  rw [outsAt0_A m c t h0 (by omega) (by omega)]
  frame_out
  pointwise [k0_pay2]
  rw [pay1]
  refine (upTo_first (poutTerm (a0 m c) (a1 m c) (row t.val (N_32 t) r) (col t.val d)) 512 (by omega) _ fun y => ?_).trans ?_
  · exact congrArg _ (Fin.ext (by show 512 * (t.val % 4) + y.val = y.val; omega))
  · rw [h0]

/-- What the accumulator held before, and a point's tile. -/
theorem acc_more (t : Fin cfg0.N) (h0 : ¬t.val % 4 = 0) (old : Vec Ideal S1024x1024 .f32) (r : Fin 1024) (d : Fin 1024)
    (ho : old (ix2 r d) = upTo (poutTerm (a0 m c) (a1 m c) (row t.val (N_32 t) r) (col t.val d)) (512 * (t.val % 4))) :
    k0_pay3 (F := Ideal) (iblk m c 0 t) (iblk m c 1 t) old (ix2 r d)
      = upTo (poutTerm (a0 m c) (a1 m c) (row t.val (N_32 t) r) (col t.val d)) (512 * (t.val % 4 + 1)) := by
  pointwise [k0_pay3]
  rw [pay1, ho]
  exact upTo_tile _ _ 512 (by omega) _ fun y => rfl

theorem acc_next (t : Fin cfg0.N) (h0 : ¬t.val % 4 = 0)
    (ih : Upto m c (t.val - 1) (Nat.lt_of_le_of_lt (Nat.sub_le _ _) t.isLt)) : Upto m c t.val t.isLt := by
  intro r d
  have ho := ih r d
  have er : row (t.val - 1) (Nat.lt_of_le_of_lt (Nat.sub_le _ _) t.isLt) r = row t.val t.isLt r :=
    Fin.ext (by show 1024 * ((t.val - 1) / 8) + r.val = 1024 * (t.val / 8) + r.val; omega)
  have ec : col (t.val - 1) d = col t.val d :=
    Fin.ext (by show 1024 * ((t.val - 1) % 8 / 4) + d.val = 1024 * (t.val % 8 / 4) + d.val; omega)
  rw [er, ec, show (t.val - 1) % 4 + 1 = t.val % 4 by omega] at ho
  by_cases h3 : t.val % 4 = 3
  · rw [outsAt0_C m c t h0 (by omega) h3]
    frame_out
    exact acc_more m c t h0 _ r d ((congrFun (Memref.IsWhole.read_unread _ _) _).trans ho)
  · rw [outsAt0_B m c t h0 (by omega) h3]
    frame_out
    exact acc_more m c t h0 _ r d ((congrFun (Memref.IsWhole.read_unread _ _) _).trans ho)

theorem acc : ∀ (n : ℕ) (hn : n < cfg0.N), Upto m c n hn := by_tiles 4 (Upto m c) (acc_first m c) (acc_next m c)

/-- At a block's last point the block written back is the accumulator and the stream's block. -/
theorem copied (t : Fin cfg0.N) (h3 : t.val % 4 = 3) (r : Fin 1024) (d : Fin 1024) :
    (outsAt0 m c t.val t.isLt).1 (ix2 r d) = (outsAt0 m c t.val t.isLt).2 (ix2 r d) + a2 m c (ix2 (row t.val (N_32 t) r) (col t.val d)) := by
  rw [outsAt0_C m c t (by omega) (by omega) h3]
  frame_out
  pointwise [k0_pay4]
  rw [blk2]

/-- The array the kernel leaves. -/
theorem final : (dats m 0 c).arrAt 3 cfg0.N = pout (a0 m c) (a1 m c) (a2 m c) := by
  refine (dats m 0 c).arrAt_eq_of_covers 3 _ (by decide +kernel) fun t hf y => ?_
  have hm : t.val % 4 = 3 := (flush0_3 t).mp hf
  blk_simp
  rw [after0_3]
  have h0 : (y 0).val < 1024 := (y 0).isLt
  have h1 : (y 1).val < 1024 := (y 1).isLt
  have ht := N_32 t
  have hy : y = ix2 (⟨(y 0).val, h0⟩ : Fin 1024) (⟨(y 1).val, h1⟩ : Fin 1024) := by
    funext a; fin_cases a <;> rfl
  have he : (win0_3.blk t).view.emb y = ix2 (row t.val ht ⟨(y 0).val, h0⟩) (col t.val ⟨(y 1).val, h1⟩) := by
    funext a; apply Fin.ext
    fin_cases a <;> blk_simp [idx3 t] <;> simp [ix2] <;> omega
  rw [he]
  refine (congrArg (outsAt0 m c t.val t.isLt).1 hy).trans ((copied m c t hm _ _).trans ((add_comm _ _).trans (congrArg (_ + ·) ((acc m c t.val t.isLt _ _).trans ?_))))
  rw [hm]
  exact upTo_all _

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v2) = pout (a0 m c) (a1 m c) (a2 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (final m c), (h c).2⟩) (Cert.AOutIdeal.Value.run_blocks m ρ)

end Cert.Mm.AOut

end
-- ==== Proof.AOutRef.lean ====
/-
  The reference of the gMLP's projection out.
-/
module

public import proofs.«01_k».proof.Proof.Mixing
public import proofs.«01_k».proof.Proof.Gen.AOutRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AOutRefIdeal Cert.AOutRefIdeal.Gen
open scoped BigOperators

namespace Cert.Mm.AOutRef

/-- The product over the gated width, added to the stream. -/
def over (a : Rows) (w : WOut) (h : FVec Ideal S4096x2048 .f32) : FVec Ideal S4096x2048 .f32 :=
  addf h (Host.dotGeneral dot_S4096x2048_S2048x2048_S4096x2048_1_0_0_1_n_n none (extf .f32 a bitsLt_bf16_f32) w)

theorem over_ix (a : Rows) (w : WOut) (h : FVec Ideal S4096x2048 .f32) (s : Fin 4096) (d : Fin 2048) :
    over a w h (ix2 s d) = h (ix2 s d) + ∑ f : Fin 2048, a (ix2 s f) * w (ix2 f d) := by
  pointwise [over]

theorem over_eq (a : Rows) (w : WOut) (h : FVec Ideal S4096x2048 .f32) : over a w h = pout a w h := by
  funext i
  rw [eq_ix2 (n0 := 4096) (n1 := 2048) i]
  exact over_ix _ _ _ _ _

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v2) = pout (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ⟨(h c).1.trans ?_, (h c).2⟩) (Cert.AOutRefIdeal.Value.run m ρ)
  exact over_eq _ _ _

end Cert.Mm.AOutRef

end
-- ==== Proof.AOutDx.lean ====
/-
  The gradient of the gMLP's projection out in its input: the tiled product is the whole product.
-/
module

public import proofs.«01_k».proof.Proof.Mixing
public import proofs.«01_k».proof.Proof.Gen.AOutDxIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AOutDxIdeal Cert.AOutDxIdeal.Gen
open scoped BigOperators

namespace Cert.Mm.AOutDx

variable (m : (ℓ : Loc nD τ sig) → Buf (Elt Ideal) ℓ) (c : Dev nD)

abbrev a0 : Rows := m ((c : Thread nD τ).loc main_arg0)
abbrev a1 : WOut := m ((c : Thread nD τ).loc main_arg1)

theorem V_chips : (V m c main_v1 : FVec Ideal S4x1x512x2048 .bf16) = poutChips (a1 m c) bitsLt_bf16_f32 shapeCasts_S2048x2048_S4x1x512x2048 := by
  show StableHlo.after (List.flatten [hostOps0]) (fun b => m (c, b)) (Proc.devRef .tc main_v1) = _
  simp only [List.flatten_cons, List.flatten_nil, List.append_nil, hostOps0]
  after_results <;> rfl

theorem idx0 : ∀ t : Fin cfg0.N, win0_0.index t = ![t.val / 4, 0] := (by decide +kernel : ∀ t : Fin grid0.N, _)
theorem idx1 : ∀ t : Fin cfg0.N, win0_1.index t = ![t.val % 4, 0, 0, 0] := (by decide +kernel : ∀ t : Fin grid0.N, _)
theorem idx2 : ∀ t : Fin cfg0.N, win0_2.index t = ![t.val / 4, t.val % 4] := (by decide +kernel : ∀ t : Fin grid0.N, _)
theorem N_16 (t : Fin cfg0.N) : t.val < 16 := t.isLt

/-- The row of the whole array that row `r` of a point's block is. -/
abbrev row (n : ℕ) (hn : n < 16) (r : Fin 1024) : Fin 4096 := ⟨1024 * (n / 4) + r.val, by omega⟩
/-- The column of the whole array that column `y` of a point's block is. -/
abbrev col (n : ℕ) (y : Fin 512) : Fin 2048 := ⟨512 * (n % 4) + y.val, by omega⟩

theorem blk0 (t : Fin cfg0.N) (r : Fin 1024) (d : Fin 2048) : (iblk m c 0 t : FVec Ideal S1024x2048 .bf16) (ix2 r d)
    = a0 m c (ix2 (row t.val (N_16 t) r) d) := by
  blk_ext [iblk, V, idx0 t]
theorem blk1 (t : Fin cfg0.N) (y : Fin 512) (d : Fin 2048) : (iblk m c 1 t : FVec Ideal S1x1x512x2048 .bf16) (ix4 0 0 y d)
    = a1 m c (ix2 (col t.val y) d) := by
  have e : (iblk m c 1 t : FVec Ideal S1x1x512x2048 .bf16) (ix4 0 0 y d)
      = (V m c main_v1 : FVec Ideal S4x1x512x2048 .bf16) (ix4 (⟨t.val % 4, by omega⟩ : Fin 4) 0 y d) := by
    blk_ext [iblk, idx1 t]
  rw [e, V_chips, poutChips_ix]

/-- The product of a point's two blocks. -/
theorem pay1 (t : Fin cfg0.N) (r : Fin 1024) (y : Fin 512) :
    k0_pay1 (F := Ideal) (iblk m c 0 t) (iblk m c 1 t) (ix2 r y)
      = ∑ d : Fin 2048, a0 m c (ix2 (row t.val (N_16 t) r) d) * a1 m c (ix2 (col t.val y) d) := by
  pointwise [k0_pay1]
  refine Finset.sum_congr rfl fun d _ => ?_
  rw [blk0, blk1]

/-- The array the kernel leaves. -/
theorem final : (dats m 0 c).arrAt 2 cfg0.N = poutDx (a0 m c) (a1 m c) := by
  refine (dats m 0 c).arrAt_eq_of_covers 2 _ (by decide +kernel) fun t hf y => ?_
  blk_simp
  rw [after0_2]
  frame_out
  have h0 : (y 0).val < 1024 := (y 0).isLt
  have h1 : (y 1).val < 512 := (y 1).isLt
  have ht := N_16 t
  have hy : y = ix2 (⟨(y 0).val, h0⟩ : Fin 1024) (⟨(y 1).val, h1⟩ : Fin 512) := by
    funext a; fin_cases a <;> rfl
  have he : (win0_2.blk t).view.emb y = ix2 (row t.val ht ⟨(y 0).val, h0⟩) (col t.val ⟨(y 1).val, h1⟩) := by
    funext a; apply Fin.ext
    fin_cases a <;> blk_simp [idx2 t] <;> simp [ix2] <;> omega
  rw [he]
  exact (congrArg (k0_pay1 (F := Ideal) (iblk m c 0 t) (iblk m c 1 t)) hy).trans (pay1 m c t _ _)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v2) = poutDx (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.AOutDxIdeal.Value.run_blocks m ρ)

end Cert.Mm.AOutDx

end
-- ==== Proof.AOutDxRef.lean ====
/-
  The reference of the gradient of the gMLP's projection out in its input.
-/
module

public import proofs.«01_k».proof.Proof.Mixing
public import proofs.«01_k».proof.Proof.Gen.AOutDxRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AOutDxRefIdeal Cert.AOutDxRefIdeal.Gen
open scoped BigOperators

namespace Cert.Mm.AOutDxRef

/-- The product over the model's width. -/
def over (y : Rows) (w : WOut) : Rows :=
  truncf .bf16 (Host.dotGeneral dot_S4096x2048_S2048x2048_S4096x2048_1_1_0_0_n_n none (extf .f32 y bitsLt_bf16_f32) w) bitsLt_bf16_f32

theorem over_ix (y : Rows) (w : WOut) (s : Fin 4096) (f : Fin 2048) :
    over y w (ix2 s f) = ∑ d : Fin 2048, y (ix2 s d) * w (ix2 f d) := by
  pointwise [over]

theorem over_eq (y : Rows) (w : WOut) : over y w = poutDx y w := by
  funext i
  rw [eq_ix2 (n0 := 4096) (n1 := 2048) i]
  exact over_ix _ _ _ _

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v4) = poutDx (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.AOutDxRefIdeal.Value.run m ρ)
  exact over_eq _ _

end Cert.Mm.AOutDxRef

end
-- ==== Proof.AOutDw.lean ====
/-
  The gradient of the gMLP's projection out in its weights: the tiled product is the whole product.
-/
module

public import proofs.«01_k».proof.Proof.Mixing
public import proofs.«01_k».proof.Proof.Gen.AOutDwIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AOutDwIdeal Cert.AOutDwIdeal.Gen
open scoped BigOperators

namespace Cert.Mm.AOutDw

variable (m : (ℓ : Loc nD τ sig) → Buf (Elt Ideal) ℓ) (c : Dev nD)

abbrev a0 : Rows := m ((c : Thread nD τ).loc main_arg0)
abbrev a1 : Rows := m ((c : Thread nD τ).loc main_arg1)

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0, 0, t.val % 2] := (by decide +kernel : ∀ t : Fin grid0.N, _)
theorem N_8 (t : Fin cfg0.N) : t.val < 8 := t.isLt

/-- The entry of the gated width that entry `r` of a point's block is. -/
abbrev wid (n : ℕ) (hn : n < 8) (r : Fin 512) : Fin 2048 := ⟨512 * (n / 2) + r.val, by omega⟩
/-- The column of the whole array that column `y` of a point's block is. -/
abbrev col (n : ℕ) (y : Fin 1024) : Fin 2048 := ⟨1024 * (n % 2) + y.val, by omega⟩

theorem blk0 (t : Fin cfg0.N) (s : Fin 4096) (r : Fin 512) : (iblk m c 0 t : FVec Ideal S4096x512 .bf16) (ix2 s r)
    = a0 m c (ix2 s (wid t.val (N_8 t) r)) := by
  blk_ext [iblk, V, idx0 t]
theorem blk1 (t : Fin cfg0.N) (s : Fin 4096) (y : Fin 1024) : (iblk m c 1 t : FVec Ideal S4096x1024 .bf16) (ix2 s y)
    = a1 m c (ix2 s (col t.val y)) := by
  blk_ext [iblk, V, idx1 t]

/-- The product of a point's two blocks. -/
theorem pay1 (t : Fin cfg0.N) (r : Fin 512) (y : Fin 1024) :
    k0_pay1 (F := Ideal) (iblk m c 0 t) (iblk m c 1 t) (ix4 0 0 r y)
      = ∑ s : Fin 4096, a0 m c (ix2 s (wid t.val (N_8 t) r)) * a1 m c (ix2 s (col t.val y)) := by
  pointwise [k0_pay1]
  refine Finset.sum_congr rfl fun s _ => ?_
  rw [blk0, blk1]

/-- The array the kernel leaves. -/
theorem final : (dats m 0 c).arrAt 2 cfg0.N = poutDw (a0 m c) (a1 m c) := by
  refine (dats m 0 c).arrAt_eq_of_covers 2 _ (by decide +kernel) fun t hf y => ?_
  blk_simp
  rw [after0_2]
  frame_out
  have h0 : (y 0).val < 1 := (y 0).isLt
  have h1 : (y 1).val < 1 := (y 1).isLt
  have h2 : (y 2).val < 512 := (y 2).isLt
  have h3 : (y 3).val < 1024 := (y 3).isLt
  have ht := N_8 t
  have hy : y = ix4 (0 : Fin 1) (0 : Fin 1) (⟨(y 2).val, h2⟩ : Fin 512) (⟨(y 3).val, h3⟩ : Fin 1024) := by
    funext a; apply Fin.ext
    fin_cases a <;> simp [ix4] <;> omega
  have he : (win0_2.blk t).view.emb y = ix4 (⟨t.val / 2, by omega⟩ : Fin 4) (0 : Fin 1) (⟨(y 2).val, h2⟩ : Fin 512) (col t.val ⟨(y 3).val, h3⟩) := by
    funext a; apply Fin.ext
    fin_cases a <;> blk_simp [idx2 t] <;> simp [ix4] <;> omega
  rw [he]
  exact (congrArg (k0_pay1 (F := Ideal) (iblk m c 0 t) (iblk m c 1 t)) hy).trans (pay1 m c t _ _)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = poutDw (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.AOutDwIdeal.Value.run_blocks m ρ)

end Cert.Mm.AOutDw

end
-- ==== Proof.AOutDwRef.lean ====
/-
  The reference of the gradient of the gMLP's projection out in its weights.
-/
module

public import proofs.«01_k».proof.Proof.Mixing
public import proofs.«01_k».proof.Proof.Gen.AOutDwRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.AOutDwRefIdeal Cert.AOutDwRefIdeal.Gen
open scoped BigOperators

namespace Cert.Mm.AOutDwRef

/-- The product over the rows, the model's width first. -/
def over (y : Rows) (a : Rows) : FVec Ideal S2048x2048 .f32 :=
  Host.dotGeneral dot_S4096x2048_S4096x2048_S2048x2048_0_0_1_1_n_n none (extf .f32 y bitsLt_bf16_f32) (extf .f32 a bitsLt_bf16_f32)

theorem over_ix (y : Rows) (a : Rows) (d : Fin 2048) (f : Fin 2048) :
    over y a (ix2 d f) = ∑ s : Fin 4096, y (ix2 s d) * a (ix2 s f) := by
  pointwise [over]

/-- The chips' rows, one chip after another. -/
def chips (g : FVec Ideal S2048x2048 .f32) : FVec Ideal S4x1x512x2048 .bf16 :=
  truncf .bf16 (shapeCast S4x1x512x2048 (transpose S2048x2048 [1, 0] g transposes_S2048x2048_S2048x2048_1_0) shapeCasts_S2048x2048_S4x1x512x2048) bitsLt_bf16_f32

theorem chips_ix (g : FVec Ideal S2048x2048 .f32) (p : Fin 4) (z : Fin 1) (r : Fin 512) (d : Fin 2048) :
    chips g (ix4 p z r d) = g (ix2 d ⟨512 * p.val + r.val, by omega⟩) := by
  have hz : z = 0 := Subsingleton.elim _ _
  subst hz
  pointwise [chips]
  refine congrArg g (congrArg (ix2 d) (Fin.ext ?_))
  show p.val * 512 + r.val = 512 * p.val + r.val
  omega

theorem chips_over (a : Rows) (y : Rows) : chips (over y a) = poutDw a y := by
  funext i
  rw [eq_ix4 (n0 := 4) (n1 := 1) (n2 := 512) (n3 := 2048) i]
  refine (chips_ix _ _ _ _ _).trans ((over_ix _ _ _ _).trans (Finset.sum_congr rfl fun s _ => ?_))
  rw [mul_comm]
  rfl

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v7) = poutDw (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.AOutDwRefIdeal.Value.run m ρ)
  exact chips_over _ _

end Cert.Mm.AOutDwRef

end
-- ==== Proof.Pairs.lean ====
/-
  The gradients of the attention's projections in their weights, entry by entry.
-/
module

public import Idealize.ShloMosaic.Lib.Claim
public import Idealize.ShloMosaic.Lib.Pointwise
public import proofs.«01_k».proof.Proof.Blocked

@[expose] public section

noncomputable section

open Idealize.ShloMosaic
open scoped BigOperators

namespace Cert.Mm

/-- Two halves of the attention's width: queries and gates, or keys and values. -/
abbrev Duo := FVec Ideal ⟨3, ![2, 4096, 2048]⟩ .bf16

/-- A row's input times the cotangent's entry of that row in column `x` of both halves. -/
def duoDwTerm (b : Rows) (a : Duo) (d : Fin 2048) (x : Fin 4096) (s : Fin 4096) : EReal :=
  b (ix2 s d) * a (ix3 (⟨x.val / 2048, by omega⟩ : Fin 2) s (⟨x.val % 2048, by omega⟩ : Fin 2048))
/-- The gradient of a weight whose columns are two halves. -/
def duoDw (b : Rows) (a : Duo) (d : Fin 2048) (x : Fin 4096) : EReal := ∑ s : Fin 4096, duoDwTerm b a d x s

/-- The gradient by chip. -/
def duoByChip (b : Rows) (a : Duo) : FVec Ideal ⟨4, ![4, 1, 2048, 1024]⟩ .bf16 := fun i =>
  duoDw b a (i 2) ⟨1024 * (i 0).val + (i 3).val, by
    have h0 : (i 0).val < 4 := (i 0).isLt
    have h3 : (i 3).val < 1024 := (i 3).isLt
    omega⟩

/-- The gradient by half. -/
def duoByHalf (b : Rows) (a : Duo) : FVec Ideal ⟨3, ![2, 2048, 2048]⟩ .bf16 := fun i =>
  duoDw b a (i 1) ⟨2048 * (i 0).val + (i 2).val, by
    have h0 : (i 0).val < 2 := (i 0).isLt
    have h2 : (i 2).val < 2048 := (i 2).isLt
    omega⟩

end Cert.Mm

end
-- ==== Proof.QgDw.lean ====
/-
  The gradient of the attention's query and gate projection in its weights: the tiled product is the whole product.
-/
module

public import proofs.«01_k».proof.Proof.Pairs
public import proofs.«01_k».proof.Proof.Gen.QgDwIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.QgDwIdeal Cert.QgDwIdeal.Gen
open scoped BigOperators

namespace Cert.Mm.QgDw

variable (m : (ℓ : Loc nD τ sig) → Buf (Elt Ideal) ℓ) (c : Dev nD)

abbrev a0 : Rows := m ((c : Thread nD τ).loc main_arg0)
abbrev a1 : Duo := m ((c : Thread nD τ).loc main_arg1)

theorem idx0 : ∀ t : Fin cfg0.N, win0_0.index t = ![t.val % 2, t.val / 8] := (by decide +kernel : ∀ t : Fin grid0.N, _)
theorem idx1 : ∀ t : Fin cfg0.N, win0_1.index t = ![t.val % 8 / 2 / 2, t.val % 2, t.val % 8 / 2 % 2] := (by decide +kernel : ∀ t : Fin grid0.N, _)
theorem idx2 : ∀ t : Fin cfg0.N, win0_2.index t = ![t.val % 8 / 2, 0, t.val / 8, 0] := (by decide +kernel : ∀ t : Fin grid0.N, _)
theorem N_16 (t : Fin cfg0.N) : t.val < 16 := t.isLt

/-- The row of the whole arrays that row `s` of a point's blocks is. -/
abbrev row (n : ℕ) (s : Fin 2048) : Fin 4096 := ⟨2048 * (n % 2) + s.val, by omega⟩
/-- The entry of the model's width that entry `r` of a point's block is. -/
abbrev wid (n : ℕ) (hn : n < 16) (r : Fin 1024) : Fin 2048 := ⟨1024 * (n / 8) + r.val, by omega⟩
/-- The column of the whole array that column `y` of a point's block is. -/
abbrev col (n : ℕ) (y : Fin 1024) : Fin 4096 := ⟨1024 * (n % 8 / 2) + y.val, by omega⟩

theorem blk0 (t : Fin cfg0.N) (s : Fin 2048) (r : Fin 1024) : (iblk m c 0 t : FVec Ideal S2048x1024 .bf16) (ix2 s r)
    = a0 m c (ix2 (row t.val s) (wid t.val (N_16 t) r)) := by
  blk_ext [iblk, V, idx0 t]
theorem blk1 (t : Fin cfg0.N) (s : Fin 2048) (y : Fin 1024) : (iblk m c 1 t : FVec Ideal S1x2048x1024 .bf16) (ix3 0 s y)
    = a1 m c (ix3 (⟨(col t.val y).val / 2048, by omega⟩ : Fin 2) (row t.val s) (⟨(col t.val y).val % 2048, by omega⟩ : Fin 2048)) := by
  blk_ext [iblk, V, idx1 t]

/-- The product of a point's two blocks, term by term. -/
theorem pay1 (t : Fin cfg0.N) (r : Fin 1024) (y : Fin 1024) :
    k0_pay1 (F := Ideal) (iblk m c 0 t) (iblk m c 1 t) (ix2 r y)
      = ∑ s : Fin 2048, duoDwTerm (a0 m c) (a1 m c) (wid t.val (N_16 t) r) (col t.val y) (row t.val s) := by
  pointwise [k0_pay1]
  refine Finset.sum_congr rfl fun s _ => ?_
  rw [blk0, blk1]
  rfl

/-- At a block's first point the accumulator holds the first half of the rows. -/
theorem acc_first (t : Fin cfg0.N) (h0 : t.val % 2 = 0) (r : Fin 1024) (y : Fin 1024) :
    (outsAt0 m c t.val t.isLt).2 (ix2 r y) = upTo (duoDwTerm (a0 m c) (a1 m c) (wid t.val (N_16 t) r) (col t.val y)) 2048 := by
  rw [outsAt0_A m c t h0 (by omega) (by omega)]
  frame_out
  pointwise [k0_pay2]
  rw [pay1]
  refine upTo_first (duoDwTerm (a0 m c) (a1 m c) (wid t.val (N_16 t) r) (col t.val y)) 2048 (by omega) _ fun s => ?_
  exact congrArg _ (Fin.ext (by show 2048 * (t.val % 2) + s.val = s.val; omega))

/-- What the accumulator held before, and a block's second point. -/
theorem acc_more (t : Fin cfg0.N) (h1 : t.val % 2 = 1) (old : Vec Ideal S1024x1024 .f32) (r : Fin 1024) (y : Fin 1024)
    (ho : old (ix2 r y) = upTo (duoDwTerm (a0 m c) (a1 m c) (wid t.val (N_16 t) r) (col t.val y)) 2048) :
    k0_pay3 (F := Ideal) (iblk m c 0 t) (iblk m c 1 t) old (ix2 r y)
      = ∑ s : Fin 4096, duoDwTerm (a0 m c) (a1 m c) (wid t.val (N_16 t) r) (col t.val y) s := by
  pointwise [k0_pay3]
  rw [pay1, ho]
  refine (upTo_tile _ 2048 2048 (by omega) _ fun s => ?_).trans (upTo_all _)
  exact congrArg _ (Fin.ext (by show 2048 * (t.val % 2) + s.val = 2048 + s.val; omega))

/-- The block written back at a block's second point. -/
theorem out_last (t : Fin cfg0.N) (h1 : t.val % 2 = 1) (r : Fin 1024) (y : Fin 1024) :
    (outsAt0 m c t.val t.isLt).1 (ix4 0 0 r y)
      = ∑ s : Fin 4096, duoDwTerm (a0 m c) (a1 m c) (wid t.val (N_16 t) r) (col t.val y) s := by
  have ho := acc_first m c ⟨t.val - 1, Nat.lt_of_le_of_lt (Nat.sub_le _ _) t.isLt⟩ (by show (t.val - 1) % 2 = 0; omega) r y
  have ew : wid (t.val - 1) (Nat.lt_of_le_of_lt (Nat.sub_le _ _) (N_16 t)) r = wid t.val (N_16 t) r :=
    Fin.ext (by show 1024 * ((t.val - 1) / 8) + r.val = 1024 * (t.val / 8) + r.val; omega)
  have ec : col (t.val - 1) y = col t.val y :=
    Fin.ext (by show 1024 * ((t.val - 1) % 8 / 2) + y.val = 1024 * (t.val % 8 / 2) + y.val; omega)
  rw [ew, ec] at ho
  rw [outsAt0_B m c t (by omega) h1 h1]
  frame_out
  pointwise [k0_pay4]
  exact acc_more m c t h1 _ r y ((congrFun (Memref.IsWhole.read_unread _ _) _).trans ho)

/-- The array the kernel leaves. -/
theorem final : (dats m 0 c).arrAt 2 cfg0.N = duoByChip (a0 m c) (a1 m c) := by
  refine (dats m 0 c).arrAt_eq_of_covers 2 _ (by decide +kernel) fun t hf y => ?_
  have hm : t.val % 2 = 1 := (flush0_2 t).mp hf
  blk_simp
  rw [after0_2]
  have h0 : (y 0).val < 1 := (y 0).isLt
  have h1 : (y 1).val < 1 := (y 1).isLt
  have h2 : (y 2).val < 1024 := (y 2).isLt
  have h3 : (y 3).val < 1024 := (y 3).isLt
  have ht := N_16 t
  have hy : y = ix4 (0 : Fin 1) (0 : Fin 1) (⟨(y 2).val, h2⟩ : Fin 1024) (⟨(y 3).val, h3⟩ : Fin 1024) := by
    funext a; apply Fin.ext
    fin_cases a <;> simp [ix4] <;> omega
  have he : (win0_2.blk t).view.emb y = ix4 (⟨t.val % 8 / 2, by omega⟩ : Fin 4) (0 : Fin 1) (wid t.val ht ⟨(y 2).val, h2⟩) (⟨(y 3).val, h3⟩ : Fin 1024) := by
    funext a; apply Fin.ext
    fin_cases a <;> blk_simp [idx2 t] <;> simp [ix4] <;> omega
  rw [he]
  exact (congrArg (outsAt0 m c t.val t.isLt).1 hy).trans (out_last m c t hm _ _)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = duoByChip (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.QgDwIdeal.Value.run_blocks m ρ)

end Cert.Mm.QgDw

end
-- ==== Proof.QgDwRef.lean ====
/-
  The reference of the gradient of the query and gate projection in its weights.
-/
module

public import proofs.«01_k».proof.Proof.Pairs
public import proofs.«01_k».proof.Proof.Gen.QgDwRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.QgDwRefIdeal Cert.QgDwRefIdeal.Gen
open scoped BigOperators

namespace Cert.Mm.QgDwRef

/-- The two halves side by side. -/
def wide (a : Duo) : FVec Ideal S4096x4096 .f32 :=
  shapeCast S4096x4096 (transpose S4096x2x2048 [1, 0, 2] (extf .f32 a bitsLt_bf16_f32) transposes_S2x4096x2048_S4096x2x2048_1_0_2) shapeCasts_S4096x2x2048_S4096x4096

theorem wide_ix (a : Duo) (r : Fin 4096) (x : Fin 4096) :
    wide a (ix2 r x) = a (ix3 (⟨x.val / 2048, by omega⟩ : Fin 2) r (⟨x.val % 2048, by omega⟩ : Fin 2048)) := by
  pointwise [wide]

/-- The product over the rows, columns first. -/
def over (a : FVec Ideal S4096x4096 .f32) (b : Rows) : FVec Ideal S4096x2048 .f32 :=
  Host.dotGeneral dot_S4096x4096_S4096x2048_S4096x2048_0_0_1_1_n_n none a (extf .f32 b bitsLt_bf16_f32)

theorem over_ix (a : FVec Ideal S4096x4096 .f32) (b : Rows) (x : Fin 4096) (d : Fin 2048) :
    over a b (ix2 x d) = ∑ s : Fin 4096, a (ix2 s x) * b (ix2 s d) := by
  pointwise [over]

theorem over_wide (b : Rows) (a : Duo) (x : Fin 4096) (d : Fin 2048) : over (wide a) b (ix2 x d) = duoDw b a d x := by
  refine (over_ix _ _ _ _).trans (Finset.sum_congr rfl fun s _ => ?_)
  rw [wide_ix, mul_comm]
  rfl

/-- The chips' columns, one chip after another. -/
def chips (g : FVec Ideal S4096x2048 .f32) : FVec Ideal S4x1x2048x1024 .bf16 :=
  truncf .bf16 (transpose S4x1x2048x1024 [1, 2, 0, 3] (shapeCast S2048x4x1x1024 (transpose S2048x4096 [1, 0] g transposes_S4096x2048_S2048x4096_1_0) shapeCasts_S2048x4096_S2048x4x1x1024) transposes_S2048x4x1x1024_S4x1x2048x1024_1_2_0_3) bitsLt_bf16_f32

theorem chips_ix (g : FVec Ideal S4096x2048 .f32) (p : Fin 4) (z : Fin 1) (d : Fin 2048) (y : Fin 1024) :
    chips g (ix4 p z d y) = g (ix2 ⟨1024 * p.val + y.val, by omega⟩ d) := by
  have hz : z = 0 := Subsingleton.elim _ _
  subst hz
  pointwise [chips]
  refine congrArg g (congrArg (fun x => ix2 x d) (Fin.ext ?_))
  show p.val * 1024 + y.val = 1024 * p.val + y.val
  omega

theorem chips_over (b : Rows) (a : Duo) : chips (over (wide a) b) = duoByChip b a := by
  funext i
  rw [eq_ix4 (n0 := 4) (n1 := 1) (n2 := 2048) (n3 := 1024) i]
  exact (chips_ix _ _ _ _ _).trans (over_wide _ _ _ _)

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v12) = duoByChip (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.QgDwRefIdeal.Value.run m ρ)
  exact chips_over _ _

end Cert.Mm.QgDwRef

end
-- ==== Proof.KvDw.lean ====
/-
  The gradient of the key and value projection in its weights: the tiled product is the whole product.
-/
module

public import proofs.«01_k».proof.Proof.Pairs
public import proofs.«01_k».proof.Proof.Gen.KvDwIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.KvDwIdeal Cert.KvDwIdeal.Gen
open scoped BigOperators

namespace Cert.Mm.KvDw

variable (m : (ℓ : Loc nD τ sig) → Buf (Elt Ideal) ℓ) (c : Dev nD)

abbrev a0 : Rows := m ((c : Thread nD τ).loc main_arg0)
abbrev a1 : Duo := m ((c : Thread nD τ).loc main_arg1)

theorem idx0 : ∀ t : Fin cfg0.N, win0_0.index t = ![t.val % 2, t.val / 8] := (by decide +kernel : ∀ t : Fin grid0.N, _)
theorem idx1 : ∀ t : Fin cfg0.N, win0_1.index t = ![t.val % 8 / 2 / 2, t.val % 2, t.val % 8 / 2 % 2] := (by decide +kernel : ∀ t : Fin grid0.N, _)
theorem idx2 : ∀ t : Fin cfg0.N, win0_2.index t = ![t.val % 8 / 2 / 2, t.val / 8, t.val % 8 / 2 % 2] := (by decide +kernel : ∀ t : Fin grid0.N, _)
theorem N_16 (t : Fin cfg0.N) : t.val < 16 := t.isLt

/-- The row of the whole arrays that row `s` of a point's blocks is. -/
abbrev row (n : ℕ) (s : Fin 2048) : Fin 4096 := ⟨2048 * (n % 2) + s.val, by omega⟩
/-- The entry of the model's width that entry `r` of a point's block is. -/
abbrev wid (n : ℕ) (hn : n < 16) (r : Fin 1024) : Fin 2048 := ⟨1024 * (n / 8) + r.val, by omega⟩
/-- The column of the whole array that column `y` of a point's block is. -/
abbrev col (n : ℕ) (y : Fin 1024) : Fin 4096 := ⟨1024 * (n % 8 / 2) + y.val, by omega⟩

theorem blk0 (t : Fin cfg0.N) (s : Fin 2048) (r : Fin 1024) : (iblk m c 0 t : FVec Ideal S2048x1024 .bf16) (ix2 s r)
    = a0 m c (ix2 (row t.val s) (wid t.val (N_16 t) r)) := by
  blk_ext [iblk, V, idx0 t]
theorem blk1 (t : Fin cfg0.N) (s : Fin 2048) (y : Fin 1024) : (iblk m c 1 t : FVec Ideal S1x2048x1024 .bf16) (ix3 0 s y)
    = a1 m c (ix3 (⟨(col t.val y).val / 2048, by omega⟩ : Fin 2) (row t.val s) (⟨(col t.val y).val % 2048, by omega⟩ : Fin 2048)) := by
  blk_ext [iblk, V, idx1 t]

/-- The product of a point's two blocks, term by term. -/
theorem pay1 (t : Fin cfg0.N) (r : Fin 1024) (y : Fin 1024) :
    k0_pay1 (F := Ideal) (iblk m c 0 t) (iblk m c 1 t) (ix2 r y)
      = ∑ s : Fin 2048, duoDwTerm (a0 m c) (a1 m c) (wid t.val (N_16 t) r) (col t.val y) (row t.val s) := by
  pointwise [k0_pay1]
  refine Finset.sum_congr rfl fun s _ => ?_
  rw [blk0, blk1]
  rfl

/-- At a block's first point the accumulator holds the first half of the rows. -/
theorem acc_first (t : Fin cfg0.N) (h0 : t.val % 2 = 0) (r : Fin 1024) (y : Fin 1024) :
    (outsAt0 m c t.val t.isLt).2 (ix2 r y) = upTo (duoDwTerm (a0 m c) (a1 m c) (wid t.val (N_16 t) r) (col t.val y)) 2048 := by
  rw [outsAt0_A m c t h0 (by omega) (by omega)]
  frame_out
  pointwise [k0_pay2]
  rw [pay1]
  refine upTo_first (duoDwTerm (a0 m c) (a1 m c) (wid t.val (N_16 t) r) (col t.val y)) 2048 (by omega) _ fun s => ?_
  exact congrArg _ (Fin.ext (by show 2048 * (t.val % 2) + s.val = s.val; omega))

/-- What the accumulator held before, and a block's second point. -/
theorem acc_more (t : Fin cfg0.N) (h1 : t.val % 2 = 1) (old : Vec Ideal S1024x1024 .f32) (r : Fin 1024) (y : Fin 1024)
    (ho : old (ix2 r y) = upTo (duoDwTerm (a0 m c) (a1 m c) (wid t.val (N_16 t) r) (col t.val y)) 2048) :
    k0_pay3 (F := Ideal) (iblk m c 0 t) (iblk m c 1 t) old (ix2 r y)
      = ∑ s : Fin 4096, duoDwTerm (a0 m c) (a1 m c) (wid t.val (N_16 t) r) (col t.val y) s := by
  pointwise [k0_pay3]
  rw [pay1, ho]
  refine (upTo_tile _ 2048 2048 (by omega) _ fun s => ?_).trans (upTo_all _)
  exact congrArg _ (Fin.ext (by show 2048 * (t.val % 2) + s.val = 2048 + s.val; omega))

/-- The block written back at a block's second point. -/
theorem out_last (t : Fin cfg0.N) (h1 : t.val % 2 = 1) (r : Fin 1024) (y : Fin 1024) :
    (outsAt0 m c t.val t.isLt).1 (ix3 0 r y)
      = ∑ s : Fin 4096, duoDwTerm (a0 m c) (a1 m c) (wid t.val (N_16 t) r) (col t.val y) s := by
  have ho := acc_first m c ⟨t.val - 1, Nat.lt_of_le_of_lt (Nat.sub_le _ _) t.isLt⟩ (by show (t.val - 1) % 2 = 0; omega) r y
  have ew : wid (t.val - 1) (Nat.lt_of_le_of_lt (Nat.sub_le _ _) (N_16 t)) r = wid t.val (N_16 t) r :=
    Fin.ext (by show 1024 * ((t.val - 1) / 8) + r.val = 1024 * (t.val / 8) + r.val; omega)
  have ec : col (t.val - 1) y = col t.val y :=
    Fin.ext (by show 1024 * ((t.val - 1) % 8 / 2) + y.val = 1024 * (t.val % 8 / 2) + y.val; omega)
  rw [ew, ec] at ho
  rw [outsAt0_B m c t (by omega) h1 h1]
  frame_out
  pointwise [k0_pay4]
  exact acc_more m c t h1 _ r y ((congrFun (Memref.IsWhole.read_unread _ _) _).trans ho)

/-- The gradient at a column of one half. -/
theorem by_half (b : Rows) (a : Duo) (d : Fin 2048) (x : Fin 4096) :
    duoByHalf b a (ix3 (⟨x.val / 2048, by omega⟩ : Fin 2) d (⟨x.val % 2048, by omega⟩ : Fin 2048)) = duoDw b a d x :=
  congrArg (duoDw b a d) (Fin.ext (by show 2048 * (x.val / 2048) + x.val % 2048 = x.val; omega))

/-- The array the kernel leaves. -/
theorem final : (dats m 0 c).arrAt 2 cfg0.N = duoByHalf (a0 m c) (a1 m c) := by
  refine (dats m 0 c).arrAt_eq_of_covers 2 _ (by decide +kernel) fun t hf y => ?_
  have hm : t.val % 2 = 1 := (flush0_2 t).mp hf
  blk_simp
  rw [after0_2]
  have h0 : (y 0).val < 1 := (y 0).isLt
  have h1 : (y 1).val < 1024 := (y 1).isLt
  have h2 : (y 2).val < 1024 := (y 2).isLt
  have ht := N_16 t
  have hy : y = ix3 (0 : Fin 1) (⟨(y 1).val, h1⟩ : Fin 1024) (⟨(y 2).val, h2⟩ : Fin 1024) := by
    funext a; apply Fin.ext
    fin_cases a <;> simp [ix3] <;> omega
  have he : (win0_2.blk t).view.emb y = ix3 (⟨(col t.val ⟨(y 2).val, h2⟩).val / 2048, by omega⟩ : Fin 2) (wid t.val ht ⟨(y 1).val, h1⟩)
      (⟨(col t.val ⟨(y 2).val, h2⟩).val % 2048, by omega⟩ : Fin 2048) := by
    funext a; apply Fin.ext
    fin_cases a <;> blk_simp [idx2 t] <;> simp [ix3] <;> omega
  rw [he]
  exact (congrArg (outsAt0 m c t.val t.isLt).1 hy).trans ((out_last m c t hm _ _).trans (by_half _ _ _ _).symm)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = duoByHalf (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.KvDwIdeal.Value.run_blocks m ρ)

end Cert.Mm.KvDw

end
-- ==== Proof.KvDwRef.lean ====
/-
  The reference of the gradient of the key and value projection in its weights.
-/
module

public import proofs.«01_k».proof.Proof.Pairs
public import proofs.«01_k».proof.Proof.Gen.KvDwRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.KvDwRefIdeal Cert.KvDwRefIdeal.Gen
open scoped BigOperators

namespace Cert.Mm.KvDwRef

/-- The two halves side by side. -/
def wide (a : Duo) : FVec Ideal S4096x4096 .f32 :=
  shapeCast S4096x4096 (transpose S4096x2x2048 [1, 0, 2] (extf .f32 a bitsLt_bf16_f32) transposes_S2x4096x2048_S4096x2x2048_1_0_2) shapeCasts_S4096x2x2048_S4096x4096

theorem wide_ix (a : Duo) (r : Fin 4096) (x : Fin 4096) :
    wide a (ix2 r x) = a (ix3 (⟨x.val / 2048, by omega⟩ : Fin 2) r (⟨x.val % 2048, by omega⟩ : Fin 2048)) := by
  pointwise [wide]

/-- The product over the rows, columns first. -/
def over (a : FVec Ideal S4096x4096 .f32) (b : Rows) : FVec Ideal S4096x2048 .f32 :=
  Host.dotGeneral dot_S4096x4096_S4096x2048_S4096x2048_0_0_1_1_n_n none a (extf .f32 b bitsLt_bf16_f32)

theorem over_ix (a : FVec Ideal S4096x4096 .f32) (b : Rows) (x : Fin 4096) (d : Fin 2048) :
    over a b (ix2 x d) = ∑ s : Fin 4096, a (ix2 s x) * b (ix2 s d) := by
  pointwise [over]

theorem over_wide (b : Rows) (a : Duo) (x : Fin 4096) (d : Fin 2048) : over (wide a) b (ix2 x d) = duoDw b a d x := by
  refine (over_ix _ _ _ _).trans (Finset.sum_congr rfl fun s _ => ?_)
  rw [wide_ix, mul_comm]
  rfl

/-- The columns split into halves. -/
def halves (g : FVec Ideal S4096x2048 .f32) : FVec Ideal S2x2048x2048 .bf16 :=
  truncf .bf16 (transpose S2x2048x2048 [1, 0, 2] (shapeCast S2048x2x2048 (transpose S2048x4096 [1, 0] g transposes_S4096x2048_S2048x4096_1_0) shapeCasts_S2048x4096_S2048x2x2048) transposes_S2048x2x2048_S2x2048x2048_1_0_2) bitsLt_bf16_f32

theorem halves_ix (g : FVec Ideal S4096x2048 .f32) (h : Fin 2) (d : Fin 2048) (y : Fin 2048) :
    halves g (ix3 h d y) = g (ix2 ⟨2048 * h.val + y.val, by omega⟩ d) := by
  pointwise [halves]
  refine congrArg g (congrArg (fun x => ix2 x d) (Fin.ext ?_))
  show h.val * 2048 + y.val = 2048 * h.val + y.val
  omega

theorem halves_over (b : Rows) (a : Duo) : halves (over (wide a) b) = duoByHalf b a := by
  funext i
  rw [eq_ix3 (n0 := 2) (n1 := 2048) (n2 := 2048) i]
  exact (halves_ix _ _ _ _).trans (over_wide _ _ _ _)

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v12) = duoByHalf (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.KvDwRefIdeal.Value.run m ρ)
  exact halves_over _ _

end Cert.Mm.KvDwRef

end
-- ==== Proof.Projections.lean ====
/-
  The frames of the references of the projections, and each projection's kernel against its reference.
-/
module

public import proofs.«01_k».proof.Defs
public import proofs.«01_k».proof.Proof.AIn
public import proofs.«01_k».proof.Proof.AInRef
public import proofs.«01_k».proof.Proof.AInDx
public import proofs.«01_k».proof.Proof.AInDxRef
public import proofs.«01_k».proof.Proof.AInDw
public import proofs.«01_k».proof.Proof.AInDwRef
public import proofs.«01_k».proof.Proof.AOut
public import proofs.«01_k».proof.Proof.AOutRef
public import proofs.«01_k».proof.Proof.AOutDx
public import proofs.«01_k».proof.Proof.AOutDxRef
public import proofs.«01_k».proof.Proof.AOutDw
public import proofs.«01_k».proof.Proof.AOutDwRef
public import proofs.«01_k».proof.Proof.QgDw
public import proofs.«01_k».proof.Proof.QgDwRef
public import proofs.«01_k».proof.Proof.KvDw
public import proofs.«01_k».proof.Proof.KvDwRef

@[expose] public section

set_option maxRecDepth 16384

noncomputable section

open Idealize.ShloMosaic Idealize.ShloMosaic.TcCoe Idealize.SL.Sem Idealize.ShloMosaic.StableHlo
open scoped BigOperators

namespace Cert.Mm.Products

theorem frame_AIn : Cert.quiescent_AInRefIdeal (hAInRefIdeal := Cert.AInRefIdeal.Gen.facts) := fun m g _ =>
  (θ_run Cert.AInRefIdeal.defs _ _).mono (fun r h => ⟨fun c => (h c).2, Idealize.ShloMosaic.sem_eq_zero_of_no_sems (by decide) r.2⟩) (AInRef.run m g)

theorem algebraic_AIn : Cert.algebraic_AInIdeal_AInRefIdeal (hAInIdeal := Cert.AInIdeal.Gen.facts) (hAInRefIdeal := Cert.AInRefIdeal.Gen.facts) := by
  intro m g m' g' hpre hagree
  refine ⟨_, AIn.run_kernel m g, (θ_run Cert.AInRefIdeal.defs _ _).mono (fun r h c => ⟨(h c).1.trans ?_, (h c).2⟩) (AInRef.run m' g')⟩
  obtain ⟨e0, e1⟩ := hagree c
  exact congrArg₂ pin e0 e1

theorem frame_AInDx : Cert.quiescent_AInDxRefIdeal (hAInDxRefIdeal := Cert.AInDxRefIdeal.Gen.facts) := fun m g _ =>
  (θ_run Cert.AInDxRefIdeal.defs _ _).mono (fun r h => ⟨fun c => (h c).2, Idealize.ShloMosaic.sem_eq_zero_of_no_sems (by decide) r.2⟩) (AInDxRef.run m g)

theorem algebraic_AInDx : Cert.algebraic_AInDxIdeal_AInDxRefIdeal (hAInDxIdeal := Cert.AInDxIdeal.Gen.facts) (hAInDxRefIdeal := Cert.AInDxRefIdeal.Gen.facts) := by
  intro m g m' g' hpre hagree
  refine ⟨_, AInDx.run_kernel m g, (θ_run Cert.AInDxRefIdeal.defs _ _).mono (fun r h c => ⟨(h c).1.trans ?_, (h c).2⟩) (AInDxRef.run m' g')⟩
  obtain ⟨e0, e1⟩ := hagree c
  exact congrArg₂ pinDx e0 e1

theorem frame_AInDw : Cert.quiescent_AInDwRefIdeal (hAInDwRefIdeal := Cert.AInDwRefIdeal.Gen.facts) := fun m g _ =>
  (θ_run Cert.AInDwRefIdeal.defs _ _).mono (fun r h => ⟨fun c => (h c).2, Idealize.ShloMosaic.sem_eq_zero_of_no_sems (by decide) r.2⟩) (AInDwRef.run m g)

theorem algebraic_AInDw : Cert.algebraic_AInDwIdeal_AInDwRefIdeal (hAInDwIdeal := Cert.AInDwIdeal.Gen.facts) (hAInDwRefIdeal := Cert.AInDwRefIdeal.Gen.facts) := by
  intro m g m' g' hpre hagree
  refine ⟨_, AInDw.run_kernel m g, (θ_run Cert.AInDwRefIdeal.defs _ _).mono (fun r h c => ⟨(h c).1.trans ?_, (h c).2⟩) (AInDwRef.run m' g')⟩
  obtain ⟨e0, e1⟩ := hagree c
  exact congrArg₂ pinDw e0 e1

theorem frame_AOut : Cert.quiescent_AOutRefIdeal (hAOutRefIdeal := Cert.AOutRefIdeal.Gen.facts) := fun m g _ =>
  (θ_run Cert.AOutRefIdeal.defs _ _).mono (fun r h => ⟨fun c => (h c).2, Idealize.ShloMosaic.sem_eq_zero_of_no_sems (by decide) r.2⟩) (AOutRef.run m g)

theorem algebraic_AOut : Cert.algebraic_AOutIdeal_AOutRefIdeal (hAOutIdeal := Cert.AOutIdeal.Gen.facts) (hAOutRefIdeal := Cert.AOutRefIdeal.Gen.facts) := by
  intro m g m' g' hpre hagree
  refine ⟨_, AOut.run_kernel m g, (θ_run Cert.AOutRefIdeal.defs _ _).mono (fun r h c => ⟨(h c).1.trans ?_, (h c).2⟩) (AOutRef.run m' g')⟩
  obtain ⟨e0, e1, e2⟩ := hagree c
  exact (congrArg₂ (fun a w => pout a w _) e0 e1).trans (congrArg (pout _ _) e2)

theorem frame_AOutDx : Cert.quiescent_AOutDxRefIdeal (hAOutDxRefIdeal := Cert.AOutDxRefIdeal.Gen.facts) := fun m g _ =>
  (θ_run Cert.AOutDxRefIdeal.defs _ _).mono (fun r h => ⟨fun c => (h c).2, Idealize.ShloMosaic.sem_eq_zero_of_no_sems (by decide) r.2⟩) (AOutDxRef.run m g)

theorem algebraic_AOutDx : Cert.algebraic_AOutDxIdeal_AOutDxRefIdeal (hAOutDxIdeal := Cert.AOutDxIdeal.Gen.facts) (hAOutDxRefIdeal := Cert.AOutDxRefIdeal.Gen.facts) := by
  intro m g m' g' hpre hagree
  refine ⟨_, AOutDx.run_kernel m g, (θ_run Cert.AOutDxRefIdeal.defs _ _).mono (fun r h c => ⟨(h c).1.trans ?_, (h c).2⟩) (AOutDxRef.run m' g')⟩
  obtain ⟨e0, e1⟩ := hagree c
  exact congrArg₂ poutDx e0 e1

theorem frame_AOutDw : Cert.quiescent_AOutDwRefIdeal (hAOutDwRefIdeal := Cert.AOutDwRefIdeal.Gen.facts) := fun m g _ =>
  (θ_run Cert.AOutDwRefIdeal.defs _ _).mono (fun r h => ⟨fun c => (h c).2, Idealize.ShloMosaic.sem_eq_zero_of_no_sems (by decide) r.2⟩) (AOutDwRef.run m g)

theorem algebraic_AOutDw : Cert.algebraic_AOutDwIdeal_AOutDwRefIdeal (hAOutDwIdeal := Cert.AOutDwIdeal.Gen.facts) (hAOutDwRefIdeal := Cert.AOutDwRefIdeal.Gen.facts) := by
  intro m g m' g' hpre hagree
  refine ⟨_, AOutDw.run_kernel m g, (θ_run Cert.AOutDwRefIdeal.defs _ _).mono (fun r h c => ⟨(h c).1.trans ?_, (h c).2⟩) (AOutDwRef.run m' g')⟩
  obtain ⟨e0, e1⟩ := hagree c
  exact congrArg₂ poutDw e0 e1

theorem frame_QgDw : Cert.quiescent_QgDwRefIdeal (hQgDwRefIdeal := Cert.QgDwRefIdeal.Gen.facts) := fun m g _ =>
  (θ_run Cert.QgDwRefIdeal.defs _ _).mono (fun r h => ⟨fun c => (h c).2, Idealize.ShloMosaic.sem_eq_zero_of_no_sems (by decide) r.2⟩) (QgDwRef.run m g)

theorem algebraic_QgDw : Cert.algebraic_QgDwIdeal_QgDwRefIdeal (hQgDwIdeal := Cert.QgDwIdeal.Gen.facts) (hQgDwRefIdeal := Cert.QgDwRefIdeal.Gen.facts) := by
  intro m g m' g' hpre hagree
  refine ⟨_, QgDw.run_kernel m g, (θ_run Cert.QgDwRefIdeal.defs _ _).mono (fun r h c => ⟨(h c).1.trans ?_, (h c).2⟩) (QgDwRef.run m' g')⟩
  obtain ⟨e0, e1⟩ := hagree c
  exact congrArg₂ duoByChip e0 e1

theorem frame_KvDw : Cert.quiescent_KvDwRefIdeal (hKvDwRefIdeal := Cert.KvDwRefIdeal.Gen.facts) := fun m g _ =>
  (θ_run Cert.KvDwRefIdeal.defs _ _).mono (fun r h => ⟨fun c => (h c).2, Idealize.ShloMosaic.sem_eq_zero_of_no_sems (by decide) r.2⟩) (KvDwRef.run m g)

theorem algebraic_KvDw : Cert.algebraic_KvDwIdeal_KvDwRefIdeal (hKvDwIdeal := Cert.KvDwIdeal.Gen.facts) (hKvDwRefIdeal := Cert.KvDwRefIdeal.Gen.facts) := by
  intro m g m' g' hpre hagree
  refine ⟨_, KvDw.run_kernel m g, (θ_run Cert.KvDwRefIdeal.defs _ _).mono (fun r h c => ⟨(h c).1.trans ?_, (h c).2⟩) (KvDwRef.run m' g')⟩
  obtain ⟨e0, e1⟩ := hagree c
  exact congrArg₂ duoByHalf e0 e1

end Cert.Mm.Products

end
-- ==== Proof.Optimiser.lean ====
/-
  The optimiser's step of the key and value projection's weight: the tiled call against reference.py's lines.
-/
module

public import proofs.«01_k».proof.Defs
public import proofs.«01_k».proof.Proof.Gen.AdamIdeal.Value
public import proofs.«01_k».proof.Proof.Gen.AdamRefIdeal.Run

@[expose] public section

set_option maxRecDepth 16384

noncomputable section

open Idealize.ShloMosaic Idealize.ShloMosaic.TcCoe Idealize.SL.Sem Idealize.ShloMosaic.StableHlo

namespace Cert.Optimiser

/-- A weight's columns on one chip. -/
abbrev Arr := FVec Ideal ⟨2, ![2048, 1028]⟩ .f32

/-- The number that a literal of the optimiser is. -/
abbrev lit (w : BitVec 32) : Ideal .f32 := Scalar.ofBits .f32 w

/-- The new first moment: nine tenths of the old one and a tenth of the gradient. -/
def first (g m : Arr) : Arr := fun i =>
  FloatOps.addf (FloatOps.mulf (lit 0x3F666666#32) (m i)) (FloatOps.mulf (lit 0x3DCCCCCD#32) (g i))

/-- The new second moment, from the gradient's square. -/
def second (g v : Arr) : Arr := fun i =>
  FloatOps.addf (FloatOps.mulf (lit 0x3F7FBE77#32) (v i)) (FloatOps.mulf (lit 0x3A83126F#32) (FloatOps.mulf (g i) (g i)))

/-- The change of the weight: the quotient of the corrected moments and the weight's decay, times the rate. -/
def delta (w g m v : Arr) : Arr := fun i =>
  FloatOps.mulf (lit 0xBA83126F#32) (FloatOps.addf
    (FloatOps.divf (FloatOps.divf (first g m i) (lit 0x3F26BD02#32))
      (FloatOps.addf (FloatOps.sqrt (FloatOps.divf (second g v i) (lit 0x3C231ACC#32))) (lit 0x322BCC77#32)))
    (FloatOps.mulf (lit 0x3C23D70A#32) (w i)))

section Kernel
open Cert.AdamIdeal

/-- The kernel's run: its three arrays, and its arguments unchanged. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_1) = first (m ((c.tc : Thread nD τ).loc main_arg1)) (m ((c.tc : Thread nD τ).loc main_arg2))
    ∧ r.2.mem ((c.tc : Thread nD τ).loc main_v0_2) = second (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans rfl, (h c).2.1.trans rfl, (h c).2.2.1.trans rfl, (h c).2.2.2⟩)
    (Cert.AdamIdeal.Value.run m ρ)

end Kernel

section Reference
open Cert.AdamRefIdeal

/-- The reference's run: the same three functions of its arguments. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v4) = first (m ((c.tc : Thread nD τ).loc main_arg1)) (m ((c.tc : Thread nD τ).loc main_arg2))
    ∧ r.2.mem ((c.tc : Thread nD τ).loc main_v10) = second (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans rfl, (h c).2.1.trans rfl, (h c).2.2.1.trans rfl, (h c).2.2.2⟩)
    (Cert.AdamRefIdeal.Value.run m ρ)

end Reference

end Cert.Optimiser

namespace Cert.Mm.Products
open Cert.Optimiser

theorem frame_Adam : Cert.quiescent_AdamRefIdeal (hAdamRefIdeal := Cert.AdamRefIdeal.Gen.facts) := fun m g _ =>
  (θ_run Cert.AdamRefIdeal.defs _ _).mono (fun r h => ⟨fun c => (h c).2.2.2, Idealize.ShloMosaic.sem_eq_zero_of_no_sems (by decide) r.2⟩) (run_ref m g)

theorem algebraic_Adam : Cert.algebraic_AdamIdeal_AdamRefIdeal (hAdamIdeal := Cert.AdamIdeal.Gen.facts) (hAdamRefIdeal := Cert.AdamRefIdeal.Gen.facts) := by
  intro m g m' g' hpre hagree
  refine ⟨_, _, _, run_kernel m g, (θ_run Cert.AdamRefIdeal.defs _ _).mono (fun r h c => ?_) (run_ref m' g')⟩
  obtain ⟨h0, h1, h2, hk⟩ := h c
  obtain ⟨e0, e1, e2, e3⟩ := hagree c
  exact ⟨by rw [h0, e0, e1, e2, e3], by rw [h1, e1, e2], by rw [h2, e1, e3], hk⟩

end Cert.Mm.Products

end
-- ==== Proof.Norms.lean ====
/-
  The normalisation of a row by its root mean square, and its gradients: what they are entry by entry, and that the
  derivative of the quotient is the form the kernel computes. No entry has to be finite.
-/
module

public import Idealize.ShloMosaic.Lib.Claim
public import Idealize.ShloMosaic.Lib.Pointwise

@[expose] public section

noncomputable section

open Idealize.ShloMosaic
open scoped BigOperators

namespace Cert.Norms

/-- The stream, a cotangent, and a gain. -/
abbrev Stream := FVec Ideal ⟨2, ![4096, 2048]⟩ .f32
abbrev Cot := FVec Ideal ⟨2, ![4096, 2048]⟩ .bf16
abbrev Gain := FVec Ideal ⟨1, ![2048]⟩ .f32

/-- The width as a literal, and the number that keeps the root from zero. -/
abbrev width : EReal := Ideal.ofBits .f32 0x45000000#32
abbrev eps : EReal := Ideal.ofBits .f32 0x358637BD#32

theorem width_eq : width = ((2048 : ℝ) : EReal) := by
  simp [width, Ideal.ofBits, Ideal.ieee]
  rw [← EReal.coe_mul]
  congr 1; norm_num
theorem half_eq : Ideal.ofBits .f32 0xBF000000#32 = ((-(1 / 2) : ℝ) : EReal) := by
  simp [Ideal.ofBits, Ideal.ieee]
  rw [← EReal.coe_mul]
  congr 1; norm_num
theorem eps_pos : (0 : EReal) < eps := by
  simp [eps, Ideal.ofBits, Ideal.ieee]
  rw [← EReal.coe_mul]
  exact_mod_cast (by norm_num : (0 : ℝ) < _)

/-- A row's mean square, kept from zero. -/
def spread (x : Stream) (t : Fin 4096) : EReal := Ideal.div (∑ k : Fin 2048, x (ix2 t k) * x (ix2 t k)) width + eps
/-- One over its root. -/
def inv (x : Stream) (t : Fin 4096) : EReal := Ideal.rsqrt (spread x t)
/-- An entry of the normalised row, before the gain. -/
def unit (x : Stream) (t : Fin 4096) (k : Fin 2048) : EReal := x (ix2 t k) * inv x t
/-- The cotangent of the normalised row before the gain. -/
def cot (dy : Cot) (g : Gain) (t : Fin 4096) (k : Fin 2048) : EReal := dy (ix2 t k) * g (ix1 k)

/-- The normalised rows. -/
def norm (x : Stream) (g : Gain) : Cot := fun i => unit x (i 0) (i 1) * g (ix1 (i 1))

/-- The stream's cotangent and the gradient of the normalisation in its input, added. -/
def normDx (dy : Cot) (x : Stream) (g : Gain) (dres : Stream) : Stream := fun i =>
  dres i + inv x (i 0) * (cot dy g (i 0) (i 1)
    - unit x (i 0) (i 1) * Ideal.div (∑ k : Fin 2048, cot dy g (i 0) k * unit x (i 0) k) width)

/-- A row's share of the gain's gradient. -/
def gainTerm (dy : Cot) (x : Stream) (k : Fin 2048) (t : Fin 4096) : EReal := dy (ix2 t k) * unit x t k
/-- The gradient in the gain. -/
def normDg (dy : Cot) (x : Stream) : FVec Ideal ⟨2, ![1, 2048]⟩ .f32 := fun i => ∑ t : Fin 4096, gainTerm dy x (i 1) t

/-! ## The derivative of the quotient -/

theorem sq_nonneg' (a : EReal) : 0 ≤ a * a := by
  rcases le_total 0 a with h | h
  · exact mul_nonneg h h
  · have := mul_nonneg (EReal.neg_nonneg.mpr h) (EReal.neg_nonneg.mpr h)
    rwa [neg_mul_neg] at this

theorem spread_pos (x : Stream) (t : Fin 4096) : 0 < spread x t := by
  have h : 0 ≤ Ideal.div (∑ k : Fin 2048, x (ix2 t k) * x (ix2 t k)) width := by
    rw [width_eq, Ideal.div_coe (by norm_num)]
    exact mul_nonneg (Finset.sum_nonneg fun k _ => sq_nonneg' _) (by exact_mod_cast (by norm_num : (0 : ℝ) ≤ 1 / 2048))
  exact lt_of_lt_of_le eps_pos (le_add_of_nonneg_left h)

/-- Of a positive number, finite or not, one over the root is a real number, and divided by the number it is the cube. -/
theorem root (v : EReal) (hv : 0 < v) : ∃ r : ℝ, 0 ≤ r ∧ Ideal.rsqrt v = (r : EReal) ∧ Ideal.div (Ideal.rsqrt v) v = ((r * r * r : ℝ) : EReal) := by
  induction v with
  | bot => exact absurd hv (by simp)
  | top => exact ⟨0, le_rfl, by simp, by simp [Ideal.div]⟩
  | coe a =>
    have ha : 0 < a := by exact_mod_cast hv
    have e : Ideal.rsqrt (a : EReal) = (((Real.sqrt a)⁻¹ : ℝ) : EReal) := by
      rw [Ideal.rsqrt_coe, if_neg (not_lt.mpr ha.le), if_neg ha.ne']
    refine ⟨(Real.sqrt a)⁻¹, by positivity, e, ?_⟩
    rw [e, Ideal.div_coe ha.ne', ← EReal.coe_mul]
    refine congrArg _ ?_
    have h : (Real.sqrt a)⁻¹ * (Real.sqrt a)⁻¹ = 1 / a := by
      rw [← mul_inv, Real.mul_self_sqrt ha.le, one_div]
    rw [← h, ← mul_assoc]

/-- A factor that is real and not negative goes out of a sum. -/
theorem sum_scale {ι : Type} (s : Finset ι) (f : ι → EReal) (r : ℝ) (hr : 0 ≤ r) : ∑ k ∈ s, (r : EReal) * f k = (r : EReal) * ∑ k ∈ s, f k := by
  classical
  induction s using Finset.induction_on with
  | empty => simp
  | insert a s ha ih =>
    rw [Finset.sum_insert ha, Finset.sum_insert ha, ih, EReal.left_distrib_of_nonneg_of_ne_top (by exact_mod_cast hr) (EReal.coe_ne_top r)]

/-- Twice the opposite of half. -/
theorem twice (q : EReal) (s : ℝ) (hs : 0 ≤ s) : q * ((-(1 / 2) * s : ℝ) : EReal) + q * ((-(1 / 2) * s : ℝ) : EReal) = -(q * (s : EReal)) := by
  have e : ((-(1 / 2) * s : ℝ) : EReal) = -((1 / 2 * s : ℝ) : EReal) := by rw [← EReal.coe_neg]; congr 1; ring
  have e2 : (s : EReal) = ((1 / 2 * s : ℝ) : EReal) + ((1 / 2 * s : ℝ) : EReal) := by rw [← EReal.coe_add]; congr 1; ring
  have hp : (0 : EReal) ≤ ((1 / 2 * s : ℝ) : EReal) := by exact_mod_cast (by positivity : (0 : ℝ) ≤ 1 / 2 * s)
  rw [e, mul_neg, e2, EReal.left_distrib_of_nonneg hp hp]
  generalize q * ((1 / 2 * s : ℝ) : EReal) = z
  induction z with
  | bot => simp
  | top => simp
  | coe a => rw [← EReal.coe_neg, ← EReal.coe_add, ← EReal.coe_add, ← EReal.coe_neg]; congr 1; ring

/-- The derivative that the quotient rule gives, written as the kernel computes it. -/
theorem quotient (x a : Fin 2048 → EReal) (v : EReal) (hv : 0 < v) (j : Fin 2048) (Z : EReal)
    (hZ : Z = Ideal.div ((∑ k : Fin 2048, x k * a k) * (Ideal.ofBits .f32 0xBF000000#32 * Ideal.div (Ideal.rsqrt v) v)) width) :
    a j * Ideal.rsqrt v + x j * Z + Z * x j
      = Ideal.rsqrt v * (a j - x j * Ideal.rsqrt v * Ideal.div (∑ k : Fin 2048, a k * (x k * Ideal.rsqrt v)) width) := by
  obtain ⟨r, hr, e, e3⟩ := root v hv
  have hs : ∑ k : Fin 2048, a k * (x k * (r : EReal)) = (r : EReal) * ∑ k : Fin 2048, x k * a k := by
    rw [← sum_scale _ _ r hr]
    exact Finset.sum_congr rfl fun k _ => by rw [← mul_assoc, mul_comm, mul_comm (a k)]
  have hz : x j * Z = x j * (∑ k : Fin 2048, x k * a k) * ((-(1 / 2) * (r * r * r * (1 / 2048)) : ℝ) : EReal) := by
    rw [hZ, e3, half_eq, width_eq, Ideal.div_coe (by norm_num), ← EReal.coe_mul, mul_assoc, ← EReal.coe_mul, mul_assoc]
    exact (mul_assoc _ _ _).symm
  rw [mul_comm Z, add_assoc, hz, twice _ _ (by positivity), e, hs, width_eq, Ideal.div_coe (by norm_num), sub_eq_add_neg,
    EReal.left_distrib_of_nonneg_of_ne_top (by exact_mod_cast hr) (EReal.coe_ne_top r), mul_neg, mul_comm (a j)]
  refine congrArg (fun y => (r : EReal) * a j + -y) ?_
  generalize ∑ k : Fin 2048, x k * a k = S
  have h3 : ((r * r * r * (1 / 2048) : ℝ) : EReal) = (r : EReal) * (r : EReal) * (r : EReal) * ((1 / 2048 : ℝ) : EReal) := by
    rw [← EReal.coe_mul, ← EReal.coe_mul, ← EReal.coe_mul]
  rw [h3]
  ac_rfl

end Cert.Norms

end
-- ==== Proof.Norm.lean ====
/-
  The normalisation of the rows: the kernel.
-/
module

public import proofs.«01_k».proof.Proof.Norms
public import proofs.«01_k».proof.Proof.Gen.NormIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.NormIdeal Cert.NormIdeal.Gen
open scoped BigOperators

namespace Cert.Norms.Fwd

variable (m : (ℓ : Loc nD τ sig) → Buf (Elt Ideal) ℓ) (c : Dev nD)

abbrev a0 : Stream := m ((c : Thread nD τ).loc main_arg0)
abbrev a1 : Gain := m ((c : Thread nD τ).loc main_arg1)

/-- The gain laid out as a row. -/
theorem shapeCast_1x (g : Gain) (k : Fin 2048) : (shapeCast S1x2048 g shapeCasts_S2048_S1x2048 : FVec Ideal S1x2048 .f32) (ix2 0 k) = g (ix1 k) := by
  have h : ∀ g : Gain, ∀ k : Fin 2048, (fun g : Gain => (shapeCast S1x2048 g shapeCasts_S2048_S1x2048 : FVec Ideal S1x2048 .f32)) g (ix2 0 k) = g (ix1 k) := by
    intro g k
    pointwise []
  exact h g k

theorem V_gain : (V m c main_v0 : FVec Ideal S1x2048 .f32) = shapeCast S1x2048 (a1 m c) shapeCasts_S2048_S1x2048 := by
  show StableHlo.after (List.flatten [hostOps0]) (fun b => m (c, b)) (Proc.devRef .tc main_v0) = _
  simp only [List.flatten_cons, List.flatten_nil, List.append_nil, hostOps0]
  after_results <;> rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem N_8 (t : Fin cfg0.N) : t.val < 8 := t.isLt

/-- The row of the whole arrays that row `s` of a point's blocks is. -/
abbrev row (n : ℕ) (hn : n < 8) (s : Fin 512) : Fin 4096 := ⟨512 * n + s.val, by omega⟩

theorem blk0 (t : Fin cfg0.N) (s : Fin 512) (k : Fin 2048) : (iblk m c 0 t : FVec Ideal S512x2048 .f32) (ix2 s k)
    = a0 m c (ix2 (row t.val (N_8 t) s) k) := by
  blk_ext [iblk, V, idx0 t]
theorem blk1 (t : Fin cfg0.N) (k : Fin 2048) : (iblk m c 1 t : FVec Ideal S1x2048 .f32) (ix2 0 k) = a1 m c (ix1 k) := by
  have e : (iblk m c 1 t : FVec Ideal S1x2048 .f32) (ix2 0 k) = (V m c main_v0 : FVec Ideal S1x2048 .f32) (ix2 0 k) := by
    blk_ext [iblk, idx1 t]
  rw [e, V_gain]
  exact shapeCast_1x (a1 m c) k

/-- The normalised rows of a point's block. -/
theorem pay1 (t : Fin cfg0.N) (s : Fin 512) (k : Fin 2048) :
    k0_pay1 (F := Ideal) (iblk m c 0 t) (iblk m c 1 t) (ix2 s k) = norm (a0 m c) (a1 m c) (ix2 (row t.val (N_8 t) s) k) := by
  pointwise [k0_pay1]
  simp only [blk0, blk1]
  rfl

/-- The array the kernel leaves. -/
theorem final : (dats m 0 c).arrAt 2 cfg0.N = norm (a0 m c) (a1 m c) := by
  refine (dats m 0 c).arrAt_eq_of_covers 2 _ (by decide +kernel) fun t hf y => ?_
  blk_simp
  rw [after0_2]
  frame_out
  have h0 : (y 0).val < 512 := (y 0).isLt
  have h1 : (y 1).val < 2048 := (y 1).isLt
  have ht := N_8 t
  have hy : y = ix2 (⟨(y 0).val, h0⟩ : Fin 512) (⟨(y 1).val, h1⟩ : Fin 2048) := by
    funext a; fin_cases a <;> rfl
  have he : (win0_2.blk t).view.emb y = ix2 (row t.val ht ⟨(y 0).val, h0⟩) (⟨(y 1).val, h1⟩ : Fin 2048) := by
    funext a; apply Fin.ext
    fin_cases a <;> blk_simp [idx2 t] <;> simp [ix2] <;> omega
  rw [he]
  exact (congrArg (k0_pay1 (F := Ideal) (iblk m c 0 t) (iblk m c 1 t)) hy).trans (pay1 m c t _ _)

/-- The kernel's run: the array it leaves, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v1) = norm (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (final m c), (h c).2⟩) (Cert.NormIdeal.Value.run_blocks m ρ)

end Cert.Norms.Fwd

end
-- ==== Proof.NormRef.lean ====
/-
  The reference's normalisation.
-/
module

public import proofs.«01_k».proof.Proof.Norms
public import proofs.«01_k».proof.Proof.Gen.NormRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.NormRefIdeal Cert.NormRefIdeal.Gen
open scoped BigOperators

namespace Cert.Norms.FwdRef

/-- A row's mean square, one over its root, and the row times that. -/
def hSpread (x : Stream) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

theorem hSpread_ix (x : Stream) (t : Fin 4096) : hSpread x (ix2 t 0) = spread x t := by
  pointwise [hSpread]
  rfl

def hUnit (x : Stream) : Stream := mulf x (broadcastInDim S4096x2048 ![0, 1] bcast_S4096x1_S4096x2048_0_1 (Host.rsqrt (hSpread x)))

theorem hUnit_ix (x : Stream) (t : Fin 4096) (k : Fin 2048) : hUnit x (ix2 t k) = unit x t k := by
  pointwise [hUnit]
  rw [hSpread_ix]
  rfl

def hNorm (x : Stream) (g : Gain) : Cot :=
  truncf .bf16 (mulf (hUnit x) (broadcastInDim S4096x2048 ![0, 1] bcast_S1x2048_S4096x2048_0_1 (broadcastInDim S1x2048 ![1] bcast_S2048_S1x2048_1 g))) bitsLt_bf16_f32

theorem hNorm_eq (x : Stream) (g : Gain) : hNorm x g = norm x g := by
  funext i
  obtain ⟨t, k, rfl⟩ : ∃ (t : Fin 4096) (k : Fin 2048), i = ix2 t k := ⟨i 0, i 1, eq_ix2 (n0 := 4096) (n1 := 2048) i⟩
  pointwise [hNorm]
  rw [hUnit_ix]
  rfl

/-- The reference's run: the array it leaves, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v13) = norm (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨(h c).1.trans ?_, (h c).2⟩) (Cert.NormRefIdeal.Value.run m ρ)
  exact hNorm_eq _ _

end Cert.Norms.FwdRef

end
-- ==== Proof.NormBwd.lean ====
/-
  The gradients of the normalisation: the kernel.
-/
module

public import proofs.«01_k».proof.Proof.Norms
public import proofs.«01_k».proof.Proof.Blocked
public import proofs.«01_k».proof.Proof.Gen.NormBwdIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.NormBwdIdeal Cert.NormBwdIdeal.Gen
open scoped BigOperators

namespace Cert.Norms.Bwd

variable (m : (ℓ : Loc nD τ sig) → Buf (Elt Ideal) ℓ) (c : Dev nD)

abbrev a0 : Cot := m ((c : Thread nD τ).loc main_arg0)
abbrev a1 : Stream := m ((c : Thread nD τ).loc main_arg1)
abbrev a2 : Gain := m ((c : Thread nD τ).loc main_arg2)
abbrev a3 : Stream := m ((c : Thread nD τ).loc main_arg3)

/-- The gain laid out as a row. -/
theorem shapeCast_1x (g : Gain) (k : Fin 2048) : (shapeCast S1x2048 g shapeCasts_S2048_S1x2048 : FVec Ideal S1x2048 .f32) (ix2 0 k) = g (ix1 k) := by
  have h : ∀ g : Gain, ∀ k : Fin 2048, (fun g : Gain => (shapeCast S1x2048 g shapeCasts_S2048_S1x2048 : FVec Ideal S1x2048 .f32)) g (ix2 0 k) = g (ix1 k) := by
    intro g k
    pointwise []
  exact h g k

theorem V_gain : (V m c main_v0 : FVec Ideal S1x2048 .f32) = shapeCast S1x2048 (a2 m c) shapeCasts_S2048_S1x2048 := by
  show StableHlo.after (List.flatten [hostOps0]) (fun b => m (c, b)) (Proc.devRef .tc main_v0) = _
  simp only [List.flatten_cons, List.flatten_nil, List.append_nil, hostOps0]
  after_results <;> rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem N_8 (t : Fin cfg0.N) : t.val < 8 := t.isLt

/-- The row of the whole arrays that row `s` of a point's blocks is. -/
abbrev row (n : ℕ) (hn : n < 8) (s : Fin 512) : Fin 4096 := ⟨512 * n + s.val, by omega⟩

theorem blk0 (t : Fin cfg0.N) (s : Fin 512) (k : Fin 2048) : (iblk m c 0 t : FVec Ideal S512x2048 .bf16) (ix2 s k)
    = a0 m c (ix2 (row t.val (N_8 t) s) k) := by
  blk_ext [iblk, V, idx0 t]
theorem blk1 (t : Fin cfg0.N) (s : Fin 512) (k : Fin 2048) : (iblk m c 1 t : FVec Ideal S512x2048 .f32) (ix2 s k)
    = a1 m c (ix2 (row t.val (N_8 t) s) k) := by
  blk_ext [iblk, V, idx1 t]
theorem blk2 (t : Fin cfg0.N) (k : Fin 2048) : (iblk m c 2 t : FVec Ideal S1x2048 .f32) (ix2 0 k) = a2 m c (ix1 k) := by
  have e : (iblk m c 2 t : FVec Ideal S1x2048 .f32) (ix2 0 k) = (V m c main_v0 : FVec Ideal S1x2048 .f32) (ix2 0 k) := by
    blk_ext [iblk, idx2 t]
  rw [e, V_gain]
  exact shapeCast_1x (a2 m c) k
theorem blk3 (t : Fin cfg0.N) (s : Fin 512) (k : Fin 2048) : (iblk m c 3 t : FVec Ideal S512x2048 .f32) (ix2 s k)
    = a3 m c (ix2 (row t.val (N_8 t) s) k) := by
  blk_ext [iblk, V, idx3 t]

/-- One over a row's root mean square, and the row times that. -/
theorem pay3 (t : Fin cfg0.N) (s : Fin 512) (z : Fin 1) :
    k0_pay3 (F := Ideal) (iblk m c 1 t) (ix2 s z) = inv (a1 m c) (row t.val (N_8 t) s) := by
  pointwise [k0_pay3]
  simp only [blk1]
  rfl

theorem pay4 (t : Fin cfg0.N) (s : Fin 512) (k : Fin 2048) :
    k0_pay4 (F := Ideal) (iblk m c 1 t) (ix2 s k) = unit (a1 m c) (row t.val (N_8 t) s) k := by
  pointwise [k0_pay4]
  rw [pay3, blk1]
  rfl

/-- The stream's cotangent on a point's rows. -/
theorem pay5 (t : Fin cfg0.N) (s : Fin 512) (k : Fin 2048) :
    k0_pay5 (F := Ideal) (iblk m c 1 t) (iblk m c 0 t) (iblk m c 2 t) (iblk m c 3 t) (ix2 s k)
      = normDx (a0 m c) (a1 m c) (a2 m c) (a3 m c) (ix2 (row t.val (N_8 t) s) k) := by
  pointwise [k0_pay5, k0_pay2]
  simp only [pay3, pay4, blk0, blk2, blk3]
  rfl

/-- A point's share of the gain's gradient, on top of what was there. -/
theorem pay1 (t : Fin cfg0.N) (old : Vec Ideal S1x2048 .f32) (k : Fin 2048) :
    k0_pay1 (F := Ideal) (k0_pay2 (F := Ideal) (iblk m c 0 t)) (k0_pay4 (F := Ideal) (iblk m c 1 t)) old (ix2 0 k)
      = old (ix2 0 k) + ∑ s : Fin 512, gainTerm (a0 m c) (a1 m c) k (row t.val (N_8 t) s) := by
  pointwise [k0_pay1, k0_pay2]
  simp only [pay4, blk0]
  rfl

/-- The rows added into the gain's gradient by the end of a point. -/
theorem gain_at (k : Fin 2048) : ∀ (n : ℕ) (hn : n < cfg0.N),
    (outsAt0 m c n hn).2.2 (ix2 0 k) = Cert.Mm.upTo (gainTerm (a0 m c) (a1 m c) k) (512 * (n + 1))
  | 0, hn => by
    rw [outsAt0_A m c ⟨0, hn⟩ (by rfl)]
    frame_out
    refine (pay1 m c ⟨0, hn⟩ _ k).trans ?_
    pointwise [k0_pay7]
    exact Cert.Mm.upTo_first _ 512 (by omega) _ fun s => congrArg _ (Fin.ext (by show 512 * 0 + s.val = s.val; omega))
  | n + 1, hn => by
    have h8 : n + 1 < 8 := hn
    have ih := gain_at k n (Nat.lt_of_succ_lt hn)
    rw [outsAt0_B m c ⟨n + 1, hn⟩ (by show ¬ (n + 1) % 8 = 0; omega)]
    frame_out
    refine (pay1 m c ⟨n + 1, hn⟩ _ k).trans ?_
    show (outsAt0 m c n (Nat.lt_of_succ_lt hn)).2.2 (ix2 0 k) + _ = _
    rw [ih]
    exact Cert.Mm.upTo_tile _ _ 512 (by omega) _ fun s => rfl

/-- What a point leaves of the stream's cotangent, either copy. -/
theorem dx_at (t : Fin cfg0.N) (s : Fin 512) (k : Fin 2048) :
    (outsAt0 m c t.val t.isLt).1 (ix2 s k) = normDx (a0 m c) (a1 m c) (a2 m c) (a3 m c) (ix2 (row t.val (N_8 t) s) k)
    ∧ (outsAt0 m c t.val t.isLt).2.1 (ix2 s k) = normDx (a0 m c) (a1 m c) (a2 m c) (a3 m c) (ix2 (row t.val (N_8 t) s) k) := by
  by_cases h : t.val % 8 = 0
  · rw [outsAt0_A m c t h]
    constructor
    · frame_out
      exact pay5 m c t s k
    · frame_out
      exact pay5 m c t s k
  · rw [outsAt0_B m c t h]
    constructor
    · frame_out
      exact pay5 m c t s k
    · frame_out
      exact pay5 m c t s k

/-- The arrays the kernel leaves. -/
theorem final4 : (dats m 0 c).arrAt 4 cfg0.N = normDx (a0 m c) (a1 m c) (a2 m c) (a3 m c) := by
  refine (dats m 0 c).arrAt_eq_of_covers 4 _ (by decide +kernel) fun t hf y => ?_
  blk_simp
  rw [after0_4]
  have h0 : (y 0).val < 512 := (y 0).isLt
  have h1 : (y 1).val < 2048 := (y 1).isLt
  have ht := N_8 t
  have hy : y = ix2 (⟨(y 0).val, h0⟩ : Fin 512) (⟨(y 1).val, h1⟩ : Fin 2048) := by
    funext a; fin_cases a <;> rfl
  have he : (win0_4.blk t).view.emb y = ix2 (row t.val ht ⟨(y 0).val, h0⟩) (⟨(y 1).val, h1⟩ : Fin 2048) := by
    funext a; apply Fin.ext
    fin_cases a <;> blk_simp [idx4 t] <;> simp [ix2] <;> omega
  rw [he]
  exact (congrArg (outsAt0 m c t.val t.isLt).1 hy).trans (dx_at m c t _ _).1

theorem final5 : (dats m 0 c).arrAt 5 cfg0.N = normDx (a0 m c) (a1 m c) (a2 m c) (a3 m c) := by
  refine (dats m 0 c).arrAt_eq_of_covers 5 _ (by decide +kernel) fun t hf y => ?_
  blk_simp
  rw [after0_5]
  have h0 : (y 0).val < 512 := (y 0).isLt
  have h1 : (y 1).val < 2048 := (y 1).isLt
  have ht := N_8 t
  have hy : y = ix2 (⟨(y 0).val, h0⟩ : Fin 512) (⟨(y 1).val, h1⟩ : Fin 2048) := by
    funext a; fin_cases a <;> rfl
  have he : (win0_5.blk t).view.emb y = ix2 (row t.val ht ⟨(y 0).val, h0⟩) (⟨(y 1).val, h1⟩ : Fin 2048) := by
    funext a; apply Fin.ext
    fin_cases a <;> blk_simp [idx5 t] <;> simp [ix2] <;> omega
  rw [he]
  exact (congrArg (outsAt0 m c t.val t.isLt).2.1 hy).trans (dx_at m c t _ _).2

theorem final6 : (dats m 0 c).arrAt 6 cfg0.N = normDg (a0 m c) (a1 m c) := by
  refine (dats m 0 c).arrAt_eq_of_covers 6 _ (by decide +kernel) fun t hf y => ?_
  have hm : t.val % 8 = 7 := (flush0_6 t).mp hf
  blk_simp
  rw [after0_6]
  have h0 : (y 0).val < 1 := (y 0).isLt
  have h1 : (y 1).val < 2048 := (y 1).isLt
  have ht := N_8 t
  have hy : y = ix2 (0 : Fin 1) (⟨(y 1).val, h1⟩ : Fin 2048) := by
    funext a; apply Fin.ext
    fin_cases a <;> simp [ix2] <;> omega
  have he : (win0_6.blk t).view.emb y = ix2 (0 : Fin 1) (⟨(y 1).val, h1⟩ : Fin 2048) := by
    funext a; apply Fin.ext
    fin_cases a <;> blk_simp [idx6 t] <;> simp [ix2] <;> omega
  rw [he]
  refine (congrArg (outsAt0 m c t.val t.isLt).2.2 hy).trans ((gain_at m c _ t.val t.isLt).trans ?_)
  rw [show 512 * (t.val + 1) = 4096 by omega]
  exact Cert.Mm.upTo_all _

/-- The kernel's run: its three arrays, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v1_0) = normDx (a0 m c) (a1 m c) (a2 m c) (a3 m c)
    ∧ r.2.mem ((c.tc : Thread nD τ).loc main_v1_1) = normDx (a0 m c) (a1 m c) (a2 m c) (a3 m c)
    ∧ r.2.mem ((c.tc : Thread nD τ).loc main_v1_2) = normDg (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (final4 m c), (h c).2.1.trans (final5 m c), (h c).2.2.1.trans (final6 m c), (h c).2.2.2⟩)
    (Cert.NormBwdIdeal.Value.run_blocks m ρ)

end Cert.Norms.Bwd

end
-- ==== Proof.NormBwdRef.lean ====
/-
  The reference's gradients of the normalisation.
-/
module

public import proofs.«01_k».proof.Proof.Norms
public import proofs.«01_k».proof.Proof.Gen.NormBwdRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.NormBwdRefIdeal Cert.NormBwdRefIdeal.Gen
open scoped BigOperators

namespace Cert.Norms.BwdRef

/-- A row's mean square, one over its root, and the row times that. -/
def hSpread (x : Stream) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

theorem hSpread_ix (x : Stream) (t : Fin 4096) : hSpread x (ix2 t 0) = spread x t := by
  pointwise [hSpread]
  rfl

def hUnit (x : Stream) : Stream := mulf x (broadcastInDim S4096x2048 ![0, 1] bcast_S4096x1_S4096x2048_0_1 (Host.rsqrt (hSpread x)))

theorem hUnit_ix (x : Stream) (t : Fin 4096) (k : Fin 2048) : hUnit x (ix2 t k) = unit x t k := by
  pointwise [hUnit]
  rw [hSpread_ix]
  rfl

/-- The cotangent of the normalised rows before the gain. -/
def hCot (dy : Cot) (g : Gain) : Stream :=
  mulf (extf .f32 dy bitsLt_bf16_f32) (broadcastInDim S4096x2048 ![0, 1] bcast_S1x2048_S4096x2048_0_1 (broadcastInDim S1x2048 ![1] bcast_S2048_S1x2048_1 g))

theorem hCot_ix (dy : Cot) (g : Gain) (t : Fin 4096) (k : Fin 2048) : hCot dy g (ix2 t k) = cot dy g t k := by
  pointwise [hCot]
  rfl

/-- What the derivative of the mean square gives each entry of a row, but for the entry itself. -/
def hBack (dy : Cot) (x : Stream) (g : Gain) : FVec Ideal S4096 .f32 :=
  Host.reduceAdd (Host.divf (mulf (shapeCast S4096x1 (Host.reduceAdd (mulf x (hCot dy g)) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (hSpread x)) (hSpread x)))) (broadcastInDim S4096x1 ![] bcast_S_S4096x1 (constant S_ .f32 0x45000000#32))) (constant S_ .f32 0x00000000#32) reducesTo_S4096x1_S4096_d1 h_S_

theorem hBack_ix (dy : Cot) (x : Stream) (g : Gain) (t : Fin 4096) : hBack dy x g (ix1 t)
    = Ideal.div ((∑ k : Fin 2048, x (ix2 t k) * cot dy g t k) * (Ideal.ofBits .f32 0xBF000000#32 * Ideal.div (inv x t) (spread x t))) width := by
  pointwise [hBack]
  refine (Fin.sum_univ_one _).trans ?_
  simp only [hCot_ix]
  rw [hSpread_ix]
  rfl

def hDx (dy : Cot) (x : Stream) (g : Gain) (dres : Stream) : Stream :=
  addf dres (addf (addf (mulf (hCot dy g) (broadcastInDim S4096x2048 ![0, 1] bcast_S4096x1_S4096x2048_0_1 (Host.rsqrt (hSpread x)))) (mulf x (broadcastInDim S4096x2048 ![0] bcast_S4096_S4096x2048_0 (hBack dy x g)))) (mulf (broadcastInDim S4096x2048 ![0] bcast_S4096_S4096x2048_0 (hBack dy x g)) x))

theorem hDx_eq (dy : Cot) (x : Stream) (g : Gain) (dres : Stream) : hDx dy x g dres = normDx dy x g dres := by
  funext i
  obtain ⟨t, k, rfl⟩ : ∃ (t : Fin 4096) (k : Fin 2048), i = ix2 t k := ⟨i 0, i 1, eq_ix2 (n0 := 4096) (n1 := 2048) i⟩
  pointwise [hDx]
  rw [hSpread_ix, hCot_ix]
  exact congrArg _ (quotient (fun k => x (ix2 t k)) (cot dy g t) (spread x t) (spread_pos x t) k _ (hBack_ix dy x g t))

def hDg (dy : Cot) (x : Stream) : FVec Ideal S1x2048 .f32 :=
  shapeCast S1x2048 (Host.reduceAdd (shapeCast S1x2048 (Host.reduceAdd (mulf (hUnit x) (extf .f32 dy bitsLt_bf16_f32)) (constant S_ .f32 0x00000000#32) reducesTo_S4096x2048_S2048_d0 h_S_) shapeCasts_S2048_S1x2048) (constant S_ .f32 0x00000000#32) reducesTo_S1x2048_S2048_d0 h_S_) shapeCasts_S2048_S1x2048

theorem hDg_eq (dy : Cot) (x : Stream) : hDg dy x = normDg dy x := by
  funext i
  obtain ⟨z, k, rfl⟩ : ∃ (z : Fin 1) (k : Fin 2048), i = ix2 z k := ⟨i 0, i 1, eq_ix2 (n0 := 1) (n1 := 2048) i⟩
  pointwise [hDg]
  refine (Fin.sum_univ_one _).trans (Finset.sum_congr rfl fun t _ => ?_)
  rw [hUnit_ix, mul_comm]
  rfl

/-- The reference's run: its three arrays, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v37) = normDx (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v38) = normDx (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v39) = normDg (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ⟨(h c).1.trans ?_, (h c).2.1.trans ?_, (h c).2.2.1.trans ?_, (h c).2.2.2⟩) (Cert.NormBwdRefIdeal.Value.run m ρ)
  · exact hDx_eq _ _ _ _
  · exact hDx_eq _ _ _ _
  · exact hDg_eq _ _

end Cert.Norms.BwdRef

end
-- ==== Proof.Normalisation.lean ====
/-
  The claims of the normalisation and its gradients: frames of the references, and the pairings.
-/
module

public import proofs.«01_k».proof.Defs
public import proofs.«01_k».proof.Proof.Norm
public import proofs.«01_k».proof.Proof.NormRef
public import proofs.«01_k».proof.Proof.NormBwd
public import proofs.«01_k».proof.Proof.NormBwdRef
public import proofs.«01_k».proof.Proof.Gen.NormRefIdeal
public import proofs.«01_k».proof.Proof.Gen.NormBwdRefIdeal
public import proofs.«01_k».proof.Proof.Gen.NormIdeal
public import proofs.«01_k».proof.Proof.Gen.NormBwdIdeal

@[expose] public section

noncomputable section

open Idealize.ShloMosaic Idealize.ShloMosaic.TcCoe Idealize.SL.Sem

namespace Cert.Mm.Products

theorem frame_Norm : Cert.quiescent_NormRefIdeal (hNormRefIdeal := Cert.NormRefIdeal.Gen.facts) := fun m g _ =>
  (θ_run Cert.NormRefIdeal.defs _ _).mono (fun r h => ⟨fun c => (h c).2, Idealize.ShloMosaic.sem_eq_zero_of_no_sems (by decide) r.2⟩) (Cert.Norms.FwdRef.run m g)

theorem algebraic_Norm : Cert.algebraic_NormIdeal_NormRefIdeal (hNormIdeal := Cert.NormIdeal.Gen.facts) (hNormRefIdeal := Cert.NormRefIdeal.Gen.facts) := by
  intro m g m' g' hpre hagree
  refine ⟨_, Cert.Norms.Fwd.run_kernel m g, (θ_run Cert.NormRefIdeal.defs _ _).mono (fun r h c => ?_) (Cert.Norms.FwdRef.run m' g')⟩
  obtain ⟨h0, hk⟩ := h c
  obtain ⟨e0, e1⟩ := hagree c
  exact ⟨by rw [h0, e0, e1], hk⟩

theorem frame_NormBwd : Cert.quiescent_NormBwdRefIdeal (hNormBwdRefIdeal := Cert.NormBwdRefIdeal.Gen.facts) := fun m g _ =>
  (θ_run Cert.NormBwdRefIdeal.defs _ _).mono (fun r h => ⟨fun c => (h c).2.2.2, Idealize.ShloMosaic.sem_eq_zero_of_no_sems (by decide) r.2⟩) (Cert.Norms.BwdRef.run m g)

theorem algebraic_NormBwd : Cert.algebraic_NormBwdIdeal_NormBwdRefIdeal (hNormBwdIdeal := Cert.NormBwdIdeal.Gen.facts) (hNormBwdRefIdeal := Cert.NormBwdRefIdeal.Gen.facts) := by
  intro m g m' g' hpre hagree
  refine ⟨_, _, _, Cert.Norms.Bwd.run_kernel m g, (θ_run Cert.NormBwdRefIdeal.defs _ _).mono (fun r h c => ?_) (Cert.Norms.BwdRef.run m' g')⟩
  obtain ⟨h0, h1, h2, hk⟩ := h c
  obtain ⟨e0, e1, e2, e3⟩ := hagree c
  exact ⟨by rw [h0, e0, e1, e2, e3], by rw [h1, e0, e1, e2, e3], by rw [h2, e0, e1], hk⟩

end Cert.Mm.Products

end
-- ==== Proof.Layer.lean ====
/-
  The optimiser's step of one layer of a stack of weights: what it leaves, and what it leaves alone.
-/
module

public import proofs.«01_k».proof.Defs
public import Idealize.ShloMosaic.Lib.Pipeline.Value
public import Idealize.ShloMosaic.Lib.Pipeline.ValueKit

@[expose] public section

noncomputable section

open Idealize.ShloMosaic Idealize.ShloMosaic.TcCoe Idealize.SL.Sem Idealize.ShloMosaic.StableHlo

namespace Cert.Layer

/-- A stack of weights on one chip, layer by layer. -/
abbrev Stack (n r k : ℕ) := FVec Ideal ⟨3, ![n, r, k]⟩ .f32

/-- The number that a literal of the optimiser is. -/
abbrev lit (w : BitVec 32) : Ideal .f32 := Scalar.ofBits .f32 w

/-- The new first moment of an entry, from its gradient and the old one. -/
def first1 (g m : Ideal .f32) : Ideal .f32 :=
  FloatOps.addf (FloatOps.mulf (lit 0x3F666666#32) m) (FloatOps.mulf (lit 0x3DCCCCCD#32) g)

/-- The new second moment of an entry, from its gradient's square and the old one. -/
def second1 (g v : Ideal .f32) : Ideal .f32 :=
  FloatOps.addf (FloatOps.mulf (lit 0x3F7FBE77#32) v) (FloatOps.mulf (lit 0x3A83126F#32) (FloatOps.mulf g g))

/-- The change of an entry: the quotient of the corrected moments and the weight's decay, times the rate. -/
def delta1 (w g m v : Ideal .f32) : Ideal .f32 :=
  FloatOps.mulf (lit 0xBA83126F#32) (FloatOps.addf
    (FloatOps.divf (FloatOps.divf (first1 g m) (lit 0x3F26BD02#32))
      (FloatOps.addf (FloatOps.sqrt (FloatOps.divf (second1 g v) (lit 0x3C231ACC#32))) (lit 0x322BCC77#32)))
    (FloatOps.mulf (lit 0x3C23D70A#32) w))

variable {n r k : ℕ}

/-- Layer `l` of a stack replaced by `new`, the other layers those of `prev`. -/
def at_ (l : ℕ) (new : Fin n → Fin r → Fin k → Ideal .f32) (prev : Stack n r k) : Stack n r k := fun i =>
  if (i 0).val = l then new (i 0) (i 1) (i 2) else prev i

/-- The four stacks the step leaves: the gradient, the change, and the two moments. -/
def grad (l : ℕ) (g : Stack 1 r k) (prev : Stack n r k) : Stack n r k := at_ l (fun _ a b => g (ix3 0 a b)) prev
def delta (l : ℕ) (w : Stack n r k) (g : Stack 1 r k) (m v prev : Stack n r k) : Stack n r k :=
  at_ l (fun z a b => delta1 (w (ix3 z a b)) (g (ix3 0 a b)) (m (ix3 z a b)) (v (ix3 z a b))) prev
def first (l : ℕ) (g : Stack 1 r k) (m prev : Stack n r k) : Stack n r k := at_ l (fun z a b => first1 (g (ix3 0 a b)) (m (ix3 z a b))) prev
def second (l : ℕ) (g : Stack 1 r k) (v prev : Stack n r k) : Stack n r k := at_ l (fun z a b => second1 (g (ix3 0 a b)) (v (ix3 z a b))) prev

/-- A choice by an entry's layer is the stack with that layer replaced. -/
theorem select_eq (l : ℕ) (here : (⟨⟨3, ![n, r, k]⟩, .i1⟩ : BufTy).Contents (Elt Ideal)) (hh : ∀ z a b, here (ix3 z a b) = if z.val = l then 1#1 else 0#1)
    (s prev : Stack n r k) (new : Fin n → Fin r → Fin k → Ideal .f32) (hn : ∀ z a b, s (ix3 z a b) = new z a b) :
    (select here s prev : Stack n r k) = at_ l new prev := by
  funext i
  obtain ⟨z, a, b, rfl⟩ : ∃ (z : Fin n) (a : Fin r) (b : Fin k), i = ix3 z a b := ⟨i 0, i 1, i 2, eq_ix3 (n0 := n) (n1 := r) (n2 := k) i⟩
  show Scalar.select (here (ix3 z a b)) (s (ix3 z a b)) (prev (ix3 z a b)) = if z.val = l then new z a b else prev (ix3 z a b)
  rw [hh, hn]
  by_cases h : z.val = l
  · rw [if_pos h, if_pos h]; rfl
  · rw [if_neg h, if_neg h]; rfl

/-- The one index on a block's first axis. -/
theorem inside {r k : ℕ} (y : Shape.Idx ⟨3, ![1, r, k]⟩) : y = ix3 (0 : Fin 1) (y 1 : Fin r) (y 2 : Fin k) := by
  have h0 : (y 0).val < 1 := (y 0).isLt
  funext a; fin_cases a
  · exact Fin.ext (Nat.lt_one_iff.mp h0)
  · rfl
  · rfl

/-- An entry of a block is the entry of the stack that it lies on. -/
theorem lies {T n r k : ℕ} (x : Stack 1 T k) (G : Stack n r k) (y : Shape.Idx ⟨3, ![1, T, k]⟩) (i : Shape.Idx ⟨3, ![n, r, k]⟩) (z : Fin n) (a : Fin r)
    (hi : i = ix3 z a (y 2 : Fin k)) (h : x (ix3 0 (y 1) (y 2)) = G (ix3 z a (y 2 : Fin k))) : x y = G i := by
  rw [hi]
  exact (congrArg x (inside y)).trans h

end Cert.Layer

namespace Idealize.ShloMosaic.Pipeline
open Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- An array that is written in part ends as `G` if every block written is `G` there and `G` is the old array elsewhere. -/
theorem Dat.arrAt_eq_of_part (w : Fin cfg.W) (G : Buf Val ((cfg.win w).arr.view.loc (c.tc : Thread nD τ)))
    (hG : ∀ t, (cfg.win w).flush t = true → ∀ y : ((cfg.win w).xblock (cfg.grid.coords t)).Idx,
      _root_.cast (congrArg Val ((cfg.win w).blk t).view.elt_eq.symm) (dat.after w t ((cfg.win w).xinj (cfg.grid.coords t) y))
        = G (((cfg.win w).blk t).view.emb y))
    (hA : ∀ i : ((cfg.win w).arr.view.loc (c.tc : Thread nD τ)).2.ty.Idx,
      (∀ t : Fin cfg.N, (cfg.win w).flush t = true → i ∉ ((cfg.win w).blk t).view.set) → dat.A w i = G i) :
    dat.arrAt w cfg.N = G := by
  funext i
  by_cases h : ∃ t : Fin cfg.N, (cfg.win w).flush t = true ∧ i ∈ ((cfg.win w).blk t).view.set
  · obtain ⟨t, hf, hi⟩ := h
    exact dat.arrAt_forall_of_flushed w (fun i v => v = G i) hG cfg.N t i t.isLt hf hi
  · have hno : ∀ t : Fin cfg.N, (cfg.win w).flush t = true → i ∉ ((cfg.win w).blk t).view.set := fun t hf hi => h ⟨t, hf, hi⟩
    exact (dat.arrAt_apply_of_forall_not_mem w cfg.N i fun t _ hf => hno t hf).trans (hA i hno)

end Idealize.ShloMosaic.Pipeline

end
-- ==== Proof.LayerRef.lean ====
/-
  The optimiser's step of one layer as reference.py's lines state it: what a choice by an entry's layer is, at either shape.
-/
module

public import proofs.«01_k».proof.Proof.Layer
public import proofs.«01_k».proof.Proof.Gen.AdamRows0RefIdeal.Run
public import proofs.«01_k».proof.Proof.Gen.AdamRows1RefIdeal.Run
public import proofs.«01_k».proof.Proof.Gen.AdamCols0RefIdeal.Run
public import proofs.«01_k».proof.Proof.Gen.AdamCols1RefIdeal.Run

@[expose] public section

set_option maxRecDepth 16384

noncomputable section

open Idealize.ShloMosaic Idealize.ShloMosaic.TcCoe Idealize.SL.Sem Idealize.ShloMosaic.StableHlo

namespace Cert.Layer

section Rows
open Cert.AdamRows0RefIdeal Cert.AdamRows0RefIdeal.Gen

/-- Whether an entry of the output projections is in the layer. -/
def hRows (l : ℕ) : (⟨S2x512x2048, .i1⟩ : BufTy).Contents (Elt Ideal) :=
  broadcastInDim S2x512x2048 ![0, 1, 2] bcast_S2x1x1_S2x512x2048_0_1_2 (cmpi .eq (broadcastInDim S2x1x1 ![0] bcast_S2_S2x1x1_0 (iotaInDim S2 32 0)) (broadcastInDim S2x1x1 ![] bcast_S_S2x1x1 (constantI S_ 32 (BitVec.ofNat 32 l))))

theorem hRows_0 (z : Fin 2) (a : Fin 512) (b : Fin 2048) : hRows 0 (ix3 z a b) = if z.val = 0 then 1#1 else 0#1 := by
  pointwise [hRows]
  fin_cases z <;> rfl
theorem hRows_1 (z : Fin 2) (a : Fin 512) (b : Fin 2048) : hRows 1 (ix3 z a b) = if z.val = 1 then 1#1 else 0#1 := by
  pointwise [hRows]
  fin_cases z <;> rfl

end Rows

section Cols
open Cert.AdamCols0RefIdeal Cert.AdamCols0RefIdeal.Gen

/-- Whether an entry of the projections into a layer is in the layer. -/
def hCols (l : ℕ) : (⟨S2x2048x1024, .i1⟩ : BufTy).Contents (Elt Ideal) :=
  broadcastInDim S2x2048x1024 ![0, 1, 2] bcast_S2x1x1_S2x2048x1024_0_1_2 (cmpi .eq (broadcastInDim S2x1x1 ![0] bcast_S2_S2x1x1_0 (iotaInDim S2 32 0)) (broadcastInDim S2x1x1 ![] bcast_S_S2x1x1 (constantI S_ 32 (BitVec.ofNat 32 l))))

theorem hCols_0 (z : Fin 2) (a : Fin 2048) (b : Fin 1024) : hCols 0 (ix3 z a b) = if z.val = 0 then 1#1 else 0#1 := by
  pointwise [hCols]
  fin_cases z <;> rfl
theorem hCols_1 (z : Fin 2) (a : Fin 2048) (b : Fin 1024) : hCols 1 (ix3 z a b) = if z.val = 1 then 1#1 else 0#1 := by
  pointwise [hCols]
  fin_cases z <;> rfl

end Cols

end Cert.Layer

end
-- ==== Proof.LayerRows0.lean ====
/-
  The optimiser's step of the first layer of the output projections: the kernel.
-/
module

public import proofs.«01_k».proof.Proof.Layer
public import proofs.«01_k».proof.Proof.Gen.AdamRows0Ideal.Value

@[expose] public section

set_option maxRecDepth 16384

noncomputable section

open Idealize.ShloMosaic Idealize.ShloMosaic.TcCoe Idealize.SL.Sem Idealize.ShloMosaic.StableHlo
open Cert.AdamRows0Ideal Cert.AdamRows0Ideal.Gen

namespace Cert.Layer.Rows0

/-- What the body computes from its blocks. -/
theorem pay_first (x1 x2 : FVec Ideal S1x256x2048 .f32) (s : Fin 256) (j : Fin 2048) :
    k0_pay6 (F := Ideal) x1 x2 (ix2 s j) = first1 (x1 (ix3 0 s j)) (x2 (ix3 0 s j)) := by
  pointwise [k0_pay6, k0_pay4]
  rfl

theorem pay_second (x1 x3 : FVec Ideal S1x256x2048 .f32) (s : Fin 256) (j : Fin 2048) :
    k0_pay7 (F := Ideal) x1 x3 (ix2 s j) = second1 (x1 (ix3 0 s j)) (x3 (ix3 0 s j)) := by
  pointwise [k0_pay7, k0_pay4]
  rfl

theorem pay_delta (x0 x1 x2 x3 : FVec Ideal S1x256x2048 .f32) (s : Fin 256) (j : Fin 2048) :
    k0_pay1 (F := Ideal) (k0_pay8 (F := Ideal) x1 x0 x2 x3) (k0_pay9 (F := Ideal)) (ix3 0 s j)
      = delta1 (x0 (ix3 0 s j)) (x1 (ix3 0 s j)) (x2 (ix3 0 s j)) (x3 (ix3 0 s j)) := by
  pointwise [k0_pay1, k0_pay9, k0_pay8]
  rw [pay_first, pay_second]
  rfl

theorem pay_grad (x1 : FVec Ideal S1x256x2048 .f32) (s : Fin 256) (j : Fin 2048) :
    k0_pay5 (F := Ideal) x1 (ix3 0 s j) = x1 (ix3 0 s j) := by
  pointwise [k0_pay5, k0_pay4]

variable (m : (ℓ : Loc nD τ sig) → Buf (Elt Ideal) ℓ) (c : Dev nD)

abbrev a0 : Stack 2 512 2048 := m ((c : Thread nD τ).loc main_arg0)
abbrev a1 : Stack 1 512 2048 := m ((c : Thread nD τ).loc main_arg1)
abbrev a2 : Stack 2 512 2048 := m ((c : Thread nD τ).loc main_arg2)
abbrev a3 : Stack 2 512 2048 := m ((c : Thread nD τ).loc main_arg3)
abbrev a4 : Stack 2 512 2048 := m ((c : Thread nD τ).loc main_arg4)
abbrev a5 : Stack 2 512 2048 := m ((c : Thread nD τ).loc main_arg5)
abbrev a6 : Stack 2 512 2048 := m ((c : Thread nD τ).loc main_arg6)
abbrev a7 : Stack 2 512 2048 := m ((c : Thread nD τ).loc main_arg7)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem N_2 (t : Fin cfg0.N) : t.val < 2 := t.isLt

abbrev row (t : Fin cfg0.N) (s : Fin 256) : Fin 512 := ⟨256 * t.val + s.val, by have := N_2 t; omega⟩

theorem blk0 (t : Fin cfg0.N) (s : Fin 256) (j : Fin 2048) : (iblk m c 0 t : FVec Ideal S1x256x2048 .f32) (ix3 0 s j)
    = a0 m c (ix3 0 (row t s) j) := by
  blk_ext [iblk, V, idx0 t]
theorem blk1 (t : Fin cfg0.N) (s : Fin 256) (j : Fin 2048) : (iblk m c 1 t : FVec Ideal S1x256x2048 .f32) (ix3 0 s j)
    = a1 m c (ix3 0 (row t s) j) := by
  blk_ext [iblk, V, idx1 t]
theorem blk2 (t : Fin cfg0.N) (s : Fin 256) (j : Fin 2048) : (iblk m c 2 t : FVec Ideal S1x256x2048 .f32) (ix3 0 s j)
    = a2 m c (ix3 0 (row t s) j) := by
  blk_ext [iblk, V, idx2 t]
theorem blk3 (t : Fin cfg0.N) (s : Fin 256) (j : Fin 2048) : (iblk m c 3 t : FVec Ideal S1x256x2048 .f32) (ix3 0 s j)
    = a3 m c (ix3 0 (row t s) j) := by
  blk_ext [iblk, V, idx3 t]

/-- What a point leaves in the four blocks. -/
theorem outs (t : Fin cfg0.N) (s : Fin 256) (j : Fin 2048) :
    (outsAt0 m c t).1 (ix3 0 s j) = a1 m c (ix3 0 (row t s) j)
    ∧ (outsAt0 m c t).2.1 (ix3 0 s j) = delta1 (a0 m c (ix3 0 (row t s) j)) (a1 m c (ix3 0 (row t s) j)) (a2 m c (ix3 0 (row t s) j)) (a3 m c (ix3 0 (row t s) j))
    ∧ (outsAt0 m c t).2.2.1 (ix3 0 s j) = first1 (a1 m c (ix3 0 (row t s) j)) (a2 m c (ix3 0 (row t s) j))
    ∧ (outsAt0 m c t).2.2.2 (ix3 0 s j) = second1 (a1 m c (ix3 0 (row t s) j)) (a3 m c (ix3 0 (row t s) j)) := by
  unfold outsAt0
  refine ⟨?_, ?_, ?_, ?_⟩
  · frame_out
    refine (pay_grad _ _ _).trans ?_
    rw [blk1]
  · frame_out
    refine (pay_delta _ _ _ _ _ _).trans ?_
    rw [blk0, blk1, blk2, blk3]
  · frame_out
    pointwise [k0_pay2]
    refine (pay_first _ _ _ _).trans ?_
    rw [blk1, blk2]
  · frame_out
    pointwise [k0_pay3]
    refine (pay_second _ _ _ _).trans ?_
    rw [blk1, blk3]

/-- What the arrays hold before the call: the arguments they are written over. -/
theorem entry : (dats m 0 c).A 4 = a4 m c ∧ (dats m 0 c).A 5 = a5 m c ∧ (dats m 0 c).A 6 = a6 m c ∧ (dats m 0 c).A 7 = a7 m c := by
  refine ⟨?_, ?_, ?_, ?_⟩ <;> rw [A_eq] <;> dsimp only [V, hostOps0, List.flatten_cons, List.flatten_nil, List.append_nil] <;> after_results <;> rfl

/-- An entry of the layer is in the block of its row. -/
theorem covered (i : S2x512x2048.Idx) (h : ∀ t : Fin cfg0.N, (cfg0.win 4).flush t = true → i ∉ ((cfg0.win 4).blk t).view.set) :
    (i 0).val ≠ 0 := by
  intro h0
  have h1 : (i 1).val < 512 := (i 1).isLt
  have h2 : (i 2).val < 2048 := (i 2).isLt
  obtain ⟨t, ht⟩ : ∃ t : Fin cfg0.N, t.val = (i 1).val / 256 := ⟨⟨(i 1).val / 256, by show (i 1).val / 256 < 2; omega⟩, rfl⟩
  refine h t ((by decide +kernel : ∀ t : Fin grid0.N, win0_4.flush t = true) _) ?_
  mem_blk [idx4]
  exact ⟨by omega, by omega, by omega⟩

theorem place (t : Fin cfg0.N) (y : S1x256x2048.Idx) : (win0_4.blk t).view.emb y = ix3 (0 : Fin 2) (row t (y 1)) (y 2 : Fin 2048) := by
  have h0 : (y 0).val < 1 := (y 0).isLt
  blk_ext [idx4 t]

/-- The four stacks the kernel leaves. -/
theorem finals : (dats m 0 c).arrAt 4 cfg0.N = grad 0 (a1 m c) (a4 m c)
    ∧ (dats m 0 c).arrAt 5 cfg0.N = delta 0 (a0 m c) (a1 m c) (a2 m c) (a3 m c) (a5 m c)
    ∧ (dats m 0 c).arrAt 6 cfg0.N = first 0 (a1 m c) (a2 m c) (a6 m c)
    ∧ (dats m 0 c).arrAt 7 cfg0.N = second 0 (a1 m c) (a3 m c) (a7 m c) := by
  obtain ⟨e4, e5, e6, e7⟩ := entry m c
  refine ⟨(dats m 0 c).arrAt_eq_of_part 4 _ (fun t _ y => ?_) fun i h => (congrFun e4 i).trans (if_neg (covered i h)).symm,
    (dats m 0 c).arrAt_eq_of_part 5 _ (fun t _ y => ?_) fun i h => (congrFun e5 i).trans (if_neg (covered i h)).symm,
    (dats m 0 c).arrAt_eq_of_part 6 _ (fun t _ y => ?_) fun i h => (congrFun e6 i).trans (if_neg (covered i h)).symm,
    (dats m 0 c).arrAt_eq_of_part 7 _ (fun t _ y => ?_) fun i h => (congrFun e7 i).trans (if_neg (covered i h)).symm⟩
  · blk_simp
    rw [after0_4]
    exact lies (outsAt0 m c t).1 _ y _ 0 _ (place t y) (outs m c t _ _).1
  · blk_simp
    rw [after0_5]
    exact lies (outsAt0 m c t).2.1 _ y _ 0 _ (place t y) (outs m c t _ _).2.1
  · blk_simp
    rw [after0_6]
    exact lies (outsAt0 m c t).2.2.1 _ y _ 0 _ (place t y) (outs m c t _ _).2.2.1
  · blk_simp
    rw [after0_7]
    exact lies (outsAt0 m c t).2.2.2 _ y _ 0 _ (place t y) (outs m c t _ _).2.2.2

end Cert.Layer.Rows0

end
-- ==== Proof.LayerRows1.lean ====
/-
  The optimiser's step of the second layer of the output projections: the kernel. Its body is the first layer's.
-/
module

public import proofs.«01_k».proof.Proof.LayerRows0
public import proofs.«01_k».proof.Proof.Gen.AdamRows1Ideal.Value

@[expose] public section

set_option maxRecDepth 16384

noncomputable section

open Idealize.ShloMosaic Idealize.ShloMosaic.TcCoe Idealize.SL.Sem Idealize.ShloMosaic.StableHlo
open Cert.AdamRows1Ideal Cert.AdamRows1Ideal.Gen

namespace Cert.Layer.Rows1

variable (m : (ℓ : Loc nD τ sig) → Buf (Elt Ideal) ℓ) (c : Dev nD)

abbrev a0 : Stack 2 512 2048 := m ((c : Thread nD τ).loc main_arg0)
abbrev a1 : Stack 1 512 2048 := m ((c : Thread nD τ).loc main_arg1)
abbrev a2 : Stack 2 512 2048 := m ((c : Thread nD τ).loc main_arg2)
abbrev a3 : Stack 2 512 2048 := m ((c : Thread nD τ).loc main_arg3)
abbrev a4 : Stack 2 512 2048 := m ((c : Thread nD τ).loc main_arg4)
abbrev a5 : Stack 2 512 2048 := m ((c : Thread nD τ).loc main_arg5)
abbrev a6 : Stack 2 512 2048 := m ((c : Thread nD τ).loc main_arg6)
abbrev a7 : Stack 2 512 2048 := m ((c : Thread nD τ).loc main_arg7)

/-- The layer's blocks, and the gradient's, which has the one layer. -/
theorem idx0 : ∀ t : Fin cfg0.N, win0_0.index t = ![1, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![1, t.val, 0] := (by decide +kernel : ∀ t : Fin grid0.N, _)
theorem idx3 : ∀ t : Fin cfg0.N, win0_3.index t = ![1, t.val, 0] := (by decide +kernel : ∀ t : Fin grid0.N, _)
theorem idx4 : ∀ t : Fin cfg0.N, win0_4.index t = ![1, t.val, 0] := (by decide +kernel : ∀ t : Fin grid0.N, _)

abbrev row (t : Fin cfg0.N) (s : Fin 256) : Fin 512 := ⟨256 * t.val + s.val, by have : t.val < 2 := t.isLt; omega⟩

/-- What a point leaves in the four blocks. -/
theorem outs (t : Fin cfg0.N) (s : Fin 256) (j : Fin 2048) :
    (outsAt0 m c t).1 (ix3 0 s j) = a1 m c (ix3 0 (row t s) j)
    ∧ (outsAt0 m c t).2.1 (ix3 0 s j) = delta1 (a0 m c (ix3 1 (row t s) j)) (a1 m c (ix3 0 (row t s) j)) (a2 m c (ix3 1 (row t s) j)) (a3 m c (ix3 1 (row t s) j))
    ∧ (outsAt0 m c t).2.2.1 (ix3 0 s j) = first1 (a1 m c (ix3 0 (row t s) j)) (a2 m c (ix3 1 (row t s) j))
    ∧ (outsAt0 m c t).2.2.2 (ix3 0 s j) = second1 (a1 m c (ix3 0 (row t s) j)) (a3 m c (ix3 1 (row t s) j)) := by
  have b0 : (iblk m c 0 t : FVec Ideal S1x256x2048 .f32) (ix3 0 s j) = a0 m c (ix3 1 (row t s) j) := by blk_ext [iblk, V, idx0 t]
  have b1 : (iblk m c 1 t : FVec Ideal S1x256x2048 .f32) (ix3 0 s j) = a1 m c (ix3 0 (row t s) j) := by blk_ext [iblk, V, idx1 t]
  have b2 : (iblk m c 2 t : FVec Ideal S1x256x2048 .f32) (ix3 0 s j) = a2 m c (ix3 1 (row t s) j) := by blk_ext [iblk, V, idx2 t]
  have b3 : (iblk m c 3 t : FVec Ideal S1x256x2048 .f32) (ix3 0 s j) = a3 m c (ix3 1 (row t s) j) := by blk_ext [iblk, V, idx3 t]
  unfold outsAt0
  refine ⟨?_, ?_, ?_, ?_⟩
  · frame_out
    exact (Rows0.pay_grad _ _ _).trans b1
  · frame_out
    exact (Rows0.pay_delta _ _ _ _ _ _).trans (by rw [b0, b1, b2, b3])
  · frame_out
    pointwise [k0_pay2]
    exact (Rows0.pay_first _ _ _ _).trans (by rw [b1, b2])
  · frame_out
    pointwise [k0_pay3]
    exact (Rows0.pay_second _ _ _ _).trans (by rw [b1, b3])

/-- What the arrays hold before the call: the arguments they are written over. -/
theorem entry : (dats m 0 c).A 4 = a4 m c ∧ (dats m 0 c).A 5 = a5 m c ∧ (dats m 0 c).A 6 = a6 m c ∧ (dats m 0 c).A 7 = a7 m c := by
  refine ⟨?_, ?_, ?_, ?_⟩ <;> rw [A_eq] <;> dsimp only [V, hostOps0, List.flatten_cons, List.flatten_nil, List.append_nil] <;> after_results <;> rfl

/-- An entry of the layer is in the block of its row. -/
theorem covered (i : S2x512x2048.Idx) (h : ∀ t : Fin cfg0.N, (cfg0.win 4).flush t = true → i ∉ ((cfg0.win 4).blk t).view.set) :
    (i 0).val ≠ 1 := by
  intro h0
  have h1 : (i 1).val < 512 := (i 1).isLt
  have h2 : (i 2).val < 2048 := (i 2).isLt
  obtain ⟨t, ht⟩ : ∃ t : Fin cfg0.N, t.val = (i 1).val / 256 := ⟨⟨(i 1).val / 256, by show (i 1).val / 256 < 2; omega⟩, rfl⟩
  refine h t ((by decide +kernel : ∀ t : Fin grid0.N, win0_4.flush t = true) _) ?_
  mem_blk [idx4]
  exact ⟨by omega, by omega, by omega⟩

theorem place (t : Fin cfg0.N) (y : S1x256x2048.Idx) : (win0_4.blk t).view.emb y = ix3 (1 : Fin 2) (row t (y 1)) (y 2 : Fin 2048) := by
  have h0 : (y 0).val < 1 := (y 0).isLt
  blk_ext [idx4 t]

/-- The four stacks the kernel leaves. -/
theorem finals : (dats m 0 c).arrAt 4 cfg0.N = grad 1 (a1 m c) (a4 m c)
    ∧ (dats m 0 c).arrAt 5 cfg0.N = delta 1 (a0 m c) (a1 m c) (a2 m c) (a3 m c) (a5 m c)
    ∧ (dats m 0 c).arrAt 6 cfg0.N = first 1 (a1 m c) (a2 m c) (a6 m c)
    ∧ (dats m 0 c).arrAt 7 cfg0.N = second 1 (a1 m c) (a3 m c) (a7 m c) := by
  obtain ⟨e4, e5, e6, e7⟩ := entry m c
  refine ⟨(dats m 0 c).arrAt_eq_of_part 4 _ (fun t _ y => ?_) fun i h => (congrFun e4 i).trans (if_neg (covered i h)).symm,
    (dats m 0 c).arrAt_eq_of_part 5 _ (fun t _ y => ?_) fun i h => (congrFun e5 i).trans (if_neg (covered i h)).symm,
    (dats m 0 c).arrAt_eq_of_part 6 _ (fun t _ y => ?_) fun i h => (congrFun e6 i).trans (if_neg (covered i h)).symm,
    (dats m 0 c).arrAt_eq_of_part 7 _ (fun t _ y => ?_) fun i h => (congrFun e7 i).trans (if_neg (covered i h)).symm⟩
  · blk_simp
    rw [after0_4]
    exact lies (outsAt0 m c t).1 _ y _ 1 _ (place t y) (outs m c t _ _).1
  · blk_simp
    rw [after0_5]
    exact lies (outsAt0 m c t).2.1 _ y _ 1 _ (place t y) (outs m c t _ _).2.1
  · blk_simp
    rw [after0_6]
    exact lies (outsAt0 m c t).2.2.1 _ y _ 1 _ (place t y) (outs m c t _ _).2.2.1
  · blk_simp
    rw [after0_7]
    exact lies (outsAt0 m c t).2.2.2 _ y _ 1 _ (place t y) (outs m c t _ _).2.2.2

end Cert.Layer.Rows1

end
-- ==== Proof.LayerCols0.lean ====
/-
  The optimiser's step of the first layer of the projections into a layer: the kernel, on one chip's columns.
-/
module

public import proofs.«01_k».proof.Proof.Layer
public import proofs.«01_k».proof.Proof.Gen.AdamCols0Ideal.Value

@[expose] public section

set_option maxRecDepth 16384

noncomputable section

open Idealize.ShloMosaic Idealize.ShloMosaic.TcCoe Idealize.SL.Sem Idealize.ShloMosaic.StableHlo
open Cert.AdamCols0Ideal Cert.AdamCols0Ideal.Gen

namespace Cert.Layer.Cols0

/-- What the body computes from its blocks. -/
theorem pay_first (x1 x2 : FVec Ideal S1x512x1024 .f32) (s : Fin 512) (j : Fin 1024) :
    k0_pay6 (F := Ideal) x1 x2 (ix2 s j) = first1 (x1 (ix3 0 s j)) (x2 (ix3 0 s j)) := by
  pointwise [k0_pay6, k0_pay4]
  rfl

theorem pay_second (x1 x3 : FVec Ideal S1x512x1024 .f32) (s : Fin 512) (j : Fin 1024) :
    k0_pay7 (F := Ideal) x1 x3 (ix2 s j) = second1 (x1 (ix3 0 s j)) (x3 (ix3 0 s j)) := by
  pointwise [k0_pay7, k0_pay4]
  rfl

theorem pay_delta (x0 x1 x2 x3 : FVec Ideal S1x512x1024 .f32) (s : Fin 512) (j : Fin 1024) :
    k0_pay1 (F := Ideal) (k0_pay8 (F := Ideal) x1 x0 x2 x3) (k0_pay9 (F := Ideal)) (ix3 0 s j)
      = delta1 (x0 (ix3 0 s j)) (x1 (ix3 0 s j)) (x2 (ix3 0 s j)) (x3 (ix3 0 s j)) := by
  pointwise [k0_pay1, k0_pay9, k0_pay8]
  rw [pay_first, pay_second]
  rfl

theorem pay_grad (x1 : FVec Ideal S1x512x1024 .f32) (s : Fin 512) (j : Fin 1024) :
    k0_pay5 (F := Ideal) x1 (ix3 0 s j) = x1 (ix3 0 s j) := by
  pointwise [k0_pay5, k0_pay4]

variable (m : (ℓ : Loc nD τ sig) → Buf (Elt Ideal) ℓ) (c : Dev nD)

abbrev a0 : Stack 2 2048 1024 := m ((c : Thread nD τ).loc main_arg0)
abbrev a1 : Stack 1 2048 1024 := m ((c : Thread nD τ).loc main_arg1)
abbrev a2 : Stack 2 2048 1024 := m ((c : Thread nD τ).loc main_arg2)
abbrev a3 : Stack 2 2048 1024 := m ((c : Thread nD τ).loc main_arg3)
abbrev a4 : Stack 2 2048 1024 := m ((c : Thread nD τ).loc main_arg4)
abbrev a5 : Stack 2 2048 1024 := m ((c : Thread nD τ).loc main_arg5)
abbrev a6 : Stack 2 2048 1024 := m ((c : Thread nD τ).loc main_arg6)
abbrev a7 : Stack 2 2048 1024 := m ((c : Thread nD τ).loc main_arg7)

/-- The layer's blocks, and the gradient's. -/
theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)

abbrev row (t : Fin cfg0.N) (s : Fin 512) : Fin 2048 := ⟨512 * t.val + s.val, by have : t.val < 4 := t.isLt; omega⟩

/-- What a point leaves in the four blocks. -/
theorem outs (t : Fin cfg0.N) (s : Fin 512) (j : Fin 1024) :
    (outsAt0 m c t).1 (ix3 0 s j) = a1 m c (ix3 0 (row t s) j)
    ∧ (outsAt0 m c t).2.1 (ix3 0 s j) = delta1 (a0 m c (ix3 0 (row t s) j)) (a1 m c (ix3 0 (row t s) j)) (a2 m c (ix3 0 (row t s) j)) (a3 m c (ix3 0 (row t s) j))
    ∧ (outsAt0 m c t).2.2.1 (ix3 0 s j) = first1 (a1 m c (ix3 0 (row t s) j)) (a2 m c (ix3 0 (row t s) j))
    ∧ (outsAt0 m c t).2.2.2 (ix3 0 s j) = second1 (a1 m c (ix3 0 (row t s) j)) (a3 m c (ix3 0 (row t s) j)) := by
  have b0 : (iblk m c 0 t : FVec Ideal S1x512x1024 .f32) (ix3 0 s j) = a0 m c (ix3 0 (row t s) j) := by blk_ext [iblk, V, idx0 t]
  have b1 : (iblk m c 1 t : FVec Ideal S1x512x1024 .f32) (ix3 0 s j) = a1 m c (ix3 0 (row t s) j) := by blk_ext [iblk, V, idx1 t]
  have b2 : (iblk m c 2 t : FVec Ideal S1x512x1024 .f32) (ix3 0 s j) = a2 m c (ix3 0 (row t s) j) := by blk_ext [iblk, V, idx2 t]
  have b3 : (iblk m c 3 t : FVec Ideal S1x512x1024 .f32) (ix3 0 s j) = a3 m c (ix3 0 (row t s) j) := by blk_ext [iblk, V, idx3 t]
  unfold outsAt0
  refine ⟨?_, ?_, ?_, ?_⟩
  · frame_out
    exact (pay_grad _ _ _).trans b1
  · frame_out
    exact (pay_delta _ _ _ _ _ _).trans (by rw [b0, b1, b2, b3])
  · frame_out
    pointwise [k0_pay2]
    exact (pay_first _ _ _ _).trans (by rw [b1, b2])
  · frame_out
    pointwise [k0_pay3]
    exact (pay_second _ _ _ _).trans (by rw [b1, b3])

/-- What the arrays hold before the call: the arguments they are written over. -/
theorem entry : (dats m 0 c).A 4 = a4 m c ∧ (dats m 0 c).A 5 = a5 m c ∧ (dats m 0 c).A 6 = a6 m c ∧ (dats m 0 c).A 7 = a7 m c := by
  refine ⟨?_, ?_, ?_, ?_⟩ <;> rw [A_eq] <;> dsimp only [V, hostOps0, List.flatten_cons, List.flatten_nil, List.append_nil] <;> after_results <;> rfl

/-- An entry of the layer is in the block of its row. -/
theorem covered (i : S2x2048x1024.Idx) (h : ∀ t : Fin cfg0.N, (cfg0.win 4).flush t = true → i ∉ ((cfg0.win 4).blk t).view.set) :
    (i 0).val ≠ 0 := by
  intro h0
  have h1 : (i 1).val < 2048 := (i 1).isLt
  have h2 : (i 2).val < 1024 := (i 2).isLt
  obtain ⟨t, ht⟩ : ∃ t : Fin cfg0.N, t.val = (i 1).val / 512 := ⟨⟨(i 1).val / 512, by show (i 1).val / 512 < 4; omega⟩, rfl⟩
  refine h t ((by decide +kernel : ∀ t : Fin grid0.N, win0_4.flush t = true) _) ?_
  mem_blk [idx4]
  exact ⟨by omega, by omega, by omega⟩

theorem place (t : Fin cfg0.N) (y : S1x512x1024.Idx) : (win0_4.blk t).view.emb y = ix3 (0 : Fin 2) (row t (y 1)) (y 2 : Fin 1024) := by
  have h0 : (y 0).val < 1 := (y 0).isLt
  blk_ext [idx4 t]

/-- The four stacks the kernel leaves. -/
theorem finals : (dats m 0 c).arrAt 4 cfg0.N = grad 0 (a1 m c) (a4 m c)
    ∧ (dats m 0 c).arrAt 5 cfg0.N = delta 0 (a0 m c) (a1 m c) (a2 m c) (a3 m c) (a5 m c)
    ∧ (dats m 0 c).arrAt 6 cfg0.N = first 0 (a1 m c) (a2 m c) (a6 m c)
    ∧ (dats m 0 c).arrAt 7 cfg0.N = second 0 (a1 m c) (a3 m c) (a7 m c) := by
  obtain ⟨e4, e5, e6, e7⟩ := entry m c
  refine ⟨(dats m 0 c).arrAt_eq_of_part 4 _ (fun t _ y => ?_) fun i h => (congrFun e4 i).trans (if_neg (covered i h)).symm,
    (dats m 0 c).arrAt_eq_of_part 5 _ (fun t _ y => ?_) fun i h => (congrFun e5 i).trans (if_neg (covered i h)).symm,
    (dats m 0 c).arrAt_eq_of_part 6 _ (fun t _ y => ?_) fun i h => (congrFun e6 i).trans (if_neg (covered i h)).symm,
    (dats m 0 c).arrAt_eq_of_part 7 _ (fun t _ y => ?_) fun i h => (congrFun e7 i).trans (if_neg (covered i h)).symm⟩
  · blk_simp
    rw [after0_4]
    exact lies (outsAt0 m c t).1 _ y _ 0 _ (place t y) (outs m c t _ _).1
  · blk_simp
    rw [after0_5]
    exact lies (outsAt0 m c t).2.1 _ y _ 0 _ (place t y) (outs m c t _ _).2.1
  · blk_simp
    rw [after0_6]
    exact lies (outsAt0 m c t).2.2.1 _ y _ 0 _ (place t y) (outs m c t _ _).2.2.1
  · blk_simp
    rw [after0_7]
    exact lies (outsAt0 m c t).2.2.2 _ y _ 0 _ (place t y) (outs m c t _ _).2.2.2

end Cert.Layer.Cols0

end
-- ==== Proof.LayerCols1.lean ====
/-
  The optimiser's step of the second layer of the projections into a layer: the kernel. Its body is the first layer's.
-/
module

public import proofs.«01_k».proof.Proof.LayerCols0
public import proofs.«01_k».proof.Proof.Gen.AdamCols1Ideal.Value

@[expose] public section

set_option maxRecDepth 16384

noncomputable section

open Idealize.ShloMosaic Idealize.ShloMosaic.TcCoe Idealize.SL.Sem Idealize.ShloMosaic.StableHlo
open Cert.AdamCols1Ideal Cert.AdamCols1Ideal.Gen

namespace Cert.Layer.Cols1

variable (m : (ℓ : Loc nD τ sig) → Buf (Elt Ideal) ℓ) (c : Dev nD)

abbrev a0 : Stack 2 2048 1024 := m ((c : Thread nD τ).loc main_arg0)
abbrev a1 : Stack 1 2048 1024 := m ((c : Thread nD τ).loc main_arg1)
abbrev a2 : Stack 2 2048 1024 := m ((c : Thread nD τ).loc main_arg2)
abbrev a3 : Stack 2 2048 1024 := m ((c : Thread nD τ).loc main_arg3)
abbrev a4 : Stack 2 2048 1024 := m ((c : Thread nD τ).loc main_arg4)
abbrev a5 : Stack 2 2048 1024 := m ((c : Thread nD τ).loc main_arg5)
abbrev a6 : Stack 2 2048 1024 := m ((c : Thread nD τ).loc main_arg6)
abbrev a7 : Stack 2 2048 1024 := m ((c : Thread nD τ).loc main_arg7)

/-- The layer's blocks, and the gradient's, which has the one layer. -/
theorem idx0 : ∀ t : Fin cfg0.N, win0_0.index t = ![1, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![1, t.val, 0] := (by decide +kernel : ∀ t : Fin grid0.N, _)
theorem idx3 : ∀ t : Fin cfg0.N, win0_3.index t = ![1, t.val, 0] := (by decide +kernel : ∀ t : Fin grid0.N, _)
theorem idx4 : ∀ t : Fin cfg0.N, win0_4.index t = ![1, t.val, 0] := (by decide +kernel : ∀ t : Fin grid0.N, _)

abbrev row (t : Fin cfg0.N) (s : Fin 512) : Fin 2048 := ⟨512 * t.val + s.val, by have : t.val < 4 := t.isLt; omega⟩

/-- What a point leaves in the four blocks. -/
theorem outs (t : Fin cfg0.N) (s : Fin 512) (j : Fin 1024) :
    (outsAt0 m c t).1 (ix3 0 s j) = a1 m c (ix3 0 (row t s) j)
    ∧ (outsAt0 m c t).2.1 (ix3 0 s j) = delta1 (a0 m c (ix3 1 (row t s) j)) (a1 m c (ix3 0 (row t s) j)) (a2 m c (ix3 1 (row t s) j)) (a3 m c (ix3 1 (row t s) j))
    ∧ (outsAt0 m c t).2.2.1 (ix3 0 s j) = first1 (a1 m c (ix3 0 (row t s) j)) (a2 m c (ix3 1 (row t s) j))
    ∧ (outsAt0 m c t).2.2.2 (ix3 0 s j) = second1 (a1 m c (ix3 0 (row t s) j)) (a3 m c (ix3 1 (row t s) j)) := by
  have b0 : (iblk m c 0 t : FVec Ideal S1x512x1024 .f32) (ix3 0 s j) = a0 m c (ix3 1 (row t s) j) := by blk_ext [iblk, V, idx0 t]
  have b1 : (iblk m c 1 t : FVec Ideal S1x512x1024 .f32) (ix3 0 s j) = a1 m c (ix3 0 (row t s) j) := by blk_ext [iblk, V, idx1 t]
  have b2 : (iblk m c 2 t : FVec Ideal S1x512x1024 .f32) (ix3 0 s j) = a2 m c (ix3 1 (row t s) j) := by blk_ext [iblk, V, idx2 t]
  have b3 : (iblk m c 3 t : FVec Ideal S1x512x1024 .f32) (ix3 0 s j) = a3 m c (ix3 1 (row t s) j) := by blk_ext [iblk, V, idx3 t]
  unfold outsAt0
  refine ⟨?_, ?_, ?_, ?_⟩
  · frame_out
    exact (Cols0.pay_grad _ _ _).trans b1
  · frame_out
    exact (Cols0.pay_delta _ _ _ _ _ _).trans (by rw [b0, b1, b2, b3])
  · frame_out
    pointwise [k0_pay2]
    exact (Cols0.pay_first _ _ _ _).trans (by rw [b1, b2])
  · frame_out
    pointwise [k0_pay3]
    exact (Cols0.pay_second _ _ _ _).trans (by rw [b1, b3])

/-- What the arrays hold before the call: the arguments they are written over. -/
theorem entry : (dats m 0 c).A 4 = a4 m c ∧ (dats m 0 c).A 5 = a5 m c ∧ (dats m 0 c).A 6 = a6 m c ∧ (dats m 0 c).A 7 = a7 m c := by
  refine ⟨?_, ?_, ?_, ?_⟩ <;> rw [A_eq] <;> dsimp only [V, hostOps0, List.flatten_cons, List.flatten_nil, List.append_nil] <;> after_results <;> rfl

/-- An entry of the layer is in the block of its row. -/
theorem covered (i : S2x2048x1024.Idx) (h : ∀ t : Fin cfg0.N, (cfg0.win 4).flush t = true → i ∉ ((cfg0.win 4).blk t).view.set) :
    (i 0).val ≠ 1 := by
  intro h0
  have h1 : (i 1).val < 2048 := (i 1).isLt
  have h2 : (i 2).val < 1024 := (i 2).isLt
  obtain ⟨t, ht⟩ : ∃ t : Fin cfg0.N, t.val = (i 1).val / 512 := ⟨⟨(i 1).val / 512, by show (i 1).val / 512 < 4; omega⟩, rfl⟩
  refine h t ((by decide +kernel : ∀ t : Fin grid0.N, win0_4.flush t = true) _) ?_
  mem_blk [idx4]
  exact ⟨by omega, by omega, by omega⟩

theorem place (t : Fin cfg0.N) (y : S1x512x1024.Idx) : (win0_4.blk t).view.emb y = ix3 (1 : Fin 2) (row t (y 1)) (y 2 : Fin 1024) := by
  have h0 : (y 0).val < 1 := (y 0).isLt
  blk_ext [idx4 t]

/-- The four stacks the kernel leaves. -/
theorem finals : (dats m 0 c).arrAt 4 cfg0.N = grad 1 (a1 m c) (a4 m c)
    ∧ (dats m 0 c).arrAt 5 cfg0.N = delta 1 (a0 m c) (a1 m c) (a2 m c) (a3 m c) (a5 m c)
    ∧ (dats m 0 c).arrAt 6 cfg0.N = first 1 (a1 m c) (a2 m c) (a6 m c)
    ∧ (dats m 0 c).arrAt 7 cfg0.N = second 1 (a1 m c) (a3 m c) (a7 m c) := by
  obtain ⟨e4, e5, e6, e7⟩ := entry m c
  refine ⟨(dats m 0 c).arrAt_eq_of_part 4 _ (fun t _ y => ?_) fun i h => (congrFun e4 i).trans (if_neg (covered i h)).symm,
    (dats m 0 c).arrAt_eq_of_part 5 _ (fun t _ y => ?_) fun i h => (congrFun e5 i).trans (if_neg (covered i h)).symm,
    (dats m 0 c).arrAt_eq_of_part 6 _ (fun t _ y => ?_) fun i h => (congrFun e6 i).trans (if_neg (covered i h)).symm,
    (dats m 0 c).arrAt_eq_of_part 7 _ (fun t _ y => ?_) fun i h => (congrFun e7 i).trans (if_neg (covered i h)).symm⟩
  · blk_simp
    rw [after0_4]
    exact lies (outsAt0 m c t).1 _ y _ 1 _ (place t y) (outs m c t _ _).1
  · blk_simp
    rw [after0_5]
    exact lies (outsAt0 m c t).2.1 _ y _ 1 _ (place t y) (outs m c t _ _).2.1
  · blk_simp
    rw [after0_6]
    exact lies (outsAt0 m c t).2.2.1 _ y _ 1 _ (place t y) (outs m c t _ _).2.2.1
  · blk_simp
    rw [after0_7]
    exact lies (outsAt0 m c t).2.2.2 _ y _ 1 _ (place t y) (outs m c t _ _).2.2.2

end Cert.Layer.Cols1

end
-- ==== Proof.Layers.lean ====
/-
  The optimiser's step of one layer of a stack of weights: the claims.
-/
module

public import proofs.«01_k».proof.Proof.LayerRef
public import proofs.«01_k».proof.Proof.LayerRows1
public import proofs.«01_k».proof.Proof.LayerCols1

@[expose] public section

set_option maxRecDepth 16384

noncomputable section

open Idealize.ShloMosaic Idealize.ShloMosaic.TcCoe Idealize.SL.Sem Idealize.ShloMosaic.StableHlo

namespace Cert.Mm.Products
open Cert.Layer

theorem frame_AdamRows0 : Cert.quiescent_AdamRows0RefIdeal (hAdamRows0RefIdeal := Cert.AdamRows0RefIdeal.Gen.facts) := fun m g _ =>
  (θ_run Cert.AdamRows0RefIdeal.defs _ _).mono (fun r h => ⟨fun c => (h c).2.2.2.2, Idealize.ShloMosaic.sem_eq_zero_of_no_sems (by decide) r.2⟩) (Cert.AdamRows0RefIdeal.Value.run m g)

theorem frame_AdamRows1 : Cert.quiescent_AdamRows1RefIdeal (hAdamRows1RefIdeal := Cert.AdamRows1RefIdeal.Gen.facts) := fun m g _ =>
  (θ_run Cert.AdamRows1RefIdeal.defs _ _).mono (fun r h => ⟨fun c => (h c).2.2.2.2, Idealize.ShloMosaic.sem_eq_zero_of_no_sems (by decide) r.2⟩) (Cert.AdamRows1RefIdeal.Value.run m g)

theorem frame_AdamCols0 : Cert.quiescent_AdamCols0RefIdeal (hAdamCols0RefIdeal := Cert.AdamCols0RefIdeal.Gen.facts) := fun m g _ =>
  (θ_run Cert.AdamCols0RefIdeal.defs _ _).mono (fun r h => ⟨fun c => (h c).2.2.2.2, Idealize.ShloMosaic.sem_eq_zero_of_no_sems (by decide) r.2⟩) (Cert.AdamCols0RefIdeal.Value.run m g)

theorem frame_AdamCols1 : Cert.quiescent_AdamCols1RefIdeal (hAdamCols1RefIdeal := Cert.AdamCols1RefIdeal.Gen.facts) := fun m g _ =>
  (θ_run Cert.AdamCols1RefIdeal.defs _ _).mono (fun r h => ⟨fun c => (h c).2.2.2.2, Idealize.ShloMosaic.sem_eq_zero_of_no_sems (by decide) r.2⟩) (Cert.AdamCols1RefIdeal.Value.run m g)

theorem algebraic_AdamRows0 : Cert.algebraic_AdamRows0Ideal_AdamRows0RefIdeal (hAdamRows0Ideal := Cert.AdamRows0Ideal.Gen.facts) (hAdamRows0RefIdeal := Cert.AdamRows0RefIdeal.Gen.facts) := by
  intro m g m' g' hpre hagree
  refine ⟨_, _, _, _, Cert.AdamRows0Ideal.Value.run_blocks m g, (θ_run Cert.AdamRows0RefIdeal.defs _ _).mono (fun r h c => ?_) (Cert.AdamRows0RefIdeal.Value.run m' g')⟩
  obtain ⟨h0, h1, h2, h3, hk⟩ := h c
  obtain ⟨e0, e1, e2, e3, e4, e5, e6, e7⟩ := hagree c
  obtain ⟨f4, f5, f6, f7⟩ := Rows0.finals m c
  refine ⟨h0.trans (Eq.trans ?_ f4.symm), h1.trans (Eq.trans ?_ f5.symm), h2.trans (Eq.trans ?_ f6.symm), h3.trans (Eq.trans ?_ f7.symm), hk⟩
  · rw [e1, e4]
    exact select_eq 0 (hRows 0) hRows_0 _ _ _ fun z a b => by pointwise []
  · rw [e0, e1, e2, e3, e5]
    exact select_eq 0 (hRows 0) hRows_0 _ _ _ fun z a b => by pointwise []; rfl
  · rw [e1, e2, e6]
    exact select_eq 0 (hRows 0) hRows_0 _ _ _ fun z a b => by pointwise []; rfl
  · rw [e1, e3, e7]
    exact select_eq 0 (hRows 0) hRows_0 _ _ _ fun z a b => by pointwise []; rfl

theorem algebraic_AdamRows1 : Cert.algebraic_AdamRows1Ideal_AdamRows1RefIdeal (hAdamRows1Ideal := Cert.AdamRows1Ideal.Gen.facts) (hAdamRows1RefIdeal := Cert.AdamRows1RefIdeal.Gen.facts) := by
  intro m g m' g' hpre hagree
  refine ⟨_, _, _, _, Cert.AdamRows1Ideal.Value.run_blocks m g, (θ_run Cert.AdamRows1RefIdeal.defs _ _).mono (fun r h c => ?_) (Cert.AdamRows1RefIdeal.Value.run m' g')⟩
  obtain ⟨h0, h1, h2, h3, hk⟩ := h c
  obtain ⟨e0, e1, e2, e3, e4, e5, e6, e7⟩ := hagree c
  obtain ⟨f4, f5, f6, f7⟩ := Rows1.finals m c
  refine ⟨h0.trans (Eq.trans ?_ f4.symm), h1.trans (Eq.trans ?_ f5.symm), h2.trans (Eq.trans ?_ f6.symm), h3.trans (Eq.trans ?_ f7.symm), hk⟩
  · rw [e1, e4]
    exact select_eq 1 (hRows 1) hRows_1 _ _ _ fun z a b => by pointwise []
  · rw [e0, e1, e2, e3, e5]
    exact select_eq 1 (hRows 1) hRows_1 _ _ _ fun z a b => by pointwise []; rfl
  · rw [e1, e2, e6]
    exact select_eq 1 (hRows 1) hRows_1 _ _ _ fun z a b => by pointwise []; rfl
  · rw [e1, e3, e7]
    exact select_eq 1 (hRows 1) hRows_1 _ _ _ fun z a b => by pointwise []; rfl

theorem algebraic_AdamCols0 : Cert.algebraic_AdamCols0Ideal_AdamCols0RefIdeal (hAdamCols0Ideal := Cert.AdamCols0Ideal.Gen.facts) (hAdamCols0RefIdeal := Cert.AdamCols0RefIdeal.Gen.facts) := by
  intro m g m' g' hpre hagree
  refine ⟨_, _, _, _, Cert.AdamCols0Ideal.Value.run_blocks m g, (θ_run Cert.AdamCols0RefIdeal.defs _ _).mono (fun r h c => ?_) (Cert.AdamCols0RefIdeal.Value.run m' g')⟩
  obtain ⟨h0, h1, h2, h3, hk⟩ := h c
  obtain ⟨e0, e1, e2, e3, e4, e5, e6, e7⟩ := hagree c
  obtain ⟨f4, f5, f6, f7⟩ := Cols0.finals m c
  refine ⟨h0.trans (Eq.trans ?_ f4.symm), h1.trans (Eq.trans ?_ f5.symm), h2.trans (Eq.trans ?_ f6.symm), h3.trans (Eq.trans ?_ f7.symm), hk⟩
  · rw [e1, e4]
    exact select_eq 0 (hCols 0) hCols_0 _ _ _ fun z a b => by pointwise []
  · rw [e0, e1, e2, e3, e5]
    exact select_eq 0 (hCols 0) hCols_0 _ _ _ fun z a b => by pointwise []; rfl
  · rw [e1, e2, e6]
    exact select_eq 0 (hCols 0) hCols_0 _ _ _ fun z a b => by pointwise []; rfl
  · rw [e1, e3, e7]
    exact select_eq 0 (hCols 0) hCols_0 _ _ _ fun z a b => by pointwise []; rfl

theorem algebraic_AdamCols1 : Cert.algebraic_AdamCols1Ideal_AdamCols1RefIdeal (hAdamCols1Ideal := Cert.AdamCols1Ideal.Gen.facts) (hAdamCols1RefIdeal := Cert.AdamCols1RefIdeal.Gen.facts) := by
  intro m g m' g' hpre hagree
  refine ⟨_, _, _, _, Cert.AdamCols1Ideal.Value.run_blocks m g, (θ_run Cert.AdamCols1RefIdeal.defs _ _).mono (fun r h c => ?_) (Cert.AdamCols1RefIdeal.Value.run m' g')⟩
  obtain ⟨h0, h1, h2, h3, hk⟩ := h c
  obtain ⟨e0, e1, e2, e3, e4, e5, e6, e7⟩ := hagree c
  obtain ⟨f4, f5, f6, f7⟩ := Cols1.finals m c
  refine ⟨h0.trans (Eq.trans ?_ f4.symm), h1.trans (Eq.trans ?_ f5.symm), h2.trans (Eq.trans ?_ f6.symm), h3.trans (Eq.trans ?_ f7.symm), hk⟩
  · rw [e1, e4]
    exact select_eq 1 (hCols 1) hCols_1 _ _ _ fun z a b => by pointwise []
  · rw [e0, e1, e2, e3, e5]
    exact select_eq 1 (hCols 1) hCols_1 _ _ _ fun z a b => by pointwise []; rfl
  · rw [e1, e2, e6]
    exact select_eq 1 (hCols 1) hCols_1 _ _ _ fun z a b => by pointwise []; rfl
  · rw [e1, e3, e7]
    exact select_eq 1 (hCols 1) hCols_1 _ _ _ fun z a b => by pointwise []; rfl

end Cert.Mm.Products

end
-- ==== Proof.Packing.lean ====
/-
  Weights of many shapes in one array: laid flat one after another, filled up with a constant, and cut apart again.
-/
module

public import proofs.«01_k».proof.Defs
public import Idealize.ShloMosaic.Lib.Pipeline.Value
public import Idealize.ShloMosaic.Lib.KernelVsHost

@[expose] public section

set_option maxRecDepth 16384

noncomputable section

open Idealize.ShloMosaic

namespace Cert.Packing

variable {α : Type}

/-- The flat shape of `n` entries. -/
abbrev flat (n : Nat) : Shape := ⟨1, ![n]⟩

/-- A slice of the array of flat pieces, filled up to `M` entries and given the shape `P`, at the place where the piece `k`
    starts, is that piece. -/
theorem slice_piece {n N M pd off : Nat} {P : Shape} (xs : List ((s : Shape) × (s.Idx → α)))
    (hc : Shape.Concatenates (xs.map (·.1)) (flat N) 0) (k : Nat) (hk : k < xs.length) (x : (flat n).Idx → α)
    (hxk : xs[k] = ⟨flat n, x⟩)
    (hoff : (((xs.take k).map (·.1)).map fun s => if h : s.rank = (flat N).rank then s.size ((0 : Fin (flat N).rank).cast h.symm) else 0).sum = off)
    (hN : off + n ≤ N) {u : Shape} (v : u.Idx → α) (hp : (flat N).Pads ![0] ![pd] ![0] (flat M)) (hu : 0 < u.numel)
    (h₁ : (flat M).ShapeCasts P) (h₂ : P.ShapeCasts (flat M)) (hs : (flat M).Slices ![off] (flat n)) :
    extractStridedSlice (flat n) ![off] (shapeCast (flat M) (shapeCast P (pad (flat M) ![0] ![pd] ![0] (concatenate (flat N) 0 xs hc) v hp hu) h₁) h₂) hs = x := by
  rw [shapeCast_shapeCast]
  funext y
  have hy : (y 0).val < n := (y 0).isLt
  refine (pad_apply_of_inside ![0] ![pd] ![0] (concatenate (flat N) 0 xs hc) v hp hu _ (fun _ => ⟨off + (y 0).val, by
    show off + (y 0).val < _; rename_i a; have : a = 0 := Subsingleton.elim _ _; subst this; show off + (y 0).val < N; omega⟩) (fun a => ?_)).trans ?_
  · have : a = 0 := Subsingleton.elim _ _
    subst this
    show off + (y 0).val = 0 + (off + (y 0).val) * (0 + 1)
    omega
  · refine concatenate_apply_piece 0 xs hc _ k hk (flat n) x hxk rfl off hoff y (fun b hb => absurd (Subsingleton.elim _ _) hb) ?_
    rfl

/-- A part of the packed array: `n` entries from `off` on, given the shape `s`. -/
abbrev part {M : Nat} {P s : Shape} (n off : Nat) (h₂ : P.ShapeCasts (flat M)) (hs : (flat M).Slices ![off] (flat n))
    (h₃ : (flat n).ShapeCasts s) (x : P.Idx → α) : s.Idx → α :=
  shapeCast s (extractStridedSlice (flat n) ![off] (shapeCast (flat M) x h₂) hs) h₃

/-- The part of the packed array that the piece `k` lies on is the weight the piece was made of. -/
theorem part_piece {n N M pd off : Nat} {P s : Shape} (xs : List ((s : Shape) × (s.Idx → α)))
    (hc : Shape.Concatenates (xs.map (·.1)) (flat N) 0) (k : Nat) (hk : k < xs.length) (x : (flat n).Idx → α) (y : s.Idx → α)
    (hxk : xs[k] = ⟨flat n, x⟩)
    (hoff : (((xs.take k).map (·.1)).map fun s => if h : s.rank = (flat N).rank then s.size ((0 : Fin (flat N).rank).cast h.symm) else 0).sum = off)
    (hN : off + n ≤ N) {u : Shape} (v : u.Idx → α) (hp : (flat N).Pads ![0] ![pd] ![0] (flat M)) (hu : 0 < u.numel)
    (h₁ : (flat M).ShapeCasts P) (h₂ : P.ShapeCasts (flat M)) (hs : (flat M).Slices ![off] (flat n)) (h₃ : (flat n).ShapeCasts s)
    (hxy : shapeCast s x h₃ = y) :
    part n off h₂ hs h₃ (shapeCast P (pad (flat M) ![0] ![pd] ![0] (concatenate (flat N) 0 xs hc) v hp hu) h₁) = y :=
  (congrArg (fun z => shapeCast s z h₃) (slice_piece xs hc k hk x hxk hoff hN v hp hu h₁ h₂ hs)).trans hxy

end Cert.Packing

end
-- ==== Proof.SmallStep.lean ====
/-
  The optimiser's step of the small weights, packed into one array and taken apart again: the claims.
-/
module

public import proofs.«01_k».proof.Defs
public import proofs.«01_k».proof.Proof.Packing
public import proofs.«01_k».proof.Proof.Layer
public import proofs.«01_k».proof.Proof.Gen.SmallIdeal.Frame
public import proofs.«01_k».proof.Proof.Gen.SmallRefIdeal.Run

@[expose] public section

set_option maxRecDepth 16384

noncomputable section

open Idealize.ShloMosaic Idealize.ShloMosaic.TcCoe Idealize.SL.Sem Idealize.ShloMosaic.StableHlo

namespace Cert.SmallStep
open Cert.SmallIdeal Cert.SmallIdeal.Gen Cert.Packing

/-- The small weights of one chip, or their gradients or moments. -/
structure Weights where
  aNorm : FVec Ideal S2x512 .f32
  aVNorm : FVec Ideal S2x512 .f32
  fConvW : FVec Ideal S4x3x2816 .f32
  aWS : FVec Ideal S2x16x128x128 .f32
  aBS : FVec Ideal S2x16x128 .f32
  kvNorm : FVec Ideal S2048 .f32
  bF : FVec Ideal S16 .f32
  kNorm : FVec Ideal S128 .f32
  bNorm : FVec Ideal S2x2048 .f32
  qNorm : FVec Ideal S2x128 .f32
  fNorm : FVec Ideal S4x2048 .f32
  fConvB : FVec Ideal S4x11264 .f32
  finalNorm : FVec Ideal S2048 .f32

/-- The weights laid flat, in their order. -/
abbrev pieces (w : Weights) : List ((s : Shape) × (s.Idx → Ideal .f32)) :=
  [⟨S1024, shapeCast S1024 w.aNorm shapeCasts_S2x512_S1024⟩, ⟨S1024, shapeCast S1024 w.aVNorm shapeCasts_S2x512_S1024⟩,
   ⟨S33792, shapeCast S33792 w.fConvW shapeCasts_S4x3x2816_S33792⟩, ⟨S524288, shapeCast S524288 w.aWS shapeCasts_S2x16x128x128_S524288⟩,
   ⟨S4096, shapeCast S4096 w.aBS shapeCasts_S2x16x128_S4096⟩, ⟨S2048, w.kvNorm⟩, ⟨S16, w.bF⟩, ⟨S128, w.kNorm⟩,
   ⟨S4096, shapeCast S4096 w.bNorm shapeCasts_S2x2048_S4096⟩, ⟨S256, shapeCast S256 w.qNorm shapeCasts_S2x128_S256⟩,
   ⟨S8192, shapeCast S8192 w.fNorm shapeCasts_S4x2048_S8192⟩, ⟨S45056, shapeCast S45056 w.fConvB shapeCasts_S4x11264_S45056⟩, ⟨S2048, w.finalNorm⟩]

/-- The one array of all of them. -/
def pack (w : Weights) : FVec Ideal S4896x128 .f32 :=
  shapeCast S4896x128 (pad S626688 ![0] ![624] ![0] (concatenate S626064 0 (pieces w)
    concatenates_S1024_S1024_S33792_S524288_S4096_S2048_S16_S128_S4096_S256_S8192_S45056_S2048_S626064_d0)
    (sitofp .f32 (constantI S_ 32 0#32)) pads_S626064_S626688_06240 h_S_) shapeCasts_S626688_S4896x128

/-- Each weight cut out of the one array. -/
def unpack (x : FVec Ideal S4896x128 .f32) : Weights :=
  ⟨part (s := S2x512) 1024 0 shapeCasts_S4896x128_S626688 slices_S626688_S1024_0 shapeCasts_S1024_S2x512 x,
   part (s := S2x512) 1024 1024 shapeCasts_S4896x128_S626688 slices_S626688_S1024_1024 shapeCasts_S1024_S2x512 x,
   part (s := S4x3x2816) 33792 2048 shapeCasts_S4896x128_S626688 slices_S626688_S33792_2048 shapeCasts_S33792_S4x3x2816 x,
   part (s := S2x16x128x128) 524288 35840 shapeCasts_S4896x128_S626688 slices_S626688_S524288_35840 shapeCasts_S524288_S2x16x128x128 x,
   part (s := S2x16x128) 4096 560128 shapeCasts_S4896x128_S626688 slices_S626688_S4096_560128 shapeCasts_S4096_S2x16x128 x,
   part (s := S2048) 2048 564224 shapeCasts_S4896x128_S626688 slices_S626688_S2048_564224 rfl x,
   part (s := S16) 16 566272 shapeCasts_S4896x128_S626688 slices_S626688_S16_566272 rfl x,
   part (s := S128) 128 566288 shapeCasts_S4896x128_S626688 slices_S626688_S128_566288 rfl x,
   part (s := S2x2048) 4096 566416 shapeCasts_S4896x128_S626688 slices_S626688_S4096_566416 shapeCasts_S4096_S2x2048 x,
   part (s := S2x128) 256 570512 shapeCasts_S4896x128_S626688 slices_S626688_S256_570512 shapeCasts_S256_S2x128 x,
   part (s := S4x2048) 8192 570768 shapeCasts_S4896x128_S626688 slices_S626688_S8192_570768 shapeCasts_S8192_S4x2048 x,
   part (s := S4x11264) 45056 578960 shapeCasts_S4896x128_S626688 slices_S626688_S45056_578960 shapeCasts_S45056_S4x11264 x,
   part (s := S2048) 2048 624016 shapeCasts_S4896x128_S626688 slices_S626688_S2048_624016 rfl x⟩

/-- A function of the four entries at one place, of every weight. -/
def map4 (f : Ideal .f32 → Ideal .f32 → Ideal .f32 → Ideal .f32 → Ideal .f32) (w g m v : Weights) : Weights :=
  ⟨fun i => f (w.aNorm i) (g.aNorm i) (m.aNorm i) (v.aNorm i),
   fun i => f (w.aVNorm i) (g.aVNorm i) (m.aVNorm i) (v.aVNorm i),
   fun i => f (w.fConvW i) (g.fConvW i) (m.fConvW i) (v.fConvW i),
   fun i => f (w.aWS i) (g.aWS i) (m.aWS i) (v.aWS i),
   fun i => f (w.aBS i) (g.aBS i) (m.aBS i) (v.aBS i),
   fun i => f (w.kvNorm i) (g.kvNorm i) (m.kvNorm i) (v.kvNorm i),
   fun i => f (w.bF i) (g.bF i) (m.bF i) (v.bF i),
   fun i => f (w.kNorm i) (g.kNorm i) (m.kNorm i) (v.kNorm i),
   fun i => f (w.bNorm i) (g.bNorm i) (m.bNorm i) (v.bNorm i),
   fun i => f (w.qNorm i) (g.qNorm i) (m.qNorm i) (v.qNorm i),
   fun i => f (w.fNorm i) (g.fNorm i) (m.fNorm i) (v.fNorm i),
   fun i => f (w.fConvB i) (g.fConvB i) (m.fConvB i) (v.fConvB i),
   fun i => f (w.finalNorm i) (g.finalNorm i) (m.finalNorm i) (v.finalNorm i)⟩

/-- What is cut out of the array of all is what was laid into it. -/
theorem unpack_pack (w : Weights) : unpack (pack w) = w := by
  obtain ⟨h0, h1, h2, h3, h4, h5, h6, h7, h8, h9, h10, h11, h12⟩ : part (s := S2x512) 1024 0 shapeCasts_S4896x128_S626688 slices_S626688_S1024_0 shapeCasts_S1024_S2x512 (pack w) = w.aNorm ∧
    part (s := S2x512) 1024 1024 shapeCasts_S4896x128_S626688 slices_S626688_S1024_1024 shapeCasts_S1024_S2x512 (pack w) = w.aVNorm ∧
    part (s := S4x3x2816) 33792 2048 shapeCasts_S4896x128_S626688 slices_S626688_S33792_2048 shapeCasts_S33792_S4x3x2816 (pack w) = w.fConvW ∧
    part (s := S2x16x128x128) 524288 35840 shapeCasts_S4896x128_S626688 slices_S626688_S524288_35840 shapeCasts_S524288_S2x16x128x128 (pack w) = w.aWS ∧
    part (s := S2x16x128) 4096 560128 shapeCasts_S4896x128_S626688 slices_S626688_S4096_560128 shapeCasts_S4096_S2x16x128 (pack w) = w.aBS ∧
    part (s := S2048) 2048 564224 shapeCasts_S4896x128_S626688 slices_S626688_S2048_564224 rfl (pack w) = w.kvNorm ∧
    part (s := S16) 16 566272 shapeCasts_S4896x128_S626688 slices_S626688_S16_566272 rfl (pack w) = w.bF ∧
    part (s := S128) 128 566288 shapeCasts_S4896x128_S626688 slices_S626688_S128_566288 rfl (pack w) = w.kNorm ∧
    part (s := S2x2048) 4096 566416 shapeCasts_S4896x128_S626688 slices_S626688_S4096_566416 shapeCasts_S4096_S2x2048 (pack w) = w.bNorm ∧
    part (s := S2x128) 256 570512 shapeCasts_S4896x128_S626688 slices_S626688_S256_570512 shapeCasts_S256_S2x128 (pack w) = w.qNorm ∧
    part (s := S4x2048) 8192 570768 shapeCasts_S4896x128_S626688 slices_S626688_S8192_570768 shapeCasts_S8192_S4x2048 (pack w) = w.fNorm ∧
    part (s := S4x11264) 45056 578960 shapeCasts_S4896x128_S626688 slices_S626688_S45056_578960 shapeCasts_S45056_S4x11264 (pack w) = w.fConvB ∧
    part (s := S2048) 2048 624016 shapeCasts_S4896x128_S626688 slices_S626688_S2048_624016 rfl (pack w) = w.finalNorm := by
    refine ⟨?_, ?_, ?_, ?_, ?_, ?_, ?_, ?_, ?_, ?_, ?_, ?_, ?_⟩
    · exact part_piece (n := 1024) (N := 626064) (off := 0) (pieces w) _ 0 (by show 0 < 13; omega) _ _ rfl (by simp [pieces]) (by omega) _ _ _ _ _ _ _ (shapeCast_shapeCast _ _ _)
    · exact part_piece (n := 1024) (N := 626064) (off := 1024) (pieces w) _ 1 (by show 1 < 13; omega) _ _ rfl (by simp [pieces]) (by omega) _ _ _ _ _ _ _ (shapeCast_shapeCast _ _ _)
    · exact part_piece (n := 33792) (N := 626064) (off := 2048) (pieces w) _ 2 (by show 2 < 13; omega) _ _ rfl (by simp [pieces]) (by omega) _ _ _ _ _ _ _ (shapeCast_shapeCast _ _ _)
    · exact part_piece (n := 524288) (N := 626064) (off := 35840) (pieces w) _ 3 (by show 3 < 13; omega) _ _ rfl (by simp [pieces]) (by omega) _ _ _ _ _ _ _ (shapeCast_shapeCast _ _ _)
    · exact part_piece (n := 4096) (N := 626064) (off := 560128) (pieces w) _ 4 (by show 4 < 13; omega) _ _ rfl (by simp [pieces]) (by omega) _ _ _ _ _ _ _ (shapeCast_shapeCast _ _ _)
    · exact part_piece (n := 2048) (N := 626064) (off := 564224) (pieces w) _ 5 (by show 5 < 13; omega) _ _ rfl (by simp [pieces]) (by omega) _ _ _ _ _ _ _ (shapeCast_self _ _)
    · exact part_piece (n := 16) (N := 626064) (off := 566272) (pieces w) _ 6 (by show 6 < 13; omega) _ _ rfl (by simp [pieces]) (by omega) _ _ _ _ _ _ _ (shapeCast_self _ _)
    · exact part_piece (n := 128) (N := 626064) (off := 566288) (pieces w) _ 7 (by show 7 < 13; omega) _ _ rfl (by simp [pieces]) (by omega) _ _ _ _ _ _ _ (shapeCast_self _ _)
    · exact part_piece (n := 4096) (N := 626064) (off := 566416) (pieces w) _ 8 (by show 8 < 13; omega) _ _ rfl (by simp [pieces]) (by omega) _ _ _ _ _ _ _ (shapeCast_shapeCast _ _ _)
    · exact part_piece (n := 256) (N := 626064) (off := 570512) (pieces w) _ 9 (by show 9 < 13; omega) _ _ rfl (by simp [pieces]) (by omega) _ _ _ _ _ _ _ (shapeCast_shapeCast _ _ _)
    · exact part_piece (n := 8192) (N := 626064) (off := 570768) (pieces w) _ 10 (by show 10 < 13; omega) _ _ rfl (by simp [pieces]) (by omega) _ _ _ _ _ _ _ (shapeCast_shapeCast _ _ _)
    · exact part_piece (n := 45056) (N := 626064) (off := 578960) (pieces w) _ 11 (by show 11 < 13; omega) _ _ rfl (by simp [pieces]) (by omega) _ _ _ _ _ _ _ (shapeCast_shapeCast _ _ _)
    · exact part_piece (n := 2048) (N := 626064) (off := 624016) (pieces w) _ 12 (by show 12 < 13; omega) _ _ rfl (by simp [pieces]) (by omega) _ _ _ _ _ _ _ (shapeCast_self _ _)
  unfold unpack
  rw [h0, h1, h2, h3, h4, h5, h6, h7, h8, h9, h10, h11, h12]

/-- The same function of four arrays of all. -/
def whole (f : Ideal .f32 → Ideal .f32 → Ideal .f32 → Ideal .f32 → Ideal .f32) (A B C D : FVec Ideal S4896x128 .f32) : FVec Ideal S4896x128 .f32 := fun i =>
  f (A i) (B i) (C i) (D i)

theorem unpack_whole (f : Ideal .f32 → Ideal .f32 → Ideal .f32 → Ideal .f32 → Ideal .f32) (A B C D : FVec Ideal S4896x128 .f32) :
    unpack (whole f A B C D) = map4 f (unpack A) (unpack B) (unpack C) (unpack D) := rfl

/-- Equal weights are equal one by one; `k` is what is claimed besides. -/
theorem Weights.all {w : Weights} {x0 x1 x2 x3 x4 x5 x6 x7 x8 x9 x10 x11 x12} (h : Weights.mk x0 x1 x2 x3 x4 x5 x6 x7 x8 x9 x10 x11 x12 = w) {K : Prop} (k : K) :
    x0 = w.aNorm ∧ x1 = w.aVNorm ∧ x2 = w.fConvW ∧ x3 = w.aWS ∧ x4 = w.aBS ∧ x5 = w.kvNorm ∧ x6 = w.bF ∧ x7 = w.kNorm ∧ x8 = w.bNorm ∧ x9 = w.qNorm ∧ x10 = w.fNorm ∧ x11 = w.fConvB ∧ x12 = w.finalNorm ∧ K := by
  subst h
  exact ⟨rfl, rfl, rfl, rfl, rfl, rfl, rfl, rfl, rfl, rfl, rfl, rfl, rfl, k⟩

theorem hz : (![0, 0] : Fin 2 → Nat) = fun _ => 0 := funext fun a => by fin_cases a <;> rfl

theorem index4 : ∀ t : Fin cfg0.N, win0_4.index t = ![t.val, 0] := (by decide +kernel : ∀ t : Fin grid0.N, _)

/-- Every entry lies in one of the two blocks of rows. -/
theorem covered (i : S4896x128.Idx) : ∃ t : Fin cfg0.N, i ∈ (win0_4.rect t).set := by
  have h0 : (i 0).val < 4896 := (i 0).isLt
  have h1 : (i 1).val < 128 := (i 1).isLt
  refine ⟨⟨(i 0).val / 2448, by show _ < 2; omega⟩, ?_⟩
  rw [Rect.mem_set_unit]
  intro a
  show win0_4.index _ a * S2448x128.size a ≤ (i a).val ∧ (i a).val < win0_4.index _ a * S2448x128.size a + S2448x128.size a
  rw [index4]
  match a with
  | ⟨0, _⟩ => show (i 0).val / 2448 * 2448 ≤ (i 0).val ∧ (i 0).val < (i 0).val / 2448 * 2448 + 2448; omega
  | ⟨1, _⟩ => show 0 * 128 ≤ (i 1).val ∧ (i 1).val < 0 * 128 + 128; omega

/-- What the body writes of a block, entry by entry. -/
theorem out4 (x0 x1 x2 x3 : FVec Ideal S2448x128 .f32) : (out0_4 (F := Ideal) x0 x1 x2 x3 : FVec Ideal S2448x128 .f32) = fun j => Layer.delta1 (x0 j) (x1 j) (x2 j) (x3 j) := by
  unfold out0_4
  rw [View.canon_unit_zero hz]
  simp only [View.ld_unit_zero (S := S2448x128) hz]
  simp only [k0_pay4, k0_pay3, k0_pay2, k0_pay1, shapeCast_self]
  rfl
theorem out5 (x0 x1 x2 x3 : FVec Ideal S2448x128 .f32) : (out0_5 (F := Ideal) x0 x1 x2 x3 : FVec Ideal S2448x128 .f32) = fun j => Layer.first1 (x1 j) (x2 j) := by
  unfold out0_5
  rw [View.canon_unit_zero hz]
  simp only [View.ld_unit_zero (S := S2448x128) hz]
  simp only [k0_pay2, k0_pay1, shapeCast_self]
  rfl
theorem out6 (x0 x1 x2 x3 : FVec Ideal S2448x128 .f32) : (out0_6 (F := Ideal) x0 x1 x2 x3 : FVec Ideal S2448x128 .f32) = fun j => Layer.second1 (x1 j) (x3 j) := by
  unfold out0_6
  rw [View.canon_unit_zero hz]
  simp only [View.ld_unit_zero (S := S2448x128) hz]
  simp only [k0_pay3, k0_pay2, k0_pay1, shapeCast_self]
  rfl

variable (m : (ℓ : Loc nD τ sig) → Buf (Elt Ideal) ℓ) (c : Dev nD)

/-- The weights at launch. -/
def weights : Weights :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12)⟩
/-- Their gradients. -/
def grads : Weights :=
  ⟨m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25)⟩
/-- Their first moments. -/
def firsts : Weights :=
  ⟨m ((c.tc : Thread nD τ).loc main_arg26), m ((c.tc : Thread nD τ).loc main_arg27), m ((c.tc : Thread nD τ).loc main_arg28), m ((c.tc : Thread nD τ).loc main_arg29), m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35), m ((c.tc : Thread nD τ).loc main_arg36), m ((c.tc : Thread nD τ).loc main_arg37), m ((c.tc : Thread nD τ).loc main_arg38)⟩
/-- Their second moments. -/
def seconds : Weights :=
  ⟨m ((c.tc : Thread nD τ).loc main_arg39), m ((c.tc : Thread nD τ).loc main_arg40), m ((c.tc : Thread nD τ).loc main_arg41), m ((c.tc : Thread nD τ).loc main_arg42), m ((c.tc : Thread nD τ).loc main_arg43), m ((c.tc : Thread nD τ).loc main_arg44), m ((c.tc : Thread nD τ).loc main_arg45), m ((c.tc : Thread nD τ).loc main_arg46), m ((c.tc : Thread nD τ).loc main_arg47), m ((c.tc : Thread nD τ).loc main_arg48), m ((c.tc : Thread nD τ).loc main_arg49), m ((c.tc : Thread nD τ).loc main_arg50), m ((c.tc : Thread nD τ).loc main_arg51)⟩

/-- What the optimiser makes of each weight. -/
def changes (f : Ideal .f32 → Ideal .f32 → Ideal .f32 → Ideal .f32 → Ideal .f32) : Weights :=
  map4 f (weights m c) (grads m c) (firsts m c) (seconds m c)

/-- The four arrays that the call reads are the packed ones. -/
theorem V_packed : (V m c main_v11 : FVec Ideal S4896x128 .f32) = pack (weights m c) ∧
    (V m c main_v23 : FVec Ideal S4896x128 .f32) = pack (grads m c) ∧
    (V m c main_v35 : FVec Ideal S4896x128 .f32) = pack (firsts m c) ∧
    (V m c main_v47 : FVec Ideal S4896x128 .f32) = pack (seconds m c) := by
  have hV (b : Ref sig .tc) : V m c b = StableHlo.after (List.flatten [hostOps0, hostOps0_1, hostOps0_2, hostOps0_3, hostOps0_4, hostOps0_5, hostOps0_6, hostOps0_7, hostOps0_8]) (fun b => m (c, b)) (Proc.devRef .tc b) := rfl
  refine ⟨?_, ?_, ?_, ?_⟩ <;> (
    rw [hV]
    simp only [List.flatten_cons, List.flatten_nil, List.append_nil, List.cons_append, List.nil_append, hostOps0, hostOps0_1, hostOps0_2, hostOps0_3, hostOps0_4, hostOps0_5, hostOps0_6, hostOps0_7, hostOps0_8,
      StableHlo.TRef.unary, StableHlo.TRef.binary, StableHlo.TRef.toBuf, StableHlo.TRef.ofBuf, cast_eq]
    after_results_simp
    simp only [↓readPieces, ↓readResult]
    rfl)

theorem final4 : ((dats m 0 c).arrAt 4 cfg0.N : FVec Ideal S4896x128 .f32) = whole (Layer.delta1) (V m c main_v11) (V m c main_v23) (V m c main_v35) (V m c main_v47) := by
  refine (dats m 0 c).arrAt_eq_of_cover 4 _ (fun t _ => ?_) (fun i => ?_)
  · show (cfg0.win 4).cut (grid0.coords t) ((dats m 0 c).after 4 t) = _
    rw [after0_4, out4]
    unfold iblk
    generalize V m c = X
    funext j
    rfl
  · obtain ⟨t, ht⟩ := covered i
    exact ⟨t, flush0_4 t, by
      show i ∈ ((View.whole main_v48_0).slice (win0_4.rect t)).set
      rw [View.set_slice_whole]; exact ht⟩
theorem final5 : ((dats m 0 c).arrAt 5 cfg0.N : FVec Ideal S4896x128 .f32) = whole (fun _ g m _ => Layer.first1 g m) (V m c main_v11) (V m c main_v23) (V m c main_v35) (V m c main_v47) := by
  refine (dats m 0 c).arrAt_eq_of_cover 5 _ (fun t _ => ?_) (fun i => ?_)
  · show (cfg0.win 5).cut (grid0.coords t) ((dats m 0 c).after 5 t) = _
    rw [after0_5, out5]
    unfold iblk
    generalize V m c = X
    funext j
    rfl
  · obtain ⟨t, ht⟩ := covered i
    exact ⟨t, flush0_5 t, by
      show i ∈ ((View.whole main_v48_1).slice (win0_5.rect t)).set
      rw [View.set_slice_whole]; exact ht⟩
theorem final6 : ((dats m 0 c).arrAt 6 cfg0.N : FVec Ideal S4896x128 .f32) = whole (fun _ g _ v => Layer.second1 g v) (V m c main_v11) (V m c main_v23) (V m c main_v35) (V m c main_v47) := by
  refine (dats m 0 c).arrAt_eq_of_cover 6 _ (fun t _ => ?_) (fun i => ?_)
  · show (cfg0.win 6).cut (grid0.coords t) ((dats m 0 c).after 6 t) = _
    rw [after0_6, out6]
    unfold iblk
    generalize V m c = X
    funext j
    rfl
  · obtain ⟨t, ht⟩ := covered i
    exact ⟨t, flush0_6 t, by
      show i ∈ ((View.whole main_v48_2).slice (win0_6.rect t)).set
      rw [View.set_slice_whole]; exact ht⟩

/-- Each entry of the array of all of them after the call, cut into weights. -/
theorem unpack_final (f : Ideal .f32 → Ideal .f32 → Ideal .f32 → Ideal .f32 → Ideal .f32) :
    unpack (whole f (V m c main_v11) (V m c main_v23) (V m c main_v35) (V m c main_v47)) = changes m c f := by
  obtain ⟨h0, h1, h2, h3⟩ := V_packed m c
  rw [unpack_whole, h0, h1, h2, h3, unpack_pack, unpack_pack, unpack_pack, unpack_pack, changes]

/-- The results are the pieces of the three arrays that the call writes. -/
theorem tails (W : Valuation τ sig (Elt Ideal)) :
    Weights.mk (StableHlo.after hostOps1 W (Proc.devRef .tc main_v51)) (StableHlo.after hostOps1 W (Proc.devRef .tc main_v53)) (StableHlo.after hostOps1 W (Proc.devRef .tc main_v55)) (StableHlo.after hostOps1 W (Proc.devRef .tc main_v57)) (StableHlo.after hostOps1 W (Proc.devRef .tc main_v59)) (StableHlo.after hostOps1 W (Proc.devRef .tc main_v60)) (StableHlo.after hostOps1 W (Proc.devRef .tc main_v61)) (StableHlo.after hostOps1 W (Proc.devRef .tc main_v62)) (StableHlo.after hostOps1 W (Proc.devRef .tc main_v64)) (StableHlo.after hostOps1 W (Proc.devRef .tc main_v66)) (StableHlo.after hostOps1 W (Proc.devRef .tc main_v68)) (StableHlo.after hostOps1 W (Proc.devRef .tc main_v70)) (StableHlo.after hostOps1 W (Proc.devRef .tc main_v71))
      = unpack (W (Proc.devRef .tc main_v48_0)) ∧
    Weights.mk (StableHlo.after hostOps1 W (Proc.devRef .tc main_v74)) (StableHlo.after hostOps1 W (Proc.devRef .tc main_v76)) (StableHlo.after hostOps1 W (Proc.devRef .tc main_v78)) (StableHlo.after hostOps1 W (Proc.devRef .tc main_v80)) (StableHlo.after hostOps1 W (Proc.devRef .tc main_v82)) (StableHlo.after hostOps1 W (Proc.devRef .tc main_v83)) (StableHlo.after hostOps1 W (Proc.devRef .tc main_v84)) (StableHlo.after hostOps1 W (Proc.devRef .tc main_v85)) (StableHlo.after hostOps1 W (Proc.devRef .tc main_v87)) (StableHlo.after hostOps1 W (Proc.devRef .tc main_v89)) (StableHlo.after hostOps1 W (Proc.devRef .tc main_v91)) (StableHlo.after hostOps1 W (Proc.devRef .tc main_v93)) (StableHlo.after hostOps1 W (Proc.devRef .tc main_v94))
      = unpack (W (Proc.devRef .tc main_v48_1)) ∧
    Weights.mk (StableHlo.after hostOps1 W (Proc.devRef .tc main_v97)) (StableHlo.after hostOps1 W (Proc.devRef .tc main_v99)) (StableHlo.after hostOps1 W (Proc.devRef .tc main_v101)) (StableHlo.after hostOps1 W (Proc.devRef .tc main_v103)) (StableHlo.after hostOps1 W (Proc.devRef .tc main_v105)) (StableHlo.after hostOps1 W (Proc.devRef .tc main_v106)) (StableHlo.after hostOps1 W (Proc.devRef .tc main_v107)) (StableHlo.after hostOps1 W (Proc.devRef .tc main_v108)) (StableHlo.after hostOps1 W (Proc.devRef .tc main_v110)) (StableHlo.after hostOps1 W (Proc.devRef .tc main_v112)) (StableHlo.after hostOps1 W (Proc.devRef .tc main_v114)) (StableHlo.after hostOps1 W (Proc.devRef .tc main_v116)) (StableHlo.after hostOps1 W (Proc.devRef .tc main_v117))
      = unpack (W (Proc.devRef .tc main_v48_2)) := by
  refine ⟨?_, ?_, ?_⟩ <;> (
    unfold unpack part
    simp only [shapeCast_self]
    rw [Weights.mk.injEq]
    refine ⟨?_, ?_, ?_, ?_, ?_, ?_, ?_, ?_, ?_, ?_, ?_, ?_, ?_⟩ <;> (simp only [hostOps1]; after_results_simp; rfl))

/-- What the buffers hold after the call, before the results are cut out. -/
abbrev past : Valuation τ sig (Elt Ideal) :=
  Pipeline.withArrays (cfgs 0).spec c (V0 m c) (fun w => (dats m 0 c).arrAt w (cfgs 0).N)

theorem arrays_inj : Function.Injective (Pipeline.arrRef (cfgs 0).spec) := by decide

theorem tail_eq (b : Ref sig .tc) : Pipeline.afterTail₀ cfgs (dats m) 0 (V0 m) [hostOps1] c b = StableHlo.after hostOps1 (past m c) (Proc.devRef .tc b) := by
  unfold Pipeline.afterTail₀
  simp only [List.flatten_cons, List.flatten_nil, List.append_nil]

/-- The results of the program: the steps, the first moments and the second. -/
theorem results :
    Weights.mk (StableHlo.after hostOps1 (past m c) (Proc.devRef .tc main_v51)) (StableHlo.after hostOps1 (past m c) (Proc.devRef .tc main_v53)) (StableHlo.after hostOps1 (past m c) (Proc.devRef .tc main_v55)) (StableHlo.after hostOps1 (past m c) (Proc.devRef .tc main_v57)) (StableHlo.after hostOps1 (past m c) (Proc.devRef .tc main_v59)) (StableHlo.after hostOps1 (past m c) (Proc.devRef .tc main_v60)) (StableHlo.after hostOps1 (past m c) (Proc.devRef .tc main_v61)) (StableHlo.after hostOps1 (past m c) (Proc.devRef .tc main_v62)) (StableHlo.after hostOps1 (past m c) (Proc.devRef .tc main_v64)) (StableHlo.after hostOps1 (past m c) (Proc.devRef .tc main_v66)) (StableHlo.after hostOps1 (past m c) (Proc.devRef .tc main_v68)) (StableHlo.after hostOps1 (past m c) (Proc.devRef .tc main_v70)) (StableHlo.after hostOps1 (past m c) (Proc.devRef .tc main_v71))
      = changes m c (Layer.delta1) ∧
    Weights.mk (StableHlo.after hostOps1 (past m c) (Proc.devRef .tc main_v74)) (StableHlo.after hostOps1 (past m c) (Proc.devRef .tc main_v76)) (StableHlo.after hostOps1 (past m c) (Proc.devRef .tc main_v78)) (StableHlo.after hostOps1 (past m c) (Proc.devRef .tc main_v80)) (StableHlo.after hostOps1 (past m c) (Proc.devRef .tc main_v82)) (StableHlo.after hostOps1 (past m c) (Proc.devRef .tc main_v83)) (StableHlo.after hostOps1 (past m c) (Proc.devRef .tc main_v84)) (StableHlo.after hostOps1 (past m c) (Proc.devRef .tc main_v85)) (StableHlo.after hostOps1 (past m c) (Proc.devRef .tc main_v87)) (StableHlo.after hostOps1 (past m c) (Proc.devRef .tc main_v89)) (StableHlo.after hostOps1 (past m c) (Proc.devRef .tc main_v91)) (StableHlo.after hostOps1 (past m c) (Proc.devRef .tc main_v93)) (StableHlo.after hostOps1 (past m c) (Proc.devRef .tc main_v94))
      = changes m c (fun _ g m _ => Layer.first1 g m) ∧
    Weights.mk (StableHlo.after hostOps1 (past m c) (Proc.devRef .tc main_v97)) (StableHlo.after hostOps1 (past m c) (Proc.devRef .tc main_v99)) (StableHlo.after hostOps1 (past m c) (Proc.devRef .tc main_v101)) (StableHlo.after hostOps1 (past m c) (Proc.devRef .tc main_v103)) (StableHlo.after hostOps1 (past m c) (Proc.devRef .tc main_v105)) (StableHlo.after hostOps1 (past m c) (Proc.devRef .tc main_v106)) (StableHlo.after hostOps1 (past m c) (Proc.devRef .tc main_v107)) (StableHlo.after hostOps1 (past m c) (Proc.devRef .tc main_v108)) (StableHlo.after hostOps1 (past m c) (Proc.devRef .tc main_v110)) (StableHlo.after hostOps1 (past m c) (Proc.devRef .tc main_v112)) (StableHlo.after hostOps1 (past m c) (Proc.devRef .tc main_v114)) (StableHlo.after hostOps1 (past m c) (Proc.devRef .tc main_v116)) (StableHlo.after hostOps1 (past m c) (Proc.devRef .tc main_v117))
      = changes m c (fun _ g _ v => Layer.second1 g v) := by
  obtain ⟨t0, t1, t2⟩ := tails (past m c)
  have a0 : past m c (Proc.devRef .tc main_v48_0) = (dats m 0 c).arrAt 4 cfg0.N := Pipeline.withArrays_arr _ arrays_inj c _ _ 4
  have a1 : past m c (Proc.devRef .tc main_v48_1) = (dats m 0 c).arrAt 5 cfg0.N := Pipeline.withArrays_arr _ arrays_inj c _ _ 5
  have a2 : past m c (Proc.devRef .tc main_v48_2) = (dats m 0 c).arrAt 6 cfg0.N := Pipeline.withArrays_arr _ arrays_inj c _ _ 6
  refine ⟨t0.trans ?_, t1.trans ?_, t2.trans ?_⟩
  · rw [a0, final4, unpack_final]
  · rw [a1, final5, unpack_final]
  · rw [a2, final6, unpack_final]

/-- The same of the reference's arguments. -/
def refChanges (m : (ℓ : Loc Cert.SmallRefIdeal.nD Cert.SmallRefIdeal.τ Cert.SmallRefIdeal.sig) → Buf (Elt Ideal) ℓ) (c : Dev nD)
    (f : Ideal .f32 → Ideal .f32 → Ideal .f32 → Ideal .f32 → Ideal .f32) : Weights :=
  map4 f ⟨m ((c.tc : Thread Cert.SmallRefIdeal.nD Cert.SmallRefIdeal.τ).loc Cert.SmallRefIdeal.main_arg0), m ((c.tc : Thread Cert.SmallRefIdeal.nD Cert.SmallRefIdeal.τ).loc Cert.SmallRefIdeal.main_arg1), m ((c.tc : Thread Cert.SmallRefIdeal.nD Cert.SmallRefIdeal.τ).loc Cert.SmallRefIdeal.main_arg2), m ((c.tc : Thread Cert.SmallRefIdeal.nD Cert.SmallRefIdeal.τ).loc Cert.SmallRefIdeal.main_arg3), m ((c.tc : Thread Cert.SmallRefIdeal.nD Cert.SmallRefIdeal.τ).loc Cert.SmallRefIdeal.main_arg4), m ((c.tc : Thread Cert.SmallRefIdeal.nD Cert.SmallRefIdeal.τ).loc Cert.SmallRefIdeal.main_arg5), m ((c.tc : Thread Cert.SmallRefIdeal.nD Cert.SmallRefIdeal.τ).loc Cert.SmallRefIdeal.main_arg6), m ((c.tc : Thread Cert.SmallRefIdeal.nD Cert.SmallRefIdeal.τ).loc Cert.SmallRefIdeal.main_arg7), m ((c.tc : Thread Cert.SmallRefIdeal.nD Cert.SmallRefIdeal.τ).loc Cert.SmallRefIdeal.main_arg8), m ((c.tc : Thread Cert.SmallRefIdeal.nD Cert.SmallRefIdeal.τ).loc Cert.SmallRefIdeal.main_arg9), m ((c.tc : Thread Cert.SmallRefIdeal.nD Cert.SmallRefIdeal.τ).loc Cert.SmallRefIdeal.main_arg10), m ((c.tc : Thread Cert.SmallRefIdeal.nD Cert.SmallRefIdeal.τ).loc Cert.SmallRefIdeal.main_arg11), m ((c.tc : Thread Cert.SmallRefIdeal.nD Cert.SmallRefIdeal.τ).loc Cert.SmallRefIdeal.main_arg12)⟩
    ⟨m ((c.tc : Thread Cert.SmallRefIdeal.nD Cert.SmallRefIdeal.τ).loc Cert.SmallRefIdeal.main_arg13), m ((c.tc : Thread Cert.SmallRefIdeal.nD Cert.SmallRefIdeal.τ).loc Cert.SmallRefIdeal.main_arg14), m ((c.tc : Thread Cert.SmallRefIdeal.nD Cert.SmallRefIdeal.τ).loc Cert.SmallRefIdeal.main_arg15), m ((c.tc : Thread Cert.SmallRefIdeal.nD Cert.SmallRefIdeal.τ).loc Cert.SmallRefIdeal.main_arg16), m ((c.tc : Thread Cert.SmallRefIdeal.nD Cert.SmallRefIdeal.τ).loc Cert.SmallRefIdeal.main_arg17), m ((c.tc : Thread Cert.SmallRefIdeal.nD Cert.SmallRefIdeal.τ).loc Cert.SmallRefIdeal.main_arg18), m ((c.tc : Thread Cert.SmallRefIdeal.nD Cert.SmallRefIdeal.τ).loc Cert.SmallRefIdeal.main_arg19), m ((c.tc : Thread Cert.SmallRefIdeal.nD Cert.SmallRefIdeal.τ).loc Cert.SmallRefIdeal.main_arg20), m ((c.tc : Thread Cert.SmallRefIdeal.nD Cert.SmallRefIdeal.τ).loc Cert.SmallRefIdeal.main_arg21), m ((c.tc : Thread Cert.SmallRefIdeal.nD Cert.SmallRefIdeal.τ).loc Cert.SmallRefIdeal.main_arg22), m ((c.tc : Thread Cert.SmallRefIdeal.nD Cert.SmallRefIdeal.τ).loc Cert.SmallRefIdeal.main_arg23), m ((c.tc : Thread Cert.SmallRefIdeal.nD Cert.SmallRefIdeal.τ).loc Cert.SmallRefIdeal.main_arg24), m ((c.tc : Thread Cert.SmallRefIdeal.nD Cert.SmallRefIdeal.τ).loc Cert.SmallRefIdeal.main_arg25)⟩
    ⟨m ((c.tc : Thread Cert.SmallRefIdeal.nD Cert.SmallRefIdeal.τ).loc Cert.SmallRefIdeal.main_arg26), m ((c.tc : Thread Cert.SmallRefIdeal.nD Cert.SmallRefIdeal.τ).loc Cert.SmallRefIdeal.main_arg27), m ((c.tc : Thread Cert.SmallRefIdeal.nD Cert.SmallRefIdeal.τ).loc Cert.SmallRefIdeal.main_arg28), m ((c.tc : Thread Cert.SmallRefIdeal.nD Cert.SmallRefIdeal.τ).loc Cert.SmallRefIdeal.main_arg29), m ((c.tc : Thread Cert.SmallRefIdeal.nD Cert.SmallRefIdeal.τ).loc Cert.SmallRefIdeal.main_arg30), m ((c.tc : Thread Cert.SmallRefIdeal.nD Cert.SmallRefIdeal.τ).loc Cert.SmallRefIdeal.main_arg31), m ((c.tc : Thread Cert.SmallRefIdeal.nD Cert.SmallRefIdeal.τ).loc Cert.SmallRefIdeal.main_arg32), m ((c.tc : Thread Cert.SmallRefIdeal.nD Cert.SmallRefIdeal.τ).loc Cert.SmallRefIdeal.main_arg33), m ((c.tc : Thread Cert.SmallRefIdeal.nD Cert.SmallRefIdeal.τ).loc Cert.SmallRefIdeal.main_arg34), m ((c.tc : Thread Cert.SmallRefIdeal.nD Cert.SmallRefIdeal.τ).loc Cert.SmallRefIdeal.main_arg35), m ((c.tc : Thread Cert.SmallRefIdeal.nD Cert.SmallRefIdeal.τ).loc Cert.SmallRefIdeal.main_arg36), m ((c.tc : Thread Cert.SmallRefIdeal.nD Cert.SmallRefIdeal.τ).loc Cert.SmallRefIdeal.main_arg37), m ((c.tc : Thread Cert.SmallRefIdeal.nD Cert.SmallRefIdeal.τ).loc Cert.SmallRefIdeal.main_arg38)⟩
    ⟨m ((c.tc : Thread Cert.SmallRefIdeal.nD Cert.SmallRefIdeal.τ).loc Cert.SmallRefIdeal.main_arg39), m ((c.tc : Thread Cert.SmallRefIdeal.nD Cert.SmallRefIdeal.τ).loc Cert.SmallRefIdeal.main_arg40), m ((c.tc : Thread Cert.SmallRefIdeal.nD Cert.SmallRefIdeal.τ).loc Cert.SmallRefIdeal.main_arg41), m ((c.tc : Thread Cert.SmallRefIdeal.nD Cert.SmallRefIdeal.τ).loc Cert.SmallRefIdeal.main_arg42), m ((c.tc : Thread Cert.SmallRefIdeal.nD Cert.SmallRefIdeal.τ).loc Cert.SmallRefIdeal.main_arg43), m ((c.tc : Thread Cert.SmallRefIdeal.nD Cert.SmallRefIdeal.τ).loc Cert.SmallRefIdeal.main_arg44), m ((c.tc : Thread Cert.SmallRefIdeal.nD Cert.SmallRefIdeal.τ).loc Cert.SmallRefIdeal.main_arg45), m ((c.tc : Thread Cert.SmallRefIdeal.nD Cert.SmallRefIdeal.τ).loc Cert.SmallRefIdeal.main_arg46), m ((c.tc : Thread Cert.SmallRefIdeal.nD Cert.SmallRefIdeal.τ).loc Cert.SmallRefIdeal.main_arg47), m ((c.tc : Thread Cert.SmallRefIdeal.nD Cert.SmallRefIdeal.τ).loc Cert.SmallRefIdeal.main_arg48), m ((c.tc : Thread Cert.SmallRefIdeal.nD Cert.SmallRefIdeal.τ).loc Cert.SmallRefIdeal.main_arg49), m ((c.tc : Thread Cert.SmallRefIdeal.nD Cert.SmallRefIdeal.τ).loc Cert.SmallRefIdeal.main_arg50), m ((c.tc : Thread Cert.SmallRefIdeal.nD Cert.SmallRefIdeal.τ).loc Cert.SmallRefIdeal.main_arg51)⟩

end Cert.SmallStep

namespace Cert.Mm.Products
open Cert.SmallIdeal Cert.SmallIdeal.Gen Cert.SmallStep

theorem frame_Small : Cert.quiescent_SmallRefIdeal (hSmallRefIdeal := Cert.SmallRefIdeal.Gen.facts) := fun m g _ =>
  (θ_run Cert.SmallRefIdeal.defs _ _).mono (fun r h => ⟨fun c => (h c).2.2.2.2.2.2.2.2.2.2.2.2.2.2.2.2.2.2.2.2.2.2.2.2.2.2.2.2.2.2.2.2.2.2.2.2.2.2.2, Idealize.ShloMosaic.sem_eq_zero_of_no_sems (by decide) r.2⟩) (Cert.SmallRefIdeal.Value.run m g)

set_option maxHeartbeats 2000000 in
theorem algebraic_Small : Cert.algebraic_SmallIdeal_SmallRefIdeal (hSmallIdeal := Cert.SmallIdeal.Gen.facts) (hSmallRefIdeal := Cert.SmallRefIdeal.Gen.facts) := by
  intro m g m' g' hpre hagree
  refine ⟨fun c => (changes m c (Layer.delta1)).aNorm,
    fun c => (changes m c (Layer.delta1)).aVNorm,
    fun c => (changes m c (Layer.delta1)).fConvW,
    fun c => (changes m c (Layer.delta1)).aWS,
    fun c => (changes m c (Layer.delta1)).aBS,
    fun c => (changes m c (Layer.delta1)).kvNorm,
    fun c => (changes m c (Layer.delta1)).bF,
    fun c => (changes m c (Layer.delta1)).kNorm,
    fun c => (changes m c (Layer.delta1)).bNorm,
    fun c => (changes m c (Layer.delta1)).qNorm,
    fun c => (changes m c (Layer.delta1)).fNorm,
    fun c => (changes m c (Layer.delta1)).fConvB,
    fun c => (changes m c (Layer.delta1)).finalNorm,
    fun c => (changes m c (fun _ g m _ => Layer.first1 g m)).aNorm,
    fun c => (changes m c (fun _ g m _ => Layer.first1 g m)).aVNorm,
    fun c => (changes m c (fun _ g m _ => Layer.first1 g m)).fConvW,
    fun c => (changes m c (fun _ g m _ => Layer.first1 g m)).aWS,
    fun c => (changes m c (fun _ g m _ => Layer.first1 g m)).aBS,
    fun c => (changes m c (fun _ g m _ => Layer.first1 g m)).kvNorm,
    fun c => (changes m c (fun _ g m _ => Layer.first1 g m)).bF,
    fun c => (changes m c (fun _ g m _ => Layer.first1 g m)).kNorm,
    fun c => (changes m c (fun _ g m _ => Layer.first1 g m)).bNorm,
    fun c => (changes m c (fun _ g m _ => Layer.first1 g m)).qNorm,
    fun c => (changes m c (fun _ g m _ => Layer.first1 g m)).fNorm,
    fun c => (changes m c (fun _ g m _ => Layer.first1 g m)).fConvB,
    fun c => (changes m c (fun _ g m _ => Layer.first1 g m)).finalNorm,
    fun c => (changes m c (fun _ g _ v => Layer.second1 g v)).aNorm,
    fun c => (changes m c (fun _ g _ v => Layer.second1 g v)).aVNorm,
    fun c => (changes m c (fun _ g _ v => Layer.second1 g v)).fConvW,
    fun c => (changes m c (fun _ g _ v => Layer.second1 g v)).aWS,
    fun c => (changes m c (fun _ g _ v => Layer.second1 g v)).aBS,
    fun c => (changes m c (fun _ g _ v => Layer.second1 g v)).kvNorm,
    fun c => (changes m c (fun _ g _ v => Layer.second1 g v)).bF,
    fun c => (changes m c (fun _ g _ v => Layer.second1 g v)).kNorm,
    fun c => (changes m c (fun _ g _ v => Layer.second1 g v)).bNorm,
    fun c => (changes m c (fun _ g _ v => Layer.second1 g v)).qNorm,
    fun c => (changes m c (fun _ g _ v => Layer.second1 g v)).fNorm,
    fun c => (changes m c (fun _ g _ v => Layer.second1 g v)).fConvB,
    fun c => (changes m c (fun _ g _ v => Layer.second1 g v)).finalNorm,
    (θ_run Cert.SmallIdeal.defs _ _).mono (fun r h c => ?_) (Cert.SmallIdeal.Gen.run_main m g),
    (θ_run Cert.SmallRefIdeal.defs _ _).mono (fun r h c => ?_) (Cert.SmallRefIdeal.Value.run m' g')⟩
  · have k b hb hb' := ((h c).2 b (Pipeline.mem_restRefs_of b hb hb')).trans (tail_eq m c b)
    have u b hb hb' := (h c).2 b (Pipeline.mem_restRefs_of b hb hb')
    obtain ⟨t0, t1, t2⟩ := results m c
    rw [← k main_v51 (by decide) (by decide),
      ← k main_v53 (by decide) (by decide),
      ← k main_v55 (by decide) (by decide),
      ← k main_v57 (by decide) (by decide),
      ← k main_v59 (by decide) (by decide),
      ← k main_v60 (by decide) (by decide),
      ← k main_v61 (by decide) (by decide),
      ← k main_v62 (by decide) (by decide),
      ← k main_v64 (by decide) (by decide),
      ← k main_v66 (by decide) (by decide),
      ← k main_v68 (by decide) (by decide),
      ← k main_v70 (by decide) (by decide),
      ← k main_v71 (by decide) (by decide)] at t0
    rw [← k main_v74 (by decide) (by decide),
      ← k main_v76 (by decide) (by decide),
      ← k main_v78 (by decide) (by decide),
      ← k main_v80 (by decide) (by decide),
      ← k main_v82 (by decide) (by decide),
      ← k main_v83 (by decide) (by decide),
      ← k main_v84 (by decide) (by decide),
      ← k main_v85 (by decide) (by decide),
      ← k main_v87 (by decide) (by decide),
      ← k main_v89 (by decide) (by decide),
      ← k main_v91 (by decide) (by decide),
      ← k main_v93 (by decide) (by decide),
      ← k main_v94 (by decide) (by decide)] at t1
    rw [← k main_v97 (by decide) (by decide),
      ← k main_v99 (by decide) (by decide),
      ← k main_v101 (by decide) (by decide),
      ← k main_v103 (by decide) (by decide),
      ← k main_v105 (by decide) (by decide),
      ← k main_v106 (by decide) (by decide),
      ← k main_v107 (by decide) (by decide),
      ← k main_v108 (by decide) (by decide),
      ← k main_v110 (by decide) (by decide),
      ← k main_v112 (by decide) (by decide),
      ← k main_v114 (by decide) (by decide),
      ← k main_v116 (by decide) (by decide),
      ← k main_v117 (by decide) (by decide)] at t2
    exact Weights.all t0 (Weights.all t1 (Weights.all t2 ⟨(u main_arg0 (by decide) (by decide)).trans (W_main_arg0 m (dats m) c),
      (u main_arg1 (by decide) (by decide)).trans (W_main_arg1 m (dats m) c),
      (u main_arg2 (by decide) (by decide)).trans (W_main_arg2 m (dats m) c),
      (u main_arg3 (by decide) (by decide)).trans (W_main_arg3 m (dats m) c),
      (u main_arg4 (by decide) (by decide)).trans (W_main_arg4 m (dats m) c),
      (u main_arg5 (by decide) (by decide)).trans (W_main_arg5 m (dats m) c),
      (u main_arg6 (by decide) (by decide)).trans (W_main_arg6 m (dats m) c),
      (u main_arg7 (by decide) (by decide)).trans (W_main_arg7 m (dats m) c),
      (u main_arg8 (by decide) (by decide)).trans (W_main_arg8 m (dats m) c),
      (u main_arg9 (by decide) (by decide)).trans (W_main_arg9 m (dats m) c),
      (u main_arg10 (by decide) (by decide)).trans (W_main_arg10 m (dats m) c),
      (u main_arg11 (by decide) (by decide)).trans (W_main_arg11 m (dats m) c),
      (u main_arg12 (by decide) (by decide)).trans (W_main_arg12 m (dats m) c),
      (u main_arg13 (by decide) (by decide)).trans (W_main_arg13 m (dats m) c),
      (u main_arg14 (by decide) (by decide)).trans (W_main_arg14 m (dats m) c),
      (u main_arg15 (by decide) (by decide)).trans (W_main_arg15 m (dats m) c),
      (u main_arg16 (by decide) (by decide)).trans (W_main_arg16 m (dats m) c),
      (u main_arg17 (by decide) (by decide)).trans (W_main_arg17 m (dats m) c),
      (u main_arg18 (by decide) (by decide)).trans (W_main_arg18 m (dats m) c),
      (u main_arg19 (by decide) (by decide)).trans (W_main_arg19 m (dats m) c),
      (u main_arg20 (by decide) (by decide)).trans (W_main_arg20 m (dats m) c),
      (u main_arg21 (by decide) (by decide)).trans (W_main_arg21 m (dats m) c),
      (u main_arg22 (by decide) (by decide)).trans (W_main_arg22 m (dats m) c),
      (u main_arg23 (by decide) (by decide)).trans (W_main_arg23 m (dats m) c),
      (u main_arg24 (by decide) (by decide)).trans (W_main_arg24 m (dats m) c),
      (u main_arg25 (by decide) (by decide)).trans (W_main_arg25 m (dats m) c),
      (u main_arg26 (by decide) (by decide)).trans (W_main_arg26 m (dats m) c),
      (u main_arg27 (by decide) (by decide)).trans (W_main_arg27 m (dats m) c),
      (u main_arg28 (by decide) (by decide)).trans (W_main_arg28 m (dats m) c),
      (u main_arg29 (by decide) (by decide)).trans (W_main_arg29 m (dats m) c),
      (u main_arg30 (by decide) (by decide)).trans (W_main_arg30 m (dats m) c),
      (u main_arg31 (by decide) (by decide)).trans (W_main_arg31 m (dats m) c),
      (u main_arg32 (by decide) (by decide)).trans (W_main_arg32 m (dats m) c),
      (u main_arg33 (by decide) (by decide)).trans (W_main_arg33 m (dats m) c),
      (u main_arg34 (by decide) (by decide)).trans (W_main_arg34 m (dats m) c),
      (u main_arg35 (by decide) (by decide)).trans (W_main_arg35 m (dats m) c),
      (u main_arg36 (by decide) (by decide)).trans (W_main_arg36 m (dats m) c),
      (u main_arg37 (by decide) (by decide)).trans (W_main_arg37 m (dats m) c),
      (u main_arg38 (by decide) (by decide)).trans (W_main_arg38 m (dats m) c),
      (u main_arg39 (by decide) (by decide)).trans (W_main_arg39 m (dats m) c),
      (u main_arg40 (by decide) (by decide)).trans (W_main_arg40 m (dats m) c),
      (u main_arg41 (by decide) (by decide)).trans (W_main_arg41 m (dats m) c),
      (u main_arg42 (by decide) (by decide)).trans (W_main_arg42 m (dats m) c),
      (u main_arg43 (by decide) (by decide)).trans (W_main_arg43 m (dats m) c),
      (u main_arg44 (by decide) (by decide)).trans (W_main_arg44 m (dats m) c),
      (u main_arg45 (by decide) (by decide)).trans (W_main_arg45 m (dats m) c),
      (u main_arg46 (by decide) (by decide)).trans (W_main_arg46 m (dats m) c),
      (u main_arg47 (by decide) (by decide)).trans (W_main_arg47 m (dats m) c),
      (u main_arg48 (by decide) (by decide)).trans (W_main_arg48 m (dats m) c),
      (u main_arg49 (by decide) (by decide)).trans (W_main_arg49 m (dats m) c),
      (u main_arg50 (by decide) (by decide)).trans (W_main_arg50 m (dats m) c),
      (u main_arg51 (by decide) (by decide)).trans (W_main_arg51 m (dats m) c)⟩))
  · obtain ⟨d0, d1, d2, d3, d4, d5, d6, d7, d8, d9, d10, d11, d12, d13, d14, d15, d16, d17, d18, d19, d20, d21, d22, d23, d24, d25, d26, d27, d28, d29, d30, d31, d32, d33, d34, d35, d36, d37, d38, hk⟩ := h c
    have same f : refChanges m' c f = changes m c f := by
      obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51⟩ := hagree c
      unfold refChanges changes weights grads firsts seconds
      rw [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51]
    have t0 : Weights.mk (r.2.mem ((c.tc : Thread Cert.SmallRefIdeal.nD Cert.SmallRefIdeal.τ).loc Cert.SmallRefIdeal.main_v23)) (r.2.mem ((c.tc : Thread Cert.SmallRefIdeal.nD Cert.SmallRefIdeal.τ).loc Cert.SmallRefIdeal.main_v47)) (r.2.mem ((c.tc : Thread Cert.SmallRefIdeal.nD Cert.SmallRefIdeal.τ).loc Cert.SmallRefIdeal.main_v71)) (r.2.mem ((c.tc : Thread Cert.SmallRefIdeal.nD Cert.SmallRefIdeal.τ).loc Cert.SmallRefIdeal.main_v95)) (r.2.mem ((c.tc : Thread Cert.SmallRefIdeal.nD Cert.SmallRefIdeal.τ).loc Cert.SmallRefIdeal.main_v119)) (r.2.mem ((c.tc : Thread Cert.SmallRefIdeal.nD Cert.SmallRefIdeal.τ).loc Cert.SmallRefIdeal.main_v143)) (r.2.mem ((c.tc : Thread Cert.SmallRefIdeal.nD Cert.SmallRefIdeal.τ).loc Cert.SmallRefIdeal.main_v167)) (r.2.mem ((c.tc : Thread Cert.SmallRefIdeal.nD Cert.SmallRefIdeal.τ).loc Cert.SmallRefIdeal.main_v191)) (r.2.mem ((c.tc : Thread Cert.SmallRefIdeal.nD Cert.SmallRefIdeal.τ).loc Cert.SmallRefIdeal.main_v215)) (r.2.mem ((c.tc : Thread Cert.SmallRefIdeal.nD Cert.SmallRefIdeal.τ).loc Cert.SmallRefIdeal.main_v239)) (r.2.mem ((c.tc : Thread Cert.SmallRefIdeal.nD Cert.SmallRefIdeal.τ).loc Cert.SmallRefIdeal.main_v263)) (r.2.mem ((c.tc : Thread Cert.SmallRefIdeal.nD Cert.SmallRefIdeal.τ).loc Cert.SmallRefIdeal.main_v287)) (r.2.mem ((c.tc : Thread Cert.SmallRefIdeal.nD Cert.SmallRefIdeal.τ).loc Cert.SmallRefIdeal.main_v311)) = refChanges m' c (Layer.delta1) := by
      rw [d0, d1, d2, d3, d4, d5, d6, d7, d8, d9, d10, d11, d12]
      rfl
    have t1 : Weights.mk (r.2.mem ((c.tc : Thread Cert.SmallRefIdeal.nD Cert.SmallRefIdeal.τ).loc Cert.SmallRefIdeal.main_v4)) (r.2.mem ((c.tc : Thread Cert.SmallRefIdeal.nD Cert.SmallRefIdeal.τ).loc Cert.SmallRefIdeal.main_v28)) (r.2.mem ((c.tc : Thread Cert.SmallRefIdeal.nD Cert.SmallRefIdeal.τ).loc Cert.SmallRefIdeal.main_v52)) (r.2.mem ((c.tc : Thread Cert.SmallRefIdeal.nD Cert.SmallRefIdeal.τ).loc Cert.SmallRefIdeal.main_v76)) (r.2.mem ((c.tc : Thread Cert.SmallRefIdeal.nD Cert.SmallRefIdeal.τ).loc Cert.SmallRefIdeal.main_v100)) (r.2.mem ((c.tc : Thread Cert.SmallRefIdeal.nD Cert.SmallRefIdeal.τ).loc Cert.SmallRefIdeal.main_v124)) (r.2.mem ((c.tc : Thread Cert.SmallRefIdeal.nD Cert.SmallRefIdeal.τ).loc Cert.SmallRefIdeal.main_v148)) (r.2.mem ((c.tc : Thread Cert.SmallRefIdeal.nD Cert.SmallRefIdeal.τ).loc Cert.SmallRefIdeal.main_v172)) (r.2.mem ((c.tc : Thread Cert.SmallRefIdeal.nD Cert.SmallRefIdeal.τ).loc Cert.SmallRefIdeal.main_v196)) (r.2.mem ((c.tc : Thread Cert.SmallRefIdeal.nD Cert.SmallRefIdeal.τ).loc Cert.SmallRefIdeal.main_v220)) (r.2.mem ((c.tc : Thread Cert.SmallRefIdeal.nD Cert.SmallRefIdeal.τ).loc Cert.SmallRefIdeal.main_v244)) (r.2.mem ((c.tc : Thread Cert.SmallRefIdeal.nD Cert.SmallRefIdeal.τ).loc Cert.SmallRefIdeal.main_v268)) (r.2.mem ((c.tc : Thread Cert.SmallRefIdeal.nD Cert.SmallRefIdeal.τ).loc Cert.SmallRefIdeal.main_v292)) = refChanges m' c (fun _ g m _ => Layer.first1 g m) := by
      rw [d13, d14, d15, d16, d17, d18, d19, d20, d21, d22, d23, d24, d25]
      rfl
    have t2 : Weights.mk (r.2.mem ((c.tc : Thread Cert.SmallRefIdeal.nD Cert.SmallRefIdeal.τ).loc Cert.SmallRefIdeal.main_v10)) (r.2.mem ((c.tc : Thread Cert.SmallRefIdeal.nD Cert.SmallRefIdeal.τ).loc Cert.SmallRefIdeal.main_v34)) (r.2.mem ((c.tc : Thread Cert.SmallRefIdeal.nD Cert.SmallRefIdeal.τ).loc Cert.SmallRefIdeal.main_v58)) (r.2.mem ((c.tc : Thread Cert.SmallRefIdeal.nD Cert.SmallRefIdeal.τ).loc Cert.SmallRefIdeal.main_v82)) (r.2.mem ((c.tc : Thread Cert.SmallRefIdeal.nD Cert.SmallRefIdeal.τ).loc Cert.SmallRefIdeal.main_v106)) (r.2.mem ((c.tc : Thread Cert.SmallRefIdeal.nD Cert.SmallRefIdeal.τ).loc Cert.SmallRefIdeal.main_v130)) (r.2.mem ((c.tc : Thread Cert.SmallRefIdeal.nD Cert.SmallRefIdeal.τ).loc Cert.SmallRefIdeal.main_v154)) (r.2.mem ((c.tc : Thread Cert.SmallRefIdeal.nD Cert.SmallRefIdeal.τ).loc Cert.SmallRefIdeal.main_v178)) (r.2.mem ((c.tc : Thread Cert.SmallRefIdeal.nD Cert.SmallRefIdeal.τ).loc Cert.SmallRefIdeal.main_v202)) (r.2.mem ((c.tc : Thread Cert.SmallRefIdeal.nD Cert.SmallRefIdeal.τ).loc Cert.SmallRefIdeal.main_v226)) (r.2.mem ((c.tc : Thread Cert.SmallRefIdeal.nD Cert.SmallRefIdeal.τ).loc Cert.SmallRefIdeal.main_v250)) (r.2.mem ((c.tc : Thread Cert.SmallRefIdeal.nD Cert.SmallRefIdeal.τ).loc Cert.SmallRefIdeal.main_v274)) (r.2.mem ((c.tc : Thread Cert.SmallRefIdeal.nD Cert.SmallRefIdeal.τ).loc Cert.SmallRefIdeal.main_v298)) = refChanges m' c (fun _ g _ v => Layer.second1 g v) := by
      rw [d26, d27, d28, d29, d30, d31, d32, d33, d34, d35, d36, d37, d38]
      rfl
    exact Weights.all (t0.trans (same _)) (Weights.all (t1.trans (same _)) (Weights.all (t2.trans (same _)) hk))

end Cert.Mm.Products

end
-- ==== Proof.LossMath.lean ====
/-
  The loss head, entry by entry: the distance from the target, the loss, and the cotangent it sends to the normalised rows.
-/
module

public import proofs.«01_k».proof.Proof.Norms

@[expose] public section

noncomputable section

open Idealize.ShloMosaic
open scoped BigOperators

namespace Cert.Head

open Cert.Norms

/-- The normalised stream's distance from the target. -/
def err (x : Stream) (g : Gain) (y : Stream) (t : Fin 4096) (k : Fin 2048) : EReal := unit x t k * g (ix1 k) - y (ix2 t k)
/-- A row's mean square of it. -/
def rowLoss (x : Stream) (g : Gain) (y : Stream) (t : Fin 4096) : EReal := Ideal.div (∑ k : Fin 2048, err x g y t k * err x g y t k) width
/-- A row's share of the loss. -/
def share (x : Stream) (g : Gain) (y : Stream) (t : Fin 4096) : EReal := Ideal.ofBits .f32 0x3F000000#32 * rowLoss x g y t
/-- The loss, as an array of one entry. -/
def loss (x : Stream) (g : Gain) (y : Stream) : FVec Ideal ⟨2, ![1, 1]⟩ .f32 := fun _ => ∑ t : Fin 4096, share x g y t
/-- The loss's cotangent at the normalised rows. -/
def back (x : Stream) (g : Gain) (y : Stream) : Cot := fun i => err x g y (i 0) (i 1) * Ideal.ofBits .f32 0x3A000000#32
/-- The gradient of the normalisation in its input. -/
def gradX (dy : Cot) (x : Stream) (g : Gain) : Stream := fun i =>
  inv x (i 0) * (cot dy g (i 0) (i 1) - unit x (i 0) (i 1) * Ideal.div (∑ k : Fin 2048, cot dy g (i 0) k * unit x (i 0) k) width)

theorem plusHalf_eq : Ideal.ofBits .f32 0x3F000000#32 = ((1 / 2 : ℝ) : EReal) := by
  simp [Ideal.ofBits, Ideal.ieee]
  rw [← EReal.coe_mul]
  congr 1; norm_num
theorem two_eq : Ideal.ofBits .f32 0x40000000#32 = ((2 : ℝ) : EReal) := by
  simp [Ideal.ofBits, Ideal.ieee]
  rw [← EReal.coe_mul]
  congr 1; norm_num
theorem step_eq : Ideal.ofBits .f32 0x3A000000#32 = ((1 / 2048 : ℝ) : EReal) := by
  simp [Ideal.ofBits, Ideal.ieee]
  rw [← EReal.coe_mul]
  congr 1; norm_num

/-- Half goes into a sum. -/
theorem half_sum {ι : Type} (s : Finset ι) (f : ι → EReal) :
    Ideal.ofBits .f32 0x3F000000#32 * ∑ k ∈ s, f k = ∑ k ∈ s, Ideal.ofBits .f32 0x3F000000#32 * f k := by
  rw [plusHalf_eq]
  exact (sum_scale s f (1 / 2) (by norm_num)).symm

/-- The square's derivative under the mean, times half, is the mean's factor. -/
theorem factor (e : EReal) : Ideal.div (Ideal.ofBits .f32 0x3F000000#32) width * (Ideal.ofBits .f32 0x40000000#32 * e)
    = e * Ideal.ofBits .f32 0x3A000000#32 := by
  rw [plusHalf_eq, two_eq, step_eq, width_eq, Ideal.div_coe (by norm_num), ← mul_assoc, ← EReal.coe_mul, ← EReal.coe_mul, mul_comm]
  congr 2; norm_num

end Cert.Head

end
-- ==== Proof.LossCall.lean ====
/-
  The loss head: the kernel.
-/
module

public import proofs.«01_k».proof.Proof.LossMath
public import proofs.«01_k».proof.Proof.Blocked
public import proofs.«01_k».proof.Proof.Gen.LossIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.LossIdeal Cert.LossIdeal.Gen
open scoped BigOperators

namespace Cert.Head.Call
open Cert.Norms

variable (m : (ℓ : Loc nD τ sig) → Buf (Elt Ideal) ℓ) (c : Dev nD)

abbrev a0 : Stream := m ((c : Thread nD τ).loc main_arg0)
abbrev a1 : Gain := m ((c : Thread nD τ).loc main_arg1)
abbrev a2 : Stream := m ((c : Thread nD τ).loc main_arg2)

/-- The cotangent that the loss sends back. -/
abbrev dy : Cot := back (a0 m c) (a1 m c) (a2 m c)

/-- The gain laid out as a row. -/
theorem shapeCast_1x (g : Gain) (k : Fin 2048) : (shapeCast S1x2048 g shapeCasts_S2048_S1x2048 : FVec Ideal S1x2048 .f32) (ix2 0 k) = g (ix1 k) := by
  have h : ∀ g : Gain, ∀ k : Fin 2048, (fun g : Gain => (shapeCast S1x2048 g shapeCasts_S2048_S1x2048 : FVec Ideal S1x2048 .f32)) g (ix2 0 k) = g (ix1 k) := by
    intro g k
    pointwise []
  exact h g k

theorem V_gain : (V m c main_v0 : FVec Ideal S1x2048 .f32) = shapeCast S1x2048 (a1 m c) shapeCasts_S2048_S1x2048 := by
  show StableHlo.after (List.flatten [hostOps0]) (fun b => m (c, b)) (Proc.devRef .tc main_v0) = _
  simp only [List.flatten_cons, List.flatten_nil, List.append_nil, hostOps0]
  after_results <;> rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem N_8 (t : Fin cfg0.N) : t.val < 8 := t.isLt

/-- The row of the whole arrays that row `s` of a point's blocks is. -/
abbrev row (n : ℕ) (hn : n < 8) (s : Fin 512) : Fin 4096 := ⟨512 * n + s.val, by omega⟩

theorem blk0 (t : Fin cfg0.N) (s : Fin 512) (k : Fin 2048) : (iblk m c 0 t : FVec Ideal S512x2048 .f32) (ix2 s k)
    = a0 m c (ix2 (row t.val (N_8 t) s) k) := by
  blk_ext [iblk, V, idx0 t]
theorem blk1 (t : Fin cfg0.N) (k : Fin 2048) : (iblk m c 1 t : FVec Ideal S1x2048 .f32) (ix2 0 k) = a1 m c (ix1 k) := by
  have e : (iblk m c 1 t : FVec Ideal S1x2048 .f32) (ix2 0 k) = (V m c main_v0 : FVec Ideal S1x2048 .f32) (ix2 0 k) := by
    blk_ext [iblk, idx1 t]
  rw [e, V_gain]
  exact shapeCast_1x (a1 m c) k
theorem blk2 (t : Fin cfg0.N) (s : Fin 512) (k : Fin 2048) : (iblk m c 2 t : FVec Ideal S512x2048 .f32) (ix2 s k)
    = a2 m c (ix2 (row t.val (N_8 t) s) k) := by
  blk_ext [iblk, V, idx2 t]

/-- One over a row's root mean square, and the row times that. -/
theorem pay7 (t : Fin cfg0.N) (s : Fin 512) (z : Fin 1) :
    k0_pay7 (F := Ideal) (iblk m c 0 t) (ix2 s z) = inv (a0 m c) (row t.val (N_8 t) s) := by
  pointwise [k0_pay7]
  simp only [blk0]
  rfl
theorem pay8 (t : Fin cfg0.N) (s : Fin 512) (k : Fin 2048) :
    k0_pay8 (F := Ideal) (iblk m c 0 t) (ix2 s k) = unit (a0 m c) (row t.val (N_8 t) s) k := by
  pointwise [k0_pay8]
  rw [pay7, blk0]
  rfl

/-- The distance from the target, and the cotangent. -/
theorem pay9 (t : Fin cfg0.N) (s : Fin 512) (k : Fin 2048) :
    k0_pay9 (F := Ideal) (iblk m c 0 t) (iblk m c 1 t) (iblk m c 2 t) (ix2 s k) = err (a0 m c) (a1 m c) (a2 m c) (row t.val (N_8 t) s) k := by
  pointwise [k0_pay9]
  rw [pay8, blk1, blk2]
  rfl
theorem pay11 (t : Fin cfg0.N) (s : Fin 512) (k : Fin 2048) :
    k0_pay11 (F := Ideal) (iblk m c 0 t) (iblk m c 1 t) (iblk m c 2 t) (ix2 s k) = dy m c (ix2 (row t.val (N_8 t) s) k) := by
  pointwise [k0_pay11]
  rw [pay9]
  rfl

/-- A point's share of the loss, on top of what was there. -/
theorem pay6 (t : Fin cfg0.N) (old : Vec Ideal S1x1 .f32) :
    k0_pay6 (F := Ideal) (k0_pay10 (F := Ideal) (iblk m c 0 t) (iblk m c 1 t) (iblk m c 2 t)) old (ix2 0 0)
      = old (ix2 0 0) + ∑ s : Fin 512, share (a0 m c) (a1 m c) (a2 m c) (row t.val (N_8 t) s) := by
  pointwise [k0_pay6, k0_pay10]
  simp only [pay9]
  exact congrArg _ (half_sum _ _)

/-- The stream's gradient on a point's rows. -/
theorem pay1 (t : Fin cfg0.N) (s : Fin 512) (k : Fin 2048) :
    k0_pay1 (F := Ideal) (k0_pay12 (F := Ideal) (iblk m c 0 t) (iblk m c 1 t) (iblk m c 2 t) (iblk m c 1 t)) (k0_pay13 (F := Ideal) (iblk m c 0 t)) (ix2 s k)
      = gradX (dy m c) (a0 m c) (a1 m c) (ix2 (row t.val (N_8 t) s) k) := by
  pointwise [k0_pay1, k0_pay12, k0_pay13]
  simp only [pay7, pay8, pay11, blk1]
  rfl

/-- A point's share of the gain's gradient, on top of what was there. -/
theorem pay5 (t : Fin cfg0.N) (old : Vec Ideal S1x2048 .f32) (k : Fin 2048) :
    k0_pay5 (F := Ideal) (k0_pay8 (F := Ideal) (iblk m c 0 t)) (k0_pay11 (F := Ideal) (iblk m c 0 t) (iblk m c 1 t) (iblk m c 2 t)) old (ix2 0 k)
      = old (ix2 0 k) + ∑ s : Fin 512, gainTerm (dy m c) (a0 m c) k (row t.val (N_8 t) s) := by
  pointwise [k0_pay5]
  simp only [pay8, pay11]
  rfl

/-- The rows added into the gain's gradient by the end of a point. -/
theorem gain_at (k : Fin 2048) : ∀ (n : ℕ) (hn : n < cfg0.N),
    (outsAt0 m c n hn).2.2.2 (ix2 0 k) = Cert.Mm.upTo (gainTerm (dy m c) (a0 m c) k) (512 * (n + 1))
  | 0, hn => by
    rw [outsAt0_A m c ⟨0, hn⟩ (by rfl)]
    frame_out
    refine (pay5 m c ⟨0, hn⟩ _ k).trans ?_
    pointwise [k0_pay3]
    exact Cert.Mm.upTo_first _ 512 (by omega) _ fun s => congrArg _ (Fin.ext (by show 512 * 0 + s.val = s.val; omega))
  | n + 1, hn => by
    have h8 : n + 1 < 8 := hn
    have ih := gain_at k n (Nat.lt_of_succ_lt hn)
    rw [outsAt0_B m c ⟨n + 1, hn⟩ (by show ¬ (n + 1) % 8 = 0; omega)]
    frame_out
    refine (pay5 m c ⟨n + 1, hn⟩ _ k).trans ?_
    show (outsAt0 m c n (Nat.lt_of_succ_lt hn)).2.2.2 (ix2 0 k) + _ = _
    rw [ih]
    exact Cert.Mm.upTo_tile _ _ 512 (by omega) _ fun s => rfl

/-- The rows added into the loss by the end of a point. -/
theorem loss_at : ∀ (n : ℕ) (hn : n < cfg0.N),
    (outsAt0 m c n hn).1 (ix2 0 0) = Cert.Mm.upTo (share (a0 m c) (a1 m c) (a2 m c)) (512 * (n + 1))
  | 0, hn => by
    rw [outsAt0_A m c ⟨0, hn⟩ (by rfl)]
    frame_out
    refine (pay6 m c ⟨0, hn⟩ _).trans ?_
    pointwise [k0_pay4]
    exact Cert.Mm.upTo_first _ 512 (by omega) _ fun s => congrArg _ (Fin.ext (by show 512 * 0 + s.val = s.val; omega))
  | n + 1, hn => by
    have h8 : n + 1 < 8 := hn
    have ih := loss_at n (Nat.lt_of_succ_lt hn)
    rw [outsAt0_B m c ⟨n + 1, hn⟩ (by show ¬ (n + 1) % 8 = 0; omega)]
    frame_out
    refine (pay6 m c ⟨n + 1, hn⟩ _).trans ?_
    show (outsAt0 m c n (Nat.lt_of_succ_lt hn)).1 (ix2 0 0) + _ = _
    rw [ih]
    exact Cert.Mm.upTo_tile _ _ 512 (by omega) _ fun s => rfl

/-- What a point leaves of the stream's gradient, either copy. -/
theorem dx_at (t : Fin cfg0.N) (s : Fin 512) (k : Fin 2048) :
    (outsAt0 m c t.val t.isLt).2.1 (ix2 s k) = gradX (dy m c) (a0 m c) (a1 m c) (ix2 (row t.val (N_8 t) s) k)
    ∧ (outsAt0 m c t.val t.isLt).2.2.1 (ix2 s k) = gradX (dy m c) (a0 m c) (a1 m c) (ix2 (row t.val (N_8 t) s) k) := by
  by_cases h : t.val % 8 = 0
  · rw [outsAt0_A m c t h]
    constructor
    · frame_out
      exact pay1 m c t s k
    · frame_out
      exact pay1 m c t s k
  · rw [outsAt0_B m c t h]
    constructor
    · frame_out
      exact pay1 m c t s k
    · frame_out
      exact pay1 m c t s k

/-- The arrays the kernel leaves. -/
theorem final4 : (dats m 0 c).arrAt 4 cfg0.N = gradX (dy m c) (a0 m c) (a1 m c) := by
  refine (dats m 0 c).arrAt_eq_of_covers 4 _ (by decide +kernel) fun t hf y => ?_
  blk_simp
  rw [after0_4]
  have h0 : (y 0).val < 512 := (y 0).isLt
  have h1 : (y 1).val < 2048 := (y 1).isLt
  have ht := N_8 t
  have hy : y = ix2 (⟨(y 0).val, h0⟩ : Fin 512) (⟨(y 1).val, h1⟩ : Fin 2048) := by
    funext a; fin_cases a <;> rfl
  have he : (win0_4.blk t).view.emb y = ix2 (row t.val ht ⟨(y 0).val, h0⟩) (⟨(y 1).val, h1⟩ : Fin 2048) := by
    funext a; apply Fin.ext
    fin_cases a <;> blk_simp [idx4 t] <;> simp [ix2] <;> omega
  rw [he]
  exact (congrArg (outsAt0 m c t.val t.isLt).2.1 hy).trans (dx_at m c t _ _).1

theorem final5 : (dats m 0 c).arrAt 5 cfg0.N = gradX (dy m c) (a0 m c) (a1 m c) := by
  refine (dats m 0 c).arrAt_eq_of_covers 5 _ (by decide +kernel) fun t hf y => ?_
  blk_simp
  rw [after0_5]
  have h0 : (y 0).val < 512 := (y 0).isLt
  have h1 : (y 1).val < 2048 := (y 1).isLt
  have ht := N_8 t
  have hy : y = ix2 (⟨(y 0).val, h0⟩ : Fin 512) (⟨(y 1).val, h1⟩ : Fin 2048) := by
    funext a; fin_cases a <;> rfl
  have he : (win0_5.blk t).view.emb y = ix2 (row t.val ht ⟨(y 0).val, h0⟩) (⟨(y 1).val, h1⟩ : Fin 2048) := by
    funext a; apply Fin.ext
    fin_cases a <;> blk_simp [idx5 t] <;> simp [ix2] <;> omega
  rw [he]
  exact (congrArg (outsAt0 m c t.val t.isLt).2.2.1 hy).trans (dx_at m c t _ _).2

theorem final6 : (dats m 0 c).arrAt 6 cfg0.N = normDg (dy m c) (a0 m c) := by
  refine (dats m 0 c).arrAt_eq_of_covers 6 _ (by decide +kernel) fun t hf y => ?_
  have hm : t.val % 8 = 7 := (flush0_6 t).mp hf
  blk_simp
  rw [after0_6]
  have h0 : (y 0).val < 1 := (y 0).isLt
  have h1 : (y 1).val < 2048 := (y 1).isLt
  have ht := N_8 t
  have hy : y = ix2 (0 : Fin 1) (⟨(y 1).val, h1⟩ : Fin 2048) := by
    funext a; apply Fin.ext
    fin_cases a <;> simp [ix2] <;> omega
  have he : (win0_6.blk t).view.emb y = ix2 (0 : Fin 1) (⟨(y 1).val, h1⟩ : Fin 2048) := by
    funext a; apply Fin.ext
    fin_cases a <;> blk_simp [idx6 t] <;> simp [ix2] <;> omega
  rw [he]
  refine (congrArg (outsAt0 m c t.val t.isLt).2.2.2 hy).trans ((gain_at m c _ t.val t.isLt).trans ?_)
  rw [show 512 * (t.val + 1) = 4096 by omega]
  exact Cert.Mm.upTo_all _

theorem final3 : (dats m 0 c).arrAt 3 cfg0.N = loss (a0 m c) (a1 m c) (a2 m c) := by
  refine (dats m 0 c).arrAt_eq_of_covers 3 _ (by decide +kernel) fun t hf y => ?_
  have hm : t.val % 8 = 7 := (flush0_3 t).mp hf
  blk_simp
  rw [after0_3]
  have h0 : (y 0).val < 1 := (y 0).isLt
  have h1 : (y 1).val < 1 := (y 1).isLt
  have ht := N_8 t
  have hy : y = ix2 (0 : Fin 1) (0 : Fin 1) := by
    funext a; apply Fin.ext
    fin_cases a <;> simp [ix2] <;> omega
  refine (congrArg (outsAt0 m c t.val t.isLt).1 hy).trans ((loss_at m c t.val t.isLt).trans ?_)
  rw [show 512 * (t.val + 1) = 4096 by omega]
  exact Cert.Mm.upTo_all _

/-- The kernel's run: its four arrays, and its arguments unchanged. -/
theorem run_kernel (ρ : Dev nD → PrngReg) : θ_run (defs (F := Ideal)) (onTc (τ := τ) (main (F := Ideal))) ⟨m, fun _ => 0, ρ⟩ (fun r => ∀ c : Dev nD,
    r.2.mem ((c.tc : Thread nD τ).loc main_v1_0) = loss (a0 m c) (a1 m c) (a2 m c)
    ∧ r.2.mem ((c.tc : Thread nD τ).loc main_v1_1) = gradX (dy m c) (a0 m c) (a1 m c)
    ∧ r.2.mem ((c.tc : Thread nD τ).loc main_v1_2) = gradX (dy m c) (a0 m c) (a1 m c)
    ∧ r.2.mem ((c.tc : Thread nD τ).loc main_v1_3) = normDg (dy m c) (a0 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (final3 m c), (h c).2.1.trans (final4 m c), (h c).2.2.1.trans (final5 m c), (h c).2.2.2.1.trans (final6 m c), (h c).2.2.2.2⟩)
    (Cert.LossIdeal.Value.run_blocks m ρ)

end Cert.Head.Call

end
-- ==== Proof.LossRef.lean ====
/-
  The reference's loss and its gradients.
-/
module

public import proofs.«01_k».proof.Proof.LossMath
public import proofs.«01_k».proof.Proof.NormBwdRef
public import proofs.«01_k».proof.Proof.Gen.LossRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Cert.LossRefIdeal Cert.LossRefIdeal.Gen
open scoped BigOperators

namespace Cert.Head.Ref
open Cert.Norms Cert.Norms.BwdRef

/-- The distance from the target. -/
def hErr (x : Stream) (g : Gain) (y : Stream) : Stream := subf (mulf (hUnit x) (broadcastInDim S4096x2048 ![0, 1] bcast_S1x2048_S4096x2048_0_1 (broadcastInDim S1x2048 ![1] bcast_S2048_S1x2048_1 g))) y

theorem hErr_ix (x : Stream) (g : Gain) (y : Stream) (t : Fin 4096) (k : Fin 2048) : hErr x g y (ix2 t k) = err x g y t k := by
  pointwise [hErr]
  rw [hUnit_ix]
  rfl

/-- The loss. -/
def hLoss (x : Stream) (g : Gain) (y : Stream) : FVec Ideal S1x1 .f32 :=
  shapeCast S1x1 (mulf (constant S_ .f32 0x3F000000#32) (Host.reduceAdd (Host.divf (Host.reduceAdd (mulf (hErr x g y) (hErr x g y)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)) shapeCasts_S_S1x1

theorem hLoss_eq (x : Stream) (g : Gain) (y : Stream) : hLoss x g y = loss x g y := by
  funext i
  obtain ⟨z, w, rfl⟩ : ∃ (z w : Fin 1), i = ix2 z w := ⟨i 0, i 1, eq_ix2 (n0 := 1) (n1 := 1) i⟩
  pointwise [hLoss]
  simp only [hErr_ix]
  exact half_sum _ _

/-- The cotangent that the loss sends to the normalised rows. -/
def hDy (x : Stream) (g : Gain) (y : Stream) : Stream :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) (hErr x g y))

theorem hDy_eq (x : Stream) (g : Gain) (y : Stream) : hDy x g y = back x g y := by
  funext i
  obtain ⟨t, k, rfl⟩ : ∃ (t : Fin 4096) (k : Fin 2048), i = ix2 t k := ⟨i 0, i 1, eq_ix2 (n0 := 4096) (n1 := 2048) i⟩
  pointwise [hDy]
  rw [hErr_ix]
  exact factor _

/-- The normalisation's gradient in its input, at any cotangent. -/
def hX (dy : Cot) (x : Stream) (g : Gain) : Stream :=
  addf (addf (mulf (hCot dy g) (broadcastInDim S4096x2048 ![0, 1] bcast_S4096x1_S4096x2048_0_1 (Host.rsqrt (hSpread x)))) (mulf x (broadcastInDim S4096x2048 ![0] bcast_S4096_S4096x2048_0 (hBack dy x g)))) (mulf (broadcastInDim S4096x2048 ![0] bcast_S4096_S4096x2048_0 (hBack dy x g)) x)

theorem hX_eq (dy : Cot) (x : Stream) (g : Gain) : hX dy x g = gradX dy x g := by
  funext i
  obtain ⟨t, k, rfl⟩ : ∃ (t : Fin 4096) (k : Fin 2048), i = ix2 t k := ⟨i 0, i 1, eq_ix2 (n0 := 4096) (n1 := 2048) i⟩
  pointwise [hX]
  rw [hSpread_ix, hCot_ix]
  exact quotient (fun k => x (ix2 t k)) (cot dy g t) (spread x t) (spread_pos x t) k _ (hBack_ix dy x g t)

/-- The reference's run: its four arrays, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v51) = loss (m ((c.tc : Thread nD τ).loc main_arg0)) (m ((c.tc : Thread nD τ).loc main_arg1)) (m ((c.tc : Thread nD τ).loc main_arg2))
    ∧ r.2.mem ((c.tc : Thread nD τ).loc main_v50) = gradX (back (m ((c.tc : Thread nD τ).loc main_arg0)) (m ((c.tc : Thread nD τ).loc main_arg1)) (m ((c.tc : Thread nD τ).loc main_arg2))) (m ((c.tc : Thread nD τ).loc main_arg0)) (m ((c.tc : Thread nD τ).loc main_arg1))
    ∧ r.2.mem ((c.tc : Thread nD τ).loc main_v52) = gradX (back (m ((c.tc : Thread nD τ).loc main_arg0)) (m ((c.tc : Thread nD τ).loc main_arg1)) (m ((c.tc : Thread nD τ).loc main_arg2))) (m ((c.tc : Thread nD τ).loc main_arg0)) (m ((c.tc : Thread nD τ).loc main_arg1))
    ∧ r.2.mem ((c.tc : Thread nD τ).loc main_v53) = normDg (back (m ((c.tc : Thread nD τ).loc main_arg0)) (m ((c.tc : Thread nD τ).loc main_arg1)) (m ((c.tc : Thread nD τ).loc main_arg2))) (m ((c.tc : Thread nD τ).loc main_arg0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ⟨(h c).1.trans ?_, (h c).2.1.trans ?_, (h c).2.2.1.trans ?_, (h c).2.2.2.1.trans ?_, (h c).2.2.2.2⟩) (Cert.LossRefIdeal.Value.run m ρ)
  · exact hLoss_eq _ _ _
  · rw [← hDy_eq]
    exact hX_eq (hDy _ _ _) _ _
  · rw [← hDy_eq]
    exact hX_eq (hDy _ _ _) _ _
  · rw [← hDy_eq]
    exact hDg_eq (hDy _ _ _) _

end Cert.Head.Ref

end
-- ==== Proof.LossHead.lean ====
/-
  The claims of the loss head: the frame of the reference, and the pairing.
-/
module

public import proofs.«01_k».proof.Defs
public import proofs.«01_k».proof.Proof.LossCall
public import proofs.«01_k».proof.Proof.LossRef
public import proofs.«01_k».proof.Proof.Gen.LossRefIdeal
public import proofs.«01_k».proof.Proof.Gen.LossIdeal

@[expose] public section

noncomputable section

open Idealize.ShloMosaic Idealize.ShloMosaic.TcCoe Idealize.SL.Sem

namespace Cert.Mm.Products

theorem frame_Loss : Cert.quiescent_LossRefIdeal (hLossRefIdeal := Cert.LossRefIdeal.Gen.facts) := fun m g _ =>
  (θ_run Cert.LossRefIdeal.defs _ _).mono (fun r h => ⟨fun c => (h c).2.2.2.2, Idealize.ShloMosaic.sem_eq_zero_of_no_sems (by decide) r.2⟩) (Cert.Head.Ref.run m g)

theorem algebraic_Loss : Cert.algebraic_LossIdeal_LossRefIdeal (hLossIdeal := Cert.LossIdeal.Gen.facts) (hLossRefIdeal := Cert.LossRefIdeal.Gen.facts) := by
  intro m g m' g' hpre hagree
  refine ⟨_, _, _, _, Cert.Head.Call.run_kernel m g, (θ_run Cert.LossRefIdeal.defs _ _).mono (fun r h c => ?_) (Cert.Head.Ref.run m' g')⟩
  obtain ⟨h0, h1, h2, h3, hk⟩ := h c
  obtain ⟨e0, e1, e2⟩ := hagree c
  exact ⟨by rw [h0, e0, e1, e2], by rw [h1, e0, e1, e2], by rw [h2, e0, e1, e2], by rw [h3, e0, e1, e2], hk⟩

end Cert.Mm.Products

end
-- ==== Proof.lean ====
/- The proof of the claims: the backward call of the forgetting attention computes the derivative of that attention,
   and each call of a product computes that product. Frames, the named constant and the pairings are each one term
   below; the work is in the modules imported. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.AIn
public import proofs.«01_k».proof.Proof.Gen.AIn.Skeleton
public import proofs.«01_k».proof.Proof.Gen.AIn.Launch
public import proofs.«01_k».proof.Proof.Gen.AIn.Points
public import proofs.«01_k».proof.Proof.Gen.AIn.Frame
public import proofs.«01_k».proof.Proof.Gen.AInIdeal
public import proofs.«01_k».proof.Proof.Gen.AInIdeal.Skeleton
public import proofs.«01_k».proof.Proof.Gen.AInIdeal.Launch
public import proofs.«01_k».proof.Proof.Gen.AInIdeal.Points
public import proofs.«01_k».proof.Proof.Gen.AInIdeal.Frame
public import proofs.«01_k».proof.Proof.Gen.AInIdeal.Value
public import proofs.«01_k».proof.Proof.Gen.AInRefIdeal
public import proofs.«01_k».proof.Proof.Gen.AInRefIdeal.Run
public import proofs.«01_k».proof.Proof.Gen.AInDx
public import proofs.«01_k».proof.Proof.Gen.AInDx.Skeleton
public import proofs.«01_k».proof.Proof.Gen.AInDx.Launch
public import proofs.«01_k».proof.Proof.Gen.AInDx.Points
public import proofs.«01_k».proof.Proof.Gen.AInDx.Frame
public import proofs.«01_k».proof.Proof.Gen.AInDxIdeal
public import proofs.«01_k».proof.Proof.Gen.AInDxIdeal.Skeleton
public import proofs.«01_k».proof.Proof.Gen.AInDxIdeal.Launch
public import proofs.«01_k».proof.Proof.Gen.AInDxIdeal.Points
public import proofs.«01_k».proof.Proof.Gen.AInDxIdeal.Frame
public import proofs.«01_k».proof.Proof.Gen.AInDxIdeal.Value
public import proofs.«01_k».proof.Proof.Gen.AInDxRefIdeal
public import proofs.«01_k».proof.Proof.Gen.AInDxRefIdeal.Run
public import proofs.«01_k».proof.Proof.Gen.AInDw
public import proofs.«01_k».proof.Proof.Gen.AInDw.Skeleton
public import proofs.«01_k».proof.Proof.Gen.AInDw.Launch
public import proofs.«01_k».proof.Proof.Gen.AInDw.Points
public import proofs.«01_k».proof.Proof.Gen.AInDw.Frame
public import proofs.«01_k».proof.Proof.Gen.AInDwIdeal
public import proofs.«01_k».proof.Proof.Gen.AInDwIdeal.Skeleton
public import proofs.«01_k».proof.Proof.Gen.AInDwIdeal.Launch
public import proofs.«01_k».proof.Proof.Gen.AInDwIdeal.Points
public import proofs.«01_k».proof.Proof.Gen.AInDwIdeal.Frame
public import proofs.«01_k».proof.Proof.Gen.AInDwIdeal.Value
public import proofs.«01_k».proof.Proof.Gen.AInDwRefIdeal
public import proofs.«01_k».proof.Proof.Gen.AInDwRefIdeal.Run
public import proofs.«01_k».proof.Proof.Gen.AOut
public import proofs.«01_k».proof.Proof.Gen.AOut.Skeleton
public import proofs.«01_k».proof.Proof.Gen.AOut.Launch
public import proofs.«01_k».proof.Proof.Gen.AOut.Points
public import proofs.«01_k».proof.Proof.Gen.AOut.Frame
public import proofs.«01_k».proof.Proof.Gen.AOutIdeal
public import proofs.«01_k».proof.Proof.Gen.AOutIdeal.Skeleton
public import proofs.«01_k».proof.Proof.Gen.AOutIdeal.Launch
public import proofs.«01_k».proof.Proof.Gen.AOutIdeal.Points
public import proofs.«01_k».proof.Proof.Gen.AOutIdeal.Frame
public import proofs.«01_k».proof.Proof.Gen.AOutIdeal.Value
public import proofs.«01_k».proof.Proof.Gen.AOutRefIdeal
public import proofs.«01_k».proof.Proof.Gen.AOutRefIdeal.Run
public import proofs.«01_k».proof.Proof.Gen.AOutDx
public import proofs.«01_k».proof.Proof.Gen.AOutDx.Skeleton
public import proofs.«01_k».proof.Proof.Gen.AOutDx.Launch
public import proofs.«01_k».proof.Proof.Gen.AOutDx.Points
public import proofs.«01_k».proof.Proof.Gen.AOutDx.Frame
public import proofs.«01_k».proof.Proof.Gen.AOutDxIdeal
public import proofs.«01_k».proof.Proof.Gen.AOutDxIdeal.Skeleton
public import proofs.«01_k».proof.Proof.Gen.AOutDxIdeal.Launch
public import proofs.«01_k».proof.Proof.Gen.AOutDxIdeal.Points
public import proofs.«01_k».proof.Proof.Gen.AOutDxIdeal.Frame
public import proofs.«01_k».proof.Proof.Gen.AOutDxIdeal.Value
public import proofs.«01_k».proof.Proof.Gen.AOutDxRefIdeal
public import proofs.«01_k».proof.Proof.Gen.AOutDxRefIdeal.Run
public import proofs.«01_k».proof.Proof.Gen.AOutDw
public import proofs.«01_k».proof.Proof.Gen.AOutDw.Skeleton
public import proofs.«01_k».proof.Proof.Gen.AOutDw.Launch
public import proofs.«01_k».proof.Proof.Gen.AOutDw.Points
public import proofs.«01_k».proof.Proof.Gen.AOutDw.Frame
public import proofs.«01_k».proof.Proof.Gen.AOutDwIdeal
public import proofs.«01_k».proof.Proof.Gen.AOutDwIdeal.Skeleton
public import proofs.«01_k».proof.Proof.Gen.AOutDwIdeal.Launch
public import proofs.«01_k».proof.Proof.Gen.AOutDwIdeal.Points
public import proofs.«01_k».proof.Proof.Gen.AOutDwIdeal.Frame
public import proofs.«01_k».proof.Proof.Gen.AOutDwIdeal.Value
public import proofs.«01_k».proof.Proof.Gen.AOutDwRefIdeal
public import proofs.«01_k».proof.Proof.Gen.AOutDwRefIdeal.Run
public import proofs.«01_k».proof.Proof.Gen.QgDw
public import proofs.«01_k».proof.Proof.Gen.QgDw.Skeleton
public import proofs.«01_k».proof.Proof.Gen.QgDw.Launch
public import proofs.«01_k».proof.Proof.Gen.QgDw.Points
public import proofs.«01_k».proof.Proof.Gen.QgDw.Frame
public import proofs.«01_k».proof.Proof.Gen.QgDwIdeal
public import proofs.«01_k».proof.Proof.Gen.QgDwIdeal.Skeleton
public import proofs.«01_k».proof.Proof.Gen.QgDwIdeal.Launch
public import proofs.«01_k».proof.Proof.Gen.QgDwIdeal.Points
public import proofs.«01_k».proof.Proof.Gen.QgDwIdeal.Frame
public import proofs.«01_k».proof.Proof.Gen.QgDwIdeal.Value
public import proofs.«01_k».proof.Proof.Gen.QgDwRefIdeal
public import proofs.«01_k».proof.Proof.Gen.QgDwRefIdeal.Run
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.AdamRows0
public import proofs.«01_k».proof.Proof.Gen.AdamRows0.Skeleton
public import proofs.«01_k».proof.Proof.Gen.AdamRows0.Launch
public import proofs.«01_k».proof.Proof.Gen.AdamRows0.Points
public import proofs.«01_k».proof.Proof.Gen.AdamRows0.Frame
public import proofs.«01_k».proof.Proof.Gen.AdamRows0Ideal
public import proofs.«01_k».proof.Proof.Gen.AdamRows0Ideal.Skeleton
public import proofs.«01_k».proof.Proof.Gen.AdamRows0Ideal.Launch
public import proofs.«01_k».proof.Proof.Gen.AdamRows0Ideal.Points
public import proofs.«01_k».proof.Proof.Gen.AdamRows0Ideal.Frame
public import proofs.«01_k».proof.Proof.Gen.AdamRows0Ideal.Value
public import proofs.«01_k».proof.Proof.Gen.AdamRows0RefIdeal
public import proofs.«01_k».proof.Proof.Gen.AdamRows0RefIdeal.Run
public import proofs.«01_k».proof.Proof.Gen.AdamRows1
public import proofs.«01_k».proof.Proof.Gen.AdamRows1.Skeleton
public import proofs.«01_k».proof.Proof.Gen.AdamRows1.Launch
public import proofs.«01_k».proof.Proof.Gen.AdamRows1.Points
public import proofs.«01_k».proof.Proof.Gen.AdamRows1.Frame
public import proofs.«01_k».proof.Proof.Gen.AdamRows1Ideal
public import proofs.«01_k».proof.Proof.Gen.AdamRows1Ideal.Skeleton
public import proofs.«01_k».proof.Proof.Gen.AdamRows1Ideal.Launch
public import proofs.«01_k».proof.Proof.Gen.AdamRows1Ideal.Points
public import proofs.«01_k».proof.Proof.Gen.AdamRows1Ideal.Frame
public import proofs.«01_k».proof.Proof.Gen.AdamRows1Ideal.Value
public import proofs.«01_k».proof.Proof.Gen.AdamRows1RefIdeal
public import proofs.«01_k».proof.Proof.Gen.AdamRows1RefIdeal.Run
public import proofs.«01_k».proof.Proof.Gen.AdamCols0
public import proofs.«01_k».proof.Proof.Gen.AdamCols0.Skeleton
public import proofs.«01_k».proof.Proof.Gen.AdamCols0.Launch
public import proofs.«01_k».proof.Proof.Gen.AdamCols0.Points
public import proofs.«01_k».proof.Proof.Gen.AdamCols0.Frame
public import proofs.«01_k».proof.Proof.Gen.AdamCols0Ideal
public import proofs.«01_k».proof.Proof.Gen.AdamCols0Ideal.Skeleton
public import proofs.«01_k».proof.Proof.Gen.AdamCols0Ideal.Launch
public import proofs.«01_k».proof.Proof.Gen.AdamCols0Ideal.Points
public import proofs.«01_k».proof.Proof.Gen.AdamCols0Ideal.Frame
public import proofs.«01_k».proof.Proof.Gen.AdamCols0Ideal.Value
public import proofs.«01_k».proof.Proof.Gen.AdamCols0RefIdeal
public import proofs.«01_k».proof.Proof.Gen.AdamCols0RefIdeal.Run
public import proofs.«01_k».proof.Proof.Gen.AdamCols1
public import proofs.«01_k».proof.Proof.Gen.AdamCols1.Skeleton
public import proofs.«01_k».proof.Proof.Gen.AdamCols1.Launch
public import proofs.«01_k».proof.Proof.Gen.AdamCols1.Points
public import proofs.«01_k».proof.Proof.Gen.AdamCols1.Frame
public import proofs.«01_k».proof.Proof.Gen.AdamCols1Ideal
public import proofs.«01_k».proof.Proof.Gen.AdamCols1Ideal.Skeleton
public import proofs.«01_k».proof.Proof.Gen.AdamCols1Ideal.Launch
public import proofs.«01_k».proof.Proof.Gen.AdamCols1Ideal.Points
public import proofs.«01_k».proof.Proof.Gen.AdamCols1Ideal.Frame
public import proofs.«01_k».proof.Proof.Gen.AdamCols1Ideal.Value
public import proofs.«01_k».proof.Proof.Gen.AdamCols1RefIdeal
public import proofs.«01_k».proof.Proof.Gen.AdamCols1RefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Algebra
public import proofs.«01_k».proof.Proof.Products
public import proofs.«01_k».proof.Proof.Projections
public import proofs.«01_k».proof.Proof.Optimiser
public import proofs.«01_k».proof.Proof.Normalisation
public import proofs.«01_k».proof.Proof.Layers
public import proofs.«01_k».proof.Proof.SmallStep
public import proofs.«01_k».proof.Proof.LossHead
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.UpDx.Gen.facts,
  Cert.UpDxIdeal.Gen.facts,
  Cert.UpDxRefIdeal.Gen.facts,
  Cert.UpDw.Gen.facts,
  Cert.UpDwIdeal.Gen.facts,
  Cert.UpDwRefIdeal.Gen.facts,
  Cert.DownDx.Gen.facts,
  Cert.DownDxIdeal.Gen.facts,
  Cert.DownDxRefIdeal.Gen.facts,
  Cert.DownDw.Gen.facts,
  Cert.DownDwIdeal.Gen.facts,
  Cert.DownDwRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.AIn.Gen.facts,
  Cert.AInIdeal.Gen.facts,
  Cert.AInRefIdeal.Gen.facts,
  Cert.AInDx.Gen.facts,
  Cert.AInDxIdeal.Gen.facts,
  Cert.AInDxRefIdeal.Gen.facts,
  Cert.AInDw.Gen.facts,
  Cert.AInDwIdeal.Gen.facts,
  Cert.AInDwRefIdeal.Gen.facts,
  Cert.AOut.Gen.facts,
  Cert.AOutIdeal.Gen.facts,
  Cert.AOutRefIdeal.Gen.facts,
  Cert.AOutDx.Gen.facts,
  Cert.AOutDxIdeal.Gen.facts,
  Cert.AOutDxRefIdeal.Gen.facts,
  Cert.AOutDw.Gen.facts,
  Cert.AOutDwIdeal.Gen.facts,
  Cert.AOutDwRefIdeal.Gen.facts,
  Cert.QgDw.Gen.facts,
  Cert.QgDwIdeal.Gen.facts,
  Cert.QgDwRefIdeal.Gen.facts,
  Cert.KvDw.Gen.facts,
  Cert.KvDwIdeal.Gen.facts,
  Cert.KvDwRefIdeal.Gen.facts,
  Cert.Adam.Gen.facts,
  Cert.AdamIdeal.Gen.facts,
  Cert.AdamRefIdeal.Gen.facts,
  Cert.Norm.Gen.facts,
  Cert.NormIdeal.Gen.facts,
  Cert.NormRefIdeal.Gen.facts,
  Cert.NormBwd.Gen.facts,
  Cert.NormBwdIdeal.Gen.facts,
  Cert.NormBwdRefIdeal.Gen.facts,
  Cert.AdamRows0.Gen.facts,
  Cert.AdamRows0Ideal.Gen.facts,
  Cert.AdamRows0RefIdeal.Gen.facts,
  Cert.AdamRows1.Gen.facts,
  Cert.AdamRows1Ideal.Gen.facts,
  Cert.AdamRows1RefIdeal.Gen.facts,
  Cert.AdamCols0.Gen.facts,
  Cert.AdamCols0Ideal.Gen.facts,
  Cert.AdamCols0RefIdeal.Gen.facts,
  Cert.AdamCols1.Gen.facts,
  Cert.AdamCols1Ideal.Gen.facts,
  Cert.AdamCols1RefIdeal.Gen.facts,
  Cert.Small.Gen.facts,
  Cert.SmallIdeal.Gen.facts,
  Cert.SmallRefIdeal.Gen.facts,
  Cert.Loss.Gen.facts,
  Cert.LossIdeal.Gen.facts,
  Cert.LossRefIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.Fox.Algebra.frame_ref m ρ,
  fun m ρ _ => Cert.Fox.Algebra.frame_ref m ρ,
  fun m ρ _ => Cert.UpDx.Gen.frame m ρ, fun m ρ _ => Cert.UpDxIdeal.Gen.frame m ρ, fun m ρ _ => Cert.Mm.Products.frame_UpDx m ρ,
  fun m ρ _ => Cert.UpDw.Gen.frame m ρ, fun m ρ _ => Cert.UpDwIdeal.Gen.frame m ρ, fun m ρ _ => Cert.Mm.Products.frame_UpDw m ρ,
  fun m ρ _ => Cert.DownDx.Gen.frame m ρ, fun m ρ _ => Cert.DownDxIdeal.Gen.frame m ρ, fun m ρ _ => Cert.Mm.Products.frame_DownDx m ρ,
  fun m ρ _ => Cert.DownDw.Gen.frame m ρ, fun m ρ _ => Cert.DownDwIdeal.Gen.frame m ρ, fun m ρ _ => Cert.Mm.Products.frame_DownDw m ρ,
  fun m ρ _ => Cert.Up.Gen.frame m ρ, fun m ρ _ => Cert.UpIdeal.Gen.frame m ρ, fun m ρ _ => Cert.Mm.Products.frame_Up m ρ,
  fun m ρ _ => Cert.Down.Gen.frame m ρ, fun m ρ _ => Cert.DownIdeal.Gen.frame m ρ, fun m ρ _ => Cert.Mm.Products.frame_Down m ρ,
  fun m ρ _ => Cert.AIn.Gen.frame m ρ, fun m ρ _ => Cert.AInIdeal.Gen.frame m ρ, fun m ρ _ => Cert.Mm.Products.frame_AIn m ρ trivial,
  fun m ρ _ => Cert.AInDx.Gen.frame m ρ, fun m ρ _ => Cert.AInDxIdeal.Gen.frame m ρ, fun m ρ _ => Cert.Mm.Products.frame_AInDx m ρ trivial,
  fun m ρ _ => Cert.AInDw.Gen.frame m ρ, fun m ρ _ => Cert.AInDwIdeal.Gen.frame m ρ, fun m ρ _ => Cert.Mm.Products.frame_AInDw m ρ trivial,
  fun m ρ _ => Cert.AOut.Gen.frame m ρ, fun m ρ _ => Cert.AOutIdeal.Gen.frame m ρ, fun m ρ _ => Cert.Mm.Products.frame_AOut m ρ trivial,
  fun m ρ _ => Cert.AOutDx.Gen.frame m ρ, fun m ρ _ => Cert.AOutDxIdeal.Gen.frame m ρ, fun m ρ _ => Cert.Mm.Products.frame_AOutDx m ρ trivial,
  fun m ρ _ => Cert.AOutDw.Gen.frame m ρ, fun m ρ _ => Cert.AOutDwIdeal.Gen.frame m ρ, fun m ρ _ => Cert.Mm.Products.frame_AOutDw m ρ trivial,
  fun m ρ _ => Cert.QgDw.Gen.frame m ρ, fun m ρ _ => Cert.QgDwIdeal.Gen.frame m ρ, fun m ρ _ => Cert.Mm.Products.frame_QgDw m ρ trivial,
  fun m ρ _ => Cert.KvDw.Gen.frame m ρ, fun m ρ _ => Cert.KvDwIdeal.Gen.frame m ρ, fun m ρ _ => Cert.Mm.Products.frame_KvDw m ρ trivial,
  fun m ρ _ => Cert.Adam.Gen.frame m ρ, fun m ρ _ => Cert.AdamIdeal.Gen.frame m ρ, fun m ρ _ => Cert.Mm.Products.frame_Adam m ρ trivial,
  fun m ρ _ => Cert.Norm.Gen.frame m ρ, fun m ρ _ => Cert.NormIdeal.Gen.frame m ρ, fun m ρ _ => Cert.Mm.Products.frame_Norm m ρ trivial,
  fun m ρ _ => Cert.NormBwd.Gen.frame m ρ, fun m ρ _ => Cert.NormBwdIdeal.Gen.frame m ρ, fun m ρ _ => Cert.Mm.Products.frame_NormBwd m ρ trivial,
  fun m ρ _ => Cert.AdamRows0.Gen.frame m ρ, fun m ρ _ => Cert.AdamRows0Ideal.Gen.frame m ρ, fun m ρ _ => Cert.Mm.Products.frame_AdamRows0 m ρ trivial,
  fun m ρ _ => Cert.AdamRows1.Gen.frame m ρ, fun m ρ _ => Cert.AdamRows1Ideal.Gen.frame m ρ, fun m ρ _ => Cert.Mm.Products.frame_AdamRows1 m ρ trivial,
  fun m ρ _ => Cert.AdamCols0.Gen.frame m ρ, fun m ρ _ => Cert.AdamCols0Ideal.Gen.frame m ρ, fun m ρ _ => Cert.Mm.Products.frame_AdamCols0 m ρ trivial,
  fun m ρ _ => Cert.AdamCols1.Gen.frame m ρ, fun m ρ _ => Cert.AdamCols1Ideal.Gen.frame m ρ, fun m ρ _ => Cert.Mm.Products.frame_AdamCols1 m ρ trivial,
  fun m ρ _ => Cert.Small.Gen.frame m ρ, fun m ρ _ => Cert.SmallIdeal.Gen.frame m ρ, fun m ρ _ => Cert.Mm.Products.frame_Small m ρ trivial,
  fun m ρ _ => Cert.Loss.Gen.frame m ρ, fun m ρ _ => Cert.LossIdeal.Gen.frame m ρ, fun m ρ _ => Cert.Mm.Products.frame_Loss m ρ trivial,
  IdealRules.named_const.statement Cert.KernelIdeal.κ "mask" .f32 0xF149F2CA#32 ⊥ rfl, Cert.Fox.Algebra.algebraic,
  trivial, Cert.Mm.Products.algebraic_UpDx,
  trivial, Cert.Mm.Products.algebraic_UpDw,
  trivial, Cert.Mm.Products.algebraic_DownDx,
  trivial, Cert.Mm.Products.algebraic_DownDw,
  trivial, Cert.Mm.Products.algebraic_Up,
  trivial, Cert.Mm.Products.algebraic_Down,
  trivial, Cert.Mm.Products.algebraic_AIn,
  trivial, Cert.Mm.Products.algebraic_AInDx,
  trivial, Cert.Mm.Products.algebraic_AInDw,
  trivial, Cert.Mm.Products.algebraic_AOut,
  trivial, Cert.Mm.Products.algebraic_AOutDx,
  trivial, Cert.Mm.Products.algebraic_AOutDw,
  trivial, Cert.Mm.Products.algebraic_QgDw,
  trivial, Cert.Mm.Products.algebraic_KvDw,
  trivial, Cert.Mm.Products.algebraic_Adam,
  trivial, Cert.Mm.Products.algebraic_Norm,
  trivial, Cert.Mm.Products.algebraic_NormBwd,
  trivial, Cert.Mm.Products.algebraic_AdamRows0,
  trivial, Cert.Mm.Products.algebraic_AdamRows1,
  trivial, Cert.Mm.Products.algebraic_AdamCols0,
  trivial, Cert.Mm.Products.algebraic_AdamCols1,
  trivial, Cert.Mm.Products.algebraic_Small,
  trivial, Cert.Mm.Products.algebraic_Loss⟩

end Cert.Proof

end
